-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInIdeal_finite_norm_in [hPre_finite_norm_in : Cert.Pre_finite_norm_in.Facts] (m : (ℓ : Loc Cert.NormInIdeal.nD Cert.NormInIdeal.τ Cert.NormInIdeal.sig) → Buf (Elt Ideal) ℓ) : Prop :=
  ∀ c : Dev Cert.NormInIdeal.nD,
    (Cert.Pre_finite_norm_in.fn (F := Ideal) (m ((c.tc : Thread Cert.NormInIdeal.nD Cert.NormInIdeal.τ).loc Cert.NormInIdeal.main_arg0)) (m ((c.tc : Thread Cert.NormInIdeal.nD Cert.NormInIdeal.τ).loc Cert.NormInIdeal.main_arg1)) (m ((c.tc : Thread Cert.NormInIdeal.nD Cert.NormInIdeal.τ).loc Cert.NormInIdeal.main_arg2)) (m ((c.tc : Thread Cert.NormInIdeal.nD Cert.NormInIdeal.τ).loc Cert.NormInIdeal.main_arg3)) (m ((c.tc : Thread Cert.NormInIdeal.nD Cert.NormInIdeal.τ).loc Cert.NormInIdeal.main_arg4)) (m ((c.tc : Thread Cert.NormInIdeal.nD Cert.NormInIdeal.τ).loc Cert.NormInIdeal.main_arg5)) (m ((c.tc : Thread Cert.NormInIdeal.nD Cert.NormInIdeal.τ).loc Cert.NormInIdeal.main_arg6))) = (fun _ => 1#1)

def Pre_NormInReferenceIdeal (m : (ℓ : Loc Cert.NormInReferenceIdeal.nD Cert.NormInReferenceIdeal.τ Cert.NormInReferenceIdeal.sig) → Buf (Elt Ideal) ℓ) : Prop :=
  True

def Pre_NormInReferenceIdeal_finite_norm_in [hPre_finite_norm_in : Cert.Pre_finite_norm_in.Facts] (m : (ℓ : Loc Cert.NormInReferenceIdeal.nD Cert.NormInReferenceIdeal.τ Cert.NormInReferenceIdeal.sig) → Buf (Elt Ideal) ℓ) : Prop :=
  ∀ c : Dev Cert.NormInReferenceIdeal.nD,
    (Cert.Pre_finite_norm_in.fn (F := Ideal) (m ((c.tc : Thread Cert.NormInReferenceIdeal.nD Cert.NormInReferenceIdeal.τ).loc Cert.NormInReferenceIdeal.main_arg0)) (m ((c.tc : Thread Cert.NormInReferenceIdeal.nD Cert.NormInReferenceIdeal.τ).loc Cert.NormInReferenceIdeal.main_arg1)) (m ((c.tc : Thread Cert.NormInReferenceIdeal.nD Cert.NormInReferenceIdeal.τ).loc Cert.NormInReferenceIdeal.main_arg2)) (m ((c.tc : Thread Cert.NormInReferenceIdeal.nD Cert.NormInReferenceIdeal.τ).loc Cert.NormInReferenceIdeal.main_arg3)) (m ((c.tc : Thread Cert.NormInReferenceIdeal.nD Cert.NormInReferenceIdeal.τ).loc Cert.NormInReferenceIdeal.main_arg4)) (m ((c.tc : Thread Cert.NormInReferenceIdeal.nD Cert.NormInReferenceIdeal.τ).loc Cert.NormInReferenceIdeal.main_arg5)) (m ((c.tc : Thread Cert.NormInReferenceIdeal.nD Cert.NormInReferenceIdeal.τ).loc Cert.NormInReferenceIdeal.main_arg6))) = (fun _ => 1#1)

def Pre_NormInForward (m : (ℓ : Loc Cert.NormInForward.nD Cert.NormInForward.τ Cert.NormInForward.sig) → Buf (Elt Bits) ℓ) : Prop :=
  True

def Pre_NormInForwardIdeal (m : (ℓ : Loc Cert.NormInForwardIdeal.nD Cert.NormInForwardIdeal.τ Cert.NormInForwardIdeal.sig) → Buf (Elt Ideal) ℓ) : Prop :=
  True

def Pre_NormInForwardReferenceIdeal (m : (ℓ : Loc Cert.NormInForwardReferenceIdeal.nD Cert.NormInForwardReferenceIdeal.τ Cert.NormInForwardReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))) = (fun _ => 1#1)

def Pre_PleReferenceIdeal (m : (ℓ : Loc Cert.PleReferenceIdeal.nD Cert.PleReferenceIdeal.τ Cert.PleReferenceIdeal.sig) → Buf (Elt Ideal) ℓ) : Prop :=
  True

def Pre_PleReferenceIdeal_finite_ple [hPre_finite_ple : Cert.Pre_finite_ple.Facts] (m : (ℓ : Loc Cert.PleReferenceIdeal.nD Cert.PleReferenceIdeal.τ Cert.PleReferenceIdeal.sig) → Buf (Elt Ideal) ℓ) : Prop :=
  ∀ c : Dev Cert.PleReferenceIdeal.nD,
    (Cert.Pre_finite_ple.fn (F := Ideal) (m ((c.tc : Thread Cert.PleReferenceIdeal.nD Cert.PleReferenceIdeal.τ).loc Cert.PleReferenceIdeal.main_arg0)) (m ((c.tc : Thread Cert.PleReferenceIdeal.nD Cert.PleReferenceIdeal.τ).loc Cert.PleReferenceIdeal.main_arg1)) (m ((c.tc : Thread Cert.PleReferenceIdeal.nD Cert.PleReferenceIdeal.τ).loc Cert.PleReferenceIdeal.main_arg2)) (m ((c.tc : Thread Cert.PleReferenceIdeal.nD Cert.PleReferenceIdeal.τ).loc Cert.PleReferenceIdeal.main_arg3)) (m ((c.tc : Thread Cert.PleReferenceIdeal.nD Cert.PleReferenceIdeal.τ).loc Cert.PleReferenceIdeal.main_arg4)) (m ((c.tc : Thread Cert.PleReferenceIdeal.nD Cert.PleReferenceIdeal.τ).loc Cert.PleReferenceIdeal.main_arg5))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_mix_out [hPre_finite_mix_out : Cert.Pre_finite_mix_out.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_mix_out.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6))) = (fun _ => 1#1)

def Pre_MixOutReferenceIdeal (m : (ℓ : Loc Cert.MixOutReferenceIdeal.nD Cert.MixOutReferenceIdeal.τ Cert.MixOutReferenceIdeal.sig) → Buf (Elt Ideal) ℓ) : Prop :=
  True

def Pre_MixOutReferenceIdeal_finite_mix_out [hPre_finite_mix_out : Cert.Pre_finite_mix_out.Facts] (m : (ℓ : Loc Cert.MixOutReferenceIdeal.nD Cert.MixOutReferenceIdeal.τ Cert.MixOutReferenceIdeal.sig) → Buf (Elt Ideal) ℓ) : Prop :=
  ∀ c : Dev Cert.MixOutReferenceIdeal.nD,
    (Cert.Pre_finite_mix_out.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutIdeal_finite_ffn_out [hPre_finite_ffn_out : Cert.Pre_finite_ffn_out.Facts] (m : (ℓ : Loc Cert.FfnOutIdeal.nD Cert.FfnOutIdeal.τ Cert.FfnOutIdeal.sig) → Buf (Elt Ideal) ℓ) : Prop :=
  ∀ c : Dev Cert.FfnOutIdeal.nD,
    (Cert.Pre_finite_ffn_out.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3)) (m ((c.tc : Thread Cert.FfnOutIdeal.nD Cert.FfnOutIdeal.τ).loc Cert.FfnOutIdeal.main_arg4)) (m ((c.tc : Thread Cert.FfnOutIdeal.nD Cert.FfnOutIdeal.τ).loc Cert.FfnOutIdeal.main_arg5)) (m ((c.tc : Thread Cert.FfnOutIdeal.nD Cert.FfnOutIdeal.τ).loc Cert.FfnOutIdeal.main_arg6))) = (fun _ => 1#1)

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_FfnOutReferenceIdeal_finite_ffn_out [hPre_finite_ffn_out : Cert.Pre_finite_ffn_out.Facts] (m : (ℓ : Loc Cert.FfnOutReferenceIdeal.nD Cert.FfnOutReferenceIdeal.τ Cert.FfnOutReferenceIdeal.sig) → Buf (Elt Ideal) ℓ) : Prop :=
  ∀ c : Dev Cert.FfnOutReferenceIdeal.nD,
    (Cert.Pre_finite_ffn_out.fn (F := Ideal) (m ((c.tc : Thread Cert.FfnOutReferenceIdeal.nD Cert.FfnOutReferenceIdeal.τ).loc Cert.FfnOutReferenceIdeal.main_arg0)) (m ((c.tc : Thread Cert.FfnOutReferenceIdeal.nD Cert.FfnOutReferenceIdeal.τ).loc Cert.FfnOutReferenceIdeal.main_arg1)) (m ((c.tc : Thread Cert.FfnOutReferenceIdeal.nD Cert.FfnOutReferenceIdeal.τ).loc Cert.FfnOutReferenceIdeal.main_arg2)) (m ((c.tc : Thread Cert.FfnOutReferenceIdeal.nD Cert.FfnOutReferenceIdeal.τ).loc Cert.FfnOutReferenceIdeal.main_arg3)) (m ((c.tc : Thread Cert.FfnOutReferenceIdeal.nD Cert.FfnOutReferenceIdeal.τ).loc Cert.FfnOutReferenceIdeal.main_arg4)) (m ((c.tc : Thread Cert.FfnOutReferenceIdeal.nD Cert.FfnOutReferenceIdeal.τ).loc Cert.FfnOutReferenceIdeal.main_arg5)) (m ((c.tc : Thread Cert.FfnOutReferenceIdeal.nD Cert.FfnOutReferenceIdeal.τ).loc Cert.FfnOutReferenceIdeal.main_arg6))) = (fun _ => 1#1)

def Pre_GmForward (m : (ℓ : Loc Cert.GmForward.nD Cert.GmForward.τ Cert.GmForward.sig) → Buf (Elt Bits) ℓ) : Prop :=
  True

def Pre_GmForwardIdeal (m : (ℓ : Loc Cert.GmForwardIdeal.nD Cert.GmForwardIdeal.τ Cert.GmForwardIdeal.sig) → Buf (Elt Ideal) ℓ) : Prop :=
  True

def Pre_GmForwardReferenceIdeal (m : (ℓ : Loc Cert.GmForwardReferenceIdeal.nD Cert.GmForwardReferenceIdeal.τ Cert.GmForwardReferenceIdeal.sig) → Buf (Elt Ideal) ℓ) : Prop :=
  True

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossIdeal_finite_ple_loss [hPre_finite_ple_loss : Cert.Pre_finite_ple_loss.Facts] (m : (ℓ : Loc Cert.PleLossIdeal.nD Cert.PleLossIdeal.τ Cert.PleLossIdeal.sig) → Buf (Elt Ideal) ℓ) : Prop :=
  ∀ c : Dev Cert.PleLossIdeal.nD,
    (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5))) = (fun _ => 1#1)

def Pre_PleLossReferenceIdeal (m : (ℓ : Loc Cert.PleLossReferenceIdeal.nD Cert.PleLossReferenceIdeal.τ Cert.PleLossReferenceIdeal.sig) → Buf (Elt Ideal) ℓ) : Prop :=
  True

def Pre_PleLossReferenceIdeal_finite_ple_loss [hPre_finite_ple_loss : Cert.Pre_finite_ple_loss.Facts] (m : (ℓ : Loc Cert.PleLossReferenceIdeal.nD Cert.PleLossReferenceIdeal.τ Cert.PleLossReferenceIdeal.sig) → Buf (Elt Ideal) ℓ) : Prop :=
  ∀ c : Dev Cert.PleLossReferenceIdeal.nD,
    (Cert.Pre_finite_ple_loss.fn (F := Ideal) (m ((c.tc : Thread Cert.PleLossReferenceIdeal.nD Cert.PleLossReferenceIdeal.τ).loc Cert.PleLossReferenceIdeal.main_arg0)) (m ((c.tc : Thread Cert.PleLossReferenceIdeal.nD Cert.PleLossReferenceIdeal.τ).loc Cert.PleLossReferenceIdeal.main_arg1)) (m ((c.tc : Thread Cert.PleLossReferenceIdeal.nD Cert.PleLossReferenceIdeal.τ).loc Cert.PleLossReferenceIdeal.main_arg2)) (m ((c.tc : Thread Cert.PleLossReferenceIdeal.nD Cert.PleLossReferenceIdeal.τ).loc Cert.PleLossReferenceIdeal.main_arg3)) (m ((c.tc : Thread Cert.PleLossReferenceIdeal.nD Cert.PleLossReferenceIdeal.τ).loc Cert.PleLossReferenceIdeal.main_arg4)) (m ((c.tc : Thread Cert.PleLossReferenceIdeal.nD Cert.PleLossReferenceIdeal.τ).loc Cert.PleLossReferenceIdeal.main_arg5))) = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4)
      ∧ r.2.mem ((c.tc : Thread Cert.NormIn.nD Cert.NormIn.τ).loc Cert.NormIn.main_arg5) = m ((c.tc : Thread Cert.NormIn.nD Cert.NormIn.τ).loc Cert.NormIn.main_arg5)
      ∧ r.2.mem ((c.tc : Thread Cert.NormIn.nD Cert.NormIn.τ).loc Cert.NormIn.main_arg6) = m ((c.tc : Thread Cert.NormIn.nD Cert.NormIn.τ).loc Cert.NormIn.main_arg6))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
      ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
      ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6))
      ∧ r.2.sem = fun _ => 0)

def quiescent_NormInIdeal_pre_finite_norm_in [hNormInIdeal : Cert.NormInIdeal.Facts] [hPre_finite_norm_in : Cert.Pre_finite_norm_in.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal_finite_norm_in m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
      ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
      ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4)
      ∧ r.2.mem ((c.tc : Thread Cert.NormInReferenceIdeal.nD Cert.NormInReferenceIdeal.τ).loc Cert.NormInReferenceIdeal.main_arg5) = m ((c.tc : Thread Cert.NormInReferenceIdeal.nD Cert.NormInReferenceIdeal.τ).loc Cert.NormInReferenceIdeal.main_arg5)
      ∧ r.2.mem ((c.tc : Thread Cert.NormInReferenceIdeal.nD Cert.NormInReferenceIdeal.τ).loc Cert.NormInReferenceIdeal.main_arg6) = m ((c.tc : Thread Cert.NormInReferenceIdeal.nD Cert.NormInReferenceIdeal.τ).loc Cert.NormInReferenceIdeal.main_arg6))
      ∧ r.2.sem = fun _ => 0)

def quiescent_NormInReferenceIdeal_pre_finite_norm_in [hNormInReferenceIdeal : Cert.NormInReferenceIdeal.Facts] [hPre_finite_norm_in : Cert.Pre_finite_norm_in.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal_finite_norm_in m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4)
      ∧ r.2.mem ((c.tc : Thread Cert.NormInReferenceIdeal.nD Cert.NormInReferenceIdeal.τ).loc Cert.NormInReferenceIdeal.main_arg5) = m ((c.tc : Thread Cert.NormInReferenceIdeal.nD Cert.NormInReferenceIdeal.τ).loc Cert.NormInReferenceIdeal.main_arg5)
      ∧ r.2.mem ((c.tc : Thread Cert.NormInReferenceIdeal.nD Cert.NormInReferenceIdeal.τ).loc Cert.NormInReferenceIdeal.main_arg6) = m ((c.tc : Thread Cert.NormInReferenceIdeal.nD Cert.NormInReferenceIdeal.τ).loc Cert.NormInReferenceIdeal.main_arg6))
      ∧ r.2.sem = fun _ => 0)

def quiescent_NormInForward [hNormInForward : Cert.NormInForward.Facts] : Prop :=
  ∀ (m : (ℓ : Loc Cert.NormInForward.nD Cert.NormInForward.τ Cert.NormInForward.sig) → Buf (Elt Bits) ℓ) (g : Dev Cert.NormInForward.nD → PrngReg), Pre_NormInForward m →
    θ_run (Cert.NormInForward.defs (F := Bits)) (onTc (τ := Cert.NormInForward.τ) (Cert.NormInForward.main (F := Bits))) ⟨m, fun _ => 0, g⟩ (fun r => (∀ c : Dev Cert.NormInForward.nD,
      r.2.mem ((c.tc : Thread Cert.NormInForward.nD Cert.NormInForward.τ).loc Cert.NormInForward.main_arg0) = m ((c.tc : Thread Cert.NormInForward.nD Cert.NormInForward.τ).loc Cert.NormInForward.main_arg0)
      ∧ r.2.mem ((c.tc : Thread Cert.NormInForward.nD Cert.NormInForward.τ).loc Cert.NormInForward.main_arg1) = m ((c.tc : Thread Cert.NormInForward.nD Cert.NormInForward.τ).loc Cert.NormInForward.main_arg1)
      ∧ r.2.mem ((c.tc : Thread Cert.NormInForward.nD Cert.NormInForward.τ).loc Cert.NormInForward.main_arg2) = m ((c.tc : Thread Cert.NormInForward.nD Cert.NormInForward.τ).loc Cert.NormInForward.main_arg2))
      ∧ r.2.sem = fun _ => 0)

def quiescent_NormInForwardIdeal [hNormInForwardIdeal : Cert.NormInForwardIdeal.Facts] : Prop :=
  ∀ (m : (ℓ : Loc Cert.NormInForwardIdeal.nD Cert.NormInForwardIdeal.τ Cert.NormInForwardIdeal.sig) → Buf (Elt Ideal) ℓ) (g : Dev Cert.NormInForwardIdeal.nD → PrngReg), Pre_NormInForwardIdeal m →
    θ_run (Cert.NormInForwardIdeal.defs (F := Ideal)) (onTc (τ := Cert.NormInForwardIdeal.τ) (Cert.NormInForwardIdeal.main (F := Ideal))) ⟨m, fun _ => 0, g⟩ (fun r => (∀ c : Dev Cert.NormInForwardIdeal.nD,
      r.2.mem ((c.tc : Thread Cert.NormInForwardIdeal.nD Cert.NormInForwardIdeal.τ).loc Cert.NormInForwardIdeal.main_arg0) = m ((c.tc : Thread Cert.NormInForwardIdeal.nD Cert.NormInForwardIdeal.τ).loc Cert.NormInForwardIdeal.main_arg0)
      ∧ r.2.mem ((c.tc : Thread Cert.NormInForwardIdeal.nD Cert.NormInForwardIdeal.τ).loc Cert.NormInForwardIdeal.main_arg1) = m ((c.tc : Thread Cert.NormInForwardIdeal.nD Cert.NormInForwardIdeal.τ).loc Cert.NormInForwardIdeal.main_arg1)
      ∧ r.2.mem ((c.tc : Thread Cert.NormInForwardIdeal.nD Cert.NormInForwardIdeal.τ).loc Cert.NormInForwardIdeal.main_arg2) = m ((c.tc : Thread Cert.NormInForwardIdeal.nD Cert.NormInForwardIdeal.τ).loc Cert.NormInForwardIdeal.main_arg2))
      ∧ r.2.sem = fun _ => 0)

def quiescent_NormInForwardReferenceIdeal [hNormInForwardReferenceIdeal : Cert.NormInForwardReferenceIdeal.Facts] : Prop :=
  ∀ (m : (ℓ : Loc Cert.NormInForwardReferenceIdeal.nD Cert.NormInForwardReferenceIdeal.τ Cert.NormInForwardReferenceIdeal.sig) → Buf (Elt Ideal) ℓ) (g : Dev Cert.NormInForwardReferenceIdeal.nD → PrngReg), Pre_NormInForwardReferenceIdeal m →
    θ_run (Cert.NormInForwardReferenceIdeal.defs (F := Ideal)) (onTc (τ := Cert.NormInForwardReferenceIdeal.τ) (Cert.NormInForwardReferenceIdeal.main (F := Ideal))) ⟨m, fun _ => 0, g⟩ (fun r => (∀ c : Dev Cert.NormInForwardReferenceIdeal.nD,
      r.2.mem ((c.tc : Thread Cert.NormInForwardReferenceIdeal.nD Cert.NormInForwardReferenceIdeal.τ).loc Cert.NormInForwardReferenceIdeal.main_arg0) = m ((c.tc : Thread Cert.NormInForwardReferenceIdeal.nD Cert.NormInForwardReferenceIdeal.τ).loc Cert.NormInForwardReferenceIdeal.main_arg0)
      ∧ r.2.mem ((c.tc : Thread Cert.NormInForwardReferenceIdeal.nD Cert.NormInForwardReferenceIdeal.τ).loc Cert.NormInForwardReferenceIdeal.main_arg1) = m ((c.tc : Thread Cert.NormInForwardReferenceIdeal.nD Cert.NormInForwardReferenceIdeal.τ).loc Cert.NormInForwardReferenceIdeal.main_arg1)
      ∧ r.2.mem ((c.tc : Thread Cert.NormInForwardReferenceIdeal.nD Cert.NormInForwardReferenceIdeal.τ).loc Cert.NormInForwardReferenceIdeal.main_arg2) = m ((c.tc : Thread Cert.NormInForwardReferenceIdeal.nD Cert.NormInForwardReferenceIdeal.τ).loc Cert.NormInForwardReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_PleReferenceIdeal_pre_finite_ple [hPleReferenceIdeal : Cert.PleReferenceIdeal.Facts] [hPre_finite_ple : Cert.Pre_finite_ple.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal_finite_ple m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutIdeal_pre_finite_mix_out [hMixOutIdeal : Cert.MixOutIdeal.Facts] [hPre_finite_mix_out : Cert.Pre_finite_mix_out.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_mix_out m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6))
      ∧ r.2.sem = fun _ => 0)

def quiescent_MixOutReferenceIdeal_pre_finite_mix_out [hMixOutReferenceIdeal : Cert.MixOutReferenceIdeal.Facts] [hPre_finite_mix_out : Cert.Pre_finite_mix_out.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal_finite_mix_out m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4)
      ∧ r.2.mem ((c.tc : Thread Cert.FfnOut.nD Cert.FfnOut.τ).loc Cert.FfnOut.main_arg5) = m ((c.tc : Thread Cert.FfnOut.nD Cert.FfnOut.τ).loc Cert.FfnOut.main_arg5)
      ∧ r.2.mem ((c.tc : Thread Cert.FfnOut.nD Cert.FfnOut.τ).loc Cert.FfnOut.main_arg6) = m ((c.tc : Thread Cert.FfnOut.nD Cert.FfnOut.τ).loc Cert.FfnOut.main_arg6))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ r.2.sem = fun _ => 0)

def quiescent_FfnOutIdeal_pre_finite_ffn_out [hFfnOutIdeal : Cert.FfnOutIdeal.Facts] [hPre_finite_ffn_out : Cert.Pre_finite_ffn_out.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal_finite_ffn_out m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
      ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
      ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2)
      ∧ r.2.mem ((c.tc : Thread Cert.FfnOutReferenceIdeal.nD Cert.FfnOutReferenceIdeal.τ).loc Cert.FfnOutReferenceIdeal.main_arg3) = m ((c.tc : Thread Cert.FfnOutReferenceIdeal.nD Cert.FfnOutReferenceIdeal.τ).loc Cert.FfnOutReferenceIdeal.main_arg3)
      ∧ r.2.mem ((c.tc : Thread Cert.FfnOutReferenceIdeal.nD Cert.FfnOutReferenceIdeal.τ).loc Cert.FfnOutReferenceIdeal.main_arg4) = m ((c.tc : Thread Cert.FfnOutReferenceIdeal.nD Cert.FfnOutReferenceIdeal.τ).loc Cert.FfnOutReferenceIdeal.main_arg4)
      ∧ r.2.mem ((c.tc : Thread Cert.FfnOutReferenceIdeal.nD Cert.FfnOutReferenceIdeal.τ).loc Cert.FfnOutReferenceIdeal.main_arg5) = m ((c.tc : Thread Cert.FfnOutReferenceIdeal.nD Cert.FfnOutReferenceIdeal.τ).loc Cert.FfnOutReferenceIdeal.main_arg5)
      ∧ r.2.mem ((c.tc : Thread Cert.FfnOutReferenceIdeal.nD Cert.FfnOutReferenceIdeal.τ).loc Cert.FfnOutReferenceIdeal.main_arg6) = m ((c.tc : Thread Cert.FfnOutReferenceIdeal.nD Cert.FfnOutReferenceIdeal.τ).loc Cert.FfnOutReferenceIdeal.main_arg6))
      ∧ r.2.sem = fun _ => 0)

def quiescent_FfnOutReferenceIdeal_pre_finite_ffn_out [hFfnOutReferenceIdeal : Cert.FfnOutReferenceIdeal.Facts] [hPre_finite_ffn_out : Cert.Pre_finite_ffn_out.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal_finite_ffn_out m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2)
      ∧ r.2.mem ((c.tc : Thread Cert.FfnOutReferenceIdeal.nD Cert.FfnOutReferenceIdeal.τ).loc Cert.FfnOutReferenceIdeal.main_arg3) = m ((c.tc : Thread Cert.FfnOutReferenceIdeal.nD Cert.FfnOutReferenceIdeal.τ).loc Cert.FfnOutReferenceIdeal.main_arg3)
      ∧ r.2.mem ((c.tc : Thread Cert.FfnOutReferenceIdeal.nD Cert.FfnOutReferenceIdeal.τ).loc Cert.FfnOutReferenceIdeal.main_arg4) = m ((c.tc : Thread Cert.FfnOutReferenceIdeal.nD Cert.FfnOutReferenceIdeal.τ).loc Cert.FfnOutReferenceIdeal.main_arg4)
      ∧ r.2.mem ((c.tc : Thread Cert.FfnOutReferenceIdeal.nD Cert.FfnOutReferenceIdeal.τ).loc Cert.FfnOutReferenceIdeal.main_arg5) = m ((c.tc : Thread Cert.FfnOutReferenceIdeal.nD Cert.FfnOutReferenceIdeal.τ).loc Cert.FfnOutReferenceIdeal.main_arg5)
      ∧ r.2.mem ((c.tc : Thread Cert.FfnOutReferenceIdeal.nD Cert.FfnOutReferenceIdeal.τ).loc Cert.FfnOutReferenceIdeal.main_arg6) = m ((c.tc : Thread Cert.FfnOutReferenceIdeal.nD Cert.FfnOutReferenceIdeal.τ).loc Cert.FfnOutReferenceIdeal.main_arg6))
      ∧ r.2.sem = fun _ => 0)

def quiescent_GmForward [hGmForward : Cert.GmForward.Facts] : Prop :=
  ∀ (m : (ℓ : Loc Cert.GmForward.nD Cert.GmForward.τ Cert.GmForward.sig) → Buf (Elt Bits) ℓ) (g : Dev Cert.GmForward.nD → PrngReg), Pre_GmForward m →
    θ_run (Cert.GmForward.defs (F := Bits)) (onTc (τ := Cert.GmForward.τ) (Cert.GmForward.main (F := Bits))) ⟨m, fun _ => 0, g⟩ (fun r => (∀ c : Dev Cert.GmForward.nD,
      r.2.mem ((c.tc : Thread Cert.GmForward.nD Cert.GmForward.τ).loc Cert.GmForward.main_arg0) = m ((c.tc : Thread Cert.GmForward.nD Cert.GmForward.τ).loc Cert.GmForward.main_arg0)
      ∧ r.2.mem ((c.tc : Thread Cert.GmForward.nD Cert.GmForward.τ).loc Cert.GmForward.main_arg1) = m ((c.tc : Thread Cert.GmForward.nD Cert.GmForward.τ).loc Cert.GmForward.main_arg1)
      ∧ r.2.mem ((c.tc : Thread Cert.GmForward.nD Cert.GmForward.τ).loc Cert.GmForward.main_arg2) = m ((c.tc : Thread Cert.GmForward.nD Cert.GmForward.τ).loc Cert.GmForward.main_arg2)
      ∧ r.2.mem ((c.tc : Thread Cert.GmForward.nD Cert.GmForward.τ).loc Cert.GmForward.main_arg3) = m ((c.tc : Thread Cert.GmForward.nD Cert.GmForward.τ).loc Cert.GmForward.main_arg3)
      ∧ r.2.mem ((c.tc : Thread Cert.GmForward.nD Cert.GmForward.τ).loc Cert.GmForward.main_arg4) = m ((c.tc : Thread Cert.GmForward.nD Cert.GmForward.τ).loc Cert.GmForward.main_arg4)
      ∧ r.2.mem ((c.tc : Thread Cert.GmForward.nD Cert.GmForward.τ).loc Cert.GmForward.main_arg5) = m ((c.tc : Thread Cert.GmForward.nD Cert.GmForward.τ).loc Cert.GmForward.main_arg5))
      ∧ r.2.sem = fun _ => 0)

def quiescent_GmForwardIdeal [hGmForwardIdeal : Cert.GmForwardIdeal.Facts] : Prop :=
  ∀ (m : (ℓ : Loc Cert.GmForwardIdeal.nD Cert.GmForwardIdeal.τ Cert.GmForwardIdeal.sig) → Buf (Elt Ideal) ℓ) (g : Dev Cert.GmForwardIdeal.nD → PrngReg), Pre_GmForwardIdeal m →
    θ_run (Cert.GmForwardIdeal.defs (F := Ideal)) (onTc (τ := Cert.GmForwardIdeal.τ) (Cert.GmForwardIdeal.main (F := Ideal))) ⟨m, fun _ => 0, g⟩ (fun r => (∀ c : Dev Cert.GmForwardIdeal.nD,
      r.2.mem ((c.tc : Thread Cert.GmForwardIdeal.nD Cert.GmForwardIdeal.τ).loc Cert.GmForwardIdeal.main_arg0) = m ((c.tc : Thread Cert.GmForwardIdeal.nD Cert.GmForwardIdeal.τ).loc Cert.GmForwardIdeal.main_arg0)
      ∧ r.2.mem ((c.tc : Thread Cert.GmForwardIdeal.nD Cert.GmForwardIdeal.τ).loc Cert.GmForwardIdeal.main_arg1) = m ((c.tc : Thread Cert.GmForwardIdeal.nD Cert.GmForwardIdeal.τ).loc Cert.GmForwardIdeal.main_arg1)
      ∧ r.2.mem ((c.tc : Thread Cert.GmForwardIdeal.nD Cert.GmForwardIdeal.τ).loc Cert.GmForwardIdeal.main_arg2) = m ((c.tc : Thread Cert.GmForwardIdeal.nD Cert.GmForwardIdeal.τ).loc Cert.GmForwardIdeal.main_arg2)
      ∧ r.2.mem ((c.tc : Thread Cert.GmForwardIdeal.nD Cert.GmForwardIdeal.τ).loc Cert.GmForwardIdeal.main_arg3) = m ((c.tc : Thread Cert.GmForwardIdeal.nD Cert.GmForwardIdeal.τ).loc Cert.GmForwardIdeal.main_arg3)
      ∧ r.2.mem ((c.tc : Thread Cert.GmForwardIdeal.nD Cert.GmForwardIdeal.τ).loc Cert.GmForwardIdeal.main_arg4) = m ((c.tc : Thread Cert.GmForwardIdeal.nD Cert.GmForwardIdeal.τ).loc Cert.GmForwardIdeal.main_arg4)
      ∧ r.2.mem ((c.tc : Thread Cert.GmForwardIdeal.nD Cert.GmForwardIdeal.τ).loc Cert.GmForwardIdeal.main_arg5) = m ((c.tc : Thread Cert.GmForwardIdeal.nD Cert.GmForwardIdeal.τ).loc Cert.GmForwardIdeal.main_arg5))
      ∧ r.2.sem = fun _ => 0)

def quiescent_GmForwardReferenceIdeal [hGmForwardReferenceIdeal : Cert.GmForwardReferenceIdeal.Facts] : Prop :=
  ∀ (m : (ℓ : Loc Cert.GmForwardReferenceIdeal.nD Cert.GmForwardReferenceIdeal.τ Cert.GmForwardReferenceIdeal.sig) → Buf (Elt Ideal) ℓ) (g : Dev Cert.GmForwardReferenceIdeal.nD → PrngReg), Pre_GmForwardReferenceIdeal m →
    θ_run (Cert.GmForwardReferenceIdeal.defs (F := Ideal)) (onTc (τ := Cert.GmForwardReferenceIdeal.τ) (Cert.GmForwardReferenceIdeal.main (F := Ideal))) ⟨m, fun _ => 0, g⟩ (fun r => (∀ c : Dev Cert.GmForwardReferenceIdeal.nD,
      r.2.mem ((c.tc : Thread Cert.GmForwardReferenceIdeal.nD Cert.GmForwardReferenceIdeal.τ).loc Cert.GmForwardReferenceIdeal.main_arg0) = m ((c.tc : Thread Cert.GmForwardReferenceIdeal.nD Cert.GmForwardReferenceIdeal.τ).loc Cert.GmForwardReferenceIdeal.main_arg0)
      ∧ r.2.mem ((c.tc : Thread Cert.GmForwardReferenceIdeal.nD Cert.GmForwardReferenceIdeal.τ).loc Cert.GmForwardReferenceIdeal.main_arg1) = m ((c.tc : Thread Cert.GmForwardReferenceIdeal.nD Cert.GmForwardReferenceIdeal.τ).loc Cert.GmForwardReferenceIdeal.main_arg1)
      ∧ r.2.mem ((c.tc : Thread Cert.GmForwardReferenceIdeal.nD Cert.GmForwardReferenceIdeal.τ).loc Cert.GmForwardReferenceIdeal.main_arg2) = m ((c.tc : Thread Cert.GmForwardReferenceIdeal.nD Cert.GmForwardReferenceIdeal.τ).loc Cert.GmForwardReferenceIdeal.main_arg2)
      ∧ r.2.mem ((c.tc : Thread Cert.GmForwardReferenceIdeal.nD Cert.GmForwardReferenceIdeal.τ).loc Cert.GmForwardReferenceIdeal.main_arg3) = m ((c.tc : Thread Cert.GmForwardReferenceIdeal.nD Cert.GmForwardReferenceIdeal.τ).loc Cert.GmForwardReferenceIdeal.main_arg3)
      ∧ r.2.mem ((c.tc : Thread Cert.GmForwardReferenceIdeal.nD Cert.GmForwardReferenceIdeal.τ).loc Cert.GmForwardReferenceIdeal.main_arg4) = m ((c.tc : Thread Cert.GmForwardReferenceIdeal.nD Cert.GmForwardReferenceIdeal.τ).loc Cert.GmForwardReferenceIdeal.main_arg4)
      ∧ r.2.mem ((c.tc : Thread Cert.GmForwardReferenceIdeal.nD Cert.GmForwardReferenceIdeal.τ).loc Cert.GmForwardReferenceIdeal.main_arg5) = m ((c.tc : Thread Cert.GmForwardReferenceIdeal.nD Cert.GmForwardReferenceIdeal.τ).loc Cert.GmForwardReferenceIdeal.main_arg5))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4)
      ∧ r.2.mem ((c.tc : Thread Cert.PleLoss.nD Cert.PleLoss.τ).loc Cert.PleLoss.main_arg5) = m ((c.tc : Thread Cert.PleLoss.nD Cert.PleLoss.τ).loc Cert.PleLoss.main_arg5))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ r.2.sem = fun _ => 0)

def quiescent_PleLossIdeal_pre_finite_ple_loss [hPleLossIdeal : Cert.PleLossIdeal.Facts] [hPre_finite_ple_loss : Cert.Pre_finite_ple_loss.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal_finite_ple_loss m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ r.2.sem = fun _ => 0)

def quiescent_PleLossReferenceIdeal [hPleLossReferenceIdeal : Cert.PleLossReferenceIdeal.Facts] : Prop :=
  ∀ (m : (ℓ : Loc Cert.PleLossReferenceIdeal.nD Cert.PleLossReferenceIdeal.τ Cert.PleLossReferenceIdeal.sig) → Buf (Elt Ideal) ℓ) (g : Dev Cert.PleLossReferenceIdeal.nD → PrngReg), Pre_PleLossReferenceIdeal m →
    θ_run (Cert.PleLossReferenceIdeal.defs (F := Ideal)) (onTc (τ := Cert.PleLossReferenceIdeal.τ) (Cert.PleLossReferenceIdeal.main (F := Ideal))) ⟨m, fun _ => 0, g⟩ (fun r => (∀ c : Dev Cert.PleLossReferenceIdeal.nD,
      r.2.mem ((c.tc : Thread Cert.PleLossReferenceIdeal.nD Cert.PleLossReferenceIdeal.τ).loc Cert.PleLossReferenceIdeal.main_arg0) = m ((c.tc : Thread Cert.PleLossReferenceIdeal.nD Cert.PleLossReferenceIdeal.τ).loc Cert.PleLossReferenceIdeal.main_arg0)
      ∧ r.2.mem ((c.tc : Thread Cert.PleLossReferenceIdeal.nD Cert.PleLossReferenceIdeal.τ).loc Cert.PleLossReferenceIdeal.main_arg1) = m ((c.tc : Thread Cert.PleLossReferenceIdeal.nD Cert.PleLossReferenceIdeal.τ).loc Cert.PleLossReferenceIdeal.main_arg1)
      ∧ r.2.mem ((c.tc : Thread Cert.PleLossReferenceIdeal.nD Cert.PleLossReferenceIdeal.τ).loc Cert.PleLossReferenceIdeal.main_arg2) = m ((c.tc : Thread Cert.PleLossReferenceIdeal.nD Cert.PleLossReferenceIdeal.τ).loc Cert.PleLossReferenceIdeal.main_arg2)
      ∧ r.2.mem ((c.tc : Thread Cert.PleLossReferenceIdeal.nD Cert.PleLossReferenceIdeal.τ).loc Cert.PleLossReferenceIdeal.main_arg3) = m ((c.tc : Thread Cert.PleLossReferenceIdeal.nD Cert.PleLossReferenceIdeal.τ).loc Cert.PleLossReferenceIdeal.main_arg3)
      ∧ r.2.mem ((c.tc : Thread Cert.PleLossReferenceIdeal.nD Cert.PleLossReferenceIdeal.τ).loc Cert.PleLossReferenceIdeal.main_arg4) = m ((c.tc : Thread Cert.PleLossReferenceIdeal.nD Cert.PleLossReferenceIdeal.τ).loc Cert.PleLossReferenceIdeal.main_arg4)
      ∧ r.2.mem ((c.tc : Thread Cert.PleLossReferenceIdeal.nD Cert.PleLossReferenceIdeal.τ).loc Cert.PleLossReferenceIdeal.main_arg5) = m ((c.tc : Thread Cert.PleLossReferenceIdeal.nD Cert.PleLossReferenceIdeal.τ).loc Cert.PleLossReferenceIdeal.main_arg5))
      ∧ r.2.sem = fun _ => 0)

def quiescent_PleLossReferenceIdeal_pre_finite_ple_loss [hPleLossReferenceIdeal : Cert.PleLossReferenceIdeal.Facts] [hPre_finite_ple_loss : Cert.Pre_finite_ple_loss.Facts] : Prop :=
  ∀ (m : (ℓ : Loc Cert.PleLossReferenceIdeal.nD Cert.PleLossReferenceIdeal.τ Cert.PleLossReferenceIdeal.sig) → Buf (Elt Ideal) ℓ) (g : Dev Cert.PleLossReferenceIdeal.nD → PrngReg), Pre_PleLossReferenceIdeal_finite_ple_loss m →
    θ_run (Cert.PleLossReferenceIdeal.defs (F := Ideal)) (onTc (τ := Cert.PleLossReferenceIdeal.τ) (Cert.PleLossReferenceIdeal.main (F := Ideal))) ⟨m, fun _ => 0, g⟩ (fun r => (∀ c : Dev Cert.PleLossReferenceIdeal.nD,
      r.2.mem ((c.tc : Thread Cert.PleLossReferenceIdeal.nD Cert.PleLossReferenceIdeal.τ).loc Cert.PleLossReferenceIdeal.main_arg0) = m ((c.tc : Thread Cert.PleLossReferenceIdeal.nD Cert.PleLossReferenceIdeal.τ).loc Cert.PleLossReferenceIdeal.main_arg0)
      ∧ r.2.mem ((c.tc : Thread Cert.PleLossReferenceIdeal.nD Cert.PleLossReferenceIdeal.τ).loc Cert.PleLossReferenceIdeal.main_arg1) = m ((c.tc : Thread Cert.PleLossReferenceIdeal.nD Cert.PleLossReferenceIdeal.τ).loc Cert.PleLossReferenceIdeal.main_arg1)
      ∧ r.2.mem ((c.tc : Thread Cert.PleLossReferenceIdeal.nD Cert.PleLossReferenceIdeal.τ).loc Cert.PleLossReferenceIdeal.main_arg2) = m ((c.tc : Thread Cert.PleLossReferenceIdeal.nD Cert.PleLossReferenceIdeal.τ).loc Cert.PleLossReferenceIdeal.main_arg2)
      ∧ r.2.mem ((c.tc : Thread Cert.PleLossReferenceIdeal.nD Cert.PleLossReferenceIdeal.τ).loc Cert.PleLossReferenceIdeal.main_arg3) = m ((c.tc : Thread Cert.PleLossReferenceIdeal.nD Cert.PleLossReferenceIdeal.τ).loc Cert.PleLossReferenceIdeal.main_arg3)
      ∧ r.2.mem ((c.tc : Thread Cert.PleLossReferenceIdeal.nD Cert.PleLossReferenceIdeal.τ).loc Cert.PleLossReferenceIdeal.main_arg4) = m ((c.tc : Thread Cert.PleLossReferenceIdeal.nD Cert.PleLossReferenceIdeal.τ).loc Cert.PleLossReferenceIdeal.main_arg4)
      ∧ r.2.mem ((c.tc : Thread Cert.PleLossReferenceIdeal.nD Cert.PleLossReferenceIdeal.τ).loc Cert.PleLossReferenceIdeal.main_arg5) = m ((c.tc : Thread Cert.PleLossReferenceIdeal.nD Cert.PleLossReferenceIdeal.τ).loc Cert.PleLossReferenceIdeal.main_arg5))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_AttnKernel_AttnKernelIdeal : Prop :=
  IdealRules.named_const.Statement Cert.AttnKernelIdeal.κ "c1" .f32 0x3D372713#32 ((8943 / 200000 : ℝ) : EReal)
  ∧ IdealRules.named_const.Statement Cert.AttnKernelIdeal.κ "c3" .f32 0x3E095D4F#32 ((26829 / 200000 : ℝ) : EReal)

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)
      ∧ m' ((c.tc : Thread Cert.AttnReferenceIdeal.nD Cert.AttnReferenceIdeal.τ).loc Cert.AttnReferenceIdeal.main_arg6) = m ((c.tc : Thread Cert.AttnKernelIdeal.nD Cert.AttnKernelIdeal.τ).loc Cert.AttnKernelIdeal.main_arg6)) →
    ∃ (v0 : (c : Dev Cert.AttnKernelIdeal.nD) → Buf (Elt Ideal) ((c.tc : Thread Cert.AttnKernelIdeal.nD Cert.AttnKernelIdeal.τ).loc Cert.AttnKernelIdeal.main_v39_2)) (v1 : (c : Dev Cert.AttnKernelIdeal.nD) → Buf (Elt Ideal) ((c.tc : Thread Cert.AttnKernelIdeal.nD Cert.AttnKernelIdeal.τ).loc Cert.AttnKernelIdeal.main_v39_4)) (v2 : (c : Dev Cert.AttnKernelIdeal.nD) → Buf (Elt Ideal) ((c.tc : Thread Cert.AttnKernelIdeal.nD Cert.AttnKernelIdeal.τ).loc Cert.AttnKernelIdeal.main_v39_5)) (v3 : (c : Dev Cert.AttnKernelIdeal.nD) → Buf (Elt Ideal) ((c.tc : Thread Cert.AttnKernelIdeal.nD Cert.AttnKernelIdeal.τ).loc Cert.AttnKernelIdeal.main_v39_6)) (v4 : (c : Dev Cert.AttnKernelIdeal.nD) → Buf (Elt Ideal) ((c.tc : Thread Cert.AttnKernelIdeal.nD Cert.AttnKernelIdeal.τ).loc Cert.AttnKernelIdeal.main_v39_7)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v39_2) = v0 c
          ∧ r.2.mem ((c.tc : Thread Cert.AttnKernelIdeal.nD Cert.AttnKernelIdeal.τ).loc Cert.AttnKernelIdeal.main_v39_4) = v1 c
          ∧ r.2.mem ((c.tc : Thread Cert.AttnKernelIdeal.nD Cert.AttnKernelIdeal.τ).loc Cert.AttnKernelIdeal.main_v39_5) = v2 c
          ∧ r.2.mem ((c.tc : Thread Cert.AttnKernelIdeal.nD Cert.AttnKernelIdeal.τ).loc Cert.AttnKernelIdeal.main_v39_6) = v3 c
          ∧ r.2.mem ((c.tc : Thread Cert.AttnKernelIdeal.nD Cert.AttnKernelIdeal.τ).loc Cert.AttnKernelIdeal.main_v39_7) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
          ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v163) = v0 c
          ∧ r.2.mem ((c.tc : Thread Cert.AttnReferenceIdeal.nD Cert.AttnReferenceIdeal.τ).loc Cert.AttnReferenceIdeal.main_v164) = v1 c
          ∧ r.2.mem ((c.tc : Thread Cert.AttnReferenceIdeal.nD Cert.AttnReferenceIdeal.τ).loc Cert.AttnReferenceIdeal.main_v165) = v2 c
          ∧ r.2.mem ((c.tc : Thread Cert.AttnReferenceIdeal.nD Cert.AttnReferenceIdeal.τ).loc Cert.AttnReferenceIdeal.main_v102) = v3 c
          ∧ r.2.mem ((c.tc : Thread Cert.AttnReferenceIdeal.nD Cert.AttnReferenceIdeal.τ).loc Cert.AttnReferenceIdeal.main_v167) = v4 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6))

def preserves_NormIn_NormInIdeal : Prop :=
  True

def algebraic_NormInIdeal_NormInReferenceIdeal_pre_finite_norm_in [hNormInIdeal : Cert.NormInIdeal.Facts] [hNormInReferenceIdeal : Cert.NormInReferenceIdeal.Facts] [hPre_finite_norm_in : Cert.Pre_finite_norm_in.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal_finite_norm_in m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)
      ∧ m' ((c.tc : Thread Cert.NormInReferenceIdeal.nD Cert.NormInReferenceIdeal.τ).loc Cert.NormInReferenceIdeal.main_arg4) = m ((c.tc : Thread Cert.NormInIdeal.nD Cert.NormInIdeal.τ).loc Cert.NormInIdeal.main_arg4)
      ∧ m' ((c.tc : Thread Cert.NormInReferenceIdeal.nD Cert.NormInReferenceIdeal.τ).loc Cert.NormInReferenceIdeal.main_arg5) = m ((c.tc : Thread Cert.NormInIdeal.nD Cert.NormInIdeal.τ).loc Cert.NormInIdeal.main_arg5)
      ∧ m' ((c.tc : Thread Cert.NormInReferenceIdeal.nD Cert.NormInReferenceIdeal.τ).loc Cert.NormInReferenceIdeal.main_arg6) = m ((c.tc : Thread Cert.NormInIdeal.nD Cert.NormInIdeal.τ).loc Cert.NormInIdeal.main_arg6)) →
    ∃ (v0 : (c : Dev Cert.NormInIdeal.nD) → Buf (Elt Ideal) ((c.tc : Thread Cert.NormInIdeal.nD Cert.NormInIdeal.τ).loc Cert.NormInIdeal.main_v3_0)) (v1 : (c : Dev Cert.NormInIdeal.nD) → Buf (Elt Ideal) ((c.tc : Thread Cert.NormInIdeal.nD Cert.NormInIdeal.τ).loc Cert.NormInIdeal.main_v3_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v3_0) = v0 c
          ∧ r.2.mem ((c.tc : Thread Cert.NormInIdeal.nD Cert.NormInIdeal.τ).loc Cert.NormInIdeal.main_v3_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4)
          ∧ r.2.mem ((c.tc : Thread Cert.NormInIdeal.nD Cert.NormInIdeal.τ).loc Cert.NormInIdeal.main_arg5) = m ((c.tc : Thread Cert.NormInIdeal.nD Cert.NormInIdeal.τ).loc Cert.NormInIdeal.main_arg5)
          ∧ r.2.mem ((c.tc : Thread Cert.NormInIdeal.nD Cert.NormInIdeal.τ).loc Cert.NormInIdeal.main_arg6) = m ((c.tc : Thread Cert.NormInIdeal.nD Cert.NormInIdeal.τ).loc Cert.NormInIdeal.main_arg6))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v41) = v0 c
          ∧ r.2.mem ((c.tc : Thread Cert.NormInReferenceIdeal.nD Cert.NormInReferenceIdeal.τ).loc Cert.NormInReferenceIdeal.main_v42) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3)
          ∧ r.2.mem ((c.tc : Thread Cert.NormInReferenceIdeal.nD Cert.NormInReferenceIdeal.τ).loc Cert.NormInReferenceIdeal.main_arg4) = m' ((c.tc : Thread Cert.NormInReferenceIdeal.nD Cert.NormInReferenceIdeal.τ).loc Cert.NormInReferenceIdeal.main_arg4)
          ∧ r.2.mem ((c.tc : Thread Cert.NormInReferenceIdeal.nD Cert.NormInReferenceIdeal.τ).loc Cert.NormInReferenceIdeal.main_arg5) = m' ((c.tc : Thread Cert.NormInReferenceIdeal.nD Cert.NormInReferenceIdeal.τ).loc Cert.NormInReferenceIdeal.main_arg5)
          ∧ r.2.mem ((c.tc : Thread Cert.NormInReferenceIdeal.nD Cert.NormInReferenceIdeal.τ).loc Cert.NormInReferenceIdeal.main_arg6) = m' ((c.tc : Thread Cert.NormInReferenceIdeal.nD Cert.NormInReferenceIdeal.τ).loc Cert.NormInReferenceIdeal.main_arg6))

def preserves_NormInForward_NormInForwardIdeal : Prop :=
  True

def algebraic_NormInForwardIdeal_NormInForwardReferenceIdeal [hNormInForwardIdeal : Cert.NormInForwardIdeal.Facts] [hNormInForwardReferenceIdeal : Cert.NormInForwardReferenceIdeal.Facts] : Prop :=
  ∀ (m : (ℓ : Loc Cert.NormInForwardIdeal.nD Cert.NormInForwardIdeal.τ Cert.NormInForwardIdeal.sig) → Buf (Elt Ideal) ℓ) (g : Dev Cert.NormInForwardIdeal.nD → PrngReg)
    (m' : (ℓ : Loc Cert.NormInForwardReferenceIdeal.nD Cert.NormInForwardReferenceIdeal.τ Cert.NormInForwardReferenceIdeal.sig) → Buf (Elt Ideal) ℓ) (g' : Dev Cert.NormInForwardReferenceIdeal.nD → PrngReg), Pre_NormInForwardIdeal m →
    (∀ c : Dev Cert.NormInForwardIdeal.nD,
      m' ((c.tc : Thread Cert.NormInForwardReferenceIdeal.nD Cert.NormInForwardReferenceIdeal.τ).loc Cert.NormInForwardReferenceIdeal.main_arg0) = m ((c.tc : Thread Cert.NormInForwardIdeal.nD Cert.NormInForwardIdeal.τ).loc Cert.NormInForwardIdeal.main_arg0)
      ∧ m' ((c.tc : Thread Cert.NormInForwardReferenceIdeal.nD Cert.NormInForwardReferenceIdeal.τ).loc Cert.NormInForwardReferenceIdeal.main_arg1) = m ((c.tc : Thread Cert.NormInForwardIdeal.nD Cert.NormInForwardIdeal.τ).loc Cert.NormInForwardIdeal.main_arg1)
      ∧ m' ((c.tc : Thread Cert.NormInForwardReferenceIdeal.nD Cert.NormInForwardReferenceIdeal.τ).loc Cert.NormInForwardReferenceIdeal.main_arg2) = m ((c.tc : Thread Cert.NormInForwardIdeal.nD Cert.NormInForwardIdeal.τ).loc Cert.NormInForwardIdeal.main_arg2)) →
    ∃ (v0 : (c : Dev Cert.NormInForwardIdeal.nD) → Buf (Elt Ideal) ((c.tc : Thread Cert.NormInForwardIdeal.nD Cert.NormInForwardIdeal.τ).loc Cert.NormInForwardIdeal.main_v3_0)) (v1 : (c : Dev Cert.NormInForwardIdeal.nD) → Buf (Elt Ideal) ((c.tc : Thread Cert.NormInForwardIdeal.nD Cert.NormInForwardIdeal.τ).loc Cert.NormInForwardIdeal.main_v3_1)),
      θ_run (Cert.NormInForwardIdeal.defs (F := Ideal)) (onTc (τ := Cert.NormInForwardIdeal.τ) (Cert.NormInForwardIdeal.main (F := Ideal))) ⟨m, fun _ => 0, g⟩ (fun r => ∀ c : Dev Cert.NormInForwardIdeal.nD,
          r.2.mem ((c.tc : Thread Cert.NormInForwardIdeal.nD Cert.NormInForwardIdeal.τ).loc Cert.NormInForwardIdeal.main_v3_0) = v0 c
          ∧ r.2.mem ((c.tc : Thread Cert.NormInForwardIdeal.nD Cert.NormInForwardIdeal.τ).loc Cert.NormInForwardIdeal.main_v3_1) = v1 c
          ∧ r.2.mem ((c.tc : Thread Cert.NormInForwardIdeal.nD Cert.NormInForwardIdeal.τ).loc Cert.NormInForwardIdeal.main_arg0) = m ((c.tc : Thread Cert.NormInForwardIdeal.nD Cert.NormInForwardIdeal.τ).loc Cert.NormInForwardIdeal.main_arg0)
          ∧ r.2.mem ((c.tc : Thread Cert.NormInForwardIdeal.nD Cert.NormInForwardIdeal.τ).loc Cert.NormInForwardIdeal.main_arg1) = m ((c.tc : Thread Cert.NormInForwardIdeal.nD Cert.NormInForwardIdeal.τ).loc Cert.NormInForwardIdeal.main_arg1)
          ∧ r.2.mem ((c.tc : Thread Cert.NormInForwardIdeal.nD Cert.NormInForwardIdeal.τ).loc Cert.NormInForwardIdeal.main_arg2) = m ((c.tc : Thread Cert.NormInForwardIdeal.nD Cert.NormInForwardIdeal.τ).loc Cert.NormInForwardIdeal.main_arg2))
      ∧ θ_run (Cert.NormInForwardReferenceIdeal.defs (F := Ideal)) (onTc (τ := Cert.NormInForwardReferenceIdeal.τ) (Cert.NormInForwardReferenceIdeal.main (F := Ideal))) ⟨m', fun _ => 0, g'⟩ (fun r => ∀ c : Dev Cert.NormInForwardReferenceIdeal.nD,
          r.2.mem ((c.tc : Thread Cert.NormInForwardReferenceIdeal.nD Cert.NormInForwardReferenceIdeal.τ).loc Cert.NormInForwardReferenceIdeal.main_v14) = v0 c
          ∧ r.2.mem ((c.tc : Thread Cert.NormInForwardReferenceIdeal.nD Cert.NormInForwardReferenceIdeal.τ).loc Cert.NormInForwardReferenceIdeal.main_v15) = v1 c
          ∧ r.2.mem ((c.tc : Thread Cert.NormInForwardReferenceIdeal.nD Cert.NormInForwardReferenceIdeal.τ).loc Cert.NormInForwardReferenceIdeal.main_arg0) = m' ((c.tc : Thread Cert.NormInForwardReferenceIdeal.nD Cert.NormInForwardReferenceIdeal.τ).loc Cert.NormInForwardReferenceIdeal.main_arg0)
          ∧ r.2.mem ((c.tc : Thread Cert.NormInForwardReferenceIdeal.nD Cert.NormInForwardReferenceIdeal.τ).loc Cert.NormInForwardReferenceIdeal.main_arg1) = m' ((c.tc : Thread Cert.NormInForwardReferenceIdeal.nD Cert.NormInForwardReferenceIdeal.τ).loc Cert.NormInForwardReferenceIdeal.main_arg1)
          ∧ r.2.mem ((c.tc : Thread Cert.NormInForwardReferenceIdeal.nD Cert.NormInForwardReferenceIdeal.τ).loc Cert.NormInForwardReferenceIdeal.main_arg2) = m' ((c.tc : Thread Cert.NormInForwardReferenceIdeal.nD Cert.NormInForwardReferenceIdeal.τ).loc Cert.NormInForwardReferenceIdeal.main_arg2))

def preserves_Ple_PleIdeal : Prop :=
  True

def algebraic_PleIdeal_PleReferenceIdeal_pre_finite_ple [hPleIdeal : Cert.PleIdeal.Facts] [hPleReferenceIdeal : Cert.PleReferenceIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal_finite_ple m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)) (v2 : (c : Dev Cert.PleIdeal.nD) → Buf (Elt Ideal) ((c.tc : Thread Cert.PleIdeal.nD Cert.PleIdeal.τ).loc Cert.PleIdeal.main_v5_2)) (v3 : (c : Dev Cert.PleIdeal.nD) → Buf (Elt Ideal) ((c.tc : Thread Cert.PleIdeal.nD Cert.PleIdeal.τ).loc Cert.PleIdeal.main_v5_3)) (v4 : (c : Dev Cert.PleIdeal.nD) → Buf (Elt Ideal) ((c.tc : Thread Cert.PleIdeal.nD Cert.PleIdeal.τ).loc Cert.PleIdeal.main_v3_0)) (v5 : (c : Dev Cert.PleIdeal.nD) → Buf (Elt Ideal) ((c.tc : Thread Cert.PleIdeal.nD Cert.PleIdeal.τ).loc Cert.PleIdeal.main_v3_1)) (v6 : (c : Dev Cert.PleIdeal.nD) → Buf (Elt Ideal) ((c.tc : Thread Cert.PleIdeal.nD Cert.PleIdeal.τ).loc Cert.PleIdeal.main_v3_2)) (v7 : (c : Dev Cert.PleIdeal.nD) → Buf (Elt Ideal) ((c.tc : Thread Cert.PleIdeal.nD Cert.PleIdeal.τ).loc Cert.PleIdeal.main_v3_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_v5_2) = v2 c
          ∧ r.2.mem ((c.tc : Thread Cert.PleIdeal.nD Cert.PleIdeal.τ).loc Cert.PleIdeal.main_v5_3) = v3 c
          ∧ r.2.mem ((c.tc : Thread Cert.PleIdeal.nD Cert.PleIdeal.τ).loc Cert.PleIdeal.main_v3_0) = v4 c
          ∧ r.2.mem ((c.tc : Thread Cert.PleIdeal.nD Cert.PleIdeal.τ).loc Cert.PleIdeal.main_v3_1) = v5 c
          ∧ r.2.mem ((c.tc : Thread Cert.PleIdeal.nD Cert.PleIdeal.τ).loc Cert.PleIdeal.main_v3_2) = v6 c
          ∧ r.2.mem ((c.tc : Thread Cert.PleIdeal.nD Cert.PleIdeal.τ).loc Cert.PleIdeal.main_v3_3) = v7 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v54) = v0 c
          ∧ r.2.mem ((c.tc : Thread Cert.PleReferenceIdeal.nD Cert.PleReferenceIdeal.τ).loc Cert.PleReferenceIdeal.main_v55) = v1 c
          ∧ r.2.mem ((c.tc : Thread Cert.PleReferenceIdeal.nD Cert.PleReferenceIdeal.τ).loc Cert.PleReferenceIdeal.main_v56) = v2 c
          ∧ r.2.mem ((c.tc : Thread Cert.PleReferenceIdeal.nD Cert.PleReferenceIdeal.τ).loc Cert.PleReferenceIdeal.main_v57) = v3 c
          ∧ r.2.mem ((c.tc : Thread Cert.PleReferenceIdeal.nD Cert.PleReferenceIdeal.τ).loc Cert.PleReferenceIdeal.main_v58) = v4 c
          ∧ r.2.mem ((c.tc : Thread Cert.PleReferenceIdeal.nD Cert.PleReferenceIdeal.τ).loc Cert.PleReferenceIdeal.main_v59) = v5 c
          ∧ r.2.mem ((c.tc : Thread Cert.PleReferenceIdeal.nD Cert.PleReferenceIdeal.τ).loc Cert.PleReferenceIdeal.main_v60) = v6 c
          ∧ r.2.mem ((c.tc : Thread Cert.PleReferenceIdeal.nD Cert.PleReferenceIdeal.τ).loc Cert.PleReferenceIdeal.main_v28) = v7 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_MixOut_MixOutIdeal : Prop :=
  True

def algebraic_MixOutIdeal_MixOutReferenceIdeal_pre_finite_mix_out [hMixOutIdeal : Cert.MixOutIdeal.Facts] [hMixOutReferenceIdeal : Cert.MixOutReferenceIdeal.Facts] [hPre_finite_mix_out : Cert.Pre_finite_mix_out.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal_finite_mix_out m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v8_0)) (v1 : (c : Dev Cert.MixOutIdeal.nD) → Buf (Elt Ideal) ((c.tc : Thread Cert.MixOutIdeal.nD Cert.MixOutIdeal.τ).loc Cert.MixOutIdeal.main_v8_1)) (v2 : (c : Dev Cert.MixOutIdeal.nD) → Buf (Elt Ideal) ((c.tc : Thread Cert.MixOutIdeal.nD Cert.MixOutIdeal.τ).loc Cert.MixOutIdeal.main_v8_2)) (v3 : (c : Dev Cert.MixOutIdeal.nD) → Buf (Elt Ideal) ((c.tc : Thread Cert.MixOutIdeal.nD Cert.MixOutIdeal.τ).loc Cert.MixOutIdeal.main_v8_3)) (v4 : (c : Dev Cert.MixOutIdeal.nD) → Buf (Elt Ideal) ((c.tc : Thread Cert.MixOutIdeal.nD Cert.MixOutIdeal.τ).loc Cert.MixOutIdeal.main_v8_4)) (v5 : (c : Dev Cert.MixOutIdeal.nD) → Buf (Elt Ideal) ((c.tc : Thread Cert.MixOutIdeal.nD Cert.MixOutIdeal.τ).loc Cert.MixOutIdeal.main_v4_0)) (v6 : (c : Dev Cert.MixOutIdeal.nD) → Buf (Elt Ideal) ((c.tc : Thread Cert.MixOutIdeal.nD Cert.MixOutIdeal.τ).loc Cert.MixOutIdeal.main_v4_1)) (v7 : (c : Dev Cert.MixOutIdeal.nD) → Buf (Elt Ideal) ((c.tc : Thread Cert.MixOutIdeal.nD Cert.MixOutIdeal.τ).loc Cert.MixOutIdeal.main_v4_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v8_0) = v0 c
          ∧ r.2.mem ((c.tc : Thread Cert.MixOutIdeal.nD Cert.MixOutIdeal.τ).loc Cert.MixOutIdeal.main_v8_1) = v1 c
          ∧ r.2.mem ((c.tc : Thread Cert.MixOutIdeal.nD Cert.MixOutIdeal.τ).loc Cert.MixOutIdeal.main_v8_2) = v2 c
          ∧ r.2.mem ((c.tc : Thread Cert.MixOutIdeal.nD Cert.MixOutIdeal.τ).loc Cert.MixOutIdeal.main_v8_3) = v3 c
          ∧ r.2.mem ((c.tc : Thread Cert.MixOutIdeal.nD Cert.MixOutIdeal.τ).loc Cert.MixOutIdeal.main_v8_4) = v4 c
          ∧ r.2.mem ((c.tc : Thread Cert.MixOutIdeal.nD Cert.MixOutIdeal.τ).loc Cert.MixOutIdeal.main_v4_0) = v5 c
          ∧ r.2.mem ((c.tc : Thread Cert.MixOutIdeal.nD Cert.MixOutIdeal.τ).loc Cert.MixOutIdeal.main_v4_1) = v6 c
          ∧ r.2.mem ((c.tc : Thread Cert.MixOutIdeal.nD Cert.MixOutIdeal.τ).loc Cert.MixOutIdeal.main_v4_2) = v7 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v116) = v0 c
          ∧ r.2.mem ((c.tc : Thread Cert.MixOutReferenceIdeal.nD Cert.MixOutReferenceIdeal.τ).loc Cert.MixOutReferenceIdeal.main_v118) = v1 c
          ∧ r.2.mem ((c.tc : Thread Cert.MixOutReferenceIdeal.nD Cert.MixOutReferenceIdeal.τ).loc Cert.MixOutReferenceIdeal.main_v119) = v2 c
          ∧ r.2.mem ((c.tc : Thread Cert.MixOutReferenceIdeal.nD Cert.MixOutReferenceIdeal.τ).loc Cert.MixOutReferenceIdeal.main_v120) = v3 c
          ∧ r.2.mem ((c.tc : Thread Cert.MixOutReferenceIdeal.nD Cert.MixOutReferenceIdeal.τ).loc Cert.MixOutReferenceIdeal.main_v121) = v4 c
          ∧ r.2.mem ((c.tc : Thread Cert.MixOutReferenceIdeal.nD Cert.MixOutReferenceIdeal.τ).loc Cert.MixOutReferenceIdeal.main_v122) = v5 c
          ∧ r.2.mem ((c.tc : Thread Cert.MixOutReferenceIdeal.nD Cert.MixOutReferenceIdeal.τ).loc Cert.MixOutReferenceIdeal.main_v123) = v6 c
          ∧ r.2.mem ((c.tc : Thread Cert.MixOutReferenceIdeal.nD Cert.MixOutReferenceIdeal.τ).loc Cert.MixOutReferenceIdeal.main_v124) = v7 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6))

def preserves_FfnOut_FfnOutIdeal : Prop :=
  True

def algebraic_FfnOutIdeal_FfnOutReferenceIdeal_pre_finite_ffn_out [hFfnOutIdeal : Cert.FfnOutIdeal.Facts] [hFfnOutReferenceIdeal : Cert.FfnOutReferenceIdeal.Facts] [hPre_finite_ffn_out : Cert.Pre_finite_ffn_out.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal_finite_ffn_out m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)
      ∧ m' ((c.tc : Thread Cert.FfnOutReferenceIdeal.nD Cert.FfnOutReferenceIdeal.τ).loc Cert.FfnOutReferenceIdeal.main_arg3) = m ((c.tc : Thread Cert.FfnOutIdeal.nD Cert.FfnOutIdeal.τ).loc Cert.FfnOutIdeal.main_arg3)
      ∧ m' ((c.tc : Thread Cert.FfnOutReferenceIdeal.nD Cert.FfnOutReferenceIdeal.τ).loc Cert.FfnOutReferenceIdeal.main_arg4) = m ((c.tc : Thread Cert.FfnOutIdeal.nD Cert.FfnOutIdeal.τ).loc Cert.FfnOutIdeal.main_arg4)
      ∧ m' ((c.tc : Thread Cert.FfnOutReferenceIdeal.nD Cert.FfnOutReferenceIdeal.τ).loc Cert.FfnOutReferenceIdeal.main_arg5) = m ((c.tc : Thread Cert.FfnOutIdeal.nD Cert.FfnOutIdeal.τ).loc Cert.FfnOutIdeal.main_arg5)
      ∧ m' ((c.tc : Thread Cert.FfnOutReferenceIdeal.nD Cert.FfnOutReferenceIdeal.τ).loc Cert.FfnOutReferenceIdeal.main_arg6) = m ((c.tc : Thread Cert.FfnOutIdeal.nD Cert.FfnOutIdeal.τ).loc Cert.FfnOutIdeal.main_arg6)) →
    ∃ (v0 : (c : Dev Cert.FfnOutIdeal.nD) → Buf (Elt Ideal) ((c.tc : Thread Cert.FfnOutIdeal.nD Cert.FfnOutIdeal.τ).loc Cert.FfnOutIdeal.main_v10_0)) (v1 : (c : Dev Cert.FfnOutIdeal.nD) → Buf (Elt Ideal) ((c.tc : Thread Cert.FfnOutIdeal.nD Cert.FfnOutIdeal.τ).loc Cert.FfnOutIdeal.main_v10_1)) (v2 : (c : Dev Cert.FfnOutIdeal.nD) → Buf (Elt Ideal) ((c.tc : Thread Cert.FfnOutIdeal.nD Cert.FfnOutIdeal.τ).loc Cert.FfnOutIdeal.main_v10_2)) (v3 : (c : Dev Cert.FfnOutIdeal.nD) → Buf (Elt Ideal) ((c.tc : Thread Cert.FfnOutIdeal.nD Cert.FfnOutIdeal.τ).loc Cert.FfnOutIdeal.main_v10_3)) (v4 : (c : Dev Cert.FfnOutIdeal.nD) → Buf (Elt Ideal) ((c.tc : Thread Cert.FfnOutIdeal.nD Cert.FfnOutIdeal.τ).loc Cert.FfnOutIdeal.main_v10_4)) (v5 : (c : Dev Cert.FfnOutIdeal.nD) → Buf (Elt Ideal) ((c.tc : Thread Cert.FfnOutIdeal.nD Cert.FfnOutIdeal.τ).loc Cert.FfnOutIdeal.main_v6_0)) (v6 : (c : Dev Cert.FfnOutIdeal.nD) → Buf (Elt Ideal) ((c.tc : Thread Cert.FfnOutIdeal.nD Cert.FfnOutIdeal.τ).loc Cert.FfnOutIdeal.main_v6_1)) (v7 : (c : Dev Cert.FfnOutIdeal.nD) → Buf (Elt Ideal) ((c.tc : Thread Cert.FfnOutIdeal.nD Cert.FfnOutIdeal.τ).loc Cert.FfnOutIdeal.main_v6_2)) (v8 : (c : Dev Cert.FfnOutIdeal.nD) → Buf (Elt Ideal) ((c.tc : Thread Cert.FfnOutIdeal.nD Cert.FfnOutIdeal.τ).loc Cert.FfnOutIdeal.main_v8_0)) (v9 : (c : Dev Cert.FfnOutIdeal.nD) → Buf (Elt Ideal) ((c.tc : Thread Cert.FfnOutIdeal.nD Cert.FfnOutIdeal.τ).loc Cert.FfnOutIdeal.main_v8_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v10_0) = v0 c
          ∧ r.2.mem ((c.tc : Thread Cert.FfnOutIdeal.nD Cert.FfnOutIdeal.τ).loc Cert.FfnOutIdeal.main_v10_1) = v1 c
          ∧ r.2.mem ((c.tc : Thread Cert.FfnOutIdeal.nD Cert.FfnOutIdeal.τ).loc Cert.FfnOutIdeal.main_v10_2) = v2 c
          ∧ r.2.mem ((c.tc : Thread Cert.FfnOutIdeal.nD Cert.FfnOutIdeal.τ).loc Cert.FfnOutIdeal.main_v10_3) = v3 c
          ∧ r.2.mem ((c.tc : Thread Cert.FfnOutIdeal.nD Cert.FfnOutIdeal.τ).loc Cert.FfnOutIdeal.main_v10_4) = v4 c
          ∧ r.2.mem ((c.tc : Thread Cert.FfnOutIdeal.nD Cert.FfnOutIdeal.τ).loc Cert.FfnOutIdeal.main_v6_0) = v5 c
          ∧ r.2.mem ((c.tc : Thread Cert.FfnOutIdeal.nD Cert.FfnOutIdeal.τ).loc Cert.FfnOutIdeal.main_v6_1) = v6 c
          ∧ r.2.mem ((c.tc : Thread Cert.FfnOutIdeal.nD Cert.FfnOutIdeal.τ).loc Cert.FfnOutIdeal.main_v6_2) = v7 c
          ∧ r.2.mem ((c.tc : Thread Cert.FfnOutIdeal.nD Cert.FfnOutIdeal.τ).loc Cert.FfnOutIdeal.main_v8_0) = v8 c
          ∧ r.2.mem ((c.tc : Thread Cert.FfnOutIdeal.nD Cert.FfnOutIdeal.τ).loc Cert.FfnOutIdeal.main_v8_1) = v9 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4)
          ∧ r.2.mem ((c.tc : Thread Cert.FfnOutIdeal.nD Cert.FfnOutIdeal.τ).loc Cert.FfnOutIdeal.main_arg5) = m ((c.tc : Thread Cert.FfnOutIdeal.nD Cert.FfnOutIdeal.τ).loc Cert.FfnOutIdeal.main_arg5)
          ∧ r.2.mem ((c.tc : Thread Cert.FfnOutIdeal.nD Cert.FfnOutIdeal.τ).loc Cert.FfnOutIdeal.main_arg6) = m ((c.tc : Thread Cert.FfnOutIdeal.nD Cert.FfnOutIdeal.τ).loc Cert.FfnOutIdeal.main_arg6))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v58) = v0 c
          ∧ r.2.mem ((c.tc : Thread Cert.FfnOutReferenceIdeal.nD Cert.FfnOutReferenceIdeal.τ).loc Cert.FfnOutReferenceIdeal.main_v59) = v1 c
          ∧ r.2.mem ((c.tc : Thread Cert.FfnOutReferenceIdeal.nD Cert.FfnOutReferenceIdeal.τ).loc Cert.FfnOutReferenceIdeal.main_v60) = v2 c
          ∧ r.2.mem ((c.tc : Thread Cert.FfnOutReferenceIdeal.nD Cert.FfnOutReferenceIdeal.τ).loc Cert.FfnOutReferenceIdeal.main_v61) = v3 c
          ∧ r.2.mem ((c.tc : Thread Cert.FfnOutReferenceIdeal.nD Cert.FfnOutReferenceIdeal.τ).loc Cert.FfnOutReferenceIdeal.main_v62) = v4 c
          ∧ r.2.mem ((c.tc : Thread Cert.FfnOutReferenceIdeal.nD Cert.FfnOutReferenceIdeal.τ).loc Cert.FfnOutReferenceIdeal.main_v63) = v5 c
          ∧ r.2.mem ((c.tc : Thread Cert.FfnOutReferenceIdeal.nD Cert.FfnOutReferenceIdeal.τ).loc Cert.FfnOutReferenceIdeal.main_v64) = v6 c
          ∧ r.2.mem ((c.tc : Thread Cert.FfnOutReferenceIdeal.nD Cert.FfnOutReferenceIdeal.τ).loc Cert.FfnOutReferenceIdeal.main_v65) = v7 c
          ∧ r.2.mem ((c.tc : Thread Cert.FfnOutReferenceIdeal.nD Cert.FfnOutReferenceIdeal.τ).loc Cert.FfnOutReferenceIdeal.main_v66) = v8 c
          ∧ r.2.mem ((c.tc : Thread Cert.FfnOutReferenceIdeal.nD Cert.FfnOutReferenceIdeal.τ).loc Cert.FfnOutReferenceIdeal.main_v67) = v9 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2)
          ∧ r.2.mem ((c.tc : Thread Cert.FfnOutReferenceIdeal.nD Cert.FfnOutReferenceIdeal.τ).loc Cert.FfnOutReferenceIdeal.main_arg3) = m' ((c.tc : Thread Cert.FfnOutReferenceIdeal.nD Cert.FfnOutReferenceIdeal.τ).loc Cert.FfnOutReferenceIdeal.main_arg3)
          ∧ r.2.mem ((c.tc : Thread Cert.FfnOutReferenceIdeal.nD Cert.FfnOutReferenceIdeal.τ).loc Cert.FfnOutReferenceIdeal.main_arg4) = m' ((c.tc : Thread Cert.FfnOutReferenceIdeal.nD Cert.FfnOutReferenceIdeal.τ).loc Cert.FfnOutReferenceIdeal.main_arg4)
          ∧ r.2.mem ((c.tc : Thread Cert.FfnOutReferenceIdeal.nD Cert.FfnOutReferenceIdeal.τ).loc Cert.FfnOutReferenceIdeal.main_arg5) = m' ((c.tc : Thread Cert.FfnOutReferenceIdeal.nD Cert.FfnOutReferenceIdeal.τ).loc Cert.FfnOutReferenceIdeal.main_arg5)
          ∧ r.2.mem ((c.tc : Thread Cert.FfnOutReferenceIdeal.nD Cert.FfnOutReferenceIdeal.τ).loc Cert.FfnOutReferenceIdeal.main_arg6) = m' ((c.tc : Thread Cert.FfnOutReferenceIdeal.nD Cert.FfnOutReferenceIdeal.τ).loc Cert.FfnOutReferenceIdeal.main_arg6))

def preserves_GmForward_GmForwardIdeal : Prop :=
  IdealRules.named_const.Statement Cert.GmForwardIdeal.κ "c1" .f32 0x3D372713#32 ((8943 / 200000 : ℝ) : EReal)

def algebraic_GmForwardIdeal_GmForwardReferenceIdeal [hGmForwardIdeal : Cert.GmForwardIdeal.Facts] [hGmForwardReferenceIdeal : Cert.GmForwardReferenceIdeal.Facts] : Prop :=
  ∀ (m : (ℓ : Loc Cert.GmForwardIdeal.nD Cert.GmForwardIdeal.τ Cert.GmForwardIdeal.sig) → Buf (Elt Ideal) ℓ) (g : Dev Cert.GmForwardIdeal.nD → PrngReg)
    (m' : (ℓ : Loc Cert.GmForwardReferenceIdeal.nD Cert.GmForwardReferenceIdeal.τ Cert.GmForwardReferenceIdeal.sig) → Buf (Elt Ideal) ℓ) (g' : Dev Cert.GmForwardReferenceIdeal.nD → PrngReg), Pre_GmForwardIdeal m →
    (∀ c : Dev Cert.GmForwardIdeal.nD,
      m' ((c.tc : Thread Cert.GmForwardReferenceIdeal.nD Cert.GmForwardReferenceIdeal.τ).loc Cert.GmForwardReferenceIdeal.main_arg0) = m ((c.tc : Thread Cert.GmForwardIdeal.nD Cert.GmForwardIdeal.τ).loc Cert.GmForwardIdeal.main_arg0)
      ∧ m' ((c.tc : Thread Cert.GmForwardReferenceIdeal.nD Cert.GmForwardReferenceIdeal.τ).loc Cert.GmForwardReferenceIdeal.main_arg1) = m ((c.tc : Thread Cert.GmForwardIdeal.nD Cert.GmForwardIdeal.τ).loc Cert.GmForwardIdeal.main_arg1)
      ∧ m' ((c.tc : Thread Cert.GmForwardReferenceIdeal.nD Cert.GmForwardReferenceIdeal.τ).loc Cert.GmForwardReferenceIdeal.main_arg2) = m ((c.tc : Thread Cert.GmForwardIdeal.nD Cert.GmForwardIdeal.τ).loc Cert.GmForwardIdeal.main_arg2)
      ∧ m' ((c.tc : Thread Cert.GmForwardReferenceIdeal.nD Cert.GmForwardReferenceIdeal.τ).loc Cert.GmForwardReferenceIdeal.main_arg3) = m ((c.tc : Thread Cert.GmForwardIdeal.nD Cert.GmForwardIdeal.τ).loc Cert.GmForwardIdeal.main_arg3)
      ∧ m' ((c.tc : Thread Cert.GmForwardReferenceIdeal.nD Cert.GmForwardReferenceIdeal.τ).loc Cert.GmForwardReferenceIdeal.main_arg4) = m ((c.tc : Thread Cert.GmForwardIdeal.nD Cert.GmForwardIdeal.τ).loc Cert.GmForwardIdeal.main_arg4)
      ∧ m' ((c.tc : Thread Cert.GmForwardReferenceIdeal.nD Cert.GmForwardReferenceIdeal.τ).loc Cert.GmForwardReferenceIdeal.main_arg5) = m ((c.tc : Thread Cert.GmForwardIdeal.nD Cert.GmForwardIdeal.τ).loc Cert.GmForwardIdeal.main_arg5)) →
    ∃ (v0 : (c : Dev Cert.GmForwardIdeal.nD) → Buf (Elt Ideal) ((c.tc : Thread Cert.GmForwardIdeal.nD Cert.GmForwardIdeal.τ).loc Cert.GmForwardIdeal.main_v38)),
      θ_run (Cert.GmForwardIdeal.defs (F := Ideal)) (onTc (τ := Cert.GmForwardIdeal.τ) (Cert.GmForwardIdeal.main (F := Ideal))) ⟨m, fun _ => 0, g⟩ (fun r => ∀ c : Dev Cert.GmForwardIdeal.nD,
          r.2.mem ((c.tc : Thread Cert.GmForwardIdeal.nD Cert.GmForwardIdeal.τ).loc Cert.GmForwardIdeal.main_v38) = v0 c
          ∧ r.2.mem ((c.tc : Thread Cert.GmForwardIdeal.nD Cert.GmForwardIdeal.τ).loc Cert.GmForwardIdeal.main_arg0) = m ((c.tc : Thread Cert.GmForwardIdeal.nD Cert.GmForwardIdeal.τ).loc Cert.GmForwardIdeal.main_arg0)
          ∧ r.2.mem ((c.tc : Thread Cert.GmForwardIdeal.nD Cert.GmForwardIdeal.τ).loc Cert.GmForwardIdeal.main_arg1) = m ((c.tc : Thread Cert.GmForwardIdeal.nD Cert.GmForwardIdeal.τ).loc Cert.GmForwardIdeal.main_arg1)
          ∧ r.2.mem ((c.tc : Thread Cert.GmForwardIdeal.nD Cert.GmForwardIdeal.τ).loc Cert.GmForwardIdeal.main_arg2) = m ((c.tc : Thread Cert.GmForwardIdeal.nD Cert.GmForwardIdeal.τ).loc Cert.GmForwardIdeal.main_arg2)
          ∧ r.2.mem ((c.tc : Thread Cert.GmForwardIdeal.nD Cert.GmForwardIdeal.τ).loc Cert.GmForwardIdeal.main_arg3) = m ((c.tc : Thread Cert.GmForwardIdeal.nD Cert.GmForwardIdeal.τ).loc Cert.GmForwardIdeal.main_arg3)
          ∧ r.2.mem ((c.tc : Thread Cert.GmForwardIdeal.nD Cert.GmForwardIdeal.τ).loc Cert.GmForwardIdeal.main_arg4) = m ((c.tc : Thread Cert.GmForwardIdeal.nD Cert.GmForwardIdeal.τ).loc Cert.GmForwardIdeal.main_arg4)
          ∧ r.2.mem ((c.tc : Thread Cert.GmForwardIdeal.nD Cert.GmForwardIdeal.τ).loc Cert.GmForwardIdeal.main_arg5) = m ((c.tc : Thread Cert.GmForwardIdeal.nD Cert.GmForwardIdeal.τ).loc Cert.GmForwardIdeal.main_arg5))
      ∧ θ_run (Cert.GmForwardReferenceIdeal.defs (F := Ideal)) (onTc (τ := Cert.GmForwardReferenceIdeal.τ) (Cert.GmForwardReferenceIdeal.main (F := Ideal))) ⟨m', fun _ => 0, g'⟩ (fun r => ∀ c : Dev Cert.GmForwardReferenceIdeal.nD,
          r.2.mem ((c.tc : Thread Cert.GmForwardReferenceIdeal.nD Cert.GmForwardReferenceIdeal.τ).loc Cert.GmForwardReferenceIdeal.main_v70) = v0 c
          ∧ r.2.mem ((c.tc : Thread Cert.GmForwardReferenceIdeal.nD Cert.GmForwardReferenceIdeal.τ).loc Cert.GmForwardReferenceIdeal.main_arg0) = m' ((c.tc : Thread Cert.GmForwardReferenceIdeal.nD Cert.GmForwardReferenceIdeal.τ).loc Cert.GmForwardReferenceIdeal.main_arg0)
          ∧ r.2.mem ((c.tc : Thread Cert.GmForwardReferenceIdeal.nD Cert.GmForwardReferenceIdeal.τ).loc Cert.GmForwardReferenceIdeal.main_arg1) = m' ((c.tc : Thread Cert.GmForwardReferenceIdeal.nD Cert.GmForwardReferenceIdeal.τ).loc Cert.GmForwardReferenceIdeal.main_arg1)
          ∧ r.2.mem ((c.tc : Thread Cert.GmForwardReferenceIdeal.nD Cert.GmForwardReferenceIdeal.τ).loc Cert.GmForwardReferenceIdeal.main_arg2) = m' ((c.tc : Thread Cert.GmForwardReferenceIdeal.nD Cert.GmForwardReferenceIdeal.τ).loc Cert.GmForwardReferenceIdeal.main_arg2)
          ∧ r.2.mem ((c.tc : Thread Cert.GmForwardReferenceIdeal.nD Cert.GmForwardReferenceIdeal.τ).loc Cert.GmForwardReferenceIdeal.main_arg3) = m' ((c.tc : Thread Cert.GmForwardReferenceIdeal.nD Cert.GmForwardReferenceIdeal.τ).loc Cert.GmForwardReferenceIdeal.main_arg3)
          ∧ r.2.mem ((c.tc : Thread Cert.GmForwardReferenceIdeal.nD Cert.GmForwardReferenceIdeal.τ).loc Cert.GmForwardReferenceIdeal.main_arg4) = m' ((c.tc : Thread Cert.GmForwardReferenceIdeal.nD Cert.GmForwardReferenceIdeal.τ).loc Cert.GmForwardReferenceIdeal.main_arg4)
          ∧ r.2.mem ((c.tc : Thread Cert.GmForwardReferenceIdeal.nD Cert.GmForwardReferenceIdeal.τ).loc Cert.GmForwardReferenceIdeal.main_arg5) = m' ((c.tc : Thread Cert.GmForwardReferenceIdeal.nD Cert.GmForwardReferenceIdeal.τ).loc Cert.GmForwardReferenceIdeal.main_arg5))

def preserves_PleLoss_PleLossIdeal : Prop :=
  True

def algebraic_PleLossIdeal_PleLossReferenceIdeal_pre_finite_ple_loss [hPleLossIdeal : Cert.PleLossIdeal.Facts] [hPleLossReferenceIdeal : Cert.PleLossReferenceIdeal.Facts] [hPre_finite_ple_loss : Cert.Pre_finite_ple_loss.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossReferenceIdeal.nD Cert.PleLossReferenceIdeal.τ Cert.PleLossReferenceIdeal.sig) → Buf (Elt Ideal) ℓ) (g' : Dev Cert.PleLossReferenceIdeal.nD → PrngReg), Pre_PleLossIdeal_finite_ple_loss m →
    (∀ c : Dev Cert.PleLossIdeal.nD,
      m' ((c.tc : Thread Cert.PleLossReferenceIdeal.nD Cert.PleLossReferenceIdeal.τ).loc Cert.PleLossReferenceIdeal.main_arg0) = m ((c.tc : Thread Cert.PleLossIdeal.nD Cert.PleLossIdeal.τ).loc Cert.PleLossIdeal.main_arg0)
      ∧ m' ((c.tc : Thread Cert.PleLossReferenceIdeal.nD Cert.PleLossReferenceIdeal.τ).loc Cert.PleLossReferenceIdeal.main_arg1) = m ((c.tc : Thread Cert.PleLossIdeal.nD Cert.PleLossIdeal.τ).loc Cert.PleLossIdeal.main_arg1)
      ∧ m' ((c.tc : Thread Cert.PleLossReferenceIdeal.nD Cert.PleLossReferenceIdeal.τ).loc Cert.PleLossReferenceIdeal.main_arg2) = m ((c.tc : Thread Cert.PleLossIdeal.nD Cert.PleLossIdeal.τ).loc Cert.PleLossIdeal.main_arg2)
      ∧ m' ((c.tc : Thread Cert.PleLossReferenceIdeal.nD Cert.PleLossReferenceIdeal.τ).loc Cert.PleLossReferenceIdeal.main_arg3) = m ((c.tc : Thread Cert.PleLossIdeal.nD Cert.PleLossIdeal.τ).loc Cert.PleLossIdeal.main_arg3)
      ∧ m' ((c.tc : Thread Cert.PleLossReferenceIdeal.nD Cert.PleLossReferenceIdeal.τ).loc Cert.PleLossReferenceIdeal.main_arg4) = m ((c.tc : Thread Cert.PleLossIdeal.nD Cert.PleLossIdeal.τ).loc Cert.PleLossIdeal.main_arg4)
      ∧ m' ((c.tc : Thread Cert.PleLossReferenceIdeal.nD Cert.PleLossReferenceIdeal.τ).loc Cert.PleLossReferenceIdeal.main_arg5) = m ((c.tc : Thread Cert.PleLossIdeal.nD Cert.PleLossIdeal.τ).loc Cert.PleLossIdeal.main_arg5)) →
    ∃ (v0 : (c : Dev Cert.PleLossIdeal.nD) → Buf (Elt Ideal) ((c.tc : Thread Cert.PleLossIdeal.nD Cert.PleLossIdeal.τ).loc Cert.PleLossIdeal.main_v3_0)) (v1 : (c : Dev Cert.PleLossIdeal.nD) → Buf (Elt Ideal) ((c.tc : Thread Cert.PleLossIdeal.nD Cert.PleLossIdeal.τ).loc Cert.PleLossIdeal.main_v3_1)) (v2 : (c : Dev Cert.PleLossIdeal.nD) → Buf (Elt Ideal) ((c.tc : Thread Cert.PleLossIdeal.nD Cert.PleLossIdeal.τ).loc Cert.PleLossIdeal.main_v3_2)) (v3 : (c : Dev Cert.PleLossIdeal.nD) → Buf (Elt Ideal) ((c.tc : Thread Cert.PleLossIdeal.nD Cert.PleLossIdeal.τ).loc Cert.PleLossIdeal.main_v3_3)) (v4 : (c : Dev Cert.PleLossIdeal.nD) → Buf (Elt Ideal) ((c.tc : Thread Cert.PleLossIdeal.nD Cert.PleLossIdeal.τ).loc Cert.PleLossIdeal.main_v6)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v3_0) = v0 c
          ∧ r.2.mem ((c.tc : Thread Cert.PleLossIdeal.nD Cert.PleLossIdeal.τ).loc Cert.PleLossIdeal.main_v3_1) = v1 c
          ∧ r.2.mem ((c.tc : Thread Cert.PleLossIdeal.nD Cert.PleLossIdeal.τ).loc Cert.PleLossIdeal.main_v3_2) = v2 c
          ∧ r.2.mem ((c.tc : Thread Cert.PleLossIdeal.nD Cert.PleLossIdeal.τ).loc Cert.PleLossIdeal.main_v3_3) = v3 c
          ∧ r.2.mem ((c.tc : Thread Cert.PleLossIdeal.nD Cert.PleLossIdeal.τ).loc Cert.PleLossIdeal.main_v6) = v4 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
          ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5))
      ∧ θ_run (Cert.PleLossReferenceIdeal.defs (F := Ideal)) (onTc (τ := Cert.PleLossReferenceIdeal.τ) (Cert.PleLossReferenceIdeal.main (F := Ideal))) ⟨m', fun _ => 0, g'⟩ (fun r => ∀ c : Dev Cert.PleLossReferenceIdeal.nD,
          r.2.mem ((c.tc : Thread Cert.PleLossReferenceIdeal.nD Cert.PleLossReferenceIdeal.τ).loc Cert.PleLossReferenceIdeal.main_v38) = v0 c
          ∧ r.2.mem ((c.tc : Thread Cert.PleLossReferenceIdeal.nD Cert.PleLossReferenceIdeal.τ).loc Cert.PleLossReferenceIdeal.main_v39) = v1 c
          ∧ r.2.mem ((c.tc : Thread Cert.PleLossReferenceIdeal.nD Cert.PleLossReferenceIdeal.τ).loc Cert.PleLossReferenceIdeal.main_v40) = v2 c
          ∧ r.2.mem ((c.tc : Thread Cert.PleLossReferenceIdeal.nD Cert.PleLossReferenceIdeal.τ).loc Cert.PleLossReferenceIdeal.main_v37) = v3 c
          ∧ r.2.mem ((c.tc : Thread Cert.PleLossReferenceIdeal.nD Cert.PleLossReferenceIdeal.τ).loc Cert.PleLossReferenceIdeal.main_v31) = v4 c
          ∧ r.2.mem ((c.tc : Thread Cert.PleLossReferenceIdeal.nD Cert.PleLossReferenceIdeal.τ).loc Cert.PleLossReferenceIdeal.main_arg0) = m' ((c.tc : Thread Cert.PleLossReferenceIdeal.nD Cert.PleLossReferenceIdeal.τ).loc Cert.PleLossReferenceIdeal.main_arg0)
          ∧ r.2.mem ((c.tc : Thread Cert.PleLossReferenceIdeal.nD Cert.PleLossReferenceIdeal.τ).loc Cert.PleLossReferenceIdeal.main_arg1) = m' ((c.tc : Thread Cert.PleLossReferenceIdeal.nD Cert.PleLossReferenceIdeal.τ).loc Cert.PleLossReferenceIdeal.main_arg1)
          ∧ r.2.mem ((c.tc : Thread Cert.PleLossReferenceIdeal.nD Cert.PleLossReferenceIdeal.τ).loc Cert.PleLossReferenceIdeal.main_arg2) = m' ((c.tc : Thread Cert.PleLossReferenceIdeal.nD Cert.PleLossReferenceIdeal.τ).loc Cert.PleLossReferenceIdeal.main_arg2)
          ∧ r.2.mem ((c.tc : Thread Cert.PleLossReferenceIdeal.nD Cert.PleLossReferenceIdeal.τ).loc Cert.PleLossReferenceIdeal.main_arg3) = m' ((c.tc : Thread Cert.PleLossReferenceIdeal.nD Cert.PleLossReferenceIdeal.τ).loc Cert.PleLossReferenceIdeal.main_arg3)
          ∧ r.2.mem ((c.tc : Thread Cert.PleLossReferenceIdeal.nD Cert.PleLossReferenceIdeal.τ).loc Cert.PleLossReferenceIdeal.main_arg4) = m' ((c.tc : Thread Cert.PleLossReferenceIdeal.nD Cert.PleLossReferenceIdeal.τ).loc Cert.PleLossReferenceIdeal.main_arg4)
          ∧ r.2.mem ((c.tc : Thread Cert.PleLossReferenceIdeal.nD Cert.PleLossReferenceIdeal.τ).loc Cert.PleLossReferenceIdeal.main_arg5) = m' ((c.tc : Thread Cert.PleLossReferenceIdeal.nD Cert.PleLossReferenceIdeal.τ).loc Cert.PleLossReferenceIdeal.main_arg5))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v6) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def Claim : Prop :=
  ∃ (hKernel : Cert.Kernel.Facts) (hKernelIdeal : Cert.KernelIdeal.Facts) (hReferenceIdeal : Cert.ReferenceIdeal.Facts) (hAttnKernel : Cert.AttnKernel.Facts) (hAttnKernelIdeal : Cert.AttnKernelIdeal.Facts) (hAttnReferenceIdeal : Cert.AttnReferenceIdeal.Facts) (hNormIn : Cert.NormIn.Facts) (hNormInIdeal : Cert.NormInIdeal.Facts) (hNormInReferenceIdeal : Cert.NormInReferenceIdeal.Facts) (hNormInForward : Cert.NormInForward.Facts) (hNormInForwardIdeal : Cert.NormInForwardIdeal.Facts) (hNormInForwardReferenceIdeal : Cert.NormInForwardReferenceIdeal.Facts) (hPle : Cert.Ple.Facts) (hPleIdeal : Cert.PleIdeal.Facts) (hPleReferenceIdeal : Cert.PleReferenceIdeal.Facts) (hMixOut : Cert.MixOut.Facts) (hMixOutIdeal : Cert.MixOutIdeal.Facts) (hMixOutReferenceIdeal : Cert.MixOutReferenceIdeal.Facts) (hFfnOut : Cert.FfnOut.Facts) (hFfnOutIdeal : Cert.FfnOutIdeal.Facts) (hFfnOutReferenceIdeal : Cert.FfnOutReferenceIdeal.Facts) (hGmForward : Cert.GmForward.Facts) (hGmForwardIdeal : Cert.GmForwardIdeal.Facts) (hGmForwardReferenceIdeal : Cert.GmForwardReferenceIdeal.Facts) (hPleLoss : Cert.PleLoss.Facts) (hPleLossIdeal : Cert.PleLossIdeal.Facts) (hPleLossReferenceIdeal : Cert.PleLossReferenceIdeal.Facts) (hWeightGrad : Cert.WeightGrad.Facts) (hWeightGradIdeal : Cert.WeightGradIdeal.Facts) (hWeightGradReferenceIdeal : Cert.WeightGradReferenceIdeal.Facts) (hPre_finite : Cert.Pre_finite.Facts) (hPre_finite_attn : Cert.Pre_finite_attn.Facts) (hPre_finite_norm_in : Cert.Pre_finite_norm_in.Facts) (hPre_finite_ple : Cert.Pre_finite_ple.Facts) (hPre_finite_mix_out : Cert.Pre_finite_mix_out.Facts) (hPre_finite_ffn_out : Cert.Pre_finite_ffn_out.Facts) (hPre_finite_ple_loss : Cert.Pre_finite_ple_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_NormIn (hNormIn := hNormIn)
    ∧ quiescent_NormInIdeal (hNormInIdeal := hNormInIdeal)
    ∧ quiescent_NormInIdeal_pre_finite_norm_in (hNormInIdeal := hNormInIdeal) (hPre_finite_norm_in := hPre_finite_norm_in)
    ∧ quiescent_NormInReferenceIdeal (hNormInReferenceIdeal := hNormInReferenceIdeal)
    ∧ quiescent_NormInReferenceIdeal_pre_finite_norm_in (hNormInReferenceIdeal := hNormInReferenceIdeal) (hPre_finite_norm_in := hPre_finite_norm_in)
    ∧ quiescent_NormInForward (hNormInForward := hNormInForward)
    ∧ quiescent_NormInForwardIdeal (hNormInForwardIdeal := hNormInForwardIdeal)
    ∧ quiescent_NormInForwardReferenceIdeal (hNormInForwardReferenceIdeal := hNormInForwardReferenceIdeal)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleReferenceIdeal (hPleReferenceIdeal := hPleReferenceIdeal)
    ∧ quiescent_PleReferenceIdeal_pre_finite_ple (hPleReferenceIdeal := hPleReferenceIdeal) (hPre_finite_ple := hPre_finite_ple)
    ∧ quiescent_MixOut (hMixOut := hMixOut)
    ∧ quiescent_MixOutIdeal (hMixOutIdeal := hMixOutIdeal)
    ∧ quiescent_MixOutIdeal_pre_finite_mix_out (hMixOutIdeal := hMixOutIdeal) (hPre_finite_mix_out := hPre_finite_mix_out)
    ∧ quiescent_MixOutReferenceIdeal (hMixOutReferenceIdeal := hMixOutReferenceIdeal)
    ∧ quiescent_MixOutReferenceIdeal_pre_finite_mix_out (hMixOutReferenceIdeal := hMixOutReferenceIdeal) (hPre_finite_mix_out := hPre_finite_mix_out)
    ∧ quiescent_FfnOut (hFfnOut := hFfnOut)
    ∧ quiescent_FfnOutIdeal (hFfnOutIdeal := hFfnOutIdeal)
    ∧ quiescent_FfnOutIdeal_pre_finite_ffn_out (hFfnOutIdeal := hFfnOutIdeal) (hPre_finite_ffn_out := hPre_finite_ffn_out)
    ∧ quiescent_FfnOutReferenceIdeal (hFfnOutReferenceIdeal := hFfnOutReferenceIdeal)
    ∧ quiescent_FfnOutReferenceIdeal_pre_finite_ffn_out (hFfnOutReferenceIdeal := hFfnOutReferenceIdeal) (hPre_finite_ffn_out := hPre_finite_ffn_out)
    ∧ quiescent_GmForward (hGmForward := hGmForward)
    ∧ quiescent_GmForwardIdeal (hGmForwardIdeal := hGmForwardIdeal)
    ∧ quiescent_GmForwardReferenceIdeal (hGmForwardReferenceIdeal := hGmForwardReferenceIdeal)
    ∧ quiescent_PleLoss (hPleLoss := hPleLoss)
    ∧ quiescent_PleLossIdeal (hPleLossIdeal := hPleLossIdeal)
    ∧ quiescent_PleLossIdeal_pre_finite_ple_loss (hPleLossIdeal := hPleLossIdeal) (hPre_finite_ple_loss := hPre_finite_ple_loss)
    ∧ quiescent_PleLossReferenceIdeal (hPleLossReferenceIdeal := hPleLossReferenceIdeal)
    ∧ quiescent_PleLossReferenceIdeal_pre_finite_ple_loss (hPleLossReferenceIdeal := hPleLossReferenceIdeal) (hPre_finite_ple_loss := hPre_finite_ple_loss)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_NormIn_NormInIdeal
    ∧ algebraic_NormInIdeal_NormInReferenceIdeal_pre_finite_norm_in (hNormInIdeal := hNormInIdeal) (hNormInReferenceIdeal := hNormInReferenceIdeal) (hPre_finite_norm_in := hPre_finite_norm_in)
    ∧ preserves_NormInForward_NormInForwardIdeal
    ∧ algebraic_NormInForwardIdeal_NormInForwardReferenceIdeal (hNormInForwardIdeal := hNormInForwardIdeal) (hNormInForwardReferenceIdeal := hNormInForwardReferenceIdeal)
    ∧ preserves_Ple_PleIdeal
    ∧ algebraic_PleIdeal_PleReferenceIdeal_pre_finite_ple (hPleIdeal := hPleIdeal) (hPleReferenceIdeal := hPleReferenceIdeal) (hPre_finite_ple := hPre_finite_ple)
    ∧ preserves_MixOut_MixOutIdeal
    ∧ algebraic_MixOutIdeal_MixOutReferenceIdeal_pre_finite_mix_out (hMixOutIdeal := hMixOutIdeal) (hMixOutReferenceIdeal := hMixOutReferenceIdeal) (hPre_finite_mix_out := hPre_finite_mix_out)
    ∧ preserves_FfnOut_FfnOutIdeal
    ∧ algebraic_FfnOutIdeal_FfnOutReferenceIdeal_pre_finite_ffn_out (hFfnOutIdeal := hFfnOutIdeal) (hFfnOutReferenceIdeal := hFfnOutReferenceIdeal) (hPre_finite_ffn_out := hPre_finite_ffn_out)
    ∧ preserves_GmForward_GmForwardIdeal
    ∧ algebraic_GmForwardIdeal_GmForwardReferenceIdeal (hGmForwardIdeal := hGmForwardIdeal) (hGmForwardReferenceIdeal := hGmForwardReferenceIdeal)
    ∧ preserves_PleLoss_PleLossIdeal
    ∧ algebraic_PleLossIdeal_PleLossReferenceIdeal_pre_finite_ple_loss (hPleLossIdeal := hPleLossIdeal) (hPleLossReferenceIdeal := hPleLossReferenceIdeal) (hPre_finite_ple_loss := hPre_finite_ple_loss)
    ∧ preserves_WeightGrad_WeightGradIdeal
    ∧ algebraic_WeightGradIdeal_WeightGradReferenceIdeal (hWeightGradIdeal := hWeightGradIdeal) (hWeightGradReferenceIdeal := hWeightGradReferenceIdeal)
-- ==== Pre_finite.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg5 : FVec F S8192x2816 .bf16) (main_arg6 : FVec F S8192x2816 .bf16) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x2816 .bf16 := Host.absf main_arg5
  let main_cst_6 : FVec F S_ .bf16 := constant S_ .bf16 0x7F80#16
  let main_v20 : FVec F S8192x2816 .bf16 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S8192x2816 .bf16 := Host.absf main_arg6
  let main_cst_8 : FVec F S_ .bf16 := constant S_ .bf16 0x7F80#16
  let main_v25 : FVec F S8192x2816 .bf16 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x1024 .f32) (main_arg5 : FVec F S8192x2816 .bf16) (main_arg6 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg5 main_arg6 main_v13 main_v16
-- ==== Pre_finite_attn.lean ====
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩

class Facts : Prop where
  bcast_S_S8192x1792 : S_.BroadcastsInDim S8192x1792 (![] : Fin 0 → Fin S8192x1792.rank)
  reducesTo_S8192x1792_S_d0_1 : S8192x1792.ReducesTo [0, 1] S_
  h_S_ : 0 < S_.numel
  bcast_S_S512 : S_.BroadcastsInDim S512 (![] : Fin 0 → Fin S512.rank)
  reducesTo_S512_S_d0 : S512.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg5 : FVec F S8x128 .f32) (main_arg6 : FVec F S8192x1024 .bf16) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8192x1024 .bf16 := Host.absf main_arg6
  let main_cst_8 : FVec F S_ .bf16 := constant S_ .bf16 0x7F80#16
  let main_v25 : FVec F S8192x1024 .bf16 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1792 .bf16) (main_arg1 : FVec F S8 .f32) (main_arg2 : FVec F S512 .f32) (main_arg3 : FVec F S512 .f32) (main_arg4 : FVec F S8x128x128 .f32) (main_arg5 : FVec F S8x128 .f32) (main_arg6 : FVec F S8192x1024 .bf16) : IVec S_ 1 :=
  let main_v0 : FVec F S8192x1792 .bf16 := Host.absf main_arg0
  let main_cst : FVec F S_ .bf16 := constant S_ .bf16 0x7F80#16
  let main_v1 : FVec F S8192x1792 .bf16 := broadcastInDim S8192x1792 ![] bcast_S_S8192x1792 main_cst
  let main_v2 : IVec S8192x1792 1 := cmpf .olt main_v0 main_v1
  let main_c : IVec S_ 1 := constantI S_ 1 1#1
  let main_v3 : IVec S_ 1 := (fun x v => Host.reduce IntOp.andi x v reducesTo_S8192x1792_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x128x128 .f32 := Host.absf main_arg4
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg5 main_arg6 main_v13 main_v16
-- ==== Pre_finite_ffn_out.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_arg6 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_mix_out.lean ====
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_arg6 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .bf16) (main_arg1 : FVec F S8192x1024 .f32) (main_arg2 : FVec F S512 .f32) (main_arg3 : FVec F S512 .f32) (main_arg4 : FVec F S1024x1024 .f32) (main_arg5 : FVec F S1024 .f32) (main_arg6 : FVec F S8192x1024 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_v13 main_v16
-- ==== Pre_finite_norm_in.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1792 : S_.BroadcastsInDim S1024x1792 (![] : Fin 0 → Fin S1024x1792.rank)
  reducesTo_S1024x1792_S_d0_1 : S1024x1792.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_arg5 : FVec F S8192x256 .f32) (main_arg6 : FVec F S8192x1024 .bf16) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x256 .f32 := Host.absf main_arg5
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x1024 .bf16 := Host.absf main_arg6
  let main_cst_8 : FVec F S_ .bf16 := constant S_ .bf16 0x7F80#16
  let main_v25 : FVec F S8192x1024 .bf16 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x1792 .f32) (main_arg3 : FVec F S8192x1024 .f32) (main_arg4 : FVec F S8192x512 .bf16) (main_arg5 : FVec F S8192x256 .f32) (main_arg6 : FVec F S8192x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1792 .f32 := Host.absf main_arg2
  let main_cst_2 : FVec F S_ .f32 := constant S_ .f32 0x7F800000#32
  let main_v10 : FVec F S1024x1792 .f32 := broadcastInDim S1024x1792 ![] bcast_S_S1024x1792 main_cst_2
  let main_v11 : IVec S1024x1792 1 := cmpf .olt main_v9 main_v10
  let main_c_3 : IVec S_ 1 := constantI S_ 1 1#1
  let main_v12 : IVec S_ 1 := (fun x v => Host.reduce IntOp.andi x v reducesTo_S1024x1792_S_d0_1 h_S_) main_v11 main_c_3
  let main_v13 : IVec S_ 1 := andi main_v8 main_v12
  let main_v14 : FVec F S8192x512 .bf16 := Host.absf main_arg4
  let main_cst_4 : FVec F S_ .bf16 := constant S_ .bf16 0x7F80#16
  let main_v15 : FVec F S8192x512 .bf16 := broadcastInDim S8192x512 ![] bcast_S_S8192x512 main_cst_4
  let main_v16 : IVec S8192x512 1 := cmpf .olt main_v14 main_v15
  fn_part1 (F := F) main_arg5 main_arg6 main_v13 main_v16
-- ==== Pre_finite_ple.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S8192x1024 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x1024 .f32) (main_arg3 : FVec F S8192x256 .f32) (main_arg4 : FVec F S256x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_v13 main_v16
-- ==== Pre_finite_ple_loss.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S8192x1024 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x1024 .f32) (main_arg3 : FVec F S8192x256 .f32) (main_arg4 : FVec F S256x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_v13 main_v16
-- ==== Kernel.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .bf16⟩
  | .hbm, ⟨6, _⟩ => ⟨S8192x2816, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== AttnKernel.lean ====
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S8192x1024 : Shape := ⟨2, ![8192, 1024]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S1x8x128x256 : Shape := ⟨4, ![1, 8, 128, 256]⟩
abbrev S2x8x128x256 : Shape := ⟨4, ![2, 8, 128, 256]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S2x8x256x128 : Shape := ⟨4, ![2, 8, 256, 128]⟩
abbrev S8192x512 : Shape := ⟨2, ![8192, 512]⟩
abbrev S8192x256 : Shape := ⟨2, ![8192, 256]⟩
abbrev S1x128 : Shape := ⟨2, ![1, 128]⟩
abbrev S128x128 : Shape := ⟨2, ![128, 128]⟩
abbrev S128x1024 : Shape := ⟨2, ![128, 1024]⟩
abbrev S128x1792 : Shape := ⟨2, ![128, 1792]⟩
abbrev S1x8x256x128 : Shape := ⟨4, ![1, 8, 256, 128]⟩
abbrev S8x256x128 : Shape := ⟨3, ![8, 256, 128]⟩
abbrev S256x128 : Shape := ⟨2, ![256, 128]⟩
abbrev S1x256x128 : Shape := ⟨3, ![1, 256, 128]⟩
abbrev S1 : Shape := ⟨1, ![1]⟩
abbrev S1x1x256x128 : Shape := ⟨4, ![1, 1, 256, 128]⟩
abbrev S1x1x128 : Shape := ⟨3, ![1, 1, 128]⟩
abbrev S1x1x1 : Shape := ⟨3, ![1, 1, 1]⟩
abbrev S1x1 : Shape := ⟨2, ![1, 1]⟩
abbrev S16x512 : Shape := ⟨2, ![16, 512]⟩
abbrev S16 : Shape := ⟨1, ![16]⟩
abbrev S16x1 : Shape := ⟨2, ![16, 1]⟩
abbrev S16x128 : Shape := ⟨2, ![16, 128]⟩
abbrev S1x128x128 : Shape := ⟨3, ![1, 128, 128]⟩

abbrev nBuf : Space → Nat
  | .hbm => 67
  | .vmem => 36
  | .smem => 1
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S512, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S8192x1024, .bf16⟩
  | .hbm, ⟨7, _⟩ => ⟨S8, .f32⟩
  | .hbm, ⟨8, _⟩ => ⟨S128, .i32⟩
  | .hbm, ⟨9, _⟩ => ⟨S128x1, .i32⟩
  | .hbm, ⟨10, _⟩ => ⟨S256, .i32⟩
  | .hbm, ⟨11, _⟩ => ⟨S1x256, .i32⟩
  | .hbm, ⟨12, _⟩ => ⟨S_, .i32⟩
  | .hbm, ⟨13, _⟩ => ⟨S128x1, .i32⟩
  | .hbm, ⟨14, _⟩ => ⟨S128x1, .i32⟩
  | .hbm, ⟨15, _⟩ => ⟨S128x256, .i32⟩
  | .hbm, ⟨16, _⟩ => ⟨S128x256, .i32⟩
  | .hbm, ⟨17, _⟩ => ⟨S128x256, .i32⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S128x256, .i1⟩
  | .hbm, ⟨25, _⟩ => ⟨S8x1x1, .f32⟩
  | .hbm, ⟨26, _⟩ => ⟨S8x1x1, .f32⟩
  | .hbm, ⟨27, _⟩ => ⟨S128x256, .f32⟩
  | .hbm, ⟨28, _⟩ => ⟨S1x128x256, .f32⟩
  | .hbm, ⟨29, _⟩ => ⟨S8x128x256, .f32⟩
  | .hbm, ⟨30, _⟩ => ⟨S8x128x256, .f32⟩
  | .hbm, ⟨31, _⟩ => ⟨S8x128x256, .f32⟩
  | .hbm, ⟨32, _⟩ => ⟨S_, .i32⟩
  | .hbm, ⟨33, _⟩ => ⟨S1x256, .i32⟩
  | .hbm, ⟨34, _⟩ => ⟨S1x256, .i1⟩
  | .hbm, ⟨35, _⟩ => ⟨S128x256, .i1⟩
  | .hbm, ⟨36, _⟩ => ⟨S128x256, .i1⟩
  | .hbm, ⟨37, _⟩ => ⟨S1x128x256, .i1⟩
  | .hbm, ⟨38, _⟩ => ⟨S_, .f32⟩
  | .hbm, ⟨39, _⟩ => ⟨S_, .f32⟩
  | .hbm, ⟨40, _⟩ => ⟨S8x128x256, .i1⟩
  | .hbm, ⟨41, _⟩ => ⟨S8x128x256, .f32⟩
  | .hbm, ⟨42, _⟩ => ⟨S8x128x256, .f32⟩
  | .hbm, ⟨43, _⟩ => ⟨S1x128x256, .i1⟩
  | .hbm, ⟨44, _⟩ => ⟨S_, .f32⟩
  | .hbm, ⟨45, _⟩ => ⟨S_, .f32⟩
  | .hbm, ⟨46, _⟩ => ⟨S8x128x256, .i1⟩
  | .hbm, ⟨47, _⟩ => ⟨S8x128x256, .f32⟩
  | .hbm, ⟨48, _⟩ => ⟨S8x128x256, .f32⟩
  | .hbm, ⟨49, _⟩ => ⟨S1x8x128x256, .f32⟩
  | .hbm, ⟨50, _⟩ => ⟨S1x8x128x256, .f32⟩
  | .hbm, ⟨51, _⟩ => ⟨S2x8x128x256, .f32⟩
  | .hbm, ⟨52, _⟩ => ⟨S1x512, .f32⟩
  | .hbm, ⟨53, _⟩ => ⟨S1x512, .f32⟩
  | .hbm, ⟨54, _⟩ => ⟨S128x8, .f32⟩
  | .hbm, ⟨55, _⟩ => ⟨S128x8x64, .f32⟩
  | .hbm, ⟨56, _⟩ => ⟨S128x512, .f32⟩
  | .hbm, ⟨57, _⟩ => ⟨S2x8x256x128, .f32⟩
  | .hbm, ⟨58, _⟩ => ⟨S8x128x128, .f32⟩
  | .hbm, ⟨59, _⟩ => ⟨S8192x512, .bf16⟩
  | .hbm, ⟨60, _⟩ => ⟨S8192x256, .f32⟩
  | .hbm, ⟨61, _⟩ => ⟨S8192x1024, .bf16⟩
  | .hbm, ⟨62, _⟩ => ⟨S1x128, .f32⟩
  | .hbm, ⟨63, _⟩ => ⟨S1x512, .f32⟩
  | .hbm, ⟨64, _⟩ => ⟨S1x512, .f32⟩
  | .hbm, ⟨65, _⟩ => ⟨S8x128x128, .f32⟩
  | .hbm, ⟨66, _⟩ => ⟨S128x128, .f32⟩
  | .local _ .vmem, ⟨0, _⟩ => ⟨S128x1024, .bf16⟩
  | .local _ .vmem, ⟨1, _⟩ => ⟨S128x1024, .bf16⟩
  | .local _ .vmem, ⟨2, _⟩ => ⟨S128x1792, .bf16⟩
  | .local _ .vmem, ⟨3, _⟩ => ⟨S128x1792, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S1x8x256x128, .f32⟩
  | .local _ .vmem, ⟨9, _⟩ => ⟨S1x8x256x128, .f32⟩
  | .local _ .vmem, ⟨10, _⟩ => ⟨S1x512, .f32⟩
  | .local _ .vmem, ⟨11, _⟩ => ⟨S1x512, .f32⟩
  | .local _ .vmem, ⟨12, _⟩ => ⟨S8x128x128, .f32⟩
  | .local _ .vmem, ⟨13, _⟩ => ⟨S8x128x128, .f32⟩
  | .local _ .vmem, ⟨14, _⟩ => ⟨S128x512, .f32⟩
  | .local _ .vmem, ⟨15, _⟩ => ⟨S128x512, .bf16⟩
  | .local _ .vmem, ⟨16, _⟩ => ⟨S128x512, .bf16⟩
  | .local _ .vmem, ⟨17, _⟩ => ⟨S8192x256, .f32⟩
  | .local _ .vmem, ⟨18, _⟩ => ⟨S128x1024, .bf16⟩
  | .local _ .vmem, ⟨19, _⟩ => ⟨S128x1024, .bf16⟩
  | .local _ .vmem, ⟨20, _⟩ => ⟨S1x128, .f32⟩
  | .local _ .vmem, ⟨21, _⟩ => ⟨S1x512, .f32⟩
  | .local _ .vmem, ⟨22, _⟩ => ⟨S1x512, .f32⟩
  | .local _ .vmem, ⟨23, _⟩ => ⟨S8x128x128, .f32⟩
  | .local _ .vmem, ⟨24, _⟩ => ⟨S128x128, .f32⟩
  | .local _ .vmem, ⟨25, _⟩ => ⟨S8x256x128, .f32⟩
  | .local _ .vmem, ⟨26, _⟩ => ⟨S8x256x128, .f32⟩
  | .local _ .vmem, ⟨27, _⟩ => ⟨S8x256x128, .bf16⟩
  | .local _ .vmem, ⟨28, _⟩ => ⟨S8x256x128, .bf16⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S128x512, .f32⟩
  | .local _ .vmem, ⟨34, _⟩ => ⟨S128x128, .f32⟩
  | .local _ .vmem, ⟨35, _⟩ => ⟨S128x512, .f32⟩
  | .local _ .smem, ⟨0, _⟩ => ⟨S8, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev main_v39_5 : Ref sig .tc := ⟨.hbm, 64, rfl⟩
abbrev main_v39_6 : Ref sig .tc := ⟨.hbm, 65, rfl⟩
abbrev main_v39_7 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v927 : BitVec 32 := Scalar.muli arg0 c128_i32
  v927
def k0_off1 (i : grid0.Coords) : Fin 2 → Nat :=
  let arg0 : BitVec 32 := BitVec.ofNat 32 (i 0).val
  let c128_i32 : BitVec 32 := 128#32
  let v927 : BitVec 32 := Scalar.muli arg0 c128_i32
  let v928 : BitVec 32 := v927
  let v930 : Index := Scalar.indexCast v928
  let c0_476 : Index := 0#32
  ![v930.toNat, 0]
def k0_off2 (i : grid0.Coords) : Fin 2 → Nat :=
  let arg0 : BitVec 32 := BitVec.ofNat 32 (i 0).val
  let c128_i32 : BitVec 32 := 128#32
  let v927 : BitVec 32 := Scalar.muli arg0 c128_i32
  let v928 : BitVec 32 := v927
  let v933 : Index := Scalar.indexCast v928
  let c128_477 : Index := 128#32
  ![v933.toNat, 128]
def k0_cond1 (i : grid0.Coords) : BitVec 1 :=
  let arg0 : BitVec 32 := BitVec.ofNat 32 (i 0).val
  let c0_i32_478 : BitVec 32 := 0#32
  let v935 : BitVec 1 := Scalar.cmpi .sgt arg0 c0_i32_478
  let v936 : BitVec 32 := Scalar.extui v935
  let c0_i32_479 : BitVec 32 := 0#32
  let v937 : BitVec 1 := Scalar.cmpi .ne v936 c0_i32_479
  v937

def k0_mult2 (i : grid0.Coords) : BitVec 32 :=
  let arg0 : BitVec 32 := BitVec.ofNat 32 (i 0).val
  let c1_i32_1265 : BitVec 32 := 1#32
  let v2644 : BitVec 32 := Scalar.subi arg0 c1_i32_1265
  let c128_i32_1266 : BitVec 32 := 128#32
  let v2645 : BitVec 32 := Scalar.muli v2644 c128_i32_1266
  v2645
def k0_off3 (i : grid0.Coords) : Fin 2 → Nat :=
  let arg0 : BitVec 32 := BitVec.ofNat 32 (i 0).val
  let c1_i32_1265 : BitVec 32 := 1#32
  let v2644 : BitVec 32 := Scalar.subi arg0 c1_i32_1265
  let c128_i32_1266 : BitVec 32 := 128#32
  let v2645 : BitVec 32 := Scalar.muli v2644 c128_i32_1266
  let v2646 : BitVec 32 := v2645
  let v2647 : Index := Scalar.indexCast v2646
  let c0_1267 : Index := 0#32
  ![v2647.toNat, 0]
def k0_off4 (i : grid0.Coords) : Fin 2 → Nat :=
  let arg0 : BitVec 32 := BitVec.ofNat 32 (i 0).val
  let c1_i32_1265 : BitVec 32 := 1#32
  let v2644 : BitVec 32 := Scalar.subi arg0 c1_i32_1265
  let c128_i32_1266 : BitVec 32 := 128#32
  let v2645 : BitVec 32 := Scalar.muli v2644 c128_i32_1266
  let v2646 : BitVec 32 := v2645
  let v2654 : Index := Scalar.indexCast v2646
  let c128_1269 : Index := 128#32
  ![v2654.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8192x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== AttnKernelIdeal.lean ====
variable {F : FTy → Type} [FloatOps F] [Named F]
def κ : String → Option EReal := fun
  | "c1" => some ((8943 / 200000 : ℝ) : EReal)
  | "c3" => some ((26829 / 200000 : ℝ) : EReal)
  | _ => none
-- ==== AttnReferenceIdeal.lean ====
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S8192x1024 : Shape := ⟨2, ![8192, 1024]⟩
abbrev S1x8192x1024 : Shape := ⟨3, ![1, 8192, 1024]⟩
abbrev S1x8192x512 : Shape := ⟨3, ![1, 8192, 512]⟩
abbrev S8192x512 : Shape := ⟨2, ![8192, 512]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x512 : Shape := ⟨2, ![1, 512]⟩
abbrev S8192 : Shape := ⟨1, ![8192]⟩

abbrev nBuf : Space → Nat
  | .hbm => 230
  | .vmem => 0
  | .smem => 0
  | _ => 0

abbrev hbmTy0_0 (i : Nat) : BufTy := match i % 128 with
  | 0 => ⟨S8192x1792, .bf16⟩
  | 1 => ⟨S8, .f32⟩
  | 2 => ⟨S512, .f32⟩
  | 3 => ⟨S512, .f32⟩
  | 4 => ⟨S8x128x128, .f32⟩
  | 5 => ⟨S8x128, .f32⟩
  | 6 => ⟨S8192x1024, .bf16⟩
  | 7 => ⟨S8192x1792, .f32⟩
  | 8 => ⟨S8192x1024, .f32⟩
  | 9 => ⟨S1x8192x1024, .f32⟩
  | 10 => ⟨S1x8192x512, .f32⟩
  | 11 => ⟨S1x8192x512, .f32⟩
  | 12 => ⟨S8192x1024, .f32⟩
  | 13 => ⟨S8192x512, .f32⟩
  | 14 => ⟨S1x8192x512, .f32⟩
  | 15 => ⟨S_, .f32⟩
  | 16 => ⟨S_, .f32⟩
  | 17 => ⟨S_, .f32⟩
  | 18 => ⟨S1x8192x512, .f32⟩
  | 19 => ⟨S1x8192x512, .f32⟩
  | 20 => ⟨S1x8192x512, .f32⟩
  | 21 => ⟨S_, .f32⟩
  | 22 => ⟨S1x8192x512, .f32⟩
  | 23 => ⟨S1x8192x512, .f32⟩
  | 24 => ⟨S1x8192x512, .f32⟩
  | 25 => ⟨S1x8192x512, .f32⟩
  | 26 => ⟨S1x8192x512, .f32⟩
  | 27 => ⟨S_, .f32⟩
  | 28 => ⟨S1x8192x512, .f32⟩
  | 29 => ⟨S1x8192x512, .f32⟩
  | 30 => ⟨S1x8192x512, .f32⟩
  | 31 => ⟨S_, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S1x8192x512, .f32⟩
  | 38 => ⟨S_, .f32⟩
  | 39 => ⟨S1x8192x512, .f32⟩
  | 40 => ⟨S1x8192x512, .f32⟩
  | 41 => ⟨S_, .f32⟩
  | 42 => ⟨S1x8192x512, .f32⟩
  | 43 => ⟨S1x8192x512, .f32⟩
  | 44 => ⟨S1x8192x512, .f32⟩
  | 45 => ⟨S_, .f32⟩
  | 46 => ⟨S_, .f32⟩
  | 47 => ⟨S_, .f32⟩
  | 48 => ⟨S1x8192x512, .f32⟩
  | 49 => ⟨S1x8192x512, .f32⟩
  | 50 => ⟨S1x8192x512, .f32⟩
  | 51 => ⟨S_, .f32⟩
  | 52 => ⟨S1x8192x512, .f32⟩
  | 53 => ⟨S1x8192x512, .f32⟩
  | 54 => ⟨S1x8192x512, .f32⟩
  | 55 => ⟨S1x8192x512, .f32⟩
  | 56 => ⟨S1x8192x512, .f32⟩
  | 57 => ⟨S_, .f32⟩
  | 58 => ⟨S1x8192x512, .f32⟩
  | 59 => ⟨S1x8192x512, .f32⟩
  | 60 => ⟨S1x8192x512, .f32⟩
  | 61 => ⟨S_, .f32⟩
  | 62 => ⟨S1x8192x512, .f32⟩
  | 63 => ⟨S1x8192x512, .f32⟩
  | 64 => ⟨S_, .f32⟩
  | 65 => ⟨S1x8192x512, .f32⟩
  | 66 => ⟨S1x8192x512, .f32⟩
  | 67 => ⟨S1x8192x512, .f32⟩
  | 68 => ⟨S_, .f32⟩
  | 69 => ⟨S1x8192x512, .f32⟩
  | 70 => ⟨S1x8192x512, .f32⟩
  | 71 => ⟨S_, .f32⟩
  | 72 => ⟨S1x8192x512, .f32⟩
  | 73 => ⟨S1x8192x512, .f32⟩
  | 74 => ⟨S1x8192x512, .f32⟩
  | 75 => ⟨S_, .f32⟩
  | 76 => ⟨S1x8192, .f32⟩
  | 77 => ⟨S1x8192x1, .f32⟩
  | 78 => ⟨S_, .f32⟩
  | 79 => ⟨S1x8192x1, .f32⟩
  | 80 => ⟨S1x8192x1, .f32⟩
  | 81 => ⟨S1x8192x512, .f32⟩
  | 82 => ⟨S1x8192x512, .f32⟩
  | 83 => ⟨S1x8192x512, .f32⟩
  | 84 => ⟨S_, .f32⟩
  | 85 => ⟨S1x8192, .f32⟩
  | 86 => ⟨S1x8192x1, .f32⟩
  | 87 => ⟨S_, .f32⟩
  | 88 => ⟨S1x8192x1, .f32⟩
  | 89 => ⟨S1x8192x1, .f32⟩
  | 90 => ⟨S_, .f32⟩
  | 91 => ⟨S1x8192x1, .f32⟩
  | 92 => ⟨S1x8192x1, .f32⟩
  | 93 => ⟨S1x8192x1, .f32⟩
  | 94 => ⟨S1x8192x1, .f32⟩
  | 95 => ⟨S_, .f32⟩
  | 96 => ⟨S1x8192x1, .f32⟩
  | 97 => ⟨S1x8192x1, .f32⟩
  | 98 => ⟨S1x8192x512, .f32⟩
  | 99 => ⟨S1x8192x512, .f32⟩
  | 100 => ⟨S1x1x512, .f32⟩
  | 101 => ⟨S1x8192x512, .f32⟩
  | 102 => ⟨S1x8192x512, .f32⟩
  | 103 => ⟨S1x1x512, .f32⟩
  | 104 => ⟨S1x8192x512, .f32⟩
  | 105 => ⟨S1x8192x512, .f32⟩
  | 106 => ⟨S1x64x128x8x64, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S1x128x128, .i1⟩
  | 119 => ⟨S_, .f32⟩
  | 120 => ⟨S8x128x128, .f32⟩
  | 121 => ⟨S8x128x128, .i1⟩
  | 122 => ⟨S8x128x128, .f32⟩
  | 123 => ⟨S_, .f32⟩
  | 124 => ⟨S8x128x128, .f32⟩
  | 125 => ⟨S8x1x64x64x128, .f32⟩
  | 126 => ⟨S1x64x128x8x64, .f32⟩
  | 127 => ⟨S128x8, .f32⟩
  | _ => ⟨S8192x1792, .bf16⟩

abbrev hbmTy0_1 (i : Nat) : BufTy := match i % 128 with
  | 0 => ⟨S1x1x128x8x1, .f32⟩
  | 1 => ⟨S1x64x128x8x64, .f32⟩
  | 2 => ⟨S1x64x128x8x64, .f32⟩
  | 3 => ⟨S1x8192x512, .f32⟩
  | 4 => ⟨S1x8192x512, .f32⟩
  | 5 => ⟨S1x8192x512, .f32⟩
  | 6 => ⟨S1x8192x512, .f32⟩
  | 7 => ⟨S1x64x128x8x64, .f32⟩
  | 8 => ⟨S_, .f32⟩
  | 9 => ⟨S1x128x8, .f32⟩
  | 10 => ⟨S1x1x128x8x1, .f32⟩
  | 11 => ⟨S_, .f32⟩
  | 12 => ⟨S128x8, .f32⟩
  | 13 => ⟨S8x128, .f32⟩
  | 14 => ⟨S8x1x64x64x128, .f32⟩
  | 15 => ⟨S8x128x128, .f32⟩
  | 16 => ⟨S8x1x64x64x128, .f32⟩
  | 17 => ⟨S1x64x128x8x64, .f32⟩
  | 18 => ⟨S_, .f32⟩
  | 19 => ⟨S8x128x128, .f32⟩
  | 20 => ⟨S8x128x128, .f32⟩
  | 21 => ⟨S1x8192x512, .f32⟩
  | 22 => ⟨S_, .f32⟩
  | 23 => ⟨S1x512, .f32⟩
  | 24 => ⟨S1x1x512, .f32⟩
  | 25 => ⟨S_, .f32⟩
  | 26 => ⟨S512, .f32⟩
  | 27 => ⟨S1x8192x512, .f32⟩
  | 28 => ⟨S_, .f32⟩
  | 29 => ⟨S1x512, .f32⟩
  | 30 => ⟨S1x1x512, .f32⟩
  | 31 => ⟨S1x8192x512, .f32⟩
  | 32 => ⟨S1x8192x512, .f32⟩
  | 33 => ⟨S_, .f32⟩
  | 34 => ⟨S512, .f32⟩
  | 35 => ⟨S1x8192x512, .f32⟩
  | 36 => ⟨S_, .f32⟩
  | 37 => ⟨S1x8192, .f32⟩
  | 38 => ⟨S1x8192x1, .f32⟩
  | 39 => ⟨S1x8192x512, .f32⟩
  | 40 => ⟨S1x8192x512, .f32⟩
  | 41 => ⟨S1x8192x1, .f32⟩
  | 42 => ⟨S_, .f32⟩
  | 43 => ⟨S1x8192x1, .f32⟩
  | 44 => ⟨S1x8192x1, .f32⟩
  | 45 => ⟨S_, .f32⟩
  | 46 => ⟨S8192, .f32⟩
  | 47 => ⟨S1x8192, .f32⟩
  | 48 => ⟨S1x8192x512, .f32⟩
  | 49 => ⟨S1x8192x512, .f32⟩
  | 50 => ⟨S1x8192x512, .f32⟩
  | 51 => ⟨S1x8192x512, .f32⟩
  | 52 => ⟨S1x8192x512, .f32⟩
  | 53 => ⟨S1x8192x512, .f32⟩
  | 54 => ⟨S_, .f32⟩
  | 55 => ⟨S1x8192, .f32⟩
  | 56 => ⟨S1x8192x1, .f32⟩
  | 57 => ⟨S_, .f32⟩
  | 58 => ⟨S1x8192x1, .f32⟩
  | 59 => ⟨S1x8192x1, .f32⟩
  | 60 => ⟨S_, .f32⟩
  | 61 => ⟨S8192, .f32⟩
  | 62 => ⟨S1x8192, .f32⟩
  | 63 => ⟨S1x8192x512, .f32⟩
  | 64 => ⟨S1x8192x512, .f32⟩
  | 65 => ⟨S1x8192x512, .f32⟩
  | 66 => ⟨S1x8192x512, .f32⟩
  | 67 => ⟨S_, .f32⟩
  | 68 => ⟨S1x8192x512, .f32⟩
  | 69 => ⟨S1x8192x512, .f32⟩
  | 70 => ⟨S1x8192x512, .f32⟩
  | 71 => ⟨S_, .f32⟩
  | 72 => ⟨S1x8192x512, .f32⟩
  | 73 => ⟨S1x8192x512, .f32⟩
  | 74 => ⟨S1x8192x512, .f32⟩
  | 75 => ⟨S1x8192x512, .f32⟩
  | 76 => ⟨S1x8192x512, .f32⟩
  | 77 => ⟨S1x8192x512, .f32⟩
  | 78 => ⟨S1x8192x512, .f32⟩
  | 79 => ⟨S1x8192x512, .f32⟩
  | 80 => ⟨S1x8192x512, .f32⟩
  | 81 => ⟨S_, .f32⟩
  | 82 => ⟨S1x8192x512, .f32⟩
  | 83 => ⟨S1x8192x512, .f32⟩
  | 84 => ⟨S1x8192x512, .f32⟩
  | 85 => ⟨S_, .f32⟩
  | 86 => ⟨S1x8192x512, .f32⟩
  | 87 => ⟨S1x8192x512, .f32⟩
  | 88 => ⟨S1x8192x512, .f32⟩
  | 89 => ⟨S1x8192x512, .f32⟩
  | 90 => ⟨S1x8192x512, .f32⟩
  | 91 => ⟨S1x8192x512, .f32⟩
  | 92 => ⟨S1x8192x512, .f32⟩
  | 93 => ⟨S1x8192x1024, .f32⟩
  | 94 => ⟨S8192x1024, .f32⟩
  | 95 => ⟨S8192x1024, .bf16⟩
  | 96 => ⟨S1x512, .f32⟩
  | 97 => ⟨S1x512, .f32⟩
  | 98 => ⟨S128x8, .f32⟩
  | 99 => ⟨S_, .i32⟩
  | 100 => ⟨S_, .f32⟩
  | 101 => ⟨S128x128, .f32⟩
  | _ => ⟨S8192x1792, .bf16⟩

abbrev hbmTy (i : Nat) : BufTy := match i / 128 with
  | 0 => hbmTy0_0 i
  | 1 => hbmTy0_1 i
  | _ => ⟨S8192x1792, .bf16⟩

abbrev bufTy : (tb : Table) → Fin (tcTables nBuf tb) → BufTy
  | .hbm, ⟨i, _⟩ => hbmTy i
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c : Ref sig .tc := ⟨.hbm, 107, rfl⟩
abbrev main_v78 : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_c_0 : Ref sig .tc := ⟨.hbm, 115, rfl⟩
abbrev main_call0_v5 : Ref sig .tc := ⟨.hbm, 116, rfl⟩
abbrev main_v79 : Ref sig .tc := ⟨.hbm, 117, rfl⟩
abbrev main_v80 : Ref sig .tc := ⟨.hbm, 118, rfl⟩
abbrev main_cst_21 : Ref sig .tc := ⟨.hbm, 119, rfl⟩
abbrev main_v81 : Ref sig .tc := ⟨.hbm, 120, rfl⟩
abbrev main_v82_1 : Ref sig .tc := ⟨.hbm, 121, rfl⟩
abbrev main_v82_0 : Ref sig .tc := ⟨.hbm, 122, rfl⟩
abbrev main_call1_cst : Ref sig .tc := ⟨.hbm, 123, rfl⟩
abbrev main_v82_2 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_22 : Ref sig .tc := ⟨.hbm, 136, rfl⟩
abbrev main_v94 : Ref sig .tc := ⟨.hbm, 137, rfl⟩
abbrev main_v95 : Ref sig .tc := ⟨.hbm, 138, rfl⟩
abbrev main_cst_23 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call2_cst : Ref sig .tc := ⟨.hbm, 146, rfl⟩
abbrev main_call2_v0 : Ref sig .tc := ⟨.hbm, 147, rfl⟩
abbrev main_v102 : Ref sig .tc := ⟨.hbm, 148, rfl⟩
abbrev main_v103 : Ref sig .tc := ⟨.hbm, 149, rfl⟩
abbrev main_cst_24 : Ref sig .tc := ⟨.hbm, 150, rfl⟩
abbrev main_v104 : Ref sig .tc := ⟨.hbm, 151, rfl⟩
abbrev main_v105 : Ref sig .tc := ⟨.hbm, 152, rfl⟩
abbrev main_cst_25 : Ref sig .tc := ⟨.hbm, 153, rfl⟩
abbrev main_v106 : Ref sig .tc := ⟨.hbm, 154, rfl⟩
abbrev main_v107 : Ref sig .tc := ⟨.hbm, 155, rfl⟩
abbrev main_cst_26 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_27 : Ref sig .tc := ⟨.hbm, 161, rfl⟩
abbrev main_v112 : Ref sig .tc := ⟨.hbm, 162, rfl⟩
abbrev main_v113 : Ref sig .tc := ⟨.hbm, 163, rfl⟩
abbrev main_cst_28 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_29 : Ref sig .tc := ⟨.hbm, 170, rfl⟩
abbrev main_v119 : Ref sig .tc := ⟨.hbm, 171, rfl⟩
abbrev main_v120 : Ref sig .tc := ⟨.hbm, 172, rfl⟩
abbrev main_cst_30 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_31 : Ref sig .tc := ⟨.hbm, 182, rfl⟩
abbrev main_v129 : Ref sig .tc := ⟨.hbm, 183, rfl⟩
abbrev main_v130 : Ref sig .tc := ⟨.hbm, 184, rfl⟩
abbrev main_cst_32 : Ref sig .tc := ⟨.hbm, 185, rfl⟩
abbrev main_v131 : Ref sig .tc := ⟨.hbm, 186, rfl⟩
abbrev main_v132 : Ref sig .tc := ⟨.hbm, 187, rfl⟩
abbrev main_cst_33 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_34 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_35 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_36 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_37 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_c_38 : Ref sig .tc := ⟨.hbm, 227, rfl⟩
abbrev main_call3_v0 : Ref sig .tc := ⟨.hbm, 228, rfl⟩
abbrev main_v167 : Ref sig .tc := ⟨.hbm, 229, rfl⟩

abbrev nD : Nat := 1
abbrev τ : Topo := Topo.v7x

variable {F : FTy → Type} [FloatOps F]
-- ==== NormIn.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S1792x1024 : Shape := ⟨2, ![1792, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S8192x512, .bf16⟩
  | .hbm, ⟨5, _⟩ => ⟨S8192x256, .f32⟩
  | .hbm, ⟨6, _⟩ => ⟨S8192x1024, .bf16⟩
  | .hbm, ⟨7, _⟩ => ⟨S1792x1024, .f32⟩
  | .hbm, ⟨8, _⟩ => ⟨S1792x1024, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S1792x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormInReferenceIdeal.lean ====
abbrev S8192x1024 : Shape := ⟨2, ![8192, 1024]⟩
abbrev S1024 : Shape := ⟨1, ![1024]⟩
abbrev S1024x1792 : Shape := ⟨2, ![1024, 1792]⟩
abbrev S8192x512 : Shape := ⟨2, ![8192, 512]⟩
abbrev S8192x256 : Shape := ⟨2, ![8192, 256]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S8192x512, .bf16⟩
  | .hbm, ⟨5, _⟩ => ⟨S8192x256, .f32⟩
  | .hbm, ⟨6, _⟩ => ⟨S8192x1024, .bf16⟩
  | .hbm, ⟨7, _⟩ => ⟨S8192x512, .f32⟩
  | .hbm, ⟨8, _⟩ => ⟨S8192x1024, .f32⟩
  | .hbm, ⟨9, _⟩ => ⟨S8192x1792, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1792, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== NormInForward.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x1792, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1792, .bf16⟩
  | .local _ .vmem, ⟨5, _⟩ => ⟨S512x1792, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInForwardReferenceIdeal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1792, .f32⟩
  | .hbm, ⟨20, _⟩ => ⟨S8192x1792, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Ple.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S8192x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1024x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== PleReferenceIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S8192x1024, .bf16⟩
  | .hbm, ⟨74, _⟩ => ⟨S8192x1024, .f32⟩
  | .hbm, ⟨75, _⟩ => ⟨S1x1024, .f32⟩
  | .hbm, ⟨76, _⟩ => ⟨S8192x1024, .bf16⟩
  | .hbm, ⟨77, _⟩ => ⟨S8192x1024, .bf16⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== MixOut.lean ====
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 22
  | .vmem => 31
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S1x1024, .f32⟩
  | .hbm, ⟨15, _⟩ => ⟨S1x512, .f32⟩
  | .hbm, ⟨16, _⟩ => ⟨S1x512, .f32⟩
  | .hbm, ⟨17, _⟩ => ⟨S8192x1024, .bf16⟩
  | .hbm, ⟨18, _⟩ => ⟨S8192x1024, .bf16⟩
  | .hbm, ⟨19, _⟩ => ⟨S1x1024, .f32⟩
  | .hbm, ⟨20, _⟩ => ⟨S1x512, .f32⟩
  | .hbm, ⟨21, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S1x512, .f32⟩
  | .local _ .vmem, ⟨23, _⟩ => ⟨S1x512, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1x1024, .f32⟩
  | .local _ .vmem, ⟨29, _⟩ => ⟨S1x512, .f32⟩
  | .local _ .vmem, ⟨30, _⟩ => ⟨S1x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem10_0 : DmaSem sig := 29
abbrev cc1_sem11_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== MixOutReferenceIdeal.lean ====
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x1024 : Shape := ⟨2, ![1, 1024]⟩

abbrev nBuf : Space → Nat
  | .hbm => 159
  | .vmem => 0
  | .smem => 0
  | _ => 0

abbrev hbmTy0_0 (i : Nat) : BufTy := match i % 128 with
  | 0 => ⟨S8192x1024, .bf16⟩
  | 1 => ⟨S8192x1024, .f32⟩
  | 2 => ⟨S512, .f32⟩
  | 3 => ⟨S512, .f32⟩
  | 4 => ⟨S1024x1024, .f32⟩
  | 5 => ⟨S1024, .f32⟩
  | 6 => ⟨S8192x1024, .f32⟩
  | 7 => ⟨S8192x1024, .f32⟩
  | 8 => ⟨S8192x512, .f32⟩
  | 9 => ⟨S8192x512, .f32⟩
  | 10 => ⟨S8192x512, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x512, .f32⟩
  | 26 => ⟨S8192x512, .f32⟩
  | 27 => ⟨S1x512, .f32⟩
  | 28 => ⟨S8192x512, .f32⟩
  | 29 => ⟨S8192x512, .f32⟩
  | 30 => ⟨S8192x512, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x512, .f32⟩
  | 46 => ⟨S8192x512, .f32⟩
  | 47 => ⟨S1x512, .f32⟩
  | 48 => ⟨S8192x512, .f32⟩
  | 49 => ⟨S8192x512, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S_, .f32⟩
  | 79 => ⟨S1024, .f32⟩
  | 80 => ⟨S8192x1024, .f32⟩
  | 81 => ⟨S_, .f32⟩
  | 82 => ⟨S8192, .f32⟩
  | 83 => ⟨S8192x1, .f32⟩
  | 84 => ⟨S8192x1024, .f32⟩
  | 85 => ⟨S8192x1024, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x512, .f32⟩
  | 99 => ⟨S8192x512, .f32⟩
  | 100 => ⟨S8192x512, .f32⟩
  | 101 => ⟨S_, .f32⟩
  | 102 => ⟨S512, .f32⟩
  | 103 => ⟨S1x512, .f32⟩
  | 104 => ⟨S8192x512, .f32⟩
  | 105 => ⟨S8192x512, .f32⟩
  | 106 => ⟨S_, .f32⟩
  | 107 => ⟨S512, .f32⟩
  | 108 => ⟨S8192x512, .f32⟩
  | 109 => ⟨S_, .f32⟩
  | 110 => ⟨S8192, .f32⟩
  | 111 => ⟨S8192x1, .f32⟩
  | 112 => ⟨S8192x512, .f32⟩
  | 113 => ⟨S8192x512, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S_, .f32⟩
  | 127 => ⟨S512, .f32⟩
  | _ => ⟨S8192x1024, .bf16⟩

abbrev hbmTy0_1 (i : Nat) : BufTy := match i % 128 with
  | 0 => ⟨S1x512, .f32⟩
  | 1 => ⟨S8192x512, .f32⟩
  | 2 => ⟨S8192x512, .f32⟩
  | 3 => ⟨S_, .f32⟩
  | 4 => ⟨S512, .f32⟩
  | 5 => ⟨S8192x512, .f32⟩
  | 6 => ⟨S_, .f32⟩
  | 7 => ⟨S8192, .f32⟩
  | 8 => ⟨S8192x1, .f32⟩
  | 9 => ⟨S8192x512, .f32⟩
  | 10 => ⟨S8192x512, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x1024, .bf16⟩
  | 23 => ⟨S8192x1024, .f32⟩
  | 24 => ⟨S8192x1024, .bf16⟩
  | 25 => ⟨S1x1024, .f32⟩
  | 26 => ⟨S1x512, .f32⟩
  | 27 => ⟨S1x512, .f32⟩
  | 28 => ⟨S8192x1024, .bf16⟩
  | 29 => ⟨S8192x1024, .bf16⟩
  | 30 => ⟨S8192x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_19 : Ref sig .tc := ⟨.hbm, 115, rfl⟩
abbrev main_v88 : Ref sig .tc := ⟨.hbm, 116, rfl⟩
abbrev main_v89 : Ref sig .tc := ⟨.hbm, 117, rfl⟩
abbrev main_cst_20 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_21 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_22 : Ref sig .tc := ⟨.hbm, 131, rfl⟩
abbrev main_v101 : Ref sig .tc := ⟨.hbm, 132, rfl⟩
abbrev main_v102 : Ref sig .tc := ⟨.hbm, 133, rfl⟩
abbrev main_cst_23 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_24 : Ref sig .tc := ⟨.hbm, 140, rfl⟩
abbrev main_v108 : Ref sig .tc := ⟨.hbm, 141, rfl⟩
abbrev main_v109 : Ref sig .tc := ⟨.hbm, 142, rfl⟩
abbrev main_cst_25 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩

abbrev nD : Nat := 1
abbrev τ : Topo := Topo.v7x

variable {F : FTy → Type} [FloatOps F]
-- ==== FfnOut.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩

abbrev nBuf : Space → Nat
  | .hbm => 25
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S2816x1024, .bf16⟩
  | .hbm, ⟨8, _⟩ => ⟨S1x1024, .f32⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S8192x1024, .bf16⟩
  | .hbm, ⟨14, _⟩ => ⟨S8192x2816, .bf16⟩
  | .hbm, ⟨15, _⟩ => ⟨S8192x2816, .bf16⟩
  | .hbm, ⟨16, _⟩ => ⟨S1x1024, .f32⟩
  | .hbm, ⟨17, _⟩ => ⟨S8192x1024, .bf16⟩
  | .hbm, ⟨18, _⟩ => ⟨S8192x1024, .f32⟩
  | .hbm, ⟨19, _⟩ => ⟨S1x1024, .f32⟩
  | .hbm, ⟨20, _⟩ => ⟨S8192x1024, .bf16⟩
  | .hbm, ⟨21, _⟩ => ⟨S8192x2816, .bf16⟩
  | .hbm, ⟨22, _⟩ => ⟨S8192x2816, .bf16⟩
  | .hbm, ⟨23, _⟩ => ⟨S8192x2816, .bf16⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S2816x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | .local _ .vmem, ⟨28, _⟩ => ⟨S2816x1024, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x1024, .bf16⟩
  | .local _ .vmem, ⟨34, _⟩ => ⟨S256x1024, .bf16⟩
  | .local _ .vmem, ⟨35, _⟩ => ⟨S256x2816, .bf16⟩
  | .local _ .vmem, ⟨36, _⟩ => ⟨S256x2816, .bf16⟩
  | .local _ .vmem, ⟨37, _⟩ => ⟨S256x2816, .bf16⟩
  | .local _ .vmem, ⟨38, _⟩ => ⟨S256x2816, .bf16⟩
  | .local _ .vmem, ⟨39, _⟩ => ⟨S256x2816, .bf16⟩
  | .local _ .vmem, ⟨40, _⟩ => ⟨S256x2816, .bf16⟩
  | .local _ .vmem, ⟨41, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc2_stg9_0 : Ref sig .tc := ⟨.vmem, 39, rfl⟩
abbrev cc2_stg9_1 : Ref sig .tc := ⟨.vmem, 40, rfl⟩
abbrev cc2_stg10_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc2_sem8_0 : DmaSem sig := 37
abbrev cc2_sem8_1 : DmaSem sig := 38
abbrev cc2_sem9_0 : DmaSem sig := 39
abbrev cc2_sem9_1 : DmaSem sig := 40
abbrev cc2_sem10_0 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2816x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2816 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2816 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x2816 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x2816 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== FfnOutReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S8192x2816, .f32⟩
  | .hbm, ⟨92, _⟩ => ⟨S8192x1024, .bf16⟩
  | .hbm, ⟨93, _⟩ => ⟨S8192x2816, .bf16⟩
  | .hbm, ⟨94, _⟩ => ⟨S8192x2816, .bf16⟩
  | .hbm, ⟨95, _⟩ => ⟨S8192x2816, .bf16⟩
  | .hbm, ⟨96, _⟩ => ⟨S1x1024, .f32⟩
  | .hbm, ⟨97, _⟩ => ⟨S8192x1024, .bf16⟩
  | .hbm, ⟨98, _⟩ => ⟨S8192x2816, .bf16⟩
  | .hbm, ⟨99, _⟩ => ⟨S8192x2816, .bf16⟩
  | .hbm, ⟨100, _⟩ => ⟨S8192x1024, .bf16⟩
  | .hbm, ⟨101, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v15_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v15_1 : Ref sig .tc := ⟨.hbm, 36, rfl⟩
abbrev main_v15_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== GmForward.lean ====
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S1x8x128x256 : Shape := ⟨4, ![1, 8, 128, 256]⟩
abbrev S2x8x128x256 : Shape := ⟨4, ![2, 8, 128, 256]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S8192x1024 : Shape := ⟨2, ![8192, 1024]⟩
abbrev S128x1792 : Shape := ⟨2, ![128, 1792]⟩
abbrev S128x128 : Shape := ⟨2, ![128, 128]⟩
abbrev S128x1024 : Shape := ⟨2, ![128, 1024]⟩
abbrev S1x128 : Shape := ⟨2, ![1, 128]⟩
abbrev S256x128 : Shape := ⟨2, ![256, 128]⟩
abbrev S1 : Shape := ⟨1, ![1]⟩
abbrev S1x16x256 : Shape := ⟨3, ![1, 16, 256]⟩
abbrev S16x256 : Shape := ⟨2, ![16, 256]⟩
abbrev S1x1x16x256 : Shape := ⟨4, ![1, 1, 16, 256]⟩
abbrev S16 : Shape := ⟨1, ![16]⟩
abbrev S16x1 : Shape := ⟨2, ![16, 1]⟩
abbrev S16x512 : Shape := ⟨2, ![16, 512]⟩
abbrev S1x128x128 : Shape := ⟨3, ![1, 128, 128]⟩
abbrev S8192x512 : Shape := ⟨2, ![8192, 512]⟩

abbrev nBuf : Space → Nat
  | .hbm => 58
  | .vmem => 18
  | .smem => 1
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S512, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S8, .f32⟩
  | .hbm, ⟨7, _⟩ => ⟨S128, .i32⟩
  | .hbm, ⟨8, _⟩ => ⟨S128x1, .i32⟩
  | .hbm, ⟨9, _⟩ => ⟨S256, .i32⟩
  | .hbm, ⟨10, _⟩ => ⟨S1x256, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S8x1x1, .f32⟩
  | .hbm, ⟨25, _⟩ => ⟨S8x1x1, .f32⟩
  | .hbm, ⟨26, _⟩ => ⟨S128x256, .f32⟩
  | .hbm, ⟨27, _⟩ => ⟨S1x128x256, .f32⟩
  | .hbm, ⟨28, _⟩ => ⟨S8x128x256, .f32⟩
  | .hbm, ⟨29, _⟩ => ⟨S8x128x256, .f32⟩
  | .hbm, ⟨30, _⟩ => ⟨S8x128x256, .f32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S128x256, .i1⟩
  | .hbm, ⟨35, _⟩ => ⟨S128x256, .i1⟩
  | .hbm, ⟨36, _⟩ => ⟨S1x128x256, .i1⟩
  | .hbm, ⟨37, _⟩ => ⟨S_, .f32⟩
  | .hbm, ⟨38, _⟩ => ⟨S_, .f32⟩
  | .hbm, ⟨39, _⟩ => ⟨S8x128x256, .i1⟩
  | .hbm, ⟨40, _⟩ => ⟨S8x128x256, .f32⟩
  | .hbm, ⟨41, _⟩ => ⟨S8x128x256, .f32⟩
  | .hbm, ⟨42, _⟩ => ⟨S1x128x256, .i1⟩
  | .hbm, ⟨43, _⟩ => ⟨S_, .f32⟩
  | .hbm, ⟨44, _⟩ => ⟨S_, .f32⟩
  | .hbm, ⟨45, _⟩ => ⟨S8x128x256, .i1⟩
  | .hbm, ⟨46, _⟩ => ⟨S8x128x256, .f32⟩
  | .hbm, ⟨47, _⟩ => ⟨S8x128x256, .f32⟩
  | .hbm, ⟨48, _⟩ => ⟨S1x8x128x256, .f32⟩
  | .hbm, ⟨49, _⟩ => ⟨S1x8x128x256, .f32⟩
  | .hbm, ⟨50, _⟩ => ⟨S2x8x128x256, .f32⟩
  | .hbm, ⟨51, _⟩ => ⟨S1x512, .f32⟩
  | .hbm, ⟨52, _⟩ => ⟨S1x512, .f32⟩
  | .hbm, ⟨53, _⟩ => ⟨S128x8, .f32⟩
  | .hbm, ⟨54, _⟩ => ⟨S128x8x64, .f32⟩
  | .hbm, ⟨55, _⟩ => ⟨S128x512, .f32⟩
  | .hbm, ⟨56, _⟩ => ⟨S8192x1024, .bf16⟩
  | .hbm, ⟨57, _⟩ => ⟨S8192x512, .bf16⟩
  | .local _ .vmem, ⟨0, _⟩ => ⟨S128x1792, .bf16⟩
  | .local _ .vmem, ⟨1, _⟩ => ⟨S128x1792, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x8x128x256, .f32⟩
  | .local _ .vmem, ⟨7, _⟩ => ⟨S1x8x128x256, .f32⟩
  | .local _ .vmem, ⟨8, _⟩ => ⟨S1x512, .f32⟩
  | .local _ .vmem, ⟨9, _⟩ => ⟨S1x512, .f32⟩
  | .local _ .vmem, ⟨10, _⟩ => ⟨S8x128x128, .f32⟩
  | .local _ .vmem, ⟨11, _⟩ => ⟨S128x512, .f32⟩
  | .local _ .vmem, ⟨12, _⟩ => ⟨S128x1024, .bf16⟩
  | .local _ .vmem, ⟨13, _⟩ => ⟨S128x1024, .bf16⟩
  | .local _ .vmem, ⟨14, _⟩ => ⟨S8x128x256, .f32⟩
  | .local _ .vmem, ⟨15, _⟩ => ⟨S8x128x256, .bf16⟩
  | .local _ .vmem, ⟨16, _⟩ => ⟨S128x512, .f32⟩
  | .local _ .vmem, ⟨17, _⟩ => ⟨S128x512, .f32⟩
  | .local _ .smem, ⟨0, _⟩ => ⟨S8, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GmForwardIdeal.lean ====
variable {F : FTy → Type} [FloatOps F] [Named F]
def κ : String → Option EReal := fun
  | "c1" => some ((8943 / 200000 : ℝ) : EReal)
  | "c3" => some ((26829 / 200000 : ℝ) : EReal)
  | _ => none
-- ==== GmForwardReferenceIdeal.lean ====
abbrev S8192x1792 : Shape := ⟨2, ![8192, 1792]⟩
abbrev S8 : Shape := ⟨1, ![8]⟩
abbrev S512 : Shape := ⟨1, ![512]⟩
abbrev S8x128x128 : Shape := ⟨3, ![8, 128, 128]⟩
abbrev S8x128 : Shape := ⟨2, ![8, 128]⟩
abbrev S8192x1024 : Shape := ⟨2, ![8192, 1024]⟩
abbrev S1x8192x1024 : Shape := ⟨3, ![1, 8192, 1024]⟩
abbrev S1x8192x512 : Shape := ⟨3, ![1, 8192, 512]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S8192x512 : Shape := ⟨2, ![8192, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S512, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S8192x1792, .f32⟩
  | .hbm, ⟨7, _⟩ => ⟨S8192x1024, .f32⟩
  | .hbm, ⟨8, _⟩ => ⟨S1x8192x1024, .f32⟩
  | .hbm, ⟨9, _⟩ => ⟨S1x8192x512, .f32⟩
  | .hbm, ⟨10, _⟩ => ⟨S1x8192x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S_, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S_, .f32⟩
  | .hbm, ⟨24, _⟩ => ⟨S1x8192x512, .f32⟩
  | .hbm, ⟨25, _⟩ => ⟨S1x8192x512, .f32⟩
  | .hbm, ⟨26, _⟩ => ⟨S_, .f32⟩
  | .hbm, ⟨27, _⟩ => ⟨S1x8192x512, .f32⟩
  | .hbm, ⟨28, _⟩ => ⟨S1x8192x512, .f32⟩
  | .hbm, ⟨29, _⟩ => ⟨S1x8192x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x8192x512, .f32⟩
  | .hbm, ⟨34, _⟩ => ⟨S1x8192x512, .f32⟩
  | .hbm, ⟨35, _⟩ => ⟨S1x8192x512, .f32⟩
  | .hbm, ⟨36, _⟩ => ⟨S1x8192x512, .f32⟩
  | .hbm, ⟨37, _⟩ => ⟨S1x8192x512, .f32⟩
  | .hbm, ⟨38, _⟩ => ⟨S_, .f32⟩
  | .hbm, ⟨39, _⟩ => ⟨S1x8192x512, .f32⟩
  | .hbm, ⟨40, _⟩ => ⟨S1x8192x512, .f32⟩
  | .hbm, ⟨41, _⟩ => ⟨S1x8192x512, .f32⟩
  | .hbm, ⟨42, _⟩ => ⟨S_, .f32⟩
  | .hbm, ⟨43, _⟩ => ⟨S1x8192x512, .f32⟩
  | .hbm, ⟨44, _⟩ => ⟨S1x8192x512, .f32⟩
  | .hbm, ⟨45, _⟩ => ⟨S_, .f32⟩
  | .hbm, ⟨46, _⟩ => ⟨S1x8192x512, .f32⟩
  | .hbm, ⟨47, _⟩ => ⟨S1x8192x512, .f32⟩
  | .hbm, ⟨48, _⟩ => ⟨S1x8192x512, .f32⟩
  | .hbm, ⟨49, _⟩ => ⟨S_, .f32⟩
  | .hbm, ⟨50, _⟩ => ⟨S1x8192, .f32⟩
  | .hbm, ⟨51, _⟩ => ⟨S1x8192x1, .f32⟩
  | .hbm, ⟨52, _⟩ => ⟨S_, .f32⟩
  | .hbm, ⟨53, _⟩ => ⟨S1x8192x1, .f32⟩
  | .hbm, ⟨54, _⟩ => ⟨S1x8192x1, .f32⟩
  | .hbm, ⟨55, _⟩ => ⟨S1x8192x512, .f32⟩
  | .hbm, ⟨56, _⟩ => ⟨S1x8192x512, .f32⟩
  | .hbm, ⟨57, _⟩ => ⟨S1x8192x512, .f32⟩
  | .hbm, ⟨58, _⟩ => ⟨S_, .f32⟩
  | .hbm, ⟨59, _⟩ => ⟨S1x8192, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S_, .f32⟩
  | .hbm, ⟨65, _⟩ => ⟨S1x8192x1, .f32⟩
  | .hbm, ⟨66, _⟩ => ⟨S1x8192x1, .f32⟩
  | .hbm, ⟨67, _⟩ => ⟨S1x8192x1, .f32⟩
  | .hbm, ⟨68, _⟩ => ⟨S1x8192x512, .f32⟩
  | .hbm, ⟨69, _⟩ => ⟨S1x8192x512, .f32⟩
  | .hbm, ⟨70, _⟩ => ⟨S1x1x512, .f32⟩
  | .hbm, ⟨71, _⟩ => ⟨S1x8192x512, .f32⟩
  | .hbm, ⟨72, _⟩ => ⟨S1x8192x512, .f32⟩
  | .hbm, ⟨73, _⟩ => ⟨S1x1x512, .f32⟩
  | .hbm, ⟨74, _⟩ => ⟨S1x8192x512, .f32⟩
  | .hbm, ⟨75, _⟩ => ⟨S1x8192x512, .f32⟩
  | .hbm, ⟨76, _⟩ => ⟨S1x64x128x8x64, .f32⟩
  | .hbm, ⟨77, _⟩ => ⟨S_, .i1⟩
  | .hbm, ⟨78, _⟩ => ⟨S128x128, .i1⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S_, .i1⟩
  | .hbm, ⟨86, _⟩ => ⟨S128x128, .i1⟩
  | .hbm, ⟨87, _⟩ => ⟨S128x128, .i1⟩
  | .hbm, ⟨88, _⟩ => ⟨S1x128x128, .i1⟩
  | .hbm, ⟨89, _⟩ => ⟨S_, .f32⟩
  | .hbm, ⟨90, _⟩ => ⟨S8x128x128, .f32⟩
  | .hbm, ⟨91, _⟩ => ⟨S8x128x128, .i1⟩
  | .hbm, ⟨92, _⟩ => ⟨S8x128x128, .f32⟩
  | .hbm, ⟨93, _⟩ => ⟨S8x1x64x64x128, .f32⟩
  | .hbm, ⟨94, _⟩ => ⟨S1x64x128x8x64, .f32⟩
  | .hbm, ⟨95, _⟩ => ⟨S128x8, .f32⟩
  | .hbm, ⟨96, _⟩ => ⟨S1x1x128x8x1, .f32⟩
  | .hbm, ⟨97, _⟩ => ⟨S1x64x128x8x64, .f32⟩
  | .hbm, ⟨98, _⟩ => ⟨S1x64x128x8x64, .f32⟩
  | .hbm, ⟨99, _⟩ => ⟨S1x8192x512, .f32⟩
  | .hbm, ⟨100, _⟩ => ⟨S1x8192x512, .f32⟩
  | .hbm, ⟨101, _⟩ => ⟨S8192x512, .f32⟩
  | .hbm, ⟨102, _⟩ => ⟨S8192x512, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c : Ref sig .tc := ⟨.hbm, 77, rfl⟩
abbrev main_v56 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_0 : Ref sig .tc := ⟨.hbm, 85, rfl⟩
abbrev main_call0_v5 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_call1_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== PleLoss.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S1x128, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleLossReferenceIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .bf16⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== WeightGrad.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WeightGradReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Norm.lean ====
/- The algebra of one RMSNorm gradient, over the reals and then over the extended reals at real arguments. -/
module

public import Idealize.ShloMosaic.Lib.Claim
public import Idealize.ShloMosaic.Lib.Pointwise

@[expose] public section

set_option maxRecDepth 16384

noncomputable section

open Idealize.ShloMosaic

namespace Cert.Norm

/-! ## Operations at real arguments -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe_coe (a : ℝ) {b : ℝ} (hb : b ≠ 0) : Ideal.div (a : EReal) (b : EReal) = ((a / b : ℝ) : EReal) := by
  rw [Ideal.div_coe hb, ← EReal.coe_mul, mul_one_div]

theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

/-- The added constant of every norm, as the rational its float word denotes. -/
def eps : ℝ := 8796093 / 8796093022208

theorem eps_pos : 0 < eps := by unfold eps; norm_num

theorem word_eps : Ideal.ofBits FTy.f32 897988541#32 = (eps : EReal) := by
  simp [Ideal.ofBits, Ideal.ieee, eps, -EReal.coe_mul]; norm_num

theorem word_1024 : Ideal.ofBits FTy.f32 1149239296#32 = ((1024 : ℝ) : EReal) := by
  simp [Ideal.ofBits, Ideal.ieee, -EReal.coe_mul]; norm_num

theorem word_512 : Ideal.ofBits FTy.f32 1140850688#32 = ((512 : ℝ) : EReal) := by
  simp [Ideal.ofBits, Ideal.ieee, -EReal.coe_mul]; norm_num

theorem word_neg_half : Ideal.ofBits FTy.f32 3204448256#32 = ((-(1 / 2) : ℝ) : EReal) := by
  simp [Ideal.ofBits, Ideal.ieee, -EReal.coe_mul]; norm_num

/-! ## Finite arrays -/

/-- Every entry of `x` is a real number. -/
def Finite {ι : Type*} (x : ι → EReal) : Prop := ∀ i, ∃ a : ℝ, x i = a

theorem Finite.lift {ι : Type*} {x : ι → EReal} (h : Finite x) : ∃ a : ι → ℝ, x = fun i => (a i : EReal) :=
  ⟨fun i => (h i).choose, funext fun i => (h i).choose_spec⟩

theorem real_mul {a b : EReal} (ha : ∃ r : ℝ, a = r) (hb : ∃ r : ℝ, b = r) : ∃ r : ℝ, a * b = r := by
  obtain ⟨r, rfl⟩ := ha; obtain ⟨t, rfl⟩ := hb; exact ⟨r * t, (EReal.coe_mul r t).symm⟩

theorem real_add {a b : EReal} (ha : ∃ r : ℝ, a = r) (hb : ∃ r : ℝ, b = r) : ∃ r : ℝ, a + b = r := by
  obtain ⟨r, rfl⟩ := ha; obtain ⟨t, rfl⟩ := hb; exact ⟨r + t, (EReal.coe_add r t).symm⟩

theorem real_sum {ι : Type*} [Fintype ι] {f : ι → EReal} (h : Finite f) : ∃ r : ℝ, ∑ i, f i = r := by
  obtain ⟨a, rfl⟩ := h.lift; exact ⟨_, coe_sum _ a⟩

/-! ## One row of an RMSNorm -/

variable {n : ℕ}

/-- One over the root of the mean square plus the constant, over the extended reals: `w` is the row's length. -/
def rstd (w : EReal) (x : Fin n → EReal) : EReal := Ideal.rsqrt (Ideal.div (∑ j, x j * x j) w + (eps : EReal))

/-- The mean square plus the constant. -/
def meanSq (w : ℝ) (x : Fin n → ℝ) : ℝ := (∑ j, x j * x j) / w + eps

theorem meanSq_pos {w : ℝ} (hw : 0 < w) (x : Fin n → ℝ) : 0 < meanSq w x :=
  add_pos_of_nonneg_of_pos (div_nonneg (Finset.sum_nonneg fun j _ => mul_self_nonneg (x j)) hw.le) eps_pos

theorem meanSq_coe {w : ℝ} (hw : 0 < w) (x : Fin n → ℝ) :
    Ideal.div (∑ j, (x j : EReal) * (x j : EReal)) (w : EReal) + (eps : EReal) = (meanSq w x : EReal) := by
  simp only [← EReal.coe_mul, coe_sum, div_coe_coe _ hw.ne', ← EReal.coe_add]; rfl

theorem rstd_coe {w : ℝ} (hw : 0 < w) (x : Fin n → ℝ) :
    rstd (w : EReal) (fun j => (x j : EReal)) = (((Real.sqrt (meanSq w x))⁻¹ : ℝ) : EReal) := by
  unfold rstd; rw [meanSq_coe hw, rsqrt_coe_pos (meanSq_pos hw x)]

/-- The gradient at one entry as the kernel writes it: `u` is the incoming gradient times the gain. -/
def gradTiled (w : EReal) (x u : Fin n → EReal) (l : Fin n) : EReal :=
  rstd w x * (u l - x l * rstd w x * Ideal.div (∑ k, u k * (x k * rstd w x)) w)

/-- The summand both programs share, of the gradient through the reciprocal root. -/
def spread (w : EReal) (x u : Fin n → EReal) : EReal :=
  Ideal.div ((∑ k, x k * u k) * (((-(1 / 2) : ℝ) : EReal) * Ideal.div (rstd w x) (Ideal.div (∑ j, x j * x j) w + (eps : EReal)))) w

/-- The two ways of writing the gradient of one RMSNorm row agree. -/
theorem gradTiled_eq {w : ℝ} (hw : 0 < w) {x u : Fin n → EReal} (hx : Finite x) (hu : Finite u) (l : Fin n) :
    gradTiled (w : EReal) x u l
      = u l * rstd (w : EReal) x + x l * spread (w : EReal) x u + spread (w : EReal) x u * x l := by
  obtain ⟨x, rfl⟩ := hx.lift
  obtain ⟨u, rfl⟩ := hu.lift
  have hv := meanSq_pos hw x
  unfold gradTiled spread
  rw [rstd_coe hw, meanSq_coe hw]
  simp only [← EReal.coe_mul, coe_sum, div_coe_coe _ hw.ne', div_coe_coe _ hv.ne', ← EReal.coe_add, ← EReal.coe_sub]
  congr 1
  have hr : (Real.sqrt (meanSq w x))⁻¹ * (Real.sqrt (meanSq w x))⁻¹ * meanSq w x = 1 := by
    rw [← mul_inv, Real.mul_self_sqrt hv.le, inv_mul_cancel₀ hv.ne']
  generalize (Real.sqrt (meanSq w x))⁻¹ = r at hr ⊢
  generalize meanSq w x = v at hr hv ⊢
  have hs : ∑ k, u k * (x k * r) = r * ∑ k, x k * u k := by
    rw [Finset.mul_sum]; exact Finset.sum_congr rfl fun k _ => by ring
  rw [hs]
  generalize ∑ k, x k * u k = s
  have hvr : r / v = r * r * r := by
    rw [div_eq_iff hv.ne']; linear_combination (-r) * hr
  rw [hvr]
  field_simp
  ring

end Cert.Norm
-- ==== Proof.Tame.lean ====
/- A predicate that says every absolute value is below infinity makes every entry a real number. -/
module

public import proofs.«01_k».proof.Proof.Norm
public import Idealize.ShloMosaic.Lib.ReduceAll

@[expose] public section

noncomputable section

open Idealize.ShloMosaic Idealize.ShloMosaic.TcCoe Idealize.SL.Sem

namespace Cert.Norm

theorem word_inf : Ideal.ofBits FTy.f32 0x7F800000#32 = ⊤ := by simp [Ideal.ofBits, Ideal.ieee]

theorem word_inf_bf16 : Ideal.ofBits FTy.bf16 0x7F80#16 = ⊤ := by simp [Ideal.ofBits, Ideal.ieee]

theorem real_of_abs_lt_top (a : EReal) (h : Ideal.cmp .olt (max a (-a)) ⊤ = 1#1) : ∃ r : ℝ, a = r := by
  induction a with
  | bot => simp [Ideal.cmp] at h
  | coe r => exact ⟨r, rfl⟩
  | top => simp [Ideal.cmp] at h

/-- One argument's conjunct. -/
theorem finite_of_all {s t u v : Shape} {φ : FTy} {axes : List (Fin s.rank)} [Subsingleton t.Idx] (x : FVec Ideal s φ)
    (w : BitVec φ.bits) (hw : Ideal.ofBits φ w = ⊤) (dims) (hb) (init : u.Idx → BitVec 1) (h : s.ReducesTo axes t)
    (hu : 0 < u.numel) (j : t.Idx)
    (e : Host.reduce IntOp.andi (cmpf (F := Ideal) .olt (Host.absf x) (broadcastInDim s dims hb (constant v φ w))) init h hu j = 1#1) :
    Finite x := fun i => by
  have := Host.reduce_andi_all _ init h hu j e i
  refine real_of_abs_lt_top _ ?_
  rw [← hw]
  exact this

end Cert.Norm
-- ==== Proof.FfnInKernel.lean ====
/- What the gradient of the first feed-forward norm computes, block by block: the kernel's side. -/
module

public import proofs.«01_k».proof.Proof.Norm
public import proofs.«01_k».proof.Proof.Gen.KernelIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-! ## One block -/

theorem dy_at (v0 : Vec Ideal S512x2816 .bf16) (v1 : Vec Ideal S2816x1024 .bf16) (v4 : Vec Ideal S512x2816 .bf16)
    (v5 : Vec Ideal S2816x1024 .bf16) (r : Fin 512) (k : Fin 1024) :
    k0_pay4 v0 v1 v4 v5 (ix2 r k)
      = ∑ q : Fin 2816, v0 (ix2 r q) * v1 (ix2 q k) + ∑ q : Fin 2816, v4 (ix2 r q) * v5 (ix2 q k) := by
  pointwise [k0_pay4]

theorem dx_at (v0 : Vec Ideal S512x2816 .bf16) (v1 : Vec Ideal S2816x1024 .bf16) (v4 : Vec Ideal S512x2816 .bf16)
    (v5 : Vec Ideal S2816x1024 .bf16) (v9 : Vec Ideal S512x1024 .f32) (v10 : Vec Ideal S1x1024 .f32) (r : Fin 512) (l : Fin 1024) :
    k0_pay8 v0 v1 v4 v5 v9 v10 (ix2 r l)
      = Norm.gradTiled ((1024 : ℝ) : EReal) (fun k => v9 (ix2 r k))
          (fun k => k0_pay4 v0 v1 v4 v5 (ix2 r k) * v10 (ix2 0 k)) l := by
  pointwise [k0_pay8, k0_pay6, k0_pay5]
  rw [Norm.word_1024, Norm.word_eps]
  rfl

theorem dg_at (v0 : Vec Ideal S512x2816 .bf16) (v1 : Vec Ideal S2816x1024 .bf16) (v4 : Vec Ideal S512x2816 .bf16)
    (v5 : Vec Ideal S2816x1024 .bf16) (v9 : Vec Ideal S512x1024 .f32) (z : Fin 1) (l : Fin 1024) :
    k0_pay7 v0 v1 v4 v5 v9 (ix2 z l)
      = ∑ r : Fin 512, k0_pay4 v0 v1 v4 v5 (ix2 r l)
          * (v9 (ix2 r l) * Norm.rstd ((1024 : ℝ) : EReal) (fun k => v9 (ix2 r k))) := by
  pointwise [k0_pay7, k0_pay6, k0_pay5]
  rw [Norm.word_1024, Norm.word_eps]
  rfl

theorem zero_at (j) : k0_pay2 (F := Ideal) j = 0 := by pointwise [k0_pay2]

theorem sum_at (a b : Vec Ideal S1x1024 .f32) (j) : k0_pay3 a b j = b j + a j := by pointwise [k0_pay3]

theorem res_at (a b : Vec Ideal S512x1024 .f32) (j) : k0_pay1 a b j = b j + a j := by pointwise [k0_pay1]

/-! ## The two results -/

/-- The gradient that reaches the normalised rows: both projections, transposed. -/
def dy (wg wu : FVec Ideal S1024x2816 .f32) (dgt dup : FVec Ideal S8192x2816 .bf16) (r : Fin 8192) (k : Fin 1024) : EReal :=
  ∑ q : Fin 2816, dgt (ix2 r q) * wg (ix2 k q) + ∑ q : Fin 2816, dup (ix2 r q) * wu (ix2 k q)

def dx (h : FVec Ideal S8192x1024 .f32) (ln : FVec Ideal S1024 .f32) (wg wu : FVec Ideal S1024x2816 .f32)
    (dh : FVec Ideal S8192x1024 .f32) (dgt dup : FVec Ideal S8192x2816 .bf16) : FVec Ideal S8192x1024 .f32 :=
  fun j => dh j + Norm.gradTiled ((1024 : ℝ) : EReal) (fun k => h (ix2 (j 0) k))
    (fun k => dy wg wu dgt dup (j 0) k * ln (ix1 k)) (j 1)

/-- What row `r` adds to the gradient of the gain at lane `l`. -/
def dgRow (h : FVec Ideal S8192x1024 .f32) (wg wu : FVec Ideal S1024x2816 .f32)
    (dgt dup : FVec Ideal S8192x2816 .bf16) (l : Fin 1024) (r : Fin 8192) : EReal :=
  dy wg wu dgt dup r l * (h (ix2 r l) * Norm.rstd ((1024 : ℝ) : EReal) (fun k => h (ix2 r k)))

def dg (h : FVec Ideal S8192x1024 .f32) (wg wu : FVec Ideal S1024x2816 .f32)
    (dgt dup : FVec Ideal S8192x2816 .bf16) : FVec Ideal S1x1024 .f32 :=
  fun j => ∑ r : Fin 8192, dgRow h wg wu dgt dup (j 1) r

/-! ## The arrays after the run -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- The incoming gradient of point `t`'s block. -/
theorem dy_point (t : Fin cfg0.N) (r : Fin 512) (k : Fin 1024) (h : t.val * 512 + r.val < 8192) :
    k0_pay4 (iblk m c 0 t) (iblk m c 2 t) (iblk m c 1 t) (iblk m c 3 t) (ix2 r k)
      = dy (m ((c : Thread nD τ).loc main_arg2)) (m ((c : Thread nD τ).loc main_arg3))
          (m ((c : Thread nD τ).loc main_arg5)) (m ((c : Thread nD τ).loc main_arg6)) ⟨t.val * 512 + r.val, h⟩ k := by
  rw [dy_at]
  unfold dy
  blk_point [iblk, V, idx t]

theorem dx_point (t : Fin cfg0.N) (r : Fin 512) (l : Fin 1024) (h : t.val * 512 + r.val < 8192) :
    k0_pay1 (k0_pay8 (iblk m c 0 t) (iblk m c 2 t) (iblk m c 1 t) (iblk m c 3 t) (iblk m c 4 t) (iblk m c 5 t))
        (iblk m c 6 t) (ix2 r l)
      = dx (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (ix2 ⟨t.val * 512 + r.val, h⟩ l) := by
  rw [res_at, dx_at]
  simp only [dy_point m c t _ _ h]
  unfold dx
  have h4 : ∀ k : Fin 1024, (show Vec Ideal S512x1024 .f32 from iblk m c 4 t) (ix2 r k)
      = m ((c : Thread nD τ).loc main_arg0) (ix2 ⟨t.val * 512 + r.val, h⟩ k) := fun k => by blk_ext [iblk, V, idx t]
  have h5 : ∀ k : Fin 1024, (show Vec Ideal S1x1024 .f32 from iblk m c 5 t) (ix2 0 k)
      = m ((c : Thread nD τ).loc main_arg1) (ix1 k) := fun k => by blk_point [iblk, V, idx t]
  have h6 : (show Vec Ideal S512x1024 .f32 from iblk m c 6 t) (ix2 r l)
      = m ((c : Thread nD τ).loc main_arg4) (ix2 ⟨t.val * 512 + r.val, h⟩ l) := by blk_ext [iblk, V, idx t]
  simp only [h4, h5, h6]
  rfl

theorem dg_point (t : Fin cfg0.N) (z : Fin 1) (l : Fin 1024) (hN : t.val < 16) :
    k0_pay7 (iblk m c 0 t) (iblk m c 2 t) (iblk m c 1 t) (iblk m c 3 t) (iblk m c 4 t) (ix2 z l)
      = ∑ r : Fin 512, dgRow (m ((c : Thread nD τ).loc main_arg0)) (m ((c : Thread nD τ).loc main_arg2))
          (m ((c : Thread nD τ).loc main_arg3)) (m ((c : Thread nD τ).loc main_arg5))
          (m ((c : Thread nD τ).loc main_arg6)) l ⟨t.val * 512 + r.val, by omega⟩ := by
  rw [dg_at]
  refine Fin.sum_fin_congr fun r => ?_
  have h4 : ∀ k : Fin 1024, (show Vec Ideal S512x1024 .f32 from iblk m c 4 t) (ix2 r k)
      = m ((c : Thread nD τ).loc main_arg0) (ix2 ⟨t.val * 512 + r.val, by omega⟩ k) := fun k => by blk_ext [iblk, V, idx t]
  rw [dy_point m c t r l (by omega)]
  simp only [h4]
  rfl

theorem final_dx : (dats m 0 c).arrAt 7 (cfgs 0).N
    = dx (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v5_0).slice (win0_7.rect t)).emb (ix2 r l) = ix2 ⟨t.val * 512 + r.val, by omega⟩ l := by
    blk_ext [idx t]
  by_cases h : t.val % 16 = 0
  · rw [outsAt0_A m c t h]; frame_out
    rw [dx_point m c t r l (by omega), ← he]
  · rw [outsAt0_B m c t h]; frame_out
    rw [dx_point m c t r l (by omega), ← he]

theorem final_dg : (dats m 0 c).arrAt 8 (cfgs 0).N
    = dg (m ((c : Thread nD τ).loc main_arg0))
          (m ((c : Thread nD τ).loc main_arg2)) (m ((c : Thread nD τ).loc main_arg3))
          (m ((c : Thread nD τ).loc main_arg5)) (m ((c : Thread nD τ).loc main_arg6)) := by
  refine (dats m 0 c).arrAt_eq_of_covers 8 _ (by decide +kernel) fun t hf y => ?_
  blk_simp
  rw [after0_8, Pipeline.eq_sum_fin_of_reset_step_apply_of_flush (fun n h => (outsAt0 m c n h).2) 16 (fun _ => 0) _
    (fun t h j => by rw [outsAt0_A m c t h]; frame_out; rw [sum_at, zero_at])
    (fun t h j => by rw [outsAt0_B m c t h]; frame_out; rw [sum_at])
    t ((flush0_8 t).mp hf) _, zero_add]
  have hN : t.val < 16 := lt_of_lt_of_eq t.isLt N_0
  obtain ⟨z, l, rfl⟩ : ∃ (z : Fin 1) (l : Fin 1024), y = ix2 z l := ⟨y 0, y 1, by funext a; fin_cases a <;> rfl⟩
  have he : (win0_8.blk t).view.emb (ix2 z l) = ix2 z l := by blk_ext [idx t]
  rw [he]
  unfold dg
  refine (Fin.sum_fin_congr fun s => dg_point m c _ z l (by dsimp only; omega)).trans ?_
  refine Fin.sum_mul_add_congr fun s k hl => ?_
  have hs : 16 * (t.val / 16) + s.val = s.val := by omega
  simp only [hs]
  rfl

end Cert.KernelIdeal.Value
-- ==== Proof.FfnInReference.lean ====
/- The gradient of the first feed-forward norm as the reference writes it, and that it is the kernel's. -/
module

public import proofs.«01_k».proof.Proof.FfnInKernel
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read

variable (x0 : FVec Ideal S8192x1024 .f32) (x1 : FVec Ideal S1024 .f32) (x2 x3 : FVec Ideal S1024x2816 .f32)
  (x4 : FVec Ideal S8192x1024 .f32) (x5 x6 : FVec Ideal S8192x2816 .bf16)

theorem dy_at (r : Fin 8192) (k : Fin 1024) :
    val_main_v22 (F := Ideal) x2 x3 x5 x6 (ix2 r k) = Cert.KernelIdeal.Value.dy x2 x3 x5 x6 r k := by
  unfold Cert.KernelIdeal.Value.dy
  rw [add_comm]
  pointwise [val_main_v22, val_main_v20, val_main_v19, val_main_v21, val_main_v18, val_main_v17, val_main_v16]

theorem dx_at (r : Fin 8192) (l : Fin 1024) :
    val_main_v43 (F := Ideal) x0 x1 x2 x3 x4 x5 x6 (ix2 r l)
      = x4 (ix2 r l) + (fun k => val_main_v22 (F := Ideal) x2 x3 x5 x6 (ix2 r k) * x1 (ix1 k)) l
            * Norm.rstd ((1024 : ℝ) : EReal) (fun k => x0 (ix2 r k))
          + x0 (ix2 r l) * Norm.spread ((1024 : ℝ) : EReal) (fun k => x0 (ix2 r k))
              (fun k => val_main_v22 (F := Ideal) x2 x3 x5 x6 (ix2 r k) * x1 (ix1 k))
          + Norm.spread ((1024 : ℝ) : EReal) (fun k => x0 (ix2 r k))
              (fun k => val_main_v22 (F := Ideal) x2 x3 x5 x6 (ix2 r k) * x1 (ix1 k)) * x0 (ix2 r l) := by
  pointwise [val_main_v43, val_main_v41, val_main_v34, val_main_v33, val_main_v27, val_main_v26, val_main_v13, val_main_v32, val_main_v7, val_main_v6, val_main_v4, val_main_v2, val_main_v1, val_main_v0, val_main_cst, val_main_v3, val_main_cst_0, val_main_v5, val_main_cst_1, val_main_v40, val_main_v39, val_main_v38, val_main_v37, val_main_v35, val_main_v31, val_main_v30, val_main_v29, val_main_cst_5, val_main_v10, val_main_v9, val_main_cst_2, val_main_v8, val_main_v36, val_main_cst_6, val_main_cst_7, val_main_v42]
  simp only [Norm.word_1024, Norm.word_eps, Norm.word_neg_half, Fin.sum_univ_one, Finset.univ_unique, Finset.sum_singleton]
  rfl

theorem dg_at (z : Fin 1) (l : Fin 1024) :
    val_main_v44 (F := Ideal) x0 x2 x3 x5 x6 (ix2 z l) = Cert.KernelIdeal.Value.dg x0 x2 x3 x5 x6 (ix2 z l) := by
  pointwise [val_main_v44, val_main_v28, val_main_v25, val_main_v24, val_main_v23, val_main_v12, val_main_v11, val_main_v7, val_main_v6, val_main_v4, val_main_v2, val_main_v1, val_main_v0, val_main_cst, val_main_v3, val_main_cst_0, val_main_v5, val_main_cst_1, val_main_cst_3, val_main_cst_4]
  simp only [Norm.word_1024, Norm.word_eps, Fin.sum_univ_one, Finset.univ_unique, Finset.sum_singleton, dy_at, mul_comm]
  unfold Cert.KernelIdeal.Value.dg Cert.KernelIdeal.Value.dgRow Norm.rstd
  simp only [mul_comm]
  rfl

/-- At finite arguments the two input gradients agree. -/
theorem dx_eq (h0 : Norm.Finite x0) (h1 : Norm.Finite x1) (h2 : Norm.Finite x2) (h3 : Norm.Finite x3)
    (h5 : Norm.Finite x5) (h6 : Norm.Finite x6) :
    Cert.KernelIdeal.Value.dx x0 x1 x2 x3 x4 x5 x6 = val_main_v43 (F := Ideal) x0 x1 x2 x3 x4 x5 x6 := by
  funext j
  obtain ⟨r, l, rfl⟩ : ∃ (r : Fin 8192) (l : Fin 1024), j = ix2 r l := ⟨j 0, j 1, by funext a; fin_cases a <;> rfl⟩
  rw [dx_at]
  simp only [dy_at]
  have hdy : ∀ k, ∃ v : ℝ, Cert.KernelIdeal.Value.dy x2 x3 x5 x6 r k = v := fun k =>
    Norm.real_add (Norm.real_sum fun q => Norm.real_mul (h5 _) (h2 _)) (Norm.real_sum fun q => Norm.real_mul (h6 _) (h3 _))
  refine (congrArg (x4 (ix2 r l) + ·) (Norm.gradTiled_eq (by norm_num : (0 : ℝ) < 1024) (fun k => h0 _)
    (fun k => Norm.real_mul (hdy k) (h1 _)) l)).trans ?_
  simp only [add_assoc]
  rfl

theorem dg_eq : Cert.KernelIdeal.Value.dg x0 x2 x3 x5 x6 = val_main_v44 (F := Ideal) x0 x2 x3 x5 x6 := by
  funext j
  obtain ⟨z, l, rfl⟩ : ∃ (z : Fin 1) (l : Fin 1024), j = ix2 z l := ⟨j 0, j 1, by funext a; fin_cases a <;> rfl⟩
  exact (dg_at x0 x2 x3 x5 x6 z l).symm

end Cert.ReferenceIdeal.Value
-- ==== Proof.FfnIn.lean ====
/- The claims about the gradient of the first feed-forward norm. -/
module

public import proofs.«01_k».proof.Defs
public import proofs.«01_k».proof.Proof.Tame
public import proofs.«01_k».proof.Proof.FfnInReference
public import proofs.«01_k».proof.Proof.Gen.Kernel.Frame
public import proofs.«01_k».proof.Proof.Gen.ReferenceIdeal
public import proofs.«01_k».proof.Proof.Gen.Pre_finite

@[expose] public section

set_option maxRecDepth 16384

noncomputable section

open Idealize.ShloMosaic Idealize.ShloMosaic.TcCoe Idealize.SL.Sem

namespace Cert.FfnIn

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.Gen.facts

theorem finite_args (x0 x1 x2 x3 x4 x5 x6) (h : Cert.Pre_finite.fn (F := Ideal) x0 x1 x2 x3 x4 x5 x6 = fun _ => 1#1) :
    Norm.Finite x0 ∧ Norm.Finite x1 ∧ Norm.Finite x2 ∧ Norm.Finite x3 ∧ Norm.Finite x5 ∧ Norm.Finite x6 := by
  have e := congrFun h default
  obtain ⟨e, e6⟩ := IntOp.andi_eq_one.mp e
  obtain ⟨e, e5⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨Norm.finite_of_all x0 _ Norm.word_inf _ _ _ _ _ _ e0, Norm.finite_of_all x1 _ Norm.word_inf _ _ _ _ _ _ e1,
    Norm.finite_of_all x2 _ Norm.word_inf _ _ _ _ _ _ e2, Norm.finite_of_all x3 _ Norm.word_inf _ _ _ _ _ _ e3,
    Norm.finite_of_all x5 _ Norm.word_inf_bf16 _ _ _ _ _ _ e5, Norm.finite_of_all x6 _ Norm.word_inf_bf16 _ _ _ _ _ _ e6⟩

theorem frame : Cert.quiescent_Kernel := fun m ρ _ => Cert.Kernel.Gen.frame m ρ

theorem frameIdeal : Cert.quiescent_KernelIdeal := fun m ρ _ => Cert.KernelIdeal.Gen.frame m ρ

theorem frameIdealFinite : Cert.quiescent_KernelIdeal_pre_finite := fun m ρ _ => Cert.KernelIdeal.Gen.frame m ρ

theorem frameReference : Cert.quiescent_ReferenceIdeal := by
  intro m ρ _
  refine (θ_run _ _ _).mono (fun r h => ⟨fun c => ?_, sem_eq_zero_of_no_sems (by decide) r.2⟩)
    (Cert.ReferenceIdeal.Value.run (F := Ideal) m ρ)
  exact (h c).2.2

theorem frameReferenceFinite : Cert.quiescent_ReferenceIdeal_pre_finite := fun m ρ _ => frameReference m ρ trivial

theorem algebraic : Cert.algebraic_KernelIdeal_ReferenceIdeal_pre_finite := by
  pair_intro
  · run_from Cert.KernelIdeal.Gen.run_main m g
  · run_from Cert.ReferenceIdeal.Value.run m' g'
    · obtain ⟨h0, h1, h2, h3, h5, h6⟩ := finite_args _ _ _ _ _ _ _ (hpre c)
      obtain ⟨a0, a1, a2, a3, a4, a5, a6⟩ := hagree c
      rw [Cert.ReferenceIdeal.Read.val_main_v43_eq, a0, a1, a2, a3, a4, a5, a6, Cert.KernelIdeal.Value.final_dx m c]
      exact (Cert.ReferenceIdeal.Value.dx_eq _ _ _ _ _ _ _ h0 h1 h2 h3 h5 h6).symm
    · refine (Cert.ReferenceIdeal.Read.val_main_v44_eq (F := Ideal) _ _ _ _ _).trans ?_
      rw [Cert.KernelIdeal.Value.final_dg m c]
      exact (Cert.ReferenceIdeal.Value.dg_eq _ _ _ _ _).symm

end Cert.FfnIn
-- ==== Proof.AttnOffIdeal.lean ====
/- Where the attention call's body stores in the key and value gradient's array: point n writes the rows of block n, and adds
   to the rows of the block before it. -/
module

public import proofs.«01_k».proof.Proof.Gen.AttnKernelIdeal.Frame
public import proofs.«01_k».proof.Proof.Gen.AttnKernelIdeal.Points
public import proofs.«01_k».proof.Proof.Gen.AttnKernelIdeal.Skeleton

@[expose] public section

noncomputable section

namespace Cert.AttnKernelIdeal.Gen

open Idealize.ShloMosaic Idealize.ShloMosaic.TcCoe Idealize.ShloMosaic.Tactic

/-- The keys' columns of block n. -/
theorem off_key (i : grid0.Coords) : k0_off1 i = ![128 * (i 0).val, 0] := by
  revert i; decide +kernel

/-- The values' columns of block n. -/
theorem off_value (i : grid0.Coords) : k0_off2 i = ![128 * (i 0).val, 128] := by
  revert i; decide +kernel

/-- The keys' columns of the block before. -/
theorem off_key_before (i : grid0.Coords) (h : 0 < (i 0).val) : k0_off3 i = ![128 * ((i 0).val - 1), 0] := by
  revert i; decide +kernel

/-- The values' columns of the block before. -/
theorem off_value_before (i : grid0.Coords) (h : 0 < (i 0).val) : k0_off4 i = ![128 * ((i 0).val - 1), 128] := by
  revert i; decide +kernel

instance (i : grid0.Coords) : ClosedOff (k0_off1 i) := ⟨_, off_key i⟩
instance (i : grid0.Coords) : ClosedOff (k0_off2 i) := ⟨_, off_value i⟩
instance (i : grid0.Coords) [h : Fact (0 < (i 0).val)] : ClosedOff (k0_off3 i) := ⟨_, off_key_before i h.out⟩
instance (i : grid0.Coords) [h : Fact (0 < (i 0).val)] : ClosedOff (k0_off4 i) := ⟨_, off_value_before i h.out⟩

/-- The body's two conditions in words: the first point, and every other. -/
theorem first_iff (i : grid0.Coords) :
    (Scalar.cmpi .ne (Scalar.extui (Scalar.cmpi .eq (BitVec.ofNat 32 (i 0).val) 0#32)) 0#32) = 1#1 ↔ (i 0).val = 0 := by
  revert i; decide +kernel

theorem later_iff (i : grid0.Coords) : k0_cond1 i = 1#1 ↔ 0 < (i 0).val := by
  revert i; decide +kernel

end Cert.AttnKernelIdeal.Gen

end
-- ==== Proof.AttnRunA.lean ====
/- The body of the attention and gating gradient's call, run once on any staging buffers. -/
module

public import proofs.«01_k».proof.Proof.AttnOffIdeal

@[expose] public section

set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
noncomputable def runA (c : Dev nD) (i : grid0.Coords) (arg1 : Memref sig .tc .vmem S128x1024 .bf16) (harg1 : arg1.IsWhole) (arg2 : Memref sig .tc .vmem S128x1792 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .smem S8 .f32) (harg5 : arg5.IsWhole) (arg6 : Memref sig .tc .vmem S1x8x256x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S128x512 .f32) (harg11 : arg11.IsWhole) (arg12 : Memref sig .tc .vmem S128x512 .bf16) (harg12 : arg12.IsWhole) (arg13 : Memref sig .tc .vmem S8192x256 .f32) (harg13 : arg13.IsWhole) (arg14 : Memref sig .tc .vmem S128x1024 .bf16) (harg14 : arg14.IsWhole) (arg15 : Memref sig .tc .vmem S1x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S8x128x128 .f32) (harg18 : arg18.IsWhole) (arg19 : Memref sig .tc .vmem S128x128 .f32) (harg19 : arg19.IsWhole) (arg20 : Memref sig .tc .vmem S8x256x128 .f32) (harg20 : arg20.IsWhole) (arg21 : Memref sig .tc .vmem S8x256x128 .f32) (harg21 : arg21.IsWhole) (arg22 : Memref sig .tc .vmem S8x256x128 .bf16) (harg22 : arg22.IsWhole) (arg23 : Memref sig .tc .vmem S8x256x128 .bf16) (harg23 : arg23.IsWhole) (arg24 : Memref sig .tc .vmem S128x512 .f32) (harg24 : arg24.IsWhole) (arg25 : Memref sig .tc .vmem S128x512 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x128 .f32) (harg29 : arg29.IsWhole) (arg30 : Memref sig .tc .vmem S128x512 .f32) (harg30 : arg30.IsWhole)
    (hc0 : (Scalar.cmpi .ne (Scalar.extui (Scalar.cmpi .eq (BitVec.ofNat 32 (i 0).val) 0#32)) 0#32) = 1#1) (hc1 : ¬k0_cond1 i = 1#1)
    (x0 : Vec F S128x1024 .bf16) (x1 : Vec F S128x1792 .bf16) (x2 : Vec F S128x128 .bf16) (x3 : Vec F S128x128 .bf16) (x4 : Vec F S8 .f32) (x5 : Vec F S1x8x256x128 .f32) (x6 : Vec F S1x512 .f32) (x7 : Vec F S1x512 .f32) (x8 : Vec F S8x128x128 .f32) (x9 : Vec F S8x128x128 .f32) (x10 : Vec F S128x512 .f32) (x11 : Vec F S128x512 .bf16) (x12 : Vec F S8192x256 .f32) (x13 : Vec F S128x1024 .bf16) (x14 : Vec F S1x128 .f32) (x15 : Vec F S1x512 .f32) (x16 : Vec F S1x512 .f32) (x17 : Vec F S8x128x128 .f32) (x18 : Vec F S128x128 .f32) :
    Σ' (L11 : List (View.Piece (Elt F) S128x512 .bf16)), Σ' (L12 : List (View.Piece (Elt F) S8192x256 .f32)), Σ' (L13 : List (View.Piece (Elt F) S128x1024 .bf16)), Σ' (L14 : List (View.Piece (Elt F) S1x128 .f32)), Σ' (L15 : List (View.Piece (Elt F) S1x512 .f32)), Σ' (L16 : List (View.Piece (Elt F) S1x512 .f32)), Σ' (L17 : List (View.Piece (Elt F) S8x128x128 .f32)), { L18 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (arg12.view.loc (c : Thread nD τ) ↦[arg12.view.set]{fullShare} arg12.view.writes (Elt F) (harg12.unread (Val := Elt F) x11) L11) ∗ (arg13.view.loc (c : Thread nD τ) ↦[arg13.view.set]{fullShare} arg13.view.writes (Elt F) (harg13.unread (Val := Elt F) x12) L12) ∗ (arg14.view.loc (c : Thread nD τ) ↦[arg14.view.set]{fullShare} arg14.view.writes (Elt F) (harg14.unread (Val := Elt F) x13) L13) ∗ (arg15.view.loc (c : Thread nD τ) ↦[arg15.view.set]{fullShare} arg15.view.writes (Elt F) (harg15.unread (Val := Elt F) x14) L14) ∗ (arg16.view.loc (c : Thread nD τ) ↦[arg16.view.set]{fullShare} arg16.view.writes (Elt F) (harg16.unread (Val := Elt F) x15) L15) ∗ (arg17.view.loc (c : Thread nD τ) ↦[arg17.view.set]{fullShare} arg17.view.writes (Elt F) (harg17.unread (Val := Elt F) x16) L16) ∗ (arg18.view.loc (c : Thread nD τ) ↦[arg18.view.set]{fullShare} arg18.view.writes (Elt F) (harg18.unread (Val := Elt F) x17) L17) ∗ (arg19.view.loc (c : Thread nD τ) ↦[arg19.view.set]{fullShare} arg19.view.writes (Elt F) (harg19.unread (Val := Elt F) x18) L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_b2_attn_gm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, fun E K => ?run⟩
  case run =>
    simp only [cc0_b2_attn_gm_eq_skeleton]; unfold cc0_b2_attn_gm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    skip
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    iexists _, _; isplitr; swap; · iexact H30
    ipureintro; rfl

end Cert.AttnKernelIdeal.Gen

end
-- ==== Proof.AttnRunB.lean ====
/- The body of the attention and gating gradient's call, run once on any staging buffers. -/
module

public import proofs.«01_k».proof.Proof.AttnOffIdeal

@[expose] public section

set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
noncomputable def runB (c : Dev nD) (i : grid0.Coords) (arg1 : Memref sig .tc .vmem S128x1024 .bf16) (harg1 : arg1.IsWhole) (arg2 : Memref sig .tc .vmem S128x1792 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .smem S8 .f32) (harg5 : arg5.IsWhole) (arg6 : Memref sig .tc .vmem S1x8x256x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S128x512 .f32) (harg11 : arg11.IsWhole) (arg12 : Memref sig .tc .vmem S128x512 .bf16) (harg12 : arg12.IsWhole) (arg13 : Memref sig .tc .vmem S8192x256 .f32) (harg13 : arg13.IsWhole) (arg14 : Memref sig .tc .vmem S128x1024 .bf16) (harg14 : arg14.IsWhole) (arg15 : Memref sig .tc .vmem S1x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S8x128x128 .f32) (harg18 : arg18.IsWhole) (arg19 : Memref sig .tc .vmem S128x128 .f32) (harg19 : arg19.IsWhole) (arg20 : Memref sig .tc .vmem S8x256x128 .f32) (harg20 : arg20.IsWhole) (arg21 : Memref sig .tc .vmem S8x256x128 .f32) (harg21 : arg21.IsWhole) (arg22 : Memref sig .tc .vmem S8x256x128 .bf16) (harg22 : arg22.IsWhole) (arg23 : Memref sig .tc .vmem S8x256x128 .bf16) (harg23 : arg23.IsWhole) (arg24 : Memref sig .tc .vmem S128x512 .f32) (harg24 : arg24.IsWhole) (arg25 : Memref sig .tc .vmem S128x512 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x128 .f32) (harg29 : arg29.IsWhole) (arg30 : Memref sig .tc .vmem S128x512 .f32) (harg30 : arg30.IsWhole)
    (hc0 : ¬(Scalar.cmpi .ne (Scalar.extui (Scalar.cmpi .eq (BitVec.ofNat 32 (i 0).val) 0#32)) 0#32) = 1#1) (hc1 : k0_cond1 i = 1#1) (hpos : 0 < (i 0).val)
    (x0 : Vec F S128x1024 .bf16) (x1 : Vec F S128x1792 .bf16) (x2 : Vec F S128x128 .bf16) (x3 : Vec F S128x128 .bf16) (x4 : Vec F S8 .f32) (x5 : Vec F S1x8x256x128 .f32) (x6 : Vec F S1x512 .f32) (x7 : Vec F S1x512 .f32) (x8 : Vec F S8x128x128 .f32) (x9 : Vec F S8x128x128 .f32) (x10 : Vec F S128x512 .f32) (x11 : Vec F S128x512 .bf16) (x12 : Vec F S8192x256 .f32) (x13 : Vec F S128x1024 .bf16) (x14 : Vec F S1x128 .f32) (x15 : Vec F S1x512 .f32) (x16 : Vec F S1x512 .f32) (x17 : Vec F S8x128x128 .f32) (x18 : Vec F S128x128 .f32) :
    Σ' (L11 : List (View.Piece (Elt F) S128x512 .bf16)), Σ' (L12 : List (View.Piece (Elt F) S8192x256 .f32)), Σ' (L13 : List (View.Piece (Elt F) S128x1024 .bf16)), Σ' (L14 : List (View.Piece (Elt F) S1x128 .f32)), Σ' (L15 : List (View.Piece (Elt F) S1x512 .f32)), Σ' (L16 : List (View.Piece (Elt F) S1x512 .f32)), Σ' (L17 : List (View.Piece (Elt F) S8x128x128 .f32)), { L18 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (arg12.view.loc (c : Thread nD τ) ↦[arg12.view.set]{fullShare} arg12.view.writes (Elt F) (harg12.unread (Val := Elt F) x11) L11) ∗ (arg13.view.loc (c : Thread nD τ) ↦[arg13.view.set]{fullShare} arg13.view.writes (Elt F) (harg13.unread (Val := Elt F) x12) L12) ∗ (arg14.view.loc (c : Thread nD τ) ↦[arg14.view.set]{fullShare} arg14.view.writes (Elt F) (harg14.unread (Val := Elt F) x13) L13) ∗ (arg15.view.loc (c : Thread nD τ) ↦[arg15.view.set]{fullShare} arg15.view.writes (Elt F) (harg15.unread (Val := Elt F) x14) L14) ∗ (arg16.view.loc (c : Thread nD τ) ↦[arg16.view.set]{fullShare} arg16.view.writes (Elt F) (harg16.unread (Val := Elt F) x15) L15) ∗ (arg17.view.loc (c : Thread nD τ) ↦[arg17.view.set]{fullShare} arg17.view.writes (Elt F) (harg17.unread (Val := Elt F) x16) L16) ∗ (arg18.view.loc (c : Thread nD τ) ↦[arg18.view.set]{fullShare} arg18.view.writes (Elt F) (harg18.unread (Val := Elt F) x17) L17) ∗ (arg19.view.loc (c : Thread nD τ) ↦[arg19.view.set]{fullShare} arg19.view.writes (Elt F) (harg19.unread (Val := Elt F) x18) L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_b2_attn_gm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, fun E K => ?run⟩
  case run =>
    simp only [cc0_b2_attn_gm_eq_skeleton]; unfold cc0_b2_attn_gm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    haveI : Fact (0 < (i 0).val) := ⟨hpos⟩
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    iexists _, _; isplitr; swap; · iexact H30
    ipureintro; rfl

end Cert.AttnKernelIdeal.Gen

end
-- ==== Proof.AttnBodyIdeal.lean ====
/- What one grid point of the attention and gating gradient's call does to its windows, and the whole call's run: of each output
   window, what a point leaves there is the body's own stores over what it found. -/
module

public import proofs.«01_k».proof.Proof.AttnRunA
public import proofs.«01_k».proof.Proof.AttnRunB
public import proofs.«01_k».proof.Proof.Gen.AttnKernelIdeal.Launch
public import Idealize.ShloMosaic.Lib.Pipeline.DatRel
public import Idealize.ShloMosaic.Lib.Claim

@[expose] public section

set_option maxRecDepth 16384

noncomputable section

namespace Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of every window's staging buffer. -/
abbrev Blocks (F : FTy → Type) [FloatOps F] : Type := (w : Fin 19) → (cfg0.win w).block.Idx → Elt F (cfg0.win w).elt

theorem not_first {i : grid0.Coords} (h : ¬ (i 0).val = 0) :
    ¬ (Scalar.cmpi .ne (Scalar.extui (Scalar.cmpi .eq (BitVec.ofNat 32 (i 0).val) 0#32)) 0#32) = 1#1 :=
  fun k => h ((first_iff i).mp k)

theorem not_later {i : grid0.Coords} (h : (i 0).val = 0) : ¬ k0_cond1 i = 1#1 :=
  fun k => absurd ((later_iff i).mp k) (by omega)

/-- The body's run at point t, the first, from the windows' contents Z. -/
def pointA (c : Dev nD) (t : Fin cfg0.N) (h : ((grid0.coords t) 0).val = 0) (Z : Blocks F) :=
  runA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) ((first_iff _).mpr h) (not_later h) (Z 0) (Z 1) (Z 2) (Z 3) (Z 4) (Z 5) (Z 6) (Z 7) (Z 8) (Z 9) (Z 10) (Z 11) (Z 12) (Z 13) (Z 14) (Z 15) (Z 16) (Z 17) (Z 18)

/-- What it leaves in each window. -/
def leftA (c : Dev nD) (t : Fin cfg0.N) (h : ((grid0.coords t) 0).val = 0) (Z : Blocks F) : Blocks F
  | ⟨0, _⟩ => Z 0
  | ⟨1, _⟩ => Z 1
  | ⟨2, _⟩ => Z 2
  | ⟨3, _⟩ => Z 3
  | ⟨4, _⟩ => Z 4
  | ⟨5, _⟩ => Z 5
  | ⟨6, _⟩ => Z 6
  | ⟨7, _⟩ => Z 7
  | ⟨8, _⟩ => Z 8
  | ⟨9, _⟩ => Z 9
  | ⟨10, _⟩ => Z 10
  | ⟨11, _⟩ => (win0_11.stage (cfg0.slots t 11)).view.read (Elt F) ((win0_11.stage (cfg0.slots t 11)).view.writes (Elt F) ((hstage0_11 ((cfg0.slots t 11).cast nbuf0_11)).unread (Val := Elt F) (Z 11)) (pointA c t h Z).1)
  | ⟨12, _⟩ => (win0_12.stage (cfg0.slots t 12)).view.read (Elt F) ((win0_12.stage (cfg0.slots t 12)).view.writes (Elt F) ((hstage0_12 ((cfg0.slots t 12).cast nbuf0_12)).unread (Val := Elt F) (Z 12)) (pointA c t h Z).2.1)
  | ⟨13, _⟩ => (win0_13.stage (cfg0.slots t 13)).view.read (Elt F) ((win0_13.stage (cfg0.slots t 13)).view.writes (Elt F) ((hstage0_13 ((cfg0.slots t 13).cast nbuf0_13)).unread (Val := Elt F) (Z 13)) (pointA c t h Z).2.2.1)
  | ⟨14, _⟩ => (win0_14.stage (cfg0.slots t 14)).view.read (Elt F) ((win0_14.stage (cfg0.slots t 14)).view.writes (Elt F) ((hstage0_14 ((cfg0.slots t 14).cast nbuf0_14)).unread (Val := Elt F) (Z 14)) (pointA c t h Z).2.2.2.1)
  | ⟨15, _⟩ => (win0_15.stage (cfg0.slots t 15)).view.read (Elt F) ((win0_15.stage (cfg0.slots t 15)).view.writes (Elt F) ((hstage0_15 ((cfg0.slots t 15).cast nbuf0_15)).unread (Val := Elt F) (Z 15)) (pointA c t h Z).2.2.2.2.1)
  | ⟨16, _⟩ => (win0_16.stage (cfg0.slots t 16)).view.read (Elt F) ((win0_16.stage (cfg0.slots t 16)).view.writes (Elt F) ((hstage0_16 ((cfg0.slots t 16).cast nbuf0_16)).unread (Val := Elt F) (Z 16)) (pointA c t h Z).2.2.2.2.2.1)
  | ⟨17, _⟩ => (win0_17.stage (cfg0.slots t 17)).view.read (Elt F) ((win0_17.stage (cfg0.slots t 17)).view.writes (Elt F) ((hstage0_17 ((cfg0.slots t 17).cast nbuf0_17)).unread (Val := Elt F) (Z 17)) (pointA c t h Z).2.2.2.2.2.2.1)
  | ⟨18, _⟩ => (win0_18.stage (cfg0.slots t 18)).view.read (Elt F) ((win0_18.stage (cfg0.slots t 18)).view.writes (Elt F) ((hstage0_18 ((cfg0.slots t 18).cast nbuf0_18)).unread (Val := Elt F) (Z 18)) (pointA c t h Z).2.2.2.2.2.2.2.1)
  | ⟨n + 19, h⟩ => absurd h (by omega)

/-- The body's run at point t, not the first, from the windows' contents Z. -/
def pointB (c : Dev nD) (t : Fin cfg0.N) (h : ¬ ((grid0.coords t) 0).val = 0) (Z : Blocks F) :=
  runB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (not_first h) ((later_iff _).mpr (Nat.pos_of_ne_zero h)) (Nat.pos_of_ne_zero h) (Z 0) (Z 1) (Z 2) (Z 3) (Z 4) (Z 5) (Z 6) (Z 7) (Z 8) (Z 9) (Z 10) (Z 11) (Z 12) (Z 13) (Z 14) (Z 15) (Z 16) (Z 17) (Z 18)

/-- What it leaves in each window. -/
def leftB (c : Dev nD) (t : Fin cfg0.N) (h : ¬ ((grid0.coords t) 0).val = 0) (Z : Blocks F) : Blocks F
  | ⟨0, _⟩ => Z 0
  | ⟨1, _⟩ => Z 1
  | ⟨2, _⟩ => Z 2
  | ⟨3, _⟩ => Z 3
  | ⟨4, _⟩ => Z 4
  | ⟨5, _⟩ => Z 5
  | ⟨6, _⟩ => Z 6
  | ⟨7, _⟩ => Z 7
  | ⟨8, _⟩ => Z 8
  | ⟨9, _⟩ => Z 9
  | ⟨10, _⟩ => Z 10
  | ⟨11, _⟩ => (win0_11.stage (cfg0.slots t 11)).view.read (Elt F) ((win0_11.stage (cfg0.slots t 11)).view.writes (Elt F) ((hstage0_11 ((cfg0.slots t 11).cast nbuf0_11)).unread (Val := Elt F) (Z 11)) (pointB c t h Z).1)
  | ⟨12, _⟩ => (win0_12.stage (cfg0.slots t 12)).view.read (Elt F) ((win0_12.stage (cfg0.slots t 12)).view.writes (Elt F) ((hstage0_12 ((cfg0.slots t 12).cast nbuf0_12)).unread (Val := Elt F) (Z 12)) (pointB c t h Z).2.1)
  | ⟨13, _⟩ => (win0_13.stage (cfg0.slots t 13)).view.read (Elt F) ((win0_13.stage (cfg0.slots t 13)).view.writes (Elt F) ((hstage0_13 ((cfg0.slots t 13).cast nbuf0_13)).unread (Val := Elt F) (Z 13)) (pointB c t h Z).2.2.1)
  | ⟨14, _⟩ => (win0_14.stage (cfg0.slots t 14)).view.read (Elt F) ((win0_14.stage (cfg0.slots t 14)).view.writes (Elt F) ((hstage0_14 ((cfg0.slots t 14).cast nbuf0_14)).unread (Val := Elt F) (Z 14)) (pointB c t h Z).2.2.2.1)
  | ⟨15, _⟩ => (win0_15.stage (cfg0.slots t 15)).view.read (Elt F) ((win0_15.stage (cfg0.slots t 15)).view.writes (Elt F) ((hstage0_15 ((cfg0.slots t 15).cast nbuf0_15)).unread (Val := Elt F) (Z 15)) (pointB c t h Z).2.2.2.2.1)
  | ⟨16, _⟩ => (win0_16.stage (cfg0.slots t 16)).view.read (Elt F) ((win0_16.stage (cfg0.slots t 16)).view.writes (Elt F) ((hstage0_16 ((cfg0.slots t 16).cast nbuf0_16)).unread (Val := Elt F) (Z 16)) (pointB c t h Z).2.2.2.2.2.1)
  | ⟨17, _⟩ => (win0_17.stage (cfg0.slots t 17)).view.read (Elt F) ((win0_17.stage (cfg0.slots t 17)).view.writes (Elt F) ((hstage0_17 ((cfg0.slots t 17).cast nbuf0_17)).unread (Val := Elt F) (Z 17)) (pointB c t h Z).2.2.2.2.2.2.1)
  | ⟨18, _⟩ => (win0_18.stage (cfg0.slots t 18)).view.read (Elt F) ((win0_18.stage (cfg0.slots t 18)).view.writes (Elt F) ((hstage0_18 ((cfg0.slots t 18).cast nbuf0_18)).unread (Val := Elt F) (Z 18)) (pointB c t h Z).2.2.2.2.2.2.2.1)
  | ⟨n + 19, h⟩ => absurd h (by omega)

/-- What a point leaves in the windows, from their contents Z. -/
def left (c : Dev nD) (t : Fin cfg0.N) (Z : Blocks F) : Blocks F :=
  if h : ((grid0.coords t) 0).val = 0 then leftA c t h Z else leftB c t h Z

/-- The input windows hold their blocks. -/
def Fed (c : Dev nD) (t : Fin cfg0.N) (Z : Blocks F) : Prop :=
  Z 0 = iblk m c 0 t ∧ Z 1 = iblk m c 1 t ∧ Z 2 = iblk m c 2 t ∧ Z 3 = iblk m c 3 t ∧ Z 4 = iblk m c 4 t ∧ Z 5 = iblk m c 5 t ∧ Z 6 = iblk m c 6 t ∧ Z 7 = iblk m c 7 t ∧ Z 8 = iblk m c 8 t ∧ Z 9 = iblk m c 9 t ∧ Z 10 = iblk m c 10 t

/-- The proof data that names the inputs' contents alone. -/
def named (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => iblk m c 8 t
    | 9 => fun t => iblk m c 9 t
    | 10 => fun t => iblk m c 10 t
    | w => fun t => Dat.unnamed (cfg := cfg0) w t
  Φ _ := Pipeline.ΦA spec0 c
  q w := Pipeline.shareOf spec0 w
  owed _ := 0

/-- The windows the body writes. -/
def isOutput : Fin 19 → Bool := fun w => decide (11 ≤ w.val)

/-- What the call leaves in its windows: an output window holds at each point what the body makes of the contents that it found. -/
def data (c : Dev nD) : RDat τ (Elt F) Unit ℕ (UR sig nD τ) ℕ cfg0 c :=
  (named m c).toR.override fun w =>
    if isOutput w then some (fun t Y X => ∃ Z, Fed m c t Z ∧ Z w = Y ∧ X = left c t Z w) else none

theorem data_A (c : Dev nD) (w : Fin cfg0.W) : (data m c).A w = V m c (Pipeline.arrRef spec0 w) := by
  show (named m c).A w = _; dsimp only [named]

theorem found_0 (c : Dev nD) (t : Fin cfg0.N) {Y} (h : (data m c).Finds 0 t Y) : Y = iblk m c 0 t := by
  obtain ⟨d, hd⟩ := (named m c).toR_finds 0 t Y (((named m c).toR.override_finds (by rfl) t Y).mp h)
  exact hd.trans (before0_0_of m (named m c) rfl (fun _ => rfl) t d)

theorem found_1 (c : Dev nD) (t : Fin cfg0.N) {Y} (h : (data m c).Finds 1 t Y) : Y = iblk m c 1 t := by
  obtain ⟨d, hd⟩ := (named m c).toR_finds 1 t Y (((named m c).toR.override_finds (by rfl) t Y).mp h)
  exact hd.trans (before0_1_of m (named m c) rfl (fun _ => rfl) t d)

theorem found_2 (c : Dev nD) (t : Fin cfg0.N) {Y} (h : (data m c).Finds 2 t Y) : Y = iblk m c 2 t := by
  obtain ⟨d, hd⟩ := (named m c).toR_finds 2 t Y (((named m c).toR.override_finds (by rfl) t Y).mp h)
  exact hd.trans (before0_2_of m (named m c) rfl (fun _ => rfl) t d)

theorem found_3 (c : Dev nD) (t : Fin cfg0.N) {Y} (h : (data m c).Finds 3 t Y) : Y = iblk m c 3 t := by
  obtain ⟨d, hd⟩ := (named m c).toR_finds 3 t Y (((named m c).toR.override_finds (by rfl) t Y).mp h)
  exact hd.trans (before0_3_of m (named m c) rfl (fun _ => rfl) t d)

theorem found_4 (c : Dev nD) (t : Fin cfg0.N) {Y} (h : (data m c).Finds 4 t Y) : Y = iblk m c 4 t := by
  obtain ⟨d, hd⟩ := (named m c).toR_finds 4 t Y (((named m c).toR.override_finds (by rfl) t Y).mp h)
  exact hd.trans (before0_4_of m (named m c) rfl (fun _ => rfl) t d)

theorem found_5 (c : Dev nD) (t : Fin cfg0.N) {Y} (h : (data m c).Finds 5 t Y) : Y = iblk m c 5 t := by
  obtain ⟨d, hd⟩ := (named m c).toR_finds 5 t Y (((named m c).toR.override_finds (by rfl) t Y).mp h)
  exact hd.trans (before0_5_of m (named m c) rfl (fun _ => rfl) t d)

theorem found_6 (c : Dev nD) (t : Fin cfg0.N) {Y} (h : (data m c).Finds 6 t Y) : Y = iblk m c 6 t := by
  obtain ⟨d, hd⟩ := (named m c).toR_finds 6 t Y (((named m c).toR.override_finds (by rfl) t Y).mp h)
  exact hd.trans (before0_6_of m (named m c) rfl (fun _ => rfl) t d)

theorem found_7 (c : Dev nD) (t : Fin cfg0.N) {Y} (h : (data m c).Finds 7 t Y) : Y = iblk m c 7 t := by
  obtain ⟨d, hd⟩ := (named m c).toR_finds 7 t Y (((named m c).toR.override_finds (by rfl) t Y).mp h)
  exact hd.trans (before0_7_of m (named m c) rfl (fun _ => rfl) t d)

theorem found_8 (c : Dev nD) (t : Fin cfg0.N) {Y} (h : (data m c).Finds 8 t Y) : Y = iblk m c 8 t := by
  obtain ⟨d, hd⟩ := (named m c).toR_finds 8 t Y (((named m c).toR.override_finds (by rfl) t Y).mp h)
  exact hd.trans (before0_8_of m (named m c) rfl (fun _ => rfl) t d)

theorem found_9 (c : Dev nD) (t : Fin cfg0.N) {Y} (h : (data m c).Finds 9 t Y) : Y = iblk m c 9 t := by
  obtain ⟨d, hd⟩ := (named m c).toR_finds 9 t Y (((named m c).toR.override_finds (by rfl) t Y).mp h)
  exact hd.trans (before0_9_of m (named m c) rfl (fun _ => rfl) t d)

theorem found_10 (c : Dev nD) (t : Fin cfg0.N) {Y} (h : (data m c).Finds 10 t Y) : Y = iblk m c 10 t := by
  obtain ⟨d, hd⟩ := (named m c).toR_finds 10 t Y (((named m c).toR.override_finds (by rfl) t Y).mp h)
  exact hd.trans (before0_10_of m (named m c) rfl (fun _ => rfl) t d)

theorem input_stays (c : Dev nD) (w : Fin 19) (hw : isOutput w = false) (t : Fin cfg0.N) (Z : Blocks F) (hZ : Fed m c t Z) (Y) {X : (cfg0.win w).block.Idx → Elt F (cfg0.win w).elt}
    (h : X = (named m c).after w t) : (data m c).after w t Y X := by
  have e : (data m c).after w = (named m c).toR.after w := (named m c).toR.override_after_of_eq_none (by simp only [hw]; rfl)
  rw [e]; exact h

theorem output_left (c : Dev nD) (w : Fin 19) (hw : isOutput w = true) (t : Fin cfg0.N) (Z : Blocks F) (hZ : Fed m c t Z) :
    (data m c).after w t (Z w) (left c t Z w) := by
  have e := (named m c).toR.override_after_of_eq_some (ovr := fun w => if isOutput w then some (fun t Y X => ∃ Z, Fed m c t Z ∧ Z w = Y ∧ X = left c t Z w) else none) (w := w) (by simp only [hw]; rfl)
  exact (congrFun (congrFun (congrFun e t) (Z w)) _).mpr ⟨Z, hZ, rfl, rfl⟩

theorem left_0 (c : Dev nD) (t : Fin cfg0.N) (Z : Blocks F) (hZ : Fed m c t Z) : left c t Z 0 = (named m c).after 0 t := by
  unfold left; split <;> exact hZ.1

theorem left_1 (c : Dev nD) (t : Fin cfg0.N) (Z : Blocks F) (hZ : Fed m c t Z) : left c t Z 1 = (named m c).after 1 t := by
  unfold left; split <;> exact hZ.2.1

theorem left_2 (c : Dev nD) (t : Fin cfg0.N) (Z : Blocks F) (hZ : Fed m c t Z) : left c t Z 2 = (named m c).after 2 t := by
  unfold left; split <;> exact hZ.2.2.1

theorem left_3 (c : Dev nD) (t : Fin cfg0.N) (Z : Blocks F) (hZ : Fed m c t Z) : left c t Z 3 = (named m c).after 3 t := by
  unfold left; split <;> exact hZ.2.2.2.1

theorem left_4 (c : Dev nD) (t : Fin cfg0.N) (Z : Blocks F) (hZ : Fed m c t Z) : left c t Z 4 = (named m c).after 4 t := by
  unfold left; split <;> exact hZ.2.2.2.2.1

theorem left_5 (c : Dev nD) (t : Fin cfg0.N) (Z : Blocks F) (hZ : Fed m c t Z) : left c t Z 5 = (named m c).after 5 t := by
  unfold left; split <;> exact hZ.2.2.2.2.2.1

theorem left_6 (c : Dev nD) (t : Fin cfg0.N) (Z : Blocks F) (hZ : Fed m c t Z) : left c t Z 6 = (named m c).after 6 t := by
  unfold left; split <;> exact hZ.2.2.2.2.2.2.1

theorem left_7 (c : Dev nD) (t : Fin cfg0.N) (Z : Blocks F) (hZ : Fed m c t Z) : left c t Z 7 = (named m c).after 7 t := by
  unfold left; split <;> exact hZ.2.2.2.2.2.2.2.1

theorem left_8 (c : Dev nD) (t : Fin cfg0.N) (Z : Blocks F) (hZ : Fed m c t Z) : left c t Z 8 = (named m c).after 8 t := by
  unfold left; split <;> exact hZ.2.2.2.2.2.2.2.2.1

theorem left_9 (c : Dev nD) (t : Fin cfg0.N) (Z : Blocks F) (hZ : Fed m c t Z) : left c t Z 9 = (named m c).after 9 t := by
  unfold left; split <;> exact hZ.2.2.2.2.2.2.2.2.2.1

theorem left_10 (c : Dev nD) (t : Fin cfg0.N) (Z : Blocks F) (hZ : Fed m c t Z) : left c t Z 10 = (named m c).after 10 t := by
  unfold left; split <;> exact hZ.2.2.2.2.2.2.2.2.2.2

/-- The invariant between points: every scratch at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

set_option maxHeartbeats 4000000 in
theorem tripleA (c : Dev nD) (t : Fin cfg0.N) (h : ((grid0.coords t) 0).val = 0) (Z : Blocks F) (K : PUnit → sProp 𝕄) :
    iprop((owns (c : Thread nD τ) (win0_0.stage (cfg0.slots t 0)) fullShare (Z 0) ∗ owns (c : Thread nD τ) (win0_1.stage (cfg0.slots t 1)) fullShare (Z 1) ∗ owns (c : Thread nD τ) (win0_2.stage (cfg0.slots t 2)) fullShare (Z 2) ∗ owns (c : Thread nD τ) (win0_3.stage (cfg0.slots t 3)) fullShare (Z 3) ∗ owns (c : Thread nD τ) (win0_4.stage (cfg0.slots t 4)) fullShare (Z 4) ∗ owns (c : Thread nD τ) (win0_5.stage (cfg0.slots t 5)) fullShare (Z 5) ∗ owns (c : Thread nD τ) (win0_6.stage (cfg0.slots t 6)) fullShare (Z 6) ∗ owns (c : Thread nD τ) (win0_7.stage (cfg0.slots t 7)) fullShare (Z 7) ∗ owns (c : Thread nD τ) (win0_8.stage (cfg0.slots t 8)) fullShare (Z 8) ∗ owns (c : Thread nD τ) (win0_9.stage (cfg0.slots t 9)) fullShare (Z 9) ∗ owns (c : Thread nD τ) (win0_10.stage (cfg0.slots t 10)) fullShare (Z 10) ∗ owns (c : Thread nD τ) (win0_11.stage (cfg0.slots t 11)) fullShare (Z 11) ∗ owns (c : Thread nD τ) (win0_12.stage (cfg0.slots t 12)) fullShare (Z 12) ∗ owns (c : Thread nD τ) (win0_13.stage (cfg0.slots t 13)) fullShare (Z 13) ∗ owns (c : Thread nD τ) (win0_14.stage (cfg0.slots t 14)) fullShare (Z 14) ∗ owns (c : Thread nD τ) (win0_15.stage (cfg0.slots t 15)) fullShare (Z 15) ∗ owns (c : Thread nD τ) (win0_16.stage (cfg0.slots t 16)) fullShare (Z 16) ∗ owns (c : Thread nD τ) (win0_17.stage (cfg0.slots t 17)) fullShare (Z 17) ∗ owns (c : Thread nD τ) (win0_18.stage (cfg0.slots t 18)) fullShare (Z 18)) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))
        ∗ (iprop((owns (c : Thread nD τ) (win0_0.stage (cfg0.slots t 0)) fullShare (leftA c t h Z 0) ∗ owns (c : Thread nD τ) (win0_1.stage (cfg0.slots t 1)) fullShare (leftA c t h Z 1) ∗ owns (c : Thread nD τ) (win0_2.stage (cfg0.slots t 2)) fullShare (leftA c t h Z 2) ∗ owns (c : Thread nD τ) (win0_3.stage (cfg0.slots t 3)) fullShare (leftA c t h Z 3) ∗ owns (c : Thread nD τ) (win0_4.stage (cfg0.slots t 4)) fullShare (leftA c t h Z 4) ∗ owns (c : Thread nD τ) (win0_5.stage (cfg0.slots t 5)) fullShare (leftA c t h Z 5) ∗ owns (c : Thread nD τ) (win0_6.stage (cfg0.slots t 6)) fullShare (leftA c t h Z 6) ∗ owns (c : Thread nD τ) (win0_7.stage (cfg0.slots t 7)) fullShare (leftA c t h Z 7) ∗ owns (c : Thread nD τ) (win0_8.stage (cfg0.slots t 8)) fullShare (leftA c t h Z 8) ∗ owns (c : Thread nD τ) (win0_9.stage (cfg0.slots t 9)) fullShare (leftA c t h Z 9) ∗ owns (c : Thread nD τ) (win0_10.stage (cfg0.slots t 10)) fullShare (leftA c t h Z 10) ∗ owns (c : Thread nD τ) (win0_11.stage (cfg0.slots t 11)) fullShare (leftA c t h Z 11) ∗ owns (c : Thread nD τ) (win0_12.stage (cfg0.slots t 12)) fullShare (leftA c t h Z 12) ∗ owns (c : Thread nD τ) (win0_13.stage (cfg0.slots t 13)) fullShare (leftA c t h Z 13) ∗ owns (c : Thread nD τ) (win0_14.stage (cfg0.slots t 14)) fullShare (leftA c t h Z 14) ∗ owns (c : Thread nD τ) (win0_15.stage (cfg0.slots t 15)) fullShare (leftA c t h Z 15) ∗ owns (c : Thread nD τ) (win0_16.stage (cfg0.slots t 16)) fullShare (leftA c t h Z 16) ∗ owns (c : Thread nD τ) (win0_17.stage (cfg0.slots t 17)) fullShare (leftA c t h Z 17) ∗ owns (c : Thread nD τ) (win0_18.stage (cfg0.slots t 18)) fullShare (leftA c t h Z 18)) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))) -∗ K ⟨⟩))
      ⊢ wp frame (wpE (defs₀ (F := F)) Variants.none c none) Set.univ (bodyAt0 t) K := by
  unfold bodyAt0
  iintro ⟨⟨H0, H1, H2, H3, H4, H5, H6, H7, H8, H9, H10, H11, H12, H13, H14, H15, H16, H17, H18⟩, ⟨S0, S1, S2, S3, S4, S5, S6, S7, S8, S9, S10⟩, Hk⟩
  iapply ((pointA c t h Z).2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, H9, H10, H11, H12, H13, H14, H15, H16, H17, H18, S0, S1, S2, S3, S4, S5, S6, S7, S8, S9, S10⟩
  iapply Hk
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr; swap; · iexact H11
      ipureintro; rfl
    isplitl [H12]
    · unfold owns; iexists _; isplitr; swap; · iexact H12
      ipureintro; rfl
    isplitl [H13]
    · unfold owns; iexists _; isplitr; swap; · iexact H13
      ipureintro; rfl
    isplitl [H14]
    · unfold owns; iexists _; isplitr; swap; · iexact H14
      ipureintro; rfl
    isplitl [H15]
    · unfold owns; iexists _; isplitr; swap; · iexact H15
      ipureintro; rfl
    isplitl [H16]
    · unfold owns; iexists _; isplitr; swap; · iexact H16
      ipureintro; rfl
    isplitl [H17]
    · unfold owns; iexists _; isplitr; swap; · iexact H17
      ipureintro; rfl
    unfold owns; iexists _; isplitr; swap; · iexact H18
    ipureintro; rfl
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

set_option maxHeartbeats 4000000 in
theorem tripleB (c : Dev nD) (t : Fin cfg0.N) (h : ¬ ((grid0.coords t) 0).val = 0) (Z : Blocks F) (K : PUnit → sProp 𝕄) :
    iprop((owns (c : Thread nD τ) (win0_0.stage (cfg0.slots t 0)) fullShare (Z 0) ∗ owns (c : Thread nD τ) (win0_1.stage (cfg0.slots t 1)) fullShare (Z 1) ∗ owns (c : Thread nD τ) (win0_2.stage (cfg0.slots t 2)) fullShare (Z 2) ∗ owns (c : Thread nD τ) (win0_3.stage (cfg0.slots t 3)) fullShare (Z 3) ∗ owns (c : Thread nD τ) (win0_4.stage (cfg0.slots t 4)) fullShare (Z 4) ∗ owns (c : Thread nD τ) (win0_5.stage (cfg0.slots t 5)) fullShare (Z 5) ∗ owns (c : Thread nD τ) (win0_6.stage (cfg0.slots t 6)) fullShare (Z 6) ∗ owns (c : Thread nD τ) (win0_7.stage (cfg0.slots t 7)) fullShare (Z 7) ∗ owns (c : Thread nD τ) (win0_8.stage (cfg0.slots t 8)) fullShare (Z 8) ∗ owns (c : Thread nD τ) (win0_9.stage (cfg0.slots t 9)) fullShare (Z 9) ∗ owns (c : Thread nD τ) (win0_10.stage (cfg0.slots t 10)) fullShare (Z 10) ∗ owns (c : Thread nD τ) (win0_11.stage (cfg0.slots t 11)) fullShare (Z 11) ∗ owns (c : Thread nD τ) (win0_12.stage (cfg0.slots t 12)) fullShare (Z 12) ∗ owns (c : Thread nD τ) (win0_13.stage (cfg0.slots t 13)) fullShare (Z 13) ∗ owns (c : Thread nD τ) (win0_14.stage (cfg0.slots t 14)) fullShare (Z 14) ∗ owns (c : Thread nD τ) (win0_15.stage (cfg0.slots t 15)) fullShare (Z 15) ∗ owns (c : Thread nD τ) (win0_16.stage (cfg0.slots t 16)) fullShare (Z 16) ∗ owns (c : Thread nD τ) (win0_17.stage (cfg0.slots t 17)) fullShare (Z 17) ∗ owns (c : Thread nD τ) (win0_18.stage (cfg0.slots t 18)) fullShare (Z 18)) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))
        ∗ (iprop((owns (c : Thread nD τ) (win0_0.stage (cfg0.slots t 0)) fullShare (leftB c t h Z 0) ∗ owns (c : Thread nD τ) (win0_1.stage (cfg0.slots t 1)) fullShare (leftB c t h Z 1) ∗ owns (c : Thread nD τ) (win0_2.stage (cfg0.slots t 2)) fullShare (leftB c t h Z 2) ∗ owns (c : Thread nD τ) (win0_3.stage (cfg0.slots t 3)) fullShare (leftB c t h Z 3) ∗ owns (c : Thread nD τ) (win0_4.stage (cfg0.slots t 4)) fullShare (leftB c t h Z 4) ∗ owns (c : Thread nD τ) (win0_5.stage (cfg0.slots t 5)) fullShare (leftB c t h Z 5) ∗ owns (c : Thread nD τ) (win0_6.stage (cfg0.slots t 6)) fullShare (leftB c t h Z 6) ∗ owns (c : Thread nD τ) (win0_7.stage (cfg0.slots t 7)) fullShare (leftB c t h Z 7) ∗ owns (c : Thread nD τ) (win0_8.stage (cfg0.slots t 8)) fullShare (leftB c t h Z 8) ∗ owns (c : Thread nD τ) (win0_9.stage (cfg0.slots t 9)) fullShare (leftB c t h Z 9) ∗ owns (c : Thread nD τ) (win0_10.stage (cfg0.slots t 10)) fullShare (leftB c t h Z 10) ∗ owns (c : Thread nD τ) (win0_11.stage (cfg0.slots t 11)) fullShare (leftB c t h Z 11) ∗ owns (c : Thread nD τ) (win0_12.stage (cfg0.slots t 12)) fullShare (leftB c t h Z 12) ∗ owns (c : Thread nD τ) (win0_13.stage (cfg0.slots t 13)) fullShare (leftB c t h Z 13) ∗ owns (c : Thread nD τ) (win0_14.stage (cfg0.slots t 14)) fullShare (leftB c t h Z 14) ∗ owns (c : Thread nD τ) (win0_15.stage (cfg0.slots t 15)) fullShare (leftB c t h Z 15) ∗ owns (c : Thread nD τ) (win0_16.stage (cfg0.slots t 16)) fullShare (leftB c t h Z 16) ∗ owns (c : Thread nD τ) (win0_17.stage (cfg0.slots t 17)) fullShare (leftB c t h Z 17) ∗ owns (c : Thread nD τ) (win0_18.stage (cfg0.slots t 18)) fullShare (leftB c t h Z 18)) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))) -∗ K ⟨⟩))
      ⊢ wp frame (wpE (defs₀ (F := F)) Variants.none c none) Set.univ (bodyAt0 t) K := by
  unfold bodyAt0
  iintro ⟨⟨H0, H1, H2, H3, H4, H5, H6, H7, H8, H9, H10, H11, H12, H13, H14, H15, H16, H17, H18⟩, ⟨S0, S1, S2, S3, S4, S5, S6, S7, S8, S9, S10⟩, Hk⟩
  iapply ((pointB c t h Z).2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, H9, H10, H11, H12, H13, H14, H15, H16, H17, H18, S0, S1, S2, S3, S4, S5, S6, S7, S8, S9, S10⟩
  iapply Hk
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr; swap; · iexact H11
      ipureintro; rfl
    isplitl [H12]
    · unfold owns; iexists _; isplitr; swap; · iexact H12
      ipureintro; rfl
    isplitl [H13]
    · unfold owns; iexists _; isplitr; swap; · iexact H13
      ipureintro; rfl
    isplitl [H14]
    · unfold owns; iexists _; isplitr; swap; · iexact H14
      ipureintro; rfl
    isplitl [H15]
    · unfold owns; iexists _; isplitr; swap; · iexact H15
      ipureintro; rfl
    isplitl [H16]
    · unfold owns; iexists _; isplitr; swap; · iexact H16
      ipureintro; rfl
    isplitl [H17]
    · unfold owns; iexists _; isplitr; swap; · iexact H17
      ipureintro; rfl
    unfold owns; iexists _; isplitr; swap; · iexact H18
    ipureintro; rfl
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

theorem defs₀_at (t : Fin cfg0.N) :
    defs₀ (F := F) .tc cfg0.body (cfg0.bodyArgs t (cfg0.slots t)) = bodyAt0 t := by
  unfold defs₀; rw [Defs.onTc_tc]

theorem triple (c : Dev nD) (t : Fin cfg0.N) (Z : Blocks F) (K : PUnit → sProp 𝕄) :
    iprop((owns (c : Thread nD τ) (win0_0.stage (cfg0.slots t 0)) fullShare (Z 0) ∗ owns (c : Thread nD τ) (win0_1.stage (cfg0.slots t 1)) fullShare (Z 1) ∗ owns (c : Thread nD τ) (win0_2.stage (cfg0.slots t 2)) fullShare (Z 2) ∗ owns (c : Thread nD τ) (win0_3.stage (cfg0.slots t 3)) fullShare (Z 3) ∗ owns (c : Thread nD τ) (win0_4.stage (cfg0.slots t 4)) fullShare (Z 4) ∗ owns (c : Thread nD τ) (win0_5.stage (cfg0.slots t 5)) fullShare (Z 5) ∗ owns (c : Thread nD τ) (win0_6.stage (cfg0.slots t 6)) fullShare (Z 6) ∗ owns (c : Thread nD τ) (win0_7.stage (cfg0.slots t 7)) fullShare (Z 7) ∗ owns (c : Thread nD τ) (win0_8.stage (cfg0.slots t 8)) fullShare (Z 8) ∗ owns (c : Thread nD τ) (win0_9.stage (cfg0.slots t 9)) fullShare (Z 9) ∗ owns (c : Thread nD τ) (win0_10.stage (cfg0.slots t 10)) fullShare (Z 10) ∗ owns (c : Thread nD τ) (win0_11.stage (cfg0.slots t 11)) fullShare (Z 11) ∗ owns (c : Thread nD τ) (win0_12.stage (cfg0.slots t 12)) fullShare (Z 12) ∗ owns (c : Thread nD τ) (win0_13.stage (cfg0.slots t 13)) fullShare (Z 13) ∗ owns (c : Thread nD τ) (win0_14.stage (cfg0.slots t 14)) fullShare (Z 14) ∗ owns (c : Thread nD τ) (win0_15.stage (cfg0.slots t 15)) fullShare (Z 15) ∗ owns (c : Thread nD τ) (win0_16.stage (cfg0.slots t 16)) fullShare (Z 16) ∗ owns (c : Thread nD τ) (win0_17.stage (cfg0.slots t 17)) fullShare (Z 17) ∗ owns (c : Thread nD τ) (win0_18.stage (cfg0.slots t 18)) fullShare (Z 18)) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))
        ∗ (iprop((owns (c : Thread nD τ) (win0_0.stage (cfg0.slots t 0)) fullShare (left c t Z 0) ∗ owns (c : Thread nD τ) (win0_1.stage (cfg0.slots t 1)) fullShare (left c t Z 1) ∗ owns (c : Thread nD τ) (win0_2.stage (cfg0.slots t 2)) fullShare (left c t Z 2) ∗ owns (c : Thread nD τ) (win0_3.stage (cfg0.slots t 3)) fullShare (left c t Z 3) ∗ owns (c : Thread nD τ) (win0_4.stage (cfg0.slots t 4)) fullShare (left c t Z 4) ∗ owns (c : Thread nD τ) (win0_5.stage (cfg0.slots t 5)) fullShare (left c t Z 5) ∗ owns (c : Thread nD τ) (win0_6.stage (cfg0.slots t 6)) fullShare (left c t Z 6) ∗ owns (c : Thread nD τ) (win0_7.stage (cfg0.slots t 7)) fullShare (left c t Z 7) ∗ owns (c : Thread nD τ) (win0_8.stage (cfg0.slots t 8)) fullShare (left c t Z 8) ∗ owns (c : Thread nD τ) (win0_9.stage (cfg0.slots t 9)) fullShare (left c t Z 9) ∗ owns (c : Thread nD τ) (win0_10.stage (cfg0.slots t 10)) fullShare (left c t Z 10) ∗ owns (c : Thread nD τ) (win0_11.stage (cfg0.slots t 11)) fullShare (left c t Z 11) ∗ owns (c : Thread nD τ) (win0_12.stage (cfg0.slots t 12)) fullShare (left c t Z 12) ∗ owns (c : Thread nD τ) (win0_13.stage (cfg0.slots t 13)) fullShare (left c t Z 13) ∗ owns (c : Thread nD τ) (win0_14.stage (cfg0.slots t 14)) fullShare (left c t Z 14) ∗ owns (c : Thread nD τ) (win0_15.stage (cfg0.slots t 15)) fullShare (left c t Z 15) ∗ owns (c : Thread nD τ) (win0_16.stage (cfg0.slots t 16)) fullShare (left c t Z 16) ∗ owns (c : Thread nD τ) (win0_17.stage (cfg0.slots t 17)) fullShare (left c t Z 17) ∗ owns (c : Thread nD τ) (win0_18.stage (cfg0.slots t 18)) fullShare (left c t Z 18)) ∗ ((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d))) -∗ K ⟨⟩))
      ⊢ wp frame (wpE (defs₀ (F := F)) Variants.none c none) Set.univ (bodyAt0 t) K := by
  by_cases h : ((grid0.coords t) 0).val = 0
  · have e : left c t Z = leftA c t h Z := by unfold left; rw [dif_pos h]
    rw [e]; exact tripleA c t h Z K
  · have e : left c t Z = leftB c t h Z := by unfold left; rw [dif_neg h]
    rw [e]; exact tripleB c t h Z K

set_option maxHeartbeats 4000000 in
theorem sound (c : Dev nD) (t : Fin cfg0.N) (Z : Blocks F) (hZ : ∀ w, (data m c).Finds w t (Z w)) :
    iprop((data m c).Φ t.castSucc ∗ (data m c).owesAt () t.castSucc ∗ (owns (c : Thread nD τ) (win0_0.stage (cfg0.slots t 0)) fullShare (Z 0) ∗ owns (c : Thread nD τ) (win0_1.stage (cfg0.slots t 1)) fullShare (Z 1) ∗ owns (c : Thread nD τ) (win0_2.stage (cfg0.slots t 2)) fullShare (Z 2) ∗ owns (c : Thread nD τ) (win0_3.stage (cfg0.slots t 3)) fullShare (Z 3) ∗ owns (c : Thread nD τ) (win0_4.stage (cfg0.slots t 4)) fullShare (Z 4) ∗ owns (c : Thread nD τ) (win0_5.stage (cfg0.slots t 5)) fullShare (Z 5) ∗ owns (c : Thread nD τ) (win0_6.stage (cfg0.slots t 6)) fullShare (Z 6) ∗ owns (c : Thread nD τ) (win0_7.stage (cfg0.slots t 7)) fullShare (Z 7) ∗ owns (c : Thread nD τ) (win0_8.stage (cfg0.slots t 8)) fullShare (Z 8) ∗ owns (c : Thread nD τ) (win0_9.stage (cfg0.slots t 9)) fullShare (Z 9) ∗ owns (c : Thread nD τ) (win0_10.stage (cfg0.slots t 10)) fullShare (Z 10) ∗ owns (c : Thread nD τ) (win0_11.stage (cfg0.slots t 11)) fullShare (Z 11) ∗ owns (c : Thread nD τ) (win0_12.stage (cfg0.slots t 12)) fullShare (Z 12) ∗ owns (c : Thread nD τ) (win0_13.stage (cfg0.slots t 13)) fullShare (Z 13) ∗ owns (c : Thread nD τ) (win0_14.stage (cfg0.slots t 14)) fullShare (Z 14) ∗ owns (c : Thread nD τ) (win0_15.stage (cfg0.slots t 15)) fullShare (Z 15) ∗ owns (c : Thread nD τ) (win0_16.stage (cfg0.slots t 16)) fullShare (Z 16) ∗ owns (c : Thread nD τ) (win0_17.stage (cfg0.slots t 17)) fullShare (Z 17) ∗ owns (c : Thread nD τ) (win0_18.stage (cfg0.slots t 18)) fullShare (Z 18)))
      ⊢ wp frame (wpE (defs₀ (F := F)) Variants.none c none) Set.univ (bodyAt0 t) (fun _ =>
        iprop((data m c).Φ t.succ ∗ (data m c).owesAt () t.succ ∗ ((∃ X, ⌜(data m c).after 0 t (Z 0) X⌝ ∗ owns (c : Thread nD τ) (win0_0.stage (cfg0.slots t 0)) fullShare (X)) ∗ (∃ X, ⌜(data m c).after 1 t (Z 1) X⌝ ∗ owns (c : Thread nD τ) (win0_1.stage (cfg0.slots t 1)) fullShare (X)) ∗ (∃ X, ⌜(data m c).after 2 t (Z 2) X⌝ ∗ owns (c : Thread nD τ) (win0_2.stage (cfg0.slots t 2)) fullShare (X)) ∗ (∃ X, ⌜(data m c).after 3 t (Z 3) X⌝ ∗ owns (c : Thread nD τ) (win0_3.stage (cfg0.slots t 3)) fullShare (X)) ∗ (∃ X, ⌜(data m c).after 4 t (Z 4) X⌝ ∗ owns (c : Thread nD τ) (win0_4.stage (cfg0.slots t 4)) fullShare (X)) ∗ (∃ X, ⌜(data m c).after 5 t (Z 5) X⌝ ∗ owns (c : Thread nD τ) (win0_5.stage (cfg0.slots t 5)) fullShare (X)) ∗ (∃ X, ⌜(data m c).after 6 t (Z 6) X⌝ ∗ owns (c : Thread nD τ) (win0_6.stage (cfg0.slots t 6)) fullShare (X)) ∗ (∃ X, ⌜(data m c).after 7 t (Z 7) X⌝ ∗ owns (c : Thread nD τ) (win0_7.stage (cfg0.slots t 7)) fullShare (X)) ∗ (∃ X, ⌜(data m c).after 8 t (Z 8) X⌝ ∗ owns (c : Thread nD τ) (win0_8.stage (cfg0.slots t 8)) fullShare (X)) ∗ (∃ X, ⌜(data m c).after 9 t (Z 9) X⌝ ∗ owns (c : Thread nD τ) (win0_9.stage (cfg0.slots t 9)) fullShare (X)) ∗ (∃ X, ⌜(data m c).after 10 t (Z 10) X⌝ ∗ owns (c : Thread nD τ) (win0_10.stage (cfg0.slots t 10)) fullShare (X)) ∗ (∃ X, ⌜(data m c).after 11 t (Z 11) X⌝ ∗ owns (c : Thread nD τ) (win0_11.stage (cfg0.slots t 11)) fullShare (X)) ∗ (∃ X, ⌜(data m c).after 12 t (Z 12) X⌝ ∗ owns (c : Thread nD τ) (win0_12.stage (cfg0.slots t 12)) fullShare (X)) ∗ (∃ X, ⌜(data m c).after 13 t (Z 13) X⌝ ∗ owns (c : Thread nD τ) (win0_13.stage (cfg0.slots t 13)) fullShare (X)) ∗ (∃ X, ⌜(data m c).after 14 t (Z 14) X⌝ ∗ owns (c : Thread nD τ) (win0_14.stage (cfg0.slots t 14)) fullShare (X)) ∗ (∃ X, ⌜(data m c).after 15 t (Z 15) X⌝ ∗ owns (c : Thread nD τ) (win0_15.stage (cfg0.slots t 15)) fullShare (X)) ∗ (∃ X, ⌜(data m c).after 16 t (Z 16) X⌝ ∗ owns (c : Thread nD τ) (win0_16.stage (cfg0.slots t 16)) fullShare (X)) ∗ (∃ X, ⌜(data m c).after 17 t (Z 17) X⌝ ∗ owns (c : Thread nD τ) (win0_17.stage (cfg0.slots t 17)) fullShare (X)) ∗ (∃ X, ⌜(data m c).after 18 t (Z 18) X⌝ ∗ owns (c : Thread nD τ) (win0_18.stage (cfg0.slots t 18)) fullShare (X))))) := by
  have hin : Fed m c t Z := ⟨found_0 m c t (hZ 0), found_1 m c t (hZ 1), found_2 m c t (hZ 2), found_3 m c t (hZ 3), found_4 m c t (hZ 4), found_5 m c t (hZ 5), found_6 m c t (hZ 6), found_7 m c t (hZ 7), found_8 m c t (hZ 8), found_9 m c t (hZ 9), found_10 m c t (hZ 10)⟩
  rw [show (data m c).Φ t.succ = Pipeline.ΦA spec0 c from rfl, show (data m c).Φ t.castSucc = Pipeline.ΦA spec0 c from rfl,
    show (data m c).owesAt () t.succ = (data m c).owesAt () t.castSucc from rfl, scratch_eq]
  iintro ⟨⟨HS, HP⟩, Ho, HW⟩
  iapply (triple c t Z _)
  isplitl [HW]; · iexact HW
  isplitl [HS]; · iexact HS
  iintro ⟨⟨H0, H1, H2, H3, H4, H5, H6, H7, H8, H9, H10, H11, H12, H13, H14, H15, H16, H17, H18⟩, HS⟩
  isplitl [HS HP]
  · isplitl [HS]; · iexact HS
    iexact HP
  isplitl [Ho]; · iexact Ho
  isplitl [H0]
  · iexists _; isplitr; swap; · iexact H0
    ipureintro; exact input_stays m c 0 (by rfl) t Z hin _ (left_0 m c t Z hin)
  isplitl [H1]
  · iexists _; isplitr; swap; · iexact H1
    ipureintro; exact input_stays m c 1 (by rfl) t Z hin _ (left_1 m c t Z hin)
  isplitl [H2]
  · iexists _; isplitr; swap; · iexact H2
    ipureintro; exact input_stays m c 2 (by rfl) t Z hin _ (left_2 m c t Z hin)
  isplitl [H3]
  · iexists _; isplitr; swap; · iexact H3
    ipureintro; exact input_stays m c 3 (by rfl) t Z hin _ (left_3 m c t Z hin)
  isplitl [H4]
  · iexists _; isplitr; swap; · iexact H4
    ipureintro; exact input_stays m c 4 (by rfl) t Z hin _ (left_4 m c t Z hin)
  isplitl [H5]
  · iexists _; isplitr; swap; · iexact H5
    ipureintro; exact input_stays m c 5 (by rfl) t Z hin _ (left_5 m c t Z hin)
  isplitl [H6]
  · iexists _; isplitr; swap; · iexact H6
    ipureintro; exact input_stays m c 6 (by rfl) t Z hin _ (left_6 m c t Z hin)
  isplitl [H7]
  · iexists _; isplitr; swap; · iexact H7
    ipureintro; exact input_stays m c 7 (by rfl) t Z hin _ (left_7 m c t Z hin)
  isplitl [H8]
  · iexists _; isplitr; swap; · iexact H8
    ipureintro; exact input_stays m c 8 (by rfl) t Z hin _ (left_8 m c t Z hin)
  isplitl [H9]
  · iexists _; isplitr; swap; · iexact H9
    ipureintro; exact input_stays m c 9 (by rfl) t Z hin _ (left_9 m c t Z hin)
  isplitl [H10]
  · iexists _; isplitr; swap; · iexact H10
    ipureintro; exact input_stays m c 10 (by rfl) t Z hin _ (left_10 m c t Z hin)
  isplitl [H11]
  · iexists _; isplitr; swap; · iexact H11
    ipureintro; exact output_left m c 11 (by rfl) t Z hin
  isplitl [H12]
  · iexists _; isplitr; swap; · iexact H12
    ipureintro; exact output_left m c 12 (by rfl) t Z hin
  isplitl [H13]
  · iexists _; isplitr; swap; · iexact H13
    ipureintro; exact output_left m c 13 (by rfl) t Z hin
  isplitl [H14]
  · iexists _; isplitr; swap; · iexact H14
    ipureintro; exact output_left m c 14 (by rfl) t Z hin
  isplitl [H15]
  · iexists _; isplitr; swap; · iexact H15
    ipureintro; exact output_left m c 15 (by rfl) t Z hin
  isplitl [H16]
  · iexists _; isplitr; swap; · iexact H16
    ipureintro; exact output_left m c 16 (by rfl) t Z hin
  isplitl [H17]
  · iexists _; isplitr; swap; · iexact H17
    ipureintro; exact output_left m c 17 (by rfl) t Z hin
  iexists _; isplitr; swap; · iexact H18
  ipureintro; exact output_left m c 18 (by rfl) t Z hin

theorem obligation (c : Dev nD) : (data m c).BodyObligation (defs₀ (F := F)) Variants.none () Set.univ := fun t Z hZ => by
  rw [bigSep_W0, bigSep_W0, defs₀_at]
  exact sound m c t Z hZ

set_option backward.isDefEq.respectTransparency.types false in
/-- The whole call's run: it ends, with every semaphore at zero and the arrays at what the data allow. -/
theorem run_call : θ_run defs (onTc (τ := τ) (main (F := F))) (s₀ m ρ) (fun r => RDat.FramePost cfg0 (data m) (V m) r ∧ r.2.sem = fun _ => 0) :=
  RDat.θ_run_frame_track_shared (Q' := _) cfgs (0 : Fin 1) launch₀0 defs₀ Variants.none (data m) m ρ main
    (hbody := obligation m) (hq := fun _ _ _ => rfl) (howed := fun _ _ => rfl) (V := V m) (hmain := hmain m Variants.none)
    (hA := data_A m) (hin := fun _ => .rfl) (hout := fun _ => .rfl)

theorem call_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1.arr_in c 3 rfl).trans ((data_A m c 3).trans (V_main_arg0 m c)),
      (h.1.arr_in c 4 rfl).trans ((data_A m c 4).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 8 rfl).trans ((data_A m c 8).trans (V_main_arg4 m c)),
      ((h.1 c).2 main_arg5 (Pipeline.mem_restRefs_of main_arg5 (by decide) (by decide))).trans (V_main_arg5 m c),
      (h.1.arr_in c 0 rfl).trans ((data_A m c 0).trans (V_main_arg6 m c))⟩, h.2⟩) (run_call m ρ)

end Cert.AttnKernelIdeal.Gen

end
-- ==== Proof.AttnFrames.lean ====
/- The claims about the attention and gating gradient's runs, and the two named constants of its kernel. -/
module

public import proofs.«01_k».proof.Defs
public import proofs.«01_k».proof.Proof.AttnBody
public import proofs.«01_k».proof.Proof.AttnBodyIdeal
public import proofs.«01_k».proof.Proof.Gen.AttnKernel
public import proofs.«01_k».proof.Proof.Gen.AttnKernelIdeal
public import proofs.«01_k».proof.Proof.Gen.AttnReferenceIdeal
public import proofs.«01_k».proof.Proof.Gen.AttnReferenceIdeal.Run

@[expose] public section

set_option maxRecDepth 16384

noncomputable section

open Idealize.ShloMosaic Idealize.ShloMosaic.TcCoe Idealize.SL.Sem

namespace Cert.Attn

instance : Cert.AttnKernel.Facts := Cert.AttnKernel.Gen.facts
instance : Cert.AttnKernelIdeal.Facts := Cert.AttnKernelIdeal.Gen.facts
instance : Cert.AttnReferenceIdeal.Facts := Cert.AttnReferenceIdeal.Gen.facts

theorem frame : Cert.quiescent_AttnKernel := fun m ρ _ => Cert.AttnKernel.Gen.call_frame m ρ

theorem frameIdeal : Cert.quiescent_AttnKernelIdeal := fun m ρ _ => Cert.AttnKernelIdeal.Gen.call_frame m ρ

theorem frameReference : Cert.quiescent_AttnReferenceIdeal := by
  intro m ρ _
  refine (θ_run _ _ _).mono (fun r h => ⟨fun c => ?_, sem_eq_zero_of_no_sems (by decide) r.2⟩)
    (Cert.AttnReferenceIdeal.Value.run (F := Ideal) m ρ)
  exact (h c).2.2.2.2.2

theorem preserves : Cert.preserves_AttnKernel_AttnKernelIdeal :=
  ⟨IdealRules.named_const.statement Cert.AttnKernelIdeal.κ "c1" .f32 _ _ rfl,
    IdealRules.named_const.statement Cert.AttnKernelIdeal.κ "c3" .f32 _ _ rfl⟩

end Cert.Attn
-- ==== Proof.GmMath.lean ====
/- The gradient of the gated MLP on one block of 128 rows, as the kernel orders it, over the extended reals. -/
module

public import proofs.«01_k».proof.Proof.Norm
public import proofs.«01_k».proof.Proof.Gen.AttnKernelIdeal

@[expose] public section

noncomputable section

open Idealize.ShloMosaic Idealize.ShloMosaic.TcCoe

namespace Cert.Gm

open Cert.AttnKernelIdeal

/-- The hyperbolic tangent inside gelu. -/
def inner (x : EReal) : EReal :=
  Ideal.tanh (Ideal.ofBits FTy.f32 1061962282#32 * (x + (Named.named (F := Ideal) κ "c1" 1027024659#32 : Ideal .f32) * x * x * x))

def gelu (x : EReal) : EReal := Ideal.ofBits FTy.f32 1056964608#32 * x * (1 + inner x)

/-- Gelu's derivative as the kernel writes it. -/
def dgelu (x : EReal) : EReal :=
  Ideal.ofBits FTy.f32 1056964608#32 * (1 + inner x)
    + Ideal.ofBits FTy.f32 1056964608#32 * x * (1 - inner x * inner x) * Ideal.ofBits FTy.f32 1061962282#32
      * (1 + (Named.named (F := Ideal) κ "c3" 1040801103#32 : Ideal .f32) * x * x)

/-- The columns of the block that hold the gate's input and the normalised input. -/
def zu (l : Fin 512) : Fin 1792 := ⟨768 + l.val, by omega⟩
def zv (l : Fin 512) : Fin 1792 := ⟨1280 + l.val, by omega⟩
/-- The columns of the incoming gradient that belong to the gated MLP. -/
def dg (l : Fin 512) : Fin 1024 := ⟨512 + l.val, by omega⟩
/-- The head of a column. -/
def hd (l : Fin 512) : Fin 8 := ⟨l.val / 64, by omega⟩

section Row

variable (v : Fin 512 → EReal)

def mean : EReal := Ideal.div (∑ j, v j) (Ideal.ofBits FTy.f32 1140850688#32)

def centred (l : Fin 512) : EReal := v l - mean v

def rs : EReal := Ideal.rsqrt (mean (fun j => centred v j * centred v j) + Ideal.ofBits FTy.f32 897988541#32)

def hat (l : Fin 512) : EReal := centred v l * rs v

/-- The layer norm's gradient, from the gradient `u` of its scaled output. -/
def back (u : Fin 512 → EReal) (l : Fin 512) : EReal :=
  rs v * (u l - mean u - hat v l * mean (fun j => u j * hat v j))

end Row

end Cert.Gm

end
-- ==== Proof.Gate.lean ====
/- The logistic gate as the two programs write it, at real arguments. -/
module

public import proofs.«01_k».proof.Proof.Norm

@[expose] public section

noncomputable section

open Idealize.ShloMosaic

namespace Cert.Gate

theorem word_half : Ideal.ofBits FTy.f32 1056964608#32 = ((1 / 2 : ℝ) : EReal) := by
  simp [Ideal.ofBits, Ideal.ieee, -EReal.coe_mul]; norm_num

theorem word_one : Ideal.ofBits FTy.f32 1065353216#32 = ((1 : ℝ) : EReal) := by
  simp [Ideal.ofBits, Ideal.ieee, -EReal.coe_mul]; norm_num

/-- The gate through the hyperbolic tangent. -/
def viaTanh (x : EReal) : EReal :=
  ((1 / 2 : ℝ) : EReal) * Ideal.tanh (((1 / 2 : ℝ) : EReal) * x) + ((1 / 2 : ℝ) : EReal)

/-- The gate through the exponential. -/
def viaExp (x : EReal) : EReal := Ideal.div 1 (1 + Ideal.exp (-x))

/-- The gate over the reals. -/
def sigmoid (x : ℝ) : ℝ := 1 / (1 + Real.exp (-x))

theorem viaExp_coe (x : ℝ) : viaExp (x : EReal) = (sigmoid x : EReal) := by
  unfold viaExp sigmoid
  show Ideal.div ((1 : ℝ) : EReal) (((1 : ℝ) : EReal) + _) = _
  rw [← EReal.coe_neg, Ideal.exp_coe, ← EReal.coe_add, Norm.div_coe_coe _ (by positivity)]

theorem half_tanh (x : ℝ) : 1 / 2 * Real.tanh (1 / 2 * x) + 1 / 2 = sigmoid x := by
  unfold sigmoid
  rw [Real.tanh_eq_sinh_div_cosh, Real.sinh_eq, Real.cosh_eq]
  have h0 : 0 < Real.exp (1 / 2 * x) := Real.exp_pos _
  have e : Real.exp (-x) = Real.exp (-(1 / 2 * x)) * Real.exp (-(1 / 2 * x)) := by rw [← Real.exp_add]; ring_nf
  have e1 : Real.exp (-(1 / 2 * x)) = (Real.exp (1 / 2 * x))⁻¹ := Real.exp_neg _
  rw [e, e1]
  generalize Real.exp (1 / 2 * x) = y at h0
  have h1 : y ≠ 0 := h0.ne'
  have h2 : y * y + 1 ≠ 0 := by positivity
  field_simp
  ring

theorem viaTanh_coe (x : ℝ) : viaTanh (x : EReal) = (sigmoid x : EReal) := by
  unfold viaTanh
  rw [← EReal.coe_mul, Ideal.tanh_coe, ← EReal.coe_mul, ← EReal.coe_add, half_tanh]

theorem viaTanh_eq {x : EReal} (h : ∃ a : ℝ, x = a) : viaTanh x = viaExp x := by
  obtain ⟨a, rfl⟩ := h; rw [viaTanh_coe, viaExp_coe]

theorem viaTanh_real {x : EReal} (h : ∃ a : ℝ, x = a) : ∃ a : ℝ, viaTanh x = a := by
  obtain ⟨a, rfl⟩ := h; exact ⟨_, viaTanh_coe a⟩

theorem one_sub_real {x : EReal} (h : ∃ a : ℝ, x = a) : ∃ a : ℝ, 1 - x = a := by
  obtain ⟨a, rfl⟩ := h; exact ⟨1 - a, (EReal.coe_sub 1 a).symm⟩

end Cert.Gate
-- ==== Proof.GmStrips.lean ====
/- The rows of the gated MLP's scratch arrays, strip by strip: gelu and its derivative, the layer norm and its parts. -/
module

public import proofs.«01_k».proof.Proof.GmMath
public import proofs.«01_k».proof.Proof.Gate
public import proofs.«01_k».proof.Proof.AttnRunA
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AttnKernelIdeal.Gen

open Cert.Gm

/-- A row of the normalised input: gelu of the last 512 columns. -/
def vrow (x1 : Vec Ideal S128x1792 .bf16) (r : Fin 128) (l : Fin 512) : EReal := gelu (x1 (ix2 r (zv l)))

section Strip

variable (L : Vec Ideal S16x512 .bf16) (G B : Vec Ideal S1x512 .f32) (a : Fin 16) (b : Fin 512) (q : Fin 128)

/-- A row of a strip: gelu of the loaded row. -/
def srow (l : Fin 512) : EReal := gelu (L (ix2 a l))

theorem u_at : k0_pay197 (F := Ideal) L (ix2 a b) = gelu (L (ix2 a b)) := by
  pointwise [k0_pay197, k0_pay195, k0_pay196]
  rfl

theorem du_at : k0_pay198 (F := Ideal) L (ix2 a b) = dgelu (L (ix2 a b)) := by
  pointwise [k0_pay198, k0_pay196, k0_pay195]
  rfl

theorem dv_at : k0_pay201 (F := Ideal) (k0_pay199 L) (ix2 a b) = dgelu (L (ix2 a b)) := by
  pointwise [k0_pay201, k0_pay200, k0_pay199]
  rfl

theorem vn_at : k0_pay206 (F := Ideal) (k0_pay202 (k0_pay199 L)) (k0_pay203 (k0_pay199 L)) G B (ix2 a b) = hat (srow L a) b * G (ix2 0 b) + B (ix2 0 b) := by
  pointwise [k0_pay206, k0_pay205, k0_pay204, k0_pay202, k0_pay200, k0_pay199, k0_pay203]
  rfl

theorem xh_at : k0_pay207 (F := Ideal) (k0_pay202 (k0_pay199 L)) (k0_pay203 (k0_pay199 L)) (ix2 a b) = hat (srow L a) b := by
  pointwise [k0_pay207, k0_pay205, k0_pay204, k0_pay202, k0_pay200, k0_pay199, k0_pay203]
  rfl

theorem rs_at : k0_pay208 (F := Ideal) (k0_pay203 (k0_pay199 L)) (ix2 a q) = rs (srow L a) := by
  pointwise [k0_pay208, k0_pay204, k0_pay203, k0_pay202, k0_pay200, k0_pay199]
  rfl

end Strip

section Pieces

variable (c : Dev nD) (arg2 : Memref sig .tc .vmem S128x1792 .bf16) (harg2 : arg2.IsWhole)
  (arg7 : Memref sig .tc .vmem S1x512 .f32) (harg7 : arg7.IsWhole) (arg8 : Memref sig .tc .vmem S1x512 .f32) (harg8 : arg8.IsWhole)
  (x1 : Vec Ideal S128x1792 .bf16) (x6 x7 : Vec Ideal S1x512 .f32)

theorem load_at {s : Shape} {e : EltTy} (m : Memref sig .tc .vmem s e) (hm : m.IsWhole) (x : Vec Ideal s e) (B : LoadRect s) (y : B.shape.Idx) :
    View.readAt (Elt Ideal) m.view B (hm.unread x) y = x (B.idx y) := by
  rw [View.readAt_apply, Memref.IsWhole.read_unread]

theorem load_row (m : Memref sig .tc .vmem S1x512 .f32) (hm : m.IsWhole) (x : Vec Ideal S1x512 .f32) (j : ∀ k, (![0, 0] : Fin 2 → Nat) k + S1x512.size k ≤ S1x512.size k) (b : Fin 512) :
    (View.readAt (Elt Ideal) m.view (Rect.unit (s := S1x512) ![0, 0] S1x512.size j).toLoadRect (hm.unread x) : Vec Ideal S1x512 .f32) (ix2 0 b) = x (ix2 0 b) := by
  refine (load_at m hm x _ _).trans (congrArg x ?_)
  funext k
  fin_cases k <;> apply Fin.ext <;> simp [LoadRect.idx, Rect.toLoadRect, ix2]

section

variable {o : Nat} (a : Fin 16) (r : Fin 128) (hr : r.val = o + a.val)

include hr

theorem load_u (i : ∀ k, (![o, 768] : Fin 2 → Nat) k + S16x512.size k ≤ S128x1792.size k) (b : Fin 512) :
    (View.readAt (Elt Ideal) arg2.view (Rect.unit (s := S128x1792) ![o, 768] S16x512.size i).toLoadRect (harg2.unread x1) : Vec Ideal S16x512 .bf16) (ix2 a b) = x1 (ix2 r (zu b)) := by
  refine (load_at arg2 harg2 x1 _ _).trans (congrArg x1 ?_)
  funext k
  fin_cases k <;> apply Fin.ext <;> simp [LoadRect.idx, Rect.toLoadRect, hr, zu, ix2]

theorem load_v (i : ∀ k, (![o, 1280] : Fin 2 → Nat) k + S16x512.size k ≤ S128x1792.size k) (b : Fin 512) :
    (View.readAt (Elt Ideal) arg2.view (Rect.unit (s := S128x1792) ![o, 1280] S16x512.size i).toLoadRect (harg2.unread x1) : Vec Ideal S16x512 .bf16) (ix2 a b) = x1 (ix2 r (zv b)) := by
  refine (load_at arg2 harg2 x1 _ _).trans (congrArg x1 ?_)
  funext k
  fin_cases k <;> apply Fin.ext <;> simp [LoadRect.idx, Rect.toLoadRect, hr, zv, ix2]

theorem u_piece (i : ∀ k, (![o, 768] : Fin 2 → Nat) k + S16x512.size k ≤ S128x1792.size k) (b : Fin 512) :
    k0_pay197 (F := Ideal) (View.readAt (Elt Ideal) arg2.view (Rect.unit (s := S128x1792) ![o, 768] S16x512.size i).toLoadRect (harg2.unread x1)) (ix2 a b) = gelu (x1 (ix2 r (zu b))) := by
  rw [u_at, load_u arg2 harg2 x1 a r hr i b]

theorem du_piece (i : ∀ k, (![o, 768] : Fin 2 → Nat) k + S16x512.size k ≤ S128x1792.size k) (b : Fin 512) :
    k0_pay198 (F := Ideal) (View.readAt (Elt Ideal) arg2.view (Rect.unit (s := S128x1792) ![o, 768] S16x512.size i).toLoadRect (harg2.unread x1)) (ix2 a b) = dgelu (x1 (ix2 r (zu b))) := by
  rw [du_at, load_u arg2 harg2 x1 a r hr i b]

theorem dv_piece (i : ∀ k, (![o, 1280] : Fin 2 → Nat) k + S16x512.size k ≤ S128x1792.size k) (b : Fin 512) :
    k0_pay201 (F := Ideal) (k0_pay199 (View.readAt (Elt Ideal) arg2.view (Rect.unit (s := S128x1792) ![o, 1280] S16x512.size i).toLoadRect (harg2.unread x1))) (ix2 a b) = dgelu (x1 (ix2 r (zv b))) := by
  rw [dv_at, load_v arg2 harg2 x1 a r hr i b]

theorem srow_eq (i : ∀ k, (![o, 1280] : Fin 2 → Nat) k + S16x512.size k ≤ S128x1792.size k) :
    srow (View.readAt (Elt Ideal) arg2.view (Rect.unit (s := S128x1792) ![o, 1280] S16x512.size i).toLoadRect (harg2.unread x1)) a = vrow x1 r :=
  funext fun b => congrArg gelu (load_v arg2 harg2 x1 a r hr i b)

theorem xh_piece (i : ∀ k, (![o, 1280] : Fin 2 → Nat) k + S16x512.size k ≤ S128x1792.size k) (b : Fin 512) :
    k0_pay207 (F := Ideal) (k0_pay202 (k0_pay199 (View.readAt (Elt Ideal) arg2.view (Rect.unit (s := S128x1792) ![o, 1280] S16x512.size i).toLoadRect (harg2.unread x1))))
      (k0_pay203 (k0_pay199 (View.readAt (Elt Ideal) arg2.view (Rect.unit (s := S128x1792) ![o, 1280] S16x512.size i).toLoadRect (harg2.unread x1)))) (ix2 a b) = hat (vrow x1 r) b := by
  rw [xh_at, srow_eq arg2 harg2 x1 a r hr i]

theorem rs_piece (i : ∀ k, (![o, 1280] : Fin 2 → Nat) k + S16x512.size k ≤ S128x1792.size k) (q : Fin 128) :
    k0_pay208 (F := Ideal) (k0_pay203 (k0_pay199 (View.readAt (Elt Ideal) arg2.view (Rect.unit (s := S128x1792) ![o, 1280] S16x512.size i).toLoadRect (harg2.unread x1)))) (ix2 a q) = rs (vrow x1 r) := by
  rw [rs_at, srow_eq arg2 harg2 x1 a r hr i]

theorem vn_piece (i : ∀ k, (![o, 1280] : Fin 2 → Nat) k + S16x512.size k ≤ S128x1792.size k) (j : ∀ k, (![0, 0] : Fin 2 → Nat) k + S1x512.size k ≤ S1x512.size k) (b : Fin 512) :
    k0_pay206 (F := Ideal) (k0_pay202 (k0_pay199 (View.readAt (Elt Ideal) arg2.view (Rect.unit (s := S128x1792) ![o, 1280] S16x512.size i).toLoadRect (harg2.unread x1))))
      (k0_pay203 (k0_pay199 (View.readAt (Elt Ideal) arg2.view (Rect.unit (s := S128x1792) ![o, 1280] S16x512.size i).toLoadRect (harg2.unread x1))))
      (View.readAt (Elt Ideal) arg7.view (Rect.unit (s := S1x512) ![0, 0] S1x512.size j).toLoadRect (harg7.unread x6))
      (View.readAt (Elt Ideal) arg8.view (Rect.unit (s := S1x512) ![0, 0] S1x512.size j).toLoadRect (harg8.unread x7)) (ix2 a b)
      = hat (vrow x1 r) b * x6 (ix2 0 b) + x7 (ix2 0 b) := by
  rw [vn_at, srow_eq arg2 harg2 x1 a r hr i, load_row arg7 harg7 x6 j b, load_row arg8 harg8 x7 j b]

end

theorem u_canon (r : Fin 128) (l : Fin 512) : (View.canon (runA.sl.H24_8 (F := Ideal) c arg2 harg2 x1) : Vec Ideal S128x512 .f32) (ix2 r l) = gelu (x1 (ix2 r (zu l))) := by
  unfold runA.sl.H24_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    refine u_piece arg2 harg2 x1 a r ?_ _ l
    first | exact hx0 | exact hx0.trans (Nat.zero_add _).symm

theorem du_canon (r : Fin 128) (l : Fin 512) : (View.canon (runA.sl.H25_8 (F := Ideal) c arg2 harg2 x1) : Vec Ideal S128x512 .f32) (ix2 r l) = dgelu (x1 (ix2 r (zu l))) := by
  unfold runA.sl.H25_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    refine du_piece arg2 harg2 x1 a r ?_ _ l
    first | exact hx0 | exact hx0.trans (Nat.zero_add _).symm

theorem dv_canon (r : Fin 128) (l : Fin 512) : (View.canon (runA.sl.H26_8 (F := Ideal) c arg2 harg2 x1) : Vec Ideal S128x512 .f32) (ix2 r l) = dgelu (x1 (ix2 r (zv l))) := by
  unfold runA.sl.H26_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    refine dv_piece arg2 harg2 x1 a r ?_ _ l
    first | exact hx0 | exact hx0.trans (Nat.zero_add _).symm

theorem vn_canon (r : Fin 128) (l : Fin 512) : (View.canon (runA.sl.H27_8 (F := Ideal) c arg2 harg2 arg7 harg7 arg8 harg8 x1 x6 x7) : Vec Ideal S128x512 .f32) (ix2 r l) = hat (vrow x1 r) l * x6 (ix2 0 l) + x7 (ix2 0 l) := by
  unfold runA.sl.H27_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    refine vn_piece arg2 harg2 arg7 harg7 arg8 harg8 x1 x6 x7 a r ?_ _ _ l
    first | exact hx0 | exact hx0.trans (Nat.zero_add _).symm

theorem xh_canon (r : Fin 128) (l : Fin 512) : (View.canon (runA.sl.H28_8 (F := Ideal) c arg2 harg2 x1) : Vec Ideal S128x512 .f32) (ix2 r l) = hat (vrow x1 r) l := by
  unfold runA.sl.H28_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    refine xh_piece arg2 harg2 x1 a r ?_ _ l
    first | exact hx0 | exact hx0.trans (Nat.zero_add _).symm

theorem rs_canon (r : Fin 128) (l : Fin 128) : (View.canon (runA.sl.H29_8 (F := Ideal) c arg2 harg2 x1) : Vec Ideal S128x128 .f32) (ix2 r l) = rs (vrow x1 r) := by
  unfold runA.sl.H29_8
  canon_tiles x hx
  all_goals
    obtain ⟨a, b, rfl⟩ : ∃ (a : Fin 16) (b : Fin 128), x = ix2 a b := ⟨x 0, x 1, by funext i; fin_cases i <;> rfl⟩
    obtain rfl : l = b := Fin.ext hx1
    refine rs_piece arg2 harg2 x1 a r ?_ _ l
    first | exact hx0 | exact hx0.trans (Nat.zero_add _).symm

end Pieces
end Cert.AttnKernelIdeal.Gen

end
-- ==== Proof.GmSlabs.lean ====
/- The gated MLP's slabs of 128 columns: the mixing product, its transposed product and the weights' gradient of one block. -/
module

public import proofs.«01_k».proof.Proof.GmStrips

@[expose] public section

set_option maxRecDepth 16384

noncomputable section

open Idealize.ShloMosaic Idealize.ShloMosaic.TcCoe Idealize.SL.Sem

namespace Cert.Gm

theorem word_toInt (b : Fin 128) : (BitVec.ofNat 32 b.val).toInt = (b.val : Int) := by
  have hb := b.isLt
  rw [BitVec.toInt_eq_toNat_of_lt (by simp only [BitVec.toNat_ofNat]; omega), BitVec.toNat_ofNat, Nat.mod_eq_of_lt (by omega)]

theorem sel_le {α : Type} (a x : Fin 128) (p q : α) :
    Scalar.select (IntOp.cmpi .sle (BitVec.ofNat 32 a.val) (BitVec.ofNat 32 x.val)) p q = if a.val ≤ x.val then p else q := by
  by_cases h : a.val ≤ x.val
  · simp [Scalar.select, IntOp.cmpi, BitVec.sle, word_toInt, h]
  · simp [Scalar.select, IntOp.cmpi, BitVec.sle, word_toInt, h]

theorem sel_lt {α : Type} (b : Fin 128) (p q : α) :
    Scalar.select (IntOp.cmpi .slt (BitVec.ofNat 32 b.val) 64#32) p q = if b.val < 64 then p else q := by
  have e : (64#32).toInt = 64 := by decide
  by_cases h : b.val < 64
  · have h' : (b.val : Int) < 64 := by omega
    simp [Scalar.select, IntOp.cmpi, BitVec.slt, word_toInt, e, h]
  · have h' : ¬ (b.val : Int) < 64 := by omega
    simp [Scalar.select, IntOp.cmpi, BitVec.slt, word_toInt, e, h]

theorem sel_ge {α : Type} (b : Fin 128) (p q : α) :
    Scalar.select (IntOp.cmpi .sge (BitVec.ofNat 32 b.val) 64#32) p q = if b.val < 64 then q else p := by
  have e : (64#32).toInt = 64 := by decide
  by_cases h : b.val < 64
  · have h' : ¬ 64 ≤ b.val := by omega
    simp [Scalar.select, IntOp.cmpi, BitVec.sle, word_toInt, e, h, h']
  · have h' : 64 ≤ b.val := by omega
    simp [Scalar.select, IntOp.cmpi, BitVec.sle, word_toInt, e, h, h']

theorem sel_eq {α : Type} (b : Fin 128) (k : Nat) (hk : k < 128) (p q : α) :
    Scalar.select (IntOp.cmpi .eq (BitVec.ofNat 32 b.val) (BitVec.ofNat 32 k)) p q = if b.val = k then p else q := by
  by_cases h : b.val = k
  · simp [Scalar.select, IntOp.cmpi, h]
  · have h' : ¬ BitVec.ofNat 32 b.val = BitVec.ofNat 32 k := fun e => h (by
      have := congrArg BitVec.toNat e
      have := b.isLt
      simp only [BitVec.toNat_ofNat] at *
      omega)
    have e : (BitVec.ofNat 32 b.val == BitVec.ofNat 32 k) = false := beq_eq_false_iff_ne.mpr h'
    simp [Scalar.select, IntOp.cmpi, h, e]

end Cert.Gm

namespace Cert.AttnKernelIdeal.Gen

open Cert.Gm

variable (c : Dev nD) (arg1 : Memref sig .tc .vmem S128x1024 .bf16) (harg1 : arg1.IsWhole) (arg2 : Memref sig .tc .vmem S128x1792 .bf16) (harg2 : arg2.IsWhole)
  (arg7 : Memref sig .tc .vmem S1x512 .f32) (harg7 : arg7.IsWhole) (arg8 : Memref sig .tc .vmem S1x512 .f32) (harg8 : arg8.IsWhole)
  (arg9 arg10 : Memref sig .tc .vmem S8x128x128 .f32) (harg9 : arg9.IsWhole) (harg10 : arg10.IsWhole)
  (arg11 : Memref sig .tc .vmem S128x512 .f32) (harg11 : arg11.IsWhole) (arg24 arg25 arg26 arg27 arg28 arg30 : Memref sig .tc .vmem S128x512 .f32)
  (arg29 : Memref sig .tc .vmem S128x128 .f32)
  (x0 : Vec Ideal S128x1024 .bf16) (x1 : Vec Ideal S128x1792 .bf16) (x6 x7 : Vec Ideal S1x512 .f32) (x8 x9 : Vec Ideal S8x128x128 .f32) (x10 : Vec Ideal S128x512 .f32)

section Loads

theorem load_head (m : Memref sig .tc .vmem S8x128x128 .f32) (hm : m.IsWhole) (x : Vec Ideal S8x128x128 .f32) (h : Nat)
    (i : ∀ k, (![h, 0, 0] : Fin 3 → Nat) k + (![1, 128, 128] : Fin 3 → Nat) k ≤ S8x128x128.size k) (a b : Fin 128) :
    View.readAt (Elt Ideal) m.view (Rect.unit (s := S8x128x128) ![h, 0, 0] ![1, 128, 128] i).toLoadRect (hm.unread x) (ix3 0 a b)
      = x (ix3 ⟨h, i 0⟩ a b) := by
  refine (load_at m hm x _ _).trans (congrArg x ?_)
  funext k
  fin_cases k <;> apply Fin.ext <;> simp [LoadRect.idx, Rect.toLoadRect, ix3]

theorem load_cols {w : Nat} {e : EltTy} (m : Memref sig .tc .vmem ⟨2, ![128, w]⟩ e) (hm : m.IsWhole) (x : Vec Ideal ⟨2, ![128, w]⟩ e) (o : Nat)
    (i : ∀ k, (![0, o] : Fin 2 → Nat) k + (![128, 128] : Fin 2 → Nat) k ≤ (⟨2, ![128, w]⟩ : Shape).size k) (a b : Fin 128) :
    View.readAt (Elt Ideal) m.view (Rect.unit (s := ⟨2, ![128, w]⟩) ![0, o] ![128, 128] i).toLoadRect (hm.unread x) (ix2 a b)
      = x (ix2 a ⟨o + b.val, lt_of_lt_of_le (Nat.add_lt_add_left b.isLt o) (i 1)⟩) := by
  refine (load_at m hm x _ _).trans (congrArg x ?_)
  funext k
  fin_cases k <;> apply Fin.ext <;> simp [LoadRect.idx, Rect.toLoadRect, ix2]

theorem cov_cols (v : View sig .tc .vmem S128x512 .f32) (L : List (View.Piece (Elt Ideal) S128x512 .f32)) (o : Nat)
    (i : ∀ k, (![0, o] : Fin 2 → Nat) k + (![128, 128] : Fin 2 → Nat) k ≤ S128x512.size k) (a b : Fin 128) :
    v.readCov L (Rect.unit (s := S128x512) ![0, o] ![128, 128] i).toLoadRect (ix2 a b)
      = (View.canon L : Vec Ideal S128x512 .f32) (ix2 a ⟨o + b.val, lt_of_lt_of_le (Nat.add_lt_add_left b.isLt o) (i 1)⟩) := by
  rw [View.readCov_eq_canon']
  refine congrArg (View.canon L) ?_
  funext k
  fin_cases k <;> apply Fin.ext <;> simp [LoadRect.idx, Rect.toLoadRect, ix2]

end Loads

/-- The gradient of the mixed rows: the incoming gradient times the gate. -/
def dmx (r : Fin 128) (l : Fin 512) : EReal := x0 (ix2 r (dg l)) * gelu (x1 (ix2 r (zu l)))

/-- The scaled rows. -/
def vn (r : Fin 128) (l : Fin 512) : EReal := hat (vrow x1 r) l * x6 (ix2 0 l) + x7 (ix2 0 l)

/-- The scaled rows' gradient: the transposed triangular product. -/
def dvn (r : Fin 128) (l : Fin 512) : EReal := ∑ x : Fin 128, if r.val ≤ x.val then x9 (ix3 (hd l) r x) * dmx x0 x1 x l else 0

/-- Column b of slab s. -/
def col (s : Fin 4) (b : Fin 128) : Fin 512 := ⟨128 * s.val + b.val, by omega⟩

theorem hd_low (s : Fin 4) (b : Fin 128) (h : b.val < 64) : hd (col s b) = ⟨2 * s.val, by omega⟩ :=
  Fin.ext (by show (128 * s.val + b.val) / 64 = 2 * s.val; omega)

theorem hd_high (s : Fin 4) (b : Fin 128) (h : ¬ b.val < 64) : hd (col s b) = ⟨2 * s.val + 1, by omega⟩ :=
  Fin.ext (by show (128 * s.val + b.val) / 64 = 2 * s.val + 1; omega)

theorem dg_col (s : Fin 4) (b : Fin 128) : (⟨128 * s.val + 512 + b.val, by omega⟩ : Fin 1024) = dg (col s b) :=
  Fin.ext (by simp only [dg, col]; omega)

theorem dvn_slab (s : Fin 4) (a b : Fin 128) :
    ((if b.val < 64 then ∑ x : Fin 128, (if b.val < 64 then if a.val ≤ x.val then
        x9 (ix3 ⟨2 * s.val, by omega⟩ a x) * (x0 (ix2 x ⟨128 * s.val + 512 + b.val, by omega⟩) * gelu (x1 (ix2 x (zu (col s b))))) else 0 else 0) else (0 : EReal))
      + (if b.val < 64 then 0 else ∑ x : Fin 128, (if b.val < 64 then 0 else if a.val ≤ x.val then
        x9 (ix3 ⟨2 * s.val + 1, by omega⟩ a x) * (x0 (ix2 x ⟨128 * s.val + 512 + b.val, by omega⟩) * gelu (x1 (ix2 x (zu (col s b))))) else 0)))
      = dvn x0 x1 x9 a (col s b) := by
  unfold dvn dmx
  rw [dg_col]
  by_cases h : b.val < 64
  · simp only [if_pos h, add_zero, hd_low s b h]
  · simp only [if_neg h, zero_add, hd_high s b h]

theorem dvn_canon (r : Fin 128) (l : Fin 512) : (View.canon (runA.sl.H30_4 (F := Ideal) c arg1 harg1 arg2 harg2 arg10 harg10 arg24 x0 x1 x9) : Vec Ideal S128x512 .f32) (ix2 r l) = dvn x0 x1 x9 r l := by
  unfold runA.sl.H30_4
  canon_tiles x hx
  all_goals
    obtain ⟨a, b, rfl⟩ : ∃ a b : Fin 128, x = ix2 a b := ⟨x 0, x 1, by funext i; fin_cases i <;> rfl⟩
    obtain rfl : r = a := Fin.ext hx0
    pointwise [runA.sl.v0, runA.sl.v1, runA.sl.v2322, runA.sl.v28, runA.sl.cst_10, runA.sl.v2321, runA.sl.v26, runA.sl.v2317, runA.sl.v2316, runA.sl.v2315, runA.sl.v1842, runA.sl.v1843, runA.sl.v2313, runA.sl.v2305, runA.sl.v2293, runA.sl.v2286, runA.sl.v2278, runA.sl.v2284, runA.sl.cst_331, runA.sl.v2347, runA.sl.v2335, runA.sl.v49, runA.sl.v2357, runA.sl.v2355, runA.sl.v2276, runA.sl.v2264, runA.sl.v2222, runA.sl.v2221, runA.sl.v2217, runA.sl.v2216, runA.sl.v2215, runA.sl.v2213, runA.sl.v2205, runA.sl.v2193, runA.sl.v2186, runA.sl.v2178, runA.sl.v2184, runA.sl.v2263, runA.sl.v2259, runA.sl.v2258, runA.sl.v2257, runA.sl.v2255, runA.sl.v2247, runA.sl.v2235, runA.sl.v2176, runA.sl.v2164, runA.sl.v2122, runA.sl.v2121, runA.sl.v2117, runA.sl.v2116, runA.sl.v2115, runA.sl.v2113, runA.sl.v2105, runA.sl.v2093, runA.sl.v2086, runA.sl.v2085, runA.sl.r_68, runA.sl.v2084, runA.sl.v2163, runA.sl.v2159, runA.sl.v2158, runA.sl.v2157, runA.sl.v2155, runA.sl.v2147, runA.sl.v2135, runA.sl.v2076, runA.sl.v2064, runA.sl.v2022, runA.sl.v2021, runA.sl.v2017, runA.sl.v2016, runA.sl.v2015, runA.sl.v2013, runA.sl.v2005, runA.sl.v1993, runA.sl.v1986, runA.sl.v1978, runA.sl.v1984, runA.sl.v2063, runA.sl.v2059, runA.sl.v2058, runA.sl.v2057, runA.sl.v2055, runA.sl.v2047, runA.sl.v2035, k0_pay421]
    simp only [sel_le, sel_lt, sel_ge, load_head, load_cols (w := 1024), cov_cols, u_canon]
    first
      | exact (dvn_slab x0 x1 x9 0 r b).trans (congrArg (dvn x0 x1 x9 r) (Fin.ext (hx1.trans (Nat.zero_add _).symm)).symm)
      | exact (dvn_slab x0 x1 x9 1 r b).trans (congrArg (dvn x0 x1 x9 r) (Fin.ext hx1).symm)
      | exact (dvn_slab x0 x1 x9 2 r b).trans (congrArg (dvn x0 x1 x9 r) (Fin.ext hx1).symm)
      | exact (dvn_slab x0 x1 x9 3 r b).trans (congrArg (dvn x0 x1 x9 r) (Fin.ext hx1).symm)

end Cert.AttnKernelIdeal.Gen

end
-- ==== Proof.GmBlock.lean ====
/- The gated MLP's gradient of one block's columns. -/
module

public import proofs.«01_k».proof.Proof.GmSlabs
public import proofs.«01_k».proof.Proof.AttnBodyIdeal

@[expose] public section

set_option maxRecDepth 16384

noncomputable section

open Idealize.ShloMosaic Idealize.ShloMosaic.TcCoe Idealize.SL.Sem

namespace Cert.AttnKernelIdeal.Gen

open Cert.Gm

section Loads

theorem cov_rows (v : View sig .tc .vmem S128x512 .f32) (L : List (View.Piece (Elt Ideal) S128x512 .f32)) (o : Nat)
    (i : ∀ k, (![o, 0] : Fin 2 → Nat) k + (![16, 512] : Fin 2 → Nat) k ≤ S128x512.size k) (a : Fin 16) (b : Fin 512) :
    v.readCov L (Rect.unit (s := S128x512) ![o, 0] ![16, 512] i).toLoadRect (ix2 a b)
      = (View.canon L : Vec Ideal S128x512 .f32) (ix2 ⟨o + a.val, lt_of_lt_of_le (Nat.add_lt_add_left a.isLt o) (i 0)⟩ b) := by
  rw [View.readCov_eq_canon']
  refine congrArg (View.canon L) ?_
  funext k
  fin_cases k <;> apply Fin.ext <;> simp [LoadRect.idx, Rect.toLoadRect, ix2]

theorem cov_col (v : View sig .tc .vmem S128x128 .f32) (L : List (View.Piece (Elt Ideal) S128x128 .f32)) (o : Nat)
    (i : ∀ k, (![o, 0] : Fin 2 → Nat) k + (![16, 1] : Fin 2 → Nat) k ≤ S128x128.size k) (a : Fin 16) :
    v.readCov L (Rect.unit (s := S128x128) ![o, 0] ![16, 1] i).toLoadRect (ix2 a 0)
      = (View.canon L : Vec Ideal S128x128 .f32) (ix2 ⟨o + a.val, lt_of_lt_of_le (Nat.add_lt_add_left a.isLt o) (i 0)⟩ 0) := by
  rw [View.readCov_eq_canon']
  refine congrArg (View.canon L) ?_
  funext k
  fin_cases k <;> apply Fin.ext <;> simp [LoadRect.idx, Rect.toLoadRect, ix2]

theorem load_line (m : Memref sig .tc .vmem S1x512 .f32) (hm : m.IsWhole) (x : Vec Ideal S1x512 .f32)
    (i : ∀ k, (![0, 0] : Fin 2 → Nat) k + (![1, 512] : Fin 2 → Nat) k ≤ S1x512.size k) (b : Fin 512) :
    View.readAt (Elt Ideal) m.view (Rect.unit (s := S1x512) ![0, 0] ![1, 512] i).toLoadRect (hm.unread x) (ix2 0 b) = x (ix2 0 b) :=
  load_row m hm x i b

end Loads

section Form

variable (x0 : Vec Ideal S128x1024 .bf16) (x1 : Vec Ideal S128x1792 .bf16) (x6 x7 : Vec Ideal S1x512 .f32) (x8 x9 : Vec Ideal S8x128x128 .f32) (x10 : Vec Ideal S128x512 .f32)

/-- The mixed rows: the triangular product and its bias. -/
def mixed (r : Fin 128) (l : Fin 512) : EReal :=
  (∑ x : Fin 128, if x.val ≤ r.val then x8 (ix3 (hd l) r x) * vn x1 x6 x7 x l else 0) + x10 (ix2 r l)

/-- The gradient of the gate's columns. -/
def dzLow (r : Fin 128) (l : Fin 512) : EReal := x0 (ix2 r (dg l)) * mixed x1 x6 x7 x8 x10 r l * dgelu (x1 (ix2 r (zu l)))

/-- The gradient of the normalised columns. -/
def dzHigh (r : Fin 128) (l : Fin 512) : EReal :=
  back (vrow x1 r) (fun j => dvn x0 x1 x9 r j * x6 (ix2 0 j)) l * dgelu (x1 (ix2 r (zv l)))

/-- The gradient of the gated MLP's columns. -/
def dz (r : Fin 128) (l : Fin 1024) : EReal :=
  if h : l.val < 512 then dzLow x0 x1 x6 x7 x8 x10 r ⟨l.val, h⟩ else dzHigh x0 x1 x6 x9 r ⟨l.val - 512, by omega⟩

theorem dz_high (q r : Fin 128) (b : Fin 512) (l : Fin 1024) (hq : r.val = q.val) (hl : l.val = 512 + b.val) :
    dzHigh x0 x1 x6 x9 q b = dz x0 x1 x6 x7 x8 x9 x10 r l := by
  obtain rfl : r = q := Fin.ext hq
  unfold dz
  rw [dif_neg (by omega)]
  exact congrArg _ (Fin.ext (by simp only; omega))

theorem dz_low (s : Fin 4) (r a b : Fin 128) (l : Fin 1024) (hr : r.val = a.val) (hl : l.val = 128 * s.val + b.val) :
    x0 (ix2 a ⟨128 * s.val + 512 + b.val, by omega⟩)
      * ((if b.val < 64 then ∑ x : Fin 128, (if x.val ≤ a.val then x8 (ix3 ⟨2 * s.val, by omega⟩ a x) * vn x1 x6 x7 x (col s b) else 0) else (0 : EReal))
        + (if b.val < 64 then 0 else ∑ x : Fin 128, (if x.val ≤ a.val then x8 (ix3 ⟨2 * s.val + 1, by omega⟩ a x) * vn x1 x6 x7 x (col s b) else 0))
        + x10 (ix2 a (col s b))) * dgelu (x1 (ix2 a (zu (col s b))))
      = dz x0 x1 x6 x7 x8 x9 x10 r l := by
  obtain rfl : r = a := Fin.ext hr
  unfold dz
  rw [dif_pos (by omega), show (⟨l.val, by omega⟩ : Fin 512) = col s b from Fin.ext hl, dg_col]
  unfold dzLow mixed
  by_cases h : b.val < 64
  · simp only [if_pos h, add_zero, hd_low s b h]
  · simp only [if_neg h, zero_add, hd_high s b h]

end Form

theorem hide {p : Prop} [Decidable p] {f g : Fin 128 → EReal} : (∑ x, if p then f x else g x) = if p then ∑ x, f x else ∑ x, g x := by
  by_cases h : p
  · simp only [if_pos h]
  · simp only [if_neg h]

section Later

variable (c : Dev nD) (arg1 : Memref sig .tc .vmem S128x1024 .bf16) (harg1 : arg1.IsWhole) (arg2 : Memref sig .tc .vmem S128x1792 .bf16) (harg2 : arg2.IsWhole)
  (arg7 : Memref sig .tc .vmem S1x512 .f32) (harg7 : arg7.IsWhole) (arg8 : Memref sig .tc .vmem S1x512 .f32) (harg8 : arg8.IsWhole)
  (arg10 : Memref sig .tc .vmem S8x128x128 .f32) (harg10 : arg10.IsWhole) (arg24 : Memref sig .tc .vmem S128x512 .f32)
  (x0 : Vec Ideal S128x1024 .bf16) (x1 : Vec Ideal S128x1792 .bf16) (x6 x7 : Vec Ideal S1x512 .f32) (x9 : Vec Ideal S8x128x128 .f32)

theorem later_u : runB.sl.H24_8 (F := Ideal) c arg2 harg2 x1 = runA.sl.H24_8 c arg2 harg2 x1 := rfl
theorem later_du : runB.sl.H25_8 (F := Ideal) c arg2 harg2 x1 = runA.sl.H25_8 c arg2 harg2 x1 := rfl
theorem later_dv : runB.sl.H26_8 (F := Ideal) c arg2 harg2 x1 = runA.sl.H26_8 c arg2 harg2 x1 := rfl
theorem later_vn : runB.sl.H27_8 (F := Ideal) c arg2 harg2 arg7 harg7 arg8 harg8 x1 x6 x7 = runA.sl.H27_8 c arg2 harg2 arg7 harg7 arg8 harg8 x1 x6 x7 := rfl
theorem later_xh : runB.sl.H28_8 (F := Ideal) c arg2 harg2 x1 = runA.sl.H28_8 c arg2 harg2 x1 := rfl
theorem later_rs : runB.sl.H29_8 (F := Ideal) c arg2 harg2 x1 = runA.sl.H29_8 c arg2 harg2 x1 := rfl
theorem later_dvn : runB.sl.H30_4 (F := Ideal) c arg1 harg1 arg2 harg2 arg10 harg10 arg24 x0 x1 x9 = runA.sl.H30_4 c arg1 harg1 arg2 harg2 arg10 harg10 arg24 x0 x1 x9 := rfl

end Later

set_option maxHeartbeats 1600000 in
theorem dz_first (c : Dev nD) (t : Fin cfg0.N) (h : ((grid0.coords t) 0).val = 0) (Z : Blocks Ideal) (r : Fin 128) (l : Fin 1024) :
    (View.canon (pointA c t h Z).2.2.1 : Vec Ideal S128x1024 .bf16) (ix2 r l) = dz (Z 0) (Z 1) (Z 6) (Z 7) (Z 8) (Z 9) (Z 10) r l := by
  unfold pointA runA
  dsimp only
  have hr := r.isLt
  have hl := l.isLt
  canon_tiles x hx using by
    simp only [List.mem_cons, List.not_mem_nil, or_false, exists_eq_or_imp, exists_eq_left, Rect.mem_set_unit, Fin.forall_fin_two]
    simp [ix2]
    omega
  all_goals
    obtain ⟨a, b, rfl⟩ : ∃ a b, x = ix2 a b := ⟨x 0, x 1, by funext i; fin_cases i <;> rfl⟩
    pointwise [runA.sl.r_90, runA.sl.v2596, runA.sl.v2597, runA.sl.v2605, runA.sl.v2622, runA.sl.v2567, runA.sl.r_86, runA.sl.v2566, runA.sl.v2575, runA.sl.r_87, runA.sl.v2592, runA.sl.v2536, runA.sl.v2537, runA.sl.r_83, runA.sl.v2545, runA.sl.v2562, runA.sl.v2506, runA.sl.v2507, runA.sl.v2515, runA.sl.v2532, runA.sl.v2476, runA.sl.v2477, runA.sl.v2485, runA.sl.v2502, runA.sl.v2447, runA.sl.v2455, runA.sl.r_77, runA.sl.v2446, runA.sl.r_78, runA.sl.v2472, runA.sl.v2417, runA.sl.r_73, runA.sl.v2416, runA.sl.v2425, runA.sl.r_74, runA.sl.v2442, runA.sl.v2386, runA.sl.v2387, runA.sl.v2395, runA.sl.v2412, runA.sl.v2282, runA.sl.v2281, runA.sl.v2279, runA.sl.v2278, runA.sl.v1972, runA.sl.v1969, runA.sl.v1962, runA.sl.v1948, runA.sl.v1947, runA.sl.v1843, runA.sl.v1842, runA.sl.v1945, runA.sl.v28, runA.sl.cst_10, runA.sl.v1961, runA.sl.v1960, runA.sl.v26, runA.sl.v0, runA.sl.v1, runA.sl.v1940, runA.sl.cst_331, runA.sl.v1968, runA.sl.v1956, runA.sl.v1955, runA.sl.v1953, runA.sl.v1967, runA.sl.v1966, runA.sl.v49, runA.sl.v1971, runA.sl.v2280, runA.sl.v2182, runA.sl.v2181, runA.sl.v2179, runA.sl.v2178, runA.sl.v1939, runA.sl.v1936, runA.sl.v1929, runA.sl.v1915, runA.sl.v1914, runA.sl.v1912, runA.sl.v1928, runA.sl.v1927, runA.sl.v1907, runA.sl.v1935, runA.sl.v1923, runA.sl.v1922, runA.sl.v1920, runA.sl.v1934, runA.sl.v1933, runA.sl.v1938, runA.sl.v2180, runA.sl.v2082, runA.sl.v2081, runA.sl.v2079, runA.sl.v2078, runA.sl.v1906, runA.sl.v1903, runA.sl.v1896, runA.sl.v1882, runA.sl.v1881, runA.sl.v1879, runA.sl.v1895, runA.sl.v1894, runA.sl.v1874, runA.sl.v1902, runA.sl.v1890, runA.sl.v1889, runA.sl.v1887, runA.sl.v1901, runA.sl.v1900, runA.sl.v1905, runA.sl.v2080, runA.sl.v1982, runA.sl.v1981, runA.sl.v1979, runA.sl.v1978, runA.sl.v1873, runA.sl.v1870, runA.sl.v1863, runA.sl.v1849, runA.sl.v1848, runA.sl.v1846, runA.sl.v1862, runA.sl.v1861, runA.sl.v, runA.sl.v1869, runA.sl.v1857, runA.sl.v1856, runA.sl.v1854, runA.sl.v1868, runA.sl.v1867, runA.sl.v1872, runA.sl.v1980, k0_pay454, k0_pay449, k0_pay450, k0_pay445, k0_pay436, k0_pay435, k0_pay437, k0_pay430, k0_pay431, k0_pay1, k0_pay451, k0_pay446, k0_pay442, k0_pay441, k0_pay438, k0_pay432, k0_pay427]
    simp only [sel_le, sel_lt, sel_ge, hide, Finset.sum_const_zero, load_head, load_cols (w := 1024), load_cols (w := 512), load_row, load_line, cov_cols, cov_rows, cov_col, u_canon, du_canon, dv_canon, vn_canon, xh_canon, rs_canon, dvn_canon]

    first
      | (have e1 : l.val = 512 + b.val := hx1; have e0 : r.val = 0 + a.val := hx0.trans (Nat.zero_add _).symm; exact dz_high _ _ _ (Z 7) (Z 8) _ (Z 10) ⟨0 + a.val, by omega⟩ r b l e0 e1)
      | (have e1 : l.val = 512 + b.val := hx1; have e0 : r.val = 16 + a.val := hx0; exact dz_high _ _ _ (Z 7) (Z 8) _ (Z 10) ⟨16 + a.val, by omega⟩ r b l e0 e1)
      | (have e1 : l.val = 512 + b.val := hx1; have e0 : r.val = 32 + a.val := hx0; exact dz_high _ _ _ (Z 7) (Z 8) _ (Z 10) ⟨32 + a.val, by omega⟩ r b l e0 e1)
      | (have e1 : l.val = 512 + b.val := hx1; have e0 : r.val = 48 + a.val := hx0; exact dz_high _ _ _ (Z 7) (Z 8) _ (Z 10) ⟨48 + a.val, by omega⟩ r b l e0 e1)
      | (have e1 : l.val = 512 + b.val := hx1; have e0 : r.val = 64 + a.val := hx0; exact dz_high _ _ _ (Z 7) (Z 8) _ (Z 10) ⟨64 + a.val, by omega⟩ r b l e0 e1)
      | (have e1 : l.val = 512 + b.val := hx1; have e0 : r.val = 80 + a.val := hx0; exact dz_high _ _ _ (Z 7) (Z 8) _ (Z 10) ⟨80 + a.val, by omega⟩ r b l e0 e1)
      | (have e1 : l.val = 512 + b.val := hx1; have e0 : r.val = 96 + a.val := hx0; exact dz_high _ _ _ (Z 7) (Z 8) _ (Z 10) ⟨96 + a.val, by omega⟩ r b l e0 e1)
      | (have e1 : l.val = 512 + b.val := hx1; have e0 : r.val = 112 + a.val := hx0; exact dz_high _ _ _ (Z 7) (Z 8) _ (Z 10) ⟨112 + a.val, by omega⟩ r b l e0 e1)
      | (have e1 : l.val = 0 + b.val := hx1.trans (Nat.zero_add _).symm; exact dz_low _ _ _ _ _ (Z 9) _ 0 r a b l hx0 e1)
      | (have e1 : l.val = 128 + b.val := hx1; exact dz_low _ _ _ _ _ (Z 9) _ 1 r a b l hx0 e1)
      | (have e1 : l.val = 256 + b.val := hx1; exact dz_low _ _ _ _ _ (Z 9) _ 2 r a b l hx0 e1)
      | (have e1 : l.val = 384 + b.val := hx1; exact dz_low _ _ _ _ _ (Z 9) _ 3 r a b l hx0 e1)

set_option maxHeartbeats 1600000 in
theorem dz_later (c : Dev nD) (t : Fin cfg0.N) (h : ¬ ((grid0.coords t) 0).val = 0) (Z : Blocks Ideal) (r : Fin 128) (l : Fin 1024) :
    (View.canon (pointB c t h Z).2.2.1 : Vec Ideal S128x1024 .bf16) (ix2 r l) = dz (Z 0) (Z 1) (Z 6) (Z 7) (Z 8) (Z 9) (Z 10) r l := by
  unfold pointB runB
  dsimp only
  have hr := r.isLt
  have hl := l.isLt
  canon_tiles x hx using by
    simp only [List.mem_cons, List.not_mem_nil, or_false, exists_eq_or_imp, exists_eq_left, Rect.mem_set_unit, Fin.forall_fin_two]
    simp [ix2]
    omega
  all_goals
    obtain ⟨a, b, rfl⟩ : ∃ a b, x = ix2 a b := ⟨x 0, x 1, by funext i; fin_cases i <;> rfl⟩
    pointwise [runB.sl.r_90, runB.sl.v2596, runB.sl.v2597, runB.sl.v2605, runB.sl.v2622, runB.sl.v2567, runB.sl.r_86, runB.sl.v2566, runB.sl.v2575, runB.sl.r_87, runB.sl.v2592, runB.sl.v2536, runB.sl.v2537, runB.sl.r_83, runB.sl.v2545, runB.sl.v2562, runB.sl.v2506, runB.sl.v2507, runB.sl.v2515, runB.sl.v2532, runB.sl.v2476, runB.sl.v2477, runB.sl.v2485, runB.sl.v2502, runB.sl.v2447, runB.sl.v2455, runB.sl.r_77, runB.sl.v2446, runB.sl.r_78, runB.sl.v2472, runB.sl.v2417, runB.sl.r_73, runB.sl.v2416, runB.sl.v2425, runB.sl.r_74, runB.sl.v2442, runB.sl.v2386, runB.sl.v2387, runB.sl.v2395, runB.sl.v2412, runB.sl.v2282, runB.sl.v2281, runB.sl.v2279, runB.sl.v2278, runB.sl.v1972, runB.sl.v1969, runB.sl.v1962, runB.sl.v1948, runB.sl.v1947, runB.sl.v1843, runB.sl.v1842, runB.sl.v1945, runB.sl.v28, runB.sl.cst_10, runB.sl.v1961, runB.sl.v1960, runB.sl.v26, runB.sl.v0, runB.sl.v1, runB.sl.v1940, runB.sl.cst_331, runB.sl.v1968, runB.sl.v1956, runB.sl.v1955, runB.sl.v1953, runB.sl.v1967, runB.sl.v1966, runB.sl.v49, runB.sl.v1971, runB.sl.v2280, runB.sl.v2182, runB.sl.v2181, runB.sl.v2179, runB.sl.v2178, runB.sl.v1939, runB.sl.v1936, runB.sl.v1929, runB.sl.v1915, runB.sl.v1914, runB.sl.v1912, runB.sl.v1928, runB.sl.v1927, runB.sl.v1907, runB.sl.v1935, runB.sl.v1923, runB.sl.v1922, runB.sl.v1920, runB.sl.v1934, runB.sl.v1933, runB.sl.v1938, runB.sl.v2180, runB.sl.v2082, runB.sl.v2081, runB.sl.v2079, runB.sl.v2078, runB.sl.v1906, runB.sl.v1903, runB.sl.v1896, runB.sl.v1882, runB.sl.v1881, runB.sl.v1879, runB.sl.v1895, runB.sl.v1894, runB.sl.v1874, runB.sl.v1902, runB.sl.v1890, runB.sl.v1889, runB.sl.v1887, runB.sl.v1901, runB.sl.v1900, runB.sl.v1905, runB.sl.v2080, runB.sl.v1982, runB.sl.v1981, runB.sl.v1979, runB.sl.v1978, runB.sl.v1873, runB.sl.v1870, runB.sl.v1863, runB.sl.v1849, runB.sl.v1848, runB.sl.v1846, runB.sl.v1862, runB.sl.v1861, runB.sl.v, runB.sl.v1869, runB.sl.v1857, runB.sl.v1856, runB.sl.v1854, runB.sl.v1868, runB.sl.v1867, runB.sl.v1872, runB.sl.v1980, k0_pay454, k0_pay449, k0_pay450, k0_pay445, k0_pay436, k0_pay435, k0_pay437, k0_pay430, k0_pay431, k0_pay1, k0_pay451, k0_pay446, k0_pay442, k0_pay441, k0_pay438, k0_pay432, k0_pay427]
    simp only [later_u, later_du, later_dv, later_vn, later_xh, later_rs, later_dvn, sel_le, sel_lt, sel_ge, hide, Finset.sum_const_zero, load_head, load_cols (w := 1024), load_cols (w := 512), load_row, load_line, cov_cols, cov_rows, cov_col, u_canon, du_canon, dv_canon, vn_canon, xh_canon, rs_canon, dvn_canon]

    first
      | (have e1 : l.val = 512 + b.val := hx1; have e0 : r.val = 0 + a.val := hx0.trans (Nat.zero_add _).symm; exact dz_high _ _ _ (Z 7) (Z 8) _ (Z 10) ⟨0 + a.val, by omega⟩ r b l e0 e1)
      | (have e1 : l.val = 512 + b.val := hx1; have e0 : r.val = 16 + a.val := hx0; exact dz_high _ _ _ (Z 7) (Z 8) _ (Z 10) ⟨16 + a.val, by omega⟩ r b l e0 e1)
      | (have e1 : l.val = 512 + b.val := hx1; have e0 : r.val = 32 + a.val := hx0; exact dz_high _ _ _ (Z 7) (Z 8) _ (Z 10) ⟨32 + a.val, by omega⟩ r b l e0 e1)
      | (have e1 : l.val = 512 + b.val := hx1; have e0 : r.val = 48 + a.val := hx0; exact dz_high _ _ _ (Z 7) (Z 8) _ (Z 10) ⟨48 + a.val, by omega⟩ r b l e0 e1)
      | (have e1 : l.val = 512 + b.val := hx1; have e0 : r.val = 64 + a.val := hx0; exact dz_high _ _ _ (Z 7) (Z 8) _ (Z 10) ⟨64 + a.val, by omega⟩ r b l e0 e1)
      | (have e1 : l.val = 512 + b.val := hx1; have e0 : r.val = 80 + a.val := hx0; exact dz_high _ _ _ (Z 7) (Z 8) _ (Z 10) ⟨80 + a.val, by omega⟩ r b l e0 e1)
      | (have e1 : l.val = 512 + b.val := hx1; have e0 : r.val = 96 + a.val := hx0; exact dz_high _ _ _ (Z 7) (Z 8) _ (Z 10) ⟨96 + a.val, by omega⟩ r b l e0 e1)
      | (have e1 : l.val = 512 + b.val := hx1; have e0 : r.val = 112 + a.val := hx0; exact dz_high _ _ _ (Z 7) (Z 8) _ (Z 10) ⟨112 + a.val, by omega⟩ r b l e0 e1)
      | (have e1 : l.val = 0 + b.val := hx1.trans (Nat.zero_add _).symm; exact dz_low _ _ _ _ _ (Z 9) _ 0 r a b l hx0 e1)
      | (have e1 : l.val = 128 + b.val := hx1; exact dz_low _ _ _ _ _ (Z 9) _ 1 r a b l hx0 e1)
      | (have e1 : l.val = 256 + b.val := hx1; exact dz_low _ _ _ _ _ (Z 9) _ 2 r a b l hx0 e1)
      | (have e1 : l.val = 384 + b.val := hx1; exact dz_low _ _ _ _ _ (Z 9) _ 3 r a b l hx0 e1)

end Cert.AttnKernelIdeal.Gen

end
-- ==== Proof.GmSums.lean ====
/- The gated MLP's four sums over rows: what one block adds to them. -/
module

public import proofs.«01_k».proof.Proof.GmBlock

@[expose] public section

set_option maxRecDepth 16384

noncomputable section

open Idealize.ShloMosaic Idealize.ShloMosaic.TcCoe Idealize.SL.Sem

namespace Cert.AttnKernelIdeal.Gen

open Cert.Gm

theorem sum_strips (f : Fin 128 → EReal) :
    (∑ x : Fin 16, (f ⟨0 + x.val, by omega⟩ + f ⟨16 + x.val, by omega⟩ + f ⟨32 + x.val, by omega⟩ + f ⟨48 + x.val, by omega⟩
      + f ⟨64 + x.val, by omega⟩ + f ⟨80 + x.val, by omega⟩ + f ⟨96 + x.val, by omega⟩ + f ⟨112 + x.val, by omega⟩)) = ∑ r, f r := by
  rw [Fin.sum_univ_tiles 8 16 rfl f, Finset.sum_comm]
  refine Finset.sum_congr rfl fun x _ => ?_
  rw [Fin.sum_univ_eight]
  rfl

theorem sum_lower (f : Fin 128 → EReal) : (∑ x : Fin 128, if x.val < 64 then f x else 0) = ∑ j : Fin 64, f ⟨j.val, by omega⟩ := by
  rw [Fin.sum_univ_tiles 2 64 rfl, Fin.sum_univ_two]
  have e0 : (∑ t : Fin 64, if ((0 : Fin 2).val * 64 + t.val) < 64 then f ⟨(0 : Fin 2).val * 64 + t.val, by simp; omega⟩ else 0) = ∑ j : Fin 64, f ⟨j.val, by omega⟩ :=
    Finset.sum_congr rfl fun t _ => by
      rw [if_pos (by simp)]
      exact congrArg f (Fin.ext (by simp))
  have e1 : (∑ t : Fin 64, if ((1 : Fin 2).val * 64 + t.val) < 64 then f ⟨(1 : Fin 2).val * 64 + t.val, by simp; omega⟩ else 0) = 0 :=
    Finset.sum_eq_zero fun t _ => if_neg (by simp)
  exact (congrArg₂ (· + ·) e0 e1).trans (add_zero _)

theorem sum_upper (f : Fin 128 → EReal) : (∑ x : Fin 128, if x.val < 64 then 0 else f x) = ∑ j : Fin 64, f ⟨64 + j.val, by omega⟩ := by
  rw [Fin.sum_univ_tiles 2 64 rfl, Fin.sum_univ_two]
  have e0 : (∑ t : Fin 64, if ((0 : Fin 2).val * 64 + t.val) < 64 then 0 else f ⟨(0 : Fin 2).val * 64 + t.val, by simp; omega⟩) = 0 :=
    Finset.sum_eq_zero fun t _ => if_pos (by simp)
  have e1 : (∑ t : Fin 64, if ((1 : Fin 2).val * 64 + t.val) < 64 then 0 else f ⟨(1 : Fin 2).val * 64 + t.val, by simp; omega⟩) = ∑ j : Fin 64, f ⟨64 + j.val, by omega⟩ :=
    Finset.sum_congr rfl fun t _ => by
      rw [if_neg (by simp)]
      exact congrArg f (Fin.ext (by simp))
  exact (congrArg₂ (· + ·) e0 e1).trans (zero_add _)

section Heads

variable {k : Nat} (i : ∀ q, (![k, 0, 0] : Fin 3 → Nat) q + (![1, 128, 128] : Fin 3 → Nat) q ≤ S8x128x128.size q)
  (L : List (View.Piece (Elt Ideal) S8x128x128 .f32))

theorem head_cons (w : (Rect.unit (s := S8x128x128) ![k, 0, 0] ![1, 128, 128] i).shape.Idx → Elt Ideal .f32) (h : Fin 8) (a b : Fin 128) :
    (View.canon (⟨Rect.unit (s := S8x128x128) ![k, 0, 0] ![1, 128, 128] i, w⟩ :: L) : Vec Ideal S8x128x128 .f32) (ix3 h a b)
      = if h.val = k then w (ix3 (n0 := 1) (n1 := 128) (n2 := 128) 0 a b) else (View.canon L : Vec Ideal S8x128x128 .f32) (ix3 h a b) := by
  by_cases e : h.val = k
  · rw [if_pos e]
    have : (ix3 h a b : S8x128x128.Idx) = (Rect.unit (s := S8x128x128) ![k, 0, 0] ![1, 128, 128] i).emb (ix3 (n0 := 1) (n1 := 128) (n2 := 128) 0 a b) := by
      funext q
      fin_cases q <;> apply Fin.ext <;> simp [ix3, e]
    rw [this]
    exact View.canon_cons_emb _ _ _ _
  · rw [if_neg e]
    refine View.canon_cons_of_not_mem _ _ fun m => e ?_
    have := (Rect.mem_set_unit (inb := i).mp m) 0
    simp [ix3] at this
    omega

theorem head_cons' (w : (Rect.unit (s := S8x128x128) ![k, 0, 0] S1x128x128.size i).shape.Idx → Elt Ideal .f32) (h : Fin 8) (a b : Fin 128) :
    (View.canon (⟨Rect.unit (s := S8x128x128) ![k, 0, 0] S1x128x128.size i, w⟩ :: L) : Vec Ideal S8x128x128 .f32) (ix3 h a b)
      = if h.val = k then w (ix3 (n0 := 1) (n1 := 128) (n2 := 128) 0 a b) else (View.canon L : Vec Ideal S8x128x128 .f32) (ix3 h a b) :=
  head_cons i L w h a b

theorem cov_head (v : View sig .tc .vmem S8x128x128 .f32) (a b : Fin 128) :
    v.readCov L (Rect.unit (s := S8x128x128) ![k, 0, 0] ![1, 128, 128] i).toLoadRect (ix3 (n0 := 1) (n1 := 128) (n2 := 128) 0 a b)
      = (View.canon L : Vec Ideal S8x128x128 .f32) (ix3 ⟨k, i 0⟩ a b) := by
  rw [View.readCov_eq_canon']
  refine congrArg (View.canon L) ?_
  funext q
  fin_cases q <;> apply Fin.ext <;> simp [LoadRect.idx, Rect.toLoadRect, ix3]

theorem cov_head' (v : View sig .tc .vmem S8x128x128 .f32) (a b : Fin 128) :
    v.readCov L (Rect.unit (s := S8x128x128) ![k, 0, 0] S1x128x128.size i).toLoadRect (ix3 (n0 := 1) (n1 := 128) (n2 := 128) 0 a b)
      = (View.canon L : Vec Ideal S8x128x128 .f32) (ix3 ⟨k, i 0⟩ a b) :=
  cov_head i L v a b

theorem load_head' (m : Memref sig .tc .vmem S8x128x128 .f32) (hm : m.IsWhole) (x : Vec Ideal S8x128x128 .f32) (a b : Fin 128) :
    View.readAt (Elt Ideal) m.view (Rect.unit (s := S8x128x128) ![k, 0, 0] S1x128x128.size i).toLoadRect (hm.unread x) (ix3 (n0 := 1) (n1 := 128) (n2 := 128) 0 a b)
      = x (ix3 ⟨k, i 0⟩ a b) := load_head m hm x k i a b

end Heads

section Whole

variable (v : View sig .tc .vmem S1x512 .f32) (L : List (View.Piece (Elt Ideal) S1x512 .f32))
  (i : ∀ k, (![0, 0] : Fin 2 → Nat) k + (![1, 512] : Fin 2 → Nat) k ≤ S1x512.size k)
  (u : View sig .tc .vmem S128x128 .f32) (M : List (View.Piece (Elt Ideal) S128x128 .f32))
  (j : ∀ k, (![0, 0] : Fin 2 → Nat) k + (![128, 128] : Fin 2 → Nat) k ≤ S128x128.size k)

theorem line_cons (w : (Rect.unit (s := S1x512) ![0, 0] ![1, 512] i).shape.Idx → Elt Ideal .f32) (b : Fin 512) :
    (View.canon (⟨Rect.unit (s := S1x512) ![0, 0] ![1, 512] i, w⟩ :: L) : Vec Ideal S1x512 .f32) (ix2 0 b) = w (ix2 (n0 := 1) (n1 := 512) 0 b) := by
  have : (ix2 0 b : S1x512.Idx) = (Rect.unit (s := S1x512) ![0, 0] ![1, 512] i).emb (ix2 (n0 := 1) (n1 := 512) 0 b) := by
    funext q
    fin_cases q <;> apply Fin.ext <;> simp [ix2]
  exact (congrArg (View.canon _) this).trans (View.canon_cons_emb _ _ _ _)

theorem cov_line (b : Fin 512) :
    v.readCov L (Rect.unit (s := S1x512) ![0, 0] ![1, 512] i).toLoadRect (ix2 (n0 := 1) (n1 := 512) 0 b) = (View.canon L : Vec Ideal S1x512 .f32) (ix2 0 b) := by
  rw [View.readCov_eq_canon']
  refine congrArg (View.canon L) ?_
  funext q
  fin_cases q <;> apply Fin.ext <;> simp [LoadRect.idx, Rect.toLoadRect, ix2]

theorem square_cons (w : (Rect.unit (s := S128x128) ![0, 0] ![128, 128] j).shape.Idx → Elt Ideal .f32) (a b : Fin 128) :
    (View.canon (⟨Rect.unit (s := S128x128) ![0, 0] ![128, 128] j, w⟩ :: M) : Vec Ideal S128x128 .f32) (ix2 a b) = w (ix2 (n0 := 128) (n1 := 128) a b) := by
  have : (ix2 a b : S128x128.Idx) = (Rect.unit (s := S128x128) ![0, 0] ![128, 128] j).emb (ix2 (n0 := 128) (n1 := 128) a b) := by
    funext q
    fin_cases q <;> apply Fin.ext <;> simp [ix2]
  exact (congrArg (View.canon _) this).trans (View.canon_cons_emb _ _ _ _)

theorem square_cons' (w : (Rect.unit (s := S128x128) ![0, 0] S128x128.size j).shape.Idx → Elt Ideal .f32) (a b : Fin 128) :
    (View.canon (⟨Rect.unit (s := S128x128) ![0, 0] S128x128.size j, w⟩ :: M) : Vec Ideal S128x128 .f32) (ix2 a b) = w (ix2 (n0 := 128) (n1 := 128) a b) :=
  square_cons M j w a b

theorem cov_square (a b : Fin 128) :
    u.readCov M (Rect.unit (s := S128x128) ![0, 0] ![128, 128] j).toLoadRect (ix2 (n0 := 128) (n1 := 128) a b) = (View.canon M : Vec Ideal S128x128 .f32) (ix2 a b) := by
  rw [View.readCov_eq_canon']
  refine congrArg (View.canon M) ?_
  funext q
  fin_cases q <;> apply Fin.ext <;> simp [LoadRect.idx, Rect.toLoadRect, ix2]

theorem cov_square' (a b : Fin 128) :
    u.readCov M (Rect.unit (s := S128x128) ![0, 0] S128x128.size j).toLoadRect (ix2 (n0 := 128) (n1 := 128) a b) = (View.canon M : Vec Ideal S128x128 .f32) (ix2 a b) :=
  cov_square u M j a b

theorem load_square (m : Memref sig .tc .vmem S128x128 .f32) (hm : m.IsWhole) (x : Vec Ideal S128x128 .f32) (a b : Fin 128) :
    View.readAt (Elt Ideal) m.view (Rect.unit (s := S128x128) ![0, 0] ![128, 128] j).toLoadRect (hm.unread x) (ix2 (n0 := 128) (n1 := 128) a b) = x (ix2 a b) := by
  refine (load_at m hm x _ _).trans (congrArg x ?_)
  funext q
  fin_cases q <;> apply Fin.ext <;> simp [LoadRect.idx, Rect.toLoadRect, ix2]

end Whole

section Term

variable (x0 : Vec Ideal S128x1024 .bf16) (x1 : Vec Ideal S128x1792 .bf16) (x6 x7 : Vec Ideal S1x512 .f32) (x9 : Vec Ideal S8x128x128 .f32)

/-- What one block adds to the offset's gradient. -/
def biasTerm (l : Fin 512) : EReal := ∑ r : Fin 128, dvn x0 x1 x9 r l

/-- What one block adds to the scale's gradient. -/
def scaleTerm (l : Fin 512) : EReal := ∑ r : Fin 128, dvn x0 x1 x9 r l * hat (vrow x1 r) l

/-- The columns of a head. -/
def lane (h : Fin 8) (j : Fin 64) : Fin 512 := ⟨64 * h.val + j.val, by omega⟩

/-- What one block adds to the mixing weights' gradient. -/
def mixTerm (h : Fin 8) (a b : Fin 128) : EReal :=
  if b.val ≤ a.val then ∑ j : Fin 64, dmx x0 x1 a (lane h j) * vn x1 x6 x7 b (lane h j) else 0

/-- What one block adds to the mixing bias's gradient. -/
def shiftTerm (a k : Fin 128) : EReal := if h : k.val < 8 then ∑ j : Fin 64, dmx x0 x1 a (lane ⟨k.val, h⟩ j) else 0

theorem lane_even (s : Fin 4) (j : Fin 64) : col s ⟨j.val, by omega⟩ = lane ⟨2 * s.val, by omega⟩ j :=
  Fin.ext (by simp only [col, lane]; omega)

theorem lane_odd (s : Fin 4) (j : Fin 64) : col s ⟨64 + j.val, by omega⟩ = lane ⟨2 * s.val + 1, by omega⟩ j :=
  Fin.ext (by simp only [col, lane]; omega)

theorem mix_even (s : Fin 4) (a b : Fin 128) :
    (if b.val ≤ a.val then ∑ x : Fin 128, (if x.val < 64 then x0 (ix2 a ⟨128 * s.val + 512 + x.val, by omega⟩) * gelu (x1 (ix2 a (zu (col s x)))) * vn x1 x6 x7 b (col s x) else 0) else 0)
      = mixTerm x0 x1 x6 x7 ⟨2 * s.val, by omega⟩ a b := by
  unfold mixTerm dmx
  simp only [dg_col, sum_lower, lane_even]

theorem mix_odd (s : Fin 4) (a b : Fin 128) :
    (if b.val ≤ a.val then ∑ x : Fin 128, (if x.val < 64 then 0 else x0 (ix2 a ⟨128 * s.val + 512 + x.val, by omega⟩) * gelu (x1 (ix2 a (zu (col s x)))) * vn x1 x6 x7 b (col s x)) else 0)
      = mixTerm x0 x1 x6 x7 ⟨2 * s.val + 1, by omega⟩ a b := by
  unfold mixTerm dmx
  simp only [dg_col, sum_upper, lane_odd]

theorem shift_even (s : Fin 4) (a : Fin 128) :
    (∑ x : Fin 128, (if x.val < 64 then x0 (ix2 a ⟨128 * s.val + 512 + x.val, by omega⟩) * gelu (x1 (ix2 a (zu (col s x)))) else 0))
      = ∑ j : Fin 64, dmx x0 x1 a (lane ⟨2 * s.val, by omega⟩ j) := by
  unfold dmx
  simp only [dg_col, sum_lower, lane_even]

theorem shift_odd (s : Fin 4) (a : Fin 128) :
    (∑ x : Fin 128, (if x.val < 64 then 0 else x0 (ix2 a ⟨128 * s.val + 512 + x.val, by omega⟩) * gelu (x1 (ix2 a (zu (col s x))))))
      = ∑ j : Fin 64, dmx x0 x1 a (lane ⟨2 * s.val + 1, by omega⟩ j) := by
  unfold dmx
  simp only [dg_col, sum_upper, lane_odd]

theorem shift_chain (f : Fin 8 → EReal) (k : Fin 128) :
    (if k.val = 0 then f 0 else 0) + (if k.val = 1 then f 1 else 0) + (if k.val = 2 then f 2 else 0) + (if k.val = 3 then f 3 else 0)
      + (if k.val = 4 then f 4 else 0) + (if k.val = 5 then f 5 else 0) + (if k.val = 6 then f 6 else 0) + (if k.val = 7 then f 7 else 0)
      = if h : k.val < 8 then f ⟨k.val, h⟩ else 0 := by
  obtain ⟨k, hk⟩ := k
  by_cases h : k < 8
  · interval_cases k <;> simp
  · simp only [dif_neg h]
    simp [show k ≠ 0 by omega, show k ≠ 1 by omega, show k ≠ 2 by omega, show k ≠ 3 by omega, show k ≠ 4 by omega, show k ≠ 5 by omega, show k ≠ 6 by omega, show k ≠ 7 by omega]

end Term

end Cert.AttnKernelIdeal.Gen

end
-- ==== Proof.GmAdds.lean ====
/- What one block's run leaves in the gated MLP's four sums. -/
module

public import proofs.«01_k».proof.Proof.GmSums

@[expose] public section

set_option maxRecDepth 16384

noncomputable section

open Idealize.ShloMosaic Idealize.ShloMosaic.TcCoe Idealize.SL.Sem

namespace Cert.AttnKernelIdeal.Gen

open Cert.Gm

set_option maxHeartbeats 3200000 in
theorem scale_first (c : Dev nD) (t : Fin cfg0.N) (h : ((grid0.coords t) 0).val = 0) (Z : Blocks Ideal) (l : Fin 512) :
    (View.canon (pointA c t h Z).2.2.2.2.1 : Vec Ideal S1x512 .f32) (ix2 0 l) = scaleTerm (Z 0) (Z 1) (Z 9) l := by
  unfold pointA runA
  dsimp only
  rw [line_cons]
  pointwise [runA.sl.r_89, runA.sl.r_85, runA.sl.r_82, runA.sl.r_80, runA.sl.r_76, runA.sl.r_72, runA.sl.r_70, runA.sl.v2386, runA.sl.v2387, runA.sl.v2416, runA.sl.v2417, runA.sl.v2446, runA.sl.v2447, runA.sl.v2476, runA.sl.v2477, runA.sl.v2506, runA.sl.v2507, runA.sl.v2536, runA.sl.v2537, runA.sl.v2566, runA.sl.v2567, runA.sl.v2596, runA.sl.v2597, runA.sl.v2640, runA.sl.H16_1, k0_pay453, k0_pay448, k0_pay444, k0_pay440, k0_pay434, k0_pay429, k0_pay424, k0_pay426, k0_pay4, k0_pay5]
  simp only [load_line, cov_line, line_cons, cov_rows, xh_canon, dvn_canon]
  exact (congrArg₂ (· + ·) rfl (sum_strips (fun r => dvn (Z 0) (Z 1) (Z 9) r l * hat (vrow (Z 1) r) l))).trans (zero_add _)

set_option maxHeartbeats 3200000 in
theorem bias_first (c : Dev nD) (t : Fin cfg0.N) (h : ((grid0.coords t) 0).val = 0) (Z : Blocks Ideal) (l : Fin 512) :
    (View.canon (pointA c t h Z).2.2.2.2.2.1 : Vec Ideal S1x512 .f32) (ix2 0 l) = biasTerm (Z 0) (Z 1) (Z 9) l := by
  unfold pointA runA
  dsimp only
  rw [line_cons]
  pointwise [runA.sl.r_88, runA.sl.r_84, runA.sl.r_81, runA.sl.r_79, runA.sl.r_75, runA.sl.r_71, runA.sl.r_69, runA.sl.v2386, runA.sl.v2416, runA.sl.v2446, runA.sl.v2476, runA.sl.v2506, runA.sl.v2536, runA.sl.v2566, runA.sl.v2596, runA.sl.v2631, runA.sl.H17_1, k0_pay452, k0_pay447, k0_pay443, k0_pay439, k0_pay433, k0_pay428, k0_pay425, k0_pay2, k0_pay3]
  simp only [load_line, cov_line, line_cons, cov_rows, xh_canon, dvn_canon]
  exact (congrArg₂ (· + ·) rfl (sum_strips (fun r => dvn (Z 0) (Z 1) (Z 9) r l))).trans (zero_add _)

theorem fresh_1 (h : Fin 8) (a b : Fin 128) : (View.canon (runA.sl.H18_1 (F := Ideal)) : Vec Ideal S8x128x128 .f32) (ix3 h a b) = 0 := by
  unfold runA.sl.H18_1
  canon_tiles x hx
  pointwise [runA.sl.v2644, k0_pay6, runA.sl.cst_10]

theorem fresh_2 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 1 ≤ h.val) (a b : Fin 128) :
    (View.canon (runA.sl.H18_2 (F := Ideal) c arg1 harg1 arg2 harg2 arg7 harg7 arg8 harg8 arg18 arg24 arg27 x0 x1 x6 x7) : Vec Ideal S8x128x128 .f32) (ix3 h a b) = 0 := by
  unfold runA.sl.H18_2
  rw [head_cons', if_neg (by omega)]
  exact fresh_1 h a b

theorem fresh_3 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 2 ≤ h.val) (a b : Fin 128) :
    (View.canon (runA.sl.H18_3 (F := Ideal) c arg1 harg1 arg2 harg2 arg7 harg7 arg8 harg8 arg18 arg24 arg27 x0 x1 x6 x7) : Vec Ideal S8x128x128 .f32) (ix3 h a b) = 0 := by
  unfold runA.sl.H18_3
  rw [head_cons', if_neg (by omega)]
  exact fresh_2 c arg1 harg1 arg2 harg2 arg7 harg7 arg8 harg8 arg18 arg24 arg27 x0 x1 x6 x7 h (by omega) a b

theorem fresh_4 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 3 ≤ h.val) (a b : Fin 128) :
    (View.canon (runA.sl.H18_4 (F := Ideal) c arg1 harg1 arg2 harg2 arg7 harg7 arg8 harg8 arg18 arg24 arg27 x0 x1 x6 x7) : Vec Ideal S8x128x128 .f32) (ix3 h a b) = 0 := by
  unfold runA.sl.H18_4
  rw [head_cons', if_neg (by omega)]
  exact fresh_3 c arg1 harg1 arg2 harg2 arg7 harg7 arg8 harg8 arg18 arg24 arg27 x0 x1 x6 x7 h (by omega) a b

theorem fresh_5 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 4 ≤ h.val) (a b : Fin 128) :
    (View.canon (runA.sl.H18_5 (F := Ideal) c arg1 harg1 arg2 harg2 arg7 harg7 arg8 harg8 arg18 arg24 arg27 x0 x1 x6 x7) : Vec Ideal S8x128x128 .f32) (ix3 h a b) = 0 := by
  unfold runA.sl.H18_5
  rw [head_cons', if_neg (by omega)]
  exact fresh_4 c arg1 harg1 arg2 harg2 arg7 harg7 arg8 harg8 arg18 arg24 arg27 x0 x1 x6 x7 h (by omega) a b

theorem fresh_6 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 5 ≤ h.val) (a b : Fin 128) :
    (View.canon (runA.sl.H18_6 (F := Ideal) c arg1 harg1 arg2 harg2 arg7 harg7 arg8 harg8 arg18 arg24 arg27 x0 x1 x6 x7) : Vec Ideal S8x128x128 .f32) (ix3 h a b) = 0 := by
  unfold runA.sl.H18_6
  rw [head_cons', if_neg (by omega)]
  exact fresh_5 c arg1 harg1 arg2 harg2 arg7 harg7 arg8 harg8 arg18 arg24 arg27 x0 x1 x6 x7 h (by omega) a b

theorem fresh_7 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 6 ≤ h.val) (a b : Fin 128) :
    (View.canon (runA.sl.H18_7 (F := Ideal) c arg1 harg1 arg2 harg2 arg7 harg7 arg8 harg8 arg18 arg24 arg27 x0 x1 x6 x7) : Vec Ideal S8x128x128 .f32) (ix3 h a b) = 0 := by
  unfold runA.sl.H18_7
  rw [head_cons', if_neg (by omega)]
  exact fresh_6 c arg1 harg1 arg2 harg2 arg7 harg7 arg8 harg8 arg18 arg24 arg27 x0 x1 x6 x7 h (by omega) a b

theorem fresh_8 (c : Dev nD) (arg1 : Memref sig .tc .vmem S128x1024 .bf16) (harg1 : arg1.IsWhole) (arg2 : Memref sig .tc .vmem S128x1792 .bf16) (harg2 : arg2.IsWhole)
    (arg7 : Memref sig .tc .vmem S1x512 .f32) (harg7 : arg7.IsWhole) (arg8 : Memref sig .tc .vmem S1x512 .f32) (harg8 : arg8.IsWhole)
    (arg18 : Memref sig .tc .vmem S8x128x128 .f32) (arg24 arg27 : Memref sig .tc .vmem S128x512 .f32)
    (x0 : Vec Ideal S128x1024 .bf16) (x1 : Vec Ideal S128x1792 .bf16) (x6 x7 : Vec Ideal S1x512 .f32) (h : Fin 8) (hh : 7 ≤ h.val) (a b : Fin 128) :
    (View.canon (runA.sl.H18_8 (F := Ideal) c arg1 harg1 arg2 harg2 arg7 harg7 arg8 harg8 arg18 arg24 arg27 x0 x1 x6 x7) : Vec Ideal S8x128x128 .f32) (ix3 h a b) = 0 := by
  unfold runA.sl.H18_8
  rw [head_cons', if_neg (by omega)]
  exact fresh_7 c arg1 harg1 arg2 harg2 arg7 harg7 arg8 harg8 arg18 arg24 arg27 x0 x1 x6 x7 h (by omega) a b

set_option maxHeartbeats 3200000 in
theorem mix_first (c : Dev nD) (t : Fin cfg0.N) (h : ((grid0.coords t) 0).val = 0) (Z : Blocks Ideal) (hh : Fin 8) (a b : Fin 128) :
    (View.canon (pointA c t h Z).2.2.2.2.2.2.1 : Vec Ideal S8x128x128 .f32) (ix3 hh a b) = mixTerm (Z 0) (Z 1) (Z 6) (Z 7) hh a b := by
  unfold pointA runA
  dsimp only
  obtain ⟨k, hk⟩ := hh
  interval_cases k
  all_goals
    simp (config := { decide := true }) only [head_cons, head_cons', runA.sl.H18_8, runA.sl.H18_7, runA.sl.H18_6, runA.sl.H18_5, runA.sl.H18_4, runA.sl.H18_3, runA.sl.H18_2, reduceIte]
    pointwise [runA.sl.v2288, runA.sl.v1940, runA.sl.v2347, runA.sl.v2335, runA.sl.v49, runA.sl.v0, runA.sl.v1, runA.sl.v2286, runA.sl.v2278, runA.sl.v2284, runA.sl.v28, runA.sl.cst_10, runA.sl.v1843, runA.sl.v1842, runA.sl.v2365, runA.sl.v2331, runA.sl.v2328, runA.sl.v2324, runA.sl.v2323, runA.sl.v2273, runA.sl.v2270, runA.sl.v2266, runA.sl.v2265, runA.sl.v2231, runA.sl.v2228, runA.sl.v2224, runA.sl.v2223, runA.sl.v2173, runA.sl.v2170, runA.sl.v2166, runA.sl.v2165, runA.sl.v2131, runA.sl.v2128, runA.sl.v2124, runA.sl.v2123, runA.sl.v2073, runA.sl.v2070, runA.sl.v2066, runA.sl.v2065, runA.sl.v2031, runA.sl.v2028, runA.sl.v2024, runA.sl.v2023, runA.sl.v2644, runA.sl.v2027, runA.sl.v2025, runA.sl.v2005, runA.sl.v1993, runA.sl.v26, runA.sl.v1986, runA.sl.v1978, runA.sl.v1984, runA.sl.v1988, runA.sl.v, runA.sl.cst_331, runA.sl.v2069, runA.sl.v2067, runA.sl.v2047, runA.sl.v2035, runA.sl.v2127, runA.sl.v2125, runA.sl.v2105, runA.sl.v2093, runA.sl.v2086, runA.sl.v2085, runA.sl.r_68, runA.sl.v2084, runA.sl.v2088, runA.sl.v1874, runA.sl.v2169, runA.sl.v2167, runA.sl.v2147, runA.sl.v2135, runA.sl.v2227, runA.sl.v2225, runA.sl.v2205, runA.sl.v2193, runA.sl.v2186, runA.sl.v2178, runA.sl.v2184, runA.sl.v2188, runA.sl.v1907, runA.sl.v2269, runA.sl.v2267, runA.sl.v2247, runA.sl.v2235, runA.sl.v2327, runA.sl.v2325, runA.sl.v2305, runA.sl.v2293, k0_pay420]
    simp only [fresh_1, fresh_2, fresh_3, fresh_4, fresh_5, fresh_6, fresh_7, fresh_8, le_refl, Nat.zero_le, zero_add, sel_le, sel_lt, sel_ge, load_head, load_head', cov_head, cov_head', load_cols (w := 1024), cov_cols, u_canon, vn_canon]
  · exact mix_even (Z 0) (Z 1) (Z 6) (Z 7) 0 a b
  · exact mix_odd (Z 0) (Z 1) (Z 6) (Z 7) 0 a b
  · exact mix_even (Z 0) (Z 1) (Z 6) (Z 7) 1 a b
  · exact mix_odd (Z 0) (Z 1) (Z 6) (Z 7) 1 a b
  · exact mix_even (Z 0) (Z 1) (Z 6) (Z 7) 2 a b
  · exact mix_odd (Z 0) (Z 1) (Z 6) (Z 7) 2 a b
  · exact mix_even (Z 0) (Z 1) (Z 6) (Z 7) 3 a b
  · exact mix_odd (Z 0) (Z 1) (Z 6) (Z 7) 3 a b

set_option maxHeartbeats 3200000 in
theorem shift_first (c : Dev nD) (t : Fin cfg0.N) (h : ((grid0.coords t) 0).val = 0) (Z : Blocks Ideal) (a k : Fin 128) :
    (View.canon (pointA c t h Z).2.2.2.2.2.2.2.1 : Vec Ideal S128x128 .f32) (ix2 a k) = shiftTerm (Z 0) (Z 1) a k := by
  unfold pointA runA
  dsimp only
  rw [square_cons]
  pointwise [runA.sl.v2346, runA.sl.v2304, runA.sl.v2246, runA.sl.v2204, runA.sl.v2146, runA.sl.v2104, runA.sl.v2046, runA.sl.v2004, runA.sl.v28, runA.sl.cst_10, runA.sl.v2003, runA.sl.v1998, runA.sl.v0, runA.sl.v246, runA.sl.v2001, runA.sl.v2000, runA.sl.v1997, runA.sl.v1996, runA.sl.v1993, runA.sl.v26, runA.sl.v1, runA.sl.v1986, runA.sl.v1978, runA.sl.v1984, runA.sl.v2045, runA.sl.v2040, runA.sl.v301, runA.sl.v2043, runA.sl.v2042, runA.sl.v2039, runA.sl.v2038, runA.sl.v2035, runA.sl.v49, runA.sl.v2103, runA.sl.v2098, runA.sl.v356, runA.sl.v2101, runA.sl.v2100, runA.sl.v2097, runA.sl.v2096, runA.sl.v2093, runA.sl.v2086, runA.sl.v2085, runA.sl.r_68, runA.sl.v2084, runA.sl.v2145, runA.sl.v2140, runA.sl.v411, runA.sl.v2143, runA.sl.v2142, runA.sl.v2139, runA.sl.v2138, runA.sl.v2135, runA.sl.v2203, runA.sl.v2198, runA.sl.v466, runA.sl.v2201, runA.sl.v2200, runA.sl.v2197, runA.sl.v2196, runA.sl.v2193, runA.sl.v2186, runA.sl.v2178, runA.sl.v2184, runA.sl.v2245, runA.sl.v2240, runA.sl.v521, runA.sl.v2243, runA.sl.v2242, runA.sl.v2239, runA.sl.v2238, runA.sl.v2235, runA.sl.v2303, runA.sl.v2298, runA.sl.v576, runA.sl.v2301, runA.sl.v2300, runA.sl.v2297, runA.sl.v2296, runA.sl.v2293, runA.sl.v2286, runA.sl.v2278, runA.sl.v2284, runA.sl.v2345, runA.sl.v2340, runA.sl.v631, runA.sl.v2343, runA.sl.v2342, runA.sl.v2339, runA.sl.v2338, runA.sl.v2335, runA.sl.v2380, runA.sl.H19_1, k0_pay422, k0_pay423]
  simp only [sel_eq k 0 (by omega), sel_eq k 1 (by omega), sel_eq k 2 (by omega), sel_eq k 3 (by omega), sel_eq k 4 (by omega), sel_eq k 5 (by omega), sel_eq k 6 (by omega), sel_eq k 7 (by omega), sel_lt, sel_ge, load_square, cov_square, cov_square', square_cons, square_cons', load_cols (w := 1024), cov_cols, u_canon]
  exact (congrArg₂ (· + ·) rfl (Eq.trans (congrArg₂ (· + ·) (congrArg₂ (· + ·) (congrArg₂ (· + ·) (congrArg₂ (· + ·) (congrArg₂ (· + ·) (congrArg₂ (· + ·) (congrArg₂ (· + ·) (congrArg (fun z : EReal => if k.val = 0 then z else 0) (shift_even (Z 0) (Z 1) 0 a)) (congrArg (fun z : EReal => if k.val = 1 then z else 0) (shift_odd (Z 0) (Z 1) 0 a))) (congrArg (fun z : EReal => if k.val = 2 then z else 0) (shift_even (Z 0) (Z 1) 1 a))) (congrArg (fun z : EReal => if k.val = 3 then z else 0) (shift_odd (Z 0) (Z 1) 1 a))) (congrArg (fun z : EReal => if k.val = 4 then z else 0) (shift_even (Z 0) (Z 1) 2 a))) (congrArg (fun z : EReal => if k.val = 5 then z else 0) (shift_odd (Z 0) (Z 1) 2 a))) (congrArg (fun z : EReal => if k.val = 6 then z else 0) (shift_even (Z 0) (Z 1) 3 a))) (congrArg (fun z : EReal => if k.val = 7 then z else 0) (shift_odd (Z 0) (Z 1) 3 a))) (shift_chain (fun h => ∑ j : Fin 64, dmx (Z 0) (Z 1) a (lane h j)) k))).trans (zero_add _)

set_option maxHeartbeats 3200000 in
theorem scale_later (c : Dev nD) (t : Fin cfg0.N) (h : ¬ ((grid0.coords t) 0).val = 0) (Z : Blocks Ideal) (l : Fin 512) :
    (View.canon (pointB c t h Z).2.2.2.2.1 : Vec Ideal S1x512 .f32) (ix2 0 l) = (show EReal from Z 15 (ix2 0 l)) + scaleTerm (Z 0) (Z 1) (Z 9) l := by
  unfold pointB runB
  dsimp only
  rw [line_cons]
  pointwise [runB.sl.r_89, runB.sl.r_85, runB.sl.r_82, runB.sl.r_80, runB.sl.r_76, runB.sl.r_72, runB.sl.r_70, runB.sl.v2386, runB.sl.v2387, runB.sl.v2416, runB.sl.v2417, runB.sl.v2446, runB.sl.v2447, runB.sl.v2476, runB.sl.v2477, runB.sl.v2506, runB.sl.v2507, runB.sl.v2536, runB.sl.v2537, runB.sl.v2566, runB.sl.v2567, runB.sl.v2596, runB.sl.v2597, k0_pay453, k0_pay448, k0_pay444, k0_pay440, k0_pay434, k0_pay429, k0_pay424, k0_pay426, k0_pay4, k0_pay5]
  simp only [later_u, later_du, later_dv, later_vn, later_xh, later_rs, later_dvn, load_line, cov_line, line_cons, cov_rows, xh_canon, dvn_canon]
  exact congrArg₂ (· + ·) rfl (sum_strips (fun r => dvn (Z 0) (Z 1) (Z 9) r l * hat (vrow (Z 1) r) l))

set_option maxHeartbeats 3200000 in
theorem bias_later (c : Dev nD) (t : Fin cfg0.N) (h : ¬ ((grid0.coords t) 0).val = 0) (Z : Blocks Ideal) (l : Fin 512) :
    (View.canon (pointB c t h Z).2.2.2.2.2.1 : Vec Ideal S1x512 .f32) (ix2 0 l) = (show EReal from Z 16 (ix2 0 l)) + biasTerm (Z 0) (Z 1) (Z 9) l := by
  unfold pointB runB
  dsimp only
  rw [line_cons]
  pointwise [runB.sl.r_88, runB.sl.r_84, runB.sl.r_81, runB.sl.r_79, runB.sl.r_75, runB.sl.r_71, runB.sl.r_69, runB.sl.v2386, runB.sl.v2416, runB.sl.v2446, runB.sl.v2476, runB.sl.v2506, runB.sl.v2536, runB.sl.v2566, runB.sl.v2596, k0_pay452, k0_pay447, k0_pay443, k0_pay439, k0_pay433, k0_pay428, k0_pay425, k0_pay2, k0_pay3]
  simp only [later_u, later_du, later_dv, later_vn, later_xh, later_rs, later_dvn, load_line, cov_line, line_cons, cov_rows, xh_canon, dvn_canon]
  exact congrArg₂ (· + ·) rfl (sum_strips (fun r => dvn (Z 0) (Z 1) (Z 9) r l))

set_option maxHeartbeats 3200000 in
theorem mix_later (c : Dev nD) (t : Fin cfg0.N) (h : ¬ ((grid0.coords t) 0).val = 0) (Z : Blocks Ideal) (hh : Fin 8) (a b : Fin 128) :
    (View.canon (pointB c t h Z).2.2.2.2.2.2.1 : Vec Ideal S8x128x128 .f32) (ix3 hh a b) = (show EReal from Z 17 (ix3 hh a b)) + mixTerm (Z 0) (Z 1) (Z 6) (Z 7) hh a b := by
  unfold pointB runB
  dsimp only
  obtain ⟨k, hk⟩ := hh
  interval_cases k
  all_goals
    simp (config := { decide := true }) only [head_cons, reduceIte]
    pointwise [runB.sl.v2288, runB.sl.v1940, runB.sl.v2347, runB.sl.v2335, runB.sl.v49, runB.sl.v0, runB.sl.v1, runB.sl.v2286, runB.sl.v2278, runB.sl.v2284, runB.sl.v28, runB.sl.cst_10, runB.sl.v1843, runB.sl.v1842, runB.sl.v2365, runB.sl.v2331, runB.sl.v2328, runB.sl.v2324, runB.sl.v2323, runB.sl.v2273, runB.sl.v2270, runB.sl.v2266, runB.sl.v2265, runB.sl.v2231, runB.sl.v2228, runB.sl.v2224, runB.sl.v2223, runB.sl.v2173, runB.sl.v2170, runB.sl.v2166, runB.sl.v2165, runB.sl.v2131, runB.sl.v2128, runB.sl.v2124, runB.sl.v2123, runB.sl.v2073, runB.sl.v2070, runB.sl.v2066, runB.sl.v2065, runB.sl.v2031, runB.sl.v2028, runB.sl.v2024, runB.sl.v2644, runB.sl.v2027, runB.sl.v2025, runB.sl.v2005, runB.sl.v1993, runB.sl.v26, runB.sl.v1986, runB.sl.v1978, runB.sl.v1984, runB.sl.v1988, runB.sl.v, runB.sl.cst_331, runB.sl.v2069, runB.sl.v2067, runB.sl.v2047, runB.sl.v2035, runB.sl.v2127, runB.sl.v2125, runB.sl.v2105, runB.sl.v2093, runB.sl.v2086, runB.sl.v2085, runB.sl.r_68, runB.sl.v2084, runB.sl.v2088, runB.sl.v1874, runB.sl.v2169, runB.sl.v2167, runB.sl.v2147, runB.sl.v2135, runB.sl.v2227, runB.sl.v2225, runB.sl.v2205, runB.sl.v2193, runB.sl.v2186, runB.sl.v2178, runB.sl.v2184, runB.sl.v2188, runB.sl.v1907, runB.sl.v2269, runB.sl.v2267, runB.sl.v2247, runB.sl.v2235, runB.sl.v2327, runB.sl.v2325, runB.sl.v2305, runB.sl.v2293, k0_pay420]
    simp only [later_u, later_du, later_dv, later_vn, later_xh, later_rs, later_dvn, sel_le, sel_lt, sel_ge, load_head, load_head', cov_head, cov_head', load_cols (w := 1024), cov_cols, u_canon, vn_canon]
  · exact congrArg₂ (· + ·) rfl (mix_even (Z 0) (Z 1) (Z 6) (Z 7) 0 a b)
  · exact congrArg₂ (· + ·) rfl (mix_odd (Z 0) (Z 1) (Z 6) (Z 7) 0 a b)
  · exact congrArg₂ (· + ·) rfl (mix_even (Z 0) (Z 1) (Z 6) (Z 7) 1 a b)
  · exact congrArg₂ (· + ·) rfl (mix_odd (Z 0) (Z 1) (Z 6) (Z 7) 1 a b)
  · exact congrArg₂ (· + ·) rfl (mix_even (Z 0) (Z 1) (Z 6) (Z 7) 2 a b)
  · exact congrArg₂ (· + ·) rfl (mix_odd (Z 0) (Z 1) (Z 6) (Z 7) 2 a b)
  · exact congrArg₂ (· + ·) rfl (mix_even (Z 0) (Z 1) (Z 6) (Z 7) 3 a b)
  · exact congrArg₂ (· + ·) rfl (mix_odd (Z 0) (Z 1) (Z 6) (Z 7) 3 a b)

set_option maxHeartbeats 3200000 in
theorem shift_later (c : Dev nD) (t : Fin cfg0.N) (h : ¬ ((grid0.coords t) 0).val = 0) (Z : Blocks Ideal) (a k : Fin 128) :
    (View.canon (pointB c t h Z).2.2.2.2.2.2.2.1 : Vec Ideal S128x128 .f32) (ix2 a k) = (show EReal from Z 18 (ix2 a k)) + shiftTerm (Z 0) (Z 1) a k := by
  unfold pointB runB
  dsimp only
  rw [square_cons]
  pointwise [runB.sl.v2346, runB.sl.v2304, runB.sl.v2246, runB.sl.v2204, runB.sl.v2146, runB.sl.v2104, runB.sl.v2046, runB.sl.v2004, runB.sl.v28, runB.sl.cst_10, runB.sl.v2003, runB.sl.v1998, runB.sl.v0, runB.sl.v246, runB.sl.v2001, runB.sl.v2000, runB.sl.v1997, runB.sl.v1996, runB.sl.v1993, runB.sl.v26, runB.sl.v1, runB.sl.v1986, runB.sl.v1978, runB.sl.v1984, runB.sl.v2045, runB.sl.v2040, runB.sl.v301, runB.sl.v2043, runB.sl.v2042, runB.sl.v2039, runB.sl.v2038, runB.sl.v2035, runB.sl.v49, runB.sl.v2103, runB.sl.v2098, runB.sl.v356, runB.sl.v2101, runB.sl.v2100, runB.sl.v2097, runB.sl.v2096, runB.sl.v2093, runB.sl.v2086, runB.sl.v2085, runB.sl.r_68, runB.sl.v2084, runB.sl.v2145, runB.sl.v2140, runB.sl.v411, runB.sl.v2143, runB.sl.v2142, runB.sl.v2139, runB.sl.v2138, runB.sl.v2135, runB.sl.v2203, runB.sl.v2198, runB.sl.v466, runB.sl.v2201, runB.sl.v2200, runB.sl.v2197, runB.sl.v2196, runB.sl.v2193, runB.sl.v2186, runB.sl.v2178, runB.sl.v2184, runB.sl.v2245, runB.sl.v2240, runB.sl.v521, runB.sl.v2243, runB.sl.v2242, runB.sl.v2239, runB.sl.v2238, runB.sl.v2235, runB.sl.v2303, runB.sl.v2298, runB.sl.v576, runB.sl.v2301, runB.sl.v2300, runB.sl.v2297, runB.sl.v2296, runB.sl.v2293, runB.sl.v2286, runB.sl.v2278, runB.sl.v2284, runB.sl.v2345, runB.sl.v2340, runB.sl.v631, runB.sl.v2343, runB.sl.v2342, runB.sl.v2339, runB.sl.v2338, runB.sl.v2335, k0_pay422, k0_pay423]
  simp only [later_u, later_du, later_dv, later_vn, later_xh, later_rs, later_dvn, sel_eq k 0 (by omega), sel_eq k 1 (by omega), sel_eq k 2 (by omega), sel_eq k 3 (by omega), sel_eq k 4 (by omega), sel_eq k 5 (by omega), sel_eq k 6 (by omega), sel_eq k 7 (by omega), sel_lt, sel_ge, load_square, cov_square, cov_square', square_cons, square_cons', load_cols (w := 1024), cov_cols, u_canon]
  exact congrArg₂ (· + ·) rfl (Eq.trans (congrArg₂ (· + ·) (congrArg₂ (· + ·) (congrArg₂ (· + ·) (congrArg₂ (· + ·) (congrArg₂ (· + ·) (congrArg₂ (· + ·) (congrArg₂ (· + ·) (congrArg (fun z : EReal => if k.val = 0 then z else 0) (shift_even (Z 0) (Z 1) 0 a)) (congrArg (fun z : EReal => if k.val = 1 then z else 0) (shift_odd (Z 0) (Z 1) 0 a))) (congrArg (fun z : EReal => if k.val = 2 then z else 0) (shift_even (Z 0) (Z 1) 1 a))) (congrArg (fun z : EReal => if k.val = 3 then z else 0) (shift_odd (Z 0) (Z 1) 1 a))) (congrArg (fun z : EReal => if k.val = 4 then z else 0) (shift_even (Z 0) (Z 1) 2 a))) (congrArg (fun z : EReal => if k.val = 5 then z else 0) (shift_odd (Z 0) (Z 1) 2 a))) (congrArg (fun z : EReal => if k.val = 6 then z else 0) (shift_even (Z 0) (Z 1) 3 a))) (congrArg (fun z : EReal => if k.val = 7 then z else 0) (shift_odd (Z 0) (Z 1) 3 a))) (shift_chain (fun h => ∑ j : Fin 64, dmx (Z 0) (Z 1) a (lane h j)) k))

end Cert.AttnKernelIdeal.Gen

end
-- ==== Proof.GmLeft.lean ====
/- What a point leaves in the gated MLP's output windows, and the four sums over the points. -/
module

public import proofs.«01_k».proof.Proof.GmAdds

@[expose] public section

set_option maxRecDepth 16384

noncomputable section

open Idealize.ShloMosaic Idealize.ShloMosaic.TcCoe Idealize.SL.Sem

namespace Cert.AttnKernelIdeal.Gen

open Cert.Gm

section Covers

theorem whole_line (i : ∀ k, (![0, 0] : Fin 2 → Nat) k + (![1, 512] : Fin 2 → Nat) k ≤ S1x512.size k) (b : Fin 512) :
    (ix2 0 b : S1x512.Idx) ∈ (Rect.unit (s := S1x512) ![0, 0] ![1, 512] i).set := by
  refine (Rect.mem_set_unit (inb := i)).mpr fun a => ?_
  have := b.isLt
  fin_cases a <;> simp [ix2]

theorem whole_square (i : ∀ k, (![0, 0] : Fin 2 → Nat) k + (![128, 128] : Fin 2 → Nat) k ≤ S128x128.size k) (a b : Fin 128) :
    (ix2 a b : S128x128.Idx) ∈ (Rect.unit (s := S128x128) ![0, 0] ![128, 128] i).set := by
  refine (Rect.mem_set_unit (inb := i)).mpr fun q => ?_
  have := b.isLt
  have := a.isLt
  fin_cases q <;> simp [ix2]

theorem dz_cover_first (c : Dev nD) (t : Fin cfg0.N) (h : ((grid0.coords t) 0).val = 0) (Z : Blocks Ideal) (r : Fin 128) (l : Fin 1024) :
    ∃ p ∈ (pointA c t h Z).2.2.1, (ix2 r l : S128x1024.Idx) ∈ p.1.set := by
  unfold pointA runA
  dsimp only
  have hr := r.isLt
  have hl := l.isLt
  simp only [List.mem_cons, List.not_mem_nil, or_false, exists_eq_or_imp, exists_eq_left, Rect.mem_set_unit, Fin.forall_fin_two]
  simp [ix2]
  omega

theorem mix_cover_first (c : Dev nD) (t : Fin cfg0.N) (h : ((grid0.coords t) 0).val = 0) (Z : Blocks Ideal) (q : Fin 8) (a b : Fin 128) :
    ∃ p ∈ (pointA c t h Z).2.2.2.2.2.2.1, (ix3 q a b : S8x128x128.Idx) ∈ p.1.set := by
  unfold pointA runA
  dsimp only
  have hq := q.isLt
  have ha := a.isLt
  have hb := b.isLt
  simp only [runA.sl.H18_8, runA.sl.H18_7, runA.sl.H18_6, runA.sl.H18_5, runA.sl.H18_4, runA.sl.H18_3, runA.sl.H18_2, List.mem_cons, List.not_mem_nil, or_false, exists_eq_or_imp, exists_eq_left, Rect.mem_set_unit, Fin.forall_fin_succ]
  simp [ix3]
  omega

theorem dz_cover_later (c : Dev nD) (t : Fin cfg0.N) (h : ¬ ((grid0.coords t) 0).val = 0) (Z : Blocks Ideal) (r : Fin 128) (l : Fin 1024) :
    ∃ p ∈ (pointB c t h Z).2.2.1, (ix2 r l : S128x1024.Idx) ∈ p.1.set := by
  unfold pointB runB
  dsimp only
  have hr := r.isLt
  have hl := l.isLt
  simp only [List.mem_cons, List.not_mem_nil, or_false, exists_eq_or_imp, exists_eq_left, Rect.mem_set_unit, Fin.forall_fin_two]
  simp [ix2]
  omega

theorem mix_cover_later (c : Dev nD) (t : Fin cfg0.N) (h : ¬ ((grid0.coords t) 0).val = 0) (Z : Blocks Ideal) (q : Fin 8) (a b : Fin 128) :
    ∃ p ∈ (pointB c t h Z).2.2.2.2.2.2.1, (ix3 q a b : S8x128x128.Idx) ∈ p.1.set := by
  unfold pointB runB
  dsimp only
  have hq := q.isLt
  have ha := a.isLt
  have hb := b.isLt
  simp only [List.mem_cons, List.not_mem_nil, or_false, exists_eq_or_imp, exists_eq_left, Rect.mem_set_unit, Fin.forall_fin_succ]
  simp [ix3]
  omega

end Covers

theorem left_dz_first (c : Dev nD) (t : Fin cfg0.N) (h : ((grid0.coords t) 0).val = 0) (Z : Blocks Ideal) (r : Fin 128) (l : Fin 1024) :
    (left c t Z 13 : Vec Ideal S128x1024 .bf16) (ix2 r l) = dz (Z 0) (Z 1) (Z 6) (Z 7) (Z 8) (Z 9) (Z 10) r l := by
  unfold left
  rw [dif_pos h]
  exact (View.read_writes_apply_eq_canon (s := S128x1024) _ _ _ (pointA c t h Z).2.2.1 (dz_cover_first c t h Z r l)).trans (dz_first c t h Z r l)

theorem left_dz_later (c : Dev nD) (t : Fin cfg0.N) (h : ¬ ((grid0.coords t) 0).val = 0) (Z : Blocks Ideal) (r : Fin 128) (l : Fin 1024) :
    (left c t Z 13 : Vec Ideal S128x1024 .bf16) (ix2 r l) = dz (Z 0) (Z 1) (Z 6) (Z 7) (Z 8) (Z 9) (Z 10) r l := by
  unfold left
  rw [dif_neg h]
  exact (View.read_writes_apply_eq_canon (s := S128x1024) _ _ _ (pointB c t h Z).2.2.1 (dz_cover_later c t h Z r l)).trans (dz_later c t h Z r l)

theorem left_scale_first (c : Dev nD) (t : Fin cfg0.N) (h : ((grid0.coords t) 0).val = 0) (Z : Blocks Ideal) (l : Fin 512) :
    (left c t Z 15 : Vec Ideal S1x512 .f32) (ix2 0 l) = scaleTerm (Z 0) (Z 1) (Z 9) l := by
  unfold left
  rw [dif_pos h]
  exact (View.read_writes_apply_eq_canon (s := S1x512) _ _ _ (pointA c t h Z).2.2.2.2.1 (⟨_, List.mem_cons_self, whole_line (by decide) l⟩)).trans (scale_first c t h Z l)

theorem left_scale_later (c : Dev nD) (t : Fin cfg0.N) (h : ¬ ((grid0.coords t) 0).val = 0) (Z : Blocks Ideal) (l : Fin 512) :
    (left c t Z 15 : Vec Ideal S1x512 .f32) (ix2 0 l) = (show EReal from Z 15 (ix2 0 l)) + scaleTerm (Z 0) (Z 1) (Z 9) l := by
  unfold left
  rw [dif_neg h]
  exact (View.read_writes_apply_eq_canon (s := S1x512) _ _ _ (pointB c t h Z).2.2.2.2.1 (⟨_, List.mem_cons_self, whole_line (by decide) l⟩)).trans (scale_later c t h Z l)

theorem left_bias_first (c : Dev nD) (t : Fin cfg0.N) (h : ((grid0.coords t) 0).val = 0) (Z : Blocks Ideal) (l : Fin 512) :
    (left c t Z 16 : Vec Ideal S1x512 .f32) (ix2 0 l) = biasTerm (Z 0) (Z 1) (Z 9) l := by
  unfold left
  rw [dif_pos h]
  exact (View.read_writes_apply_eq_canon (s := S1x512) _ _ _ (pointA c t h Z).2.2.2.2.2.1 (⟨_, List.mem_cons_self, whole_line (by decide) l⟩)).trans (bias_first c t h Z l)

theorem left_bias_later (c : Dev nD) (t : Fin cfg0.N) (h : ¬ ((grid0.coords t) 0).val = 0) (Z : Blocks Ideal) (l : Fin 512) :
    (left c t Z 16 : Vec Ideal S1x512 .f32) (ix2 0 l) = (show EReal from Z 16 (ix2 0 l)) + biasTerm (Z 0) (Z 1) (Z 9) l := by
  unfold left
  rw [dif_neg h]
  exact (View.read_writes_apply_eq_canon (s := S1x512) _ _ _ (pointB c t h Z).2.2.2.2.2.1 (⟨_, List.mem_cons_self, whole_line (by decide) l⟩)).trans (bias_later c t h Z l)

theorem left_mix_first (c : Dev nD) (t : Fin cfg0.N) (h : ((grid0.coords t) 0).val = 0) (Z : Blocks Ideal) (q : Fin 8) (a b : Fin 128) :
    (left c t Z 17 : Vec Ideal S8x128x128 .f32) (ix3 q a b) = mixTerm (Z 0) (Z 1) (Z 6) (Z 7) q a b := by
  unfold left
  rw [dif_pos h]
  exact (View.read_writes_apply_eq_canon (s := S8x128x128) _ _ _ (pointA c t h Z).2.2.2.2.2.2.1 (mix_cover_first c t h Z q a b)).trans (mix_first c t h Z q a b)

theorem left_mix_later (c : Dev nD) (t : Fin cfg0.N) (h : ¬ ((grid0.coords t) 0).val = 0) (Z : Blocks Ideal) (q : Fin 8) (a b : Fin 128) :
    (left c t Z 17 : Vec Ideal S8x128x128 .f32) (ix3 q a b) = (show EReal from Z 17 (ix3 q a b)) + mixTerm (Z 0) (Z 1) (Z 6) (Z 7) q a b := by
  unfold left
  rw [dif_neg h]
  exact (View.read_writes_apply_eq_canon (s := S8x128x128) _ _ _ (pointB c t h Z).2.2.2.2.2.2.1 (mix_cover_later c t h Z q a b)).trans (mix_later c t h Z q a b)

theorem left_shift_first (c : Dev nD) (t : Fin cfg0.N) (h : ((grid0.coords t) 0).val = 0) (Z : Blocks Ideal) (a k : Fin 128) :
    (left c t Z 18 : Vec Ideal S128x128 .f32) (ix2 a k) = shiftTerm (Z 0) (Z 1) a k := by
  unfold left
  rw [dif_pos h]
  exact (View.read_writes_apply_eq_canon (s := S128x128) _ _ _ (pointA c t h Z).2.2.2.2.2.2.2.1 (⟨_, List.mem_cons_self, whole_square (by decide) a k⟩)).trans (shift_first c t h Z a k)

theorem left_shift_later (c : Dev nD) (t : Fin cfg0.N) (h : ¬ ((grid0.coords t) 0).val = 0) (Z : Blocks Ideal) (a k : Fin 128) :
    (left c t Z 18 : Vec Ideal S128x128 .f32) (ix2 a k) = (show EReal from Z 18 (ix2 a k)) + shiftTerm (Z 0) (Z 1) a k := by
  unfold left
  rw [dif_neg h]
  exact (View.read_writes_apply_eq_canon (s := S128x128) _ _ _ (pointB c t h Z).2.2.2.2.2.2.2.1 (⟨_, List.mem_cons_self, whole_square (by decide) a k⟩)).trans (shift_later c t h Z a k)

section Sums

variable (m : (ℓ : Loc nD τ sig) → Buf (Elt Ideal) ℓ)

theorem coord (t : Fin cfg0.N) : ((grid0.coords t) 0).val = t.val := by revert t; decide +kernel

/-- An output window that is never fetched, and written back at the last point alone, holds at each point the sum of the points' terms so far. -/
theorem adds (c : Dev nD) (w : Fin cfg0.W) (ev : ((cfg0.win w).block.Idx → Elt Ideal (cfg0.win w).elt) → EReal) (T : Fin cfg0.N → EReal)
    (hf : ∀ t, (cfg0.win w).fetch t = false) (hfl : ∀ t : Fin cfg0.N, t.val < 63 → (cfg0.win w).flush t = false)
    (ha : ∀ t Y X, (data m c).after w t Y X → ∃ Z, Fed m c t Z ∧ Z w = Y ∧ X = left c t Z w)
    (h0 : ∀ t Z, Fed m c t Z → ((grid0.coords t) 0).val = 0 → ev (left c t Z w) = T t)
    (h1 : ∀ t Z, Fed m c t Z → ¬ ((grid0.coords t) 0).val = 0 → ev (left c t Z w) = ev (Z w) + T t) :
    ∀ (n : Nat) (h : n < cfg0.N) (X), (data m c).Leaves w ⟨n, h⟩ X → ev X = ∑ u ∈ Finset.univ.filter (fun u : Fin cfg0.N => u.val ≤ n), T u := by
  intro n
  induction n with
  | zero =>
    rintro h X ⟨Y, -, hX⟩
    obtain ⟨Z, hZ, -, rfl⟩ := ha _ _ _ hX
    rw [h0 _ Z hZ (coord _)]
    have : Finset.univ.filter (fun u : Fin cfg0.N => u.val ≤ 0) = {⟨0, h⟩} := by
      ext u
      simp only [Finset.mem_filter, Finset.mem_univ, true_and, Finset.mem_singleton, Fin.ext_iff]
      omega
    rw [this, Finset.sum_singleton]
  | succ n ih =>
    rintro h X ⟨Y, hY, hX⟩
    obtain ⟨Z, hZ, rfl, rfl⟩ := ha _ _ _ hX
    have hn : n < cfg0.N := by omega
    have h63 : n < 63 := by
      have : cfg0.N = 64 := rfl
      omega
    have hL := (((data m c).finds_of_pos (hf ⟨n + 1, h⟩) (Nat.succ_ne_zero n) (Z w)).mp hY).resolve_left (by
      rw [hfl _ (by simpa using h63)]
      exact Bool.false_ne_true)
    rw [h1 _ Z hZ (by rw [coord]; exact Nat.succ_ne_zero n), ih hn (Z w) hL]
    have : Finset.univ.filter (fun u : Fin cfg0.N => u.val ≤ n + 1) = insert ⟨n + 1, h⟩ (Finset.univ.filter (fun u : Fin cfg0.N => u.val ≤ n)) := by
      ext u
      simp only [Finset.mem_filter, Finset.mem_univ, true_and, Finset.mem_insert, Fin.ext_iff]
      omega
    rw [this, Finset.sum_insert (by simp), add_comm]

/-- At the last point the sum runs over every point. -/
theorem adds_last (T : Fin cfg0.N → EReal) : (∑ u ∈ Finset.univ.filter (fun u : Fin cfg0.N => u.val ≤ 63), T u) = ∑ u, T u := by
  refine Finset.sum_congr (Finset.filter_true_of_mem fun u _ => ?_) fun _ _ => rfl
  have : u.val < 64 := u.isLt
  omega

theorem total_scale (c : Dev nD) (X : Vec Ideal S1x512 .f32) (hX : (data m c).Leaves 15 ⟨63, by decide⟩ X) (l : Fin 512) :
    X (ix2 0 l) = ∑ u : Fin cfg0.N, scaleTerm (iblk m c 0 u) (iblk m c 1 u) (iblk m c 9 u) l := by
  refine (adds m c 15 (fun X : Vec Ideal S1x512 .f32 => X (ix2 0 l)) (fun u => scaleTerm (iblk m c 0 u) (iblk m c 1 u) (iblk m c 9 u) l) (by decide +kernel) (by decide +kernel)
    (fun _ _ _ h => h) (fun t Z hZ h => ?_) (fun t Z hZ h => ?_) 63 (by decide) X hX).trans (adds_last _)
  · refine (left_scale_first c t h Z l).trans ?_
    obtain ⟨e0, e1, -, -, -, -, e6, e7, -, e9, -⟩ := hZ
    rw [e0, e1, e9]
  · refine (left_scale_later c t h Z l).trans ?_
    obtain ⟨e0, e1, -, -, -, -, e6, e7, -, e9, -⟩ := hZ
    rw [e0, e1, e9]

theorem total_bias (c : Dev nD) (X : Vec Ideal S1x512 .f32) (hX : (data m c).Leaves 16 ⟨63, by decide⟩ X) (l : Fin 512) :
    X (ix2 0 l) = ∑ u : Fin cfg0.N, biasTerm (iblk m c 0 u) (iblk m c 1 u) (iblk m c 9 u) l := by
  refine (adds m c 16 (fun X : Vec Ideal S1x512 .f32 => X (ix2 0 l)) (fun u => biasTerm (iblk m c 0 u) (iblk m c 1 u) (iblk m c 9 u) l) (by decide +kernel) (by decide +kernel)
    (fun _ _ _ h => h) (fun t Z hZ h => ?_) (fun t Z hZ h => ?_) 63 (by decide) X hX).trans (adds_last _)
  · refine (left_bias_first c t h Z l).trans ?_
    obtain ⟨e0, e1, -, -, -, -, e6, e7, -, e9, -⟩ := hZ
    rw [e0, e1, e9]
  · refine (left_bias_later c t h Z l).trans ?_
    obtain ⟨e0, e1, -, -, -, -, e6, e7, -, e9, -⟩ := hZ
    rw [e0, e1, e9]

theorem total_mix (c : Dev nD) (X : Vec Ideal S8x128x128 .f32) (hX : (data m c).Leaves 17 ⟨63, by decide⟩ X) (q : Fin 8) (a b : Fin 128) :
    X (ix3 q a b) = ∑ u : Fin cfg0.N, mixTerm (iblk m c 0 u) (iblk m c 1 u) (iblk m c 6 u) (iblk m c 7 u) q a b := by
  refine (adds m c 17 (fun X : Vec Ideal S8x128x128 .f32 => X (ix3 q a b)) (fun u => mixTerm (iblk m c 0 u) (iblk m c 1 u) (iblk m c 6 u) (iblk m c 7 u) q a b) (by decide +kernel) (by decide +kernel)
    (fun _ _ _ h => h) (fun t Z hZ h => ?_) (fun t Z hZ h => ?_) 63 (by decide) X hX).trans (adds_last _)
  · refine (left_mix_first c t h Z q a b).trans ?_
    obtain ⟨e0, e1, -, -, -, -, e6, e7, -, e9, -⟩ := hZ
    rw [e0, e1, e6, e7]
  · refine (left_mix_later c t h Z q a b).trans ?_
    obtain ⟨e0, e1, -, -, -, -, e6, e7, -, e9, -⟩ := hZ
    rw [e0, e1, e6, e7]

theorem total_shift (c : Dev nD) (X : Vec Ideal S128x128 .f32) (hX : (data m c).Leaves 18 ⟨63, by decide⟩ X) (a k : Fin 128) :
    X (ix2 a k) = ∑ u : Fin cfg0.N, shiftTerm (iblk m c 0 u) (iblk m c 1 u) a k := by
  refine (adds m c 18 (fun X : Vec Ideal S128x128 .f32 => X (ix2 a k)) (fun u => shiftTerm (iblk m c 0 u) (iblk m c 1 u) a k) (by decide +kernel) (by decide +kernel)
    (fun _ _ _ h => h) (fun t Z hZ h => ?_) (fun t Z hZ h => ?_) 63 (by decide) X hX).trans (adds_last _)
  · refine (left_shift_first c t h Z a k).trans ?_
    obtain ⟨e0, e1, -, -, -, -, e6, e7, -, e9, -⟩ := hZ
    rw [e0, e1]
  · refine (left_shift_later c t h Z a k).trans ?_
    obtain ⟨e0, e1, -, -, -, -, e6, e7, -, e9, -⟩ := hZ
    rw [e0, e1]

theorem total_dz (c : Dev nD) (t : Fin cfg0.N) (X : Vec Ideal S128x1024 .bf16) (hX : (data m c).Leaves 13 t X) (r : Fin 128) (l : Fin 1024) :
    X (ix2 r l) = dz (iblk m c 0 t) (iblk m c 1 t) (iblk m c 6 t) (iblk m c 7 t) (iblk m c 8 t) (iblk m c 9 t) (iblk m c 10 t) r l := by
  obtain ⟨Y, -, Z, hZ, -, rfl⟩ := hX
  obtain ⟨e0, e1, -, -, -, -, e6, e7, e8, e9, e10⟩ := hZ
  rw [← e0, ← e1, ← e6, ← e7, ← e8, ← e9, ← e10]
  by_cases h : ((grid0.coords t) 0).val = 0
  · exact left_dz_first c t h Z r l
  · exact left_dz_later c t h Z r l

end Sums

end Cert.AttnKernelIdeal.Gen

end
-- ==== Proof.GmHost.lean ====
/- The blocks the gated MLP reads at a point, from the arguments as launched. -/
module

public import proofs.«01_k».proof.Proof.GmLeft
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Gm

open Cert.AttnKernelIdeal

/-- Row r of block t. -/
def nth (t : Fin 64) (r : Fin 128) : Fin 8192 := ⟨128 * t.val + r.val, by omega⟩

/-- Block t of an array of rows. -/
def rowsOf {n : Nat} {f : FTy} (x : FVec Ideal ⟨2, ![8192, n]⟩ f) (t : Fin 64) : FVec Ideal ⟨2, ![128, n]⟩ f := fun i => x (ix2 (nth t (i 0)) (i 1))

def line (g : FVec Ideal S512 .f32) : FVec Ideal S1x512 .f32 := fun i => g (ix1 (i 1))
def turned (w : FVec Ideal S8x128x128 .f32) : FVec Ideal S8x128x128 .f32 := fun i => w (ix3 (i 0) (i 2) (i 1))
def shifts (b : FVec Ideal S8x128 .f32) : FVec Ideal S128x512 .f32 := fun i => b (ix2 (hd (i 1)) (i 0))

end Cert.Gm

namespace Cert.AttnKernelIdeal.Gen

open Cert.Gm

variable (m : (ℓ : Loc nD τ sig) → Buf (Elt Ideal) ℓ) (c : Dev nD)

theorem index_eq : ∀ t : Fin cfg0.N, win0_0.index t = ![t.val, 0] ∧ win0_1.index t = ![t.val, 0] ∧ win0_6.index t = ![0, 0] ∧ win0_7.index t = ![0, 0]
    ∧ win0_8.index t = ![0, 0, 0] ∧ win0_9.index t = ![0, 0, 0] ∧ win0_10.index t = ![0, 0] ∧ win0_13.index t = ![t.val, 0] :=
  (by decide +kernel : ∀ t : Fin grid0.N, _)

theorem in_g : V m c main_v32 = line (m ((c : Thread nD τ).loc main_arg2)) := by
  simp only [V, hostOps0, hostOps0_1, hostOps0_2, hostOps0_3, hostOps0_4, List.flatten_cons, List.flatten_nil, List.append_nil, List.cons_append, List.nil_append]
  after_results
  funext j
  pointwise
  rfl

theorem in_b : V m c main_v33 = line (m ((c : Thread nD τ).loc main_arg3)) := by
  simp only [V, hostOps0, hostOps0_1, hostOps0_2, hostOps0_3, hostOps0_4, List.flatten_cons, List.flatten_nil, List.append_nil, List.cons_append, List.nil_append]
  after_results
  funext j
  pointwise
  rfl

theorem in_wt : V m c main_v38 = turned (m ((c : Thread nD τ).loc main_arg4)) := by
  simp only [V, hostOps0, hostOps0_1, hostOps0_2, hostOps0_3, hostOps0_4, List.flatten_cons, List.flatten_nil, List.append_nil, List.cons_append, List.nil_append]
  after_results
  funext j
  pointwise
  rfl

theorem in_s : V m c main_v36 = shifts (m ((c : Thread nD τ).loc main_arg5)) := by
  simp only [V, hostOps0, hostOps0_1, hostOps0_2, hostOps0_3, hostOps0_4, List.flatten_cons, List.flatten_nil, List.append_nil, List.cons_append, List.nil_append]
  after_results
  funext j
  pointwise
  rfl

theorem blk_dam (t : Fin cfg0.N) : iblk m c 0 t = rowsOf (f := .bf16) (m ((c : Thread nD τ).loc main_arg6)) t := by
  funext i
  obtain ⟨r, l, rfl⟩ : ∃ (r : Fin 128) (l : Fin 1024), i = ix2 r l := ⟨i 0, i 1, by funext a; fin_cases a <;> rfl⟩
  unfold rowsOf nth
  blk_point [iblk, V, index_eq t]

theorem blk_z (t : Fin cfg0.N) : iblk m c 1 t = rowsOf (f := .bf16) (m ((c : Thread nD τ).loc main_arg0)) t := by
  funext i
  obtain ⟨r, l, rfl⟩ : ∃ (r : Fin 128) (l : Fin 1792), i = ix2 r l := ⟨i 0, i 1, by funext a; fin_cases a <;> rfl⟩
  unfold rowsOf nth
  blk_point [iblk, V, index_eq t]

theorem blk_g (t : Fin cfg0.N) : iblk m c 6 t = line (m ((c : Thread nD τ).loc main_arg2)) := by
  funext i
  obtain ⟨r, l, rfl⟩ : ∃ (r : Fin 1) (l : Fin 512), i = ix2 r l := ⟨i 0, i 1, by funext a; fin_cases a <;> rfl⟩
  blk_simp [iblk, index_eq t]
  refine (congrFun (in_g m c) _).trans ?_
  refine congrArg (line _) ?_
  blk_ext [index_eq t]

theorem blk_b (t : Fin cfg0.N) : iblk m c 7 t = line (m ((c : Thread nD τ).loc main_arg3)) := by
  funext i
  obtain ⟨r, l, rfl⟩ : ∃ (r : Fin 1) (l : Fin 512), i = ix2 r l := ⟨i 0, i 1, by funext a; fin_cases a <;> rfl⟩
  blk_simp [iblk, index_eq t]
  refine (congrFun (in_b m c) _).trans ?_
  refine congrArg (line _) ?_
  blk_ext [index_eq t]

theorem blk_w (t : Fin cfg0.N) : iblk m c 8 t = m ((c : Thread nD τ).loc main_arg4) := by
  funext i
  obtain ⟨h, a, b, rfl⟩ : ∃ (h : Fin 8) (a b : Fin 128), i = ix3 h a b := ⟨i 0, i 1, i 2, by funext a; fin_cases a <;> rfl⟩
  blk_point [iblk, V, index_eq t]

theorem blk_wt (t : Fin cfg0.N) : iblk m c 9 t = turned (m ((c : Thread nD τ).loc main_arg4)) := by
  funext i
  obtain ⟨h, a, b, rfl⟩ : ∃ (h : Fin 8) (a b : Fin 128), i = ix3 h a b := ⟨i 0, i 1, i 2, by funext a; fin_cases a <;> rfl⟩
  blk_simp [iblk, index_eq t]
  refine (congrFun (in_wt m c) _).trans ?_
  refine congrArg (turned _) ?_
  blk_ext [index_eq t]

theorem blk_s (t : Fin cfg0.N) : iblk m c 10 t = shifts (m ((c : Thread nD τ).loc main_arg5)) := by
  funext i
  obtain ⟨r, l, rfl⟩ : ∃ (r : Fin 128) (l : Fin 512), i = ix2 r l := ⟨i 0, i 1, by funext a; fin_cases a <;> rfl⟩
  blk_simp [iblk, index_eq t]
  refine (congrFun (in_s m c) _).trans ?_
  refine congrArg (shifts _) ?_
  blk_ext [index_eq t]

end Cert.AttnKernelIdeal.Gen

end
-- ==== Proof.GmRun.lean ====
/- The gated MLP's five gradients after the call, from the arguments as launched. -/
module

public import proofs.«01_k».proof.Proof.GmHost
public import Idealize.ShloMosaic.Lib.Pipeline.ArrRel

@[expose] public section

set_option maxRecDepth 16384

noncomputable section

open Idealize.ShloMosaic Idealize.ShloMosaic.TcCoe Idealize.SL.Sem

namespace Cert.Gm

open Cert.AttnKernelIdeal Cert.AttnKernelIdeal.Gen

variable (z : FVec Ideal S8192x1792 .bf16) (g b : FVec Ideal S512 .f32) (w : FVec Ideal S8x128x128 .f32) (s : FVec Ideal S8x128 .f32)
  (dam : FVec Ideal S8192x1024 .bf16)

/-- The block a row lies in, and its place there. -/
def blockOf (n : Fin 8192) : Fin 64 := ⟨n.val / 128, by omega⟩
def placeOf (n : Fin 8192) : Fin 128 := ⟨n.val % 128, by omega⟩

theorem blockOf_nth (t : Fin 64) (r : Fin 128) : blockOf (nth t r) = t := Fin.ext (by show (128 * t.val + r.val) / 128 = t.val; omega)
theorem placeOf_nth (t : Fin 64) (r : Fin 128) : placeOf (nth t r) = r := Fin.ext (by show (128 * t.val + r.val) % 128 = r.val; omega)

def dzArr : FVec Ideal S8192x1024 .bf16 := fun i =>
  dz (rowsOf dam (blockOf (i 0))) (rowsOf z (blockOf (i 0))) (line g) (line b) w (turned w) (shifts s) (placeOf (i 0)) (i 1)

def scaleArr : FVec Ideal S1x512 .f32 := fun i => ∑ u : Fin 64, scaleTerm (rowsOf dam u) (rowsOf z u) (turned w) (i 1)

def biasArr : FVec Ideal S1x512 .f32 := fun i => ∑ u : Fin 64, biasTerm (rowsOf dam u) (rowsOf z u) (turned w) (i 1)

def mixArr : FVec Ideal S8x128x128 .f32 := fun i => ∑ u : Fin 64, mixTerm (rowsOf dam u) (rowsOf z u) (line g) (line b) (i 0) (i 1) (i 2)

def shiftArr : FVec Ideal S128x128 .f32 := fun i => ∑ u : Fin 64, shiftTerm (rowsOf dam u) (rowsOf z u) (i 0) (i 1)

theorem dzArr_at (t : Fin 64) (r : Fin 128) (l : Fin 1024) :
    dzArr z g b w s dam (ix2 (nth t r) l) = dz (rowsOf dam t) (rowsOf z t) (line g) (line b) w (turned w) (shifts s) r l := by
  show dz (rowsOf dam (blockOf (nth t r))) (rowsOf z (blockOf (nth t r))) _ _ _ _ _ (placeOf (nth t r)) l = _
  rw [blockOf_nth, placeOf_nth]

end Cert.Gm

namespace Cert.AttnKernelIdeal.Gen

open Cert.Gm

variable (m : (ℓ : Loc nD τ sig) → Buf (Elt Ideal) ℓ) (ρ : Dev nD → PrngReg) (c : Dev nD)

section Arrays

variable (after : (w' : Fin cfg0.W) → Fin cfg0.N → (cfg0.win w').block.Idx → Elt Ideal (cfg0.win w').elt)
  (hl : ∀ (w' : Fin cfg0.W) (u : Fin cfg0.N), (cfg0.win w').flush u = true → (data m c).Leaves w' u (after w' u))
include hl

theorem arr_dz : ((data m c).withAfter after).arrAt 13 cfg0.N = dzArr (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) := by
  refine ((data m c).withAfter after).arrAt_eq_of_covers 13 _ (by decide +kernel) fun t hf y => ?_
  have h := hl 13 t hf
  blk_simp
  rw [Pipeline.RDat.withAfter_after]
  obtain ⟨r, l, rfl⟩ : ∃ (r : Fin 128) (l : Fin 1024), y = ix2 r l := ⟨y 0, y 1, by funext a; fin_cases a <;> rfl⟩
  refine (total_dz m c t _ h r l).trans ?_
  rw [blk_dam, blk_z, blk_g, blk_b, blk_w, blk_wt, blk_s]
  refine (dzArr_at _ _ _ _ _ _ t r l).symm.trans (congrArg (dzArr _ _ _ _ _ _) ?_)
  unfold nth
  blk_ext [index_eq t]

theorem arr_scale : ((data m c).withAfter after).arrAt 15 cfg0.N = scaleArr (m ((c : Thread nD τ).loc main_arg0)) (m ((c : Thread nD τ).loc main_arg4)) (m ((c : Thread nD τ).loc main_arg6)) := by
  refine ((data m c).withAfter after).arrAt_eq_of_after_last 15 ⟨63, by decide⟩ (by decide +kernel) _ fun j => ?_
  have h := hl 15 ⟨63, by decide⟩ (by decide +kernel)
  blk_simp
  rw [Pipeline.RDat.withAfter_after]
  obtain ⟨r, l, rfl⟩ : ∃ (r : Fin 1) (l : Fin 512), j = ix2 r l := ⟨j 0, j 1, by funext a; fin_cases a <;> rfl⟩
  obtain rfl : r = 0 := Subsingleton.elim _ _
  refine (total_scale m c _ h l).trans ?_
  simp only [blk_dam, blk_z, blk_wt]
  rfl

theorem arr_bias : ((data m c).withAfter after).arrAt 16 cfg0.N = biasArr (m ((c : Thread nD τ).loc main_arg0)) (m ((c : Thread nD τ).loc main_arg4)) (m ((c : Thread nD τ).loc main_arg6)) := by
  refine ((data m c).withAfter after).arrAt_eq_of_after_last 16 ⟨63, by decide⟩ (by decide +kernel) _ fun j => ?_
  have h := hl 16 ⟨63, by decide⟩ (by decide +kernel)
  blk_simp
  rw [Pipeline.RDat.withAfter_after]
  obtain ⟨r, l, rfl⟩ : ∃ (r : Fin 1) (l : Fin 512), j = ix2 r l := ⟨j 0, j 1, by funext a; fin_cases a <;> rfl⟩
  obtain rfl : r = 0 := Subsingleton.elim _ _
  refine (total_bias m c _ h l).trans ?_
  simp only [blk_dam, blk_z, blk_wt]
  rfl

theorem arr_mix : ((data m c).withAfter after).arrAt 17 cfg0.N = mixArr (m ((c : Thread nD τ).loc main_arg0)) (m ((c : Thread nD τ).loc main_arg2)) (m ((c : Thread nD τ).loc main_arg3)) (m ((c : Thread nD τ).loc main_arg6)) := by
  refine ((data m c).withAfter after).arrAt_eq_of_after_last 17 ⟨63, by decide⟩ (by decide +kernel) _ fun j => ?_
  have h := hl 17 ⟨63, by decide⟩ (by decide +kernel)
  blk_simp
  rw [Pipeline.RDat.withAfter_after]
  obtain ⟨q, a, b, rfl⟩ : ∃ (q : Fin 8) (a : Fin 128) (b : Fin 128), j = ix3 q a b := ⟨j 0, j 1, j 2, by funext a; fin_cases a <;> rfl⟩
  refine (total_mix m c _ h q a b).trans ?_
  simp only [blk_dam, blk_z, blk_g, blk_b]
  rfl

theorem arr_shift : ((data m c).withAfter after).arrAt 18 cfg0.N = shiftArr (m ((c : Thread nD τ).loc main_arg0)) (m ((c : Thread nD τ).loc main_arg6)) := by
  refine ((data m c).withAfter after).arrAt_eq_of_after_last 18 ⟨63, by decide⟩ (by decide +kernel) _ fun j => ?_
  have h := hl 18 ⟨63, by decide⟩ (by decide +kernel)
  blk_simp
  rw [Pipeline.RDat.withAfter_after]
  obtain ⟨r, l, rfl⟩ : ∃ (r : Fin 128) (l : Fin 128), j = ix2 r l := ⟨j 0, j 1, by funext a; fin_cases a <;> rfl⟩
  refine (total_shift m c _ h r l).trans ?_
  simp only [blk_dam, blk_z]
  rfl

end Arrays

set_option maxHeartbeats 1600000 in
/-- Every execution ends with the five gradients above and the arguments as launched. -/
theorem run_main : θ_run defs (onTc (τ := τ) (main (F := Ideal))) ⟨m, fun _ => 0, ρ⟩ (fun r => (∀ c : Dev nD,
      r.2.mem ((c.tc : Thread nD τ).loc main_v39_2) = dzArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v39_4) = scaleArr (m ((c : Thread nD τ).loc main_arg0)) (m ((c : Thread nD τ).loc main_arg4)) (m ((c : Thread nD τ).loc main_arg6))
      ∧ r.2.mem ((c.tc : Thread nD τ).loc main_v39_5) = biasArr (m ((c : Thread nD τ).loc main_arg0)) (m ((c : Thread nD τ).loc main_arg4)) (m ((c : Thread nD τ).loc main_arg6))
      ∧ r.2.mem ((c.tc : Thread nD τ).loc main_v39_6) = mixArr (m ((c : Thread nD τ).loc main_arg0)) (m ((c : Thread nD τ).loc main_arg2)) (m ((c : Thread nD τ).loc main_arg3)) (m ((c : Thread nD τ).loc main_arg6))
      ∧ r.2.mem ((c.tc : Thread nD τ).loc main_v39_7) = shiftArr (m ((c : Thread nD τ).loc main_arg0)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    obtain ⟨after, hl, e⟩ := Pipeline.RDat.FramePost.exists_exact h.1 c
    have e13 : r.2.mem ((c.tc : Thread nD τ).loc main_v39_2) = _ := (e 13).trans (arr_dz m c after hl)
    have e15 : r.2.mem ((c.tc : Thread nD τ).loc main_v39_4) = _ := (e 15).trans (arr_scale m c after hl)
    have e16 : r.2.mem ((c.tc : Thread nD τ).loc main_v39_5) = _ := (e 16).trans (arr_bias m c after hl)
    have e17 : r.2.mem ((c.tc : Thread nD τ).loc main_v39_6) = _ := (e 17).trans (arr_mix m c after hl)
    have e18 : r.2.mem ((c.tc : Thread nD τ).loc main_v39_7) = _ := (e 18).trans (arr_shift m c after hl)
    have a0 : r.2.mem ((c.tc : Thread nD τ).loc main_arg0) = _ := (h.1.arr_in c 3 rfl).trans ((data_A m c 3).trans (V_main_arg0 m c))
    have a1 : r.2.mem ((c.tc : Thread nD τ).loc main_arg1) = _ := (h.1.arr_in c 4 rfl).trans ((data_A m c 4).trans (V_main_arg1 m c))
    have a2 := ((h.1 c).2 main_arg2 (Pipeline.mem_restRefs_of main_arg2 (by decide) (by decide))).trans (V_main_arg2 m c)
    have a3 := ((h.1 c).2 main_arg3 (Pipeline.mem_restRefs_of main_arg3 (by decide) (by decide))).trans (V_main_arg3 m c)
    have a4 : r.2.mem ((c.tc : Thread nD τ).loc main_arg4) = _ := (h.1.arr_in c 8 rfl).trans ((data_A m c 8).trans (V_main_arg4 m c))
    have a5 := ((h.1 c).2 main_arg5 (Pipeline.mem_restRefs_of main_arg5 (by decide) (by decide))).trans (V_main_arg5 m c)
    have a6 : r.2.mem ((c.tc : Thread nD τ).loc main_arg6) = _ := (h.1.arr_in c 0 rfl).trans ((data_A m c 0).trans (V_main_arg6 m c))
    exact ⟨e13, e15, e16, e17, e18, a0, a1, a2, a3, a4, a5, a6⟩, h.2⟩) (run_call m ρ)

end Cert.AttnKernelIdeal.Gen

end
-- ==== Proof.NormReal.lean ====
/- The quantities of a root-mean-square norm are real at real arguments. -/
module

public import proofs.«01_k».proof.Proof.Norm

@[expose] public section

noncomputable section

open Idealize.ShloMosaic

namespace Cert.Norm

variable {n : ℕ}

theorem rstd_real {w : ℝ} (hw : 0 < w) {x : Fin n → EReal} (hx : Finite x) : ∃ v : ℝ, rstd (w : EReal) x = v := by
  obtain ⟨x, rfl⟩ := hx.lift
  exact ⟨_, rstd_coe hw x⟩

theorem gradTiled_real {w : ℝ} (hw : 0 < w) {x u : Fin n → EReal} (hx : Finite x) (hu : Finite u) (l : Fin n) :
    ∃ v : ℝ, gradTiled (w : EReal) x u l = v := by
  obtain ⟨x, rfl⟩ := hx.lift
  obtain ⟨u, rfl⟩ := hu.lift
  unfold gradTiled
  rw [rstd_coe hw]
  simp only [← EReal.coe_mul, coe_sum, div_coe_coe _ hw.ne', ← EReal.coe_sub]
  exact ⟨_, rfl⟩

end Cert.Norm
-- ==== Proof.GmReal.lean ====
/- Over the reals, the two ways of writing gelu's gradient and the layer norm's gradient agree. -/
module

public import proofs.«01_k».proof.Proof.GmMath
public import proofs.«01_k».proof.Proof.Gate
public import proofs.«01_k».proof.Proof.NormReal

@[expose] public section

noncomputable section

open Idealize.ShloMosaic Idealize.ShloMosaic.TcCoe

namespace Cert.Gm

open Cert.AttnKernelIdeal

theorem const_c1 : (Named.named (F := Ideal) κ "c1" 1027024659#32 : Ideal .f32) = ((8943 / 200000 : ℝ) : EReal) := rfl
theorem const_c3 : (Named.named (F := Ideal) κ "c3" 1040801103#32 : Ideal .f32) = ((26829 / 200000 : ℝ) : EReal) := rfl

/-- The scale inside gelu's tangent. -/
def sc : ℝ := 13386282 / 16777216

theorem word_sc : Ideal.ofBits FTy.f32 1061962282#32 = (sc : EReal) := by
  simp [Ideal.ofBits, Ideal.ieee, sc, -EReal.coe_mul]; norm_num

theorem word_44715 : Ideal.ofBits FTy.f32 1194240768#32 = ((44715 : ℝ) : EReal) := by
  simp [Ideal.ofBits, Ideal.ieee, -EReal.coe_mul]; norm_num

theorem word_million : Ideal.ofBits FTy.f32 1232348160#32 = ((1000000 : ℝ) : EReal) := by
  simp [Ideal.ofBits, Ideal.ieee, -EReal.coe_mul]; norm_num

theorem word_three : Ideal.ofBits FTy.f32 1077936128#32 = ((3 : ℝ) : EReal) := by
  simp [Ideal.ofBits, Ideal.ieee, -EReal.coe_mul]; norm_num

/-- The cubic's coefficient as the reference writes it. -/
def cub : EReal := Ideal.div (Ideal.ofBits FTy.f32 1194240768#32) (Ideal.ofBits FTy.f32 1232348160#32)

theorem cub_eq : cub = ((8943 / 200000 : ℝ) : EReal) := by
  unfold cub
  rw [word_44715, word_million, Norm.div_coe_coe _ (by norm_num)]
  congr 1; norm_num

/-- The tangent and gelu as the reference writes them. -/
theorem inner_ref (x : EReal) : Ideal.tanh (Ideal.ofBits FTy.f32 1061962282#32 * (x + cub * (x * x * x))) = inner x := by
  unfold inner
  rw [const_c1, cub_eq]
  simp only [mul_assoc]

theorem gelu_ref (x : EReal) : x * (Ideal.ofBits FTy.f32 1056964608#32 * (1 + inner x)) = gelu x := by
  unfold gelu
  rw [mul_left_comm, mul_assoc]

theorem inner_real {x : EReal} (hx : ∃ a : ℝ, x = a) : ∃ a : ℝ, inner x = a := by
  obtain ⟨x, rfl⟩ := hx
  unfold inner
  rw [const_c1, word_sc]
  simp only [← EReal.coe_mul, ← EReal.coe_add, Ideal.tanh_coe]
  exact ⟨_, rfl⟩

theorem one_real : ∃ a : ℝ, (1 : EReal) = a := ⟨1, rfl⟩

theorem gelu_real {x : EReal} (hx : ∃ a : ℝ, x = a) : ∃ a : ℝ, gelu x = a :=
  Norm.real_mul (Norm.real_mul ⟨_, Gate.word_half⟩ hx) (Norm.real_add one_real (inner_real hx))

/-- Gelu's gradient as the reference writes it. -/
theorem gelu_grad {x d : EReal} (hx : ∃ a : ℝ, x = a) (hd : ∃ a : ℝ, d = a) :
    d * (Ideal.ofBits FTy.f32 1056964608#32 * (1 + inner x))
        + Ideal.ofBits FTy.f32 1061962282#32 * (Ideal.ofBits FTy.f32 1056964608#32 * (x * d) * ((1 + inner x) * (1 - inner x)))
        + cub * (Ideal.ofBits FTy.f32 1061962282#32 * (Ideal.ofBits FTy.f32 1056964608#32 * (x * d) * ((1 + inner x) * (1 - inner x))))
          * (Ideal.ofBits FTy.f32 1077936128#32 * (x * x))
      = d * dgelu x := by
  obtain ⟨t, ht⟩ := inner_real hx
  obtain ⟨x, rfl⟩ := hx
  obtain ⟨d, rfl⟩ := hd
  unfold dgelu
  rw [ht, const_c3, cub_eq, Gate.word_half, word_sc, word_three]
  have h1 : (1 : EReal) = ((1 : ℝ) : EReal) := rfl
  rw [h1]
  simp only [← EReal.coe_mul, ← EReal.coe_add, ← EReal.coe_sub]
  congr 1
  ring

theorem rs_eq (v : Fin 512 → EReal) : rs v = Norm.rstd ((512 : ℝ) : EReal) (centred v) := by
  unfold rs mean Norm.rstd
  rw [Norm.word_512, Norm.word_eps]

theorem mean_real {v : Fin 512 → EReal} (hv : Norm.Finite v) : ∃ a : ℝ, mean v = a := by
  obtain ⟨v, rfl⟩ := hv.lift
  unfold mean
  rw [Norm.word_512, Norm.coe_sum, Norm.div_coe_coe _ (by norm_num)]
  exact ⟨_, rfl⟩

theorem centred_real {v : Fin 512 → EReal} (hv : Norm.Finite v) : Norm.Finite (centred v) := fun l => by
  obtain ⟨a, ha⟩ := mean_real hv
  obtain ⟨b, hb⟩ := hv l
  unfold centred
  rw [ha, hb, ← EReal.coe_sub]
  exact ⟨_, rfl⟩

theorem centred_sum {v : Fin 512 → ℝ} : ∃ x : Fin 512 → ℝ, centred (fun l => (v l : EReal)) = (fun l => (x l : EReal)) ∧ ∑ l, x l = 0 := by
  refine ⟨fun l => v l - (∑ j, v j) / 512, ?_, ?_⟩
  · funext l
    unfold centred mean
    rw [Norm.word_512, Norm.coe_sum, Norm.div_coe_coe _ (by norm_num), ← EReal.coe_sub]
  · rw [Finset.sum_sub_distrib]
    simp
    ring

/-- The layer norm's gradient is the root-mean-square one's, less its mean. -/
theorem back_eq {v u : Fin 512 → EReal} (hv : Norm.Finite v) (hu : Norm.Finite u) (l : Fin 512) :
    Norm.gradTiled ((512 : ℝ) : EReal) (centred v) u l + Ideal.div (∑ k, -Norm.gradTiled ((512 : ℝ) : EReal) (centred v) u k) ((512 : ℝ) : EReal)
      = back v u l := by
  unfold back hat
  rw [rs_eq]
  obtain ⟨v, rfl⟩ := hv.lift
  obtain ⟨u, rfl⟩ := hu.lift
  obtain ⟨x, hx, h0⟩ := centred_sum (v := v)
  rw [hx]
  unfold Norm.gradTiled mean
  rw [Norm.rstd_coe (by norm_num : (0 : ℝ) < 512), Norm.word_512]
  generalize (Real.sqrt (Norm.meanSq 512 x))⁻¹ = r
  simp only [← EReal.coe_mul, Norm.coe_sum, Norm.div_coe_coe _ (by norm_num : (512 : ℝ) ≠ 0), ← EReal.coe_add, ← EReal.coe_sub, ← EReal.coe_neg]
  congr 1
  have e : ∑ k, -(r * (u k - x k * r * ((∑ j, u j * (x j * r)) / 512))) = -(r * ∑ k, u k) := by
    generalize (∑ j, u j * (x j * r)) / 512 = a
    have : ∀ k, -(r * (u k - x k * r * a)) = -r * u k + r * r * a * x k := fun k => by ring
    simp only [this]
    rw [Finset.sum_add_distrib, ← Finset.mul_sum, ← Finset.mul_sum, h0]
    ring
  rw [e]
  ring

end Cert.Gm

end
-- ==== Proof.GmReference.lean ====
/- The reference's gated MLP, entry by entry. -/
module

public import proofs.«01_k».proof.Proof.GmRun
public import proofs.«01_k».proof.Proof.GmReal
public import proofs.«01_k».proof.Proof.Gen.AttnReferenceIdeal.Read
public import Idealize.ShloMosaic.Lib.Pointwise

@[expose] public section

set_option maxRecDepth 16384

noncomputable section

open Idealize.ShloMosaic Idealize.ShloMosaic.TcCoe Idealize.SL.Sem

namespace Cert.AttnReferenceIdeal.Value

open Cert.AttnReferenceIdeal Cert.AttnReferenceIdeal.Gen Cert.AttnReferenceIdeal.Read Cert.Gm

variable (x0 : FVec Ideal S8192x1792 .bf16) (x2 x3 : FVec Ideal S512 .f32) (x4 : FVec Ideal S8x128x128 .f32) (x5 : FVec Ideal S8x128 .f32)
  (x6 : FVec Ideal S8192x1024 .bf16) (a : Fin 1) (n : Fin 8192) (l : Fin 512)

theorem zu_at : val_main_v3 (F := Ideal) x0 (ix3 a n l) = x0 (ix2 n (zu l)) := by
  pointwise [val_main_v3, val_main_v2, val_main_v1, val_main_v0]
  unfold zu
  blk_ext

theorem zv_at : val_main_v4 (F := Ideal) x0 (ix3 a n l) = x0 (ix2 n (zv l)) := by
  pointwise [val_main_v4, val_main_v2, val_main_v1, val_main_v0]
  unfold zv
  blk_ext

theorem dg_at : val_main_v7 (F := Ideal) x6 (ix3 a n l) = x6 (ix2 n (dg l)) := by
  pointwise [val_main_v7, val_main_v6, val_main_v5]
  unfold dg
  blk_ext

theorem tu_at : val_main_v19 (F := Ideal) x0 (ix3 a n l) = inner (x0 (ix2 n (zu l))) := by
  pointwise [val_main_v19, val_main_v18, val_main_v17, val_main_cst_2, val_main_v16, val_main_v15, val_main_v14, val_main_v8, val_main_cst, val_main_cst_0, val_main_v10, val_main_v9]
  simp only [zu_at]
  exact inner_ref _

theorem tv_at : val_main_v41 (F := Ideal) x0 (ix3 a n l) = inner (x0 (ix2 n (zv l))) := by
  pointwise [val_main_v41, val_main_v40, val_main_v39, val_main_cst_10, val_main_v38, val_main_v37, val_main_v36, val_main_v30, val_main_cst_7, val_main_cst_8, val_main_v32, val_main_v31]
  simp only [zv_at]
  exact inner_ref _

theorem u_at : val_main_v29 (F := Ideal) x0 (ix3 a n l) = gelu (x0 (ix2 n (zu l))) := by
  pointwise [val_main_v29, val_main_v28, val_main_v27, val_main_cst_6, val_main_v26, val_main_v25, val_main_cst_5]
  simp only [zu_at, tu_at]
  exact gelu_ref _

theorem v_at : val_main_v51 (F := Ideal) x0 (ix3 a n l) = gelu (x0 (ix2 n (zv l))) := by
  pointwise [val_main_v51, val_main_v50, val_main_v49, val_main_cst_14, val_main_v48, val_main_v47, val_main_cst_13]
  simp only [zv_at, tv_at]
  exact gelu_ref _

/-- The row the layer norm takes. -/
def vr (l : Fin 512) : EReal := gelu (x0 (ix2 n (zv l)))

theorem xc_at : val_main_v57 (F := Ideal) x0 (ix3 a n l) = centred (vr x0 n) l := by
  pointwise [val_main_v57, val_main_v56, val_main_v55, val_main_v54, val_main_cst_16, val_main_v53, val_main_v52, val_main_cst_15]
  simp only [v_at]
  rfl

theorem rs_at : val_main_v65 (F := Ideal) x0 (ix3 a n (0 : Fin 1)) = rs (vr x0 n) := by
  pointwise [val_main_v65, val_main_v64, val_main_v63, val_main_cst_19, val_main_v62, val_main_v61, val_main_cst_18, val_main_v60, val_main_v59, val_main_cst_17, val_main_v58]
  simp only [xc_at]
  rfl

theorem hat_at : val_main_v70 (F := Ideal) x0 (ix3 a n l) = hat (vr x0 n) l := by
  pointwise [val_main_v70, val_main_v69]
  rw [xc_at, rs_at]
  rfl

theorem vn_at : val_main_v76 (F := Ideal) x0 x2 x3 (ix3 a n l) = hat (vr x0 n) l * x2 (ix1 l) + x3 (ix1 l) := by
  pointwise [val_main_v76, val_main_v75, val_main_v74, val_main_v73, val_main_v72, val_main_v71]
  rw [hat_at]

end Cert.AttnReferenceIdeal.Value

end
-- ==== Proof.GmMixing.lean ====
/- The reference's token mixing and its gradient, entry by entry. -/
module

public import proofs.«01_k».proof.Proof.GmReference

@[expose] public section

set_option maxRecDepth 16384

noncomputable section

open Idealize.ShloMosaic Idealize.ShloMosaic.TcCoe Idealize.SL.Sem

namespace Cert.AttnReferenceIdeal.Value

open Cert.AttnReferenceIdeal Cert.AttnReferenceIdeal.Gen Cert.AttnReferenceIdeal.Read Cert.Gm
open Cert.AttnKernelIdeal.Gen (lane vn dmx dvn mixed dzLow dzHigh dz scaleTerm biasTerm mixTerm shiftTerm vrow)

variable (x0 : FVec Ideal S8192x1792 .bf16) (x2 x3 : FVec Ideal S512 .f32) (x4 : FVec Ideal S8x128x128 .f32) (x5 : FVec Ideal S8x128 .f32)
  (x6 : FVec Ideal S8192x1024 .bf16) (a : Fin 1) (t : Fin 64) (r : Fin 128) (l : Fin 512) (h : Fin 8) (j : Fin 64)

theorem low_sel (p q : Fin 128) (x : EReal) : Scalar.select (val_main_v82_1 (F := Ideal) (ix3 h p q)) x 0 = if q.val ≤ p.val then x else 0 := by
  pointwise [val_main_v82_1, val_main_v80, val_main_v79, val_main_v78, val_main_c, val_main_call0_v4, val_main_call0_v3, val_main_call0_v2, val_main_call0_v1, val_main_call0_v0, val_main_call0_c, val_main_call0_v5, val_main_call0_c_0]
  rw [show IntOp.addi (BitVec.ofNat 32 p.val) 0#32 = BitVec.ofNat 32 p.val from BitVec.add_zero _]
  by_cases h : q.val ≤ p.val
  · simp [Scalar.select, IntOp.cmpi, BitVec.sle, word_toInt, h]
  · simp [Scalar.select, IntOp.cmpi, BitVec.sle, word_toInt, h]

theorem low_at (p q : Fin 128) : val_main_v82_0 (F := Ideal) x4 (ix3 h p q) = if q.val ≤ p.val then x4 (ix3 h p q) else 0 := by
  pointwise [val_main_v82_0, val_main_v81, val_main_cst_21]
  exact low_sel h p q _

theorem split_at : val_main_v77 (F := Ideal) x0 x2 x3 (ix5 a t r h j) = vn (rowsOf x0 t) (line x2) (line x3) r (lane h j) := by
  pointwise [val_main_v77]
  refine Eq.trans ?_ (vn_at x0 x2 x3 a (nth t r) (lane h j))
  refine congrArg (val_main_v76 (F := Ideal) x0 x2 x3) ?_
  unfold nth lane
  blk_ext

/-- The block's gradient of the mixed rows, in the reference's five axes. -/
theorem dm_at : val_main_v93 (F := Ideal) x0 x6 (ix5 a t r h j) = dmx (rowsOf x6 t) (rowsOf x0 t) r (lane h j) := by
  pointwise [val_main_v93]
  refine Eq.trans (b := val_main_v91 (F := Ideal) x0 x6 (ix3 a (nth t r) (lane h j))) (congrArg (val_main_v91 (F := Ideal) x0 x6) ?_) ?_
  · unfold nth lane
    blk_ext
  · pointwise [val_main_v91]
    rw [u_at, dg_at, mul_comm]
    rfl

theorem dot_at (i : Fin 128) : val_main_v83 (F := Ideal) x0 x2 x3 x4 (ix5 h a t j i)
    = ∑ x : Fin 128, if x.val ≤ i.val then x4 (ix3 h i x) * vn (rowsOf x0 t) (line x2) (line x3) x (lane h j) else 0 := by
  pointwise [val_main_v83]
  refine Finset.sum_congr rfl fun x _ => ?_
  rw [split_at, low_at, mul_comm, ite_mul, zero_mul]

theorem mixed_at : val_main_v89 (F := Ideal) x0 x2 x3 x4 x5 (ix3 a (nth t r) l)
    = mixed (rowsOf x0 t) (line x2) (line x3) x4 (shifts x5) r l := by
  pointwise [val_main_v89]
  refine Eq.trans (b := val_main_v88 (F := Ideal) x0 x2 x3 x4 x5 (ix5 a t r (hd l) ⟨l.val % 64, by omega⟩)) (congrArg (val_main_v88 (F := Ideal) x0 x2 x3 x4 x5) ?_) ?_
  · unfold nth hd
    blk_ext
  · pointwise [val_main_v88, val_main_v84, val_main_v87, val_main_v86, val_main_v85]
    rw [dot_at]
    have e : lane (hd l) ⟨l.val % 64, by omega⟩ = l := Fin.ext (by show 64 * (l.val / 64) + l.val % 64 = l.val; omega)
    rw [e]
    rfl

theorem dvn_at : val_main_v103 (F := Ideal) x0 x4 x6 (ix3 a (nth t r) l)
    = dvn (rowsOf x6 t) (rowsOf x0 t) (turned x4) r l := by
  pointwise [val_main_v103]
  refine Eq.trans (b := val_main_v101 (F := Ideal) x0 x4 x6 (ix5 a t r (hd l) ⟨l.val % 64, by omega⟩)) (congrArg (val_main_v101 (F := Ideal) x0 x4 x6) ?_) ?_
  · unfold nth hd
    blk_ext
  · pointwise [val_main_v101, val_main_v100, val_main_v98]
    refine Finset.sum_congr rfl fun x _ => ?_
    have e : lane (hd l) ⟨l.val % 64, by omega⟩ = l := Fin.ext (by show 64 * (l.val / 64) + l.val % 64 = l.val; omega)
    rw [dm_at, low_at, e, mul_ite, mul_zero, mul_comm]
    rfl

end Cert.AttnReferenceIdeal.Value

end
-- ==== Proof.GmFold.lean ====
/- Sums over several axes at once, read as sums over the coordinates that are summed. -/
module

public import proofs.«01_k».proof.Proof.GmMixing

@[expose] public section

set_option maxRecDepth 16384

noncomputable section

open Idealize.ShloMosaic Idealize.ShloMosaic.TcCoe Idealize.SL.Sem

namespace Cert.AttnReferenceIdeal.Value

open Cert.AttnReferenceIdeal Cert.AttnReferenceIdeal.Gen Cert.AttnReferenceIdeal.Read Cert.Gm
open Cert.AttnKernelIdeal.Gen (lane vn dmx dvn mixed dzLow dzHigh dz scaleTerm biasTerm mixTerm shiftTerm vrow)

/-- A reduction is the sum over the entries that reduce to the index, listed once each. -/
theorem fold_fiber {s u : Shape} {axes : List (Fin s.rank)} (h : s.ReducesTo axes u) (x : s.Idx → EReal) (init : EReal) (j : u.Idx)
    {ι : Type} [Fintype ι] (e : ι → s.Idx) (he : Function.Injective e) (hj : ∀ i, h.drop i = j ↔ ∃ k, e k = i) :
    Ideal.hostReduceAdd h x init j = init + ∑ k, x (e k) := by
  unfold Ideal.hostReduceAdd
  congr 1
  refine Eq.trans (Finset.sum_congr ?_ fun _ _ => rfl) (Finset.sum_map Finset.univ ⟨e, he⟩ x)
  ext i
  simp [hj]

variable (x0 : FVec Ideal S8192x1792 .bf16) (x2 x3 : FVec Ideal S512 .f32) (x4 : FVec Ideal S8x128x128 .f32) (x5 : FVec Ideal S8x128 .f32)
  (x6 : FVec Ideal S8192x1024 .bf16) (a : Fin 1) (t : Fin 64) (r : Fin 128) (l : Fin 512) (h : Fin 8) (j : Fin 64)

theorem fold_heads (x : S1x64x128x8x64.Idx → EReal) (init : EReal) :
    Ideal.hostReduceAdd reducesTo_S1x64x128x8x64_S1x128x8_d1_4 x init (ix3 a r h) = init + ∑ t : Fin 64, ∑ j : Fin 64, x (ix5 a t r h j) := by
  rw [fold_fiber _ x init _ (fun p : Fin 64 × Fin 64 => ix5 a p.1 r h p.2) (fun p q e => Prod.ext (congrFun e 1) (congrFun e 4)) fun i => ?_,
    Fintype.sum_prod_type]
  constructor
  · intro e
    refine ⟨(i 1, i 4), ?_⟩
    have e0 := congrFun e 0
    have e1 := congrFun e 1
    have e2 := congrFun e 2
    funext b
    fin_cases b
    · exact e0.symm
    · rfl
    · exact e1.symm
    · exact e2.symm
    · rfl
  · rintro ⟨p, rfl⟩
    funext b
    fin_cases b <;> rfl

theorem fold_units (x : S1x1x128x8x1.Idx → EReal) (init : EReal) :
    Ideal.hostReduceAdd reducesTo_S1x1x128x8x1_S128x8_d0_1_4 x init (ix2 r h) = init + x (ix5 0 0 r h 0) := by
  rw [fold_fiber _ x init _ (fun _ : Unit => ix5 0 0 r h 0) (fun _ _ _ => rfl) fun i => ?_, Fintype.sum_unique]
  constructor
  · intro e
    refine ⟨(), ?_⟩
    have e0 := congrFun e 0
    have e1 := congrFun e 1
    funext b
    fin_cases b
    · exact Subsingleton.elim (α := Fin 1) _ _
    · exact Subsingleton.elim (α := Fin 1) _ _
    · exact e0.symm
    · exact e1.symm
    · exact Subsingleton.elim (α := Fin 1) _ _
  · rintro ⟨p, rfl⟩
    funext b
    fin_cases b <;> rfl

theorem fold_line (x : S1x1x512.Idx → EReal) (init : EReal) :
    Ideal.hostReduceAdd reducesTo_S1x1x512_S512_d0_1 x init (ix1 l) = init + x (ix3 0 0 l) := by
  rw [fold_fiber _ x init _ (fun _ : Unit => ix3 0 0 l) (fun _ _ _ => rfl) fun i => ?_, Fintype.sum_unique]
  constructor
  · intro e
    refine ⟨(), ?_⟩
    have e0 := congrFun e 0
    funext b
    fin_cases b
    · exact Subsingleton.elim (α := Fin 1) _ _
    · exact Subsingleton.elim (α := Fin 1) _ _
    · exact e0.symm
  · rintro ⟨p, rfl⟩
    funext b
    fin_cases b; rfl

theorem fold_rows (x : S1x8192x1.Idx → EReal) (init : EReal) (n : Fin 8192) :
    Ideal.hostReduceAdd reducesTo_S1x8192x1_S8192_d0_2 x init (ix1 n) = init + x (ix3 0 n 0) := by
  rw [fold_fiber _ x init _ (fun _ : Unit => ix3 0 n 0) (fun _ _ _ => rfl) fun i => ?_, Fintype.sum_unique]
  constructor
  · intro e
    refine ⟨(), ?_⟩
    have e0 := congrFun e 0
    funext b
    fin_cases b
    · exact Subsingleton.elim (α := Fin 1) _ _
    · exact e0.symm
    · exact Subsingleton.elim (α := Fin 1) _ _
  · rintro ⟨p, rfl⟩
    funext b
    fin_cases b; rfl

/-- The three contracted axes of the mixing weights' gradient. -/
def spot (p : Fin 64 × Fin 64) : dot_S8x1x64x64x128_S1x64x128x8x64_S8x128x128_123_014_4_2_0_3.contr.Idx := fun b => match b with
  | ⟨0, _⟩ => ⟨0, Nat.one_pos⟩
  | ⟨1, _⟩ => ⟨p.1.val, p.1.isLt⟩
  | ⟨2, _⟩ => ⟨p.2.val, p.2.isLt⟩

theorem dot_three (x : S8x1x64x64x128.Idx → EReal) (y : S1x64x128x8x64.Idx → EReal) (p q : Fin 128) :
    Ideal.matmul dot_S8x1x64x64x128_S1x64x128x8x64_S8x128x128_123_014_4_2_0_3 x y (fun _ => 0) (ix3 h p q)
      = ∑ t : Fin 64, ∑ j : Fin 64, x (ix5 h 0 t j p) * y (ix5 0 t q h j) := by
  unfold Ideal.matmul
  rw [zero_add, ← Fintype.sum_prod_type (fun k : Fin 64 × Fin 64 => x (ix5 h 0 k.1 k.2 p) * y (ix5 0 k.1 q h k.2))]
  refine (Function.Bijective.sum_comp (e := spot) ⟨fun k k' e => ?_, fun k => ?_⟩ _).symm.trans (Finset.sum_congr rfl fun k _ => ?_)
  · exact Prod.ext (Fin.ext (congrArg Fin.val (congrFun e ⟨1, by decide⟩))) (Fin.ext (congrArg Fin.val (congrFun e ⟨2, by decide⟩)))
  · refine ⟨(k ⟨1, by decide⟩, k ⟨2, by decide⟩), ?_⟩
    funext b
    match b with
    | ⟨0, _⟩ => exact Subsingleton.elim (α := Fin 1) _ _
    | ⟨1, _⟩ => rfl
    | ⟨2, _⟩ => rfl
  · refine congrArg₂ (· * ·) (congrArg x (funext fun b => Fin.ext ?_)) (congrArg y (funext fun b => Fin.ext ?_))
    · match b with
      | ⟨0, _⟩ => rfl
      | ⟨1, _⟩ => rfl
      | ⟨2, _⟩ => rfl
      | ⟨3, _⟩ => rfl
      | ⟨4, _⟩ => rfl
    · match b with
      | ⟨0, _⟩ => rfl
      | ⟨1, _⟩ => rfl
      | ⟨2, _⟩ => rfl
      | ⟨3, _⟩ => rfl
      | ⟨4, _⟩ => rfl

end Cert.AttnReferenceIdeal.Value

end
-- ==== Proof.GmEqual.lean ====
/- The gated MLP's five gradients: the reference's entries are the kernel's. -/
module

public import proofs.«01_k».proof.Proof.GmFold

@[expose] public section

set_option maxRecDepth 16384

noncomputable section

open Idealize.ShloMosaic Idealize.ShloMosaic.TcCoe Idealize.SL.Sem

namespace Cert.AttnReferenceIdeal.Value

open Cert.AttnReferenceIdeal Cert.AttnReferenceIdeal.Gen Cert.AttnReferenceIdeal.Read Cert.Gm
open Cert.AttnKernelIdeal.Gen (lane vn dmx dvn mixed dzLow dzHigh dz scaleTerm biasTerm mixTerm shiftTerm vrow)

variable (x0 : FVec Ideal S8192x1792 .bf16) (x2 x3 : FVec Ideal S512 .f32) (x4 : FVec Ideal S8x128x128 .f32) (x5 : FVec Ideal S8x128 .f32)
  (x6 : FVec Ideal S8192x1024 .bf16) (a : Fin 1) (t : Fin 64) (r : Fin 128) (l : Fin 512) (h : Fin 8) (j : Fin 64)

theorem nth_split (n : Fin 8192) : n = nth (blockOf n) (placeOf n) := Fin.ext (by show n.val = 128 * (n.val / 128) + n.val % 128; omega)

/-- A sum over all rows, block by block. -/
theorem sum_blocks (f : Fin 8192 → EReal) : ∑ n, f n = ∑ t : Fin 64, ∑ r : Fin 128, f (nth t r) := by
  rw [← Fintype.sum_prod_type (fun k : Fin 64 × Fin 128 => f (nth k.1 k.2))]
  refine (Function.Bijective.sum_comp (e := fun k : Fin 64 × Fin 128 => nth k.1 k.2) ⟨fun k k' e => ?_, fun n => ⟨(blockOf n, placeOf n), (nth_split n).symm⟩⟩ _).symm
  exact Prod.ext ((blockOf_nth k.1 k.2).symm.trans ((congrArg blockOf e).trans (blockOf_nth _ _)))
    ((placeOf_nth k.1 k.2).symm.trans ((congrArg placeOf e).trans (placeOf_nth _ _)))

/-! ## The sums: no finiteness is needed -/

theorem bias_eq : biasArr x0 x4 x6 = val_main_v165 (F := Ideal) x0 x4 x6 := by
  funext i
  obtain ⟨z, l, rfl⟩ : ∃ (z : Fin 1) (l : Fin 512), i = ix2 z l := ⟨i 0, i 1, by funext a; fin_cases a <;> rfl⟩
  pointwise [val_main_v165, val_main_v106]
  rw [fold_line]
  pointwise [val_main_cst_25, val_main_v105, val_main_v104, val_main_cst_24]
  rw [sum_blocks]
  simp only [dvn_at]
  rfl

theorem scale_eq : scaleArr x0 x4 x6 = val_main_v164 (F := Ideal) x0 x4 x6 := by
  funext i
  obtain ⟨z, l, rfl⟩ : ∃ (z : Fin 1) (l : Fin 512), i = ix2 z l := ⟨i 0, i 1, by funext a; fin_cases a <;> rfl⟩
  pointwise [val_main_v164, val_main_v112]
  rw [fold_line]
  pointwise [val_main_cst_27, val_main_v109, val_main_v108, val_main_cst_26, val_main_v107]
  rw [sum_blocks]
  simp only [dvn_at, hat_at, mul_comm]
  rfl

theorem mix_eq : mixArr x0 x2 x3 x6 = val_main_v102 (F := Ideal) x0 x2 x3 x6 := by
  funext i
  obtain ⟨h, p, q, rfl⟩ : ∃ (h : Fin 8) (p q : Fin 128), i = ix3 h p q := ⟨i 0, i 1, i 2, by funext a; fin_cases a <;> rfl⟩
  pointwise [val_main_v102, val_main_call2_v0, val_main_call2_cst, val_main_v99]
  rw [low_sel, dot_three]
  pointwise [val_main_v98]
  simp only [dm_at, split_at]
  show ∑ u : Fin 64, mixTerm (rowsOf x6 u) (rowsOf x0 u) (line x2) (line x3) h p q = _
  unfold mixTerm
  by_cases hq : q.val ≤ p.val
  · simp only [if_pos hq]
  · simp only [if_neg hq, Finset.sum_const_zero]

theorem shift_eq : shiftArr x0 x6 = val_main_v167 (F := Ideal) x0 x6 := by
  funext i
  obtain ⟨p, q, rfl⟩ : ∃ (p q : Fin 128), i = ix2 p q := ⟨i 0, i 1, by funext a; fin_cases a <;> rfl⟩
  pointwise [val_main_v167]
  show ∑ u : Fin 64, shiftTerm (rowsOf x6 u) (rowsOf x0 u) p q = _
  unfold shiftTerm
  by_cases hq : q.val < 8
  · simp only [dif_pos hq]
    pointwise [val_main_v166, val_main_v97, val_main_v96]
    rw [fold_units]
    pointwise [val_main_cst_23, val_main_v95, val_main_v94]
    rw [fold_heads]
    pointwise [val_main_cst_22]
    simp only [dm_at]
  · simp only [dif_neg hq, Finset.sum_const_zero]
    pointwise [val_main_call3_v0, val_main_c_38]
    show (0 : EReal) = (((0#32 : BitVec 32).toInt : ℝ) : EReal)
    simp

/-! ## The columns' gradient, over the reals -/

section Finite
variable (h0 : Norm.Finite x0) (h2 : Norm.Finite x2) (h3 : Norm.Finite x3) (h4 : Norm.Finite x4) (h5 : Norm.Finite x5) (h6 : Norm.Finite x6)

include h0 in
theorem vr_real (n : Fin 8192) : Norm.Finite (vr x0 n) := fun l => gelu_real (h0 _)

include h0 in
theorem rs_real (n : Fin 8192) : ∃ v : ℝ, rs (vr x0 n) = v := by
  rw [rs_eq]
  exact Norm.rstd_real (by norm_num) (centred_real (vr_real x0 h0 n))

include h0 h2 h3 in
theorem vn_real : ∃ v : ℝ, vn (rowsOf x0 t) (line x2) (line x3) r l = v :=
  Norm.real_add (Norm.real_mul (Norm.real_mul (centred_real (vr_real x0 h0 (nth t r)) l) (rs_real x0 h0 (nth t r))) (h2 _)) (h3 _)

theorem real_if {p : Prop} [Decidable p] {x : EReal} (hx : ∃ v : ℝ, x = v) : ∃ v : ℝ, (if p then x else 0) = v := by
  split
  · exact hx
  · exact ⟨0, rfl⟩

include h0 h2 h3 h4 h5 in
theorem mixed_real : ∃ v : ℝ, mixed (rowsOf x0 t) (line x2) (line x3) x4 (shifts x5) r l = v :=
  Norm.real_add (Norm.real_sum fun x => real_if (Norm.real_mul (h4 _) (vn_real x0 x2 x3 t x l h0 h2 h3))) (h5 _)

include h0 h4 h6 in
theorem dvn_real : ∃ v : ℝ, dvn (rowsOf x6 t) (rowsOf x0 t) (turned x4) r l = v :=
  Norm.real_sum fun x => real_if (Norm.real_mul (h4 _) (Norm.real_mul (h6 _) (gelu_real (h0 _))))

include h0 h2 h3 h4 h5 h6 in
theorem low_eq : val_main_v160 (F := Ideal) x0 x2 x3 x4 x5 x6 (ix3 a (nth t r) l)
    = dzLow (rowsOf x6 t) (rowsOf x0 t) (line x2) (line x3) x4 (shifts x5) r l := by
  pointwise [val_main_v160, val_main_v156, val_main_v150, val_main_v28, val_main_v27, val_main_cst_6, val_main_v26, val_main_v25, val_main_cst_5,
    val_main_v155, val_main_v154, val_main_cst_37, val_main_v153, val_main_v152, val_main_v151, val_main_cst_36, val_main_v149, val_main_v24, val_main_v21, val_main_v20, val_main_cst_3,
    val_main_v23, val_main_v22, val_main_cst_4, val_main_v159, val_main_v158, val_main_v157, val_main_v8, val_main_cst, val_main_cst_0, val_main_v13, val_main_v12, val_main_cst_1, val_main_v11, val_main_v92]
  simp only [tu_at, zu_at, dg_at, mixed_at]
  exact gelu_grad (h0 _) (Norm.real_mul (h6 _) (mixed_real x0 x2 x3 x4 x5 t r l h0 h2 h3 h4 h5))

include h0 h2 h4 h6 in
theorem dgain_real (l : Fin 512) : ∃ v : ℝ, dvn (rowsOf x6 t) (rowsOf x0 t) (turned x4) r l * line x2 (ix2 0 l) = v :=
  Norm.real_mul (dvn_real x0 x4 x6 t r l h0 h4 h6) (h2 _)

omit h0 h2 h3 h4 h5 h6 in
theorem spread_at (q : Fin 1) : val_main_v122 (F := Ideal) x0 x2 x4 x6 (ix2 q (nth t r))
    = Norm.spread ((512 : ℝ) : EReal) (centred (vr x0 (nth t r))) (fun k => dvn (rowsOf x6 t) (rowsOf x0 t) (turned x4) r k * line x2 (ix2 0 k)) := by
  pointwise [val_main_v122, val_main_v121]
  rw [fold_rows]
  pointwise [val_main_cst_30, val_main_v120, val_main_v119, val_main_cst_29, val_main_v118, val_main_v115, val_main_v114, val_main_cst_28, val_main_v113, val_main_v111, val_main_v110, val_main_v71,
    val_main_v68, val_main_v67, val_main_cst_20, val_main_v66, val_main_v64, val_main_v63, val_main_cst_19, val_main_v62, val_main_v61, val_main_cst_18, val_main_v60, val_main_v59, val_main_cst_17, val_main_v58]
  simp only [rs_at, xc_at, dvn_at, rs_eq, Norm.word_512, Norm.word_eps, Norm.word_neg_half]
  unfold Norm.spread
  simp only [mul_comm]
  rfl

include h0 h2 h4 h6

theorem rms_at : val_main_v127 (F := Ideal) x0 x2 x4 x6 (ix3 a (nth t r) l)
    = Norm.gradTiled ((512 : ℝ) : EReal) (centred (vr x0 (nth t r))) (fun k => dvn (rowsOf x6 t) (rowsOf x0 t) (turned x4) r k * line x2 (ix2 0 k)) l := by
  pointwise [val_main_v127, val_main_v125, val_main_v126, val_main_v124, val_main_v123, val_main_v117, val_main_v116, val_main_v111, val_main_v110, val_main_v71]
  simp only [rs_at, xc_at, dvn_at, spread_at, rs_eq]
  rw [Norm.gradTiled_eq (by norm_num) (centred_real (vr_real x0 h0 _)) (fun l => dgain_real x0 x2 x4 x6 t r h0 h2 h4 h6 l)]
  rfl

theorem norm_at : val_main_v136 (F := Ideal) x0 x2 x4 x6 (ix3 a (nth t r) l)
    = back (vr x0 (nth t r)) (fun k => dvn (rowsOf x6 t) (rowsOf x0 t) (turned x4) r k * line x2 (ix2 0 k)) l := by
  pointwise [val_main_v136, val_main_v135, val_main_v134, val_main_v133]
  rw [fold_rows]
  pointwise [val_main_cst_33, val_main_v132, val_main_v131, val_main_cst_32, val_main_v130, val_main_v129, val_main_cst_31, val_main_v128]
  simp only [rms_at x0 x2 x4 x6 _ t r _ h0 h2 h4 h6, Norm.word_512]
  exact back_eq (vr_real x0 h0 _) (fun l => dgain_real x0 x2 x4 x6 t r h0 h2 h4 h6 l) l

theorem back_real : ∃ v : ℝ, back (vr x0 (nth t r)) (fun k => dvn (rowsOf x6 t) (rowsOf x0 t) (turned x4) r k * line x2 (ix2 0 k)) l = v := by
  rw [← back_eq (vr_real x0 h0 _) (fun l => dgain_real x0 x2 x4 x6 t r h0 h2 h4 h6 l) l]
  have e : ∀ k, ∃ v : ℝ, Norm.gradTiled ((512 : ℝ) : EReal) (centred (vr x0 (nth t r))) (fun k => dvn (rowsOf x6 t) (rowsOf x0 t) (turned x4) r k * line x2 (ix2 0 k)) k = v :=
    fun k => Norm.gradTiled_real (by norm_num) (centred_real (vr_real x0 h0 _)) (fun l => dgain_real x0 x2 x4 x6 t r h0 h2 h4 h6 l) k
  refine Norm.real_add (e l) ?_
  obtain ⟨g, hg⟩ := Norm.Finite.lift e
  rw [hg]
  simp only [← EReal.coe_neg, Norm.coe_sum, Norm.div_coe_coe _ (by norm_num : (512 : ℝ) ≠ 0)]
  exact ⟨_, rfl⟩

theorem high_eq : val_main_v148 (F := Ideal) x0 x2 x4 x6 (ix3 a (nth t r) l)
    = dzHigh (rowsOf x6 t) (rowsOf x0 t) (line x2) (turned x4) r l := by
  pointwise [val_main_v148, val_main_v147, val_main_v35, val_main_v34, val_main_cst_9, val_main_v33, val_main_v146, val_main_v145, val_main_v30, val_main_cst_7, val_main_cst_8, val_main_v144, val_main_v143, val_main_v142,
    val_main_cst_35, val_main_v141, val_main_v46, val_main_v43, val_main_v42, val_main_cst_11, val_main_v45, val_main_v44, val_main_cst_12, val_main_v140, val_main_v139, val_main_cst_34, val_main_v138,
    val_main_v50, val_main_v49, val_main_cst_14, val_main_v48, val_main_v47, val_main_cst_13, val_main_v137]
  simp only [tv_at, zv_at, norm_at x0 x2 x4 x6 _ t r _ h0 h2 h4 h6]
  exact gelu_grad (h0 _) (back_real x0 x2 x4 x6 t r l h0 h2 h4 h6)

include h3 h5

theorem dz_eq : dzArr x0 x2 x3 x4 x5 x6 = val_main_v163 (F := Ideal) x0 x2 x3 x4 x5 x6 := by
  funext i
  obtain ⟨n, l, rfl⟩ : ∃ (n : Fin 8192) (l : Fin 1024), i = ix2 n l := ⟨i 0, i 1, by funext a; fin_cases a <;> rfl⟩
  rw [nth_split n, dzArr_at]
  pointwise [val_main_v163, val_main_v162, val_main_v161]
  unfold dz
  by_cases hl : l.val < 512
  · rw [dif_pos hl, dif_pos hl]
    exact (low_eq x0 x2 x3 x4 x5 x6 0 _ _ _ h0 h2 h3 h4 h5 h6).symm
  · rw [dif_neg hl, dif_neg hl]
    exact (high_eq x0 x2 x4 x6 0 _ _ _ h0 h2 h4 h6).symm

end Finite

end Cert.AttnReferenceIdeal.Value

end
-- ==== Proof.AttnClaims.lean ====
/- The claims about the gradient of the attention and the gating: the runs, and what the gating's five results hold. -/
module

public import proofs.«01_k».proof.Defs
public import proofs.«01_k».proof.Proof.Tame
public import proofs.«01_k».proof.Proof.AttnFrames
public import proofs.«01_k».proof.Proof.GmEqual
public import proofs.«01_k».proof.Proof.Gen.Pre_finite_attn

@[expose] public section

set_option maxRecDepth 16384

noncomputable section

open Idealize.ShloMosaic Idealize.ShloMosaic.TcCoe Idealize.SL.Sem

namespace Cert.Attn

instance : Cert.Pre_finite_attn.Facts := Cert.Pre_finite_attn.Gen.facts

theorem finite_args (x0 x1 x2 x3 x4 x5 x6) (h : Cert.Pre_finite_attn.fn (F := Ideal) x0 x1 x2 x3 x4 x5 x6 = fun _ => 1#1) :
    Norm.Finite x0 ∧ Norm.Finite x2 ∧ Norm.Finite x3 ∧ Norm.Finite x4 ∧ Norm.Finite x5 ∧ Norm.Finite x6 := by
  have e := congrFun h default
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e0, e2⟩ := IntOp.andi_eq_one.mp e
  exact ⟨Norm.finite_of_all x0 _ Norm.word_inf_bf16 _ _ _ _ _ _ e0, Norm.finite_of_all x2 _ Norm.word_inf _ _ _ _ _ _ e2,
    Norm.finite_of_all x3 _ Norm.word_inf _ _ _ _ _ _ e3, Norm.finite_of_all x4 _ Norm.word_inf _ _ _ _ _ _ e4,
    Norm.finite_of_all x5 _ Norm.word_inf _ _ _ _ _ _ e5, Norm.finite_of_all x6 _ Norm.word_inf_bf16 _ _ _ _ _ _ e6⟩

theorem frameIdealFinite : Cert.quiescent_AttnKernelIdeal_pre_finite_attn := fun m ρ _ => frameIdeal m ρ trivial

theorem frameReferenceFinite : Cert.quiescent_AttnReferenceIdeal_pre_finite_attn := fun m ρ _ => frameReference m ρ trivial

set_option maxHeartbeats 1600000 in
theorem algebraic : Cert.algebraic_AttnKernelIdeal_AttnReferenceIdeal_pre_finite_attn := by
  pair_intro
  · run_from Cert.AttnKernelIdeal.Gen.run_main m g
  · run_from Cert.AttnReferenceIdeal.Value.run m' g'
    · obtain ⟨h0, h2, h3, h4, h5, h6⟩ := finite_args _ _ _ _ _ _ _ (hpre c)
      obtain ⟨a0, a1, a2, a3, a4, a5, a6⟩ := hagree c
      rw [← a0] at h0 ⊢; rw [← a2] at h2 ⊢; rw [← a3] at h3 ⊢; rw [← a4] at h4 ⊢; rw [← a5] at h5 ⊢; rw [← a6] at h6 ⊢
      exact (Cert.AttnReferenceIdeal.Read.val_main_v163_eq (F := Ideal) (StableHlo.launchContents m' c)).trans
        (Cert.AttnReferenceIdeal.Value.dz_eq _ _ _ _ _ _ h0 h2 h3 h4 h5 h6).symm
    · obtain ⟨a0, a1, a2, a3, a4, a5, a6⟩ := hagree c
      rw [← a0, ← a4, ← a6]
      exact (Cert.AttnReferenceIdeal.Read.val_main_v164_eq (F := Ideal) (StableHlo.launchContents m' c)).trans
        (Cert.AttnReferenceIdeal.Value.scale_eq _ _ _).symm
    · obtain ⟨a0, a1, a2, a3, a4, a5, a6⟩ := hagree c
      rw [← a0, ← a4, ← a6]
      exact (Cert.AttnReferenceIdeal.Read.val_main_v165_eq (F := Ideal) (StableHlo.launchContents m' c)).trans
        (Cert.AttnReferenceIdeal.Value.bias_eq _ _ _).symm
    · obtain ⟨a0, a1, a2, a3, a4, a5, a6⟩ := hagree c
      rw [← a0, ← a2, ← a3, ← a6]
      exact (Cert.AttnReferenceIdeal.Read.val_main_v102_eq (F := Ideal) (StableHlo.launchContents m' c)).trans
        (Cert.AttnReferenceIdeal.Value.mix_eq _ _ _ _).symm
    · obtain ⟨a0, a1, a2, a3, a4, a5, a6⟩ := hagree c
      rw [← a0, ← a6]
      exact (Cert.AttnReferenceIdeal.Read.val_main_v167_eq (F := Ideal) (StableHlo.launchContents m' c)).trans
        (Cert.AttnReferenceIdeal.Value.shift_eq _ _).symm

end Cert.Attn
-- ==== Proof.NormInForwardKernel.lean ====
/- What the input norm and its projection compute, block by block: the kernel's side. -/
module

public import proofs.«01_k».proof.Proof.Norm
public import proofs.«01_k».proof.Proof.Gen.NormInForwardIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormInForwardIdeal.Value

open Cert.NormInForwardIdeal Cert.NormInForwardIdeal.Gen

/-! ## One block -/

theorem norm_at (v0 : Vec Ideal S512x1024 .f32) (v1 : Vec Ideal S1x1024 .f32) (r : Fin 512) (k : Fin 1024) :
    k0_pay1 v0 v1 (ix2 r k) = v0 (ix2 r k) * Norm.rstd ((1024 : ℝ) : EReal) (fun k => v0 (ix2 r k)) * v1 (ix2 0 k) := by
  pointwise [k0_pay1]
  rw [Norm.word_1024, Norm.word_eps]
  rfl

theorem proj_at (v0 : Vec Ideal S512x1024 .f32) (v1 : Vec Ideal S1x1024 .f32) (v17 : Vec Ideal S1792x1024 .bf16) (r : Fin 512) (l : Fin 1792) :
    k0_pay2 v0 v1 v17 (ix2 r l) = ∑ q : Fin 1024, k0_pay1 v0 v1 (ix2 r q) * v17 (ix2 l q) := by pointwise [k0_pay2]

/-! ## The two results -/

/-- The normalised rows times their gain. -/
def normed (h : FVec Ideal S8192x1024 .f32) (ln : FVec Ideal S1024 .f32) : FVec Ideal S8192x1024 .bf16 :=
  fun j => h j * Norm.rstd ((1024 : ℝ) : EReal) (fun k => h (ix2 (j 0) k)) * ln (ix1 (j 1))

/-- Their product with the input projection. -/
def proj (h : FVec Ideal S8192x1024 .f32) (ln : FVec Ideal S1024 .f32) (w : FVec Ideal S1024x1792 .f32) : FVec Ideal S8192x1792 .bf16 :=
  fun j => ∑ q : Fin 1024, normed h ln (ix2 (j 0) q) * w (ix2 q (j 1))

/-! ## The arrays after the run -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem norm_point (t : Fin cfg0.N) (r : Fin 512) (k : Fin 1024) (h : t.val * 512 + r.val < 8192) :
    k0_pay1 (iblk m c 0 t) (iblk m c 1 t) (ix2 r k)
      = normed (m ((c : Thread nD τ).loc main_arg0)) (m ((c : Thread nD τ).loc main_arg1)) (ix2 ⟨t.val * 512 + r.val, h⟩ k) := by
  rw [norm_at]
  have h0 : ∀ k : Fin 1024, (show Vec Ideal S512x1024 .f32 from iblk m c 0 t) (ix2 r k)
      = m ((c : Thread nD τ).loc main_arg0) (ix2 ⟨t.val * 512 + r.val, h⟩ k) := fun k => by blk_ext [iblk, V, idx t]
  have h1 : ∀ k : Fin 1024, (show Vec Ideal S1x1024 .f32 from iblk m c 1 t) (ix2 0 k)
      = m ((c : Thread nD τ).loc main_arg1) (ix1 k) := fun k => by blk_point [iblk, V, idx t]
  simp only [h0, h1]
  rfl

theorem proj_point (t : Fin cfg0.N) (r : Fin 512) (l : Fin 1792) (h : t.val * 512 + r.val < 8192) :
    k0_pay2 (iblk m c 0 t) (iblk m c 1 t) (iblk m c 2 t) (ix2 r l)
      = proj (m ((c : Thread nD τ).loc main_arg0)) (m ((c : Thread nD τ).loc main_arg1)) (m ((c : Thread nD τ).loc main_arg2))
          (ix2 ⟨t.val * 512 + r.val, h⟩ l) := by
  rw [proj_at]
  have h2 : ∀ (l : Fin 1792) (q : Fin 1024), (show Vec Ideal S1792x1024 .bf16 from iblk m c 2 t) (ix2 l q)
      = m ((c : Thread nD τ).loc main_arg2) (ix2 q l) := fun l q => by blk_point [iblk, V, idx t]
  simp only [norm_point m c t _ _ h, h2]
  rfl

theorem final_proj : (dats m 0 c).arrAt 3 (cfgs 0).N
    = proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN : t.val < 16 := lt_of_lt_of_eq t.isLt N_0
  obtain ⟨r, l, rfl⟩ : ∃ (r : Fin 512) (l : Fin 1792), y = ix2 r l := ⟨y 0, y 1, by funext a; fin_cases a <;> rfl⟩
  have he : ((View.whole main_v3_0).slice (win0_3.rect t)).emb (ix2 r l) = ix2 ⟨t.val * 512 + r.val, by omega⟩ l := by
    blk_ext [idx t]
  frame_out
  rw [proj_point m c t r l (by omega), ← he]

theorem final_norm : (dats m 0 c).arrAt 4 (cfgs 0).N
    = normed (m ((c : Thread nD τ).loc main_arg0)) (m ((c : Thread nD τ).loc main_arg1)) := by
  refine (dats m 0 c).arrAt_eq_of_covers 4 _ (by decide +kernel) fun t _ y => ?_
  blk_simp
  rw [after0_4]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v3_1).slice (win0_4.rect t)).emb (ix2 r l) = ix2 ⟨t.val * 512 + r.val, by omega⟩ l := by
    blk_ext [idx t]
  frame_out
  rw [norm_point m c t r l (by omega), ← he]

end Cert.NormInForwardIdeal.Value
-- ==== Proof.NormInForward.lean ====
/- The claims about the input norm and its projection. -/
module

public import proofs.«01_k».proof.Defs
public import proofs.«01_k».proof.Proof.NormInForwardKernel
public import proofs.«01_k».proof.Proof.Gen.NormInForward.Frame
public import proofs.«01_k».proof.Proof.Gen.NormInForwardReferenceIdeal
public import proofs.«01_k».proof.Proof.Gen.NormInForwardReferenceIdeal.Read

@[expose] public section

set_option maxRecDepth 16384

noncomputable section

open Idealize.ShloMosaic Idealize.ShloMosaic.TcCoe Idealize.SL.Sem

namespace Cert.NormInForwardReferenceIdeal.Value

open Cert.NormInForwardReferenceIdeal Cert.NormInForwardReferenceIdeal.Gen Cert.NormInForwardReferenceIdeal.Read

variable (x0 : FVec Ideal S8192x1024 .f32) (x1 : FVec Ideal S1024 .f32) (x2 : FVec Ideal S1024x1792 .f32)

theorem norm_at (r : Fin 8192) (l : Fin 1024) :
    val_main_v12 (F := Ideal) x0 x1 (ix2 r l) = Cert.NormInForwardIdeal.Value.normed x0 x1 (ix2 r l) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [Norm.word_1024, Norm.word_eps]
  rfl

theorem norm_eq : Cert.NormInForwardIdeal.Value.normed x0 x1 = val_main_v15 (F := Ideal) x0 x1 := by
  funext j
  obtain ⟨r, l, rfl⟩ : ∃ (r : Fin 8192) (l : Fin 1024), j = ix2 r l := ⟨j 0, j 1, by funext a; fin_cases a <;> rfl⟩
  pointwise [val_main_v15]
  exact (norm_at x0 x1 r l).symm

theorem proj_eq : Cert.NormInForwardIdeal.Value.proj x0 x1 x2 = val_main_v14 (F := Ideal) x0 x1 x2 := by
  funext j
  obtain ⟨r, l, rfl⟩ : ∃ (r : Fin 8192) (l : Fin 1792), j = ix2 r l := ⟨j 0, j 1, by funext a; fin_cases a <;> rfl⟩
  pointwise [val_main_v14, val_main_v13]
  simp only [norm_at]
  rfl

end Cert.NormInForwardReferenceIdeal.Value

namespace Cert.NormInForwardClaims

instance : Cert.NormInForward.Facts := Cert.NormInForward.Gen.facts
instance : Cert.NormInForwardIdeal.Facts := Cert.NormInForwardIdeal.Gen.facts
instance : Cert.NormInForwardReferenceIdeal.Facts := Cert.NormInForwardReferenceIdeal.Gen.facts

theorem frame : Cert.quiescent_NormInForward := fun m ρ _ => Cert.NormInForward.Gen.frame m ρ

theorem frameIdeal : Cert.quiescent_NormInForwardIdeal := fun m ρ _ => Cert.NormInForwardIdeal.Gen.frame m ρ

theorem frameReference : Cert.quiescent_NormInForwardReferenceIdeal := by
  intro m ρ _
  refine (θ_run _ _ _).mono (fun r h => ⟨fun c => ?_, sem_eq_zero_of_no_sems (by decide) r.2⟩)
    (Cert.NormInForwardReferenceIdeal.Value.run (F := Ideal) m ρ)
  exact (h c).2.2

theorem algebraic : Cert.algebraic_NormInForwardIdeal_NormInForwardReferenceIdeal := by
  pair_intro
  · run_from Cert.NormInForwardIdeal.Gen.run_main m g
  · run_from Cert.NormInForwardReferenceIdeal.Value.run m' g'
    · rw [Cert.NormInForwardReferenceIdeal.Read.val_main_v14_eq, Cert.NormInForwardIdeal.Value.final_proj m c]
      exact (Cert.NormInForwardReferenceIdeal.Value.proj_eq _ _ _).symm
    · rw [Cert.NormInForwardReferenceIdeal.Read.val_main_v15_eq, Cert.NormInForwardIdeal.Value.final_norm m c]
      exact (Cert.NormInForwardReferenceIdeal.Value.norm_eq _ _).symm

end Cert.NormInForwardClaims
-- ==== Proof.NormInKernel.lean ====
/- What the gradient of the input norm computes, block by block: the kernel's side. -/
module

public import proofs.«01_k».proof.Proof.Norm
public import proofs.«01_k».proof.Proof.Gen.NormInIdeal.Value
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormInIdeal.Value

open Cert.NormInIdeal Cert.NormInIdeal.Gen

/-- Three rows one after the other. -/
def cat (a : Fin 512 → EReal) (b : Fin 256 → EReal) (d : Fin 1024 → EReal) (x : Fin 1792) : EReal :=
  if h : x.val < 512 then a ⟨x.val, h⟩ else if h' : x.val - 512 < 256 then b ⟨x.val - 512, h'⟩ else d ⟨x.val - 512 - 256, by omega⟩

theorem cat_real {a : Fin 512 → EReal} {b : Fin 256 → EReal} {d : Fin 1024 → EReal} (ha : Norm.Finite a) (hb : Norm.Finite b)
    (hd : Norm.Finite d) : Norm.Finite (cat a b d) := by
  intro x
  unfold cat
  split
  · exact ha _
  · split
    · exact hb _
    · exact hd _

/-! ## One block -/

theorem dy_at (v0 : Vec Ideal S512x512 .bf16) (v1 : Vec Ideal S512x256 .f32) (v3 : Vec Ideal S512x1024 .bf16)
    (v5 : Vec Ideal S1792x1024 .bf16) (r : Fin 512) (k : Fin 1024) :
    k0_pay3 v0 v1 v3 v5 (ix2 r k)
      = ∑ q : Fin 1792, cat (fun q => v0 (ix2 r q)) (fun q => v1 (ix2 r q)) (fun q => v3 (ix2 r q)) q * v5 (ix2 q k) := by
  pointwise [k0_pay3]
  rfl

theorem dx_at (v0 : Vec Ideal S512x512 .bf16) (v1 : Vec Ideal S512x256 .f32) (v3 : Vec Ideal S512x1024 .bf16)
    (v5 : Vec Ideal S1792x1024 .bf16) (v8 : Vec Ideal S512x1024 .f32) (v9 : Vec Ideal S1x1024 .f32)
    (v36 : Vec Ideal S512x1024 .f32) (r : Fin 512) (l : Fin 1024) :
    k0_pay7 v0 v1 v3 v5 v8 v9 v36 (ix2 r l)
      = v36 (ix2 r l) + Norm.gradTiled ((1024 : ℝ) : EReal) (fun k => v8 (ix2 r k))
          (fun k => k0_pay3 v0 v1 v3 v5 (ix2 r k) * v9 (ix2 0 k)) l := by
  pointwise [k0_pay7, k0_pay5, k0_pay4]
  rw [Norm.word_1024, Norm.word_eps]
  rfl

theorem dg_at (v0 : Vec Ideal S512x512 .bf16) (v1 : Vec Ideal S512x256 .f32) (v3 : Vec Ideal S512x1024 .bf16)
    (v5 : Vec Ideal S1792x1024 .bf16) (v8 : Vec Ideal S512x1024 .f32) (z : Fin 1) (l : Fin 1024) :
    k0_pay6 v0 v1 v3 v5 v8 (ix2 z l)
      = ∑ r : Fin 512, k0_pay3 v0 v1 v3 v5 (ix2 r l)
          * (v8 (ix2 r l) * Norm.rstd ((1024 : ℝ) : EReal) (fun k => v8 (ix2 r k))) := by
  pointwise [k0_pay6, k0_pay5, k0_pay4]
  rw [Norm.word_1024, Norm.word_eps]
  rfl

theorem zero_at (j) : k0_pay1 (F := Ideal) j = 0 := by pointwise [k0_pay1]

theorem sum_at (a b : Vec Ideal S1x1024 .f32) (j) : k0_pay2 a b j = b j + a j := by pointwise [k0_pay2]

/-! ## The two results -/

/-- The gradient that reaches the normalised rows: the three pieces of the projection's gradient, through its transpose. -/
def dy (w : FVec Ideal S1024x1792 .f32) (dzq : FVec Ideal S8192x512 .bf16) (dkv : FVec Ideal S8192x256 .f32)
    (dzuv : FVec Ideal S8192x1024 .bf16) (r : Fin 8192) (k : Fin 1024) : EReal :=
  ∑ q : Fin 1792, cat (fun q => dzq (ix2 r q)) (fun q => dkv (ix2 r q)) (fun q => dzuv (ix2 r q)) q * w (ix2 k q)

def dx (h : FVec Ideal S8192x1024 .f32) (ln : FVec Ideal S1024 .f32) (w : FVec Ideal S1024x1792 .f32)
    (dh : FVec Ideal S8192x1024 .f32) (dzq : FVec Ideal S8192x512 .bf16) (dkv : FVec Ideal S8192x256 .f32)
    (dzuv : FVec Ideal S8192x1024 .bf16) : FVec Ideal S8192x1024 .f32 :=
  fun j => dh j + Norm.gradTiled ((1024 : ℝ) : EReal) (fun k => h (ix2 (j 0) k))
    (fun k => dy w dzq dkv dzuv (j 0) k * ln (ix1 k)) (j 1)

/-- What row `r` adds to the gradient of the gain at lane `l`. -/
def dgRow (h : FVec Ideal S8192x1024 .f32) (w : FVec Ideal S1024x1792 .f32) (dzq : FVec Ideal S8192x512 .bf16)
    (dkv : FVec Ideal S8192x256 .f32) (dzuv : FVec Ideal S8192x1024 .bf16) (l : Fin 1024) (r : Fin 8192) : EReal :=
  dy w dzq dkv dzuv r l * (h (ix2 r l) * Norm.rstd ((1024 : ℝ) : EReal) (fun k => h (ix2 r k)))

def dg (h : FVec Ideal S8192x1024 .f32) (w : FVec Ideal S1024x1792 .f32) (dzq : FVec Ideal S8192x512 .bf16)
    (dkv : FVec Ideal S8192x256 .f32) (dzuv : FVec Ideal S8192x1024 .bf16) : FVec Ideal S1x1024 .f32 :=
  fun j => ∑ r : Fin 8192, dgRow h w dzq dkv dzuv (j 1) r

/-! ## The arrays after the run -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- The incoming gradient of point `t`'s block. -/
theorem dy_point (t : Fin cfg0.N) (r : Fin 512) (k : Fin 1024) (h : t.val * 512 + r.val < 8192) :
    k0_pay3 (iblk m c 0 t) (iblk m c 1 t) (iblk m c 2 t) (iblk m c 3 t) (ix2 r k)
      = dy (m ((c : Thread nD τ).loc main_arg2)) (m ((c : Thread nD τ).loc main_arg4))
          (m ((c : Thread nD τ).loc main_arg5)) (m ((c : Thread nD τ).loc main_arg6)) ⟨t.val * 512 + r.val, h⟩ k := by
  rw [dy_at]
  unfold dy
  have h0 : ∀ k : Fin 512, (show Vec Ideal S512x512 .bf16 from iblk m c 0 t) (ix2 r k)
      = m ((c : Thread nD τ).loc main_arg4) (ix2 ⟨t.val * 512 + r.val, h⟩ k) := fun k => by blk_ext [iblk, V, idx t]
  have h1 : ∀ k : Fin 256, (show Vec Ideal S512x256 .f32 from iblk m c 1 t) (ix2 r k)
      = m ((c : Thread nD τ).loc main_arg5) (ix2 ⟨t.val * 512 + r.val, h⟩ k) := fun k => by blk_ext [iblk, V, idx t]
  have h2 : ∀ k : Fin 1024, (show Vec Ideal S512x1024 .bf16 from iblk m c 2 t) (ix2 r k)
      = m ((c : Thread nD τ).loc main_arg6) (ix2 ⟨t.val * 512 + r.val, h⟩ k) := fun k => by blk_ext [iblk, V, idx t]
  have h3 : ∀ (q : Fin 1792) (k : Fin 1024), (show Vec Ideal S1792x1024 .bf16 from iblk m c 3 t) (ix2 q k)
      = m ((c : Thread nD τ).loc main_arg2) (ix2 k q) := fun q k => by blk_point [iblk, V, idx t]
  simp only [h0, h1, h2, h3]

theorem dx_point (t : Fin cfg0.N) (r : Fin 512) (l : Fin 1024) (h : t.val * 512 + r.val < 8192) :
    k0_pay7 (iblk m c 0 t) (iblk m c 1 t) (iblk m c 2 t) (iblk m c 3 t) (iblk m c 4 t) (iblk m c 5 t) (iblk m c 6 t) (ix2 r l)
      = dx (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (ix2 ⟨t.val * 512 + r.val, h⟩ l) := by
  rw [dx_at]
  simp only [dy_point m c t _ _ h]
  unfold dx
  have h4 : ∀ k : Fin 1024, (show Vec Ideal S512x1024 .f32 from iblk m c 4 t) (ix2 r k)
      = m ((c : Thread nD τ).loc main_arg0) (ix2 ⟨t.val * 512 + r.val, h⟩ k) := fun k => by blk_ext [iblk, V, idx t]
  have h5 : ∀ k : Fin 1024, (show Vec Ideal S1x1024 .f32 from iblk m c 5 t) (ix2 0 k)
      = m ((c : Thread nD τ).loc main_arg1) (ix1 k) := fun k => by blk_point [iblk, V, idx t]
  have h6 : (show Vec Ideal S512x1024 .f32 from iblk m c 6 t) (ix2 r l)
      = m ((c : Thread nD τ).loc main_arg3) (ix2 ⟨t.val * 512 + r.val, h⟩ l) := by blk_ext [iblk, V, idx t]
  simp only [h4, h5, h6]
  rfl

theorem dg_point (t : Fin cfg0.N) (z : Fin 1) (l : Fin 1024) (hN : t.val < 16) :
    k0_pay6 (iblk m c 0 t) (iblk m c 1 t) (iblk m c 2 t) (iblk m c 3 t) (iblk m c 4 t) (ix2 z l)
      = ∑ r : Fin 512, dgRow (m ((c : Thread nD τ).loc main_arg0)) (m ((c : Thread nD τ).loc main_arg2))
          (m ((c : Thread nD τ).loc main_arg4)) (m ((c : Thread nD τ).loc main_arg5))
          (m ((c : Thread nD τ).loc main_arg6)) l ⟨t.val * 512 + r.val, by omega⟩ := by
  rw [dg_at]
  refine Fin.sum_fin_congr fun r => ?_
  have h4 : ∀ k : Fin 1024, (show Vec Ideal S512x1024 .f32 from iblk m c 4 t) (ix2 r k)
      = m ((c : Thread nD τ).loc main_arg0) (ix2 ⟨t.val * 512 + r.val, by omega⟩ k) := fun k => by blk_ext [iblk, V, idx t]
  rw [dy_point m c t r l (by omega)]
  simp only [h4]
  rfl

theorem final_dx : (dats m 0 c).arrAt 7 (cfgs 0).N
    = dx (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v3_0).slice (win0_7.rect t)).emb (ix2 r l) = ix2 ⟨t.val * 512 + r.val, by omega⟩ l := by
    blk_ext [idx t]
  by_cases h : t.val % 16 = 0
  · rw [outsAt0_A m c t h]; frame_out
    rw [dx_point m c t r l (by omega), ← he]
  · rw [outsAt0_B m c t h]; frame_out
    rw [dx_point m c t r l (by omega), ← he]

theorem final_dg : (dats m 0 c).arrAt 8 (cfgs 0).N
    = dg (m ((c : Thread nD τ).loc main_arg0))
          (m ((c : Thread nD τ).loc main_arg2)) (m ((c : Thread nD τ).loc main_arg4))
          (m ((c : Thread nD τ).loc main_arg5)) (m ((c : Thread nD τ).loc main_arg6)) := by
  refine (dats m 0 c).arrAt_eq_of_covers 8 _ (by decide +kernel) fun t hf y => ?_
  blk_simp
  rw [after0_8, Pipeline.eq_sum_fin_of_reset_step_apply_of_flush (fun n h => (outsAt0 m c n h).2) 16 (fun _ => 0) _
    (fun t h j => by rw [outsAt0_A m c t h]; frame_out; rw [sum_at, zero_at])
    (fun t h j => by rw [outsAt0_B m c t h]; frame_out; rw [sum_at])
    t ((flush0_8 t).mp hf) _, zero_add]
  have hN : t.val < 16 := lt_of_lt_of_eq t.isLt N_0
  obtain ⟨z, l, rfl⟩ : ∃ (z : Fin 1) (l : Fin 1024), y = ix2 z l := ⟨y 0, y 1, by funext a; fin_cases a <;> rfl⟩
  have he : (win0_8.blk t).view.emb (ix2 z l) = ix2 z l := by blk_ext [idx t]
  rw [he]
  unfold dg
  refine (Fin.sum_fin_congr fun s => dg_point m c _ z l (by dsimp only; omega)).trans ?_
  refine Fin.sum_mul_add_congr fun s k hl => ?_
  have hs : 16 * (t.val / 16) + s.val = s.val := by omega
  simp only [hs]
  rfl

end Cert.NormInIdeal.Value
-- ==== Proof.NormInReference.lean ====
/- The gradient of the input norm as the reference writes it, and that it is the kernel's. -/
module

public import proofs.«01_k».proof.Proof.NormInKernel
public import proofs.«01_k».proof.Proof.Gen.NormInReferenceIdeal.Read

@[expose] public section

set_option maxRecDepth 16384

noncomputable section

open Idealize.ShloMosaic Idealize.ShloMosaic.TcCoe Idealize.SL.Sem

namespace Cert.NormInReferenceIdeal.Value

open Cert.NormInReferenceIdeal Cert.NormInReferenceIdeal.Gen Cert.NormInReferenceIdeal.Read

variable (x0 : FVec Ideal S8192x1024 .f32) (x1 : FVec Ideal S1024 .f32) (x2 : FVec Ideal S1024x1792 .f32)
  (x3 : FVec Ideal S8192x1024 .f32) (x4 : FVec Ideal S8192x512 .bf16) (x5 : FVec Ideal S8192x256 .f32)
  (x6 : FVec Ideal S8192x1024 .bf16)

theorem dy_at (r : Fin 8192) (k : Fin 1024) :
    val_main_v20 (F := Ideal) x2 x4 x5 x6 (ix2 r k) = Cert.NormInIdeal.Value.dy x2 x4 x5 x6 r k := by
  unfold Cert.NormInIdeal.Value.dy
  pointwise [val_main_v20, val_main_v2, val_main_v1, val_main_v0]
  rfl

theorem dx_at (r : Fin 8192) (l : Fin 1024) :
    val_main_v41 (F := Ideal) x0 x1 x2 x3 x4 x5 x6 (ix2 r l)
      = x3 (ix2 r l) + (fun k => val_main_v20 (F := Ideal) x2 x4 x5 x6 (ix2 r k) * x1 (ix1 k)) l
            * Norm.rstd ((1024 : ℝ) : EReal) (fun k => x0 (ix2 r k))
          + x0 (ix2 r l) * Norm.spread ((1024 : ℝ) : EReal) (fun k => x0 (ix2 r k))
              (fun k => val_main_v20 (F := Ideal) x2 x4 x5 x6 (ix2 r k) * x1 (ix1 k))
          + Norm.spread ((1024 : ℝ) : EReal) (fun k => x0 (ix2 r k))
              (fun k => val_main_v20 (F := Ideal) x2 x4 x5 x6 (ix2 r k) * x1 (ix1 k)) * x0 (ix2 r l) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Norm.word_1024, Norm.word_eps, Norm.word_neg_half, Fin.sum_univ_one, Finset.univ_unique, Finset.sum_singleton]
  rfl

theorem dg_at (z : Fin 1) (l : Fin 1024) :
    val_main_v42 (F := Ideal) x0 x2 x4 x5 x6 (ix2 z l) = Cert.NormInIdeal.Value.dg x0 x2 x4 x5 x6 (ix2 z l) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Norm.word_1024, Norm.word_eps, Fin.sum_univ_one, Finset.univ_unique, Finset.sum_singleton, dy_at, mul_comm]
  unfold Cert.NormInIdeal.Value.dg Cert.NormInIdeal.Value.dgRow Norm.rstd
  simp only [mul_comm]
  rfl

/-- At finite arguments the two input gradients agree. -/
theorem dx_eq (h0 : Norm.Finite x0) (h1 : Norm.Finite x1) (h2 : Norm.Finite x2) (h4 : Norm.Finite x4)
    (h5 : Norm.Finite x5) (h6 : Norm.Finite x6) :
    Cert.NormInIdeal.Value.dx x0 x1 x2 x3 x4 x5 x6 = val_main_v41 (F := Ideal) x0 x1 x2 x3 x4 x5 x6 := by
  funext j
  obtain ⟨r, l, rfl⟩ : ∃ (r : Fin 8192) (l : Fin 1024), j = ix2 r l := ⟨j 0, j 1, by funext a; fin_cases a <;> rfl⟩
  rw [dx_at]
  simp only [dy_at]
  have hdy : ∀ k, ∃ v : ℝ, Cert.NormInIdeal.Value.dy x2 x4 x5 x6 r k = v := fun k =>
    Norm.real_sum fun q => Norm.real_mul (Cert.NormInIdeal.Value.cat_real (fun _ => h4 _) (fun _ => h5 _) (fun _ => h6 _) q) (h2 _)
  refine (congrArg (x3 (ix2 r l) + ·) (Norm.gradTiled_eq (by norm_num : (0 : ℝ) < 1024) (fun k => h0 _)
    (fun k => Norm.real_mul (hdy k) (h1 _)) l)).trans ?_
  simp only [add_assoc]
  rfl

theorem dg_eq : Cert.NormInIdeal.Value.dg x0 x2 x4 x5 x6 = val_main_v42 (F := Ideal) x0 x2 x4 x5 x6 := by
  funext j
  obtain ⟨z, l, rfl⟩ : ∃ (z : Fin 1) (l : Fin 1024), j = ix2 z l := ⟨j 0, j 1, by funext a; fin_cases a <;> rfl⟩
  exact (dg_at x0 x2 x4 x5 x6 z l).symm

end Cert.NormInReferenceIdeal.Value
-- ==== Proof.NormIn.lean ====
/- The claims about the gradient of the input norm. -/
module

public import proofs.«01_k».proof.Defs
public import proofs.«01_k».proof.Proof.Tame
public import proofs.«01_k».proof.Proof.NormInReference
public import proofs.«01_k».proof.Proof.Gen.NormIn.Frame
public import proofs.«01_k».proof.Proof.Gen.NormInReferenceIdeal
public import proofs.«01_k».proof.Proof.Gen.Pre_finite_norm_in

@[expose] public section

set_option maxRecDepth 16384

noncomputable section

open Idealize.ShloMosaic Idealize.ShloMosaic.TcCoe Idealize.SL.Sem

namespace Cert.NormInClaims

instance : Cert.NormIn.Facts := Cert.NormIn.Gen.facts
instance : Cert.NormInIdeal.Facts := Cert.NormInIdeal.Gen.facts
instance : Cert.NormInReferenceIdeal.Facts := Cert.NormInReferenceIdeal.Gen.facts
instance : Cert.Pre_finite_norm_in.Facts := Cert.Pre_finite_norm_in.Gen.facts

theorem finite_args (x0 x1 x2 x3 x4 x5 x6) (h : Cert.Pre_finite_norm_in.fn (F := Ideal) x0 x1 x2 x3 x4 x5 x6 = fun _ => 1#1) :
    Norm.Finite x0 ∧ Norm.Finite x1 ∧ Norm.Finite x2 ∧ Norm.Finite x4 ∧ Norm.Finite x5 ∧ Norm.Finite x6 := by
  have e := congrFun h default
  obtain ⟨e, e6⟩ := IntOp.andi_eq_one.mp e
  obtain ⟨e, e5⟩ := IntOp.andi_eq_one.mp e
  obtain ⟨e, e4⟩ := IntOp.andi_eq_one.mp e
  obtain ⟨e, e2⟩ := IntOp.andi_eq_one.mp e
  obtain ⟨e0, e1⟩ := IntOp.andi_eq_one.mp e
  exact ⟨Norm.finite_of_all x0 _ Norm.word_inf _ _ _ _ _ _ e0, Norm.finite_of_all x1 _ Norm.word_inf _ _ _ _ _ _ e1,
    Norm.finite_of_all x2 _ Norm.word_inf _ _ _ _ _ _ e2, Norm.finite_of_all x4 _ Norm.word_inf_bf16 _ _ _ _ _ _ e4,
    Norm.finite_of_all x5 _ Norm.word_inf _ _ _ _ _ _ e5, Norm.finite_of_all x6 _ Norm.word_inf_bf16 _ _ _ _ _ _ e6⟩

theorem frame : Cert.quiescent_NormIn := fun m ρ _ => Cert.NormIn.Gen.frame m ρ

theorem frameIdeal : Cert.quiescent_NormInIdeal := fun m ρ _ => Cert.NormInIdeal.Gen.frame m ρ

theorem frameIdealFinite : Cert.quiescent_NormInIdeal_pre_finite_norm_in := fun m ρ _ => Cert.NormInIdeal.Gen.frame m ρ

theorem frameReference : Cert.quiescent_NormInReferenceIdeal := by
  intro m ρ _
  refine (θ_run _ _ _).mono (fun r h => ⟨fun c => ?_, sem_eq_zero_of_no_sems (by decide) r.2⟩)
    (Cert.NormInReferenceIdeal.Value.run (F := Ideal) m ρ)
  exact (h c).2.2

theorem frameReferenceFinite : Cert.quiescent_NormInReferenceIdeal_pre_finite_norm_in := fun m ρ _ => frameReference m ρ trivial

theorem algebraic : Cert.algebraic_NormInIdeal_NormInReferenceIdeal_pre_finite_norm_in := by
  pair_intro
  · run_from Cert.NormInIdeal.Gen.run_main m g
  · run_from Cert.NormInReferenceIdeal.Value.run m' g'
    · obtain ⟨h0, h1, h2, h4, h5, h6⟩ := finite_args _ _ _ _ _ _ _ (hpre c)
      obtain ⟨a0, a1, a2, a3, a4, a5, a6⟩ := hagree c
      rw [Cert.NormInReferenceIdeal.Read.val_main_v41_eq, a0, a1, a2, a3, a4, a5, a6, Cert.NormInIdeal.Value.final_dx m c]
      exact (Cert.NormInReferenceIdeal.Value.dx_eq _ _ _ _ _ _ _ h0 h1 h2 h4 h5 h6).symm
    · obtain ⟨a0, a1, a2, a3, a4, a5, a6⟩ := hagree c
      refine (Cert.NormInReferenceIdeal.Read.val_main_v42_eq (F := Ideal)
        (m ((c.tc : Thread _ _).loc Cert.NormInIdeal.main_arg0)) (m ((c.tc : Thread _ _).loc Cert.NormInIdeal.main_arg2))
        (m' ((c.tc : Thread _ _).loc Cert.NormInReferenceIdeal.main_arg4)) (m' ((c.tc : Thread _ _).loc Cert.NormInReferenceIdeal.main_arg5)) (m' ((c.tc : Thread _ _).loc Cert.NormInReferenceIdeal.main_arg6))).trans ?_
      rw [a4, a5, a6, Cert.NormInIdeal.Value.final_dg m c]
      exact (Cert.NormInReferenceIdeal.Value.dg_eq _ _ _ _ _).symm

end Cert.NormInClaims
-- ==== Proof.PleForward.lean ====
/- What the forward call of the gated embedding leaves for the backward call, block by block. -/
module

public import proofs.«01_k».proof.Proof.Gate
public import proofs.«01_k».proof.Proof.Gen.PleIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen

/-! ## One block -/

theorem pg_at (v0 : Vec Ideal S512x1024 .f32) (v1 : Vec Ideal S1x1024 .f32) (v17 : Vec Ideal S1024x1024 .bf16)
    (r : Fin 512) (k : Fin 1024) :
    k0_pay5 v0 v1 v17 (ix2 r k)
      = ∑ q : Fin 1024, v0 (ix2 r q) * Norm.rstd ((1024 : ℝ) : EReal) (fun k => v0 (ix2 r k)) * v1 (ix2 0 q) * v17 (ix2 q k) := by
  pointwise [k0_pay5, k0_pay3, k0_pay2]
  rw [Norm.word_1024, Norm.word_eps]
  rfl

theorem pe_at (v20 : Vec Ideal S512x256 .f32) (v22 : Vec Ideal S256x1024 .bf16) (r : Fin 512) (k : Fin 1024) :
    k0_pay6 v20 v22 (ix2 r k) = ∑ q : Fin 256, v20 (ix2 r q) * v22 (ix2 q k) := by
  pointwise [k0_pay6, k0_pay4]

theorem norm_at (v0 : Vec Ideal S512x1024 .f32) (v1 : Vec Ideal S1x1024 .f32) (r : Fin 512) (k : Fin 1024) :
    k0_pay2 v0 v1 (ix2 r k) = v0 (ix2 r k) * Norm.rstd ((1024 : ℝ) : EReal) (fun k => v0 (ix2 r k)) * v1 (ix2 0 k) := by
  pointwise [k0_pay2]
  rw [Norm.word_1024, Norm.word_eps]
  rfl

theorem out_at (v0 : Vec Ideal S512x1024 .f32) (v1 : Vec Ideal S1x1024 .f32) (v17 : Vec Ideal S1024x1024 .bf16) (v20 : Vec Ideal S512x256 .f32)
    (v22 : Vec Ideal S256x1024 .bf16) (r : Fin 512) (k : Fin 1024) :
    k0_pay1 v0 (k0_pay4 v20 v22) (k0_pay7 v0 v1 v17) (k0_pay8 (F := Ideal)) (ix2 r k)
      = v0 (ix2 r k) + k0_pay6 v20 v22 (ix2 r k) * Gate.viaTanh (k0_pay5 v0 v1 v17 (ix2 r k)) := by
  pointwise [k0_pay1, k0_pay7, k0_pay8]
  rw [Gate.word_half]
  rfl

/-! ## The arrays -/

/-- The gate's logits: the normalised rows through the gate's matrix. -/
def pg (h : FVec Ideal S8192x1024 .f32) (ln : FVec Ideal S1x1024 .f32) (w : FVec Ideal S1024x1024 .bf16) (r : Fin 8192) (k : Fin 1024) : EReal :=
  ∑ q : Fin 1024, h (ix2 r q) * Norm.rstd ((1024 : ℝ) : EReal) (fun k => h (ix2 r k)) * ln (ix2 0 q) * w (ix2 q k)

/-- The embedding through its matrix. -/
def pe (p : FVec Ideal S8192x256 .f32) (w : FVec Ideal S256x1024 .bf16) (r : Fin 8192) (k : Fin 1024) : EReal :=
  ∑ q : Fin 256, p (ix2 r q) * w (ix2 q k)

/-- The normalised rows times their gain. -/
def normed (h : FVec Ideal S8192x1024 .f32) (ln : FVec Ideal S1x1024 .f32) : FVec Ideal S8192x1024 .bf16 :=
  fun j => h j * Norm.rstd ((1024 : ℝ) : EReal) (fun k => h (ix2 (j 0) k)) * ln (ix2 0 (j 1))

/-- The layer's input plus the gated embedding. -/
def out (h : FVec Ideal S8192x1024 .f32) (e g : FVec Ideal S8192x1024 .bf16) : FVec Ideal S8192x1024 .f32 :=
  fun j => h j + e j * Gate.viaTanh (g j)

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

theorem pg_point (t : Fin cfg0.N) (r : Fin 512) (k : Fin 1024) (h : t.val * 512 + r.val < 8192) :
    k0_pay5 (iblk0 V c 0 t) (iblk0 V c 1 t) (iblk0 V c 2 t) (ix2 r k)
      = pg (V c main_arg0) (V c main_v2) (V c main_v0) ⟨t.val * 512 + r.val, h⟩ k := by
  rw [pg_at]
  unfold pg
  have h0 : ∀ k : Fin 1024, (show Vec Ideal S512x1024 .f32 from iblk0 V c 0 t) (ix2 r k)
      = (V c main_arg0) (ix2 ⟨t.val * 512 + r.val, h⟩ k) := fun k => by blk_ext [iblk0, idx0 t]
  have h1 : ∀ k : Fin 1024, (show Vec Ideal S1x1024 .f32 from iblk0 V c 1 t) (ix2 0 k)
      = (V c main_v2) (ix2 0 k) := fun k => by blk_ext [iblk0, idx0 t]
  have h2 : ∀ q k : Fin 1024, (show Vec Ideal S1024x1024 .bf16 from iblk0 V c 2 t) (ix2 q k)
      = (V c main_v0) (ix2 q k) := fun q k => by blk_ext [iblk0, idx0 t]
  simp only [h0, h1, h2]

theorem pe_point (t : Fin cfg0.N) (r : Fin 512) (k : Fin 1024) (h : t.val * 512 + r.val < 8192) :
    k0_pay6 (iblk0 V c 3 t) (iblk0 V c 4 t) (ix2 r k)
      = pe (V c main_arg3) (V c main_v1) ⟨t.val * 512 + r.val, h⟩ k := by
  rw [pe_at]
  unfold pe
  have h0 : ∀ k : Fin 256, (show Vec Ideal S512x256 .f32 from iblk0 V c 3 t) (ix2 r k)
      = (V c main_arg3) (ix2 ⟨t.val * 512 + r.val, h⟩ k) := fun k => by blk_ext [iblk0, idx0 t]
  have h2 : ∀ (q : Fin 256) (k : Fin 1024), (show Vec Ideal S256x1024 .bf16 from iblk0 V c 4 t) (ix2 q k)
      = (V c main_v1) (ix2 q k) := fun q k => by blk_ext [iblk0, idx0 t]
  simp only [h0, h2]

theorem final_pg : (dat0 V c).arrAt 6 cfg0.N
    = (show FVec Ideal S8192x1024 .bf16 from fun j => pg (V c main_arg0) (V c main_v2) (V c main_v0) (j 0) (j 1)) := by
  refine (dat0 V c).arrAt_eq_of_covers 6 _ (by decide +kernel) fun t _ y => ?_
  blk_simp
  rw [after0_6]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_6.blk t).view.emb (ix2 r l) = ix2 ⟨t.val * 512 + r.val, by omega⟩ l := by blk_ext [idx0 t]
  frame_out
  rw [pg_point V c t r l (by omega), he]
  rfl

theorem final_pe : (dat0 V c).arrAt 7 cfg0.N
    = (show FVec Ideal S8192x1024 .bf16 from fun j => pe (V c main_arg3) (V c main_v1) (j 0) (j 1)) := by
  refine (dat0 V c).arrAt_eq_of_covers 7 _ (by decide +kernel) fun t _ y => ?_
  blk_simp
  rw [after0_7]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_7.blk t).view.emb (ix2 r l) = ix2 ⟨t.val * 512 + r.val, by omega⟩ l := by blk_ext [idx0 t]
  frame_out
  rw [pe_point V c t r l (by omega), he]
  rfl

theorem norm_point (t : Fin cfg0.N) (r : Fin 512) (k : Fin 1024) (h : t.val * 512 + r.val < 8192) :
    k0_pay2 (iblk0 V c 0 t) (iblk0 V c 1 t) (ix2 r k) = normed (V c main_arg0) (V c main_v2) (ix2 ⟨t.val * 512 + r.val, h⟩ k) := by
  rw [norm_at]
  have h0 : ∀ k : Fin 1024, (show Vec Ideal S512x1024 .f32 from iblk0 V c 0 t) (ix2 r k)
      = (V c main_arg0) (ix2 ⟨t.val * 512 + r.val, h⟩ k) := fun k => by blk_ext [iblk0, idx0 t]
  have h1 : ∀ k : Fin 1024, (show Vec Ideal S1x1024 .f32 from iblk0 V c 1 t) (ix2 0 k)
      = (V c main_v2) (ix2 0 k) := fun k => by blk_ext [iblk0, idx0 t]
  simp only [h0, h1]
  rfl

theorem out_point (t : Fin cfg0.N) (r : Fin 512) (k : Fin 1024) (h : t.val * 512 + r.val < 8192) :
    k0_pay1 (iblk0 V c 0 t) (k0_pay4 (iblk0 V c 3 t) (iblk0 V c 4 t)) (k0_pay7 (iblk0 V c 0 t) (iblk0 V c 1 t) (iblk0 V c 2 t)) (k0_pay8 (F := Ideal)) (ix2 r k)
      = out (V c main_arg0) (fun j => pe (V c main_arg3) (V c main_v1) (j 0) (j 1)) (fun j => pg (V c main_arg0) (V c main_v2) (V c main_v0) (j 0) (j 1)) (ix2 ⟨t.val * 512 + r.val, h⟩ k) := by
  rw [out_at, pg_point V c t r k h, pe_point V c t r k h]
  have h0 : (show Vec Ideal S512x1024 .f32 from iblk0 V c 0 t) (ix2 r k)
      = (V c main_arg0) (ix2 ⟨t.val * 512 + r.val, h⟩ k) := by blk_ext [iblk0, idx0 t]
  simp only [h0]
  rfl

theorem final_norm : (dat0 V c).arrAt 5 cfg0.N = normed (V c main_arg0) (V c main_v2) := by
  refine (dat0 V c).arrAt_eq_of_covers 5 _ (by decide +kernel) fun t _ y => ?_
  blk_simp
  rw [after0_5]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_5.blk t).view.emb (ix2 r l) = ix2 ⟨t.val * 512 + r.val, by omega⟩ l := by blk_ext [idx0 t]
  frame_out
  rw [he]
  exact norm_point V c t r l (by omega)

theorem final_out : (dat0 V c).arrAt 8 cfg0.N = out (V c main_arg0) (fun j => pe (V c main_arg3) (V c main_v1) (j 0) (j 1)) (fun j => pg (V c main_arg0) (V c main_v2) (V c main_v0) (j 0) (j 1)) := by
  refine (dat0 V c).arrAt_eq_of_covers 8 _ (by decide +kernel) fun t _ y => ?_
  blk_simp
  rw [after0_8]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_8.blk t).view.emb (ix2 r l) = ix2 ⟨t.val * 512 + r.val, by omega⟩ l := by blk_ext [idx0 t]
  frame_out
  rw [he]
  exact out_point V c t r l (by omega)

end Cert.PleIdeal.Value
-- ==== Proof.PleBackward.lean ====
/- What the backward call of the gated embedding computes, block by block. -/
module

public import proofs.«01_k».proof.Proof.Gate
public import proofs.«01_k».proof.Proof.Gen.PleIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen

/-! ## One block -/

theorem dpe_at (v0 : Vec Ideal S512x1024 .f32) (v1 : Vec Ideal S512x1024 .bf16) (r : Fin 512) (k : Fin 1024) :
    k1_pay7 v0 v1 (ix2 r k) = v0 (ix2 r k) * Gate.viaTanh (v1 (ix2 r k)) := by
  pointwise [k1_pay7, k1_pay6]
  rw [Gate.word_half]
  rfl

theorem dpg_at (v0 : Vec Ideal S512x1024 .f32) (v1 v14 : Vec Ideal S512x1024 .bf16) (r : Fin 512) (k : Fin 1024) :
    k1_pay8 v0 v1 v14 (ix2 r k)
      = v0 (ix2 r k) * v14 (ix2 r k) * Gate.viaTanh (v1 (ix2 r k)) * (1 - Gate.viaTanh (v1 (ix2 r k))) := by
  pointwise [k1_pay8, k1_pay6]
  rw [Gate.word_half]
  rfl

theorem dy_at (v0 : Vec Ideal S512x1024 .f32) (v1 v14 : Vec Ideal S512x1024 .bf16) (v24 : Vec Ideal S1024x1024 .bf16)
    (r : Fin 512) (k : Fin 1024) :
    k1_pay9 v0 v1 v14 v24 (ix2 r k) = ∑ q : Fin 1024, k1_pay8 v0 v1 v14 (ix2 r q) * v24 (ix2 k q) := by
  pointwise [k1_pay9]

theorem dx_at (v0 v26 v27 : Vec Ideal S512x1024 .f32) (v28 : Vec Ideal S1x1024 .f32) (r : Fin 512) (l : Fin 1024) :
    k1_pay3 v0 v26 v27 (k1_pay10 v28) (k1_pay11 v27) k1_pay12 (ix2 r l)
      = v0 (ix2 r l) + Norm.gradTiled ((1024 : ℝ) : EReal) (fun k => v27 (ix2 r k))
          (fun k => v26 (ix2 r k) * v28 (ix2 0 k)) l := by
  pointwise [k1_pay3, k1_pay2, k1_pay1, k1_pay10, k1_pay11, k1_pay12]
  rw [Norm.word_1024, Norm.word_eps]
  rfl

theorem dg_at (v26 v27 : Vec Ideal S512x1024 .f32) (v60 : Vec Ideal S1x1024 .f32) (z : Fin 1) (l : Fin 1024) :
    k1_pay5 v26 v27 (k1_pay11 v27) k1_pay12 v60 (ix2 z l)
      = v60 (ix2 z l) + ∑ r : Fin 512, v26 (ix2 r l)
          * (v27 (ix2 r l) * Norm.rstd ((1024 : ℝ) : EReal) (fun k => v27 (ix2 r k))) := by
  pointwise [k1_pay5, k1_pay2, k1_pay1, k1_pay11, k1_pay12]
  rw [Norm.word_1024, Norm.word_eps]
  rfl

theorem zero_at (j) : k1_pay4 (F := Ideal) j = 0 := by pointwise [k1_pay4]

/-! ## The four arrays -/

def dpe (dh : FVec Ideal S8192x1024 .f32) (pg : FVec Ideal S8192x1024 .bf16) : FVec Ideal S8192x1024 .bf16 :=
  fun j => dh j * Gate.viaTanh (pg j)

def dpg (dh : FVec Ideal S8192x1024 .f32) (pg pe : FVec Ideal S8192x1024 .bf16) : FVec Ideal S8192x1024 .bf16 :=
  fun j => dh j * pe j * Gate.viaTanh (pg j) * (1 - Gate.viaTanh (pg j))

/-- The gradient that reaches the normalised rows. -/
def dy (dh : FVec Ideal S8192x1024 .f32) (pg pe : FVec Ideal S8192x1024 .bf16) (w : FVec Ideal S1024x1024 .bf16)
    (r : Fin 8192) (k : Fin 1024) : EReal := ∑ q : Fin 1024, dpg dh pg pe (ix2 r q) * w (ix2 k q)

def dx (dh h : FVec Ideal S8192x1024 .f32) (pg pe : FVec Ideal S8192x1024 .bf16) (ln : FVec Ideal S1x1024 .f32)
    (w : FVec Ideal S1024x1024 .bf16) : FVec Ideal S8192x1024 .f32 :=
  fun j => dh j + Norm.gradTiled ((1024 : ℝ) : EReal) (fun k => h (ix2 (j 0) k)) (fun k => dy dh pg pe w (j 0) k * ln (ix2 0 k)) (j 1)

/-- What row `r` adds to the gradient of the gain at lane `l`. -/
def dgRow (dh h : FVec Ideal S8192x1024 .f32) (pg pe : FVec Ideal S8192x1024 .bf16) (w : FVec Ideal S1024x1024 .bf16)
    (l : Fin 1024) (r : Fin 8192) : EReal :=
  dy dh pg pe w r l * (h (ix2 r l) * Norm.rstd ((1024 : ℝ) : EReal) (fun k => h (ix2 r k)))

def dg (dh h : FVec Ideal S8192x1024 .f32) (pg pe : FVec Ideal S8192x1024 .bf16) (w : FVec Ideal S1024x1024 .bf16) :
    FVec Ideal S1x1024 .f32 := fun j => ∑ r : Fin 8192, dgRow dh h pg pe w (j 1) r

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![t.val, 0]
    ∧ win1_7.index t = ![t.val, 0] ∧ win1_8.index t = ![t.val, 0] ∧ win1_9.index t = ![0, 0] :=
  (by decide +kernel : ∀ t : Fin grid1.N, _)

section Blocks
variable (t : Fin cfg1.N) (r : Fin 512) (k : Fin 1024) (h : t.val * 512 + r.val < 8192)

theorem blk_dh : (show Vec Ideal S512x1024 .f32 from iblk1 V c 0 t) (ix2 r k) = V c main_arg5 (ix2 ⟨t.val * 512 + r.val, h⟩ k) := by
  blk_ext [iblk1, idx1 t]

theorem blk_h : (show Vec Ideal S512x1024 .f32 from iblk1 V c 1 t) (ix2 r k) = V c main_arg0 (ix2 ⟨t.val * 512 + r.val, h⟩ k) := by
  blk_ext [iblk1, idx1 t]

theorem blk_pg : (show Vec Ideal S512x1024 .bf16 from iblk1 V c 2 t) (ix2 r k) = V c main_v3_1 (ix2 ⟨t.val * 512 + r.val, h⟩ k) := by
  blk_ext [iblk1, idx1 t]

theorem blk_pe : (show Vec Ideal S512x1024 .bf16 from iblk1 V c 3 t) (ix2 r k) = V c main_v3_2 (ix2 ⟨t.val * 512 + r.val, h⟩ k) := by
  blk_ext [iblk1, idx1 t]

theorem blk_ln : (show Vec Ideal S1x1024 .f32 from iblk1 V c 4 t) (ix2 0 k) = V c main_v4 (ix2 0 k) := by
  blk_ext [iblk1, idx1 t]

theorem blk_w (q : Fin 1024) : (show Vec Ideal S1024x1024 .bf16 from iblk1 V c 5 t) (ix2 k q) = V c main_v0 (ix2 k q) := by
  blk_ext [iblk1, idx1 t]

theorem dpe_point : k1_pay7 (iblk1 V c 0 t) (iblk1 V c 2 t) (ix2 r k)
    = dpe (V c main_arg5) (V c main_v3_1) (ix2 ⟨t.val * 512 + r.val, h⟩ k) := by
  rw [dpe_at]
  simp only [blk_dh V c t r _ h, blk_pg V c t r _ h]
  rfl

theorem dpg_point : k1_pay8 (iblk1 V c 0 t) (iblk1 V c 2 t) (iblk1 V c 3 t) (ix2 r k)
    = dpg (V c main_arg5) (V c main_v3_1) (V c main_v3_2) (ix2 ⟨t.val * 512 + r.val, h⟩ k) := by
  rw [dpg_at]
  simp only [blk_dh V c t r _ h, blk_pg V c t r _ h, blk_pe V c t r _ h]
  rfl

theorem dy_point : k1_pay9 (iblk1 V c 0 t) (iblk1 V c 2 t) (iblk1 V c 3 t) (iblk1 V c 5 t) (ix2 r k)
    = dy (V c main_arg5) (V c main_v3_1) (V c main_v3_2) (V c main_v0) ⟨t.val * 512 + r.val, h⟩ k := by
  rw [dy_at]
  simp only [dpg_point V c t r _ h, blk_w V c t]
  rfl

theorem dx_point : k1_pay3 (iblk1 V c 0 t) (k1_pay9 (iblk1 V c 0 t) (iblk1 V c 2 t) (iblk1 V c 3 t) (iblk1 V c 5 t))
      (iblk1 V c 1 t) (k1_pay10 (iblk1 V c 4 t)) (k1_pay11 (iblk1 V c 1 t)) k1_pay12 (ix2 r k)
    = dx (V c main_arg5) (V c main_arg0) (V c main_v3_1) (V c main_v3_2) (V c main_v4) (V c main_v0)
        (ix2 ⟨t.val * 512 + r.val, h⟩ k) := by
  rw [dx_at]
  simp only [dy_point V c t r _ h, blk_dh V c t r _ h, blk_h V c t r _ h, blk_ln V c t]
  rfl

end Blocks

theorem dg_point (t : Fin cfg1.N) (hN : t.val < 16) (a : Vec Ideal S1x1024 .f32) (z : Fin 1) (l : Fin 1024) :
    k1_pay5 (k1_pay9 (iblk1 V c 0 t) (iblk1 V c 2 t) (iblk1 V c 3 t) (iblk1 V c 5 t)) (iblk1 V c 1 t)
        (k1_pay11 (iblk1 V c 1 t)) k1_pay12 a (ix2 z l)
      = a (ix2 z l) + ∑ r : Fin 512, dgRow (V c main_arg5) (V c main_arg0) (V c main_v3_1) (V c main_v3_2) (V c main_v0) l
          ⟨t.val * 512 + r.val, by omega⟩ := by
  rw [dg_at]
  congr 1
  refine Fin.sum_fin_congr fun r => ?_
  rw [dy_point V c t r l (by omega)]
  simp only [blk_h V c t r _ (by omega : t.val * 512 + r.val < 8192)]
  rfl

theorem final_dpe : (dat1 V c).arrAt 6 cfg1.N = dpe (V c main_arg5) (V c main_v3_1) := by
  refine (dat1 V c).arrAt_eq_of_covers 6 _ (by decide +kernel) fun t _ y => ?_
  blk_simp
  rw [after1_6]
  have hN : t.val < 16 := lt_of_lt_of_eq t.isLt N_1
  obtain ⟨r, l, rfl⟩ : ∃ (r : Fin 512) (l : Fin 1024), y = ix2 r l := ⟨y 0, y 1, by funext a; fin_cases a <;> rfl⟩
  have he : (win1_6.blk t).view.emb (ix2 r l) = ix2 ⟨t.val * 512 + r.val, by omega⟩ l := by blk_ext [idx1 t]
  rw [he]
  by_cases h : t.val % 16 = 0
  · rw [outsAt1_A V c t h]; frame_out; exact dpe_point V c t r l _
  · rw [outsAt1_B V c t h]; frame_out; exact dpe_point V c t r l _

theorem final_dpg : (dat1 V c).arrAt 7 cfg1.N = dpg (V c main_arg5) (V c main_v3_1) (V c main_v3_2) := by
  refine (dat1 V c).arrAt_eq_of_covers 7 _ (by decide +kernel) fun t _ y => ?_
  blk_simp
  rw [after1_7]
  have hN : t.val < 16 := lt_of_lt_of_eq t.isLt N_1
  obtain ⟨r, l, rfl⟩ : ∃ (r : Fin 512) (l : Fin 1024), y = ix2 r l := ⟨y 0, y 1, by funext a; fin_cases a <;> rfl⟩
  have he : (win1_7.blk t).view.emb (ix2 r l) = ix2 ⟨t.val * 512 + r.val, by omega⟩ l := by blk_ext [idx1 t]
  rw [he]
  by_cases h : t.val % 16 = 0
  · rw [outsAt1_A V c t h]; frame_out; exact dpg_point V c t r l _
  · rw [outsAt1_B V c t h]; frame_out; exact dpg_point V c t r l _

theorem final_dx : (dat1 V c).arrAt 8 cfg1.N
    = dx (V c main_arg5) (V c main_arg0) (V c main_v3_1) (V c main_v3_2) (V c main_v4) (V c main_v0) := by
  refine (dat1 V c).arrAt_eq_of_covers 8 _ (by decide +kernel) fun t _ y => ?_
  blk_simp
  rw [after1_8]
  have hN : t.val < 16 := lt_of_lt_of_eq t.isLt N_1
  obtain ⟨r, l, rfl⟩ : ∃ (r : Fin 512) (l : Fin 1024), y = ix2 r l := ⟨y 0, y 1, by funext a; fin_cases a <;> rfl⟩
  have he : (win1_8.blk t).view.emb (ix2 r l) = ix2 ⟨t.val * 512 + r.val, by omega⟩ l := by blk_ext [idx1 t]
  rw [he]
  by_cases h : t.val % 16 = 0
  · rw [outsAt1_A V c t h]; frame_out; exact dx_point V c t r l _
  · rw [outsAt1_B V c t h]; frame_out; exact dx_point V c t r l _

theorem final_dg : (dat1 V c).arrAt 9 cfg1.N
    = dg (V c main_arg5) (V c main_arg0) (V c main_v3_1) (V c main_v3_2) (V c main_v0) := by
  refine (dat1 V c).arrAt_eq_of_covers 9 _ (by decide +kernel) fun t hf y => ?_
  blk_simp
  have hN : t.val < 16 := lt_of_lt_of_eq t.isLt N_1
  obtain ⟨z, l, rfl⟩ : ∃ (z : Fin 1) (l : Fin 1024), y = ix2 z l := ⟨y 0, y 1, by funext a; fin_cases a <;> rfl⟩
  have he : (win1_9.blk t).view.emb (ix2 z l) = ix2 z l := by blk_ext [idx1 t]
  rw [he, after1_9, Pipeline.eq_sum_fin_of_reset_step_apply_of_flush (fun n h => (outsAt1 V c n h).2.2.2) 16 (fun _ => 0)
    (fun t j => ∑ r : Fin 512, if hb : t.val * 512 + r.val < 8192 then
      dgRow (V c main_arg5) (V c main_arg0) (V c main_v3_1) (V c main_v3_2) (V c main_v0) (j 1) ⟨t.val * 512 + r.val, hb⟩ else 0)
    (fun t h j => ?_) (fun t h j => ?_) t ((flush1_9 t).mp hf) _, zero_add]
  · unfold dg
    refine Fin.sum_mul_add_congr fun s k hl => ?_
    have hs : 16 * (t.val / 16) + s.val = s.val := by omega
    simp only [hs]
    rw [dif_pos (by omega)]
  · have ht : t.val < 16 := lt_of_lt_of_eq t.isLt N_1
    obtain ⟨z, l, rfl⟩ : ∃ (z : Fin 1) (l : Fin 1024), j = ix2 z l := ⟨j 0, j 1, by funext a; fin_cases a <;> rfl⟩
    rw [outsAt1_A V c t h]; frame_out
    rw [dg_point V c t ht, zero_at]
    congr 1
    exact Finset.sum_congr rfl fun r _ => by rw [dif_pos (by omega)]; rfl
  · have ht : t.val < 16 := lt_of_lt_of_eq t.isLt N_1
    obtain ⟨z, l, rfl⟩ : ∃ (z : Fin 1) (l : Fin 1024), j = ix2 z l := ⟨j 0, j 1, by funext a; fin_cases a <;> rfl⟩
    rw [outsAt1_B V c t h]; frame_out
    rw [dg_point V c t ht]
    congr 1
    exact Finset.sum_congr rfl fun r _ => by rw [dif_pos (by omega)]; rfl

end Cert.PleIdeal.Value
-- ==== Proof.PleRun.lean ====
/- The two calls of the gated embedding, run one after the other. -/
module

public import proofs.«01_k».proof.Proof.PleForward
public import proofs.«01_k».proof.Proof.PleBackward

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.PleIdeal.Value

open Cert.PleIdeal Cert.PleIdeal.Gen

/-- A vector as the one row of a matrix. -/
def row (x : FVec Ideal S1024 .f32) : FVec Ideal S1x1024 .f32 := fun j => x (ix1 (j 1))

/-- The saved logits as an array. -/
def pgArr (h : FVec Ideal S8192x1024 .f32) (ln : FVec Ideal S1024 .f32) (w : FVec Ideal S1024x1024 .f32) : FVec Ideal S8192x1024 .bf16 :=
  fun j => pg h (row ln) w (j 0) (j 1)

/-- The saved embedding as an array. -/
def peArr (p : FVec Ideal S8192x256 .f32) (w : FVec Ideal S256x1024 .f32) : FVec Ideal S8192x1024 .bf16 :=
  fun j => pe p w (j 0) (j 1)

variable (m : (ℓ : Loc nD τ sig) → Buf (Elt Ideal) ℓ) (ρ : Dev nD → PrngReg) (c : Dev nD)

/-! ## What the calls find in their arrays -/

theorem in0_v0 : V1 m ρ c main_v0 = (show FVec Ideal S1024x1024 .bf16 from m ((c : Thread nD τ).loc main_arg2)) := by
  show StableHlo.after hostOps0 (W0 m ρ c) _ = _
  after_results
  rfl

theorem in0_v1 : V1 m ρ c main_v1 = (show FVec Ideal S256x1024 .bf16 from m ((c : Thread nD τ).loc main_arg4)) := by
  show StableHlo.after hostOps0 (W0 m ρ c) _ = _
  after_results
  rfl

theorem in0_v2 : V1 m ρ c main_v2 = row (m ((c : Thread nD τ).loc main_arg1)) := by
  show StableHlo.after hostOps0 (W0 m ρ c) _ = _
  after_results
  funext j
  pointwise
  rfl

theorem in1_v4 : V3 m ρ c main_v4 = row (m ((c : Thread nD τ).loc main_arg1)) := by
  show StableHlo.after hostOps1 (W2 m ρ c) _ = _
  after_results
  rw [W2_args m ρ c main_arg1 (by decide)]
  funext j
  pointwise
  rfl

theorem in1_v0 : V3 m ρ c main_v0 = (show FVec Ideal S1024x1024 .bf16 from m ((c : Thread nD τ).loc main_arg2)) :=
  (W3_of m ρ c main_v0 (by decide)).trans ((W2_of m ρ c main_v0 (by decide +kernel)).trans (in0_v0 m ρ c))

theorem in1_pg : V3 m ρ c main_v3_1
    = pgArr (m ((c : Thread nD τ).loc main_arg0)) (m ((c : Thread nD τ).loc main_arg1)) (m ((c : Thread nD τ).loc main_arg2)) := by
  refine (W3_of m ρ c main_v3_1 (by decide)).trans ((W2_arr m ρ c 6).trans ?_)
  rw [final_pg, in0_v0, in0_v2, show V1 m ρ c main_arg0 = m ((c : Thread nD τ).loc main_arg0) from W1_args m ρ c main_arg0 (by decide)]
  rfl

theorem in1_pe : V3 m ρ c main_v3_2
    = peArr (m ((c : Thread nD τ).loc main_arg3)) (m ((c : Thread nD τ).loc main_arg4)) := by
  refine (W3_of m ρ c main_v3_2 (by decide)).trans ((W2_arr m ρ c 7).trans ?_)
  rw [final_pe, in0_v1, show V1 m ρ c main_arg3 = m ((c : Thread nD τ).loc main_arg3) from W1_args m ρ c main_arg3 (by decide)]
  rfl

theorem in1_arg0 : V3 m ρ c main_arg0 = m ((c : Thread nD τ).loc main_arg0) := W3_args m ρ c main_arg0 (by decide)

theorem in1_arg5 : V3 m ρ c main_arg5 = m ((c : Thread nD τ).loc main_arg5) := W3_args m ρ c main_arg5 (by decide)

/-! ## What is left in the results -/

theorem left_main_v5_0 : W4 m ρ c (Proc.devRef .tc main_v5_0)
    = dpe (m ((c : Thread nD τ).loc main_arg5)) (pgArr (m ((c : Thread nD τ).loc main_arg0)) (m ((c : Thread nD τ).loc main_arg1)) (m ((c : Thread nD τ).loc main_arg2))) := by
  refine (W4_arr m ρ c 6).trans ?_
  rw [final_dpe, in1_arg5, in1_pg]

theorem left_main_v5_1 : W4 m ρ c (Proc.devRef .tc main_v5_1)
    = dpg (m ((c : Thread nD τ).loc main_arg5)) (pgArr (m ((c : Thread nD τ).loc main_arg0)) (m ((c : Thread nD τ).loc main_arg1)) (m ((c : Thread nD τ).loc main_arg2))) (peArr (m ((c : Thread nD τ).loc main_arg3)) (m ((c : Thread nD τ).loc main_arg4))) := by
  refine (W4_arr m ρ c 7).trans ?_
  rw [final_dpg, in1_arg5, in1_pg, in1_pe]

theorem left_main_v5_2 : W4 m ρ c (Proc.devRef .tc main_v5_2)
    = dx (m ((c : Thread nD τ).loc main_arg5)) (m ((c : Thread nD τ).loc main_arg0)) (pgArr (m ((c : Thread nD τ).loc main_arg0)) (m ((c : Thread nD τ).loc main_arg1)) (m ((c : Thread nD τ).loc main_arg2))) (peArr (m ((c : Thread nD τ).loc main_arg3)) (m ((c : Thread nD τ).loc main_arg4))) (row (m ((c : Thread nD τ).loc main_arg1))) (m ((c : Thread nD τ).loc main_arg2)) := by
  refine (W4_arr m ρ c 8).trans ?_
  rw [final_dx, in1_arg5, in1_arg0, in1_pg, in1_pe, in1_v4, in1_v0]

theorem left_main_v5_3 : W4 m ρ c (Proc.devRef .tc main_v5_3)
    = dg (m ((c : Thread nD τ).loc main_arg5)) (m ((c : Thread nD τ).loc main_arg0)) (pgArr (m ((c : Thread nD τ).loc main_arg0)) (m ((c : Thread nD τ).loc main_arg1)) (m ((c : Thread nD τ).loc main_arg2))) (peArr (m ((c : Thread nD τ).loc main_arg3)) (m ((c : Thread nD τ).loc main_arg4))) (m ((c : Thread nD τ).loc main_arg2)) := by
  refine (W4_arr m ρ c 9).trans ?_
  rw [final_dg, in1_arg5, in1_arg0, in1_pg, in1_pe, in1_v0]

theorem left_main_v3_0 : W4 m ρ c (Proc.devRef .tc main_v3_0) = normed (m ((c : Thread nD τ).loc main_arg0)) (row (m ((c : Thread nD τ).loc main_arg1))) := by
  refine (W4_of m ρ c main_v3_0 (by decide +kernel)).trans ((W3_of m ρ c main_v3_0 (by decide)).trans ((W2_arr m ρ c 5).trans ?_))
  rw [final_norm, in0_v2, show V1 m ρ c main_arg0 = m ((c : Thread nD τ).loc main_arg0) from W1_args m ρ c main_arg0 (by decide)]

theorem left_main_v3_1 : W4 m ρ c (Proc.devRef .tc main_v3_1) = pgArr (m ((c : Thread nD τ).loc main_arg0)) (m ((c : Thread nD τ).loc main_arg1)) (m ((c : Thread nD τ).loc main_arg2)) :=
  (W4_of m ρ c main_v3_1 (by decide +kernel)).trans (in1_pg m ρ c)

theorem left_main_v3_2 : W4 m ρ c (Proc.devRef .tc main_v3_2) = peArr (m ((c : Thread nD τ).loc main_arg3)) (m ((c : Thread nD τ).loc main_arg4)) :=
  (W4_of m ρ c main_v3_2 (by decide +kernel)).trans (in1_pe m ρ c)

theorem left_main_v3_3 : W4 m ρ c (Proc.devRef .tc main_v3_3) = out (m ((c : Thread nD τ).loc main_arg0)) (peArr (m ((c : Thread nD τ).loc main_arg3)) (m ((c : Thread nD τ).loc main_arg4))) (pgArr (m ((c : Thread nD τ).loc main_arg0)) (m ((c : Thread nD τ).loc main_arg1)) (m ((c : Thread nD τ).loc main_arg2))) := by
  refine (W4_of m ρ c main_v3_3 (by decide +kernel)).trans ((W3_of m ρ c main_v3_3 (by decide)).trans ((W2_arr m ρ c 8).trans ?_))
  rw [final_out, in0_v0, in0_v1, in0_v2, show V1 m ρ c main_arg0 = m ((c : Thread nD τ).loc main_arg0) from W1_args m ρ c main_arg0 (by decide),
    show V1 m ρ c main_arg3 = m ((c : Thread nD τ).loc main_arg3) from W1_args m ρ c main_arg3 (by decide)]
  rfl

/-! ## The launch, with the results -/

/-- Every execution ends with the results above and the arguments as launched. -/
theorem run_main : θ_run defs (onTc (τ := τ) (main (F := Ideal))) ⟨m, fun _ => 0, ρ⟩ (fun r => ∀ c : Dev nD,
      r.2.mem ((c.tc : Thread nD τ).loc main_v5_0) = dpe (m ((c : Thread nD τ).loc main_arg5)) (pgArr (m ((c : Thread nD τ).loc main_arg0)) (m ((c : Thread nD τ).loc main_arg1)) (m ((c : Thread nD τ).loc main_arg2))) ∧
      r.2.mem ((c.tc : Thread nD τ).loc main_v5_1) = dpg (m ((c : Thread nD τ).loc main_arg5)) (pgArr (m ((c : Thread nD τ).loc main_arg0)) (m ((c : Thread nD τ).loc main_arg1)) (m ((c : Thread nD τ).loc main_arg2))) (peArr (m ((c : Thread nD τ).loc main_arg3)) (m ((c : Thread nD τ).loc main_arg4))) ∧
      r.2.mem ((c.tc : Thread nD τ).loc main_v5_2) = dx (m ((c : Thread nD τ).loc main_arg5)) (m ((c : Thread nD τ).loc main_arg0)) (pgArr (m ((c : Thread nD τ).loc main_arg0)) (m ((c : Thread nD τ).loc main_arg1)) (m ((c : Thread nD τ).loc main_arg2))) (peArr (m ((c : Thread nD τ).loc main_arg3)) (m ((c : Thread nD τ).loc main_arg4))) (row (m ((c : Thread nD τ).loc main_arg1))) (m ((c : Thread nD τ).loc main_arg2)) ∧
      r.2.mem ((c.tc : Thread nD τ).loc main_v5_3) = dg (m ((c : Thread nD τ).loc main_arg5)) (m ((c : Thread nD τ).loc main_arg0)) (pgArr (m ((c : Thread nD τ).loc main_arg0)) (m ((c : Thread nD τ).loc main_arg1)) (m ((c : Thread nD τ).loc main_arg2))) (peArr (m ((c : Thread nD τ).loc main_arg3)) (m ((c : Thread nD τ).loc main_arg4))) (m ((c : Thread nD τ).loc main_arg2)) ∧
      r.2.mem ((c.tc : Thread nD τ).loc main_v3_0) = normed (m ((c : Thread nD τ).loc main_arg0)) (row (m ((c : Thread nD τ).loc main_arg1))) ∧
      r.2.mem ((c.tc : Thread nD τ).loc main_v3_1) = pgArr (m ((c : Thread nD τ).loc main_arg0)) (m ((c : Thread nD τ).loc main_arg1)) (m ((c : Thread nD τ).loc main_arg2)) ∧
      r.2.mem ((c.tc : Thread nD τ).loc main_v3_2) = peArr (m ((c : Thread nD τ).loc main_arg3)) (m ((c : Thread nD τ).loc main_arg4)) ∧
      r.2.mem ((c.tc : Thread nD τ).loc main_v3_3) = out (m ((c : Thread nD τ).loc main_arg0)) (peArr (m ((c : Thread nD τ).loc main_arg3)) (m ((c : Thread nD τ).loc main_arg4))) (pgArr (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v5_0 (by decide))).trans (left_main_v5_0 m ρ c),
       (h c _ (mem_uc main_v5_1 (by decide))).trans (left_main_v5_1 m ρ c),
       (h c _ (mem_uc main_v5_2 (by decide))).trans (left_main_v5_2 m ρ c),
       (h c _ (mem_uc main_v5_3 (by decide))).trans (left_main_v5_3 m ρ c),
       (h c _ (mem_uc main_v3_0 (by decide))).trans (left_main_v3_0 m ρ c),
       (h c _ (mem_uc main_v3_1 (by decide))).trans (left_main_v3_1 m ρ c),
       (h c _ (mem_uc main_v3_2 (by decide))).trans (left_main_v3_2 m ρ c),
       (h c _ (mem_uc main_v3_3 (by decide))).trans (left_main_v3_3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.PleIdeal.Value
-- ==== Proof.PleReference.lean ====
/- The reference of the gated embedding's gradient, entry by entry. -/
module

public import proofs.«01_k».proof.Proof.PleRun
public import proofs.«01_k».proof.Proof.Gen.PleReferenceIdeal.Read
public import Idealize.ShloMosaic.Lib.Pointwise

@[expose] public section

set_option maxRecDepth 16384

noncomputable section

open Idealize.ShloMosaic Idealize.ShloMosaic.TcCoe Idealize.SL.Sem

namespace Cert.PleReferenceIdeal.Value

open Cert.PleReferenceIdeal Cert.PleReferenceIdeal.Gen Cert.PleReferenceIdeal.Read

variable (x0 : FVec Ideal S8192x1024 .f32) (x1 : FVec Ideal S1024 .f32) (x2 : FVec Ideal S1024x1024 .f32)
  (x3 : FVec Ideal S8192x256 .f32) (x4 : FVec Ideal S256x1024 .f32) (x5 : FVec Ideal S8192x1024 .f32)

/-- The normalised row. -/
theorem xhat_at (r : Fin 8192) (k : Fin 1024) : val_main_v12 (F := Ideal) x0 (ix2 r k)
    = x0 (ix2 r k) * Norm.rstd ((1024 : ℝ) : EReal) (fun k => x0 (ix2 r k)) := by
  pointwise [val_main_v12, val_main_v11, val_main_v7, val_main_v6, val_main_v4, val_main_v2, val_main_v1, val_main_v0, val_main_cst, val_main_v3, val_main_cst_0, val_main_v5, val_main_cst_1]
  simp only [Norm.word_1024, Norm.word_eps]
  rfl

theorem pg_at (r : Fin 8192) (k : Fin 1024) : val_main_v16 (F := Ideal) x0 x1 x2 (ix2 r k) = Cert.PleIdeal.Value.pgArr x0 x1 x2 (ix2 r k) := by
  pointwise [val_main_v16, val_main_v15, val_main_v14, val_main_v13]
  simp only [xhat_at]
  rfl

theorem pe_at (r : Fin 8192) (k : Fin 1024) : val_main_v17 (F := Ideal) x3 x4 (ix2 r k) = Cert.PleIdeal.Value.peArr x3 x4 (ix2 r k) := by
  pointwise [val_main_v17]
  rfl

theorem norm_eq : Cert.PleIdeal.Value.normed x0 (Cert.PleIdeal.Value.row x1) = val_main_v58 (F := Ideal) x0 x1 := by
  funext j
  obtain ⟨r, l, rfl⟩ : ∃ (r : Fin 8192) (l : Fin 1024), j = ix2 r l := ⟨j 0, j 1, by funext a; fin_cases a <;> rfl⟩
  pointwise [val_main_v58, val_main_v15, val_main_v14, val_main_v13]
  rw [xhat_at]
  rfl

theorem pg_eq : Cert.PleIdeal.Value.pgArr x0 x1 x2 = val_main_v59 (F := Ideal) x0 x1 x2 := by
  funext j
  obtain ⟨r, l, rfl⟩ : ∃ (r : Fin 8192) (l : Fin 1024), j = ix2 r l := ⟨j 0, j 1, by funext a; fin_cases a <;> rfl⟩
  pointwise [val_main_v59]
  exact (pg_at x0 x1 x2 r l).symm

theorem pe_eq : Cert.PleIdeal.Value.peArr x3 x4 = val_main_v60 (F := Ideal) x3 x4 := by
  funext j
  obtain ⟨r, l, rfl⟩ : ∃ (r : Fin 8192) (l : Fin 1024), j = ix2 r l := ⟨j 0, j 1, by funext a; fin_cases a <;> rfl⟩
  pointwise [val_main_v60]
  exact (pe_at x3 x4 r l).symm

theorem gate_at (r : Fin 8192) (k : Fin 1024) : val_main_v23 (F := Ideal) x0 x1 x2 (ix2 r k)
    = Gate.viaExp (Cert.PleIdeal.Value.pgArr x0 x1 x2 (ix2 r k)) := by
  pointwise [val_main_v23, val_main_v22, val_main_cst_4, val_main_v21, val_main_v20, val_main_cst_3, val_main_v19, val_main_v18]
  simp only [pg_at]
  rfl

section Finite
variable (h0 : Norm.Finite x0) (h1 : Norm.Finite x1) (h2 : Norm.Finite x2) (h3 : Norm.Finite x3) (h4 : Norm.Finite x4)
  (h5 : Norm.Finite x5)
include h0 h1 h2

theorem rstd_real (r : Fin 8192) : ∃ v : ℝ, Norm.rstd ((1024 : ℝ) : EReal) (fun k => x0 (ix2 r k)) = v := by
  obtain ⟨y, hy⟩ := Norm.Finite.lift (fun k => h0 (ix2 r k) : Norm.Finite fun k : Fin 1024 => x0 (ix2 r k))
  rw [hy]
  exact ⟨_, Norm.rstd_coe (by norm_num) y⟩

theorem pg_real (r : Fin 8192) (k : Fin 1024) : ∃ v : ℝ, Cert.PleIdeal.Value.pgArr x0 x1 x2 (ix2 r k) = v := by
  unfold Cert.PleIdeal.Value.pgArr Cert.PleIdeal.Value.pg
  exact Norm.real_sum fun q =>
    Norm.real_mul (Norm.real_mul (Norm.real_mul (h0 _) (rstd_real x0 x1 x2 h0 h1 h2 r)) (h1 (ix1 q))) (h2 _)

theorem gate_eq (r : Fin 8192) (k : Fin 1024) : Gate.viaTanh (Cert.PleIdeal.Value.pgArr x0 x1 x2 (ix2 r k))
    = val_main_v23 (F := Ideal) x0 x1 x2 (ix2 r k) := by
  rw [gate_at]
  exact Gate.viaTanh_eq (pg_real x0 x1 x2 h0 h1 h2 r k)

/-- The layer's output. -/
theorem out_eq : Cert.PleIdeal.Value.out x0 (Cert.PleIdeal.Value.peArr x3 x4) (Cert.PleIdeal.Value.pgArr x0 x1 x2) = val_main_v28 (F := Ideal) x0 x1 x2 x3 x4 := by
  funext j
  obtain ⟨r, l, rfl⟩ : ∃ (r : Fin 8192) (l : Fin 1024), j = ix2 r l := ⟨j 0, j 1, by funext a; fin_cases a <;> rfl⟩
  unfold Cert.PleIdeal.Value.out
  rw [gate_eq x0 x1 x2 h0 h1 h2, ← pe_at x3 x4]
  pointwise [val_main_v28, val_main_v27]

/-- The two gradients of the embedding agree. -/
theorem dpe_eq : Cert.PleIdeal.Value.dpe x5 (Cert.PleIdeal.Value.pgArr x0 x1 x2) = val_main_v54 (F := Ideal) x0 x1 x2 x5 := by
  funext j
  obtain ⟨r, l, rfl⟩ : ∃ (r : Fin 8192) (l : Fin 1024), j = ix2 r l := ⟨j 0, j 1, by funext a; fin_cases a <;> rfl⟩
  unfold Cert.PleIdeal.Value.dpe
  rw [gate_eq x0 x1 x2 h0 h1 h2]
  pointwise [val_main_v54, val_main_v31, val_main_v29]

/-- The two gradients of the gate's logits agree. -/
theorem dpg_at (r : Fin 8192) (k : Fin 1024) :
    Cert.PleIdeal.Value.dpg x5 (Cert.PleIdeal.Value.pgArr x0 x1 x2) (Cert.PleIdeal.Value.peArr x3 x4) (ix2 r k)
      = val_main_v32 (F := Ideal) x0 x1 x2 x3 x4 x5 (ix2 r k) := by
  unfold Cert.PleIdeal.Value.dpg
  rw [gate_eq x0 x1 x2 h0 h1 h2, ← pe_at x3 x4]
  pointwise [val_main_v32, val_main_v30, val_main_v29, val_main_v26, val_main_v25, val_main_v24, val_main_cst_5]
  rw [mul_comm (x5 _), mul_assoc]

theorem dpg_eq : Cert.PleIdeal.Value.dpg x5 (Cert.PleIdeal.Value.pgArr x0 x1 x2) (Cert.PleIdeal.Value.peArr x3 x4)
    = val_main_v55 (F := Ideal) x0 x1 x2 x3 x4 x5 := by
  funext j
  obtain ⟨r, l, rfl⟩ : ∃ (r : Fin 8192) (l : Fin 1024), j = ix2 r l := ⟨j 0, j 1, by funext a; fin_cases a <;> rfl⟩
  rw [dpg_at x0 x1 x2 x3 x4 x5 h0 h1 h2]
  pointwise [val_main_v55]

theorem dy_at (r : Fin 8192) (k : Fin 1024) : val_main_v33 (F := Ideal) x0 x1 x2 x3 x4 x5 (ix2 r k)
    = Cert.PleIdeal.Value.dy x5 (Cert.PleIdeal.Value.pgArr x0 x1 x2) (Cert.PleIdeal.Value.peArr x3 x4) x2 r k := by
  pointwise [val_main_v33]
  simp only [← dpg_at x0 x1 x2 x3 x4 x5 h0 h1 h2]
  rfl

include h3 h4 h5

theorem dpg_real (r : Fin 8192) (k : Fin 1024) :
    ∃ v : ℝ, Cert.PleIdeal.Value.dpg x5 (Cert.PleIdeal.Value.pgArr x0 x1 x2) (Cert.PleIdeal.Value.peArr x3 x4) (ix2 r k) = v := by
  have hp : ∃ v : ℝ, Cert.PleIdeal.Value.peArr x3 x4 (ix2 r k) = v := by
    unfold Cert.PleIdeal.Value.peArr Cert.PleIdeal.Value.pe
    exact Norm.real_sum fun q => Norm.real_mul (h3 _) (h4 _)
  have hs := Gate.viaTanh_real (pg_real x0 x1 x2 h0 h1 h2 r k)
  exact Norm.real_mul (Norm.real_mul (Norm.real_mul (h5 _) hp) hs) (Gate.one_sub_real hs)

theorem dx_at (r : Fin 8192) (l : Fin 1024) (d : Fin 1024 → EReal)
    (hd : ∀ k, val_main_v33 (F := Ideal) x0 x1 x2 x3 x4 x5 (ix2 r k) = d k) :
    val_main_v56 (F := Ideal) x0 x1 x2 x3 x4 x5 (ix2 r l)
      = x5 (ix2 r l) + ((fun k => d k * x1 (ix1 k)) l
            * Norm.rstd ((1024 : ℝ) : EReal) (fun k => x0 (ix2 r k))
          + x0 (ix2 r l) * Norm.spread ((1024 : ℝ) : EReal) (fun k => x0 (ix2 r k)) (fun k => d k * x1 (ix1 k))
          + Norm.spread ((1024 : ℝ) : EReal) (fun k => x0 (ix2 r k)) (fun k => d k * x1 (ix1 k)) * x0 (ix2 r l)) := by
  pointwise [val_main_v56, val_main_v53, val_main_v51, val_main_v44, val_main_v43, val_main_v38, val_main_v37, val_main_v13, val_main_v50, val_main_v49, val_main_v48, val_main_cst_10, val_main_v47, val_main_v46, val_main_cst_9, val_main_v45, val_main_v42, val_main_v41, val_main_cst_8, val_main_v40, val_main_v10, val_main_v9, val_main_cst_2, val_main_v8, val_main_v52, val_main_v7, val_main_v6, val_main_v4, val_main_v2, val_main_v1, val_main_v0, val_main_cst, val_main_v3, val_main_cst_0, val_main_v5, val_main_cst_1]
  simp only [Norm.word_1024, Norm.word_eps, Norm.word_neg_half, Fin.sum_univ_one, Finset.univ_unique, Finset.sum_singleton, hd]
  rfl

/-- The two gradients of the rows agree. -/
theorem dx_eq : Cert.PleIdeal.Value.dx x5 x0 (Cert.PleIdeal.Value.pgArr x0 x1 x2) (Cert.PleIdeal.Value.peArr x3 x4)
      (Cert.PleIdeal.Value.row x1) x2
    = val_main_v56 (F := Ideal) x0 x1 x2 x3 x4 x5 := by
  funext j
  obtain ⟨r, l, rfl⟩ : ∃ (r : Fin 8192) (l : Fin 1024), j = ix2 r l := ⟨j 0, j 1, by funext a; fin_cases a <;> rfl⟩
  rw [dx_at x0 x1 x2 x3 x4 x5 h0 h1 h2 h3 h4 h5 r l _ (dy_at x0 x1 x2 x3 x4 x5 h0 h1 h2 r)]
  exact congrArg (x5 (ix2 r l) + ·) (Norm.gradTiled_eq (by norm_num : (0 : ℝ) < 1024) (fun k => h0 _)
    (fun k => Norm.real_mul (Norm.real_sum fun q => Norm.real_mul (dpg_real x0 x1 x2 x3 x4 x5 h0 h1 h2 h3 h4 h5 r q) (h2 _)) (h1 _)) l)

omit h3 h4 h5 in
/-- The two gradients of the gain agree. -/
theorem dg_eq : Cert.PleIdeal.Value.dg x5 x0 (Cert.PleIdeal.Value.pgArr x0 x1 x2) (Cert.PleIdeal.Value.peArr x3 x4) x2
    = val_main_v57 (F := Ideal) x0 x1 x2 x3 x4 x5 := by
  funext j
  obtain ⟨z, l, rfl⟩ : ∃ (z : Fin 1) (l : Fin 1024), j = ix2 z l := ⟨j 0, j 1, by funext a; fin_cases a <;> rfl⟩
  pointwise [val_main_v57, val_main_v39, val_main_v36, val_main_cst_7, val_main_v35, val_main_cst_6, val_main_v34]
  simp only [Fin.sum_univ_one, Finset.univ_unique, Finset.sum_singleton, xhat_at, dy_at x0 x1 x2 x3 x4 x5 h0 h1 h2]
  unfold Cert.PleIdeal.Value.dg Cert.PleIdeal.Value.dgRow
  simp only [mul_comm]
  rfl

end Finite

end Cert.PleReferenceIdeal.Value
-- ==== Proof.Ple.lean ====
/- The claims about the gradient of the gated embedding. -/
module

public import proofs.«01_k».proof.Defs
public import proofs.«01_k».proof.Proof.Tame
public import proofs.«01_k».proof.Proof.PleReference
public import proofs.«01_k».proof.Proof.Gen.Ple.Frame
public import proofs.«01_k».proof.Proof.Gen.PleReferenceIdeal
public import proofs.«01_k».proof.Proof.Gen.Pre_finite_ple

@[expose] public section

set_option maxRecDepth 16384

noncomputable section

open Idealize.ShloMosaic Idealize.ShloMosaic.TcCoe Idealize.SL.Sem

namespace Cert.PleClaims

instance : Cert.Ple.Facts := Cert.Ple.Gen.facts
instance : Cert.PleIdeal.Facts := Cert.PleIdeal.Gen.facts
instance : Cert.PleReferenceIdeal.Facts := Cert.PleReferenceIdeal.Gen.facts
instance : Cert.Pre_finite_ple.Facts := Cert.Pre_finite_ple.Gen.facts

theorem finite_args (x0 x1 x2 x3 x4 x5) (h : Cert.Pre_finite_ple.fn (F := Ideal) x0 x1 x2 x3 x4 x5 = fun _ => 1#1) :
    Norm.Finite x0 ∧ Norm.Finite x1 ∧ Norm.Finite x2 ∧ Norm.Finite x3 ∧ Norm.Finite x4 ∧ Norm.Finite x5 := by
  have e := congrFun h default
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨Norm.finite_of_all x0 _ Norm.word_inf _ _ _ _ _ _ e0,
    Norm.finite_of_all x1 _ Norm.word_inf _ _ _ _ _ _ e1,
    Norm.finite_of_all x2 _ Norm.word_inf _ _ _ _ _ _ e2,
    Norm.finite_of_all x3 _ Norm.word_inf _ _ _ _ _ _ e3,
    Norm.finite_of_all x4 _ Norm.word_inf _ _ _ _ _ _ e4,
    Norm.finite_of_all x5 _ Norm.word_inf _ _ _ _ _ _ e5⟩

theorem frame : Cert.quiescent_Ple := fun m ρ _ => Cert.Ple.Gen.frame m ρ

theorem frameIdeal : Cert.quiescent_PleIdeal := fun m ρ _ => Cert.PleIdeal.Gen.frame m ρ

theorem frameIdealFinite : Cert.quiescent_PleIdeal_pre_finite_ple := fun m ρ _ => Cert.PleIdeal.Gen.frame m ρ

theorem frameReference : Cert.quiescent_PleReferenceIdeal := by
  intro m ρ _
  refine (θ_run _ _ _).mono (fun r h => ⟨fun c => ?_, sem_eq_zero_of_no_sems (by decide) r.2⟩)
    (Cert.PleReferenceIdeal.Value.run (F := Ideal) m ρ)
  exact (h c).2.2.2.2.2.2.2.2

theorem frameReferenceFinite : Cert.quiescent_PleReferenceIdeal_pre_finite_ple := fun m ρ _ => frameReference m ρ trivial

set_option maxHeartbeats 1600000 in
theorem algebraic : Cert.algebraic_PleIdeal_PleReferenceIdeal_pre_finite_ple := by
  pair_intro
  · run_from Cert.PleIdeal.Value.run_main m g
  · run_from Cert.PleReferenceIdeal.Value.run m' g'
    · obtain ⟨h0, h1, h2, h3, h4, h5⟩ := finite_args _ _ _ _ _ _ (hpre c)
      refine (Cert.PleReferenceIdeal.Read.val_main_v54_eq (F := Ideal)
        (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg5))).trans ?_
      exact (Cert.PleReferenceIdeal.Value.dpe_eq _ _ _ _ h0 h1 h2).symm
    · obtain ⟨h0, h1, h2, h3, h4, h5⟩ := finite_args _ _ _ _ _ _ (hpre c)
      refine (Cert.PleReferenceIdeal.Read.val_main_v55_eq (F := Ideal)
        (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg3)) (m ((c.tc : Thread _ _).loc Cert.PleIdeal.main_arg4)) (m ((c.tc : Thread _ _).loc Cert.PleIdeal.main_arg5))).trans ?_
      exact (Cert.PleReferenceIdeal.Value.dpg_eq _ _ _ _ _ _ h0 h1 h2).symm
    · obtain ⟨h0, h1, h2, h3, h4, h5⟩ := finite_args _ _ _ _ _ _ (hpre c)
      obtain ⟨a0, a1, a2, a3, a4, a5⟩ := hagree c
      rw [Cert.PleReferenceIdeal.Read.val_main_v56_eq, a0, a1, a2, a3, a4, a5]
      exact (Cert.PleReferenceIdeal.Value.dx_eq _ _ _ _ _ _ h0 h1 h2 h3 h4 h5).symm
    · obtain ⟨h0, h1, h2, h3, h4, h5⟩ := finite_args _ _ _ _ _ _ (hpre c)
      refine (Cert.PleReferenceIdeal.Read.val_main_v57_eq (F := Ideal)
        (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg3)) (m ((c.tc : Thread _ _).loc Cert.PleIdeal.main_arg4)) (m ((c.tc : Thread _ _).loc Cert.PleIdeal.main_arg5))).trans ?_
      exact (Cert.PleReferenceIdeal.Value.dg_eq _ _ _ _ _ _ h0 h1 h2).symm
    · refine (Cert.PleReferenceIdeal.Read.val_main_v58_eq (F := Ideal)
        (m ((c.tc : Thread _ _).loc Cert.PleIdeal.main_arg0)) (m ((c.tc : Thread _ _).loc Cert.PleIdeal.main_arg1))).trans ?_
      exact (Cert.PleReferenceIdeal.Value.norm_eq _ _).symm
    · refine (Cert.PleReferenceIdeal.Read.val_main_v59_eq (F := Ideal)
        (m ((c.tc : Thread _ _).loc Cert.PleIdeal.main_arg0)) (m ((c.tc : Thread _ _).loc Cert.PleIdeal.main_arg1)) (m ((c.tc : Thread _ _).loc Cert.PleIdeal.main_arg2))).trans ?_
      exact (Cert.PleReferenceIdeal.Value.pg_eq _ _ _).symm
    · refine (Cert.PleReferenceIdeal.Read.val_main_v60_eq (F := Ideal)
        (m ((c.tc : Thread _ _).loc Cert.PleIdeal.main_arg3)) (m ((c.tc : Thread _ _).loc Cert.PleIdeal.main_arg4))).trans ?_
      exact (Cert.PleReferenceIdeal.Value.pe_eq _ _).symm
    · obtain ⟨h0, h1, h2, h3, h4, h5⟩ := finite_args _ _ _ _ _ _ (hpre c)
      refine (Cert.PleReferenceIdeal.Read.val_main_v28_eq (F := Ideal)
        (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg3)) (m ((c.tc : Thread _ _).loc Cert.PleIdeal.main_arg4))).trans ?_
      exact (Cert.PleReferenceIdeal.Value.out_eq _ _ _ _ _ h0 h1 h2).symm

end Cert.PleClaims
-- ==== Proof.MixOutForward.lean ====
/- What the forward call of the mixing product leaves for the backward call, block by block. -/
module

public import proofs.«01_k».proof.Proof.Norm
public import proofs.«01_k».proof.Proof.Gen.MixOutIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

/-! ## A row of 1024 lanes in two halves -/

/-- Two rows of 512 lanes side by side. -/
def half (a b : Fin 512 → EReal) (q : Fin 1024) : EReal :=
  if h : q.val < 512 then a ⟨q.val, h⟩ else b ⟨q.val - 512, by omega⟩

/-- The left half of a row. -/
def lo (x : FVec Ideal S8192x1024 .bf16) (r : Fin 8192) (k : Fin 512) : EReal := x (ix2 r ⟨k.val, by omega⟩)

/-- The right half of a row. -/
def hi (x : FVec Ideal S8192x1024 .bf16) (r : Fin 8192) (k : Fin 512) : EReal := x (ix2 r ⟨512 + k.val, by omega⟩)

theorem half_lo (a b : Fin 512 → EReal) (k : Fin 512) : half a b ⟨k.val, by omega⟩ = a k :=
  dif_pos k.isLt

theorem half_hi (a b : Fin 512 → EReal) (k : Fin 512) : half a b ⟨512 + k.val, by omega⟩ = b k := by
  unfold half
  rw [dif_neg (by simp)]
  exact congrArg b (Fin.ext (by simp))

theorem half_real {a b : Fin 512 → EReal} (ha : Norm.Finite a) (hb : Norm.Finite b) : Norm.Finite (half a b) := by
  intro q
  unfold half
  split
  · exact ha _
  · exact hb _

/-! ## One block -/

theorem mix_at (v0 : Vec Ideal S512x512 .bf16) (v2 : Vec Ideal S1x512 .f32) (v16 : Vec Ideal S512x512 .bf16)
    (v18 : Vec Ideal S1x512 .f32) (v35 : Vec Ideal S1024x1024 .bf16) (r : Fin 512) (k : Fin 1024) :
    k0_pay4 v0 v2 v16 v18 v35 (ix2 r k)
      = ∑ a : Fin 512, v0 (ix2 r a) * Norm.rstd ((512 : ℝ) : EReal) (fun k => v0 (ix2 r k)) * v2 (ix2 0 a) * v35 (ix2 ⟨a.val, by omega⟩ k)
        + ∑ a : Fin 512, v16 (ix2 r a) * Norm.rstd ((512 : ℝ) : EReal) (fun k => v16 (ix2 r k)) * v18 (ix2 0 a) * v35 (ix2 ⟨512 + a.val, by omega⟩ k) := by
  pointwise [k0_pay4, k0_pay3, k0_pay2]
  rw [Norm.word_512, Norm.word_eps]
  rfl

theorem heads_at (v0 : Vec Ideal S512x512 .bf16) (v2 : Vec Ideal S1x512 .f32) (v16 : Vec Ideal S512x512 .bf16)
    (v18 : Vec Ideal S1x512 .f32) (r : Fin 512) (k : Fin 1024) :
    k0_pay2 v0 v2 v16 v18 (ix2 r k)
      = half (fun a => v0 (ix2 r a) * Norm.rstd ((512 : ℝ) : EReal) (fun k => v0 (ix2 r k)) * v2 (ix2 0 a))
          (fun a => v16 (ix2 r a) * Norm.rstd ((512 : ℝ) : EReal) (fun k => v16 (ix2 r k)) * v18 (ix2 0 a)) k := by
  pointwise [k0_pay2]
  rw [Norm.word_512, Norm.word_eps]
  rfl

theorem out_at (v0 : Vec Ideal S512x512 .bf16) (v2 : Vec Ideal S1x512 .f32) (v16 : Vec Ideal S512x512 .bf16)
    (v18 : Vec Ideal S1x512 .f32) (v35 : Vec Ideal S1024x1024 .bf16) (v40 : Vec Ideal S512x1024 .f32) (v41 : Vec Ideal S1x1024 .f32)
    (r : Fin 512) (k : Fin 1024) :
    k0_pay1 (k0_pay3 v0 v2 v16 v18 v35) v40 v41 (ix2 r k)
      = v40 (ix2 r k) + k0_pay4 v0 v2 v16 v18 v35 (ix2 r k)
          * Norm.rstd ((1024 : ℝ) : EReal) (fun k => k0_pay4 v0 v2 v16 v18 v35 (ix2 r k)) * v41 (ix2 0 k) := by
  pointwise [k0_pay1]
  rw [Norm.word_1024, Norm.word_eps]
  rfl

/-! ## The saved arrays -/

/-- The mixing product of the normalised halves times their gains. -/
def mix (am : FVec Ideal S8192x1024 .bf16) (ga gg : FVec Ideal S1x512 .f32) (w : FVec Ideal S1024x1024 .bf16)
    (r : Fin 8192) (k : Fin 1024) : EReal :=
  ∑ a : Fin 512, lo am r a * Norm.rstd ((512 : ℝ) : EReal) (lo am r) * ga (ix2 0 a) * w (ix2 ⟨a.val, by omega⟩ k)
    + ∑ a : Fin 512, hi am r a * Norm.rstd ((512 : ℝ) : EReal) (hi am r) * gg (ix2 0 a) * w (ix2 ⟨512 + a.val, by omega⟩ k)

/-- The two normalised halves side by side. -/
def heads (am : FVec Ideal S8192x1024 .bf16) (ga gg : FVec Ideal S1x512 .f32) : FVec Ideal S8192x1024 .bf16 := fun j =>
  half (fun a => lo am (j 0) a * Norm.rstd ((512 : ℝ) : EReal) (lo am (j 0)) * ga (ix2 0 a))
    (fun a => hi am (j 0) a * Norm.rstd ((512 : ℝ) : EReal) (hi am (j 0)) * gg (ix2 0 a)) (j 1)

/-- The layer's input plus the normalised product. -/
def out (h : FVec Ideal S8192x1024 .f32) (x : FVec Ideal S8192x1024 .bf16) (ln : FVec Ideal S1x1024 .f32) : FVec Ideal S8192x1024 .f32 :=
  fun j => h j + x j * Norm.rstd ((1024 : ℝ) : EReal) (fun k => x (ix2 (j 0) k)) * ln (ix2 0 (j 1))

variable (V : (c : Dev nD) → (b : Ref sig .tc) → Buf (Elt Ideal) ((c : Thread nD τ).loc b)) (c : Dev nD)

theorem idx0 : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem mix_point (t : Fin cfg0.N) (r : Fin 512) (k : Fin 1024) (h : t.val * 512 + r.val < 8192) :
    k0_pay4 (View.ld (iblk0 V c 0 t) r0_0) (iblk0 V c 2 t) (View.ld (iblk0 V c 0 t) r0_2) (iblk0 V c 3 t) (iblk0 V c 4 t) (ix2 r k)
      = mix (V c main_arg0) (V c main_v1) (V c main_v2) (V c main_v0) ⟨t.val * 512 + r.val, h⟩ k := by
  rw [mix_at]
  unfold mix
  have h0 : ∀ a : Fin 512, (View.ld (iblk0 V c 0 t) r0_0 : Vec Ideal S512x512 .bf16) (ix2 r a)
      = lo (V c main_arg0) ⟨t.val * 512 + r.val, h⟩ a := fun a => by unfold lo; pointwise; blk_ext [iblk0, idx0 t]
  have h1 : ∀ a : Fin 512, (View.ld (iblk0 V c 0 t) r0_2 : Vec Ideal S512x512 .bf16) (ix2 r a)
      = hi (V c main_arg0) ⟨t.val * 512 + r.val, h⟩ a := fun a => by unfold hi; pointwise; blk_ext [iblk0, idx0 t]
  have h2 : ∀ a : Fin 512, (show Vec Ideal S1x512 .f32 from iblk0 V c 2 t) (ix2 0 a) = (V c main_v1) (ix2 0 a) :=
    fun a => by blk_ext [iblk0, idx0 t]
  have h3 : ∀ a : Fin 512, (show Vec Ideal S1x512 .f32 from iblk0 V c 3 t) (ix2 0 a) = (V c main_v2) (ix2 0 a) :=
    fun a => by blk_ext [iblk0, idx0 t]
  have h4 : ∀ q k : Fin 1024, (show Vec Ideal S1024x1024 .bf16 from iblk0 V c 4 t) (ix2 q k) = (V c main_v0) (ix2 q k) :=
    fun q k => by blk_ext [iblk0, idx0 t]
  simp only [h0, h1, h2, h3, h4]

theorem final_mix : (dat0 V c).arrAt 7 cfg0.N
    = (show FVec Ideal S8192x1024 .bf16 from fun j => mix (V c main_arg0) (V c main_v1) (V c main_v2) (V c main_v0) (j 0) (j 1)) := by
  refine (dat0 V c).arrAt_eq_of_covers 7 _ (by decide +kernel) fun t _ y => ?_
  blk_simp
  rw [after0_7]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_7.blk t).view.emb (ix2 r l) = ix2 ⟨t.val * 512 + r.val, by omega⟩ l := by blk_ext [idx0 t]
  frame_out
  rw [he]
  exact mix_point V c t r l (by omega)

theorem heads_point (t : Fin cfg0.N) (r : Fin 512) (k : Fin 1024) (h : t.val * 512 + r.val < 8192) :
    k0_pay2 (View.ld (iblk0 V c 0 t) r0_0) (iblk0 V c 2 t) (View.ld (iblk0 V c 0 t) r0_2) (iblk0 V c 3 t) (ix2 r k)
      = heads (V c main_arg0) (V c main_v1) (V c main_v2) (ix2 ⟨t.val * 512 + r.val, h⟩ k) := by
  rw [heads_at]
  have h0 : ∀ a : Fin 512, (View.ld (iblk0 V c 0 t) r0_0 : Vec Ideal S512x512 .bf16) (ix2 r a)
      = lo (V c main_arg0) ⟨t.val * 512 + r.val, h⟩ a := fun a => by unfold lo; pointwise; blk_ext [iblk0, idx0 t]
  have h1 : ∀ a : Fin 512, (View.ld (iblk0 V c 0 t) r0_2 : Vec Ideal S512x512 .bf16) (ix2 r a)
      = hi (V c main_arg0) ⟨t.val * 512 + r.val, h⟩ a := fun a => by unfold hi; pointwise; blk_ext [iblk0, idx0 t]
  have h2 : ∀ a : Fin 512, (show Vec Ideal S1x512 .f32 from iblk0 V c 2 t) (ix2 0 a) = (V c main_v1) (ix2 0 a) :=
    fun a => by blk_ext [iblk0, idx0 t]
  have h3 : ∀ a : Fin 512, (show Vec Ideal S1x512 .f32 from iblk0 V c 3 t) (ix2 0 a) = (V c main_v2) (ix2 0 a) :=
    fun a => by blk_ext [iblk0, idx0 t]
  simp only [h0, h1, h2, h3]
  rfl

theorem out_point (t : Fin cfg0.N) (r : Fin 512) (k : Fin 1024) (h : t.val * 512 + r.val < 8192) :
    k0_pay1 (k0_pay3 (View.ld (iblk0 V c 0 t) r0_0) (iblk0 V c 2 t) (View.ld (iblk0 V c 0 t) r0_2) (iblk0 V c 3 t) (iblk0 V c 4 t)) (iblk0 V c 1 t) (iblk0 V c 5 t) (ix2 r k)
      = out (V c main_arg1) (fun j => mix (V c main_arg0) (V c main_v1) (V c main_v2) (V c main_v0) (j 0) (j 1)) (V c main_v3) (ix2 ⟨t.val * 512 + r.val, h⟩ k) := by
  rw [out_at]
  have h1 : (show Vec Ideal S512x1024 .f32 from iblk0 V c 1 t) (ix2 r k) = (V c main_arg1) (ix2 ⟨t.val * 512 + r.val, h⟩ k) := by blk_ext [iblk0, idx0 t]
  have h5 : (show Vec Ideal S1x1024 .f32 from iblk0 V c 5 t) (ix2 0 k) = (V c main_v3) (ix2 0 k) := by blk_ext [iblk0, idx0 t]
  simp only [mix_point V c t r _ h, h1, h5]
  rfl

theorem final_heads : (dat0 V c).arrAt 6 cfg0.N = heads (V c main_arg0) (V c main_v1) (V c main_v2) := by
  refine (dat0 V c).arrAt_eq_of_covers 6 _ (by decide +kernel) fun t _ y => ?_
  blk_simp
  rw [after0_6]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_6.blk t).view.emb (ix2 r l) = ix2 ⟨t.val * 512 + r.val, by omega⟩ l := by blk_ext [idx0 t]
  frame_out
  rw [he]
  exact heads_point V c t r l (by omega)

theorem final_out : (dat0 V c).arrAt 8 cfg0.N = out (V c main_arg1) (fun j => mix (V c main_arg0) (V c main_v1) (V c main_v2) (V c main_v0) (j 0) (j 1)) (V c main_v3) := by
  refine (dat0 V c).arrAt_eq_of_covers 8 _ (by decide +kernel) fun t _ y => ?_
  blk_simp
  rw [after0_8]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : (win0_8.blk t).view.emb (ix2 r l) = ix2 ⟨t.val * 512 + r.val, by omega⟩ l := by blk_ext [idx0 t]
  frame_out
  rw [he]
  exact out_point V c t r l (by omega)

end Cert.MixOutIdeal.Value
-- ==== Proof.MixOutBackward.lean ====
/- What the backward call of the mixing product computes, block by block. -/
module

public import proofs.«01_k».proof.Proof.Norm
public import proofs.«01_k».proof.Proof.Gen.MixOutIdeal.Frame
public import Idealize.ShloMosaic.Lib.Claim
public import Idealize.ShloMosaic.Lib.Pointwise
public import Idealize.ShloMosaic.Lib.Pipeline.ValueKit
public import proofs.«01_k».proof.Proof.MixOutForward

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

/-! ## One block -/

theorem dmix_at (v0 : Vec Ideal S512x1024 .f32) (v1 : Vec Ideal S512x1024 .bf16) (v4 : Vec Ideal S1x1024 .f32)
    (r : Fin 512) (l : Fin 1024) :
    k1_pay8 v0 v1 v4 (ix2 r l) = Norm.gradTiled ((1024 : ℝ) : EReal) (fun k => v1 (ix2 r k))
      (fun k => v0 (ix2 r k) * v4 (ix2 0 k)) l := by
  pointwise [k1_pay8, k1_pay5, k1_pay4, k1_pay3]
  rw [Norm.word_1024, Norm.word_eps]
  rfl

theorem dgp_at (v0 : Vec Ideal S512x1024 .f32) (v1 : Vec Ideal S512x1024 .bf16) (v34 : Vec Ideal S1x1024 .f32)
    (z : Fin 1) (l : Fin 1024) :
    k1_pay7 v0 v1 v34 (ix2 z l) = v34 (ix2 z l) + ∑ r : Fin 512, v0 (ix2 r l)
      * (v1 (ix2 r l) * Norm.rstd ((1024 : ℝ) : EReal) (fun k => v1 (ix2 r k))) := by
  pointwise [k1_pay7, k1_pay5, k1_pay4, k1_pay3]
  rw [Norm.word_1024, Norm.word_eps]
  rfl

theorem dheads_at (v38 : Vec Ideal S512x1024 .bf16) (v40 : Vec Ideal S1024x1024 .bf16) (r : Fin 512) (k : Fin 1024) :
    k1_pay9 v38 v40 (ix2 r k) = ∑ q : Fin 1024, v38 (ix2 r q) * v40 (ix2 k q) := by
  pointwise [k1_pay9]

theorem left_at (v38 : Vec Ideal S512x1024 .bf16) (v40 : Vec Ideal S1024x1024 .bf16) (r k : Fin 512) :
    k1_pay10 v38 v40 (ix2 r k) = k1_pay9 v38 v40 (ix2 r ⟨k.val, by omega⟩) := by
  pointwise [k1_pay10]
  blk_ext

theorem right_at (v38 : Vec Ideal S512x1024 .bf16) (v40 : Vec Ideal S1024x1024 .bf16) (r k : Fin 512) :
    k1_pay16 v38 v40 (ix2 r k) = k1_pay9 v38 v40 (ix2 r ⟨512 + k.val, by omega⟩) := by
  pointwise [k1_pay16]
  blk_ext

theorem dleft_at (v38 : Vec Ideal S512x1024 .bf16) (v40 : Vec Ideal S1024x1024 .bf16) (v44 : Vec Ideal S512x512 .bf16)
    (v46 : Vec Ideal S1x512 .f32) (r l : Fin 512) :
    k1_pay23 (k1_pay15 v38 v40 v44 v46) (ix2 r l) = Norm.gradTiled ((512 : ℝ) : EReal) (fun k => v44 (ix2 r k))
      (fun k => k1_pay10 v38 v40 (ix2 r k) * v46 (ix2 0 k)) l := by
  pointwise [k1_pay23, k1_pay15, k1_pay13, k1_pay12, k1_pay11]
  rw [Norm.word_512, Norm.word_eps]
  rfl

theorem dright_at (v73 : Vec Ideal S512x512 .f32) (v74 : Vec Ideal S512x512 .bf16) (v76 : Vec Ideal S1x512 .f32)
    (r l : Fin 512) :
    k1_pay24 v73 (k1_pay17 v74) (k1_pay18 v76) (k1_pay19 v74) (ix2 r l)
      = Norm.gradTiled ((512 : ℝ) : EReal) (fun k => v74 (ix2 r k)) (fun k => v73 (ix2 r k) * v76 (ix2 0 k)) l := by
  pointwise [k1_pay24, k1_pay17, k1_pay18, k1_pay19, k1_pay20, k1_pay21]
  rw [Norm.word_512, Norm.word_eps]
  rfl

theorem dga_at (v38 : Vec Ideal S512x1024 .bf16) (v40 : Vec Ideal S1024x1024 .bf16) (v44 : Vec Ideal S512x512 .bf16)
    (v110 : Vec Ideal S1x512 .f32) (z : Fin 1) (l : Fin 512) :
    k1_pay26 (k1_pay14 v38 v40 v44) v110 (ix2 z l) = v110 (ix2 z l) + ∑ r : Fin 512, k1_pay10 v38 v40 (ix2 r l)
      * (v44 (ix2 r l) * Norm.rstd ((512 : ℝ) : EReal) (fun k => v44 (ix2 r k))) := by
  pointwise [k1_pay26, k1_pay14, k1_pay13, k1_pay12, k1_pay11]
  rw [Norm.word_512, Norm.word_eps]
  rfl

theorem dgg_at (v73 : Vec Ideal S512x512 .f32) (v74 : Vec Ideal S512x512 .bf16) (v117 : Vec Ideal S1x512 .f32)
    (z : Fin 1) (l : Fin 512) :
    k1_pay2 (k1_pay22 v73 (k1_pay17 v74) (k1_pay19 v74)) v117 (ix2 z l) = v117 (ix2 z l) + ∑ r : Fin 512, v73 (ix2 r l)
      * (v74 (ix2 r l) * Norm.rstd ((512 : ℝ) : EReal) (fun k => v74 (ix2 r k))) := by
  pointwise [k1_pay2, k1_pay22, k1_pay17, k1_pay19, k1_pay20, k1_pay21]
  rw [Norm.word_512, Norm.word_eps]
  rfl

theorem zero_gp (j) : k1_pay6 (F := Ideal) j = 0 := by pointwise [k1_pay6]

theorem zero_ga (j) : k1_pay25 (F := Ideal) j = 0 := by pointwise [k1_pay25]

theorem zero_gg (j) : k1_pay1 (F := Ideal) j = 0 := by pointwise [k1_pay1]

/-! ## The five arrays -/

/-- The gradient of the mixing product. -/
def dmix (dh : FVec Ideal S8192x1024 .f32) (mx : FVec Ideal S8192x1024 .bf16) (lp : FVec Ideal S1x1024 .f32) : FVec Ideal S8192x1024 .bf16 :=
  fun j => Norm.gradTiled ((1024 : ℝ) : EReal) (fun k => mx (ix2 (j 0) k)) (fun k => dh (ix2 (j 0) k) * lp (ix2 0 k)) (j 1)

/-- The gradient that reaches the normalised halves. -/
def dheads (d : FVec Ideal S8192x1024 .bf16) (w : FVec Ideal S1024x1024 .bf16) (r : Fin 8192) (k : Fin 1024) : EReal :=
  ∑ q : Fin 1024, d (ix2 r q) * w (ix2 k q)

/-- Its left half. -/
def dlo (d : FVec Ideal S8192x1024 .bf16) (w : FVec Ideal S1024x1024 .bf16) (r : Fin 8192) (k : Fin 512) : EReal :=
  dheads d w r ⟨k.val, by omega⟩

/-- Its right half. -/
def dhi (d : FVec Ideal S8192x1024 .bf16) (w : FVec Ideal S1024x1024 .bf16) (r : Fin 8192) (k : Fin 512) : EReal :=
  dheads d w r ⟨512 + k.val, by omega⟩

/-- The gradient of the two halves. -/
def dam (d : FVec Ideal S8192x1024 .bf16) (am : FVec Ideal S8192x1024 .bf16) (ga gg : FVec Ideal S1x512 .f32)
    (w : FVec Ideal S1024x1024 .bf16) : FVec Ideal S8192x1024 .bf16 :=
  fun j => half (Norm.gradTiled ((512 : ℝ) : EReal) (lo am (j 0)) (fun k => dlo d w (j 0) k * ga (ix2 0 k)))
    (Norm.gradTiled ((512 : ℝ) : EReal) (hi am (j 0)) (fun k => dhi d w (j 0) k * gg (ix2 0 k))) (j 1)

/-- What row `r` adds to the gradient of the last gain. -/
def dgpRow (dh : FVec Ideal S8192x1024 .f32) (mx : FVec Ideal S8192x1024 .bf16) (l : Fin 1024) (r : Fin 8192) : EReal :=
  dh (ix2 r l) * (mx (ix2 r l) * Norm.rstd ((1024 : ℝ) : EReal) (fun k => mx (ix2 r k)))

def dgp (dh : FVec Ideal S8192x1024 .f32) (mx : FVec Ideal S8192x1024 .bf16) : FVec Ideal S1x1024 .f32 :=
  fun j => ∑ r : Fin 8192, dgpRow dh mx (j 1) r

/-- What row `r` adds to the gradient of the left half's gain. -/
def dgaRow (d am : FVec Ideal S8192x1024 .bf16) (w : FVec Ideal S1024x1024 .bf16) (l : Fin 512) (r : Fin 8192) : EReal :=
  dlo d w r l * (lo am r l * Norm.rstd ((512 : ℝ) : EReal) (lo am r))

def dga (d am : FVec Ideal S8192x1024 .bf16) (w : FVec Ideal S1024x1024 .bf16) : FVec Ideal S1x512 .f32 :=
  fun j => ∑ r : Fin 8192, dgaRow d am w (j 1) r

/-- What row `r` adds to the gradient of the right half's gain. -/
def dggRow (d am : FVec Ideal S8192x1024 .bf16) (w : FVec Ideal S1024x1024 .bf16) (l : Fin 512) (r : Fin 8192) : EReal :=
  dhi d w r l * (hi am r l * Norm.rstd ((512 : ℝ) : EReal) (hi am r))

def dgg (d am : FVec Ideal S8192x1024 .bf16) (w : FVec Ideal S1024x1024 .bf16) : FVec Ideal S1x512 .f32 :=
  fun j => ∑ r : Fin 8192, dggRow d am w (j 1) r

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![0, 0] ∧ win1_6.index t = ![0, 0]
    ∧ win1_7.index t = ![t.val, 0] ∧ win1_8.index t = ![t.val, 0] ∧ win1_9.index t = ![0, 0] ∧ win1_10.index t = ![0, 0]
    ∧ win1_11.index t = ![0, 0] :=
  (by decide +kernel : ∀ t : Fin grid1.N, _)

section Blocks
variable (t : Fin cfg1.N) (r : Fin 512) (h : t.val * 512 + r.val < 8192)

theorem blk_dh (k : Fin 1024) : (show Vec Ideal S512x1024 .f32 from iblk1 V c 0 t) (ix2 r k) = V c main_arg6 (ix2 ⟨t.val * 512 + r.val, h⟩ k) := by
  blk_ext [iblk1, idx1 t]

theorem blk_mix (k : Fin 1024) : (show Vec Ideal S512x1024 .bf16 from iblk1 V c 1 t) (ix2 r k) = V c main_v4_1 (ix2 ⟨t.val * 512 + r.val, h⟩ k) := by
  blk_ext [iblk1, idx1 t]

theorem blk_lp (k : Fin 1024) : (show Vec Ideal S1x1024 .f32 from iblk1 V c 2 t) (ix2 0 k) = V c main_v5 (ix2 0 k) := by
  blk_ext [iblk1, idx1 t]

theorem blk_w (k q : Fin 1024) : (show Vec Ideal S1024x1024 .bf16 from iblk1 V c 3 t) (ix2 k q) = V c main_v0 (ix2 k q) := by
  blk_ext [iblk1, idx1 t]

theorem blk_lo (k : Fin 512) : ((View.ld (iblk1 V c 4 t) (Rect.unit (s := S512x1024) ![0, 0] ![512, 512] inb_S512x1024_S512x512_0_0)) : Vec Ideal S512x512 .bf16) (ix2 r k) = lo (V c main_arg0) ⟨t.val * 512 + r.val, h⟩ k := by
  unfold lo; pointwise; blk_ext [iblk1, idx1 t]

theorem blk_hi (k : Fin 512) : ((View.ld (iblk1 V c 4 t) (Rect.unit (s := S512x1024) ![0, 512] ![512, 512] inb_S512x1024_S512x512_0_512)) : Vec Ideal S512x512 .bf16) (ix2 r k) = hi (V c main_arg0) ⟨t.val * 512 + r.val, h⟩ k := by
  unfold hi; pointwise; blk_ext [iblk1, idx1 t]

theorem blk_ga (k : Fin 512) : (show Vec Ideal S1x512 .f32 from iblk1 V c 5 t) (ix2 0 k) = V c main_v6 (ix2 0 k) := by
  blk_ext [iblk1, idx1 t]

theorem blk_gg (k : Fin 512) : (show Vec Ideal S1x512 .f32 from iblk1 V c 6 t) (ix2 0 k) = V c main_v7 (ix2 0 k) := by
  blk_ext [iblk1, idx1 t]

theorem dmix_point (l : Fin 1024) : (k1_pay8 (iblk1 V c 0 t) (iblk1 V c 1 t) (iblk1 V c 2 t)) (ix2 r l) = dmix (V c main_arg6) (V c main_v4_1) (V c main_v5) (ix2 ⟨t.val * 512 + r.val, h⟩ l) := by
  rw [dmix_at]
  simp only [blk_dh V c t r h, blk_mix V c t r h, blk_lp V c t]
  rfl

theorem dheads_point (k : Fin 1024) : k1_pay9 (k1_pay8 (iblk1 V c 0 t) (iblk1 V c 1 t) (iblk1 V c 2 t)) (iblk1 V c 3 t) (ix2 r k)
    = dheads (dmix (V c main_arg6) (V c main_v4_1) (V c main_v5)) (V c main_v0) ⟨t.val * 512 + r.val, h⟩ k := by
  rw [dheads_at]
  simp only [dmix_point V c t r h, blk_w V c t]
  rfl

theorem dlo_point (k : Fin 512) : k1_pay10 (k1_pay8 (iblk1 V c 0 t) (iblk1 V c 1 t) (iblk1 V c 2 t)) (iblk1 V c 3 t) (ix2 r k)
    = dlo (dmix (V c main_arg6) (V c main_v4_1) (V c main_v5)) (V c main_v0) ⟨t.val * 512 + r.val, h⟩ k := by
  rw [left_at, dheads_point V c t r h]
  rfl

theorem dhi_point (k : Fin 512) : k1_pay16 (k1_pay8 (iblk1 V c 0 t) (iblk1 V c 1 t) (iblk1 V c 2 t)) (iblk1 V c 3 t) (ix2 r k)
    = dhi (dmix (V c main_arg6) (V c main_v4_1) (V c main_v5)) (V c main_v0) ⟨t.val * 512 + r.val, h⟩ k := by
  rw [right_at, dheads_point V c t r h]
  rfl

theorem dleft_point (l : Fin 512) : k1_pay23 (k1_pay15 (k1_pay8 (iblk1 V c 0 t) (iblk1 V c 1 t) (iblk1 V c 2 t)) (iblk1 V c 3 t) (View.ld (iblk1 V c 4 t) (Rect.unit (s := S512x1024) ![0, 0] ![512, 512] inb_S512x1024_S512x512_0_0)) (iblk1 V c 5 t)) (ix2 r l)
    = Norm.gradTiled ((512 : ℝ) : EReal) (lo (V c main_arg0) ⟨t.val * 512 + r.val, h⟩)
        (fun k => dlo (dmix (V c main_arg6) (V c main_v4_1) (V c main_v5)) (V c main_v0) ⟨t.val * 512 + r.val, h⟩ k * V c main_v6 (ix2 0 k)) l := by
  rw [dleft_at]
  simp only [dlo_point V c t r h, blk_lo V c t r h, blk_ga V c t]

theorem dright_point (l : Fin 512) : k1_pay24 (k1_pay16 (k1_pay8 (iblk1 V c 0 t) (iblk1 V c 1 t) (iblk1 V c 2 t)) (iblk1 V c 3 t)) (k1_pay17 (View.ld (iblk1 V c 4 t) (Rect.unit (s := S512x1024) ![0, 512] ![512, 512] inb_S512x1024_S512x512_0_512))) (k1_pay18 (iblk1 V c 6 t))
      (k1_pay19 (View.ld (iblk1 V c 4 t) (Rect.unit (s := S512x1024) ![0, 512] ![512, 512] inb_S512x1024_S512x512_0_512))) (ix2 r l)
    = Norm.gradTiled ((512 : ℝ) : EReal) (hi (V c main_arg0) ⟨t.val * 512 + r.val, h⟩)
        (fun k => dhi (dmix (V c main_arg6) (V c main_v4_1) (V c main_v5)) (V c main_v0) ⟨t.val * 512 + r.val, h⟩ k * V c main_v7 (ix2 0 k)) l := by
  rw [dright_at]
  simp only [dhi_point V c t r h, blk_hi V c t r h, blk_gg V c t]

end Blocks

theorem dgp_point (t : Fin cfg1.N) (hN : t.val < 16) (a : Vec Ideal S1x1024 .f32) (z : Fin 1) (l : Fin 1024) :
    k1_pay7 (iblk1 V c 0 t) (iblk1 V c 1 t) a (ix2 z l)
      = a (ix2 z l) + ∑ r : Fin 512, dgpRow (V c main_arg6) (V c main_v4_1) l ⟨t.val * 512 + r.val, by omega⟩ := by
  rw [dgp_at]
  congr 1
  refine Fin.sum_fin_congr fun r => ?_
  simp only [blk_dh V c t r (by omega), blk_mix V c t r (by omega)]
  rfl

theorem dga_point (t : Fin cfg1.N) (hN : t.val < 16) (a : Vec Ideal S1x512 .f32) (z : Fin 1) (l : Fin 512) :
    k1_pay26 (k1_pay14 (k1_pay8 (iblk1 V c 0 t) (iblk1 V c 1 t) (iblk1 V c 2 t)) (iblk1 V c 3 t) (View.ld (iblk1 V c 4 t) (Rect.unit (s := S512x1024) ![0, 0] ![512, 512] inb_S512x1024_S512x512_0_0))) a (ix2 z l)
      = a (ix2 z l) + ∑ r : Fin 512, dgaRow (dmix (V c main_arg6) (V c main_v4_1) (V c main_v5)) (V c main_arg0) (V c main_v0) l ⟨t.val * 512 + r.val, by omega⟩ := by
  rw [dga_at]
  congr 1
  refine Fin.sum_fin_congr fun r => ?_
  simp only [dlo_point V c t r (by omega), blk_lo V c t r (by omega)]
  rfl

theorem dgg_point (t : Fin cfg1.N) (hN : t.val < 16) (a : Vec Ideal S1x512 .f32) (z : Fin 1) (l : Fin 512) :
    k1_pay2 (k1_pay22 (k1_pay16 (k1_pay8 (iblk1 V c 0 t) (iblk1 V c 1 t) (iblk1 V c 2 t)) (iblk1 V c 3 t)) (k1_pay17 (View.ld (iblk1 V c 4 t) (Rect.unit (s := S512x1024) ![0, 512] ![512, 512] inb_S512x1024_S512x512_0_512))) (k1_pay19 (View.ld (iblk1 V c 4 t) (Rect.unit (s := S512x1024) ![0, 512] ![512, 512] inb_S512x1024_S512x512_0_512)))) a (ix2 z l)
      = a (ix2 z l) + ∑ r : Fin 512, dggRow (dmix (V c main_arg6) (V c main_v4_1) (V c main_v5)) (V c main_arg0) (V c main_v0) l ⟨t.val * 512 + r.val, by omega⟩ := by
  rw [dgg_at]
  congr 1
  refine Fin.sum_fin_congr fun r => ?_
  simp only [dhi_point V c t r (by omega), blk_hi V c t r (by omega)]
  rfl

theorem final_dmix : (dat1 V c).arrAt 7 cfg1.N = dmix (V c main_arg6) (V c main_v4_1) (V c main_v5) := by
  refine (dat1 V c).arrAt_eq_of_covers 7 _ (by decide +kernel) fun t _ y => ?_
  blk_simp
  rw [after1_7]
  have hN : t.val < 16 := lt_of_lt_of_eq t.isLt N_1
  obtain ⟨r, l, rfl⟩ : ∃ (r : Fin 512) (l : Fin 1024), y = ix2 r l := ⟨y 0, y 1, by funext a; fin_cases a <;> rfl⟩
  have he : (win1_7.blk t).view.emb (ix2 r l) = ix2 ⟨t.val * 512 + r.val, by omega⟩ l := by blk_ext [idx1 t]
  rw [he]
  by_cases h : t.val % 16 = 0
  · rw [outsAt1_A V c t h h h]; frame_out; exact dmix_point V c t r _ l
  · rw [outsAt1_B V c t h h h]; frame_out; exact dmix_point V c t r _ l

theorem dam_row (t : Fin cfg1.N) (hN : t.val < 16) (r : Fin 512) (l : Fin 1024) :
    (View.canon [⟨(Rect.unit (s := S512x1024) ![0, 512] ![512, 512] inb_S512x1024_S512x512_0_512), k1_pay24 (k1_pay16 (k1_pay8 (iblk1 V c 0 t) (iblk1 V c 1 t) (iblk1 V c 2 t)) (iblk1 V c 3 t)) (k1_pay17 (View.ld (iblk1 V c 4 t) (Rect.unit (s := S512x1024) ![0, 512] ![512, 512] inb_S512x1024_S512x512_0_512))) (k1_pay18 (iblk1 V c 6 t)) (k1_pay19 (View.ld (iblk1 V c 4 t) (Rect.unit (s := S512x1024) ![0, 512] ![512, 512] inb_S512x1024_S512x512_0_512)))⟩,
      ⟨(Rect.unit (s := S512x1024) ![0, 0] ![512, 512] inb_S512x1024_S512x512_0_0), k1_pay23 (k1_pay15 (k1_pay8 (iblk1 V c 0 t) (iblk1 V c 1 t) (iblk1 V c 2 t)) (iblk1 V c 3 t) (View.ld (iblk1 V c 4 t) (Rect.unit (s := S512x1024) ![0, 0] ![512, 512] inb_S512x1024_S512x512_0_0)) (iblk1 V c 5 t))⟩] : Vec Ideal S512x1024 .bf16) (ix2 r l)
      = dam (dmix (V c main_arg6) (V c main_v4_1) (V c main_v5)) (V c main_arg0) (V c main_v6) (V c main_v7) (V c main_v0) (ix2 ⟨t.val * 512 + r.val, by omega⟩ l) := by
  canon_tiles x h
  case piece0 =>
    obtain ⟨a, b, rfl⟩ : ∃ a b : Fin 512, x = ix2 a b := ⟨x 0, x 1, by funext i; fin_cases i <;> rfl⟩
    obtain rfl : r = a := Fin.ext h0
    obtain rfl : l = ⟨512 + b.val, Nat.add_lt_add_left b.isLt 512⟩ := Fin.ext h1
    exact (dright_point V c t r (by omega) b).trans (half_hi _ _ b).symm
  case piece1 =>
    obtain ⟨a, b, rfl⟩ : ∃ a b : Fin 512, x = ix2 a b := ⟨x 0, x 1, by funext i; fin_cases i <;> rfl⟩
    obtain rfl : r = a := Fin.ext h0
    obtain rfl : l = ⟨b.val, b.isLt.trans (by norm_num)⟩ := Fin.ext h1
    exact (dleft_point V c t r (by omega) b).trans (half_lo _ _ b).symm

theorem final_dam : (dat1 V c).arrAt 8 cfg1.N = dam (dmix (V c main_arg6) (V c main_v4_1) (V c main_v5)) (V c main_arg0) (V c main_v6) (V c main_v7) (V c main_v0) := by
  refine (dat1 V c).arrAt_eq_of_covers 8 _ (by decide +kernel) fun t _ y => ?_
  blk_simp
  rw [after1_8]
  have hN : t.val < 16 := lt_of_lt_of_eq t.isLt N_1
  obtain ⟨r, l, rfl⟩ : ∃ (r : Fin 512) (l : Fin 1024), y = ix2 r l := ⟨y 0, y 1, by funext a; fin_cases a <;> rfl⟩
  have he : (win1_8.blk t).view.emb (ix2 r l) = ix2 ⟨t.val * 512 + r.val, by omega⟩ l := by blk_ext [idx1 t]
  rw [he]
  by_cases h : t.val % 16 = 0
  · rw [outsAt1_A V c t h h h]; frame_out; exact dam_row V c t hN r l
  · rw [outsAt1_B V c t h h h]; frame_out; exact dam_row V c t hN r l

theorem final_dgp : (dat1 V c).arrAt 9 cfg1.N = dgp (V c main_arg6) (V c main_v4_1) := by
  refine (dat1 V c).arrAt_eq_of_covers 9 _ (by decide +kernel) fun t hf y => ?_
  blk_simp
  have hN : t.val < 16 := lt_of_lt_of_eq t.isLt N_1
  obtain ⟨z, l, rfl⟩ : ∃ (z : Fin 1) (l : Fin 1024), y = ix2 z l := ⟨y 0, y 1, by funext a; fin_cases a <;> rfl⟩
  have he : (win1_9.blk t).view.emb (ix2 z l) = ix2 z l := by blk_ext [idx1 t]
  rw [he, after1_9, Pipeline.eq_sum_fin_of_reset_step_apply_of_flush (fun n h => (outsAt1 V c n h).2.2.1) 16 (fun _ => 0)
    (fun t j => ∑ r : Fin 512, if hb : t.val * 512 + r.val < 8192 then
      dgpRow (V c main_arg6) (V c main_v4_1) (j 1) ⟨t.val * 512 + r.val, hb⟩ else 0)
    (fun t h j => ?_) (fun t h j => ?_) t ((flush1_9 t).mp hf) _, zero_add]
  · unfold dgp
    refine Fin.sum_mul_add_congr fun s k hl => ?_
    have hs : 16 * (t.val / 16) + s.val = s.val := by omega
    simp only [hs]
    rw [dif_pos (by omega)]
  · have ht : t.val < 16 := lt_of_lt_of_eq t.isLt N_1
    obtain ⟨z, l, rfl⟩ : ∃ (z : Fin 1) (l : Fin 1024), j = ix2 z l := ⟨j 0, j 1, by funext a; fin_cases a <;> rfl⟩
    rw [outsAt1_A V c t h h h]; frame_out
    refine (dgp_point V c t ht _ z l).trans ?_
    rw [zero_gp]
    congr 1
    exact Finset.sum_congr rfl fun r _ => by rw [dif_pos (by omega)]; rfl
  · have ht : t.val < 16 := lt_of_lt_of_eq t.isLt N_1
    obtain ⟨z, l, rfl⟩ : ∃ (z : Fin 1) (l : Fin 1024), j = ix2 z l := ⟨j 0, j 1, by funext a; fin_cases a <;> rfl⟩
    rw [outsAt1_B V c t h h h]; frame_out
    refine (dgp_point V c t ht _ z l).trans ?_
    congr 1
    exact Finset.sum_congr rfl fun r _ => by rw [dif_pos (by omega)]; rfl

theorem final_dga : (dat1 V c).arrAt 10 cfg1.N = dga (dmix (V c main_arg6) (V c main_v4_1) (V c main_v5)) (V c main_arg0) (V c main_v0) := by
  refine (dat1 V c).arrAt_eq_of_covers 10 _ (by decide +kernel) fun t hf y => ?_
  blk_simp
  have hN : t.val < 16 := lt_of_lt_of_eq t.isLt N_1
  obtain ⟨z, l, rfl⟩ : ∃ (z : Fin 1) (l : Fin 512), y = ix2 z l := ⟨y 0, y 1, by funext a; fin_cases a <;> rfl⟩
  have he : (win1_10.blk t).view.emb (ix2 z l) = ix2 z l := by blk_ext [idx1 t]
  rw [he, after1_10, Pipeline.eq_sum_fin_of_reset_step_apply_of_flush (fun n h => (outsAt1 V c n h).2.2.2.1) 16 (fun _ => 0)
    (fun t j => ∑ r : Fin 512, if hb : t.val * 512 + r.val < 8192 then
      dgaRow (dmix (V c main_arg6) (V c main_v4_1) (V c main_v5)) (V c main_arg0) (V c main_v0) (j 1) ⟨t.val * 512 + r.val, hb⟩ else 0)
    (fun t h j => ?_) (fun t h j => ?_) t ((flush1_10 t).mp hf) _, zero_add]
  · unfold dga
    refine Fin.sum_mul_add_congr fun s k hl => ?_
    have hs : 16 * (t.val / 16) + s.val = s.val := by omega
    simp only [hs]
    rw [dif_pos (by omega)]
  · have ht : t.val < 16 := lt_of_lt_of_eq t.isLt N_1
    obtain ⟨z, l, rfl⟩ : ∃ (z : Fin 1) (l : Fin 512), j = ix2 z l := ⟨j 0, j 1, by funext a; fin_cases a <;> rfl⟩
    rw [outsAt1_A V c t h h h]; frame_out
    refine (dga_point V c t ht _ z l).trans ?_
    rw [zero_ga]
    congr 1
    exact Finset.sum_congr rfl fun r _ => by rw [dif_pos (by omega)]; rfl
  · have ht : t.val < 16 := lt_of_lt_of_eq t.isLt N_1
    obtain ⟨z, l, rfl⟩ : ∃ (z : Fin 1) (l : Fin 512), j = ix2 z l := ⟨j 0, j 1, by funext a; fin_cases a <;> rfl⟩
    rw [outsAt1_B V c t h h h]; frame_out
    refine (dga_point V c t ht _ z l).trans ?_
    congr 1
    exact Finset.sum_congr rfl fun r _ => by rw [dif_pos (by omega)]; rfl

theorem final_dgg : (dat1 V c).arrAt 11 cfg1.N = dgg (dmix (V c main_arg6) (V c main_v4_1) (V c main_v5)) (V c main_arg0) (V c main_v0) := by
  refine (dat1 V c).arrAt_eq_of_covers 11 _ (by decide +kernel) fun t hf y => ?_
  blk_simp
  have hN : t.val < 16 := lt_of_lt_of_eq t.isLt N_1
  obtain ⟨z, l, rfl⟩ : ∃ (z : Fin 1) (l : Fin 512), y = ix2 z l := ⟨y 0, y 1, by funext a; fin_cases a <;> rfl⟩
  have he : (win1_11.blk t).view.emb (ix2 z l) = ix2 z l := by blk_ext [idx1 t]
  rw [he, after1_11, Pipeline.eq_sum_fin_of_reset_step_apply_of_flush (fun n h => (outsAt1 V c n h).2.2.2.2) 16 (fun _ => 0)
    (fun t j => ∑ r : Fin 512, if hb : t.val * 512 + r.val < 8192 then
      dggRow (dmix (V c main_arg6) (V c main_v4_1) (V c main_v5)) (V c main_arg0) (V c main_v0) (j 1) ⟨t.val * 512 + r.val, hb⟩ else 0)
    (fun t h j => ?_) (fun t h j => ?_) t ((flush1_11 t).mp hf) _, zero_add]
  · unfold dgg
    refine Fin.sum_mul_add_congr fun s k hl => ?_
    have hs : 16 * (t.val / 16) + s.val = s.val := by omega
    simp only [hs]
    rw [dif_pos (by omega)]
  · have ht : t.val < 16 := lt_of_lt_of_eq t.isLt N_1
    obtain ⟨z, l, rfl⟩ : ∃ (z : Fin 1) (l : Fin 512), j = ix2 z l := ⟨j 0, j 1, by funext a; fin_cases a <;> rfl⟩
    rw [outsAt1_A V c t h h h]; frame_out
    refine (dgg_point V c t ht _ z l).trans ?_
    rw [zero_gg]
    congr 1
    exact Finset.sum_congr rfl fun r _ => by rw [dif_pos (by omega)]; rfl
  · have ht : t.val < 16 := lt_of_lt_of_eq t.isLt N_1
    obtain ⟨z, l, rfl⟩ : ∃ (z : Fin 1) (l : Fin 512), j = ix2 z l := ⟨j 0, j 1, by funext a; fin_cases a <;> rfl⟩
    rw [outsAt1_B V c t h h h]; frame_out
    refine (dgg_point V c t ht _ z l).trans ?_
    congr 1
    exact Finset.sum_congr rfl fun r _ => by rw [dif_pos (by omega)]; rfl

end Cert.MixOutIdeal.Value
-- ==== Proof.MixOutRun.lean ====
/- The two calls of the output product, run one after the other. -/
module

public import proofs.«01_k».proof.Proof.MixOutForward
public import proofs.«01_k».proof.Proof.MixOutBackward

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.MixOutIdeal.Value

open Cert.MixOutIdeal Cert.MixOutIdeal.Gen

/-- A vector as the one row of a matrix. -/
def row (x : FVec Ideal S1024 .f32) : FVec Ideal S1x1024 .f32 := fun j => x (ix1 (j 1))

/-- A half's gain as the one row of a matrix. -/
def rowHalf (x : FVec Ideal S512 .f32) : FVec Ideal S1x512 .f32 := fun j => x (ix1 (j 1))

/-- The saved product as an array. -/
def mixArr (am : FVec Ideal S8192x1024 .bf16) (ga gg : FVec Ideal S512 .f32) (w : FVec Ideal S1024x1024 .f32) : FVec Ideal S8192x1024 .bf16 :=
  fun j => mix am (rowHalf ga) (rowHalf gg) w (j 0) (j 1)

/-- The gradient of the saved product. -/
def dmixArr (am : FVec Ideal S8192x1024 .bf16) (ga gg : FVec Ideal S512 .f32) (w : FVec Ideal S1024x1024 .f32)
    (lp : FVec Ideal S1024 .f32) (dh : FVec Ideal S8192x1024 .f32) : FVec Ideal S8192x1024 .bf16 :=
  dmix dh (mixArr am ga gg w) (row lp)

variable (m : (ℓ : Loc nD τ sig) → Buf (Elt Ideal) ℓ) (ρ : Dev nD → PrngReg) (c : Dev nD)

/-! ## What the calls find in their arrays -/

theorem in0_v0 : V1 m ρ c main_v0 = (show FVec Ideal S1024x1024 .bf16 from m ((c : Thread nD τ).loc main_arg4)) := by
  show StableHlo.after hostOps0 (W0 m ρ c) _ = _
  after_results
  rfl

theorem in0_v1 : V1 m ρ c main_v1 = rowHalf (m ((c : Thread nD τ).loc main_arg2)) := by
  show StableHlo.after hostOps0 (W0 m ρ c) _ = _
  after_results
  funext j
  pointwise
  rfl

theorem in0_v2 : V1 m ρ c main_v2 = rowHalf (m ((c : Thread nD τ).loc main_arg3)) := by
  show StableHlo.after hostOps0 (W0 m ρ c) _ = _
  after_results
  funext j
  pointwise
  rfl

theorem in0_v3 : V1 m ρ c main_v3 = row (m ((c : Thread nD τ).loc main_arg5)) := by
  show StableHlo.after hostOps0 (W0 m ρ c) _ = _
  after_results
  funext j
  pointwise
  rfl

theorem in1_v5 : V3 m ρ c main_v5 = row (m ((c : Thread nD τ).loc main_arg5)) := by
  show StableHlo.after hostOps1 (W2 m ρ c) _ = _
  after_results
  rw [W2_args m ρ c main_arg5 (by decide)]
  funext j
  pointwise
  rfl

theorem in1_v6 : V3 m ρ c main_v6 = rowHalf (m ((c : Thread nD τ).loc main_arg2)) := by
  show StableHlo.after hostOps1 (W2 m ρ c) _ = _
  after_results
  rw [W2_args m ρ c main_arg2 (by decide)]
  funext j
  pointwise
  rfl

theorem in1_v7 : V3 m ρ c main_v7 = rowHalf (m ((c : Thread nD τ).loc main_arg3)) := by
  show StableHlo.after hostOps1 (W2 m ρ c) _ = _
  after_results
  rw [W2_args m ρ c main_arg3 (by decide)]
  funext j
  pointwise
  rfl

theorem in1_v0 : V3 m ρ c main_v0 = (show FVec Ideal S1024x1024 .bf16 from m ((c : Thread nD τ).loc main_arg4)) :=
  (W3_of m ρ c main_v0 (by decide)).trans ((W2_of m ρ c main_v0 (by decide +kernel)).trans (in0_v0 m ρ c))

theorem in1_mix : V3 m ρ c main_v4_1 = mixArr (m ((c : Thread nD τ).loc main_arg0)) (m ((c : Thread nD τ).loc main_arg2)) (m ((c : Thread nD τ).loc main_arg3)) (m ((c : Thread nD τ).loc main_arg4)) := by
  refine (W3_of m ρ c main_v4_1 (by decide)).trans ((W2_arr m ρ c 7).trans ?_)
  rw [final_mix, in0_v0, in0_v1, in0_v2, show V1 m ρ c main_arg0 = m ((c : Thread nD τ).loc main_arg0) from W1_args m ρ c main_arg0 (by decide)]
  rfl

theorem in1_arg0 : V3 m ρ c main_arg0 = m ((c : Thread nD τ).loc main_arg0) := W3_args m ρ c main_arg0 (by decide)

theorem in1_arg6 : V3 m ρ c main_arg6 = m ((c : Thread nD τ).loc main_arg6) := W3_args m ρ c main_arg6 (by decide)

/-! ## What is left in the results -/

theorem left_main_v8_0 : W4 m ρ c (Proc.devRef .tc main_v8_0)
    = dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 7).trans ?_
  rw [final_dmix, in1_arg6, in1_mix, in1_v5]
  rfl

theorem left_main_v8_1 : W4 m ρ c (Proc.devRef .tc main_v8_1)
    = dam (dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (rowHalf (m ((c : Thread nD τ).loc main_arg2))) (rowHalf (m ((c : Thread nD τ).loc main_arg3))) (m ((c : Thread nD τ).loc main_arg4)) := by
  refine (W4_arr m ρ c 8).trans ?_
  rw [final_dam, in1_arg6, in1_mix, in1_v5, in1_arg0, in1_v6, in1_v7, in1_v0]
  rfl

theorem left_main_v8_2 : W4 m ρ c (Proc.devRef .tc main_v8_2)
    = dgp (m ((c : Thread nD τ).loc main_arg6)) (mixArr (m ((c : Thread nD τ).loc main_arg0)) (m ((c : Thread nD τ).loc main_arg2)) (m ((c : Thread nD τ).loc main_arg3)) (m ((c : Thread nD τ).loc main_arg4))) := by
  refine (W4_arr m ρ c 9).trans ?_
  rw [final_dgp, in1_arg6, in1_mix]

theorem left_main_v8_3 : W4 m ρ c (Proc.devRef .tc main_v8_3)
    = dga (dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg4)) := by
  refine (W4_arr m ρ c 10).trans ?_
  rw [final_dga, in1_arg6, in1_mix, in1_v5, in1_arg0, in1_v0]
  rfl

theorem left_main_v8_4 : W4 m ρ c (Proc.devRef .tc main_v8_4)
    = dgg (dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg4)) := by
  refine (W4_arr m ρ c 11).trans ?_
  rw [final_dgg, in1_arg6, in1_mix, in1_v5, in1_arg0, in1_v0]
  rfl

theorem left_main_v4_0 : W4 m ρ c (Proc.devRef .tc main_v4_0) = heads (m ((c : Thread nD τ).loc main_arg0)) (rowHalf (m ((c : Thread nD τ).loc main_arg2))) (rowHalf (m ((c : Thread nD τ).loc main_arg3))) := by
  refine (W4_of m ρ c main_v4_0 (by decide +kernel)).trans ((W3_of m ρ c main_v4_0 (by decide)).trans ((W2_arr m ρ c 6).trans ?_))
  rw [final_heads, in0_v1, in0_v2, show V1 m ρ c main_arg0 = m ((c : Thread nD τ).loc main_arg0) from W1_args m ρ c main_arg0 (by decide)]

theorem left_main_v4_1 : W4 m ρ c (Proc.devRef .tc main_v4_1) = mixArr (m ((c : Thread nD τ).loc main_arg0)) (m ((c : Thread nD τ).loc main_arg2)) (m ((c : Thread nD τ).loc main_arg3)) (m ((c : Thread nD τ).loc main_arg4)) :=
  (W4_of m ρ c main_v4_1 (by decide +kernel)).trans (in1_mix m ρ c)

theorem left_main_v4_2 : W4 m ρ c (Proc.devRef .tc main_v4_2) = out (m ((c : Thread nD τ).loc main_arg1)) (mixArr (m ((c : Thread nD τ).loc main_arg0)) (m ((c : Thread nD τ).loc main_arg2)) (m ((c : Thread nD τ).loc main_arg3)) (m ((c : Thread nD τ).loc main_arg4))) (row (m ((c : Thread nD τ).loc main_arg5))) := by
  refine (W4_of m ρ c main_v4_2 (by decide +kernel)).trans ((W3_of m ρ c main_v4_2 (by decide)).trans ((W2_arr m ρ c 8).trans ?_))
  rw [final_out, in0_v0, in0_v1, in0_v2, in0_v3, show V1 m ρ c main_arg0 = m ((c : Thread nD τ).loc main_arg0) from W1_args m ρ c main_arg0 (by decide),
    show V1 m ρ c main_arg1 = m ((c : Thread nD τ).loc main_arg1) from W1_args m ρ c main_arg1 (by decide)]
  rfl

/-! ## The launch, with the results -/

/-- Every execution ends with the results above and the arguments as launched. -/
theorem run_main : θ_run defs (onTc (τ := τ) (main (F := Ideal))) ⟨m, fun _ => 0, ρ⟩ (fun r => ∀ c : Dev nD,
      r.2.mem ((c.tc : Thread nD τ).loc main_v8_0) = dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) ∧
      r.2.mem ((c.tc : Thread nD τ).loc main_v8_1) = dam (dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (rowHalf (m ((c : Thread nD τ).loc main_arg2))) (rowHalf (m ((c : Thread nD τ).loc main_arg3))) (m ((c : Thread nD τ).loc main_arg4)) ∧
      r.2.mem ((c.tc : Thread nD τ).loc main_v8_2) = dgp (m ((c : Thread nD τ).loc main_arg6)) (mixArr (m ((c : Thread nD τ).loc main_arg0)) (m ((c : Thread nD τ).loc main_arg2)) (m ((c : Thread nD τ).loc main_arg3)) (m ((c : Thread nD τ).loc main_arg4))) ∧
      r.2.mem ((c.tc : Thread nD τ).loc main_v8_3) = dga (dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg4)) ∧
      r.2.mem ((c.tc : Thread nD τ).loc main_v8_4) = dgg (dmixArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (m ((c : Thread nD τ).loc main_arg4)) ∧
      r.2.mem ((c.tc : Thread nD τ).loc main_v4_0) = heads (m ((c : Thread nD τ).loc main_arg0)) (rowHalf (m ((c : Thread nD τ).loc main_arg2))) (rowHalf (m ((c : Thread nD τ).loc main_arg3))) ∧
      r.2.mem ((c.tc : Thread nD τ).loc main_v4_1) = mixArr (m ((c : Thread nD τ).loc main_arg0)) (m ((c : Thread nD τ).loc main_arg2)) (m ((c : Thread nD τ).loc main_arg3)) (m ((c : Thread nD τ).loc main_arg4)) ∧
      r.2.mem ((c.tc : Thread nD τ).loc main_v4_2) = out (m ((c : Thread nD τ).loc main_arg1)) (mixArr (m ((c : Thread nD τ).loc main_arg0)) (m ((c : Thread nD τ).loc main_arg2)) (m ((c : Thread nD τ).loc main_arg3)) (m ((c : Thread nD τ).loc main_arg4))) (row (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8_0 (by decide))).trans (left_main_v8_0 m ρ c),
       (h c _ (mem_uc main_v8_1 (by decide))).trans (left_main_v8_1 m ρ c),
       (h c _ (mem_uc main_v8_2 (by decide))).trans (left_main_v8_2 m ρ c),
       (h c _ (mem_uc main_v8_3 (by decide))).trans (left_main_v8_3 m ρ c),
       (h c _ (mem_uc main_v8_4 (by decide))).trans (left_main_v8_4 m ρ c),
       (h c _ (mem_uc main_v4_0 (by decide))).trans (left_main_v4_0 m ρ c),
       (h c _ (mem_uc main_v4_1 (by decide))).trans (left_main_v4_1 m ρ c),
       (h c _ (mem_uc main_v4_2 (by decide))).trans (left_main_v4_2 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.MixOutIdeal.Value
-- ==== Proof.MixOutReference.lean ====
/- The reference of the output product's gradient, entry by entry. -/
module

public import proofs.«01_k».proof.Proof.MixOutRun
public import proofs.«01_k».proof.Proof.NormReal
public import proofs.«01_k».proof.Proof.Gen.MixOutReferenceIdeal.Read
public import Idealize.ShloMosaic.Lib.Pointwise

@[expose] public section

set_option maxRecDepth 16384

noncomputable section

open Idealize.ShloMosaic Idealize.ShloMosaic.TcCoe Idealize.SL.Sem

namespace Cert.MixOutReferenceIdeal.Value

open Cert.MixOutReferenceIdeal Cert.MixOutReferenceIdeal.Gen Cert.MixOutReferenceIdeal.Read

variable (x0 : FVec Ideal S8192x1024 .bf16) (x2 x3 : FVec Ideal S512 .f32) (x4 : FVec Ideal S1024x1024 .f32)
  (x5 : FVec Ideal S1024 .f32) (x6 : FVec Ideal S8192x1024 .f32)

theorem lo_at (r : Fin 8192) (k : Fin 512) : val_main_v1 (F := Ideal) x0 (ix2 r k) = Cert.MixOutIdeal.Value.lo x0 r k := by
  pointwise [val_main_v1, val_main_v0]
  unfold Cert.MixOutIdeal.Value.lo
  blk_ext

theorem hi_at (r : Fin 8192) (k : Fin 512) : val_main_v2 (F := Ideal) x0 (ix2 r k) = Cert.MixOutIdeal.Value.hi x0 r k := by
  pointwise [val_main_v2, val_main_v0]
  unfold Cert.MixOutIdeal.Value.hi
  blk_ext

/-- The normalised left half. -/
theorem xlo_at (r : Fin 8192) (k : Fin 512) : val_main_v15 (F := Ideal) x0 (ix2 r k)
    = Cert.MixOutIdeal.Value.lo x0 r k * Norm.rstd ((512 : ℝ) : EReal) (Cert.MixOutIdeal.Value.lo x0 r) := by
  pointwise [val_main_v15, val_main_v14, val_main_v10, val_main_v9, val_main_v7, val_main_v8, val_main_v5, val_main_v6, val_main_cst_1, val_main_v4, val_main_cst_0, val_main_v3, val_main_cst]
  simp only [Norm.word_512, Norm.word_1024, Norm.word_eps, Norm.word_neg_half, Fin.sum_univ_one, Finset.univ_unique, Finset.sum_singleton, lo_at]
  rfl

/-- The normalised right half. -/
theorem xhi_at (r : Fin 8192) (k : Fin 512) : val_main_v31 (F := Ideal) x0 (ix2 r k)
    = Cert.MixOutIdeal.Value.hi x0 r k * Norm.rstd ((512 : ℝ) : EReal) (Cert.MixOutIdeal.Value.hi x0 r) := by
  pointwise [val_main_v31, val_main_v30, val_main_v26, val_main_v25, val_main_v23, val_main_v24, val_main_v21, val_main_v22, val_main_cst_5, val_main_v20, val_main_cst_4, val_main_v19, val_main_cst_3]
  simp only [Norm.word_512, Norm.word_1024, Norm.word_eps, Norm.word_neg_half, Fin.sum_univ_one, Finset.univ_unique, Finset.sum_singleton, hi_at]
  rfl

theorem mix_at (r : Fin 8192) (k : Fin 1024) : val_main_v36 (F := Ideal) x0 x2 x3 x4 (ix2 r k) = Cert.MixOutIdeal.Value.mixArr x0 x2 x3 x4 (ix2 r k) := by
  pointwise [val_main_v36, val_main_v35, val_main_v18, val_main_v34, val_main_v17, val_main_v33, val_main_v16, val_main_v32]
  simp only [xlo_at, xhi_at]
  rfl

/-- The normalised product. -/
theorem xmix_at (r : Fin 8192) (k : Fin 1024) : val_main_v49 (F := Ideal) x0 x2 x3 x4 (ix2 r k)
    = Cert.MixOutIdeal.Value.mixArr x0 x2 x3 x4 (ix2 r k) * Norm.rstd ((1024 : ℝ) : EReal) (fun k => Cert.MixOutIdeal.Value.mixArr x0 x2 x3 x4 (ix2 r k)) := by
  pointwise [val_main_v49, val_main_v48, val_main_v44, val_main_v43, val_main_v41, val_main_v42, val_main_v39, val_main_v40, val_main_cst_9, val_main_v38, val_main_cst_8, val_main_v37, val_main_cst_7]
  simp only [Norm.word_512, Norm.word_1024, Norm.word_eps, Norm.word_neg_half, Fin.sum_univ_one, Finset.univ_unique, Finset.sum_singleton, mix_at]
  rfl

theorem heads_eq : Cert.MixOutIdeal.Value.heads x0 (Cert.MixOutIdeal.Value.rowHalf x2) (Cert.MixOutIdeal.Value.rowHalf x3) = val_main_v122 (F := Ideal) x0 x2 x3 := by
  funext j
  obtain ⟨r, l, rfl⟩ : ∃ (r : Fin 8192) (l : Fin 1024), j = ix2 r l := ⟨j 0, j 1, by funext a; fin_cases a <;> rfl⟩
  pointwise [val_main_v122, val_main_v35, val_main_v18, val_main_v34, val_main_v17, val_main_v33, val_main_v16, val_main_v32]
  simp only [xlo_at, xhi_at]
  rfl

theorem mix_eq : Cert.MixOutIdeal.Value.mixArr x0 x2 x3 x4 = val_main_v123 (F := Ideal) x0 x2 x3 x4 := by
  funext j
  obtain ⟨r, l, rfl⟩ : ∃ (r : Fin 8192) (l : Fin 1024), j = ix2 r l := ⟨j 0, j 1, by funext a; fin_cases a <;> rfl⟩
  pointwise [val_main_v123]
  exact (mix_at x0 x2 x3 x4 r l).symm

/-- The layer's output. -/
theorem out_eq (x1 : FVec Ideal S8192x1024 .f32) : Cert.MixOutIdeal.Value.out x1 (Cert.MixOutIdeal.Value.mixArr x0 x2 x3 x4) (Cert.MixOutIdeal.Value.row x5) = val_main_v124 (F := Ideal) x0 x1 x2 x3 x4 x5 := by
  funext j
  obtain ⟨r, l, rfl⟩ : ∃ (r : Fin 8192) (l : Fin 1024), j = ix2 r l := ⟨j 0, j 1, by funext a; fin_cases a <;> rfl⟩
  pointwise [val_main_v124, val_main_v52, val_main_v51, val_main_v50]
  rw [xmix_at]
  rfl

theorem dmix_form (r : Fin 8192) (l : Fin 1024) :
    val_main_v72 (F := Ideal) x0 x2 x3 x4 x5 x6 (ix2 r l)
      = (fun k => x6 (ix2 r k) * x5 (ix1 k)) l * Norm.rstd ((1024 : ℝ) : EReal) (fun k => Cert.MixOutIdeal.Value.mixArr x0 x2 x3 x4 (ix2 r k))
          + Cert.MixOutIdeal.Value.mixArr x0 x2 x3 x4 (ix2 r l) * Norm.spread ((1024 : ℝ) : EReal) (fun k => Cert.MixOutIdeal.Value.mixArr x0 x2 x3 x4 (ix2 r k)) (fun k => x6 (ix2 r k) * x5 (ix1 k))
          + Norm.spread ((1024 : ℝ) : EReal) (fun k => Cert.MixOutIdeal.Value.mixArr x0 x2 x3 x4 (ix2 r k)) (fun k => x6 (ix2 r k) * x5 (ix1 k)) * Cert.MixOutIdeal.Value.mixArr x0 x2 x3 x4 (ix2 r l) := by
  pointwise [val_main_v72, val_main_v70, val_main_v71, val_main_v63, val_main_v69, val_main_v68, val_main_v57, val_main_v62, val_main_v67, val_main_v56, val_main_v44, val_main_v66, val_main_cst_15, val_main_v50, val_main_v43, val_main_v64, val_main_v65, val_main_v41, val_main_v42, val_main_v61, val_main_v47, val_main_cst_14, val_main_v39, val_main_v40, val_main_cst_9, val_main_v60, val_main_v46, val_main_v45, val_main_v38, val_main_cst_8, val_main_v59, val_main_cst_13, val_main_cst_10, val_main_v37, val_main_cst_7]
  simp only [Norm.word_512, Norm.word_1024, Norm.word_eps, Norm.word_neg_half, Fin.sum_univ_one, Finset.univ_unique, Finset.sum_singleton, mix_at]
  rfl

theorem left_at (r : Fin 8192) (k : Fin 512) : val_main_v74 (F := Ideal) x0 x2 x3 x4 x5 x6 (ix2 r k)
    = val_main_v73 (F := Ideal) x0 x2 x3 x4 x5 x6 (ix2 r ⟨k.val, by omega⟩) := by
  pointwise [val_main_v74]
  blk_ext

theorem right_at (r : Fin 8192) (k : Fin 512) : val_main_v75 (F := Ideal) x0 x2 x3 x4 x5 x6 (ix2 r k)
    = val_main_v73 (F := Ideal) x0 x2 x3 x4 x5 x6 (ix2 r ⟨512 + k.val, by omega⟩) := by
  pointwise [val_main_v75]
  blk_ext

theorem dlo_at (r : Fin 8192) (l : Fin 512) (d : Fin 512 → EReal)
    (hd : ∀ k, val_main_v74 (F := Ideal) x0 x2 x3 x4 x5 x6 (ix2 r k) = d k) :
    val_main_v115 (F := Ideal) x0 x2 x3 x4 x5 x6 (ix2 r l)
      = (fun k => d k * x2 (ix1 k)) l * Norm.rstd ((512 : ℝ) : EReal) (Cert.MixOutIdeal.Value.lo x0 r)
          + Cert.MixOutIdeal.Value.lo x0 r l * Norm.spread ((512 : ℝ) : EReal) (Cert.MixOutIdeal.Value.lo x0 r) (fun k => d k * x2 (ix1 k))
          + Norm.spread ((512 : ℝ) : EReal) (Cert.MixOutIdeal.Value.lo x0 r) (fun k => d k * x2 (ix1 k)) * Cert.MixOutIdeal.Value.lo x0 r l := by
  pointwise [val_main_v115, val_main_v113, val_main_v114, val_main_v106, val_main_v112, val_main_v111, val_main_v100, val_main_v105, val_main_v110, val_main_v99, val_main_v10, val_main_v109, val_main_cst_25, val_main_v16, val_main_v9, val_main_v107, val_main_v108, val_main_v7, val_main_v8, val_main_v104, val_main_v13, val_main_cst_24, val_main_v5, val_main_v6, val_main_cst_1, val_main_v103, val_main_v12, val_main_v11, val_main_v4, val_main_cst_0, val_main_v102, val_main_cst_23, val_main_cst_2, val_main_v3, val_main_cst]
  simp only [Norm.word_512, Norm.word_1024, Norm.word_eps, Norm.word_neg_half, Fin.sum_univ_one, Finset.univ_unique, Finset.sum_singleton, hd, lo_at]
  rfl

theorem dhi_at (r : Fin 8192) (l : Fin 512) (d : Fin 512 → EReal)
    (hd : ∀ k, val_main_v75 (F := Ideal) x0 x2 x3 x4 x5 x6 (ix2 r k) = d k) :
    val_main_v95 (F := Ideal) x0 x2 x3 x4 x5 x6 (ix2 r l)
      = (fun k => d k * x3 (ix1 k)) l * Norm.rstd ((512 : ℝ) : EReal) (Cert.MixOutIdeal.Value.hi x0 r)
          + Cert.MixOutIdeal.Value.hi x0 r l * Norm.spread ((512 : ℝ) : EReal) (Cert.MixOutIdeal.Value.hi x0 r) (fun k => d k * x3 (ix1 k))
          + Norm.spread ((512 : ℝ) : EReal) (Cert.MixOutIdeal.Value.hi x0 r) (fun k => d k * x3 (ix1 k)) * Cert.MixOutIdeal.Value.hi x0 r l := by
  pointwise [val_main_v95, val_main_v93, val_main_v94, val_main_v86, val_main_v92, val_main_v91, val_main_v80, val_main_v85, val_main_v90, val_main_v79, val_main_v26, val_main_v89, val_main_cst_20, val_main_v32, val_main_v25, val_main_v87, val_main_v88, val_main_v23, val_main_v24, val_main_v84, val_main_v29, val_main_cst_19, val_main_v21, val_main_v22, val_main_cst_5, val_main_v83, val_main_v28, val_main_v27, val_main_v20, val_main_cst_4, val_main_v82, val_main_cst_18, val_main_cst_6, val_main_v19, val_main_cst_3]
  simp only [Norm.word_512, Norm.word_1024, Norm.word_eps, Norm.word_neg_half, Fin.sum_univ_one, Finset.univ_unique, Finset.sum_singleton, hd, hi_at]
  rfl

theorem halves_at (r : Fin 8192) (l : Fin 1024) : val_main_v118 (F := Ideal) x0 x2 x3 x4 x5 x6 (ix2 r l)
    = Cert.MixOutIdeal.Value.half (fun k => val_main_v115 (F := Ideal) x0 x2 x3 x4 x5 x6 (ix2 r k)) (fun k => val_main_v95 (F := Ideal) x0 x2 x3 x4 x5 x6 (ix2 r k)) l := by
  pointwise [val_main_v118, val_main_v117]
  rfl

theorem dgp_eq : Cert.MixOutIdeal.Value.dgp x6 (Cert.MixOutIdeal.Value.mixArr x0 x2 x3 x4) = val_main_v119 (F := Ideal) x0 x2 x3 x4 x6 := by
  funext j
  obtain ⟨z, l, rfl⟩ : ∃ (z : Fin 1) (l : Fin 1024), j = ix2 z l := ⟨j 0, j 1, by funext a; fin_cases a <;> rfl⟩
  pointwise [val_main_v119, val_main_v58, val_main_v55, val_main_cst_12, val_main_v54, val_main_v53, val_main_cst_11]
  simp only [Norm.word_512, Norm.word_1024, Norm.word_eps, Norm.word_neg_half, Fin.sum_univ_one, Finset.univ_unique, Finset.sum_singleton, xmix_at]
  unfold Cert.MixOutIdeal.Value.dgp Cert.MixOutIdeal.Value.dgpRow
  simp only [mul_comm]
  rfl

section Finite
variable (h0 : Norm.Finite x0) (h2 : Norm.Finite x2) (h3 : Norm.Finite x3) (h4 : Norm.Finite x4) (h5 : Norm.Finite x5)
  (h6 : Norm.Finite x6)
include h0

theorem rstd_lo_real (r : Fin 8192) : ∃ v : ℝ, Norm.rstd ((512 : ℝ) : EReal) (Cert.MixOutIdeal.Value.lo x0 r) = v := by
  exact Norm.rstd_real (by norm_num) fun k => h0 _

theorem rstd_hi_real (r : Fin 8192) : ∃ v : ℝ, Norm.rstd ((512 : ℝ) : EReal) (Cert.MixOutIdeal.Value.hi x0 r) = v := by
  exact Norm.rstd_real (by norm_num) fun k => h0 _

include h2 h3 h4

theorem mix_real (r : Fin 8192) : Norm.Finite fun k : Fin 1024 => Cert.MixOutIdeal.Value.mixArr x0 x2 x3 x4 (ix2 r k) := by
  intro k
  show ∃ v : ℝ, Cert.MixOutIdeal.Value.mix _ _ _ _ r k = v
  unfold Cert.MixOutIdeal.Value.mix
  exact Norm.real_add
    (Norm.real_sum fun a => Norm.real_mul (Norm.real_mul (Norm.real_mul (h0 _) (rstd_lo_real x0 h0 r)) (h2 _)) (h4 _))
    (Norm.real_sum fun a => Norm.real_mul (Norm.real_mul (Norm.real_mul (h0 _) (rstd_hi_real x0 h0 r)) (h3 _)) (h4 _))

include h5 h6

theorem dmix_at (r : Fin 8192) (l : Fin 1024) : val_main_v72 (F := Ideal) x0 x2 x3 x4 x5 x6 (ix2 r l) = Cert.MixOutIdeal.Value.dmixArr x0 x2 x3 x4 x5 x6 (ix2 r l) := by
  rw [dmix_form]
  exact (Norm.gradTiled_eq (by norm_num : (0 : ℝ) < 1024) (mix_real x0 x2 x3 x4 h0 h2 h3 h4 r)
    (fun k => Norm.real_mul (h6 _) (h5 _)) l).symm

theorem dmix_eq : Cert.MixOutIdeal.Value.dmixArr x0 x2 x3 x4 x5 x6 = val_main_v116 (F := Ideal) x0 x2 x3 x4 x5 x6 := by
  funext j
  obtain ⟨r, l, rfl⟩ : ∃ (r : Fin 8192) (l : Fin 1024), j = ix2 r l := ⟨j 0, j 1, by funext a; fin_cases a <;> rfl⟩
  rw [← dmix_at x0 x2 x3 x4 x5 x6 h0 h2 h3 h4 h5 h6]
  pointwise [val_main_v116]

theorem dmix_real (r : Fin 8192) (l : Fin 1024) : ∃ v : ℝ, Cert.MixOutIdeal.Value.dmixArr x0 x2 x3 x4 x5 x6 (ix2 r l) = v := by
  exact Norm.gradTiled_real (by norm_num : (0 : ℝ) < 1024) (mix_real x0 x2 x3 x4 h0 h2 h3 h4 r) (fun k => Norm.real_mul (h6 _) (h5 _)) l

theorem dheads_at (r : Fin 8192) (k : Fin 1024) : val_main_v73 (F := Ideal) x0 x2 x3 x4 x5 x6 (ix2 r k)
    = Cert.MixOutIdeal.Value.dheads (Cert.MixOutIdeal.Value.dmixArr x0 x2 x3 x4 x5 x6) x4 r k := by
  pointwise [val_main_v73]
  simp only [dmix_at x0 x2 x3 x4 x5 x6 h0 h2 h3 h4 h5 h6]
  rfl

theorem dlo_eq (r : Fin 8192) (k : Fin 512) : val_main_v74 (F := Ideal) x0 x2 x3 x4 x5 x6 (ix2 r k)
    = Cert.MixOutIdeal.Value.dlo (Cert.MixOutIdeal.Value.dmixArr x0 x2 x3 x4 x5 x6) x4 r k := by
  rw [left_at, dheads_at x0 x2 x3 x4 x5 x6 h0 h2 h3 h4 h5 h6]
  rfl

theorem dhi_eq (r : Fin 8192) (k : Fin 512) : val_main_v75 (F := Ideal) x0 x2 x3 x4 x5 x6 (ix2 r k)
    = Cert.MixOutIdeal.Value.dhi (Cert.MixOutIdeal.Value.dmixArr x0 x2 x3 x4 x5 x6) x4 r k := by
  rw [right_at, dheads_at x0 x2 x3 x4 x5 x6 h0 h2 h3 h4 h5 h6]
  rfl

theorem dheads_real (r : Fin 8192) (k : Fin 1024) : ∃ v : ℝ, Cert.MixOutIdeal.Value.dheads (Cert.MixOutIdeal.Value.dmixArr x0 x2 x3 x4 x5 x6) x4 r k = v :=
  Norm.real_sum fun q => Norm.real_mul (dmix_real x0 x2 x3 x4 x5 x6 h0 h2 h3 h4 h5 h6 r q) (h4 _)

/-- The two gradients of the halves agree. -/
theorem dam_eq : Cert.MixOutIdeal.Value.dam (Cert.MixOutIdeal.Value.dmixArr x0 x2 x3 x4 x5 x6) x0 (Cert.MixOutIdeal.Value.rowHalf x2) (Cert.MixOutIdeal.Value.rowHalf x3) x4 = val_main_v118 (F := Ideal) x0 x2 x3 x4 x5 x6 := by
  funext j
  obtain ⟨r, l, rfl⟩ : ∃ (r : Fin 8192) (l : Fin 1024), j = ix2 r l := ⟨j 0, j 1, by funext a; fin_cases a <;> rfl⟩
  rw [halves_at]
  refine congrArg₂ (fun a b => Cert.MixOutIdeal.Value.half a b l) (funext fun k => ?_) (funext fun k => ?_)
  · rw [dlo_at x0 x2 x3 x4 x5 x6 r k _ (dlo_eq x0 x2 x3 x4 x5 x6 h0 h2 h3 h4 h5 h6 r)]
    exact Norm.gradTiled_eq (by norm_num : (0 : ℝ) < 512) (fun k => h0 _)
      (fun k => Norm.real_mul (dheads_real x0 x2 x3 x4 x5 x6 h0 h2 h3 h4 h5 h6 r _) (h2 _)) k
  · rw [dhi_at x0 x2 x3 x4 x5 x6 r k _ (dhi_eq x0 x2 x3 x4 x5 x6 h0 h2 h3 h4 h5 h6 r)]
    exact Norm.gradTiled_eq (by norm_num : (0 : ℝ) < 512) (fun k => h0 _)
      (fun k => Norm.real_mul (dheads_real x0 x2 x3 x4 x5 x6 h0 h2 h3 h4 h5 h6 r _) (h3 _)) k

theorem dga_eq : Cert.MixOutIdeal.Value.dga (Cert.MixOutIdeal.Value.dmixArr x0 x2 x3 x4 x5 x6) x0 x4 = val_main_v120 (F := Ideal) x0 x2 x3 x4 x5 x6 := by
  funext j
  obtain ⟨z, l, rfl⟩ : ∃ (z : Fin 1) (l : Fin 512), j = ix2 z l := ⟨j 0, j 1, by funext a; fin_cases a <;> rfl⟩
  pointwise [val_main_v120, val_main_v101, val_main_v98, val_main_cst_22, val_main_v97, val_main_v96, val_main_cst_21]
  simp only [Norm.word_512, Norm.word_1024, Norm.word_eps, Norm.word_neg_half, Fin.sum_univ_one, Finset.univ_unique, Finset.sum_singleton, xlo_at, dlo_eq x0 x2 x3 x4 x5 x6 h0 h2 h3 h4 h5 h6]
  unfold Cert.MixOutIdeal.Value.dga Cert.MixOutIdeal.Value.dgaRow
  simp only [mul_comm]
  rfl

theorem dgg_eq : Cert.MixOutIdeal.Value.dgg (Cert.MixOutIdeal.Value.dmixArr x0 x2 x3 x4 x5 x6) x0 x4 = val_main_v121 (F := Ideal) x0 x2 x3 x4 x5 x6 := by
  funext j
  obtain ⟨z, l, rfl⟩ : ∃ (z : Fin 1) (l : Fin 512), j = ix2 z l := ⟨j 0, j 1, by funext a; fin_cases a <;> rfl⟩
  pointwise [val_main_v121, val_main_v81, val_main_v78, val_main_cst_17, val_main_v77, val_main_v76, val_main_cst_16]
  simp only [Norm.word_512, Norm.word_1024, Norm.word_eps, Norm.word_neg_half, Fin.sum_univ_one, Finset.univ_unique, Finset.sum_singleton, xhi_at, dhi_eq x0 x2 x3 x4 x5 x6 h0 h2 h3 h4 h5 h6]
  unfold Cert.MixOutIdeal.Value.dgg Cert.MixOutIdeal.Value.dggRow
  simp only [mul_comm]
  rfl

end Finite

end Cert.MixOutReferenceIdeal.Value
-- ==== Proof.MixOut.lean ====
/- The claims about the gradient of the output product. -/
module

public import proofs.«01_k».proof.Defs
public import proofs.«01_k».proof.Proof.Tame
public import proofs.«01_k».proof.Proof.MixOutReference
public import proofs.«01_k».proof.Proof.Gen.MixOut.Frame
public import proofs.«01_k».proof.Proof.Gen.MixOutReferenceIdeal
public import proofs.«01_k».proof.Proof.Gen.Pre_finite_mix_out

@[expose] public section

set_option maxRecDepth 16384

noncomputable section

open Idealize.ShloMosaic Idealize.ShloMosaic.TcCoe Idealize.SL.Sem

namespace Cert.MixOutClaims

instance : Cert.MixOut.Facts := Cert.MixOut.Gen.facts
instance : Cert.MixOutIdeal.Facts := Cert.MixOutIdeal.Gen.facts
instance : Cert.MixOutReferenceIdeal.Facts := Cert.MixOutReferenceIdeal.Gen.facts
instance : Cert.Pre_finite_mix_out.Facts := Cert.Pre_finite_mix_out.Gen.facts

theorem finite_args (x0 x1 x2 x3 x4 x5 x6) (h : Cert.Pre_finite_mix_out.fn (F := Ideal) x0 x1 x2 x3 x4 x5 x6 = fun _ => 1#1) :
    Norm.Finite x0 ∧ Norm.Finite x2 ∧ Norm.Finite x3 ∧ Norm.Finite x4 ∧ Norm.Finite x5 ∧ Norm.Finite x6 := by
  have e := congrFun h default
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e0, e2⟩ := IntOp.andi_eq_one.mp e
  exact ⟨Norm.finite_of_all x0 _ Norm.word_inf_bf16 _ _ _ _ _ _ e0,
    Norm.finite_of_all x2 _ Norm.word_inf _ _ _ _ _ _ e2,
    Norm.finite_of_all x3 _ Norm.word_inf _ _ _ _ _ _ e3,
    Norm.finite_of_all x4 _ Norm.word_inf _ _ _ _ _ _ e4,
    Norm.finite_of_all x5 _ Norm.word_inf _ _ _ _ _ _ e5,
    Norm.finite_of_all x6 _ Norm.word_inf _ _ _ _ _ _ e6⟩

theorem frame : Cert.quiescent_MixOut := fun m ρ _ => Cert.MixOut.Gen.frame m ρ

theorem frameIdeal : Cert.quiescent_MixOutIdeal := fun m ρ _ => Cert.MixOutIdeal.Gen.frame m ρ

theorem frameIdealFinite : Cert.quiescent_MixOutIdeal_pre_finite_mix_out := fun m ρ _ => Cert.MixOutIdeal.Gen.frame m ρ

theorem frameReference : Cert.quiescent_MixOutReferenceIdeal := by
  intro m ρ _
  refine (θ_run _ _ _).mono (fun r h => ⟨fun c => ?_, sem_eq_zero_of_no_sems (by decide) r.2⟩)
    (Cert.MixOutReferenceIdeal.Value.run (F := Ideal) m ρ)
  exact (h c).2.2.2.2.2.2.2.2

theorem frameReferenceFinite : Cert.quiescent_MixOutReferenceIdeal_pre_finite_mix_out := fun m ρ _ => frameReference m ρ trivial

set_option maxHeartbeats 1600000 in
theorem algebraic : Cert.algebraic_MixOutIdeal_MixOutReferenceIdeal_pre_finite_mix_out := by
  pair_intro
  · run_from Cert.MixOutIdeal.Value.run_main m g
  · run_from Cert.MixOutReferenceIdeal.Value.run m' g'
    · obtain ⟨h0, h2, h3, h4, h5, h6⟩ := finite_args _ _ _ _ _ _ _ (hpre c)
      obtain ⟨a0, a1, a2, a3, a4, a5, a6⟩ := hagree c
      rw [← a0, ← a2, ← a3, ← a4, ← a5, ← a6]
      refine (Cert.MixOutReferenceIdeal.Read.val_main_v116_eq (StableHlo.launchContents m' c)).trans ?_
      refine Eq.trans (b := Cert.MixOutReferenceIdeal.Read.val_main_v116 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4)) (m' ((c.tc : Thread _ _).loc Cert.MixOutReferenceIdeal.main_arg5)) (m' ((c.tc : Thread _ _).loc Cert.MixOutReferenceIdeal.main_arg6))) rfl ?_
      rw [a0, a2, a3, a4, a5, a6]
      exact (Cert.MixOutReferenceIdeal.Value.dmix_eq _ _ _ _ _ _ h0 h2 h3 h4 h5 h6).symm
    · obtain ⟨h0, h2, h3, h4, h5, h6⟩ := finite_args _ _ _ _ _ _ _ (hpre c)
      obtain ⟨a0, a1, a2, a3, a4, a5, a6⟩ := hagree c
      rw [← a0, ← a2, ← a3, ← a4, ← a5, ← a6]
      refine (Cert.MixOutReferenceIdeal.Read.val_main_v118_eq (StableHlo.launchContents m' c)).trans ?_
      refine Eq.trans (b := Cert.MixOutReferenceIdeal.Read.val_main_v118 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4)) (m' ((c.tc : Thread _ _).loc Cert.MixOutReferenceIdeal.main_arg5)) (m' ((c.tc : Thread _ _).loc Cert.MixOutReferenceIdeal.main_arg6))) rfl ?_
      rw [a0, a2, a3, a4, a5, a6]
      exact (Cert.MixOutReferenceIdeal.Value.dam_eq _ _ _ _ _ _ h0 h2 h3 h4 h5 h6).symm
    · obtain ⟨h0, h2, h3, h4, h5, h6⟩ := finite_args _ _ _ _ _ _ _ (hpre c)
      obtain ⟨a0, a1, a2, a3, a4, a5, a6⟩ := hagree c
      rw [← a0, ← a2, ← a3, ← a4, ← a6]
      refine (Cert.MixOutReferenceIdeal.Read.val_main_v119_eq (StableHlo.launchContents m' c)).trans ?_
      refine Eq.trans (b := Cert.MixOutReferenceIdeal.Read.val_main_v119 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4)) (m' ((c.tc : Thread _ _).loc Cert.MixOutReferenceIdeal.main_arg6))) rfl ?_
      rw [a0, a2, a3, a4, a6]
      exact (Cert.MixOutReferenceIdeal.Value.dgp_eq _ _ _ _ _).symm
    · obtain ⟨h0, h2, h3, h4, h5, h6⟩ := finite_args _ _ _ _ _ _ _ (hpre c)
      obtain ⟨a0, a1, a2, a3, a4, a5, a6⟩ := hagree c
      rw [← a0, ← a2, ← a3, ← a4, ← a5, ← a6]
      refine (Cert.MixOutReferenceIdeal.Read.val_main_v120_eq (StableHlo.launchContents m' c)).trans ?_
      refine Eq.trans (b := Cert.MixOutReferenceIdeal.Read.val_main_v120 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4)) (m' ((c.tc : Thread _ _).loc Cert.MixOutReferenceIdeal.main_arg5)) (m' ((c.tc : Thread _ _).loc Cert.MixOutReferenceIdeal.main_arg6))) rfl ?_
      rw [a0, a2, a3, a4, a5, a6]
      exact (Cert.MixOutReferenceIdeal.Value.dga_eq _ _ _ _ _ _ h0 h2 h3 h4 h5 h6).symm
    · obtain ⟨h0, h2, h3, h4, h5, h6⟩ := finite_args _ _ _ _ _ _ _ (hpre c)
      obtain ⟨a0, a1, a2, a3, a4, a5, a6⟩ := hagree c
      rw [← a0, ← a2, ← a3, ← a4, ← a5, ← a6]
      refine (Cert.MixOutReferenceIdeal.Read.val_main_v121_eq (StableHlo.launchContents m' c)).trans ?_
      refine Eq.trans (b := Cert.MixOutReferenceIdeal.Read.val_main_v121 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4)) (m' ((c.tc : Thread _ _).loc Cert.MixOutReferenceIdeal.main_arg5)) (m' ((c.tc : Thread _ _).loc Cert.MixOutReferenceIdeal.main_arg6))) rfl ?_
      rw [a0, a2, a3, a4, a5, a6]
      exact (Cert.MixOutReferenceIdeal.Value.dgg_eq _ _ _ _ _ _ h0 h2 h3 h4 h5 h6).symm
    · obtain ⟨a0, a1, a2, a3, a4, a5, a6⟩ := hagree c
      rw [← a0, ← a2, ← a3]
      refine (Cert.MixOutReferenceIdeal.Read.val_main_v122_eq (StableHlo.launchContents m' c)).trans ?_
      refine Eq.trans (b := Cert.MixOutReferenceIdeal.Read.val_main_v122 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3))) rfl ?_
      rw [a0, a2, a3]
      exact (Cert.MixOutReferenceIdeal.Value.heads_eq _ _ _).symm
    · obtain ⟨a0, a1, a2, a3, a4, a5, a6⟩ := hagree c
      rw [← a0, ← a2, ← a3, ← a4]
      refine (Cert.MixOutReferenceIdeal.Read.val_main_v123_eq (StableHlo.launchContents m' c)).trans ?_
      refine Eq.trans (b := Cert.MixOutReferenceIdeal.Read.val_main_v123 (F := Ideal) (m' ((c.tc : Thread _ _).loc Cert.MixOutReferenceIdeal.main_arg0)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4))) rfl ?_
      rw [a0, a2, a3, a4]
      exact (Cert.MixOutReferenceIdeal.Value.mix_eq _ _ _ _).symm
    · obtain ⟨a0, a1, a2, a3, a4, a5, a6⟩ := hagree c
      rw [← a0, ← a1, ← a2, ← a3, ← a4, ← a5]
      refine (Cert.MixOutReferenceIdeal.Read.val_main_v124_eq (StableHlo.launchContents m' c)).trans ?_
      refine Eq.trans (b := Cert.MixOutReferenceIdeal.Read.val_main_v124 (F := Ideal) (m' ((c.tc : Thread _ _).loc Cert.MixOutReferenceIdeal.main_arg0)) (m' ((c.tc : Thread _ _).loc Cert.MixOutReferenceIdeal.main_arg1)) (m' ((c.tc : Thread _ _).loc Cert.MixOutReferenceIdeal.main_arg2)) (m' ((c.tc : Thread _ _).loc Cert.MixOutReferenceIdeal.main_arg3)) (m' ((c.tc : Thread _ _).loc Cert.MixOutReferenceIdeal.main_arg4)) (m' ((c.tc : Thread _ _).loc Cert.MixOutReferenceIdeal.main_arg5))) rfl ?_
      rw [a0, a1, a2, a3, a4, a5]
      exact (Cert.MixOutReferenceIdeal.Value.out_eq _ _ _ _ _ _).symm

end Cert.MixOutClaims
-- ==== Proof.FfnOutForward.lean ====
/- What the two forward calls of the feed-forward layer leave for the backward call, block by block. -/
module

public import proofs.«01_k».proof.Proof.Norm
public import proofs.«01_k».proof.Proof.Gate
public import proofs.«01_k».proof.Proof.Gen.FfnOutIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnOutIdeal.Value

open Cert.FfnOutIdeal Cert.FfnOutIdeal.Gen

/-! ## One block of the first call -/

theorem f_at (v0 : Vec Ideal S256x1024 .f32) (v1 : Vec Ideal S1x1024 .f32) (r : Fin 256) (k : Fin 1024) :
    k0_pay1 v0 v1 (ix2 r k) = v0 (ix2 r k) * Norm.rstd ((1024 : ℝ) : EReal) (fun k => v0 (ix2 r k)) * v1 (ix2 0 k) := by
  pointwise [k0_pay1]
  rw [Norm.word_1024, Norm.word_eps]
  rfl

theorem gate_at (v0 : Vec Ideal S256x1024 .f32) (v1 : Vec Ideal S1x1024 .f32) (v17 : Vec Ideal S2816x1024 .bf16) (r : Fin 256) (k : Fin 2816) :
    k0_pay2 v0 v1 v17 (ix2 r k) = ∑ q : Fin 1024, k0_pay1 v0 v1 (ix2 r q) * v17 (ix2 k q) := by
  pointwise [k0_pay2]

theorem up_at (v0 : Vec Ideal S256x1024 .f32) (v1 : Vec Ideal S1x1024 .f32) (v22 : Vec Ideal S2816x1024 .bf16) (r : Fin 256) (k : Fin 2816) :
    k0_pay3 v0 v1 v22 (ix2 r k) = ∑ q : Fin 1024, k0_pay1 v0 v1 (ix2 r q) * v22 (ix2 k q) := by
  pointwise [k0_pay3]

/-! ## One block of the second call -/

theorem down_at (v0 v11 : Vec Ideal S256x2816 .bf16) (v16 : Vec Ideal S2816x1024 .bf16) (r : Fin 256) (k : Fin 1024) :
    k1_pay2 v0 v11 v16 (ix2 r k)
      = ∑ q : Fin 2816, v0 (ix2 r q) * Gate.viaTanh (v0 (ix2 r q)) * v11 (ix2 r q) * v16 (ix2 q k) := by
  pointwise [k1_pay2, k1_pay1]
  rw [Gate.word_half]
  rfl

theorem out_at (v0 v11 : Vec Ideal S256x2816 .bf16) (v16 : Vec Ideal S2816x1024 .bf16) (v21 : Vec Ideal S256x1024 .f32) (v22 : Vec Ideal S1x1024 .f32)
    (r : Fin 256) (k : Fin 1024) :
    k1_pay3 v0 v11 v16 v21 v22 (ix2 r k) = v21 (ix2 r k)
      + k1_pay2 v0 v11 v16 (ix2 r k) * Norm.rstd ((1024 : ℝ) : EReal) (fun k => k1_pay2 v0 v11 v16 (ix2 r k)) * v22 (ix2 0 k) := by
  pointwise [k1_pay3]
  rw [Norm.word_1024, Norm.word_eps]
  rfl

/-! ## The saved arrays -/

/-- The normalised rows times their gain. -/
def norm (h : FVec Ideal S8192x1024 .f32) (ln : FVec Ideal S1x1024 .f32) (r : Fin 8192) (k : Fin 1024) : EReal :=
  h (ix2 r k) * Norm.rstd ((1024 : ℝ) : EReal) (fun k => h (ix2 r k)) * ln (ix2 0 k)

/-- The normalised rows as an array. -/
def normed (h : FVec Ideal S8192x1024 .f32) (ln : FVec Ideal S1x1024 .f32) : FVec Ideal S8192x1024 .bf16 := fun j => norm h ln (j 0) (j 1)

/-- The product of the normalised rows with one of the two wide weights, the weight transposed. -/
def wide (h : FVec Ideal S8192x1024 .f32) (ln : FVec Ideal S1x1024 .f32) (w : FVec Ideal S2816x1024 .bf16) : FVec Ideal S8192x2816 .bf16 :=
  fun j => ∑ q : Fin 1024, norm h ln (j 0) q * w (ix2 (j 1) q)

/-- The gated row. -/
def act (gt up : FVec Ideal S8192x2816 .bf16) : FVec Ideal S8192x2816 .bf16 :=
  fun j => gt j * Gate.viaTanh (gt j) * up j

/-- The gated rows times the last weight. -/
def down (gt up : FVec Ideal S8192x2816 .bf16) (w : FVec Ideal S2816x1024 .bf16) : FVec Ideal S8192x1024 .bf16 :=
  fun j => ∑ q : Fin 2816, act gt up (ix2 (j 0) q) * w (ix2 q (j 1))

/-- The layer's input plus the normalised last product. -/
def out (h : FVec Ideal S8192x1024 .f32) (dn : FVec Ideal S8192x1024 .bf16) (ln : FVec Ideal S1x1024 .f32) : FVec Ideal S8192x1024 .f32 :=
  fun j => h j + dn j * Norm.rstd ((1024 : ℝ) : EReal) (fun k => dn (ix2 (j 0) k)) * ln (ix2 0 (j 1))

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

theorem idx1 : ∀ t : Fin cfg1.N, win1_0.index t = ![t.val, 0] ∧ win1_1.index t = ![t.val, 0] ∧ win1_2.index t = ![0, 0]
    ∧ win1_3.index t = ![t.val, 0] ∧ win1_4.index t = ![0, 0] ∧ win1_5.index t = ![t.val, 0] ∧ win1_6.index t = ![t.val, 0] :=
  (by decide +kernel : ∀ t : Fin grid1.N, _)

theorem norm_point (t : Fin cfg0.N) (r : Fin 256) (k : Fin 1024) (h : t.val * 256 + r.val < 8192) :
    k0_pay1 (iblk0 V c 0 t) (iblk0 V c 1 t) (ix2 r k) = norm (V c main_arg0) (V c main_v1) ⟨t.val * 256 + r.val, h⟩ k := by
  rw [f_at]
  unfold norm
  have h0 : ∀ a : Fin 1024, (show Vec Ideal S256x1024 .f32 from iblk0 V c 0 t) (ix2 r a)
      = (V c main_arg0) (ix2 ⟨t.val * 256 + r.val, h⟩ a) := fun a => by blk_ext [iblk0, idx0 t]
  have h1 : ∀ a : Fin 1024, (show Vec Ideal S1x1024 .f32 from iblk0 V c 1 t) (ix2 0 a) = (V c main_v1) (ix2 0 a) :=
    fun a => by blk_ext [iblk0, idx0 t]
  simp only [h0, h1]

theorem gate_point (t : Fin cfg0.N) (r : Fin 256) (k : Fin 2816) (h : t.val * 256 + r.val < 8192) :
    k0_pay2 (iblk0 V c 0 t) (iblk0 V c 1 t) (iblk0 V c 2 t) (ix2 r k)
      = wide (V c main_arg0) (V c main_v1) (V c main_v3) (ix2 ⟨t.val * 256 + r.val, h⟩ k) := by
  rw [gate_at]
  have h2 : ∀ q : Fin 1024, (show Vec Ideal S2816x1024 .bf16 from iblk0 V c 2 t) (ix2 k q) = (V c main_v3) (ix2 k q) :=
    fun q => by blk_ext [iblk0, idx0 t]
  simp only [norm_point V c t r _ h, h2]
  rfl

theorem up_point (t : Fin cfg0.N) (r : Fin 256) (k : Fin 2816) (h : t.val * 256 + r.val < 8192) :
    k0_pay3 (iblk0 V c 0 t) (iblk0 V c 1 t) (iblk0 V c 3 t) (ix2 r k)
      = wide (V c main_arg0) (V c main_v1) (V c main_v5) (ix2 ⟨t.val * 256 + r.val, h⟩ k) := by
  rw [up_at]
  have h3 : ∀ q : Fin 1024, (show Vec Ideal S2816x1024 .bf16 from iblk0 V c 3 t) (ix2 k q) = (V c main_v5) (ix2 k q) :=
    fun q => by blk_ext [iblk0, idx0 t]
  simp only [norm_point V c t r _ h, h3]
  rfl

theorem down_point (t : Fin cfg1.N) (r : Fin 256) (k : Fin 1024) (h : t.val * 256 + r.val < 8192) :
    k1_pay2 (iblk1 V c 0 t) (iblk1 V c 1 t) (iblk1 V c 2 t) (ix2 r k)
      = down (V c main_v6_1) (V c main_v6_2) (V c main_v0) (ix2 ⟨t.val * 256 + r.val, h⟩ k) := by
  rw [down_at]
  have h0 : ∀ q : Fin 2816, (show Vec Ideal S256x2816 .bf16 from iblk1 V c 0 t) (ix2 r q)
      = (V c main_v6_1) (ix2 ⟨t.val * 256 + r.val, h⟩ q) := fun a => by blk_ext [iblk1, idx1 t]
  have h1 : ∀ q : Fin 2816, (show Vec Ideal S256x2816 .bf16 from iblk1 V c 1 t) (ix2 r q)
      = (V c main_v6_2) (ix2 ⟨t.val * 256 + r.val, h⟩ q) := fun a => by blk_ext [iblk1, idx1 t]
  have h2 : ∀ q : Fin 2816, (show Vec Ideal S2816x1024 .bf16 from iblk1 V c 2 t) (ix2 q k) = (V c main_v0) (ix2 q k) :=
    fun q => by blk_ext [iblk1, idx1 t]
  simp only [h0, h1, h2]
  rfl

theorem final_gate : (dat0 V c).arrAt 5 cfg0.N = wide (V c main_arg0) (V c main_v1) (V c main_v3) := by
  refine (dat0 V c).arrAt_eq_of_covers 5 _ (by decide +kernel) fun t _ y => ?_
  blk_simp
  rw [after0_5]
  have hN : t.val < 32 := lt_of_lt_of_eq t.isLt N_0
  obtain ⟨r, l, rfl⟩ : ∃ (r : Fin 256) (l : Fin 2816), y = ix2 r l := ⟨y 0, y 1, by funext a; fin_cases a <;> rfl⟩
  have he : (win0_5.blk t).view.emb (ix2 r l) = ix2 ⟨t.val * 256 + r.val, by omega⟩ l := by blk_ext [idx0 t]
  frame_out
  rw [he]
  exact gate_point V c t r l (by omega)

theorem final_up : (dat0 V c).arrAt 6 cfg0.N = wide (V c main_arg0) (V c main_v1) (V c main_v5) := by
  refine (dat0 V c).arrAt_eq_of_covers 6 _ (by decide +kernel) fun t _ y => ?_
  blk_simp
  rw [after0_6]
  have hN : t.val < 32 := lt_of_lt_of_eq t.isLt N_0
  obtain ⟨r, l, rfl⟩ : ∃ (r : Fin 256) (l : Fin 2816), y = ix2 r l := ⟨y 0, y 1, by funext a; fin_cases a <;> rfl⟩
  have he : (win0_6.blk t).view.emb (ix2 r l) = ix2 ⟨t.val * 256 + r.val, by omega⟩ l := by blk_ext [idx0 t]
  frame_out
  rw [he]
  exact up_point V c t r l (by omega)

theorem final_down : (dat1 V c).arrAt 5 cfg1.N = down (V c main_v6_1) (V c main_v6_2) (V c main_v0) := by
  refine (dat1 V c).arrAt_eq_of_covers 5 _ (by decide +kernel) fun t _ y => ?_
  blk_simp
  rw [after1_5]
  have hN : t.val < 32 := lt_of_lt_of_eq t.isLt N_1
  obtain ⟨r, l, rfl⟩ : ∃ (r : Fin 256) (l : Fin 1024), y = ix2 r l := ⟨y 0, y 1, by funext a; fin_cases a <;> rfl⟩
  have he : (win1_5.blk t).view.emb (ix2 r l) = ix2 ⟨t.val * 256 + r.val, by omega⟩ l := by blk_ext [idx1 t]
  frame_out
  rw [he]
  exact down_point V c t r l (by omega)

theorem out_point (t : Fin cfg1.N) (r : Fin 256) (k : Fin 1024) (h : t.val * 256 + r.val < 8192) :
    k1_pay3 (iblk1 V c 0 t) (iblk1 V c 1 t) (iblk1 V c 2 t) (iblk1 V c 3 t) (iblk1 V c 4 t) (ix2 r k)
      = out (V c main_arg0) (down (V c main_v6_1) (V c main_v6_2) (V c main_v0)) (V c main_v7) (ix2 ⟨t.val * 256 + r.val, h⟩ k) := by
  rw [out_at]
  have h3 : (show Vec Ideal S256x1024 .f32 from iblk1 V c 3 t) (ix2 r k) = (V c main_arg0) (ix2 ⟨t.val * 256 + r.val, h⟩ k) := by blk_ext [iblk1, idx1 t]
  have h4 : (show Vec Ideal S1x1024 .f32 from iblk1 V c 4 t) (ix2 0 k) = (V c main_v7) (ix2 0 k) := by blk_ext [iblk1, idx1 t]
  simp only [down_point V c t r _ h, h3, h4]
  rfl

theorem final_norm : (dat0 V c).arrAt 4 cfg0.N = normed (V c main_arg0) (V c main_v1) := by
  refine (dat0 V c).arrAt_eq_of_covers 4 _ (by decide +kernel) fun t _ y => ?_
  blk_simp
  rw [after0_4]
  have hN : t.val < 32 := lt_of_lt_of_eq t.isLt N_0
  obtain ⟨r, l, rfl⟩ : ∃ (r : Fin 256) (l : Fin 1024), y = ix2 r l := ⟨y 0, y 1, by funext a; fin_cases a <;> rfl⟩
  have he : (win0_4.blk t).view.emb (ix2 r l) = ix2 ⟨t.val * 256 + r.val, by omega⟩ l := by blk_ext [idx0 t]
  frame_out
  rw [he]
  exact norm_point V c t r l (by omega)

theorem final_out : (dat1 V c).arrAt 6 cfg1.N = out (V c main_arg0) (down (V c main_v6_1) (V c main_v6_2) (V c main_v0)) (V c main_v7) := by
  refine (dat1 V c).arrAt_eq_of_covers 6 _ (by decide +kernel) fun t _ y => ?_
  blk_simp
  rw [after1_6]
  have hN : t.val < 32 := lt_of_lt_of_eq t.isLt N_1
  obtain ⟨r, l, rfl⟩ : ∃ (r : Fin 256) (l : Fin 1024), y = ix2 r l := ⟨y 0, y 1, by funext a; fin_cases a <;> rfl⟩
  have he : (win1_6.blk t).view.emb (ix2 r l) = ix2 ⟨t.val * 256 + r.val, by omega⟩ l := by blk_ext [idx1 t]
  frame_out
  rw [he]
  exact out_point V c t r l (by omega)

end Cert.FfnOutIdeal.Value
-- ==== Proof.FfnOutBackward.lean ====
/- What the backward call of the feed-forward layer's second half computes, block by block. -/
module

public import proofs.«01_k».proof.Proof.Norm
public import proofs.«01_k».proof.Proof.Gate
public import proofs.«01_k».proof.Proof.Gen.FfnOutIdeal.Frame
public import Idealize.ShloMosaic.Lib.Claim
public import Idealize.ShloMosaic.Lib.Pointwise
public import Idealize.ShloMosaic.Lib.Pipeline.ValueKit
public import proofs.«01_k».proof.Proof.FfnOutForward

@[expose] public section

set_option maxRecDepth 16384

noncomputable section

open Idealize.ShloMosaic Idealize.ShloMosaic.TcCoe Idealize.SL.Sem
open Idealize.ShloMosaic.Pipeline (Dat)

namespace Cert.FfnOutIdeal.Value

open Cert.FfnOutIdeal Cert.FfnOutIdeal.Gen

/-! ## One block -/

theorem ddn_at (v0 : Vec Ideal S256x1024 .f32) (v1 : Vec Ideal S256x1024 .bf16) (v4 : Vec Ideal S1x1024 .f32)
    (r : Fin 256) (l : Fin 1024) :
    k2_pay7 v0 v1 v4 (ix2 r l) = Norm.gradTiled ((1024 : ℝ) : EReal) (fun k => v1 (ix2 r k)) (fun k => v0 (ix2 r k) * v4 (ix2 0 k)) l := by
  pointwise [k2_pay7, k2_pay4, k2_pay3, k2_pay2]
  rw [Norm.word_1024, Norm.word_eps]
  rfl

theorem dg_at (v0 : Vec Ideal S256x1024 .f32) (v1 : Vec Ideal S256x1024 .bf16) (v34 : Vec Ideal S1x1024 .f32)
    (z : Fin 1) (l : Fin 1024) :
    k2_pay6 v0 v1 v34 (ix2 z l) = v34 (ix2 z l) + ∑ r : Fin 256, v0 (ix2 r l)
      * (v1 (ix2 r l) * Norm.rstd ((1024 : ℝ) : EReal) (fun k => v1 (ix2 r k))) := by
  pointwise [k2_pay6, k2_pay4, k2_pay3, k2_pay2]
  rw [Norm.word_1024, Norm.word_eps]
  rfl

theorem zero_dg (j) : k2_pay5 (F := Ideal) j = 0 := by pointwise [k2_pay5]

theorem dact_at (v38 : Vec Ideal S256x1024 .bf16) (v40 : Vec Ideal S256x1024 .bf16) (a b : Fin 256) :
    k2_pay8 v38 v40 (ix2 a b) = ∑ q : Fin 1024, v38 (ix2 a q) * v40 (ix2 b q) := by
  pointwise [k2_pay8]

theorem act_at (v43 v46 : Vec Ideal S256x256 .bf16) (a b : Fin 256) :
    k2_pay13 v43 v46 (ix2 a b) = v43 (ix2 a b) * Gate.viaTanh (v43 (ix2 a b)) * v46 (ix2 a b) := by
  pointwise [k2_pay13, k2_pay12, k2_pay11, k2_pay10, k2_pay9]
  rw [Gate.word_half]
  rfl

theorem dup_at (v38 v40 : Vec Ideal S256x1024 .bf16) (v43 : Vec Ideal S256x256 .bf16) (a b : Fin 256) :
    k2_pay14 v38 v40 v43 (ix2 a b) = k2_pay8 v38 v40 (ix2 a b) * (v43 (ix2 a b) * Gate.viaTanh (v43 (ix2 a b))) := by
  pointwise [k2_pay14, k2_pay12, k2_pay11, k2_pay9]
  rw [Gate.word_half]
  rfl

theorem dgt_at (v38 v40 : Vec Ideal S256x1024 .bf16) (v43 v46 : Vec Ideal S256x256 .bf16) (a b : Fin 256) :
    k2_pay15 v38 v40 v43 v46 (ix2 a b) = k2_pay8 v38 v40 (ix2 a b) * v46 (ix2 a b)
      * (Gate.viaTanh (v43 (ix2 a b)) * (1 + v43 (ix2 a b) * (1 - Gate.viaTanh (v43 (ix2 a b))))) := by
  pointwise [k2_pay15, k2_pay12, k2_pay11, k2_pay10, k2_pay9]
  rw [Gate.word_half]
  rfl

/-! ## The five arrays -/

/-- The gradient of the last product. -/
def ddn (dh : FVec Ideal S8192x1024 .f32) (dn : FVec Ideal S8192x1024 .bf16) (lp : FVec Ideal S1x1024 .f32) : FVec Ideal S8192x1024 .bf16 :=
  fun j => Norm.gradTiled ((1024 : ℝ) : EReal) (fun k => dn (ix2 (j 0) k)) (fun k => dh (ix2 (j 0) k) * lp (ix2 0 k)) (j 1)

/-- The gradient of the gated rows. -/
def dact (d : FVec Ideal S8192x1024 .bf16) (w : FVec Ideal S2816x1024 .bf16) (j : S8192x2816.Idx) : EReal :=
  ∑ q : Fin 1024, d (ix2 (j 0) q) * w (ix2 (j 1) q)

/-- The gradient of the rows that are gated. -/
def dup (d : FVec Ideal S8192x1024 .bf16) (w : FVec Ideal S2816x1024 .bf16) (gt : FVec Ideal S8192x2816 .bf16) : FVec Ideal S8192x2816 .bf16 :=
  fun j => dact d w j * (gt j * Gate.viaTanh (gt j))

/-- The gradient of the rows in the gate. -/
def dgt (d : FVec Ideal S8192x1024 .bf16) (w : FVec Ideal S2816x1024 .bf16) (gt up : FVec Ideal S8192x2816 .bf16) : FVec Ideal S8192x2816 .bf16 :=
  fun j => dact d w j * up j * (Gate.viaTanh (gt j) * (1 + gt j * (1 - Gate.viaTanh (gt j))))

/-- What row `r` adds to the gradient of the gain. -/
def dgRow (dh : FVec Ideal S8192x1024 .f32) (dn : FVec Ideal S8192x1024 .bf16) (l : Fin 1024) (r : Fin 8192) : EReal :=
  dh (ix2 r l) * (dn (ix2 r l) * Norm.rstd ((1024 : ℝ) : EReal) (fun k => dn (ix2 r k)))

def dg (dh : FVec Ideal S8192x1024 .f32) (dn : FVec Ideal S8192x1024 .bf16) : FVec Ideal S1x1024 .f32 :=
  fun j => ∑ r : Fin 8192, dgRow dh dn (j 1) r

variable (V : (c : Dev nD) → (b : Ref sig .tc) → Buf (Elt Ideal) ((c : Thread nD τ).loc b)) (c : Dev nD)

theorem idx2 : ∀ t : Fin cfg2.N, win2_0.index t = ![t.val, 0] ∧ win2_1.index t = ![t.val, 0] ∧ win2_2.index t = ![0, 0]
    ∧ win2_3.index t = ![0, 0] ∧ win2_4.index t = ![t.val, 0] ∧ win2_5.index t = ![t.val, 0] ∧ win2_6.index t = ![t.val, 0]
    ∧ win2_7.index t = ![t.val, 0] ∧ win2_8.index t = ![t.val, 0] ∧ win2_9.index t = ![t.val, 0] ∧ win2_10.index t = ![0, 0] :=
  (by decide +kernel : ∀ t : Fin grid2.N, _)

section Blocks
variable (t : Fin cfg2.N) (r : Fin 256) (h : t.val * 256 + r.val < 8192)

theorem blk_dh (k : Fin 1024) : (show Vec Ideal S256x1024 .f32 from iblk2 V c 0 t) (ix2 r k) = V c main_arg6 (ix2 ⟨t.val * 256 + r.val, h⟩ k) := by
  blk_ext [iblk2, idx2 t]

theorem blk_dn (k : Fin 1024) : (show Vec Ideal S256x1024 .bf16 from iblk2 V c 1 t) (ix2 r k) = V c main_v8_0 (ix2 ⟨t.val * 256 + r.val, h⟩ k) := by
  blk_ext [iblk2, idx2 t]

theorem blk_lp (k : Fin 1024) : (show Vec Ideal S1x1024 .f32 from iblk2 V c 2 t) (ix2 0 k) = V c main_v9 (ix2 0 k) := by
  blk_ext [iblk2, idx2 t]

theorem ddn_point (l : Fin 1024) : (k2_pay7 (iblk2 V c 0 t) (iblk2 V c 1 t) (iblk2 V c 2 t)) (ix2 r l) = (ddn (V c main_arg6) (V c main_v8_0) (V c main_v9)) (ix2 ⟨t.val * 256 + r.val, h⟩ l) := by
  rw [ddn_at]
  simp only [blk_dh V c t r h, blk_dn V c t r h, blk_lp V c t]
  rfl

/-! ## One chunk of 256 lanes, at offset `o` -/

section Chunk
variable (o : ℕ) (i : ∀ a, (![0, o] : Fin 2 → Nat) a + S256x256.size a ≤ S256x2816.size a) (i' : ∀ a, (![o, 0] : Fin 2 → Nat) a + S256x1024.size a ≤ S2816x1024.size a) (b : Fin 256) (l : Fin 2816) (hl : l.val = o + b.val)

include hl

theorem blk_gt : (View.ld (iblk2 V c 4 t) (Rect.unit (s := S256x2816) ![0, o] ![256, 256] i) : Vec Ideal S256x256 .bf16) (ix2 r b) = V c main_v6_1 (ix2 ⟨t.val * 256 + r.val, h⟩ l) := by
  pointwise
  have e : (⟨o + b.val, lt_of_eq_of_lt hl.symm l.isLt⟩ : Fin 2816) = l := Fin.ext hl.symm
  rw [e]
  blk_ext [iblk2, idx2 t]

theorem blk_up : (View.ld (iblk2 V c 5 t) (Rect.unit (s := S256x2816) ![0, o] ![256, 256] i) : Vec Ideal S256x256 .bf16) (ix2 r b) = V c main_v6_2 (ix2 ⟨t.val * 256 + r.val, h⟩ l) := by
  pointwise
  have e : (⟨o + b.val, lt_of_eq_of_lt hl.symm l.isLt⟩ : Fin 2816) = l := Fin.ext hl.symm
  rw [e]
  blk_ext [iblk2, idx2 t]

theorem blk_wd (q : Fin 1024) : (View.ld (iblk2 V c 3 t) (Rect.unit (s := S2816x1024) ![o, 0] ![256, 1024] i') : Vec Ideal S256x1024 .bf16) (ix2 b q) = V c main_v0 (ix2 l q) := by
  pointwise
  have e : (⟨o + b.val, lt_of_eq_of_lt hl.symm l.isLt⟩ : Fin 2816) = l := Fin.ext hl.symm
  rw [e]
  blk_ext [iblk2, idx2 t]

theorem dact_piece : k2_pay8 (k2_pay7 (iblk2 V c 0 t) (iblk2 V c 1 t) (iblk2 V c 2 t)) (View.ld (iblk2 V c 3 t) (Rect.unit (s := S2816x1024) ![o, 0] ![256, 1024] i')) (ix2 r b) = dact (ddn (V c main_arg6) (V c main_v8_0) (V c main_v9)) (V c main_v0) (ix2 ⟨t.val * 256 + r.val, h⟩ l) := by
  rw [dact_at]
  simp only [ddn_point V c t r h, blk_wd V c t o i' b l hl]
  rfl

theorem act_piece : k2_pay13 (View.ld (iblk2 V c 4 t) (Rect.unit (s := S256x2816) ![0, o] ![256, 256] i)) (View.ld (iblk2 V c 5 t) (Rect.unit (s := S256x2816) ![0, o] ![256, 256] i)) (ix2 r b)
    = act (V c main_v6_1) (V c main_v6_2) (ix2 ⟨t.val * 256 + r.val, h⟩ l) := by
  rw [act_at, blk_gt V c t r h o i b l hl, blk_up V c t r h o i b l hl]
  rfl

theorem dup_piece : k2_pay14 (k2_pay7 (iblk2 V c 0 t) (iblk2 V c 1 t) (iblk2 V c 2 t)) (View.ld (iblk2 V c 3 t) (Rect.unit (s := S2816x1024) ![o, 0] ![256, 1024] i')) (View.ld (iblk2 V c 4 t) (Rect.unit (s := S256x2816) ![0, o] ![256, 256] i)) (ix2 r b)
    = dup (ddn (V c main_arg6) (V c main_v8_0) (V c main_v9)) (V c main_v0) (V c main_v6_1) (ix2 ⟨t.val * 256 + r.val, h⟩ l) := by
  rw [dup_at, dact_piece V c t r h o i' b l hl, blk_gt V c t r h o i b l hl]
  rfl

theorem dgt_piece : k2_pay15 (k2_pay7 (iblk2 V c 0 t) (iblk2 V c 1 t) (iblk2 V c 2 t)) (View.ld (iblk2 V c 3 t) (Rect.unit (s := S2816x1024) ![o, 0] ![256, 1024] i')) (View.ld (iblk2 V c 4 t) (Rect.unit (s := S256x2816) ![0, o] ![256, 256] i)) (View.ld (iblk2 V c 5 t) (Rect.unit (s := S256x2816) ![0, o] ![256, 256] i)) (ix2 r b)
    = dgt (ddn (V c main_arg6) (V c main_v8_0) (V c main_v9)) (V c main_v0) (V c main_v6_1) (V c main_v6_2) (ix2 ⟨t.val * 256 + r.val, h⟩ l) := by
  rw [dgt_at, dact_piece V c t r h o i' b l hl, blk_gt V c t r h o i b l hl, blk_up V c t r h o i b l hl]
  rfl

end Chunk

end Blocks

theorem dg_point (t : Fin cfg2.N) (hN : t.val < 32) (a : Vec Ideal S1x1024 .f32) (z : Fin 1) (l : Fin 1024) :
    k2_pay6 (iblk2 V c 0 t) (iblk2 V c 1 t) a (ix2 z l)
      = a (ix2 z l) + ∑ r : Fin 256, dgRow (V c main_arg6) (V c main_v8_0) l ⟨t.val * 256 + r.val, by omega⟩ := by
  rw [dg_at]
  congr 1
  refine Fin.sum_fin_congr fun r => ?_
  simp only [blk_dh V c t r (by omega), blk_dn V c t r (by omega)]
  rfl

/-! ## The arrays the call leaves -/

theorem final_ddn : (dat2 V c).arrAt 6 cfg2.N = (ddn (V c main_arg6) (V c main_v8_0) (V c main_v9)) := by
  refine (dat2 V c).arrAt_eq_of_covers 6 _ (by decide +kernel) fun t _ y => ?_
  blk_simp
  rw [after2_6]
  have hN : t.val < 32 := lt_of_lt_of_eq t.isLt N_2
  obtain ⟨r, l, rfl⟩ : ∃ (r : Fin 256) (l : Fin 1024), y = ix2 r l := ⟨y 0, y 1, by funext a; fin_cases a <;> rfl⟩
  have he : (win2_6.blk t).view.emb (ix2 r l) = ix2 ⟨t.val * 256 + r.val, by omega⟩ l := by blk_ext [idx2 t]
  rw [he]
  by_cases h : t.val % 32 = 0
  · rw [outsAt2_A V c t h]; frame_out; exact ddn_point V c t r _ l
  · rw [outsAt2_B V c t h]; frame_out; exact ddn_point V c t r _ l

theorem act_row (t : Fin cfg2.N) (r : Fin 256) (h : t.val * 256 + r.val < 8192) (l : Fin 2816) :
    (View.canon [⟨Rect.unit (s := S256x2816) ![0, 2560] ![256, 256] inb_S256x2816_S256x256_0_2560, k2_pay96 (View.ld (iblk2 V c 4 t) (Rect.unit (s := S256x2816) ![0, 2560] ![256, 256] inb_S256x2816_S256x256_0_2560)) (View.ld (iblk2 V c 5 t) (Rect.unit (s := S256x2816) ![0, 2560] ![256, 256] inb_S256x2816_S256x256_0_2560))⟩,
      ⟨Rect.unit (s := S256x2816) ![0, 2304] ![256, 256] inb_S256x2816_S256x256_0_2304, k2_pay88 (View.ld (iblk2 V c 4 t) (Rect.unit (s := S256x2816) ![0, 2304] ![256, 256] inb_S256x2816_S256x256_0_2304)) (View.ld (iblk2 V c 5 t) (Rect.unit (s := S256x2816) ![0, 2304] ![256, 256] inb_S256x2816_S256x256_0_2304))⟩,
      ⟨Rect.unit (s := S256x2816) ![0, 2048] ![256, 256] inb_S256x2816_S256x256_0_2048, k2_pay78 (View.ld (iblk2 V c 4 t) (Rect.unit (s := S256x2816) ![0, 2048] ![256, 256] inb_S256x2816_S256x256_0_2048)) (View.ld (iblk2 V c 5 t) (Rect.unit (s := S256x2816) ![0, 2048] ![256, 256] inb_S256x2816_S256x256_0_2048))⟩,
      ⟨Rect.unit (s := S256x2816) ![0, 1792] ![256, 256] inb_S256x2816_S256x256_0_1792, k2_pay70 (View.ld (iblk2 V c 4 t) (Rect.unit (s := S256x2816) ![0, 1792] ![256, 256] inb_S256x2816_S256x256_0_1792)) (View.ld (iblk2 V c 5 t) (Rect.unit (s := S256x2816) ![0, 1792] ![256, 256] inb_S256x2816_S256x256_0_1792))⟩,
      ⟨Rect.unit (s := S256x2816) ![0, 1536] ![256, 256] inb_S256x2816_S256x256_0_1536, k2_pay62 (View.ld (iblk2 V c 4 t) (Rect.unit (s := S256x2816) ![0, 1536] ![256, 256] inb_S256x2816_S256x256_0_1536)) (View.ld (iblk2 V c 5 t) (Rect.unit (s := S256x2816) ![0, 1536] ![256, 256] inb_S256x2816_S256x256_0_1536))⟩,
      ⟨Rect.unit (s := S256x2816) ![0, 1280] ![256, 256] inb_S256x2816_S256x256_0_1280, k2_pay54 (k2_pay50 (View.ld (iblk2 V c 4 t) (Rect.unit (s := S256x2816) ![0, 1280] ![256, 256] inb_S256x2816_S256x256_0_1280))) (k2_pay51 (View.ld (iblk2 V c 5 t) (Rect.unit (s := S256x2816) ![0, 1280] ![256, 256] inb_S256x2816_S256x256_0_1280))) (k2_pay52 (View.ld (iblk2 V c 4 t) (Rect.unit (s := S256x2816) ![0, 1280] ![256, 256] inb_S256x2816_S256x256_0_1280)))⟩,
      ⟨Rect.unit (s := S256x2816) ![0, 1024] ![256, 256] inb_S256x2816_S256x256_0_1024, k2_pay46 (k2_pay41 (View.ld (iblk2 V c 4 t) (Rect.unit (s := S256x2816) ![0, 1024] ![256, 256] inb_S256x2816_S256x256_0_1024))) (k2_pay42 (View.ld (iblk2 V c 5 t) (Rect.unit (s := S256x2816) ![0, 1024] ![256, 256] inb_S256x2816_S256x256_0_1024))) (k2_pay43 (View.ld (iblk2 V c 4 t) (Rect.unit (s := S256x2816) ![0, 1024] ![256, 256] inb_S256x2816_S256x256_0_1024)))⟩,
      ⟨Rect.unit (s := S256x2816) ![0, 768] ![256, 256] inb_S256x2816_S256x256_0_768, k2_pay37 (k2_pay33 (View.ld (iblk2 V c 4 t) (Rect.unit (s := S256x2816) ![0, 768] ![256, 256] inb_S256x2816_S256x256_0_768))) (View.ld (iblk2 V c 5 t) (Rect.unit (s := S256x2816) ![0, 768] ![256, 256] inb_S256x2816_S256x256_0_768))⟩,
      ⟨Rect.unit (s := S256x2816) ![0, 512] ![256, 256] inb_S256x2816_S256x256_0_512, k2_pay29 (View.ld (iblk2 V c 4 t) (Rect.unit (s := S256x2816) ![0, 512] ![256, 256] inb_S256x2816_S256x256_0_512)) (View.ld (iblk2 V c 5 t) (Rect.unit (s := S256x2816) ![0, 512] ![256, 256] inb_S256x2816_S256x256_0_512))⟩,
      ⟨Rect.unit (s := S256x2816) ![0, 256] ![256, 256] inb_S256x2816_S256x256_0_256, k2_pay21 (View.ld (iblk2 V c 4 t) (Rect.unit (s := S256x2816) ![0, 256] ![256, 256] inb_S256x2816_S256x256_0_256)) (View.ld (iblk2 V c 5 t) (Rect.unit (s := S256x2816) ![0, 256] ![256, 256] inb_S256x2816_S256x256_0_256))⟩,
      ⟨Rect.unit (s := S256x2816) ![0, 0] ![256, 256] inb_S256x2816_S256x256_0_0, k2_pay13 (View.ld (iblk2 V c 4 t) (Rect.unit (s := S256x2816) ![0, 0] ![256, 256] inb_S256x2816_S256x256_0_0)) (View.ld (iblk2 V c 5 t) (Rect.unit (s := S256x2816) ![0, 0] ![256, 256] inb_S256x2816_S256x256_0_0))⟩] : Vec Ideal S256x2816 .bf16) (ix2 r l)
      = act (V c main_v6_1) (V c main_v6_2) (ix2 ⟨t.val * 256 + r.val, h⟩ l) := by
  canon_tiles x hx
  all_goals
    obtain ⟨a, b, rfl⟩ : ∃ a b : Fin 256, x = ix2 a b := ⟨x 0, x 1, by funext i; fin_cases i <;> rfl⟩
    obtain rfl : r = a := Fin.ext hx0
    refine act_piece V c t r h _ _ b l ?_
    first | exact hx1 | exact hx1.trans (Nat.zero_add _).symm

theorem final_act : (dat2 V c).arrAt 7 cfg2.N = act (V c main_v6_1) (V c main_v6_2) := by
  refine (dat2 V c).arrAt_eq_of_covers 7 _ (by decide +kernel) fun t _ y => ?_
  blk_simp
  rw [after2_7]
  have hN : t.val < 32 := lt_of_lt_of_eq t.isLt N_2
  obtain ⟨r, l, rfl⟩ : ∃ (r : Fin 256) (l : Fin 2816), y = ix2 r l := ⟨y 0, y 1, by funext a; fin_cases a <;> rfl⟩
  have he : (win2_7.blk t).view.emb (ix2 r l) = ix2 ⟨t.val * 256 + r.val, by omega⟩ l := by blk_ext [idx2 t]
  rw [he]
  by_cases h : t.val % 32 = 0
  · rw [outsAt2_A V c t h]; frame_out; exact act_row V c t r _ l
  · rw [outsAt2_B V c t h]; frame_out; exact act_row V c t r _ l

theorem dgt_row (t : Fin cfg2.N) (r : Fin 256) (h : t.val * 256 + r.val < 8192) (l : Fin 2816) :
    (View.canon [⟨Rect.unit (s := S256x2816) ![0, 2560] ![256, 256] inb_S256x2816_S256x256_0_2560, k2_pay1 (k2_pay94 (View.ld (iblk2 V c 4 t) (Rect.unit (s := S256x2816) ![0, 2560] ![256, 256] inb_S256x2816_S256x256_0_2560))) (k2_pay98 (k2_pay7 (iblk2 V c 0 t) (iblk2 V c 1 t) (iblk2 V c 2 t)) (View.ld (iblk2 V c 3 t) (Rect.unit (s := S2816x1024) ![2560, 0] ![256, 1024] inb_S2816x1024_S256x1024_2560_0)) (View.ld (iblk2 V c 5 t) (Rect.unit (s := S256x2816) ![0, 2560] ![256, 256] inb_S256x2816_S256x256_0_2560))) (k2_pay99 (View.ld (iblk2 V c 4 t) (Rect.unit (s := S256x2816) ![0, 2560] ![256, 256] inb_S256x2816_S256x256_0_2560))) k2_pay100⟩,
      ⟨Rect.unit (s := S256x2816) ![0, 2304] ![256, 256] inb_S256x2816_S256x256_0_2304, k2_pay90 (k2_pay7 (iblk2 V c 0 t) (iblk2 V c 1 t) (iblk2 V c 2 t)) (View.ld (iblk2 V c 3 t) (Rect.unit (s := S2816x1024) ![2304, 0] ![256, 1024] inb_S2816x1024_S256x1024_2304_0)) (View.ld (iblk2 V c 4 t) (Rect.unit (s := S256x2816) ![0, 2304] ![256, 256] inb_S256x2816_S256x256_0_2304)) (View.ld (iblk2 V c 5 t) (Rect.unit (s := S256x2816) ![0, 2304] ![256, 256] inb_S256x2816_S256x256_0_2304))⟩,
      ⟨Rect.unit (s := S256x2816) ![0, 2048] ![256, 256] inb_S256x2816_S256x256_0_2048, k2_pay82 (k2_pay76 (View.ld (iblk2 V c 4 t) (Rect.unit (s := S256x2816) ![0, 2048] ![256, 256] inb_S256x2816_S256x256_0_2048))) (k2_pay80 (k2_pay7 (iblk2 V c 0 t) (iblk2 V c 1 t) (iblk2 V c 2 t)) (View.ld (iblk2 V c 3 t) (Rect.unit (s := S2816x1024) ![2048, 0] ![256, 1024] inb_S2816x1024_S256x1024_2048_0)) (View.ld (iblk2 V c 5 t) (Rect.unit (s := S256x2816) ![0, 2048] ![256, 256] inb_S256x2816_S256x256_0_2048))) (k2_pay81 (View.ld (iblk2 V c 4 t) (Rect.unit (s := S256x2816) ![0, 2048] ![256, 256] inb_S256x2816_S256x256_0_2048)))⟩,
      ⟨Rect.unit (s := S256x2816) ![0, 1792] ![256, 256] inb_S256x2816_S256x256_0_1792, k2_pay72 (k2_pay65 (k2_pay7 (iblk2 V c 0 t) (iblk2 V c 1 t) (iblk2 V c 2 t)) (View.ld (iblk2 V c 3 t) (Rect.unit (s := S2816x1024) ![1792, 0] ![256, 1024] inb_S2816x1024_S256x1024_1792_0))) (k2_pay66 (View.ld (iblk2 V c 4 t) (Rect.unit (s := S256x2816) ![0, 1792] ![256, 256] inb_S256x2816_S256x256_0_1792))) (k2_pay67 (View.ld (iblk2 V c 5 t) (Rect.unit (s := S256x2816) ![0, 1792] ![256, 256] inb_S256x2816_S256x256_0_1792))) (k2_pay68 (View.ld (iblk2 V c 4 t) (Rect.unit (s := S256x2816) ![0, 1792] ![256, 256] inb_S256x2816_S256x256_0_1792)))⟩,
      ⟨Rect.unit (s := S256x2816) ![0, 1536] ![256, 256] inb_S256x2816_S256x256_0_1536, k2_pay64 (k2_pay57 (k2_pay7 (iblk2 V c 0 t) (iblk2 V c 1 t) (iblk2 V c 2 t)) (View.ld (iblk2 V c 3 t) (Rect.unit (s := S2816x1024) ![1536, 0] ![256, 1024] inb_S2816x1024_S256x1024_1536_0))) (k2_pay58 (View.ld (iblk2 V c 4 t) (Rect.unit (s := S256x2816) ![0, 1536] ![256, 256] inb_S256x2816_S256x256_0_1536))) (k2_pay59 (View.ld (iblk2 V c 5 t) (Rect.unit (s := S256x2816) ![0, 1536] ![256, 256] inb_S256x2816_S256x256_0_1536))) (k2_pay60 (View.ld (iblk2 V c 4 t) (Rect.unit (s := S256x2816) ![0, 1536] ![256, 256] inb_S256x2816_S256x256_0_1536)))⟩,
      ⟨Rect.unit (s := S256x2816) ![0, 1280] ![256, 256] inb_S256x2816_S256x256_0_1280, k2_pay56 (k2_pay49 (k2_pay7 (iblk2 V c 0 t) (iblk2 V c 1 t) (iblk2 V c 2 t)) (View.ld (iblk2 V c 3 t) (Rect.unit (s := S2816x1024) ![1280, 0] ![256, 1024] inb_S2816x1024_S256x1024_1280_0))) (k2_pay50 (View.ld (iblk2 V c 4 t) (Rect.unit (s := S256x2816) ![0, 1280] ![256, 256] inb_S256x2816_S256x256_0_1280))) (k2_pay51 (View.ld (iblk2 V c 5 t) (Rect.unit (s := S256x2816) ![0, 1280] ![256, 256] inb_S256x2816_S256x256_0_1280))) (k2_pay52 (View.ld (iblk2 V c 4 t) (Rect.unit (s := S256x2816) ![0, 1280] ![256, 256] inb_S256x2816_S256x256_0_1280)))⟩,
      ⟨Rect.unit (s := S256x2816) ![0, 1024] ![256, 256] inb_S256x2816_S256x256_0_1024, k2_pay48 (k2_pay40 (k2_pay7 (iblk2 V c 0 t) (iblk2 V c 1 t) (iblk2 V c 2 t)) (View.ld (iblk2 V c 3 t) (Rect.unit (s := S2816x1024) ![1024, 0] ![256, 1024] inb_S2816x1024_S256x1024_1024_0))) (k2_pay41 (View.ld (iblk2 V c 4 t) (Rect.unit (s := S256x2816) ![0, 1024] ![256, 256] inb_S256x2816_S256x256_0_1024))) (k2_pay42 (View.ld (iblk2 V c 5 t) (Rect.unit (s := S256x2816) ![0, 1024] ![256, 256] inb_S256x2816_S256x256_0_1024))) (k2_pay43 (View.ld (iblk2 V c 4 t) (Rect.unit (s := S256x2816) ![0, 1024] ![256, 256] inb_S256x2816_S256x256_0_1024)))⟩,
      ⟨Rect.unit (s := S256x2816) ![0, 768] ![256, 256] inb_S256x2816_S256x256_0_768, k2_pay39 (k2_pay32 (k2_pay7 (iblk2 V c 0 t) (iblk2 V c 1 t) (iblk2 V c 2 t)) (View.ld (iblk2 V c 3 t) (Rect.unit (s := S2816x1024) ![768, 0] ![256, 1024] inb_S2816x1024_S256x1024_768_0))) (k2_pay33 (View.ld (iblk2 V c 4 t) (Rect.unit (s := S256x2816) ![0, 768] ![256, 256] inb_S256x2816_S256x256_0_768))) (View.ld (iblk2 V c 5 t) (Rect.unit (s := S256x2816) ![0, 768] ![256, 256] inb_S256x2816_S256x256_0_768))⟩,
      ⟨Rect.unit (s := S256x2816) ![0, 512] ![256, 256] inb_S256x2816_S256x256_0_512, k2_pay31 (k2_pay24 (k2_pay7 (iblk2 V c 0 t) (iblk2 V c 1 t) (iblk2 V c 2 t)) (View.ld (iblk2 V c 3 t) (Rect.unit (s := S2816x1024) ![512, 0] ![256, 1024] inb_S2816x1024_S256x1024_512_0))) (View.ld (iblk2 V c 4 t) (Rect.unit (s := S256x2816) ![0, 512] ![256, 256] inb_S256x2816_S256x256_0_512)) (View.ld (iblk2 V c 5 t) (Rect.unit (s := S256x2816) ![0, 512] ![256, 256] inb_S256x2816_S256x256_0_512))⟩,
      ⟨Rect.unit (s := S256x2816) ![0, 256] ![256, 256] inb_S256x2816_S256x256_0_256, k2_pay23 (k2_pay7 (iblk2 V c 0 t) (iblk2 V c 1 t) (iblk2 V c 2 t)) (View.ld (iblk2 V c 3 t) (Rect.unit (s := S2816x1024) ![256, 0] ![256, 1024] inb_S2816x1024_S256x1024_256_0)) (View.ld (iblk2 V c 4 t) (Rect.unit (s := S256x2816) ![0, 256] ![256, 256] inb_S256x2816_S256x256_0_256)) (View.ld (iblk2 V c 5 t) (Rect.unit (s := S256x2816) ![0, 256] ![256, 256] inb_S256x2816_S256x256_0_256))⟩,
      ⟨Rect.unit (s := S256x2816) ![0, 0] ![256, 256] inb_S256x2816_S256x256_0_0, k2_pay15 (k2_pay7 (iblk2 V c 0 t) (iblk2 V c 1 t) (iblk2 V c 2 t)) (View.ld (iblk2 V c 3 t) (Rect.unit (s := S2816x1024) ![0, 0] ![256, 1024] inb_S2816x1024_S256x1024_0_0)) (View.ld (iblk2 V c 4 t) (Rect.unit (s := S256x2816) ![0, 0] ![256, 256] inb_S256x2816_S256x256_0_0)) (View.ld (iblk2 V c 5 t) (Rect.unit (s := S256x2816) ![0, 0] ![256, 256] inb_S256x2816_S256x256_0_0))⟩] : Vec Ideal S256x2816 .bf16) (ix2 r l)
      = dgt (ddn (V c main_arg6) (V c main_v8_0) (V c main_v9)) (V c main_v0) (V c main_v6_1) (V c main_v6_2) (ix2 ⟨t.val * 256 + r.val, h⟩ l) := by
  canon_tiles x hx
  all_goals
    obtain ⟨a, b, rfl⟩ : ∃ a b : Fin 256, x = ix2 a b := ⟨x 0, x 1, by funext i; fin_cases i <;> rfl⟩
    obtain rfl : r = a := Fin.ext hx0
    refine dgt_piece V c t r h _ _ _ b l ?_
    first | exact hx1 | exact hx1.trans (Nat.zero_add _).symm

theorem final_dgt : (dat2 V c).arrAt 8 cfg2.N = dgt (ddn (V c main_arg6) (V c main_v8_0) (V c main_v9)) (V c main_v0) (V c main_v6_1) (V c main_v6_2) := by
  refine (dat2 V c).arrAt_eq_of_covers 8 _ (by decide +kernel) fun t _ y => ?_
  blk_simp
  rw [after2_8]
  have hN : t.val < 32 := lt_of_lt_of_eq t.isLt N_2
  obtain ⟨r, l, rfl⟩ : ∃ (r : Fin 256) (l : Fin 2816), y = ix2 r l := ⟨y 0, y 1, by funext a; fin_cases a <;> rfl⟩
  have he : (win2_8.blk t).view.emb (ix2 r l) = ix2 ⟨t.val * 256 + r.val, by omega⟩ l := by blk_ext [idx2 t]
  rw [he]
  by_cases h : t.val % 32 = 0
  · rw [outsAt2_A V c t h]; frame_out; exact dgt_row V c t r _ l
  · rw [outsAt2_B V c t h]; frame_out; exact dgt_row V c t r _ l

theorem dup_row (t : Fin cfg2.N) (r : Fin 256) (h : t.val * 256 + r.val < 8192) (l : Fin 2816) :
    (View.canon [⟨Rect.unit (s := S256x2816) ![0, 2560] ![256, 256] inb_S256x2816_S256x256_0_2560, k2_pay97 (k2_pay7 (iblk2 V c 0 t) (iblk2 V c 1 t) (iblk2 V c 2 t)) (View.ld (iblk2 V c 3 t) (Rect.unit (s := S2816x1024) ![2560, 0] ![256, 1024] inb_S2816x1024_S256x1024_2560_0)) (View.ld (iblk2 V c 4 t) (Rect.unit (s := S256x2816) ![0, 2560] ![256, 256] inb_S256x2816_S256x256_0_2560))⟩,
      ⟨Rect.unit (s := S256x2816) ![0, 2304] ![256, 256] inb_S256x2816_S256x256_0_2304, k2_pay89 (k2_pay7 (iblk2 V c 0 t) (iblk2 V c 1 t) (iblk2 V c 2 t)) (View.ld (iblk2 V c 3 t) (Rect.unit (s := S2816x1024) ![2304, 0] ![256, 1024] inb_S2816x1024_S256x1024_2304_0)) (View.ld (iblk2 V c 4 t) (Rect.unit (s := S256x2816) ![0, 2304] ![256, 256] inb_S256x2816_S256x256_0_2304))⟩,
      ⟨Rect.unit (s := S256x2816) ![0, 2048] ![256, 256] inb_S256x2816_S256x256_0_2048, k2_pay79 (k2_pay7 (iblk2 V c 0 t) (iblk2 V c 1 t) (iblk2 V c 2 t)) (View.ld (iblk2 V c 3 t) (Rect.unit (s := S2816x1024) ![2048, 0] ![256, 1024] inb_S2816x1024_S256x1024_2048_0)) (View.ld (iblk2 V c 4 t) (Rect.unit (s := S256x2816) ![0, 2048] ![256, 256] inb_S256x2816_S256x256_0_2048))⟩,
      ⟨Rect.unit (s := S256x2816) ![0, 1792] ![256, 256] inb_S256x2816_S256x256_0_1792, k2_pay71 (k2_pay7 (iblk2 V c 0 t) (iblk2 V c 1 t) (iblk2 V c 2 t)) (View.ld (iblk2 V c 3 t) (Rect.unit (s := S2816x1024) ![1792, 0] ![256, 1024] inb_S2816x1024_S256x1024_1792_0)) (View.ld (iblk2 V c 4 t) (Rect.unit (s := S256x2816) ![0, 1792] ![256, 256] inb_S256x2816_S256x256_0_1792))⟩,
      ⟨Rect.unit (s := S256x2816) ![0, 1536] ![256, 256] inb_S256x2816_S256x256_0_1536, k2_pay63 (k2_pay57 (k2_pay7 (iblk2 V c 0 t) (iblk2 V c 1 t) (iblk2 V c 2 t)) (View.ld (iblk2 V c 3 t) (Rect.unit (s := S2816x1024) ![1536, 0] ![256, 1024] inb_S2816x1024_S256x1024_1536_0))) (k2_pay61 (View.ld (iblk2 V c 4 t) (Rect.unit (s := S256x2816) ![0, 1536] ![256, 256] inb_S256x2816_S256x256_0_1536)))⟩,
      ⟨Rect.unit (s := S256x2816) ![0, 1280] ![256, 256] inb_S256x2816_S256x256_0_1280, k2_pay55 (k2_pay49 (k2_pay7 (iblk2 V c 0 t) (iblk2 V c 1 t) (iblk2 V c 2 t)) (View.ld (iblk2 V c 3 t) (Rect.unit (s := S2816x1024) ![1280, 0] ![256, 1024] inb_S2816x1024_S256x1024_1280_0))) (k2_pay50 (View.ld (iblk2 V c 4 t) (Rect.unit (s := S256x2816) ![0, 1280] ![256, 256] inb_S256x2816_S256x256_0_1280))) (k2_pay52 (View.ld (iblk2 V c 4 t) (Rect.unit (s := S256x2816) ![0, 1280] ![256, 256] inb_S256x2816_S256x256_0_1280)))⟩,
      ⟨Rect.unit (s := S256x2816) ![0, 1024] ![256, 256] inb_S256x2816_S256x256_0_1024, k2_pay47 (k2_pay40 (k2_pay7 (iblk2 V c 0 t) (iblk2 V c 1 t) (iblk2 V c 2 t)) (View.ld (iblk2 V c 3 t) (Rect.unit (s := S2816x1024) ![1024, 0] ![256, 1024] inb_S2816x1024_S256x1024_1024_0))) (k2_pay41 (View.ld (iblk2 V c 4 t) (Rect.unit (s := S256x2816) ![0, 1024] ![256, 256] inb_S256x2816_S256x256_0_1024))) (k2_pay43 (View.ld (iblk2 V c 4 t) (Rect.unit (s := S256x2816) ![0, 1024] ![256, 256] inb_S256x2816_S256x256_0_1024)))⟩,
      ⟨Rect.unit (s := S256x2816) ![0, 768] ![256, 256] inb_S256x2816_S256x256_0_768, k2_pay38 (k2_pay32 (k2_pay7 (iblk2 V c 0 t) (iblk2 V c 1 t) (iblk2 V c 2 t)) (View.ld (iblk2 V c 3 t) (Rect.unit (s := S2816x1024) ![768, 0] ![256, 1024] inb_S2816x1024_S256x1024_768_0))) (k2_pay33 (View.ld (iblk2 V c 4 t) (Rect.unit (s := S256x2816) ![0, 768] ![256, 256] inb_S256x2816_S256x256_0_768)))⟩,
      ⟨Rect.unit (s := S256x2816) ![0, 512] ![256, 256] inb_S256x2816_S256x256_0_512, k2_pay30 (k2_pay24 (k2_pay7 (iblk2 V c 0 t) (iblk2 V c 1 t) (iblk2 V c 2 t)) (View.ld (iblk2 V c 3 t) (Rect.unit (s := S2816x1024) ![512, 0] ![256, 1024] inb_S2816x1024_S256x1024_512_0))) (View.ld (iblk2 V c 4 t) (Rect.unit (s := S256x2816) ![0, 512] ![256, 256] inb_S256x2816_S256x256_0_512))⟩,
      ⟨Rect.unit (s := S256x2816) ![0, 256] ![256, 256] inb_S256x2816_S256x256_0_256, k2_pay22 (k2_pay7 (iblk2 V c 0 t) (iblk2 V c 1 t) (iblk2 V c 2 t)) (View.ld (iblk2 V c 3 t) (Rect.unit (s := S2816x1024) ![256, 0] ![256, 1024] inb_S2816x1024_S256x1024_256_0)) (View.ld (iblk2 V c 4 t) (Rect.unit (s := S256x2816) ![0, 256] ![256, 256] inb_S256x2816_S256x256_0_256))⟩,
      ⟨Rect.unit (s := S256x2816) ![0, 0] ![256, 256] inb_S256x2816_S256x256_0_0, k2_pay14 (k2_pay7 (iblk2 V c 0 t) (iblk2 V c 1 t) (iblk2 V c 2 t)) (View.ld (iblk2 V c 3 t) (Rect.unit (s := S2816x1024) ![0, 0] ![256, 1024] inb_S2816x1024_S256x1024_0_0)) (View.ld (iblk2 V c 4 t) (Rect.unit (s := S256x2816) ![0, 0] ![256, 256] inb_S256x2816_S256x256_0_0))⟩] : Vec Ideal S256x2816 .bf16) (ix2 r l)
      = dup (ddn (V c main_arg6) (V c main_v8_0) (V c main_v9)) (V c main_v0) (V c main_v6_1) (ix2 ⟨t.val * 256 + r.val, h⟩ l) := by
  canon_tiles x hx
  all_goals
    obtain ⟨a, b, rfl⟩ : ∃ a b : Fin 256, x = ix2 a b := ⟨x 0, x 1, by funext i; fin_cases i <;> rfl⟩
    obtain rfl : r = a := Fin.ext hx0
    refine dup_piece V c t r h _ _ _ b l ?_
    first | exact hx1 | exact hx1.trans (Nat.zero_add _).symm

theorem final_dup : (dat2 V c).arrAt 9 cfg2.N = dup (ddn (V c main_arg6) (V c main_v8_0) (V c main_v9)) (V c main_v0) (V c main_v6_1) := by
  refine (dat2 V c).arrAt_eq_of_covers 9 _ (by decide +kernel) fun t _ y => ?_
  blk_simp
  rw [after2_9]
  have hN : t.val < 32 := lt_of_lt_of_eq t.isLt N_2
  obtain ⟨r, l, rfl⟩ : ∃ (r : Fin 256) (l : Fin 2816), y = ix2 r l := ⟨y 0, y 1, by funext a; fin_cases a <;> rfl⟩
  have he : (win2_9.blk t).view.emb (ix2 r l) = ix2 ⟨t.val * 256 + r.val, by omega⟩ l := by blk_ext [idx2 t]
  rw [he]
  by_cases h : t.val % 32 = 0
  · rw [outsAt2_A V c t h]; frame_out; exact dup_row V c t r _ l
  · rw [outsAt2_B V c t h]; frame_out; exact dup_row V c t r _ l

theorem final_dg : (dat2 V c).arrAt 10 cfg2.N = dg (V c main_arg6) (V c main_v8_0) := by
  refine (dat2 V c).arrAt_eq_of_covers 10 _ (by decide +kernel) fun t hf y => ?_
  blk_simp
  have hN : t.val < 32 := lt_of_lt_of_eq t.isLt N_2
  obtain ⟨z, l, rfl⟩ : ∃ (z : Fin 1) (l : Fin 1024), y = ix2 z l := ⟨y 0, y 1, by funext a; fin_cases a <;> rfl⟩
  have he : (win2_10.blk t).view.emb (ix2 z l) = ix2 z l := by blk_ext [idx2 t]
  rw [he, after2_10, Pipeline.eq_sum_fin_of_reset_step_apply_of_flush (fun n h => (outsAt2 V c n h).2.2.2.2) 32 (fun _ => 0)
    (fun t j => ∑ r : Fin 256, if hb : t.val * 256 + r.val < 8192 then
      dgRow (V c main_arg6) (V c main_v8_0) (j 1) ⟨t.val * 256 + r.val, hb⟩ else 0)
    (fun t h j => ?_) (fun t h j => ?_) t ((flush2_10 t).mp hf) _, zero_add]
  · unfold dg
    refine Fin.sum_mul_add_congr fun s k hl => ?_
    have hs : 32 * (t.val / 32) + s.val = s.val := by omega
    simp only [hs]
    rw [dif_pos (by omega)]
  · have ht : t.val < 32 := lt_of_lt_of_eq t.isLt N_2
    obtain ⟨z, l, rfl⟩ : ∃ (z : Fin 1) (l : Fin 1024), j = ix2 z l := ⟨j 0, j 1, by funext a; fin_cases a <;> rfl⟩
    rw [outsAt2_A V c t h]; frame_out
    refine (dg_point V c t ht _ z l).trans ?_
    rw [zero_dg]
    congr 1
    exact Finset.sum_congr rfl fun r _ => by rw [dif_pos (by omega)]; rfl
  · have ht : t.val < 32 := lt_of_lt_of_eq t.isLt N_2
    obtain ⟨z, l, rfl⟩ : ∃ (z : Fin 1) (l : Fin 1024), j = ix2 z l := ⟨j 0, j 1, by funext a; fin_cases a <;> rfl⟩
    rw [outsAt2_B V c t h]; frame_out
    refine (dg_point V c t ht _ z l).trans ?_
    congr 1
    exact Finset.sum_congr rfl fun r _ => by rw [dif_pos (by omega)]; rfl

end Cert.FfnOutIdeal.Value
-- ==== Proof.FfnOutRun.lean ====
/- The three calls of the feed-forward layer, run one after the other. -/
module

public import proofs.«01_k».proof.Proof.FfnOutForward
public import proofs.«01_k».proof.Proof.FfnOutBackward

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

namespace Cert.FfnOutIdeal.Value

open Cert.FfnOutIdeal Cert.FfnOutIdeal.Gen

/-- A vector as the one row of a matrix. -/
def row (x : FVec Ideal S1024 .f32) : FVec Ideal S1x1024 .f32 := fun j => x (ix1 (j 1))

/-- A wide weight transposed. -/
def flip (w : FVec Ideal S1024x2816 .f32) : FVec Ideal S2816x1024 .bf16 := fun j => w (ix2 (j 1) (j 0))

/-- One of the two wide products. -/
def wideArr (h : FVec Ideal S8192x1024 .f32) (ln : FVec Ideal S1024 .f32) (w : FVec Ideal S1024x2816 .f32) : FVec Ideal S8192x2816 .bf16 :=
  wide h (row ln) (flip w)

/-- The gated rows. -/
def actArr (h : FVec Ideal S8192x1024 .f32) (ln : FVec Ideal S1024 .f32) (wg wu : FVec Ideal S1024x2816 .f32) : FVec Ideal S8192x2816 .bf16 :=
  act (wideArr h ln wg) (wideArr h ln wu)

/-- The last product. -/
def downArr (h : FVec Ideal S8192x1024 .f32) (ln : FVec Ideal S1024 .f32) (wg wu : FVec Ideal S1024x2816 .f32) (wd : FVec Ideal S2816x1024 .f32) : FVec Ideal S8192x1024 .bf16 :=
  down (wideArr h ln wg) (wideArr h ln wu) wd

/-- The gradient of the last product. -/
def ddnArr (h : FVec Ideal S8192x1024 .f32) (ln : FVec Ideal S1024 .f32) (lp : FVec Ideal S1024 .f32) (wg wu : FVec Ideal S1024x2816 .f32) (wd : FVec Ideal S2816x1024 .f32)
    (dh : FVec Ideal S8192x1024 .f32) : FVec Ideal S8192x1024 .bf16 :=
  ddn dh (downArr h ln wg wu wd) (row lp)

variable (m : (ℓ : Loc nD τ sig) → Buf (Elt Ideal) ℓ) (ρ : Dev nD → PrngReg) (c : Dev nD)

/-! ## What the calls find in their arrays -/

theorem in0_v0 : V1 m ρ c main_v0 = (show FVec Ideal S2816x1024 .bf16 from m ((c : Thread nD τ).loc main_arg5)) := by
  show StableHlo.after hostOps0 (W0 m ρ c) _ = _
  after_results
  rfl

theorem in0_v1 : V1 m ρ c main_v1 = row ( m ((c : Thread nD τ).loc main_arg1)) := by
  show StableHlo.after hostOps0 (W0 m ρ c) _ = _
  after_results
  funext j
  pointwise
  rfl

theorem in0_v3 : V1 m ρ c main_v3 = flip ( m ((c : Thread nD τ).loc main_arg3)) := by
  show StableHlo.after hostOps0 (W0 m ρ c) _ = _
  after_results
  funext j
  pointwise
  rfl

theorem in0_v5 : V1 m ρ c main_v5 = flip ( m ((c : Thread nD τ).loc main_arg4)) := by
  show StableHlo.after hostOps0 (W0 m ρ c) _ = _
  after_results
  funext j
  pointwise
  rfl

theorem in2_v9 : V5 m ρ c main_v9 = row (m ((c : Thread nD τ).loc main_arg2)) := by
  show StableHlo.after hostOps2 (W4 m ρ c) _ = _
  after_results
  rw [W4_args m ρ c main_arg2 (by decide)]
  funext j
  pointwise
  rfl

theorem in1_v0 : V3 m ρ c main_v0 = (show FVec Ideal S2816x1024 .bf16 from m ((c : Thread nD τ).loc main_arg5)) :=
  (W3_of m ρ c main_v0 (by decide)).trans ((W2_of m ρ c main_v0 (by decide +kernel)).trans (in0_v0 m ρ c))

theorem in1_gate : V3 m ρ c main_v6_1 = wideArr (m ((c : Thread nD τ).loc main_arg0)) (m ((c : Thread nD τ).loc main_arg1)) (m ((c : Thread nD τ).loc main_arg3)) := by
  refine (W3_of m ρ c main_v6_1 (by decide)).trans ((W2_arr m ρ c 5).trans ?_)
  rw [final_gate, in0_v1, in0_v3, show V1 m ρ c main_arg0 = m ((c : Thread nD τ).loc main_arg0) from W1_args m ρ c main_arg0 (by decide)]
  rfl

theorem in1_up : V3 m ρ c main_v6_2 = wideArr (m ((c : Thread nD τ).loc main_arg0)) (m ((c : Thread nD τ).loc main_arg1)) (m ((c : Thread nD τ).loc main_arg4)) := by
  refine (W3_of m ρ c main_v6_2 (by decide)).trans ((W2_arr m ρ c 6).trans ?_)
  rw [final_up, in0_v1, in0_v5, show V1 m ρ c main_arg0 = m ((c : Thread nD τ).loc main_arg0) from W1_args m ρ c main_arg0 (by decide)]
  rfl

theorem in2_v0 : V5 m ρ c main_v0 = (show FVec Ideal S2816x1024 .bf16 from m ((c : Thread nD τ).loc main_arg5)) :=
  (W5_of m ρ c main_v0 (by decide)).trans ((W4_of m ρ c main_v0 (by decide +kernel)).trans (in1_v0 m ρ c))

theorem in2_gate : V5 m ρ c main_v6_1 = wideArr (m ((c : Thread nD τ).loc main_arg0)) (m ((c : Thread nD τ).loc main_arg1)) (m ((c : Thread nD τ).loc main_arg3)) :=
  (W5_of m ρ c main_v6_1 (by decide)).trans ((W4_of m ρ c main_v6_1 (by decide +kernel)).trans (in1_gate m ρ c))

theorem in2_up : V5 m ρ c main_v6_2 = wideArr (m ((c : Thread nD τ).loc main_arg0)) (m ((c : Thread nD τ).loc main_arg1)) (m ((c : Thread nD τ).loc main_arg4)) :=
  (W5_of m ρ c main_v6_2 (by decide)).trans ((W4_of m ρ c main_v6_2 (by decide +kernel)).trans (in1_up m ρ c))

theorem in2_down : V5 m ρ c main_v8_0 = downArr (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_of m ρ c main_v8_0 (by decide)).trans ((W4_arr m ρ c 5).trans ?_)
  rw [final_down, in1_gate, in1_up, in1_v0]
  rfl

theorem in2_arg6 : V5 m ρ c main_arg6 = m ((c : Thread nD τ).loc main_arg6) := W5_args m ρ c main_arg6 (by decide)

theorem in1_v7 : V3 m ρ c main_v7 = row (m ((c : Thread nD τ).loc main_arg2)) := by
  show StableHlo.after hostOps1 (W2 m ρ c) _ = _
  after_results
  rw [W2_args m ρ c main_arg2 (by decide)]
  funext j
  pointwise
  rfl

theorem in1_arg0 : V3 m ρ c main_arg0 = m ((c : Thread nD τ).loc main_arg0) := W3_args m ρ c main_arg0 (by decide)

/-! ## What is left in the results -/

theorem left_main_v10_0 : W6 m ρ c (Proc.devRef .tc main_v10_0)
    = ddnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 6).trans ?_
  rw [final_ddn, in2_arg6, in2_down, in2_v9]
  rfl

theorem left_main_v10_1 : W6 m ρ c (Proc.devRef .tc main_v10_1)
    = actArr (m ((c : Thread nD τ).loc main_arg0)) (m ((c : Thread nD τ).loc main_arg1)) (m ((c : Thread nD τ).loc main_arg3)) (m ((c : Thread nD τ).loc main_arg4)) := by
  refine (W6_arr m ρ c 7).trans ?_
  rw [final_act, in2_gate, in2_up]
  rfl

theorem left_main_v10_2 : W6 m ρ c (Proc.devRef .tc main_v10_2)
    = dgt (ddnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (wideArr (m ((c : Thread nD τ).loc main_arg0)) (m ((c : Thread nD τ).loc main_arg1)) (m ((c : Thread nD τ).loc main_arg3))) (wideArr (m ((c : Thread nD τ).loc main_arg0)) (m ((c : Thread nD τ).loc main_arg1)) (m ((c : Thread nD τ).loc main_arg4))) := by
  refine (W6_arr m ρ c 8).trans ?_
  rw [final_dgt, in2_arg6, in2_down, in2_v9, in2_v0, in2_gate, in2_up]
  rfl

theorem left_main_v10_3 : W6 m ρ c (Proc.devRef .tc main_v10_3)
    = dup (ddnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (wideArr (m ((c : Thread nD τ).loc main_arg0)) (m ((c : Thread nD τ).loc main_arg1)) (m ((c : Thread nD τ).loc main_arg3))) := by
  refine (W6_arr m ρ c 9).trans ?_
  rw [final_dup, in2_arg6, in2_down, in2_v9, in2_v0, in2_gate]
  rfl

theorem left_main_v10_4 : W6 m ρ c (Proc.devRef .tc main_v10_4)
    = dg (m ((c : Thread nD τ).loc main_arg6)) (downArr (m ((c : Thread nD τ).loc main_arg0)) (m ((c : Thread nD τ).loc main_arg1)) (m ((c : Thread nD τ).loc main_arg3)) (m ((c : Thread nD τ).loc main_arg4)) (m ((c : Thread nD τ).loc main_arg5))) := by
  refine (W6_arr m ρ c 10).trans ?_
  rw [final_dg, in2_arg6, in2_down]

theorem left_main_v6_0 : W6 m ρ c (Proc.devRef .tc main_v6_0) = normed (m ((c : Thread nD τ).loc main_arg0)) (row (m ((c : Thread nD τ).loc main_arg1))) := by
  refine (W6_of m ρ c main_v6_0 (by decide +kernel)).trans ((W5_of m ρ c main_v6_0 (by decide)).trans ((W4_of m ρ c main_v6_0 (by decide +kernel)).trans
    ((W3_of m ρ c main_v6_0 (by decide)).trans ((W2_arr m ρ c 4).trans ?_))))
  rw [final_norm, in0_v1, show V1 m ρ c main_arg0 = m ((c : Thread nD τ).loc main_arg0) from W1_args m ρ c main_arg0 (by decide)]

theorem left_main_v6_1 : W6 m ρ c (Proc.devRef .tc main_v6_1) = wideArr (m ((c : Thread nD τ).loc main_arg0)) (m ((c : Thread nD τ).loc main_arg1)) (m ((c : Thread nD τ).loc main_arg3)) :=
  (W6_of m ρ c main_v6_1 (by decide +kernel)).trans (in2_gate m ρ c)

theorem left_main_v6_2 : W6 m ρ c (Proc.devRef .tc main_v6_2) = wideArr (m ((c : Thread nD τ).loc main_arg0)) (m ((c : Thread nD τ).loc main_arg1)) (m ((c : Thread nD τ).loc main_arg4)) :=
  (W6_of m ρ c main_v6_2 (by decide +kernel)).trans (in2_up m ρ c)

theorem left_main_v8_0 : W6 m ρ c (Proc.devRef .tc main_v8_0) = downArr (m ((c : Thread nD τ).loc main_arg0)) (m ((c : Thread nD τ).loc main_arg1)) (m ((c : Thread nD τ).loc main_arg3)) (m ((c : Thread nD τ).loc main_arg4)) (m ((c : Thread nD τ).loc main_arg5)) :=
  (W6_of m ρ c main_v8_0 (by decide +kernel)).trans (in2_down m ρ c)

theorem left_main_v8_1 : W6 m ρ c (Proc.devRef .tc main_v8_1) = out (m ((c : Thread nD τ).loc main_arg0)) (downArr (m ((c : Thread nD τ).loc main_arg0)) (m ((c : Thread nD τ).loc main_arg1)) (m ((c : Thread nD τ).loc main_arg3)) (m ((c : Thread nD τ).loc main_arg4)) (m ((c : Thread nD τ).loc main_arg5))) (row (m ((c : Thread nD τ).loc main_arg2))) := by
  refine (W6_of m ρ c main_v8_1 (by decide +kernel)).trans ((W5_of m ρ c main_v8_1 (by decide)).trans ((W4_arr m ρ c 6).trans ?_))
  rw [final_out, in1_gate, in1_up, in1_v0, in1_v7, in1_arg0]
  rfl

/-! ## The launch, with the results -/

/-- Every execution ends with the results above and the arguments as launched. -/
theorem run_main : θ_run defs (onTc (τ := τ) (main (F := Ideal))) ⟨m, fun _ => 0, ρ⟩ (fun r => ∀ c : Dev nD,
      r.2.mem ((c.tc : Thread nD τ).loc main_v10_0) = ddnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ∧
      r.2.mem ((c.tc : Thread nD τ).loc main_v10_1) = actArr (m ((c : Thread nD τ).loc main_arg0)) (m ((c : Thread nD τ).loc main_arg1)) (m ((c : Thread nD τ).loc main_arg3)) (m ((c : Thread nD τ).loc main_arg4)) ∧
      r.2.mem ((c.tc : Thread nD τ).loc main_v10_2) = dgt (ddnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (wideArr (m ((c : Thread nD τ).loc main_arg0)) (m ((c : Thread nD τ).loc main_arg1)) (m ((c : Thread nD τ).loc main_arg3))) (wideArr (m ((c : Thread nD τ).loc main_arg0)) (m ((c : Thread nD τ).loc main_arg1)) (m ((c : Thread nD τ).loc main_arg4))) ∧
      r.2.mem ((c.tc : Thread nD τ).loc main_v10_3) = dup (ddnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (wideArr (m ((c : Thread nD τ).loc main_arg0)) (m ((c : Thread nD τ).loc main_arg1)) (m ((c : Thread nD τ).loc main_arg3))) ∧
      r.2.mem ((c.tc : Thread nD τ).loc main_v10_4) = dg (m ((c : Thread nD τ).loc main_arg6)) (downArr (m ((c : Thread nD τ).loc main_arg0)) (m ((c : Thread nD τ).loc main_arg1)) (m ((c : Thread nD τ).loc main_arg3)) (m ((c : Thread nD τ).loc main_arg4)) (m ((c : Thread nD τ).loc main_arg5))) ∧
      r.2.mem ((c.tc : Thread nD τ).loc main_v6_0) = normed (m ((c : Thread nD τ).loc main_arg0)) (row (m ((c : Thread nD τ).loc main_arg1))) ∧
      r.2.mem ((c.tc : Thread nD τ).loc main_v6_1) = wideArr (m ((c : Thread nD τ).loc main_arg0)) (m ((c : Thread nD τ).loc main_arg1)) (m ((c : Thread nD τ).loc main_arg3)) ∧
      r.2.mem ((c.tc : Thread nD τ).loc main_v6_2) = wideArr (m ((c : Thread nD τ).loc main_arg0)) (m ((c : Thread nD τ).loc main_arg1)) (m ((c : Thread nD τ).loc main_arg4)) ∧
      r.2.mem ((c.tc : Thread nD τ).loc main_v8_0) = downArr (m ((c : Thread nD τ).loc main_arg0)) (m ((c : Thread nD τ).loc main_arg1)) (m ((c : Thread nD τ).loc main_arg3)) (m ((c : Thread nD τ).loc main_arg4)) (m ((c : Thread nD τ).loc main_arg5)) ∧
      r.2.mem ((c.tc : Thread nD τ).loc main_v8_1) = out (m ((c : Thread nD τ).loc main_arg0)) (downArr (m ((c : Thread nD τ).loc main_arg0)) (m ((c : Thread nD τ).loc main_arg1)) (m ((c : Thread nD τ).loc main_arg3)) (m ((c : Thread nD τ).loc main_arg4)) (m ((c : Thread nD τ).loc main_arg5))) (row (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v10_0 (by decide))).trans (left_main_v10_0 m ρ c),
       (h c _ (mem_uc main_v10_1 (by decide))).trans (left_main_v10_1 m ρ c),
       (h c _ (mem_uc main_v10_2 (by decide))).trans (left_main_v10_2 m ρ c),
       (h c _ (mem_uc main_v10_3 (by decide))).trans (left_main_v10_3 m ρ c),
       (h c _ (mem_uc main_v10_4 (by decide))).trans (left_main_v10_4 m ρ c),
       (h c _ (mem_uc main_v6_0 (by decide))).trans (left_main_v6_0 m ρ c),
       (h c _ (mem_uc main_v6_1 (by decide))).trans (left_main_v6_1 m ρ c),
       (h c _ (mem_uc main_v6_2 (by decide))).trans (left_main_v6_2 m ρ c),
       (h c _ (mem_uc main_v8_0 (by decide))).trans (left_main_v8_0 m ρ c),
       (h c _ (mem_uc main_v8_1 (by decide))).trans (left_main_v8_1 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.FfnOutIdeal.Value
-- ==== Proof.FfnOutReference.lean ====
/- The reference of the feed-forward layer's second gradient, entry by entry. -/
module

public import proofs.«01_k».proof.Proof.FfnOutRun
public import proofs.«01_k».proof.Proof.NormReal
public import proofs.«01_k».proof.Proof.Gen.FfnOutReferenceIdeal.Read
public import Idealize.ShloMosaic.Lib.Pointwise

@[expose] public section

set_option maxRecDepth 16384

noncomputable section

open Idealize.ShloMosaic Idealize.ShloMosaic.TcCoe Idealize.SL.Sem

namespace Cert.FfnOutReferenceIdeal.Value

open Cert.FfnOutReferenceIdeal Cert.FfnOutReferenceIdeal.Gen Cert.FfnOutReferenceIdeal.Read

/-- The gate's gradient, its two ways of being written. -/
theorem gate_grad {a g u s : EReal} (ha : ∃ v : ℝ, a = v) (hg : ∃ v : ℝ, g = v) (hu : ∃ v : ℝ, u = v) (hs : ∃ v : ℝ, s = v) :
    a * u * (s * (1 + g * (1 - s))) = a * u * s + g * (a * u) * (s * (1 - s)) := by
  obtain ⟨a, rfl⟩ := ha
  obtain ⟨g, rfl⟩ := hg
  obtain ⟨u, rfl⟩ := hu
  obtain ⟨s, rfl⟩ := hs
  norm_cast
  ring

variable (x0 : FVec Ideal S8192x1024 .f32) (x1 x2 : FVec Ideal S1024 .f32) (x3 x4 : FVec Ideal S1024x2816 .f32)
  (x5 : FVec Ideal S2816x1024 .f32) (x6 : FVec Ideal S8192x1024 .f32)

theorem norm_at (r : Fin 8192) (k : Fin 1024) : val_main_v12 (F := Ideal) x0 x1 (ix2 r k) = Cert.FfnOutIdeal.Value.norm x0 (Cert.FfnOutIdeal.Value.row x1) r k := by
  pointwise [val_main_v12, val_main_v9, val_main_v11, val_main_v8, val_main_v10, val_main_v7, val_main_v6, val_main_v4, val_main_v5, val_main_v2, val_main_v3, val_main_cst_1, val_main_v1, val_main_cst_0, val_main_v0, val_main_cst]
  simp only [Norm.word_1024, Norm.word_eps, Norm.word_neg_half, Fin.sum_univ_one, Finset.univ_unique, Finset.sum_singleton]
  rfl

theorem gate_at (r : Fin 8192) (k : Fin 2816) : val_main_v13 (F := Ideal) x0 x1 x3 (ix2 r k) = Cert.FfnOutIdeal.Value.wideArr x0 x1 x3 (ix2 r k) := by
  pointwise [val_main_v13]
  simp only [norm_at]
  rfl

theorem up_at (r : Fin 8192) (k : Fin 2816) : val_main_v14 (F := Ideal) x0 x1 x4 (ix2 r k) = Cert.FfnOutIdeal.Value.wideArr x0 x1 x4 (ix2 r k) := by
  pointwise [val_main_v14]
  simp only [norm_at]
  rfl

theorem norm_eq : Cert.FfnOutIdeal.Value.normed x0 (Cert.FfnOutIdeal.Value.row x1) = val_main_v63 (F := Ideal) x0 x1 := by
  funext j
  obtain ⟨r, l, rfl⟩ : ∃ (r : Fin 8192) (l : Fin 1024), j = ix2 r l := ⟨j 0, j 1, by funext a; fin_cases a <;> rfl⟩
  pointwise [val_main_v63]
  exact (norm_at x0 x1 r l).symm

theorem gate_eq : Cert.FfnOutIdeal.Value.wideArr x0 x1 x3 = val_main_v64 (F := Ideal) x0 x1 x3 := by
  funext j
  obtain ⟨r, l, rfl⟩ : ∃ (r : Fin 8192) (l : Fin 2816), j = ix2 r l := ⟨j 0, j 1, by funext a; fin_cases a <;> rfl⟩
  pointwise [val_main_v64]
  exact (gate_at x0 x1 x3 r l).symm

theorem up_eq : Cert.FfnOutIdeal.Value.wideArr x0 x1 x4 = val_main_v65 (F := Ideal) x0 x1 x4 := by
  funext j
  obtain ⟨r, l, rfl⟩ : ∃ (r : Fin 8192) (l : Fin 2816), j = ix2 r l := ⟨j 0, j 1, by funext a; fin_cases a <;> rfl⟩
  pointwise [val_main_v65]
  exact (up_at x0 x1 x4 r l).symm

theorem sig_at (r : Fin 8192) (k : Fin 2816) : val_main_v15_2 (F := Ideal) x0 x1 x3 (ix2 r k) = Gate.viaExp (Cert.FfnOutIdeal.Value.wideArr x0 x1 x3 (ix2 r k)) := by
  pointwise [val_main_v15_2, val_main_call0_v4, val_main_call0_v3, val_main_call0_cst_0, val_main_call0_v2, val_main_call0_v1, val_main_call0_cst, val_main_call0_v0]
  simp only [gate_at]
  rfl

section Finite
variable (h0 : Norm.Finite x0) (h1 : Norm.Finite x1) (h2 : Norm.Finite x2) (h3 : Norm.Finite x3) (h4 : Norm.Finite x4)
  (h5 : Norm.Finite x5) (h6 : Norm.Finite x6)
include h0 h1

theorem norm_real (r : Fin 8192) (k : Fin 1024) : ∃ v : ℝ, Cert.FfnOutIdeal.Value.norm x0 (Cert.FfnOutIdeal.Value.row x1) r k = v := by
  exact Norm.real_mul (Norm.real_mul (h0 _) (Norm.rstd_real (by norm_num) fun k => h0 _)) (h1 _)

omit h0 h1 in
theorem wide_real (h0 : Norm.Finite x0) (h1 : Norm.Finite x1) {w : FVec Ideal S1024x2816 .f32} (hw : Norm.Finite w) (j : S8192x2816.Idx) :
    ∃ v : ℝ, Cert.FfnOutIdeal.Value.wideArr x0 x1 w j = v := by
  show ∃ v : ℝ, ∑ q : Fin 1024, Cert.FfnOutIdeal.Value.norm x0 (Cert.FfnOutIdeal.Value.row x1) (j 0) q * w (ix2 q (j 1)) = v
  exact Norm.real_sum fun q => Norm.real_mul (norm_real x0 x1 h0 h1 _ q) (hw _)

include h3

theorem sig_eq (r : Fin 8192) (k : Fin 2816) : val_main_v15_2 (F := Ideal) x0 x1 x3 (ix2 r k) = Gate.viaTanh (Cert.FfnOutIdeal.Value.wideArr x0 x1 x3 (ix2 r k)) := by
  rw [sig_at, Gate.viaTanh_eq (wide_real x0 x1 h0 h1 h3 _)]

theorem silu_at (r : Fin 8192) (k : Fin 2816) : val_main_v15_0 (F := Ideal) x0 x1 x3 (ix2 r k)
    = Cert.FfnOutIdeal.Value.wideArr x0 x1 x3 (ix2 r k) * Gate.viaTanh (Cert.FfnOutIdeal.Value.wideArr x0 x1 x3 (ix2 r k)) := by
  pointwise [val_main_v15_0]
  rw [gate_at, sig_eq x0 x1 x3 h0 h1 h3]

theorem act_at (r : Fin 8192) (k : Fin 2816) : val_main_v16 (F := Ideal) x0 x1 x3 x4 (ix2 r k) = Cert.FfnOutIdeal.Value.actArr x0 x1 x3 x4 (ix2 r k) := by
  pointwise [val_main_v16]
  rw [silu_at x0 x1 x3 h0 h1 h3, up_at]
  rfl

/-- The gated rows agree. -/
theorem act_eq : Cert.FfnOutIdeal.Value.actArr x0 x1 x3 x4 = val_main_v59 (F := Ideal) x0 x1 x3 x4 := by
  funext j
  obtain ⟨r, l, rfl⟩ : ∃ (r : Fin 8192) (l : Fin 2816), j = ix2 r l := ⟨j 0, j 1, by funext a; fin_cases a <;> rfl⟩
  rw [← act_at x0 x1 x3 x4 h0 h1 h3]
  pointwise [val_main_v59]

theorem down_at (r : Fin 8192) (k : Fin 1024) : val_main_v17 (F := Ideal) x0 x1 x3 x4 x5 (ix2 r k) = Cert.FfnOutIdeal.Value.downArr x0 x1 x3 x4 x5 (ix2 r k) := by
  pointwise [val_main_v17]
  simp only [act_at x0 x1 x3 x4 h0 h1 h3]
  rfl

/-- The normalised product. -/
theorem xdown_at (r : Fin 8192) (k : Fin 1024) : val_main_v30 (F := Ideal) x0 x1 x3 x4 x5 (ix2 r k)
    = Cert.FfnOutIdeal.Value.downArr x0 x1 x3 x4 x5 (ix2 r k) * Norm.rstd ((1024 : ℝ) : EReal) (fun k => Cert.FfnOutIdeal.Value.downArr x0 x1 x3 x4 x5 (ix2 r k)) := by
  pointwise [val_main_v30, val_main_v29, val_main_v25, val_main_v24, val_main_v22, val_main_v23, val_main_v20, val_main_v21, val_main_cst_4, val_main_v19, val_main_cst_3, val_main_v18, val_main_cst_2]
  simp only [Norm.word_1024, Norm.word_eps, Norm.word_neg_half, Fin.sum_univ_one, Finset.univ_unique, Finset.sum_singleton, down_at x0 x1 x3 x4 x5 h0 h1 h3]
  rfl

theorem down_eq : Cert.FfnOutIdeal.Value.downArr x0 x1 x3 x4 x5 = val_main_v66 (F := Ideal) x0 x1 x3 x4 x5 := by
  funext j
  obtain ⟨r, l, rfl⟩ : ∃ (r : Fin 8192) (l : Fin 1024), j = ix2 r l := ⟨j 0, j 1, by funext a; fin_cases a <;> rfl⟩
  pointwise [val_main_v66]
  exact (down_at x0 x1 x3 x4 x5 h0 h1 h3 r l).symm

/-- The layer's output. -/
theorem out_eq : Cert.FfnOutIdeal.Value.out x0 (Cert.FfnOutIdeal.Value.downArr x0 x1 x3 x4 x5) (Cert.FfnOutIdeal.Value.row x2) = val_main_v67 (F := Ideal) x0 x1 x2 x3 x4 x5 := by
  funext j
  obtain ⟨r, l, rfl⟩ : ∃ (r : Fin 8192) (l : Fin 1024), j = ix2 r l := ⟨j 0, j 1, by funext a; fin_cases a <;> rfl⟩
  pointwise [val_main_v67, val_main_v33, val_main_v32, val_main_v31]
  rw [xdown_at x0 x1 x3 x4 x5 h0 h1 h3]
  rfl

theorem ddn_form (r : Fin 8192) (l : Fin 1024) :
    val_main_v53 (F := Ideal) x0 x1 x2 x3 x4 x5 x6 (ix2 r l)
      = (fun k => x6 (ix2 r k) * x2 (ix1 k)) l * Norm.rstd ((1024 : ℝ) : EReal) (fun k => Cert.FfnOutIdeal.Value.downArr x0 x1 x3 x4 x5 (ix2 r k))
          + Cert.FfnOutIdeal.Value.downArr x0 x1 x3 x4 x5 (ix2 r l) * Norm.spread ((1024 : ℝ) : EReal) (fun k => Cert.FfnOutIdeal.Value.downArr x0 x1 x3 x4 x5 (ix2 r k)) (fun k => x6 (ix2 r k) * x2 (ix1 k))
          + Norm.spread ((1024 : ℝ) : EReal) (fun k => Cert.FfnOutIdeal.Value.downArr x0 x1 x3 x4 x5 (ix2 r k)) (fun k => x6 (ix2 r k) * x2 (ix1 k)) * Cert.FfnOutIdeal.Value.downArr x0 x1 x3 x4 x5 (ix2 r l) := by
  pointwise [val_main_v53, val_main_v51, val_main_v52, val_main_v44, val_main_v50, val_main_v49, val_main_v38, val_main_v43, val_main_v48, val_main_v37, val_main_v25, val_main_v47, val_main_cst_10, val_main_v31, val_main_v24, val_main_v45, val_main_v46, val_main_v22, val_main_v23, val_main_v42, val_main_v28, val_main_cst_9, val_main_v20, val_main_v21, val_main_cst_4, val_main_v41, val_main_v27, val_main_v26, val_main_v19, val_main_cst_3, val_main_v40, val_main_cst_8, val_main_cst_5, val_main_v18, val_main_cst_2]
  simp only [Norm.word_1024, Norm.word_eps, Norm.word_neg_half, Fin.sum_univ_one, Finset.univ_unique, Finset.sum_singleton, down_at x0 x1 x3 x4 x5 h0 h1 h3]
  rfl

theorem dg_eq : Cert.FfnOutIdeal.Value.dg x6 (Cert.FfnOutIdeal.Value.downArr x0 x1 x3 x4 x5) = val_main_v62 (F := Ideal) x0 x1 x3 x4 x5 x6 := by
  funext j
  obtain ⟨z, l, rfl⟩ : ∃ (z : Fin 1) (l : Fin 1024), j = ix2 z l := ⟨j 0, j 1, by funext a; fin_cases a <;> rfl⟩
  pointwise [val_main_v62, val_main_v39, val_main_v36, val_main_cst_7, val_main_v35, val_main_v34, val_main_cst_6]
  simp only [Norm.word_1024, Norm.word_eps, Norm.word_neg_half, Fin.sum_univ_one, Finset.univ_unique, Finset.sum_singleton, xdown_at x0 x1 x3 x4 x5 h0 h1 h3]
  unfold Cert.FfnOutIdeal.Value.dg Cert.FfnOutIdeal.Value.dgRow
  simp only [mul_comm]
  rfl

include h2 h4 h5 h6

theorem down_real (r : Fin 8192) : Norm.Finite fun k : Fin 1024 => Cert.FfnOutIdeal.Value.downArr x0 x1 x3 x4 x5 (ix2 r k) := by
  intro k
  show ∃ v : ℝ, ∑ q : Fin 2816, Cert.FfnOutIdeal.Value.wideArr x0 x1 x3 (ix2 r q) * Gate.viaTanh (Cert.FfnOutIdeal.Value.wideArr x0 x1 x3 (ix2 r q)) * Cert.FfnOutIdeal.Value.wideArr x0 x1 x4 (ix2 r q) * x5 (ix2 q k) = v
  exact Norm.real_sum fun q => Norm.real_mul (Norm.real_mul (Norm.real_mul (wide_real x0 x1 h0 h1 h3 _)
    (Gate.viaTanh_real (wide_real x0 x1 h0 h1 h3 _))) (wide_real x0 x1 h0 h1 h4 _)) (h5 _)

theorem ddn_at (r : Fin 8192) (l : Fin 1024) : val_main_v53 (F := Ideal) x0 x1 x2 x3 x4 x5 x6 (ix2 r l) = Cert.FfnOutIdeal.Value.ddnArr x0 x1 x2 x3 x4 x5 x6 (ix2 r l) := by
  rw [ddn_form x0 x1 x2 x3 x4 x5 x6 h0 h1 h3]
  exact (Norm.gradTiled_eq (by norm_num : (0 : ℝ) < 1024) (down_real x0 x1 x2 x3 x4 x5 x6 h0 h1 h2 h3 h4 h5 h6 r)
    (fun k => Norm.real_mul (h6 _) (h2 _)) l).symm

theorem ddn_eq : Cert.FfnOutIdeal.Value.ddnArr x0 x1 x2 x3 x4 x5 x6 = val_main_v58 (F := Ideal) x0 x1 x2 x3 x4 x5 x6 := by
  funext j
  obtain ⟨r, l, rfl⟩ : ∃ (r : Fin 8192) (l : Fin 1024), j = ix2 r l := ⟨j 0, j 1, by funext a; fin_cases a <;> rfl⟩
  rw [← ddn_at x0 x1 x2 x3 x4 x5 x6 h0 h1 h2 h3 h4 h5 h6]
  pointwise [val_main_v58]

theorem ddn_real (r : Fin 8192) (l : Fin 1024) : ∃ v : ℝ, Cert.FfnOutIdeal.Value.ddnArr x0 x1 x2 x3 x4 x5 x6 (ix2 r l) = v := by
  exact Norm.gradTiled_real (by norm_num : (0 : ℝ) < 1024) (down_real x0 x1 x2 x3 x4 x5 x6 h0 h1 h2 h3 h4 h5 h6 r)
    (fun k => Norm.real_mul (h6 _) (h2 _)) l

theorem dact_at (r : Fin 8192) (l : Fin 2816) : val_main_v54 (F := Ideal) x0 x1 x2 x3 x4 x5 x6 (ix2 r l)
    = Cert.FfnOutIdeal.Value.dact (Cert.FfnOutIdeal.Value.ddnArr x0 x1 x2 x3 x4 x5 x6) x5 (ix2 r l) := by
  pointwise [val_main_v54]
  simp only [ddn_at x0 x1 x2 x3 x4 x5 x6 h0 h1 h2 h3 h4 h5 h6]
  rfl

theorem dact_real (r : Fin 8192) (l : Fin 2816) : ∃ v : ℝ, Cert.FfnOutIdeal.Value.dact (Cert.FfnOutIdeal.Value.ddnArr x0 x1 x2 x3 x4 x5 x6) x5 (ix2 r l) = v := by
  exact Norm.real_sum fun q => Norm.real_mul (ddn_real x0 x1 x2 x3 x4 x5 x6 h0 h1 h2 h3 h4 h5 h6 _ q) (h5 _)

theorem dup_eq : Cert.FfnOutIdeal.Value.dup (Cert.FfnOutIdeal.Value.ddnArr x0 x1 x2 x3 x4 x5 x6) x5 (Cert.FfnOutIdeal.Value.wideArr x0 x1 x3) = val_main_v61 (F := Ideal) x0 x1 x2 x3 x4 x5 x6 := by
  funext j
  obtain ⟨r, l, rfl⟩ : ∃ (r : Fin 8192) (l : Fin 2816), j = ix2 r l := ⟨j 0, j 1, by funext a; fin_cases a <;> rfl⟩
  pointwise [val_main_v61, val_main_v55]
  rw [silu_at x0 x1 x3 h0 h1 h3, dact_at x0 x1 x2 x3 x4 x5 x6 h0 h1 h2 h3 h4 h5 h6, mul_comm]
  rfl

theorem dgt_eq : Cert.FfnOutIdeal.Value.dgt (Cert.FfnOutIdeal.Value.ddnArr x0 x1 x2 x3 x4 x5 x6) x5 (Cert.FfnOutIdeal.Value.wideArr x0 x1 x3) (Cert.FfnOutIdeal.Value.wideArr x0 x1 x4) = val_main_v60 (F := Ideal) x0 x1 x2 x3 x4 x5 x6 := by
  funext j
  obtain ⟨r, l, rfl⟩ : ∃ (r : Fin 8192) (l : Fin 2816), j = ix2 r l := ⟨j 0, j 1, by funext a; fin_cases a <;> rfl⟩
  pointwise [val_main_v60, val_main_v57, val_main_call1_v1, val_main_call1_v2, val_main_v56, val_main_call1_v0, val_main_v15_1, val_main_call0_v7, val_main_call0_v6, val_main_call0_cst_1]
  simp only [gate_at, up_at, sig_eq x0 x1 x3 h0 h1 h3, dact_at x0 x1 x2 x3 x4 x5 x6 h0 h1 h2 h3 h4 h5 h6]
  exact gate_grad (dact_real x0 x1 x2 x3 x4 x5 x6 h0 h1 h2 h3 h4 h5 h6 r l) (wide_real x0 x1 h0 h1 h3 _) (wide_real x0 x1 h0 h1 h4 _)
    (Gate.viaTanh_real (wide_real x0 x1 h0 h1 h3 _))

end Finite

end Cert.FfnOutReferenceIdeal.Value
-- ==== Proof.FfnOut.lean ====
/- The claims about the gradient of the feed-forward layer's second half. -/
module

public import proofs.«01_k».proof.Defs
public import proofs.«01_k».proof.Proof.Tame
public import proofs.«01_k».proof.Proof.FfnOutReference
public import proofs.«01_k».proof.Proof.Gen.FfnOut.Frame
public import proofs.«01_k».proof.Proof.Gen.FfnOutReferenceIdeal
public import proofs.«01_k».proof.Proof.Gen.Pre_finite_ffn_out

@[expose] public section

set_option maxRecDepth 16384

noncomputable section

open Idealize.ShloMosaic Idealize.ShloMosaic.TcCoe Idealize.SL.Sem

namespace Cert.FfnOutClaims

instance : Cert.FfnOut.Facts := Cert.FfnOut.Gen.facts
instance : Cert.FfnOutIdeal.Facts := Cert.FfnOutIdeal.Gen.facts
instance : Cert.FfnOutReferenceIdeal.Facts := Cert.FfnOutReferenceIdeal.Gen.facts
instance : Cert.Pre_finite_ffn_out.Facts := Cert.Pre_finite_ffn_out.Gen.facts

theorem finite_args (x0 x1 x2 x3 x4 x5 x6) (h : Cert.Pre_finite_ffn_out.fn (F := Ideal) x0 x1 x2 x3 x4 x5 x6 = fun _ => 1#1) :
    Norm.Finite x0 ∧ Norm.Finite x1 ∧ Norm.Finite x2 ∧ Norm.Finite x3 ∧ Norm.Finite x4 ∧ Norm.Finite x5 ∧ Norm.Finite x6 := by
  have e := congrFun h default
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨Norm.finite_of_all x0 _ Norm.word_inf _ _ _ _ _ _ e0,
    Norm.finite_of_all x1 _ Norm.word_inf _ _ _ _ _ _ e1,
    Norm.finite_of_all x2 _ Norm.word_inf _ _ _ _ _ _ e2,
    Norm.finite_of_all x3 _ Norm.word_inf _ _ _ _ _ _ e3,
    Norm.finite_of_all x4 _ Norm.word_inf _ _ _ _ _ _ e4,
    Norm.finite_of_all x5 _ Norm.word_inf _ _ _ _ _ _ e5,
    Norm.finite_of_all x6 _ Norm.word_inf _ _ _ _ _ _ e6⟩

theorem frame : Cert.quiescent_FfnOut := fun m ρ _ => Cert.FfnOut.Gen.frame m ρ

theorem frameIdeal : Cert.quiescent_FfnOutIdeal := fun m ρ _ => Cert.FfnOutIdeal.Gen.frame m ρ

theorem frameIdealFinite : Cert.quiescent_FfnOutIdeal_pre_finite_ffn_out := fun m ρ _ => Cert.FfnOutIdeal.Gen.frame m ρ

theorem frameReference : Cert.quiescent_FfnOutReferenceIdeal := by
  intro m ρ _
  refine (θ_run _ _ _).mono (fun r h => ⟨fun c => ?_, sem_eq_zero_of_no_sems (by decide) r.2⟩)
    (Cert.FfnOutReferenceIdeal.Value.run (F := Ideal) m ρ)
  exact (h c).2.2.2.2.2.2.2.2.2.2

theorem frameReferenceFinite : Cert.quiescent_FfnOutReferenceIdeal_pre_finite_ffn_out := fun m ρ _ => frameReference m ρ trivial

set_option maxHeartbeats 1600000 in
theorem algebraic : Cert.algebraic_FfnOutIdeal_FfnOutReferenceIdeal_pre_finite_ffn_out := by
  pair_intro
  · run_from Cert.FfnOutIdeal.Value.run_main m g
  · run_from Cert.FfnOutReferenceIdeal.Value.run m' g'
    · obtain ⟨h0, h1, h2, h3, h4, h5, h6⟩ := finite_args _ _ _ _ _ _ _ (hpre c)
      obtain ⟨a0, a1, a2, a3, a4, a5, a6⟩ := hagree c
      rw [Cert.FfnOutReferenceIdeal.Read.val_main_v58_eq, a0, a1, a2, a3, a4, a5, a6]
      exact (Cert.FfnOutReferenceIdeal.Value.ddn_eq _ _ _ _ _ _ _ h0 h1 h2 h3 h4 h5 h6).symm
    · obtain ⟨h0, h1, h2, h3, h4, h5, h6⟩ := finite_args _ _ _ _ _ _ _ (hpre c)
      refine (Cert.FfnOutReferenceIdeal.Read.val_main_v59_eq (F := Ideal)
        (m ((c.tc : Thread _ _).loc Cert.FfnOutIdeal.main_arg0)) (m ((c.tc : Thread _ _).loc Cert.FfnOutIdeal.main_arg1)) (m ((c.tc : Thread _ _).loc Cert.FfnOutIdeal.main_arg3)) (m ((c.tc : Thread _ _).loc Cert.FfnOutIdeal.main_arg4))).trans ?_
      exact (Cert.FfnOutReferenceIdeal.Value.act_eq _ _ _ _ h0 h1 h3).symm
    · obtain ⟨h0, h1, h2, h3, h4, h5, h6⟩ := finite_args _ _ _ _ _ _ _ (hpre c)
      obtain ⟨a0, a1, a2, a3, a4, a5, a6⟩ := hagree c
      rw [Cert.FfnOutReferenceIdeal.Read.val_main_v60_eq, a0, a1, a2, a3, a4, a5, a6]
      exact (Cert.FfnOutReferenceIdeal.Value.dgt_eq _ _ _ _ _ _ _ h0 h1 h2 h3 h4 h5 h6).symm
    · obtain ⟨h0, h1, h2, h3, h4, h5, h6⟩ := finite_args _ _ _ _ _ _ _ (hpre c)
      obtain ⟨a0, a1, a2, a3, a4, a5, a6⟩ := hagree c
      rw [Cert.FfnOutReferenceIdeal.Read.val_main_v61_eq, a0, a1, a2, a3, a4, a5, a6]
      exact (Cert.FfnOutReferenceIdeal.Value.dup_eq _ _ _ _ _ _ _ h0 h1 h2 h3 h4 h5 h6).symm
    · obtain ⟨h0, h1, h2, h3, h4, h5, h6⟩ := finite_args _ _ _ _ _ _ _ (hpre c)
      obtain ⟨a0, a1, a2, a3, a4, a5, a6⟩ := hagree c
      rw [Cert.FfnOutReferenceIdeal.Read.val_main_v62_eq, a0, a1, a3, a4, a5, a6]
      exact (Cert.FfnOutReferenceIdeal.Value.dg_eq _ _ _ _ _ _ h0 h1 h3).symm
    · refine (Cert.FfnOutReferenceIdeal.Read.val_main_v63_eq (F := Ideal)
        (m ((c.tc : Thread _ _).loc Cert.FfnOutIdeal.main_arg0)) (m ((c.tc : Thread _ _).loc Cert.FfnOutIdeal.main_arg1))).trans ?_
      exact (Cert.FfnOutReferenceIdeal.Value.norm_eq _ _).symm
    · refine (Cert.FfnOutReferenceIdeal.Read.val_main_v64_eq (F := Ideal)
        (m ((c.tc : Thread _ _).loc Cert.FfnOutIdeal.main_arg0)) (m ((c.tc : Thread _ _).loc Cert.FfnOutIdeal.main_arg1)) (m ((c.tc : Thread _ _).loc Cert.FfnOutIdeal.main_arg3))).trans ?_
      exact (Cert.FfnOutReferenceIdeal.Value.gate_eq _ _ _).symm
    · refine (Cert.FfnOutReferenceIdeal.Read.val_main_v65_eq (F := Ideal)
        (m ((c.tc : Thread _ _).loc Cert.FfnOutIdeal.main_arg0)) (m ((c.tc : Thread _ _).loc Cert.FfnOutIdeal.main_arg1)) (m ((c.tc : Thread _ _).loc Cert.FfnOutIdeal.main_arg4))).trans ?_
      exact (Cert.FfnOutReferenceIdeal.Value.up_eq _ _ _).symm
    · obtain ⟨h0, h1, h2, h3, h4, h5, h6⟩ := finite_args _ _ _ _ _ _ _ (hpre c)
      refine (Cert.FfnOutReferenceIdeal.Read.val_main_v66_eq (F := Ideal)
        (m ((c.tc : Thread _ _).loc Cert.FfnOutIdeal.main_arg0)) (m ((c.tc : Thread _ _).loc Cert.FfnOutIdeal.main_arg1)) (m ((c.tc : Thread _ _).loc Cert.FfnOutIdeal.main_arg3)) (m ((c.tc : Thread _ _).loc Cert.FfnOutIdeal.main_arg4)) (m ((c.tc : Thread _ _).loc Cert.FfnOutIdeal.main_arg5))).trans ?_
      exact (Cert.FfnOutReferenceIdeal.Value.down_eq _ _ _ _ _ h0 h1 h3).symm
    · obtain ⟨h0, h1, h2, h3, h4, h5, h6⟩ := finite_args _ _ _ _ _ _ _ (hpre c)
      obtain ⟨a0, a1, a2, a3, a4, a5, a6⟩ := hagree c
      rw [Cert.FfnOutReferenceIdeal.Read.val_main_v67_eq, a0, a1, a2, a3, a4, a5]
      exact (Cert.FfnOutReferenceIdeal.Value.out_eq _ _ _ _ _ _ h0 h1 h3).symm

end Cert.FfnOutClaims
-- ==== Proof.GmfBody.lean ====
/- The gated MLP's forward pass on one block: what the kernel's scratch arrays and its result hold. -/
module

public import proofs.«01_k».proof.Proof.GmBlock
public import proofs.«01_k».proof.Proof.Gen.GmForwardIdeal.Frame

@[expose] public section

set_option maxRecDepth 16384

noncomputable section

open Idealize.ShloMosaic Idealize.ShloMosaic.TcCoe Idealize.SL.Sem

namespace Cert.GmForwardIdeal.Gen

open Cert.Gm
open Cert.AttnKernelIdeal.Gen (vrow vn mixed col hd_low hd_high hide)

section Loads

theorem load_at {s : Shape} {e : EltTy} (m : Memref sig .tc .vmem s e) (hm : m.IsWhole) (x : Vec Ideal s e) (B : LoadRect s) (y : B.shape.Idx) :
    View.readAt (Elt Ideal) m.view B (hm.unread x) y = x (B.idx y) := by
  rw [View.readAt_apply, Memref.IsWhole.read_unread]

theorem load_line (m : Memref sig .tc .vmem S1x512 .f32) (hm : m.IsWhole) (x : Vec Ideal S1x512 .f32)
    (j : ∀ k, (![0, 0] : Fin 2 → Nat) k + (![1, 512] : Fin 2 → Nat) k ≤ S1x512.size k) (b : Fin 512) :
    View.readAt (Elt Ideal) m.view (Rect.unit (s := S1x512) ![0, 0] ![1, 512] j).toLoadRect (hm.unread x) (ix2 0 b) = x (ix2 0 b) := by
  refine (load_at m hm x _ _).trans (congrArg x ?_)
  funext k
  fin_cases k <;> apply Fin.ext <;> simp [LoadRect.idx, Rect.toLoadRect, ix2]

theorem load_z (m : Memref sig .tc .vmem S128x1792 .bf16) (hm : m.IsWhole) (x : Vec Ideal S128x1792 .bf16) (o p : Nat)
    (i : ∀ k, (![o, p] : Fin 2 → Nat) k + (![16, 512] : Fin 2 → Nat) k ≤ S128x1792.size k) (a : Fin 16) (b : Fin 512) :
    View.readAt (Elt Ideal) m.view (Rect.unit (s := S128x1792) ![o, p] ![16, 512] i).toLoadRect (hm.unread x) (ix2 a b)
      = x (ix2 ⟨o + a.val, lt_of_lt_of_le (Nat.add_lt_add_left a.isLt o) (i 0)⟩ ⟨p + b.val, lt_of_lt_of_le (Nat.add_lt_add_left b.isLt p) (i 1)⟩) := by
  refine (load_at m hm x _ _).trans (congrArg x ?_)
  funext k
  fin_cases k <;> apply Fin.ext <;> simp [LoadRect.idx, Rect.toLoadRect, ix2]

theorem load_head (m : Memref sig .tc .vmem S8x128x128 .f32) (hm : m.IsWhole) (x : Vec Ideal S8x128x128 .f32) (h : Nat)
    (i : ∀ k, (![h, 0, 0] : Fin 3 → Nat) k + (![1, 128, 128] : Fin 3 → Nat) k ≤ S8x128x128.size k) (a b : Fin 128) :
    View.readAt (Elt Ideal) m.view (Rect.unit (s := S8x128x128) ![h, 0, 0] ![1, 128, 128] i).toLoadRect (hm.unread x) (ix3 0 a b)
      = x (ix3 ⟨h, i 0⟩ a b) := by
  refine (load_at m hm x _ _).trans (congrArg x ?_)
  funext k
  fin_cases k <;> apply Fin.ext <;> simp [LoadRect.idx, Rect.toLoadRect, ix3]

theorem load_cols (m : Memref sig .tc .vmem S128x512 .f32) (hm : m.IsWhole) (x : Vec Ideal S128x512 .f32) (o : Nat)
    (i : ∀ k, (![0, o] : Fin 2 → Nat) k + (![128, 128] : Fin 2 → Nat) k ≤ S128x512.size k) (a b : Fin 128) :
    View.readAt (Elt Ideal) m.view (Rect.unit (s := S128x512) ![0, o] ![128, 128] i).toLoadRect (hm.unread x) (ix2 a b)
      = x (ix2 a ⟨o + b.val, lt_of_lt_of_le (Nat.add_lt_add_left b.isLt o) (i 1)⟩) := by
  refine (load_at m hm x _ _).trans (congrArg x ?_)
  funext k
  fin_cases k <;> apply Fin.ext <;> simp [LoadRect.idx, Rect.toLoadRect, ix2]

theorem cov_cols (v : View sig .tc .vmem S128x512 .f32) (L : List (View.Piece (Elt Ideal) S128x512 .f32)) (o : Nat)
    (i : ∀ k, (![0, o] : Fin 2 → Nat) k + (![128, 128] : Fin 2 → Nat) k ≤ S128x512.size k) (a b : Fin 128) :
    v.readCov L (Rect.unit (s := S128x512) ![0, o] ![128, 128] i).toLoadRect (ix2 a b)
      = (View.canon L : Vec Ideal S128x512 .f32) (ix2 a ⟨o + b.val, lt_of_lt_of_le (Nat.add_lt_add_left b.isLt o) (i 1)⟩) := by
  rw [View.readCov_eq_canon']
  refine congrArg (View.canon L) ?_
  funext k
  fin_cases k <;> apply Fin.ext <;> simp [LoadRect.idx, Rect.toLoadRect, ix2]

end Loads

variable (c : Dev nD) (arg1 : Memref sig .tc .vmem S128x1792 .bf16) (harg1 : arg1.IsWhole)
  (arg6 : Memref sig .tc .vmem S1x512 .f32) (harg6 : arg6.IsWhole) (arg7 : Memref sig .tc .vmem S1x512 .f32) (harg7 : arg7.IsWhole)
  (x0 : Vec Ideal S128x1792 .bf16) (x5 x6 : Vec Ideal S1x512 .f32) (x7 : Vec Ideal S8x128x128 .f32) (x8 : Vec Ideal S128x512 .f32)

theorem u_canon (r : Fin 128) (l : Fin 512) : (View.canon (kernelRun0_A.sl.HS2_8 (F := Ideal) c arg1 harg1 x0) : Vec Ideal S128x512 .f32) (ix2 r l) = gelu (x0 (ix2 r (zu l))) := by
  unfold kernelRun0_A.sl.HS2_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    pointwise [k0_pay207, kernelRun0_A.sl.r_25, k0_pay205, k0_pay204, kernelRun0_A.sl.r_26, k0_pay206, k0_pay199, k0_pay196, kernelRun0_A.sl.r_19, k0_pay193, kernelRun0_A.sl.r_20, k0_pay194, kernelRun0_A.sl.r_21, k0_pay195, k0_pay188, k0_pay183, kernelRun0_A.sl.r_13, k0_pay182, kernelRun0_A.sl.cst_1060, k0_pay179, k0_pay175, kernelRun0_A.sl.r_8, k0_pay173]
    simp only [load_z]
    first
      | obtain rfl : r = ⟨0 + a.val, lt_of_lt_of_le (Nat.add_lt_add_left a.isLt 0) (by decide)⟩ := Fin.ext (hx0.trans (Nat.zero_add _).symm)
        rfl
      | obtain rfl : r = ⟨16 + a.val, lt_of_lt_of_le (Nat.add_lt_add_left a.isLt 16) (by decide)⟩ := Fin.ext hx0
        rfl
      | obtain rfl : r = ⟨32 + a.val, lt_of_lt_of_le (Nat.add_lt_add_left a.isLt 32) (by decide)⟩ := Fin.ext hx0
        rfl
      | obtain rfl : r = ⟨48 + a.val, lt_of_lt_of_le (Nat.add_lt_add_left a.isLt 48) (by decide)⟩ := Fin.ext hx0
        rfl
      | obtain rfl : r = ⟨64 + a.val, lt_of_lt_of_le (Nat.add_lt_add_left a.isLt 64) (by decide)⟩ := Fin.ext hx0
        rfl
      | obtain rfl : r = ⟨80 + a.val, lt_of_lt_of_le (Nat.add_lt_add_left a.isLt 80) (by decide)⟩ := Fin.ext hx0
        rfl
      | obtain rfl : r = ⟨96 + a.val, lt_of_lt_of_le (Nat.add_lt_add_left a.isLt 96) (by decide)⟩ := Fin.ext hx0
        rfl
      | obtain rfl : r = ⟨112 + a.val, lt_of_lt_of_le (Nat.add_lt_add_left a.isLt 112) (by decide)⟩ := Fin.ext hx0
        rfl

theorem vn_canon (r : Fin 128) (l : Fin 512) : (View.canon (kernelRun0_A.sl.HS3_8 (F := Ideal) c arg1 harg1 arg6 harg6 arg7 harg7 x0 x5 x6) : Vec Ideal S128x512 .f32) (ix2 r l) = vn x0 x5 x6 r l := by
  unfold kernelRun0_A.sl.HS3_8
  canon_tiles x hx
  all_goals
    obtain ⟨a, b, rfl⟩ : ∃ (a : Fin 16) (b : Fin 512), x = ix2 a b := ⟨x 0, x 1, by funext i; fin_cases i <;> rfl⟩
    obtain rfl : l = b := Fin.ext hx1
    pointwise [k0_pay209, kernelRun0_A.sl.r_27, k0_pay208, k0_pay203, kernelRun0_A.sl.r_23, k0_pay201, k0_pay200, kernelRun0_A.sl.r_24, k0_pay202, k0_pay198, kernelRun0_A.sl.r_22, k0_pay197, k0_pay192, kernelRun0_A.sl.r_16, k0_pay189, kernelRun0_A.sl.r_17, k0_pay190, kernelRun0_A.sl.r_18, k0_pay191, k0_pay187, kernelRun0_A.sl.r_14, k0_pay184, kernelRun0_A.sl.r_15, k0_pay185, k0_pay186, k0_pay181, kernelRun0_A.sl.r_12, k0_pay180, kernelRun0_A.sl.cst_1060, k0_pay178, kernelRun0_A.sl.r_10, k0_pay176, kernelRun0_A.sl.r_11, k0_pay177, kernelRun0_A.sl.r_9, k0_pay174]
    simp only [load_z, load_line]
    first
      | obtain rfl : r = ⟨0 + a.val, lt_of_lt_of_le (Nat.add_lt_add_left a.isLt 0) (by decide)⟩ := Fin.ext (hx0.trans (Nat.zero_add _).symm)
        rfl
      | obtain rfl : r = ⟨16 + a.val, lt_of_lt_of_le (Nat.add_lt_add_left a.isLt 16) (by decide)⟩ := Fin.ext hx0
        rfl
      | obtain rfl : r = ⟨32 + a.val, lt_of_lt_of_le (Nat.add_lt_add_left a.isLt 32) (by decide)⟩ := Fin.ext hx0
        rfl
      | obtain rfl : r = ⟨48 + a.val, lt_of_lt_of_le (Nat.add_lt_add_left a.isLt 48) (by decide)⟩ := Fin.ext hx0
        rfl
      | obtain rfl : r = ⟨64 + a.val, lt_of_lt_of_le (Nat.add_lt_add_left a.isLt 64) (by decide)⟩ := Fin.ext hx0
        rfl
      | obtain rfl : r = ⟨80 + a.val, lt_of_lt_of_le (Nat.add_lt_add_left a.isLt 80) (by decide)⟩ := Fin.ext hx0
        rfl
      | obtain rfl : r = ⟨96 + a.val, lt_of_lt_of_le (Nat.add_lt_add_left a.isLt 96) (by decide)⟩ := Fin.ext hx0
        rfl
      | obtain rfl : r = ⟨112 + a.val, lt_of_lt_of_le (Nat.add_lt_add_left a.isLt 112) (by decide)⟩ := Fin.ext hx0
        rfl

end Cert.GmForwardIdeal.Gen

end
-- ==== Proof.GmfBlock.lean ====
/- The gated MLP's forward pass on one block: the columns of the result that it writes. -/
module

public import proofs.«01_k».proof.Proof.GmfBody

@[expose] public section

set_option maxRecDepth 16384

noncomputable section

open Idealize.ShloMosaic Idealize.ShloMosaic.TcCoe Idealize.SL.Sem

namespace Cert.GmForwardIdeal.Gen

open Cert.Gm
open Cert.AttnKernelIdeal.Gen (vrow vn mixed col hd_low hd_high hide)

/-- One slab of 128 columns, two heads under a mask, is the mixed rows at its columns. -/
theorem slab (z : Vec Ideal S128x1792 .bf16) (g b : Vec Ideal S1x512 .f32) (w : Vec Ideal S8x128x128 .f32) (y : Vec Ideal S128x512 .f32)
    (s : Fin 4) (r q : Fin 128) (l : Fin 512) (hl : col s q = l) :
    gelu (z (ix2 r (zu (col s q))))
      * (((if q.val < 64 then ∑ x : Fin 128, (if x.val ≤ r.val then w (ix3 ⟨2 * s.val, by omega⟩ r x) * vn z g b x (col s q) else 0) else (0 : EReal))
        + (if q.val < 64 then 0 else ∑ x : Fin 128, (if x.val ≤ r.val then w (ix3 ⟨2 * s.val + 1, by omega⟩ r x) * vn z g b x (col s q) else 0)))
        + y (ix2 r (col s q)))
      = gelu (z (ix2 r (zu l))) * mixed z g b w y r l := by
  subst hl
  unfold mixed
  by_cases h : q.val < 64
  · simp only [if_pos h, add_zero, hd_low s q h]
  · simp only [if_neg h, zero_add, hd_high s q h]

variable (m : (ℓ : Loc nD τ sig) → Buf (Elt Ideal) ℓ) (c : Dev nD)

set_option maxHeartbeats 1600000 in
theorem out_high (t : Fin cfg0.N) (r : Fin 128) (l : Fin 512) :
    outsAt0 m c t (ix2 r (dg l))
      = gelu ((show Vec Ideal S128x1792 .bf16 from iblk m c 0 t) (ix2 r (zu l)))
        * mixed (iblk m c 0 t) (iblk m c 5 t) (iblk m c 6 t) (iblk m c 7 t) (iblk m c 8 t) r l := by
  have hl := l.isLt
  unfold outsAt0 out0_A_9 kernelRun0_A
  dsimp only
  rw [View.read_writes_junk_eq_canon]
  canon_tiles x hx
  all_goals
    obtain ⟨a, b, rfl⟩ : ∃ a b, x = ix2 a b := ⟨x 0, x 1, by funext i; fin_cases i <;> rfl⟩
    first
      | (exfalso; have e1 : 512 + l.val = 384 + b.val := hx1; have := b.isLt; omega)
      | (exfalso; have e1 : 512 + l.val = 256 + b.val := hx1; have := b.isLt; omega)
      | (exfalso; have e1 : 512 + l.val = 128 + b.val := hx1; have := b.isLt; omega)
      | (exfalso; have e1 : 512 + l.val = b.val := hx1; have := b.isLt; omega)
      | skip
  all_goals
    obtain rfl : r = a := Fin.ext hx0
    pointwise [k0_pay218, k0_pay219, k0_pay220, kernelRun0_A.sl.r_34, k0_pay221, kernelRun0_A.sl.v0, kernelRun0_A.sl.v1, kernelRun0_A.sl.v2512, kernelRun0_A.sl.r_32, k0_pay215, k0_pay216, kernelRun0_A.sl.r_33, k0_pay217, kernelRun0_A.sl.v2557, kernelRun0_A.sl.r_31, k0_pay214, kernelRun0_A.sl.v2479, k0_pay212, kernelRun0_A.sl.r_30, k0_pay213, kernelRun0_A.sl.cst_10, kernelRun0_A.sl.r_29, k0_pay211, kernelRun0_A.sl.v2446, kernelRun0_A.sl.r_28, k0_pay210, kernelRun0_A.sl.v2413, kernelRun0_A.sl.v2553, kernelRun0_A.sl.v2549, kernelRun0_A.sl.v2545]
    simp only [sel_le, sel_lt, sel_ge, hide, Finset.sum_const_zero, load_head, load_cols, cov_cols, u_canon, vn_canon]
  · have e1 : 512 + l.val = 896 + b.val := hx1
    exact slab _ _ _ _ _ 3 r b l (Fin.ext (by show 128 * 3 + b.val = l.val; omega))
  · have e1 : 512 + l.val = 768 + b.val := hx1
    exact slab _ _ _ _ _ 2 r b l (Fin.ext (by show 128 * 2 + b.val = l.val; omega))
  · have e1 : 512 + l.val = 640 + b.val := hx1
    exact slab _ _ _ _ _ 1 r b l (Fin.ext (by show 128 * 1 + b.val = l.val; omega))
  · have e1 : 512 + l.val = 512 + b.val := hx1
    refine Eq.trans ?_ (slab _ _ _ _ _ 0 r b l (Fin.ext (by show 128 * 0 + b.val = l.val; omega)))
    have e0 : (⟨0 + b.val, by omega⟩ : Fin 512) = col 0 b := rfl
    exact e0 ▸ rfl

end Cert.GmForwardIdeal.Gen

end
-- ==== Proof.GmfReference.lean ====
/- The gated MLP's forward pass in the reference, point by point. -/
module

public import proofs.«01_k».proof.Proof.GmHost
public import proofs.«01_k».proof.Proof.GmReal
public import proofs.«01_k».proof.Proof.Gen.GmForwardReferenceIdeal.Read

@[expose] public section

set_option maxRecDepth 16384

noncomputable section

open Idealize.ShloMosaic Idealize.ShloMosaic.TcCoe Idealize.SL.Sem

namespace Cert.GmForwardReferenceIdeal.Value

open Cert.GmForwardReferenceIdeal Cert.GmForwardReferenceIdeal.Gen Cert.GmForwardReferenceIdeal.Read Cert.Gm
open Cert.AttnKernelIdeal.Gen (lane vn mixed vrow)

variable (x0 : FVec Ideal S8192x1792 .bf16) (x2 x3 : FVec Ideal S512 .f32) (x4 : FVec Ideal S8x128x128 .f32) (x5 : FVec Ideal S8x128 .f32)
  (a : Fin 1) (n : Fin 8192) (t : Fin 64) (r : Fin 128) (l : Fin 512) (h : Fin 8) (j : Fin 64)

theorem zu_at : val_main_v3 (F := Ideal) x0 (ix3 a n l) = x0 (ix2 n (zu l)) := by
  pointwise [val_main_v3, val_main_v2, val_main_v1, val_main_v0]
  unfold zu
  blk_ext

theorem zv_at : val_main_v4 (F := Ideal) x0 (ix3 a n l) = x0 (ix2 n (zv l)) := by
  pointwise [val_main_v4, val_main_v2, val_main_v1, val_main_v0]
  unfold zv
  blk_ext

theorem tu_at : val_main_v13 (F := Ideal) x0 (ix3 a n l) = inner (x0 (ix2 n (zu l))) := by
  pointwise [val_main_v13, val_main_v12, val_main_v11, val_main_cst_1, val_main_v10, val_main_v9, val_main_v8, val_main_v5, val_main_cst, val_main_cst_0, val_main_v7, val_main_v6]
  simp only [zu_at]
  exact inner_ref _

theorem tv_at : val_main_v27 (F := Ideal) x0 (ix3 a n l) = inner (x0 (ix2 n (zv l))) := by
  pointwise [val_main_v27, val_main_v26, val_main_v25, val_main_cst_6, val_main_v24, val_main_v23, val_main_v22, val_main_v19, val_main_cst_4, val_main_cst_5, val_main_v21, val_main_v20]
  simp only [zv_at]
  exact inner_ref _

theorem u_at : val_main_v18 (F := Ideal) x0 (ix3 a n l) = gelu (x0 (ix2 n (zu l))) := by
  pointwise [val_main_v18, val_main_v17, val_main_v16, val_main_cst_3, val_main_v15, val_main_v14, val_main_cst_2]
  simp only [zu_at, tu_at]
  exact gelu_ref _

theorem v_at : val_main_v32 (F := Ideal) x0 (ix3 a n l) = gelu (x0 (ix2 n (zv l))) := by
  pointwise [val_main_v32, val_main_v31, val_main_v30, val_main_cst_8, val_main_v29, val_main_v28, val_main_cst_7]
  simp only [zv_at, tv_at]
  exact gelu_ref _

/-- The row the layer norm takes. -/
def vr (l : Fin 512) : EReal := gelu (x0 (ix2 n (zv l)))

theorem xc_at : val_main_v38 (F := Ideal) x0 (ix3 a n l) = centred (vr x0 n) l := by
  pointwise [val_main_v38, val_main_v37, val_main_v36, val_main_v35, val_main_cst_10, val_main_v34, val_main_v33, val_main_cst_9]
  simp only [v_at]
  rfl

theorem rs_at : val_main_v46 (F := Ideal) x0 (ix3 a n (0 : Fin 1)) = rs (vr x0 n) := by
  pointwise [val_main_v46, val_main_v45, val_main_v44, val_main_cst_13, val_main_v43, val_main_v42, val_main_cst_12, val_main_v41, val_main_v40, val_main_cst_11, val_main_v39]
  simp only [xc_at]
  rfl

theorem hat_at : val_main_v48 (F := Ideal) x0 (ix3 a n l) = hat (vr x0 n) l := by
  pointwise [val_main_v48, val_main_v47]
  rw [xc_at, rs_at]
  rfl

theorem vn_at : val_main_v54 (F := Ideal) x0 x2 x3 (ix3 a n l) = hat (vr x0 n) l * x2 (ix1 l) + x3 (ix1 l) := by
  pointwise [val_main_v54, val_main_v53, val_main_v52, val_main_v51, val_main_v50, val_main_v49]
  rw [hat_at]

theorem low_sel (p q : Fin 128) (x : EReal) : Scalar.select (val_main_call1_v0 (F := Ideal) (ix3 h p q)) x 0 = if q.val ≤ p.val then x else 0 := by
  pointwise [val_main_call1_v0, val_main_v58, val_main_v57, val_main_v56, val_main_c, val_main_call0_v4, val_main_call0_v3, val_main_call0_v2, val_main_call0_v1, val_main_call0_v0, val_main_call0_c, val_main_call0_v5, val_main_call0_c_0]
  rw [show IntOp.addi (BitVec.ofNat 32 p.val) 0#32 = BitVec.ofNat 32 p.val from BitVec.add_zero _]
  by_cases h : q.val ≤ p.val
  · simp [Scalar.select, IntOp.cmpi, BitVec.sle, word_toInt, h]
  · simp [Scalar.select, IntOp.cmpi, BitVec.sle, word_toInt, h]

theorem low_at (p q : Fin 128) : val_main_v60 (F := Ideal) x4 (ix3 h p q) = if q.val ≤ p.val then x4 (ix3 h p q) else 0 := by
  pointwise [val_main_v60, val_main_v59, val_main_cst_14]
  exact low_sel h p q _

theorem split_at : val_main_v55 (F := Ideal) x0 x2 x3 (ix5 a t r h j) = vn (rowsOf x0 t) (line x2) (line x3) r (lane h j) := by
  pointwise [val_main_v55]
  refine Eq.trans ?_ (vn_at x0 x2 x3 a (nth t r) (lane h j))
  refine congrArg (val_main_v54 (F := Ideal) x0 x2 x3) ?_
  unfold nth lane
  blk_ext

theorem dot_at (i : Fin 128) : val_main_v61 (F := Ideal) x0 x2 x3 x4 (ix5 h a t j i)
    = ∑ x : Fin 128, if x.val ≤ i.val then x4 (ix3 h i x) * vn (rowsOf x0 t) (line x2) (line x3) x (lane h j) else 0 := by
  pointwise [val_main_v61]
  refine Finset.sum_congr rfl fun x _ => ?_
  rw [split_at, low_at, mul_comm, ite_mul, zero_mul]

theorem mixed_at : val_main_v67 (F := Ideal) x0 x2 x3 x4 x5 (ix3 a (nth t r) l)
    = mixed (rowsOf x0 t) (line x2) (line x3) x4 (shifts x5) r l := by
  pointwise [val_main_v67]
  refine Eq.trans (b := val_main_v66 (F := Ideal) x0 x2 x3 x4 x5 (ix5 a t r (hd l) ⟨l.val % 64, by omega⟩)) (congrArg (val_main_v66 (F := Ideal) x0 x2 x3 x4 x5) ?_) ?_
  · unfold nth hd
    blk_ext
  · pointwise [val_main_v66, val_main_v62, val_main_v65, val_main_v64, val_main_v63]
    rw [dot_at]
    have e : lane (hd l) ⟨l.val % 64, by omega⟩ = l := Fin.ext (by show 64 * (l.val / 64) + l.val % 64 = l.val; omega)
    rw [e]
    rfl

/-- The gated MLP's output at row r of block t. -/
theorem out_at : val_main_v70 (F := Ideal) x0 x2 x3 x4 x5 (ix2 (nth t r) l)
    = gelu (x0 (ix2 (nth t r) (zu l))) * mixed (rowsOf x0 t) (line x2) (line x3) x4 (shifts x5) r l := by
  pointwise [val_main_v70, val_main_v69]
  refine Eq.trans (b := val_main_v68 (F := Ideal) x0 x2 x3 x4 x5 (ix3 (0 : Fin 1) (nth t r) l)) (congrArg (val_main_v68 (F := Ideal) x0 x2 x3 x4 x5) ?_) ?_
  · unfold nth
    blk_ext
  · pointwise [val_main_v68]
    rw [u_at, mixed_at]

end Cert.GmForwardReferenceIdeal.Value

end
-- ==== Proof.GmForward.lean ====
/- The claims about the attention's forward call: the gated MLP's columns of its result. -/
module

public import proofs.«01_k».proof.Defs
public import proofs.«01_k».proof.Proof.GmfBlock
public import proofs.«01_k».proof.Proof.GmfReference
public import proofs.«01_k».proof.Proof.Gen.GmForward.Frame
public import Idealize.ShloMosaic.Lib.Claim

@[expose] public section

set_option maxRecDepth 16384

noncomputable section

open Idealize.ShloMosaic Idealize.ShloMosaic.TcCoe Idealize.SL.Sem

namespace Cert.GmForwardIdeal.Gen

open Cert.Gm
open Cert.AttnKernelIdeal.Gen (mixed)

variable (m : (ℓ : Loc nD τ sig) → Buf (Elt Ideal) ℓ) (c : Dev nD)

theorem index_eq : ∀ t : Fin cfg0.N, win0_0.index t = ![t.val, 0] ∧ win0_5.index t = ![0, 0] ∧ win0_6.index t = ![0, 0]
    ∧ win0_7.index t = ![0, 0, 0] ∧ win0_8.index t = ![0, 0] ∧ win0_9.index t = ![t.val, 0] :=
  (by decide +kernel : ∀ t : Fin grid0.N, _)

theorem in_g : V m c main_v32 = line (m ((c : Thread nD τ).loc main_arg2)) := by
  simp only [V, V0, hostOps0, hostOps0_1, hostOps0_2, hostOps0_3, hostOps0_4, List.flatten_cons, List.flatten_nil, List.append_nil, List.cons_append, List.nil_append]
  after_results
  funext j
  pointwise
  rfl

theorem in_b : V m c main_v33 = line (m ((c : Thread nD τ).loc main_arg3)) := by
  simp only [V, V0, hostOps0, hostOps0_1, hostOps0_2, hostOps0_3, hostOps0_4, List.flatten_cons, List.flatten_nil, List.append_nil, List.cons_append, List.nil_append]
  after_results
  funext j
  pointwise
  rfl

theorem in_s : V m c main_v36 = shifts (m ((c : Thread nD τ).loc main_arg5)) := by
  simp only [V, V0, hostOps0, hostOps0_1, hostOps0_2, hostOps0_3, hostOps0_4, List.flatten_cons, List.flatten_nil, List.append_nil, List.cons_append, List.nil_append]
  after_results
  funext j
  pointwise
  rfl

theorem blk_z (t : Fin cfg0.N) : iblk m c 0 t = rowsOf (f := .bf16) (m ((c : Thread nD τ).loc main_arg0)) t := by
  funext i
  obtain ⟨r, l, rfl⟩ : ∃ (r : Fin 128) (l : Fin 1792), i = ix2 r l := ⟨i 0, i 1, by funext a; fin_cases a <;> rfl⟩
  unfold rowsOf nth
  blk_point [iblk, V, index_eq t]

theorem blk_g (t : Fin cfg0.N) : iblk m c 5 t = line (m ((c : Thread nD τ).loc main_arg2)) := by
  funext i
  obtain ⟨r, l, rfl⟩ : ∃ (r : Fin 1) (l : Fin 512), i = ix2 r l := ⟨i 0, i 1, by funext a; fin_cases a <;> rfl⟩
  blk_simp [iblk, index_eq t]
  refine (congrFun (in_g m c) _).trans ?_
  refine congrArg (line _) ?_
  blk_ext [index_eq t]

theorem blk_b (t : Fin cfg0.N) : iblk m c 6 t = line (m ((c : Thread nD τ).loc main_arg3)) := by
  funext i
  obtain ⟨r, l, rfl⟩ : ∃ (r : Fin 1) (l : Fin 512), i = ix2 r l := ⟨i 0, i 1, by funext a; fin_cases a <;> rfl⟩
  blk_simp [iblk, index_eq t]
  refine (congrFun (in_b m c) _).trans ?_
  refine congrArg (line _) ?_
  blk_ext [index_eq t]

theorem blk_w (t : Fin cfg0.N) : iblk m c 7 t = m ((c : Thread nD τ).loc main_arg4) := by
  funext i
  obtain ⟨h, a, b, rfl⟩ : ∃ (h : Fin 8) (a b : Fin 128), i = ix3 h a b := ⟨i 0, i 1, i 2, by funext a; fin_cases a <;> rfl⟩
  blk_point [iblk, V, index_eq t]

theorem blk_s (t : Fin cfg0.N) : iblk m c 8 t = shifts (m ((c : Thread nD τ).loc main_arg5)) := by
  funext i
  obtain ⟨r, l, rfl⟩ : ∃ (r : Fin 128) (l : Fin 512), i = ix2 r l := ⟨i 0, i 1, by funext a; fin_cases a <;> rfl⟩
  blk_simp [iblk, index_eq t]
  refine (congrFun (in_s m c) _).trans ?_
  refine congrArg (shifts _) ?_
  blk_ext [index_eq t]

/-- What the call leaves in its result: every block's own output. -/
def left : FVec Ideal S8192x1024 .bf16 :=
  fun j => outsAt0 m c ⟨(j 0).val / 128, by have h : (j 0).val < 8192 := (j 0).isLt; have hN : cfg0.N = 64 := N_0; omega⟩
    (ix2 ⟨(j 0).val % 128, Nat.mod_lt _ (by decide)⟩ (j 1))

theorem final_left : (dats m 0 c).arrAt 9 (cfgs 0).N = left m c := by
  refine (dats m 0 c).arrAt_eq_of_covers 9 _ (by decide +kernel) fun t _ y => ?_
  blk_simp
  rw [after0_9]
  have hN : t.val < 64 := lt_of_lt_of_eq t.isLt N_0
  obtain ⟨r, l, rfl⟩ : ∃ (r : Fin 128) (l : Fin 1024), y = ix2 r l := ⟨y 0, y 1, by funext a; fin_cases a <;> rfl⟩
  have he : ((View.whole main_v37).slice (win0_9.rect t)).emb (ix2 r l) = ix2 ⟨t.val * 128 + r.val, by omega⟩ l := by
    blk_ext [index_eq t]
  rw [he]
  have h1 : (t.val * 128 + r.val) / 128 = t.val := by omega
  have h2 : (t.val * 128 + r.val) % 128 = r.val := by omega
  show _ = outsAt0 m c ⟨(t.val * 128 + r.val) / 128, _⟩ (ix2 ⟨(t.val * 128 + r.val) % 128, _⟩ l)
  simp only [h1, h2]

theorem left_at (t : Fin 64) (r : Fin 128) (l : Fin 512) : left m c (ix2 (nth t r) (dg l))
    = gelu ((show FVec Ideal S8192x1792 .bf16 from m ((c : Thread nD τ).loc main_arg0)) (ix2 (nth t r) (zu l)))
      * mixed (rowsOf (f := .bf16) (m ((c : Thread nD τ).loc main_arg0)) t) (line (m ((c : Thread nD τ).loc main_arg2))) (line (m ((c : Thread nD τ).loc main_arg3)))
          (m ((c : Thread nD τ).loc main_arg4)) (shifts (m ((c : Thread nD τ).loc main_arg5))) r l := by
  have h1 : (128 * t.val + r.val) / 128 = t.val := by omega
  have h2 : (128 * t.val + r.val) % 128 = r.val := by omega
  show outsAt0 m c ⟨(128 * t.val + r.val) / 128, _⟩ (ix2 ⟨(128 * t.val + r.val) % 128, _⟩ (dg l)) = _
  simp only [h1, h2]
  refine (out_high m c t r l).trans ?_
  rw [blk_z m c t, blk_g m c t, blk_b m c t, blk_w m c t, blk_s m c t]
  rfl

/-- The columns cut out of the result after the call. -/
theorem tail_cut : Pipeline.afterTail₀ cfgs (dats m) 0 (V0 m) [hostOps1] c main_v38
    = fun j => left m c (ix2 (j 0) (dg (j 1))) := by
  unfold Pipeline.afterTail₀
  simp only [hostOps1, List.flatten_cons, List.flatten_nil, List.append_nil]
  after_results
  have hw := ((dats m 0 c).withArrays_arrAt sharedIn0 (V0 m c) (fun _ => rfl) 9).trans
    (final_left m c)
  rw [show Pipeline.withArrays (cfgs 0).spec c (V0 m c) (fun w => (dats m 0 c).arrAt w (cfgs 0).N) (Proc.tc.devRef main_v37) = _ from hw]
  funext j
  pointwise
  refine congrArg (left m c) ?_
  unfold dg
  blk_ext

end Cert.GmForwardIdeal.Gen

namespace Cert.GmForwardClaims

open Cert.Gm

instance : GmForward.Facts := GmForward.Gen.facts
instance : GmForwardIdeal.Facts := GmForwardIdeal.Gen.facts
instance : GmForwardReferenceIdeal.Facts := GmForwardReferenceIdeal.Gen.facts

theorem frame : quiescent_GmForward := fun m ρ _ => GmForward.Gen.frame m ρ

theorem frameIdeal : quiescent_GmForwardIdeal := fun m ρ _ => GmForwardIdeal.Gen.frame m ρ

theorem frameReference : quiescent_GmForwardReferenceIdeal := by
  intro m ρ _
  refine (θ_run _ _ _).mono (fun r h => ⟨fun c => ?_, sem_eq_zero_of_no_sems (by decide) r.2⟩)
    (GmForwardReferenceIdeal.Value.run (F := Ideal) m ρ)
  exact (h c).2

theorem preserves : preserves_GmForward_GmForwardIdeal :=
  IdealRules.named_const.statement GmForwardIdeal.κ "c1" .f32 _ _ rfl

theorem out_eq (m : (ℓ : Loc GmForwardIdeal.nD GmForwardIdeal.τ GmForwardIdeal.sig) → Buf (Elt Ideal) ℓ) (c : Dev GmForwardIdeal.nD) :
    Pipeline.afterTail₀ GmForwardIdeal.cfgs (GmForwardIdeal.Gen.dats m) 0 (GmForwardIdeal.Gen.V0 m) [GmForwardIdeal.Gen.hostOps1] c GmForwardIdeal.main_v38
      = GmForwardReferenceIdeal.Read.val_main_v70 (F := Ideal) (m ((c : Thread GmForwardIdeal.nD GmForwardIdeal.τ).loc GmForwardIdeal.main_arg0)) (m ((c : Thread GmForwardIdeal.nD GmForwardIdeal.τ).loc GmForwardIdeal.main_arg2))
          (m ((c : Thread GmForwardIdeal.nD GmForwardIdeal.τ).loc GmForwardIdeal.main_arg3)) (m ((c : Thread GmForwardIdeal.nD GmForwardIdeal.τ).loc GmForwardIdeal.main_arg4)) (m ((c : Thread GmForwardIdeal.nD GmForwardIdeal.τ).loc GmForwardIdeal.main_arg5)) := by
  refine (GmForwardIdeal.Gen.tail_cut m c).trans ?_
  funext j
  obtain ⟨n, l, rfl⟩ : ∃ (n : Fin 8192) (l : Fin 512), j = ix2 n l := ⟨j 0, j 1, by funext a; fin_cases a <;> rfl⟩
  obtain ⟨t, r, rfl⟩ : ∃ (t : Fin 64) (r : Fin 128), n = nth t r :=
    ⟨⟨n.val / 128, by omega⟩, ⟨n.val % 128, by omega⟩, Fin.ext (by show n.val = 128 * (n.val / 128) + n.val % 128; omega)⟩
  refine (GmForwardIdeal.Gen.left_at m c t r l).trans ?_
  exact (GmForwardReferenceIdeal.Value.out_at _ _ _ _ _ t r l).symm

set_option maxHeartbeats 1600000 in
theorem algebraic : algebraic_GmForwardIdeal_GmForwardReferenceIdeal := by
  pair_intro
  · run_from GmForwardIdeal.Gen.run_main m g & GmForwardIdeal.Gen.frame m g
    · exact GmForwardIdeal.Gen.W_main_arg2 m _ c
    · exact GmForwardIdeal.Gen.W_main_arg3 m _ c
    · exact GmForwardIdeal.Gen.W_main_arg5 m _ c
  · run_from GmForwardReferenceIdeal.Value.run m' g'
    · obtain ⟨a0, _, a2, a3, a4, a5⟩ := hagree c
      rw [GmForwardReferenceIdeal.Read.val_main_v70_eq, a0, a2, a3, a4, a5]
      exact (out_eq m c).symm

end Cert.GmForwardClaims

end
-- ==== Proof.PleLossKernel.lean ====
/- What the gated embedding and the loss compute, block by block: the kernel's side. -/
module

public import proofs.«01_k».proof.Proof.Gate
public import proofs.«01_k».proof.Proof.Gen.PleLossIdeal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PleLossIdeal.Value

open Cert.PleLossIdeal Cert.PleLossIdeal.Gen

/-! ## One block -/

theorem norm_at (v0 : Vec Ideal S512x1024 .f32) (v1 : Vec Ideal S1x1024 .f32) (r : Fin 512) (k : Fin 1024) :
    k0_pay5 v0 v1 (ix2 r k) = v0 (ix2 r k) * Norm.rstd ((1024 : ℝ) : EReal) (fun k => v0 (ix2 r k)) * v1 (ix2 0 k) := by
  pointwise [k0_pay5]
  rw [Norm.word_1024, Norm.word_eps]
  rfl

theorem pg_at (v0 : Vec Ideal S512x1024 .f32) (v1 : Vec Ideal S1x1024 .f32) (v17 : Vec Ideal S1024x1024 .bf16)
    (r : Fin 512) (k : Fin 1024) :
    k0_pay6 v0 v1 v17 (ix2 r k)
      = ∑ q : Fin 1024, v0 (ix2 r q) * Norm.rstd ((1024 : ℝ) : EReal) (fun k => v0 (ix2 r k)) * v1 (ix2 0 q) * v17 (ix2 q k) := by
  pointwise [k0_pay6]
  simp only [norm_at]

theorem pe_at (v20 : Vec Ideal S512x256 .f32) (v22 : Vec Ideal S256x1024 .bf16) (r : Fin 512) (k : Fin 1024) :
    k0_pay7 v20 v22 (ix2 r k) = ∑ q : Fin 256, v20 (ix2 r q) * v22 (ix2 q k) := by
  pointwise [k0_pay7]

theorem err_at (v0 : Vec Ideal S512x1024 .f32) (v1 : Vec Ideal S1x1024 .f32) (v17 : Vec Ideal S1024x1024 .bf16) (v20 : Vec Ideal S512x256 .f32)
    (v22 : Vec Ideal S256x1024 .bf16) (v38 : Vec Ideal S512x1024 .f32) (r : Fin 512) (k : Fin 1024) :
    k0_pay1 v0 (k0_pay7 v20 v22) (k0_pay10 v0 v1 v17) (k0_pay11 (F := Ideal)) v38 (ix2 r k)
      = v0 (ix2 r k) + k0_pay7 v20 v22 (ix2 r k) * Gate.viaTanh (k0_pay6 v0 v1 v17 (ix2 r k)) - v38 (ix2 r k) := by
  pointwise [k0_pay1, k0_pay10, k0_pay11]
  rw [Gate.word_half]
  rfl

theorem word_inv : Ideal.ofBits FTy.f32 0x3A800000#32 = ((1 / 1024 : ℝ) : EReal) := by
  simp [Ideal.ofBits, Ideal.ieee, -EReal.coe_mul]; norm_num

theorem dh_at (v0 v24 v31 v32 v38 : Vec Ideal S512x1024 .f32) (j) :
    k0_pay2 v0 v24 v31 v32 v38 j = k0_pay1 v0 v24 v31 v32 v38 j * ((1 / 1024 : ℝ) : EReal) := by
  pointwise [k0_pay2]
  rw [word_inv]

theorem sq_at (v0 v24 v31 v32 v38 : Vec Ideal S512x1024 .f32) (v52 : Vec Ideal S1x128 .f32) (z : Fin 1) (l : Fin 128) :
    k0_pay4 v0 v24 v31 v32 v38 v52 (ix2 z l)
      = v52 (ix2 z l) + ∑ r : Fin 512, ∑ k : Fin 1024, k0_pay1 v0 v24 v31 v32 v38 (ix2 r k) * k0_pay1 v0 v24 v31 v32 v38 (ix2 r k) := by
  pointwise [k0_pay4]

theorem zero_at (j) : k0_pay3 (F := Ideal) j = 0 := by pointwise [k0_pay3]

/-! ## The results -/

section Results
variable (h : FVec Ideal S8192x1024 .f32) (ln : FVec Ideal S1024 .f32) (w : FVec Ideal S1024x1024 .f32)
  (p : FVec Ideal S8192x256 .f32) (v : FVec Ideal S256x1024 .f32) (y : FVec Ideal S8192x1024 .f32)

/-- The normalised rows times their gain. -/
def normed : FVec Ideal S8192x1024 .bf16 :=
  fun j => h j * Norm.rstd ((1024 : ℝ) : EReal) (fun k => h (ix2 (j 0) k)) * ln (ix1 (j 1))

/-- The gate's logits: the normalised rows through the gate's matrix. -/
def pg : FVec Ideal S8192x1024 .bf16 :=
  fun j => ∑ q : Fin 1024, h (ix2 (j 0) q) * Norm.rstd ((1024 : ℝ) : EReal) (fun k => h (ix2 (j 0) k)) * ln (ix1 q) * w (ix2 q (j 1))

/-- The embedding through its matrix. -/
def pe : FVec Ideal S8192x1024 .bf16 :=
  fun j => ∑ q : Fin 256, p (ix2 (j 0) q) * v (ix2 q (j 1))

/-- The layer's output less the target. -/
def err (r : Fin 8192) (k : Fin 1024) : EReal :=
  h (ix2 r k) + pe p v (ix2 r k) * Gate.viaTanh (pg h ln w (ix2 r k)) - y (ix2 r k)

/-- The gradient of the layer's output: the mean's share of twice half the error. -/
def dh : FVec Ideal S8192x1024 .f32 :=
  fun j => err h ln w p v y (j 0) (j 1) * ((1 / 1024 : ℝ) : EReal)

/-- The sum of the squared errors, the same in every lane. -/
def sq : FVec Ideal S1x128 .f32 :=
  fun _ => ∑ r : Fin 8192, ∑ k : Fin 1024, err h ln w p v y r k * err h ln w p v y r k

end Results

/-! ## The arrays after the run -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

theorem blk_h (t : Fin cfg0.N) (r : Fin 512) (k : Fin 1024) (h : t.val * 512 + r.val < 8192) :
    (show Vec Ideal S512x1024 .f32 from iblk m c 0 t) (ix2 r k)
      = m ((c : Thread nD τ).loc main_arg0) (ix2 ⟨t.val * 512 + r.val, h⟩ k) := by blk_point [iblk, V, idx t]

theorem blk_ln (t : Fin cfg0.N) (k : Fin 1024) :
    (show Vec Ideal S1x1024 .f32 from iblk m c 1 t) (ix2 0 k) = m ((c : Thread nD τ).loc main_arg1) (ix1 k) := by
  have e : (show Vec Ideal S1x1024 .f32 from iblk m c 1 t) (ix2 0 k) = (show FVec Ideal S1x1024 .f32 from V m c main_v0) (ix2 0 k) := by
    blk_ext [iblk, idx t]
  have hv : V m c main_v0 = (broadcastInDim S1x1024 ![1] bcast_S1024_S1x1024_1 (show FVec Ideal S1024 .f32 from m ((c : Thread nD τ).loc main_arg1))) := by
    unfold V V0
    simp only [hostOps0, List.flatten_cons, List.flatten_nil, List.append_nil]
    after_results
  rw [e, hv]
  pointwise

theorem blk_w (t : Fin cfg0.N) (q k : Fin 1024) :
    (show Vec Ideal S1024x1024 .bf16 from iblk m c 2 t) (ix2 q k) = m ((c : Thread nD τ).loc main_arg2) (ix2 q k) := by
  blk_point [iblk, V, idx t]

theorem blk_p (t : Fin cfg0.N) (r : Fin 512) (k : Fin 256) (h : t.val * 512 + r.val < 8192) :
    (show Vec Ideal S512x256 .f32 from iblk m c 3 t) (ix2 r k)
      = m ((c : Thread nD τ).loc main_arg3) (ix2 ⟨t.val * 512 + r.val, h⟩ k) := by blk_point [iblk, V, idx t]

theorem blk_v (t : Fin cfg0.N) (q : Fin 256) (k : Fin 1024) :
    (show Vec Ideal S256x1024 .bf16 from iblk m c 4 t) (ix2 q k) = m ((c : Thread nD τ).loc main_arg4) (ix2 q k) := by
  blk_point [iblk, V, idx t]

theorem blk_y (t : Fin cfg0.N) (r : Fin 512) (k : Fin 1024) (h : t.val * 512 + r.val < 8192) :
    (show Vec Ideal S512x1024 .f32 from iblk m c 5 t) (ix2 r k)
      = m ((c : Thread nD τ).loc main_arg5) (ix2 ⟨t.val * 512 + r.val, h⟩ k) := by blk_point [iblk, V, idx t]

theorem norm_point (t : Fin cfg0.N) (r : Fin 512) (k : Fin 1024) (h : t.val * 512 + r.val < 8192) :
    k0_pay5 (iblk m c 0 t) (iblk m c 1 t) (ix2 r k)
      = normed (m ((c : Thread nD τ).loc main_arg0)) (m ((c : Thread nD τ).loc main_arg1)) (ix2 ⟨t.val * 512 + r.val, h⟩ k) := by
  rw [norm_at]
  simp only [blk_h m c t _ _ h, blk_ln m c t]
  rfl

theorem pg_point (t : Fin cfg0.N) (r : Fin 512) (k : Fin 1024) (h : t.val * 512 + r.val < 8192) :
    k0_pay6 (iblk m c 0 t) (iblk m c 1 t) (iblk m c 2 t) (ix2 r k)
      = pg (m ((c : Thread nD τ).loc main_arg0)) (m ((c : Thread nD τ).loc main_arg1))
          (m ((c : Thread nD τ).loc main_arg2)) (ix2 ⟨t.val * 512 + r.val, h⟩ k) := by
  rw [pg_at]
  simp only [blk_h m c t _ _ h, blk_ln m c t, blk_w m c t]
  rfl

theorem pe_point (t : Fin cfg0.N) (r : Fin 512) (k : Fin 1024) (h : t.val * 512 + r.val < 8192) :
    k0_pay7 (iblk m c 3 t) (iblk m c 4 t) (ix2 r k)
      = pe (m ((c : Thread nD τ).loc main_arg3)) (m ((c : Thread nD τ).loc main_arg4)) (ix2 ⟨t.val * 512 + r.val, h⟩ k) := by
  rw [pe_at]
  simp only [blk_p m c t _ _ h, blk_v m c t]
  rfl

theorem err_point (t : Fin cfg0.N) (r : Fin 512) (k : Fin 1024) (h : t.val * 512 + r.val < 8192) :
    k0_pay1 (iblk m c 0 t) (k0_pay7 (iblk m c 3 t) (iblk m c 4 t)) (k0_pay10 (iblk m c 0 t) (iblk m c 1 t) (iblk m c 2 t))
        (k0_pay11 (F := Ideal)) (iblk m c 5 t) (ix2 r k)
      = err (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨t.val * 512 + r.val, h⟩ k := by
  rw [err_at, pg_point m c t r k h, pe_point m c t r k h]
  simp only [blk_h m c t r k h, blk_y m c t r k h]
  rfl

theorem final_norm : (dats m 0 c).arrAt 6 (cfgs 0).N
    = normed (m ((c : Thread nD τ).loc main_arg0)) (m ((c : Thread nD τ).loc main_arg1)) := by
  refine (dats m 0 c).arrAt_eq_of_covers 6 _ (by decide +kernel) fun t _ y => ?_
  blk_simp
  rw [after0_6]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v3_0).slice (win0_6.rect t)).emb (ix2 r l) = ix2 ⟨t.val * 512 + r.val, by omega⟩ l := by
    blk_ext [idx t]
  by_cases h : t.val % 16 = 0
  · rw [outsAt0_A m c t h]; frame_out
    rw [norm_point m c t r l (by omega), ← he]
  · rw [outsAt0_B m c t h]; frame_out
    rw [norm_point m c t r l (by omega), ← he]

theorem final_pg : (dats m 0 c).arrAt 7 (cfgs 0).N
    = pg (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v3_1).slice (win0_7.rect t)).emb (ix2 r l) = ix2 ⟨t.val * 512 + r.val, by omega⟩ l := by
    blk_ext [idx t]
  by_cases h : t.val % 16 = 0
  · rw [outsAt0_A m c t h]; frame_out
    exact (pg_point m c t r l (by omega)).trans (by rw [← he])
  · rw [outsAt0_B m c t h]; frame_out
    exact (pg_point m c t r l (by omega)).trans (by rw [← he])

theorem final_pe : (dats m 0 c).arrAt 8 (cfgs 0).N
    = pe (m ((c : Thread nD τ).loc main_arg3)) (m ((c : Thread nD τ).loc main_arg4)) := by
  refine (dats m 0 c).arrAt_eq_of_covers 8 _ (by decide +kernel) fun t _ y => ?_
  blk_simp
  rw [after0_8]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v3_2).slice (win0_8.rect t)).emb (ix2 r l) = ix2 ⟨t.val * 512 + r.val, by omega⟩ l := by
    blk_ext [idx t]
  by_cases h : t.val % 16 = 0
  · rw [outsAt0_A m c t h]; frame_out
    exact (pe_point m c t r l (by omega)).trans (by rw [← he])
  · rw [outsAt0_B m c t h]; frame_out
    exact (pe_point m c t r l (by omega)).trans (by rw [← he])

theorem final_dh : (dats m 0 c).arrAt 9 (cfgs 0).N
    = dh (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  have hN : t.val < 16 := lt_of_lt_of_eq t.isLt N_0
  obtain ⟨r, l, rfl⟩ : ∃ (r : Fin 512) (l : Fin 1024), y = ix2 r l := ⟨y 0, y 1, by funext a; fin_cases a <;> rfl⟩
  have he : ((View.whole main_v3_3).slice (win0_9.rect t)).emb (ix2 r l) = ix2 ⟨t.val * 512 + r.val, by omega⟩ l := by
    blk_ext [idx t]
  by_cases h : t.val % 16 = 0
  · rw [outsAt0_A m c t h]; frame_out
    rw [dh_at, err_point m c t r l (by omega), he]
    rfl
  · rw [outsAt0_B m c t h]; frame_out
    rw [dh_at, err_point m c t r l (by omega), he]
    rfl

theorem final_sq : (dats m 0 c).arrAt 10 (cfgs 0).N
    = sq (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  have hsum : ∀ (t : Fin cfg0.N) (hN : t.val < 16), (∑ r : Fin 512, ∑ k : Fin 1024,
        k0_pay1 (iblk m c 0 t) (k0_pay7 (iblk m c 3 t) (iblk m c 4 t)) (k0_pay10 (iblk m c 0 t) (iblk m c 1 t) (iblk m c 2 t))
            (k0_pay11 (F := Ideal)) (iblk m c 5 t) (ix2 r k)
          * k0_pay1 (iblk m c 0 t) (k0_pay7 (iblk m c 3 t) (iblk m c 4 t)) (k0_pay10 (iblk m c 0 t) (iblk m c 1 t) (iblk m c 2 t))
            (k0_pay11 (F := Ideal)) (iblk m c 5 t) (ix2 r k))
      = ∑ r : Fin 512, ∑ k : Fin 1024, err (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨t.val * 512 + r.val, by omega⟩ k
        * err (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨t.val * 512 + r.val, by omega⟩ k := fun t hN =>
    Fin.sum_fin_congr fun r => Fin.sum_fin_congr fun k => by rw [err_point m c t r k (by omega)]
  obtain ⟨z, l, rfl⟩ : ∃ (z : Fin 1) (l : Fin 128), y = ix2 z l := ⟨y 0, y 1, by funext a; fin_cases a <;> rfl⟩
  rw [after0_10, Pipeline.eq_sum_fin_of_reset_step_apply_of_flush (fun n h => (outsAt0 m c n h).2.2.2.2) 16 (fun _ => 0)
    (fun t _ => ∑ r : Fin 512, ∑ k : Fin 1024,
        k0_pay1 (iblk m c 0 t) (k0_pay7 (iblk m c 3 t) (iblk m c 4 t)) (k0_pay10 (iblk m c 0 t) (iblk m c 1 t) (iblk m c 2 t))
            (k0_pay11 (F := Ideal)) (iblk m c 5 t) (ix2 r k)
          * k0_pay1 (iblk m c 0 t) (k0_pay7 (iblk m c 3 t) (iblk m c 4 t)) (k0_pay10 (iblk m c 0 t) (iblk m c 1 t) (iblk m c 2 t))
            (k0_pay11 (F := Ideal)) (iblk m c 5 t) (ix2 r k))
    (fun t h j => by
      obtain ⟨z, l, rfl⟩ : ∃ (z : Fin 1) (l : Fin 128), j = ix2 z l := ⟨j 0, j 1, by funext a; fin_cases a <;> rfl⟩
      rw [outsAt0_A m c t h]; frame_out; rw [sq_at, zero_at])
    (fun t h j => by
      obtain ⟨z, l, rfl⟩ : ∃ (z : Fin 1) (l : Fin 128), j = ix2 z l := ⟨j 0, j 1, by funext a; fin_cases a <;> rfl⟩
      rw [outsAt0_B m c t h]; frame_out; rw [sq_at])
    t ((flush0_10 t).mp hf) _, zero_add]
  have hN : t.val < 16 := lt_of_lt_of_eq t.isLt N_0
  unfold sq
  refine (Fin.sum_fin_congr fun s => hsum _ (by dsimp only; omega)).trans ?_
  refine Fin.sum_mul_add_congr fun s k hl => ?_
  have hs : 16 * (t.val / 16) + s.val = s.val := by omega
  simp only [hs]

end Cert.PleLossIdeal.Value
-- ==== Proof.PleLoss.lean ====
/- The claims about the gated embedding with the loss and its gradient. -/
module

public import proofs.«01_k».proof.Defs
public import proofs.«01_k».proof.Proof.Tame
public import proofs.«01_k».proof.Proof.PleLossKernel
public import proofs.«01_k».proof.Proof.Gen.PleLoss.Frame
public import proofs.«01_k».proof.Proof.Gen.PleLossReferenceIdeal
public import proofs.«01_k».proof.Proof.Gen.PleLossReferenceIdeal.Read
public import proofs.«01_k».proof.Proof.Gen.Pre_finite_ple_loss

@[expose] public section

set_option maxRecDepth 16384

noncomputable section

open Idealize.ShloMosaic Idealize.ShloMosaic.TcCoe Idealize.SL.Sem

namespace Cert.PleLossReferenceIdeal.Value

open Cert.PleLossReferenceIdeal Cert.PleLossReferenceIdeal.Gen Cert.PleLossReferenceIdeal.Read
open Cert.PleLossIdeal.Value (normed pg pe err dh)

variable (x0 : FVec Ideal S8192x1024 .f32) (x1 : FVec Ideal S1024 .f32) (x2 : FVec Ideal S1024x1024 .f32)
  (x3 : FVec Ideal S8192x256 .f32) (x4 : FVec Ideal S256x1024 .f32) (x5 : FVec Ideal S8192x1024 .f32)

theorem norm_at (r : Fin 8192) (l : Fin 1024) : val_main_v12 (F := Ideal) x0 x1 (ix2 r l) = normed x0 x1 (ix2 r l) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [Norm.word_1024, Norm.word_eps]
  rfl

theorem norm_eq : normed x0 x1 = val_main_v38 (F := Ideal) x0 x1 := by
  funext j
  obtain ⟨r, l, rfl⟩ : ∃ (r : Fin 8192) (l : Fin 1024), j = ix2 r l := ⟨j 0, j 1, by funext a; fin_cases a <;> rfl⟩
  pointwise [val_main_v38]
  exact (norm_at x0 x1 r l).symm

theorem pg_at (r : Fin 8192) (k : Fin 1024) : val_main_v13 (F := Ideal) x0 x1 x2 (ix2 r k) = pg x0 x1 x2 (ix2 r k) := by
  pointwise [val_main_v13]
  simp only [norm_at]
  rfl

theorem pe_at (r : Fin 8192) (k : Fin 1024) : val_main_v14 (F := Ideal) x3 x4 (ix2 r k) = pe x3 x4 (ix2 r k) := by
  pointwise [val_main_v14]
  rfl

theorem pg_eq : pg x0 x1 x2 = val_main_v39 (F := Ideal) x0 x1 x2 := by
  funext j
  obtain ⟨r, l, rfl⟩ : ∃ (r : Fin 8192) (l : Fin 1024), j = ix2 r l := ⟨j 0, j 1, by funext a; fin_cases a <;> rfl⟩
  pointwise [val_main_v39]
  exact (pg_at x0 x1 x2 r l).symm

theorem pe_eq : pe x3 x4 = val_main_v40 (F := Ideal) x3 x4 := by
  funext j
  obtain ⟨r, l, rfl⟩ : ∃ (r : Fin 8192) (l : Fin 1024), j = ix2 r l := ⟨j 0, j 1, by funext a; fin_cases a <;> rfl⟩
  pointwise [val_main_v40]
  exact (pe_at x3 x4 r l).symm

theorem gate_at (r : Fin 8192) (k : Fin 1024) : val_main_v20 (F := Ideal) x0 x1 x2 (ix2 r k)
    = Gate.viaExp (pg x0 x1 x2 (ix2 r k)) := by
  pointwise [val_main_v20, val_main_v19, val_main_cst_3, val_main_v18, val_main_v17, val_main_cst_2, val_main_v16, val_main_v15]
  simp only [pg_at]
  rfl

theorem word_two : Ideal.ofBits FTy.f32 0x40000000#32 = ((2 : ℝ) : EReal) := by
  simp [Ideal.ofBits, Ideal.ieee, -EReal.coe_mul]; norm_num

section Finite
variable (h0 : Norm.Finite x0) (h1 : Norm.Finite x1) (h2 : Norm.Finite x2) (h3 : Norm.Finite x3) (h4 : Norm.Finite x4)
  (h5 : Norm.Finite x5)
include h0 h1 h2

theorem rstd_real (r : Fin 8192) : ∃ v : ℝ, Norm.rstd ((1024 : ℝ) : EReal) (fun k => x0 (ix2 r k)) = v := by
  obtain ⟨y, hy⟩ := Norm.Finite.lift (fun k => h0 (ix2 r k) : Norm.Finite fun k : Fin 1024 => x0 (ix2 r k))
  rw [hy]
  exact ⟨_, Norm.rstd_coe (by norm_num) y⟩

theorem pg_real (r : Fin 8192) (k : Fin 1024) : ∃ v : ℝ, pg x0 x1 x2 (ix2 r k) = v := by
  unfold pg
  exact Norm.real_sum fun q =>
    Norm.real_mul (Norm.real_mul (Norm.real_mul (h0 _) (rstd_real x0 x1 x2 h0 h1 h2 r)) (h1 (ix1 q))) (h2 _)

theorem gate_eq (r : Fin 8192) (k : Fin 1024) : Gate.viaTanh (pg x0 x1 x2 (ix2 r k)) = val_main_v20 (F := Ideal) x0 x1 x2 (ix2 r k) := by
  rw [gate_at]
  exact Gate.viaTanh_eq (pg_real x0 x1 x2 h0 h1 h2 r k)

/-- The layer's output less the target. -/
theorem err_at (r : Fin 8192) (k : Fin 1024) :
    val_main_v23 (F := Ideal) x0 x1 x2 x3 x4 x5 (ix2 r k) = err x0 x1 x2 x3 x4 x5 r k := by
  unfold err
  rw [gate_eq x0 x1 x2 h0 h1 h2, ← pe_at x3 x4]
  pointwise [val_main_v23, val_main_v22, val_main_v21]

include h3 h4 h5

theorem err_real (r : Fin 8192) (k : Fin 1024) : ∃ v : ℝ, err x0 x1 x2 x3 x4 x5 r k = v := by
  unfold err
  obtain ⟨a, ha⟩ := Norm.real_add (h0 (ix2 r k)) (Norm.real_mul
    (show ∃ v : ℝ, pe x3 x4 (ix2 r k) = v from by
      unfold pe; exact Norm.real_sum fun q => Norm.real_mul (h3 _) (h4 _))
    (Gate.viaTanh_real (pg_real x0 x1 x2 h0 h1 h2 r k)))
  obtain ⟨b, hb⟩ := h5 (ix2 r k)
  exact ⟨a - b, by rw [ha, hb]; exact (EReal.coe_sub a b).symm⟩

/-- The two gradients of the loss agree. -/
theorem dh_eq : dh x0 x1 x2 x3 x4 x5 = val_main_v37 (F := Ideal) x0 x1 x2 x3 x4 x5 := by
  funext j
  obtain ⟨r, l, rfl⟩ : ∃ (r : Fin 8192) (l : Fin 1024), j = ix2 r l := ⟨j 0, j 1, by funext a; fin_cases a <;> rfl⟩
  unfold dh
  obtain ⟨e, he⟩ := err_real x0 x1 x2 x3 x4 x5 h0 h1 h2 h3 h4 h5 r l
  pointwise [val_main_v37, val_main_v36, val_main_v35, val_main_v34, val_main_v33, val_main_v32, val_main_v26, val_main_v25, val_main_cst_4, val_main_cst_9, val_main_cst_10, val_main_cst_11]
  rw [err_at x0 x1 x2 x3 x4 x5 h0 h1 h2]
  show err x0 x1 x2 x3 x4 x5 r l * _ = _
  simp only [he, Norm.word_1024, word_two, Gate.word_half, Gate.word_one, ← EReal.coe_mul]
  rw [Norm.div_coe_coe _ (by norm_num), ← EReal.coe_mul]
  congr 1
  ring

/-- The two losses agree: half the mean of the squared errors of a row, over the rows. -/
theorem loss_eq (j) : ((1 / 2048 : ℝ) : EReal) * Cert.PleLossIdeal.Value.sq x0 x1 x2 x3 x4 x5 (ix2 0 0) = val_main_v31 (F := Ideal) x0 x1 x2 x3 x4 x5 j := by
  unfold Cert.PleLossIdeal.Value.sq
  choose e he using err_real x0 x1 x2 x3 x4 x5 h0 h1 h2 h3 h4 h5
  pointwise [val_main_v31, val_main_v30, val_main_v29, val_main_v28, val_main_v27, val_main_v24, val_main_cst_5, val_main_cst_6, val_main_cst_7, val_main_cst_8]
  simp only [err_at x0 x1 x2 x3 x4 x5 h0 h1 h2, he, Norm.word_1024, Gate.word_half, ← EReal.coe_mul, Norm.coe_sum]
  rw [Finset.sum_congr rfl fun (x : Fin 8192) _ => Norm.div_coe_coe (∑ i, e x i * e x i) (by norm_num : (1024 : ℝ) ≠ 0),
    Norm.coe_sum, ← EReal.coe_mul]
  congr 1
  rw [← Finset.sum_div]
  ring

end Finite

end Cert.PleLossReferenceIdeal.Value

namespace Cert.PleLossClaims

instance : Cert.PleLoss.Facts := Cert.PleLoss.Gen.facts
instance : Cert.PleLossIdeal.Facts := Cert.PleLossIdeal.Gen.facts
instance : Cert.PleLossReferenceIdeal.Facts := Cert.PleLossReferenceIdeal.Gen.facts
instance : Cert.Pre_finite_ple_loss.Facts := Cert.Pre_finite_ple_loss.Gen.facts

theorem finite_args (x0 x1 x2 x3 x4 x5) (h : Cert.Pre_finite_ple_loss.fn (F := Ideal) x0 x1 x2 x3 x4 x5 = fun _ => 1#1) :
    Norm.Finite x0 ∧ Norm.Finite x1 ∧ Norm.Finite x2 ∧ Norm.Finite x3 ∧ Norm.Finite x4 ∧ Norm.Finite x5 := by
  have e := congrFun h default
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨Norm.finite_of_all x0 _ Norm.word_inf _ _ _ _ _ _ e0,
    Norm.finite_of_all x1 _ Norm.word_inf _ _ _ _ _ _ e1,
    Norm.finite_of_all x2 _ Norm.word_inf _ _ _ _ _ _ e2,
    Norm.finite_of_all x3 _ Norm.word_inf _ _ _ _ _ _ e3,
    Norm.finite_of_all x4 _ Norm.word_inf _ _ _ _ _ _ e4,
    Norm.finite_of_all x5 _ Norm.word_inf _ _ _ _ _ _ e5⟩

theorem frame : Cert.quiescent_PleLoss := fun m ρ _ => Cert.PleLoss.Gen.frame m ρ

theorem frameIdeal : Cert.quiescent_PleLossIdeal := fun m ρ _ => Cert.PleLossIdeal.Gen.frame m ρ

theorem frameIdealFinite : Cert.quiescent_PleLossIdeal_pre_finite_ple_loss := fun m ρ _ => Cert.PleLossIdeal.Gen.frame m ρ

theorem frameReference : Cert.quiescent_PleLossReferenceIdeal := by
  intro m ρ _
  refine (θ_run _ _ _).mono (fun r h => ⟨fun c => ?_, sem_eq_zero_of_no_sems (by decide) r.2⟩)
    (Cert.PleLossReferenceIdeal.Value.run (F := Ideal) m ρ)
  exact (h c).2.2.2.2.2

theorem frameReferenceFinite : Cert.quiescent_PleLossReferenceIdeal_pre_finite_ple_loss := fun m ρ _ => frameReference m ρ trivial

theorem word_half_mean : Ideal.ofBits FTy.f32 0x3A000000#32 = ((1 / 2048 : ℝ) : EReal) := by
  simp [Ideal.ofBits, Ideal.ieee, -EReal.coe_mul]; norm_num

section Tail
open Cert.PleLossIdeal Cert.PleLossIdeal.Gen

/-- The loss: the sum of the squared errors, scaled after the call. -/
theorem tail_loss (m : (ℓ : Loc nD τ sig) → Buf (Elt Ideal) ℓ) (c : Dev nD) :
    Pipeline.afterTail₀ cfgs (dats m) 0 (V0 m) [hostOps1] c main_v6
      = fun _ => ((1 / 2048 : ℝ) : EReal) * Cert.PleLossIdeal.Value.sq (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 0 0) := by
  unfold Pipeline.afterTail₀
  simp only [hostOps1, List.flatten_cons, List.flatten_nil, List.append_nil]
  after_results
  have hw := (Pipeline.withArrays_arr spec0 (by decide) c (V0 m c) (fun w => (dats m 0 c).arrAt w (cfgs 0).N) 10).trans
    (Cert.PleLossIdeal.Value.final_sq m c)
  rw [show Pipeline.withArrays (cfgs 0).spec c (V0 m c) (fun w => (dats m 0 c).arrAt w (cfgs 0).N) (Proc.tc.devRef main_v3_4) = _ from hw]
  funext j
  pointwise
  rw [word_half_mean]

end Tail

set_option maxHeartbeats 1600000 in
theorem algebraic : Cert.algebraic_PleLossIdeal_PleLossReferenceIdeal_pre_finite_ple_loss := by
  pair_intro
  · run_from Cert.PleLossIdeal.Gen.run_main m g & Cert.PleLossIdeal.Gen.frame m g
    · exact Cert.PleLossIdeal.Gen.W_main_arg1 m _ c
    · exact Cert.PleLossIdeal.Gen.W_main_arg2 m _ c
    · exact Cert.PleLossIdeal.Gen.W_main_arg4 m _ c
  · run_from Cert.PleLossReferenceIdeal.Value.run m' g'
    · rw [Cert.PleLossReferenceIdeal.Read.val_main_v38_eq]
      exact ((Cert.PleLossIdeal.Value.final_norm m c).trans (Cert.PleLossReferenceIdeal.Value.norm_eq _ _)).symm
    · rw [Cert.PleLossReferenceIdeal.Read.val_main_v39_eq]
      exact ((Cert.PleLossIdeal.Value.final_pg m c).trans (Cert.PleLossReferenceIdeal.Value.pg_eq _ _ _)).symm
    · rw [Cert.PleLossReferenceIdeal.Read.val_main_v40_eq]
      exact ((Cert.PleLossIdeal.Value.final_pe m c).trans (Cert.PleLossReferenceIdeal.Value.pe_eq _ _)).symm
    · obtain ⟨h0, h1, h2, h3, h4, h5⟩ := finite_args _ _ _ _ _ _ (hpre c)
      rw [Cert.PleLossReferenceIdeal.Read.val_main_v37_eq]
      exact ((Cert.PleLossIdeal.Value.final_dh m c).trans (Cert.PleLossReferenceIdeal.Value.dh_eq _ _ _ _ _ _ h0 h1 h2 h3 h4 h5)).symm
    · obtain ⟨h0, h1, h2, h3, h4, h5⟩ := finite_args _ _ _ _ _ _ (hpre c)
      rw [Cert.PleLossReferenceIdeal.Read.val_main_v31_eq]
      refine ((tail_loss m c).trans ?_).symm
      funext j
      exact Cert.PleLossReferenceIdeal.Value.loss_eq _ _ _ _ _ _ h0 h1 h2 h3 h4 h5 j

end Cert.PleLossClaims
-- ==== Proof.WeightGrad.lean ====
/- The claims about a weight's gradient: the product of the rows, summed block by block. -/
module

public import proofs.«01_k».proof.Defs
public import proofs.«01_k».proof.Proof.Gen.WeightGrad.Frame
public import proofs.«01_k».proof.Proof.Gen.WeightGradIdeal.Frame
public import proofs.«01_k».proof.Proof.Gen.WeightGradReferenceIdeal
public import proofs.«01_k».proof.Proof.Gen.WeightGradReferenceIdeal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WeightGradIdeal.Value

open Cert.WeightGradIdeal Cert.WeightGradIdeal.Gen

/-- One block's part of the gradient. -/
def part (x : Vec Ideal S1024x2816 .bf16) (y : Vec Ideal S1024x1024 .bf16) (k : Fin 2816) (l : Fin 1024) : EReal :=
  ∑ r : Fin 1024, x (ix2 r k) * y (ix2 r l)

theorem first_at (x : Vec Ideal S1024x2816 .bf16) (y : Vec Ideal S1024x1024 .bf16) (k : Fin 2816) (l : Fin 1024) :
    k0_pay1 x y (ix2 k l) = part x y k l := by
  pointwise [k0_pay1]
  rfl

theorem later_at (a : Vec Ideal S2816x1024 .f32) (x : Vec Ideal S1024x2816 .bf16) (y : Vec Ideal S1024x1024 .bf16) (k : Fin 2816) (l : Fin 1024) :
    k0_pay2 a x y (ix2 k l) = a (ix2 k l) + part x y k l := by
  pointwise [k0_pay2]
  rfl

theorem last_at (a : Vec Ideal S2816x1024 .f32) (j) : k0_pay3 a j = a j := by
  pointwise [k0_pay3]

/-- The gradient: the sum over all rows. -/
def dw (x : FVec Ideal S8192x2816 .bf16) (y : FVec Ideal S8192x1024 .bf16) : FVec Ideal S2816x1024 .bf16 :=
  fun j => ∑ q : Fin 8192, x (ix2 q (j 0)) * y (ix2 q (j 1))

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

theorem blk_x (t : Fin cfg0.N) (r : Fin 1024) (k : Fin 2816) (h : t.val * 1024 + r.val < 8192) :
    (show Vec Ideal S1024x2816 .bf16 from iblk m c 0 t) (ix2 r k)
      = m ((c : Thread nD τ).loc main_arg0) (ix2 ⟨t.val * 1024 + r.val, h⟩ k) := by blk_point [iblk, V, idx t]

theorem blk_y (t : Fin cfg0.N) (r k : Fin 1024) (h : t.val * 1024 + r.val < 8192) :
    (show Vec Ideal S1024x1024 .bf16 from iblk m c 1 t) (ix2 r k)
      = m ((c : Thread nD τ).loc main_arg1) (ix2 ⟨t.val * 1024 + r.val, h⟩ k) := by blk_point [iblk, V, idx t]

theorem kept_first (t : Fin cfg0.N) (h : t.val % 8 = 0) (k : Fin 2816) (l : Fin 1024) :
    (outsAt0 m c t.val t.isLt).2 (ix2 k l) = part (iblk m c 0 t) (iblk m c 1 t) k l := by
  have hN : t.val < 8 := lt_of_lt_of_eq t.isLt N_0
  rw [outsAt0_A m c t h (by omega) (by omega)]; frame_out
  rw [first_at]

theorem kept_later (t : Fin cfg0.N) (h : ¬ t.val % 8 = 0) (k : Fin 2816) (l : Fin 1024) :
    (outsAt0 m c t.val t.isLt).2 (ix2 k l)
      = (outsAt0 m c (t.val - 1) (Nat.lt_of_le_of_lt (Nat.sub_le _ _) t.isLt)).2 (ix2 k l) + part (iblk m c 0 t) (iblk m c 1 t) k l := by
  have hN : t.val < 8 := lt_of_lt_of_eq t.isLt N_0
  by_cases h7 : t.val % 8 = 7
  · rw [outsAt0_C m c t h (by omega) h7]; frame_out
    rw [later_at]
    exact congrArg (· + _) (congrFun (Memref.IsWhole.read_unread (m := Memref.whole cc0_scratch0) _ _) _)
  · rw [outsAt0_B m c t h (by omega) h7]; frame_out
    rw [later_at]
    exact congrArg (· + _) (congrFun (Memref.IsWhole.read_unread (m := Memref.whole cc0_scratch0) _ _) _)

theorem given_last (t : Fin cfg0.N) (h : t.val % 8 = 7) (k : Fin 2816) (l : Fin 1024) :
    (outsAt0 m c t.val t.isLt).1 (ix2 k l) = (outsAt0 m c t.val t.isLt).2 (ix2 k l) := by
  have hN : t.val < 8 := lt_of_lt_of_eq t.isLt N_0
  rw [kept_later m c t (by omega)]
  rw [outsAt0_C m c t (by omega) (by omega) h]; frame_out
  rw [last_at, later_at]
  exact congrArg (· + _) (congrFun (Memref.IsWhole.read_unread (m := Memref.whole cc0_scratch0) _ _) _)

theorem part_at (t : Fin cfg0.N) (k : Fin 2816) (l : Fin 1024) (hN : t.val < 8) :
    part (iblk m c 0 t) (iblk m c 1 t) k l
      = ∑ r : Fin 1024, (show FVec Ideal S8192x2816 .bf16 from m ((c : Thread nD τ).loc main_arg0)) (ix2 ⟨t.val * 1024 + r.val, by omega⟩ k)
        * (show FVec Ideal S8192x1024 .bf16 from m ((c : Thread nD τ).loc main_arg1)) (ix2 ⟨t.val * 1024 + r.val, by omega⟩ l) := by
  unfold part
  exact Finset.sum_congr rfl fun r _ => congrArg₂ (· * ·) (blk_x m c t r k (by omega)) (blk_y m c t r l (by omega))

theorem final_dw : (dats m 0 c).arrAt 2 (cfgs 0).N
    = dw (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  have hN : t.val < 8 := lt_of_lt_of_eq t.isLt N_0
  obtain ⟨k, l, rfl⟩ : ∃ (k : Fin 2816) (l : Fin 1024), y = ix2 k l := ⟨y 0, y 1, by funext a; fin_cases a <;> rfl⟩
  have he : ((View.whole main_v0).slice (win0_2.rect t)).emb (ix2 k l) = ix2 k l := by
    blk_ext [idx t]
  rw [after0_2, he, given_last m c t h7, Pipeline.eq_sum_fin_of_reset_step_apply_of_flush (fun n h => (outsAt0 m c n h).2) 8 (fun _ => 0)
    (fun t j => part (iblk m c 0 t) (iblk m c 1 t) (j 0) (j 1))
    (fun t h j => by
      obtain ⟨k, l, rfl⟩ : ∃ (k : Fin 2816) (l : Fin 1024), j = ix2 k l := ⟨j 0, j 1, by funext a; fin_cases a <;> rfl⟩
      exact (kept_first m c t h k l).trans (zero_add _).symm)
    (fun t h j => by
      obtain ⟨k, l, rfl⟩ : ∃ (k : Fin 2816) (l : Fin 1024), j = ix2 k l := ⟨j 0, j 1, by funext a; fin_cases a <;> rfl⟩
      exact kept_later m c t h k l)
    t h7 _, zero_add]
  unfold dw
  refine (Fin.sum_fin_congr fun s => part_at m c _ k l (by dsimp only; omega)).trans ?_
  refine Fin.sum_mul_add_congr fun s r hl => ?_
  have hs : 8 * (t.val / 8) + s.val = s.val := by omega
  simp only [hs]
  rfl

end Cert.WeightGradIdeal.Value

namespace Cert.WeightGradReferenceIdeal.Value

open Cert.WeightGradReferenceIdeal Cert.WeightGradReferenceIdeal.Gen Cert.WeightGradReferenceIdeal.Read

theorem dw_eq (x : FVec Ideal S8192x2816 .bf16) (y : FVec Ideal S8192x1024 .bf16) :
    Cert.WeightGradIdeal.Value.dw x y = val_main_v6 (F := Ideal) x y := by
  funext j
  obtain ⟨k, l, rfl⟩ : ∃ (k : Fin 2816) (l : Fin 1024), j = ix2 k l := ⟨j 0, j 1, by funext a; fin_cases a <;> rfl⟩
  pointwise [val_main_v6, val_main_v5, val_main_v4, val_main_v3, val_main_v1]
  unfold Cert.WeightGradIdeal.Value.dw
  exact Finset.sum_congr rfl fun q _ => mul_comm _ _

end Cert.WeightGradReferenceIdeal.Value

namespace Cert.WeightGradClaims

instance : WeightGrad.Facts := WeightGrad.Gen.facts
instance : WeightGradIdeal.Facts := WeightGradIdeal.Gen.facts
instance : WeightGradReferenceIdeal.Facts := WeightGradReferenceIdeal.Gen.facts

theorem frame : quiescent_WeightGrad := fun m ρ _ => WeightGrad.Gen.frame m ρ

theorem frameIdeal : quiescent_WeightGradIdeal := fun m ρ _ => WeightGradIdeal.Gen.frame m ρ

theorem frameReference : quiescent_WeightGradReferenceIdeal := by
  intro m ρ _
  refine (θ_run _ _ _).mono (fun r h => ⟨fun c => ?_, sem_eq_zero_of_no_sems (by decide) r.2⟩)
    (WeightGradReferenceIdeal.Value.run (F := Ideal) m ρ)
  exact (h c).2

theorem algebraic : algebraic_WeightGradIdeal_WeightGradReferenceIdeal := by
  pair_intro
  · run_from WeightGradIdeal.Gen.run_main m g & WeightGradIdeal.Gen.frame m g
  · run_from WeightGradReferenceIdeal.Value.run m' g'
    · rw [WeightGradReferenceIdeal.Read.val_main_v6_eq]
      exact ((WeightGradIdeal.Value.final_dw m c).trans (WeightGradReferenceIdeal.Value.dw_eq _ _)).symm

end Cert.WeightGradClaims

end
-- ==== Proof.lean ====
/- The claims of the file, one after the other. -/
module

public import proofs.«01_k».proof.Defs
public import proofs.«01_k».proof.Proof.FfnIn
public import proofs.«01_k».proof.Proof.AttnClaims
public import proofs.«01_k».proof.Proof.NormInForward
public import proofs.«01_k».proof.Proof.NormIn
public import proofs.«01_k».proof.Proof.Ple
public import proofs.«01_k».proof.Proof.MixOut
public import proofs.«01_k».proof.Proof.FfnOut
public import proofs.«01_k».proof.Proof.GmForward
public import proofs.«01_k».proof.Proof.PleLoss
public import proofs.«01_k».proof.Proof.WeightGrad

@[expose] public section

namespace Cert.Proof

theorem claim : Cert.Claim := ⟨Cert.Kernel.Gen.facts, Cert.KernelIdeal.Gen.facts, Cert.ReferenceIdeal.Gen.facts, Cert.AttnKernel.Gen.facts, Cert.AttnKernelIdeal.Gen.facts,
  Cert.AttnReferenceIdeal.Gen.facts, Cert.NormIn.Gen.facts, Cert.NormInIdeal.Gen.facts, Cert.NormInReferenceIdeal.Gen.facts, Cert.NormInForward.Gen.facts,
  Cert.NormInForwardIdeal.Gen.facts, Cert.NormInForwardReferenceIdeal.Gen.facts, Cert.Ple.Gen.facts, Cert.PleIdeal.Gen.facts, Cert.PleReferenceIdeal.Gen.facts,
  Cert.MixOut.Gen.facts, Cert.MixOutIdeal.Gen.facts, Cert.MixOutReferenceIdeal.Gen.facts, Cert.FfnOut.Gen.facts, Cert.FfnOutIdeal.Gen.facts,
  Cert.FfnOutReferenceIdeal.Gen.facts, Cert.GmForward.Gen.facts, Cert.GmForwardIdeal.Gen.facts, Cert.GmForwardReferenceIdeal.Gen.facts, Cert.PleLoss.Gen.facts,
  Cert.PleLossIdeal.Gen.facts, Cert.PleLossReferenceIdeal.Gen.facts, Cert.WeightGrad.Gen.facts, Cert.WeightGradIdeal.Gen.facts, Cert.WeightGradReferenceIdeal.Gen.facts,
  Cert.Pre_finite.Gen.facts, Cert.Pre_finite_attn.Gen.facts, Cert.Pre_finite_norm_in.Gen.facts, Cert.Pre_finite_ple.Gen.facts, Cert.Pre_finite_mix_out.Gen.facts,
  Cert.Pre_finite_ffn_out.Gen.facts, Cert.Pre_finite_ple_loss.Gen.facts,
  Cert.FfnIn.frame, Cert.FfnIn.frameIdeal, Cert.FfnIn.frameIdealFinite, Cert.FfnIn.frameReference, Cert.FfnIn.frameReferenceFinite,
  Cert.Attn.frame, Cert.Attn.frameIdeal, Cert.Attn.frameIdealFinite, Cert.Attn.frameReference, Cert.Attn.frameReferenceFinite,
  Cert.NormInClaims.frame, Cert.NormInClaims.frameIdeal, Cert.NormInClaims.frameIdealFinite, Cert.NormInClaims.frameReference, Cert.NormInClaims.frameReferenceFinite,
  Cert.NormInForwardClaims.frame, Cert.NormInForwardClaims.frameIdeal, Cert.NormInForwardClaims.frameReference, Cert.PleClaims.frame, Cert.PleClaims.frameIdeal,
  Cert.PleClaims.frameIdealFinite, Cert.PleClaims.frameReference, Cert.PleClaims.frameReferenceFinite, Cert.MixOutClaims.frame, Cert.MixOutClaims.frameIdeal,
  Cert.MixOutClaims.frameIdealFinite, Cert.MixOutClaims.frameReference, Cert.MixOutClaims.frameReferenceFinite, Cert.FfnOutClaims.frame, Cert.FfnOutClaims.frameIdeal,
  Cert.FfnOutClaims.frameIdealFinite, Cert.FfnOutClaims.frameReference, Cert.FfnOutClaims.frameReferenceFinite, Cert.GmForwardClaims.frame, Cert.GmForwardClaims.frameIdeal,
  Cert.GmForwardClaims.frameReference, Cert.PleLossClaims.frame, Cert.PleLossClaims.frameIdeal, Cert.PleLossClaims.frameIdealFinite, Cert.PleLossClaims.frameReference,
  Cert.PleLossClaims.frameReferenceFinite, Cert.WeightGradClaims.frame, Cert.WeightGradClaims.frameIdeal, Cert.WeightGradClaims.frameReference,
  trivial, Cert.FfnIn.algebraic, Cert.Attn.preserves, Cert.Attn.algebraic, trivial,
  Cert.NormInClaims.algebraic, trivial, Cert.NormInForwardClaims.algebraic, trivial, Cert.PleClaims.algebraic,
  trivial, Cert.MixOutClaims.algebraic, trivial, Cert.FfnOutClaims.algebraic, Cert.GmForwardClaims.preserves,
  Cert.GmForwardClaims.algebraic, trivial, Cert.PleLossClaims.algebraic, trivial, Cert.WeightGradClaims.algebraic⟩

end Cert.Proof
